-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def Pre_Kernel46 (m : (ℓ : Loc Cert.Kernel46.nD Cert.Kernel46.τ Cert.Kernel46.sig) → Buf (Elt Bits) ℓ) : Prop :=
  True

def Pre_Kernel46Ideal (m : (ℓ : Loc Cert.Kernel46Ideal.nD Cert.Kernel46Ideal.τ Cert.Kernel46Ideal.sig) → Buf (Elt Ideal) ℓ) : Prop :=
  True

def Pre_Reference46Ideal (m : (ℓ : Loc Cert.Reference46Ideal.nD Cert.Reference46Ideal.τ Cert.Reference46Ideal.sig) → Buf (Elt Ideal) ℓ) : Prop :=
  True

def Pre_Kernel47 (m : (ℓ : Loc Cert.Kernel47.nD Cert.Kernel47.τ Cert.Kernel47.sig) → Buf (Elt Bits) ℓ) : Prop :=
  True

def Pre_Kernel47Ideal (m : (ℓ : Loc Cert.Kernel47Ideal.nD Cert.Kernel47Ideal.τ Cert.Kernel47Ideal.sig) → Buf (Elt Ideal) ℓ) : Prop :=
  True

def Pre_Reference47Ideal (m : (ℓ : Loc Cert.Reference47Ideal.nD Cert.Reference47Ideal.τ Cert.Reference47Ideal.sig) → Buf (Elt Ideal) ℓ) : Prop :=
  True

def Pre_Kernel49 (m : (ℓ : Loc Cert.Kernel49.nD Cert.Kernel49.τ Cert.Kernel49.sig) → Buf (Elt Bits) ℓ) : Prop :=
  True

def Pre_Kernel49Ideal (m : (ℓ : Loc Cert.Kernel49Ideal.nD Cert.Kernel49Ideal.τ Cert.Kernel49Ideal.sig) → Buf (Elt Ideal) ℓ) : Prop :=
  True

def Pre_Reference49Ideal (m : (ℓ : Loc Cert.Reference49Ideal.nD Cert.Reference49Ideal.τ Cert.Reference49Ideal.sig) → Buf (Elt Ideal) ℓ) : Prop :=
  True

def Pre_Kernel50 (m : (ℓ : Loc Cert.Kernel50.nD Cert.Kernel50.τ Cert.Kernel50.sig) → Buf (Elt Bits) ℓ) : Prop :=
  True

def Pre_Kernel50Ideal (m : (ℓ : Loc Cert.Kernel50Ideal.nD Cert.Kernel50Ideal.τ Cert.Kernel50Ideal.sig) → Buf (Elt Ideal) ℓ) : Prop :=
  True

def Pre_Reference50Ideal (m : (ℓ : Loc Cert.Reference50Ideal.nD Cert.Reference50Ideal.τ Cert.Reference50Ideal.sig) → Buf (Elt Ideal) ℓ) : Prop :=
  True

def Pre_Kernel51 (m : (ℓ : Loc Cert.Kernel51.nD Cert.Kernel51.τ Cert.Kernel51.sig) → Buf (Elt Bits) ℓ) : Prop :=
  True

def Pre_Kernel51Ideal (m : (ℓ : Loc Cert.Kernel51Ideal.nD Cert.Kernel51Ideal.τ Cert.Kernel51Ideal.sig) → Buf (Elt Ideal) ℓ) : Prop :=
  True

def Pre_Reference51Ideal (m : (ℓ : Loc Cert.Reference51Ideal.nD Cert.Reference51Ideal.τ Cert.Reference51Ideal.sig) → Buf (Elt Ideal) ℓ) : Prop :=
  True

def Pre_Kernel52 (m : (ℓ : Loc Cert.Kernel52.nD Cert.Kernel52.τ Cert.Kernel52.sig) → Buf (Elt Bits) ℓ) : Prop :=
  True

def Pre_Kernel52Ideal (m : (ℓ : Loc Cert.Kernel52Ideal.nD Cert.Kernel52Ideal.τ Cert.Kernel52Ideal.sig) → Buf (Elt Ideal) ℓ) : Prop :=
  True

def Pre_Reference52Ideal (m : (ℓ : Loc Cert.Reference52Ideal.nD Cert.Reference52Ideal.τ Cert.Reference52Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3)
      ∧ r.2.mem ((c.tc : Thread Cert.Kernel38.nD Cert.Kernel38.τ).loc Cert.Kernel38.main_arg4) = m ((c.tc : Thread Cert.Kernel38.nD Cert.Kernel38.τ).loc Cert.Kernel38.main_arg4)
      ∧ r.2.mem ((c.tc : Thread Cert.Kernel38.nD Cert.Kernel38.τ).loc Cert.Kernel38.main_arg5) = m ((c.tc : Thread Cert.Kernel38.nD Cert.Kernel38.τ).loc Cert.Kernel38.main_arg5))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
      ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4)
      ∧ r.2.mem ((c.tc : Thread Cert.Kernel38Ideal.nD Cert.Kernel38Ideal.τ).loc Cert.Kernel38Ideal.main_arg5) = m ((c.tc : Thread Cert.Kernel38Ideal.nD Cert.Kernel38Ideal.τ).loc Cert.Kernel38Ideal.main_arg5))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3)
      ∧ r.2.mem ((c.tc : Thread Cert.Reference38Ideal.nD Cert.Reference38Ideal.τ).loc Cert.Reference38Ideal.main_arg4) = m ((c.tc : Thread Cert.Reference38Ideal.nD Cert.Reference38Ideal.τ).loc Cert.Reference38Ideal.main_arg4)
      ∧ r.2.mem ((c.tc : Thread Cert.Reference38Ideal.nD Cert.Reference38Ideal.τ).loc Cert.Reference38Ideal.main_arg5) = m ((c.tc : Thread Cert.Reference38Ideal.nD Cert.Reference38Ideal.τ).loc Cert.Reference38Ideal.main_arg5))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3)
      ∧ r.2.mem ((c.tc : Thread Cert.Kernel40.nD Cert.Kernel40.τ).loc Cert.Kernel40.main_arg4) = m ((c.tc : Thread Cert.Kernel40.nD Cert.Kernel40.τ).loc Cert.Kernel40.main_arg4)
      ∧ r.2.mem ((c.tc : Thread Cert.Kernel40.nD Cert.Kernel40.τ).loc Cert.Kernel40.main_arg5) = m ((c.tc : Thread Cert.Kernel40.nD Cert.Kernel40.τ).loc Cert.Kernel40.main_arg5))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
      ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4)
      ∧ r.2.mem ((c.tc : Thread Cert.Kernel40Ideal.nD Cert.Kernel40Ideal.τ).loc Cert.Kernel40Ideal.main_arg5) = m ((c.tc : Thread Cert.Kernel40Ideal.nD Cert.Kernel40Ideal.τ).loc Cert.Kernel40Ideal.main_arg5))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3)
      ∧ r.2.mem ((c.tc : Thread Cert.Reference40Ideal.nD Cert.Reference40Ideal.τ).loc Cert.Reference40Ideal.main_arg4) = m ((c.tc : Thread Cert.Reference40Ideal.nD Cert.Reference40Ideal.τ).loc Cert.Reference40Ideal.main_arg4)
      ∧ r.2.mem ((c.tc : Thread Cert.Reference40Ideal.nD Cert.Reference40Ideal.τ).loc Cert.Reference40Ideal.main_arg5) = m ((c.tc : Thread Cert.Reference40Ideal.nD Cert.Reference40Ideal.τ).loc Cert.Reference40Ideal.main_arg5))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2)
      ∧ r.2.mem ((c.tc : Thread Cert.Kernel41.nD Cert.Kernel41.τ).loc Cert.Kernel41.main_arg3) = m ((c.tc : Thread Cert.Kernel41.nD Cert.Kernel41.τ).loc Cert.Kernel41.main_arg3))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2)
      ∧ r.2.mem ((c.tc : Thread Cert.Kernel42.nD Cert.Kernel42.τ).loc Cert.Kernel42.main_arg3) = m ((c.tc : Thread Cert.Kernel42.nD Cert.Kernel42.τ).loc Cert.Kernel42.main_arg3))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
      ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2)
      ∧ r.2.mem ((c.tc : Thread Cert.Reference42Ideal.nD Cert.Reference42Ideal.τ).loc Cert.Reference42Ideal.main_arg3) = m ((c.tc : Thread Cert.Reference42Ideal.nD Cert.Reference42Ideal.τ).loc Cert.Reference42Ideal.main_arg3))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2)
      ∧ r.2.mem ((c.tc : Thread Cert.Kernel43.nD Cert.Kernel43.τ).loc Cert.Kernel43.main_arg3) = m ((c.tc : Thread Cert.Kernel43.nD Cert.Kernel43.τ).loc Cert.Kernel43.main_arg3))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
      ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2)
      ∧ r.2.mem ((c.tc : Thread Cert.Reference43Ideal.nD Cert.Reference43Ideal.τ).loc Cert.Reference43Ideal.main_arg3) = m ((c.tc : Thread Cert.Reference43Ideal.nD Cert.Reference43Ideal.τ).loc Cert.Reference43Ideal.main_arg3))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1)
      ∧ r.2.mem ((c.tc : Thread Cert.Kernel44.nD Cert.Kernel44.τ).loc Cert.Kernel44.main_arg2) = m ((c.tc : Thread Cert.Kernel44.nD Cert.Kernel44.τ).loc Cert.Kernel44.main_arg2)
      ∧ r.2.mem ((c.tc : Thread Cert.Kernel44.nD Cert.Kernel44.τ).loc Cert.Kernel44.main_arg3) = m ((c.tc : Thread Cert.Kernel44.nD Cert.Kernel44.τ).loc Cert.Kernel44.main_arg3))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
      ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
      ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1)
      ∧ r.2.mem ((c.tc : Thread Cert.Reference44Ideal.nD Cert.Reference44Ideal.τ).loc Cert.Reference44Ideal.main_arg2) = m ((c.tc : Thread Cert.Reference44Ideal.nD Cert.Reference44Ideal.τ).loc Cert.Reference44Ideal.main_arg2)
      ∧ r.2.mem ((c.tc : Thread Cert.Reference44Ideal.nD Cert.Reference44Ideal.τ).loc Cert.Reference44Ideal.main_arg3) = m ((c.tc : Thread Cert.Reference44Ideal.nD Cert.Reference44Ideal.τ).loc Cert.Reference44Ideal.main_arg3))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1))
      ∧ r.2.sem = fun _ => 0)

def quiescent_Kernel46 [hKernel46 : Cert.Kernel46.Facts] : Prop :=
  ∀ (m : (ℓ : Loc Cert.Kernel46.nD Cert.Kernel46.τ Cert.Kernel46.sig) → Buf (Elt Bits) ℓ) (g : Dev Cert.Kernel46.nD → PrngReg), Pre_Kernel46 m →
    θ_run (Cert.Kernel46.defs (F := Bits)) (onTc (τ := Cert.Kernel46.τ) (Cert.Kernel46.main (F := Bits))) ⟨m, fun _ => 0, g⟩ (fun r => (∀ c : Dev Cert.Kernel46.nD,
      r.2.mem ((c.tc : Thread Cert.Kernel46.nD Cert.Kernel46.τ).loc Cert.Kernel46.main_arg0) = m ((c.tc : Thread Cert.Kernel46.nD Cert.Kernel46.τ).loc Cert.Kernel46.main_arg0)
      ∧ r.2.mem ((c.tc : Thread Cert.Kernel46.nD Cert.Kernel46.τ).loc Cert.Kernel46.main_arg1) = m ((c.tc : Thread Cert.Kernel46.nD Cert.Kernel46.τ).loc Cert.Kernel46.main_arg1))
      ∧ r.2.sem = fun _ => 0)

def quiescent_Kernel46Ideal [hKernel46Ideal : Cert.Kernel46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
      ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1))
      ∧ r.2.sem = fun _ => 0)

def quiescent_Reference46Ideal [hReference46Ideal : Cert.Reference46Ideal.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0)
      ∧ r.2.mem ((c.tc : Thread Cert.Reference46Ideal.nD Cert.Reference46Ideal.τ).loc Cert.Reference46Ideal.main_arg1) = m ((c.tc : Thread Cert.Reference46Ideal.nD Cert.Reference46Ideal.τ).loc Cert.Reference46Ideal.main_arg1))
      ∧ r.2.sem = fun _ => 0)

def quiescent_Kernel47 [hKernel47 : Cert.Kernel47.Facts] : Prop :=
  ∀ (m : (ℓ : Loc Cert.Kernel47.nD Cert.Kernel47.τ Cert.Kernel47.sig) → Buf (Elt Bits) ℓ) (g : Dev Cert.Kernel47.nD → PrngReg), Pre_Kernel47 m →
    θ_run (Cert.Kernel47.defs (F := Bits)) (onTc (τ := Cert.Kernel47.τ) (Cert.Kernel47.main (F := Bits))) ⟨m, fun _ => 0, g⟩ (fun r => (∀ c : Dev Cert.Kernel47.nD,
      r.2.mem ((c.tc : Thread Cert.Kernel47.nD Cert.Kernel47.τ).loc Cert.Kernel47.main_arg0) = m ((c.tc : Thread Cert.Kernel47.nD Cert.Kernel47.τ).loc Cert.Kernel47.main_arg0)
      ∧ r.2.mem ((c.tc : Thread Cert.Kernel47.nD Cert.Kernel47.τ).loc Cert.Kernel47.main_arg1) = m ((c.tc : Thread Cert.Kernel47.nD Cert.Kernel47.τ).loc Cert.Kernel47.main_arg1)
      ∧ r.2.mem ((c.tc : Thread Cert.Kernel47.nD Cert.Kernel47.τ).loc Cert.Kernel47.main_arg2) = m ((c.tc : Thread Cert.Kernel47.nD Cert.Kernel47.τ).loc Cert.Kernel47.main_arg2)
      ∧ r.2.mem ((c.tc : Thread Cert.Kernel47.nD Cert.Kernel47.τ).loc Cert.Kernel47.main_arg3) = m ((c.tc : Thread Cert.Kernel47.nD Cert.Kernel47.τ).loc Cert.Kernel47.main_arg3)
      ∧ r.2.mem ((c.tc : Thread Cert.Kernel47.nD Cert.Kernel47.τ).loc Cert.Kernel47.main_arg4) = m ((c.tc : Thread Cert.Kernel47.nD Cert.Kernel47.τ).loc Cert.Kernel47.main_arg4))
      ∧ r.2.sem = fun _ => 0)

def quiescent_Kernel47Ideal [hKernel47Ideal : Cert.Kernel47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg), Pre_Kernel47Ideal m →
    θ_run (Cert.Kernel47Ideal.defs (F := Ideal)) (onTc (τ := Cert.Kernel47Ideal.τ) (Cert.Kernel47Ideal.main (F := Ideal))) ⟨m, fun _ => 0, g⟩ (fun r => (∀ c : Dev Cert.Kernel47Ideal.nD,
      r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
      ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1)
      ∧ r.2.mem ((c.tc : Thread Cert.Kernel47Ideal.nD Cert.Kernel47Ideal.τ).loc Cert.Kernel47Ideal.main_arg2) = m ((c.tc : Thread Cert.Kernel47Ideal.nD Cert.Kernel47Ideal.τ).loc Cert.Kernel47Ideal.main_arg2)
      ∧ r.2.mem ((c.tc : Thread Cert.Kernel47Ideal.nD Cert.Kernel47Ideal.τ).loc Cert.Kernel47Ideal.main_arg3) = m ((c.tc : Thread Cert.Kernel47Ideal.nD Cert.Kernel47Ideal.τ).loc Cert.Kernel47Ideal.main_arg3)
      ∧ r.2.mem ((c.tc : Thread Cert.Kernel47Ideal.nD Cert.Kernel47Ideal.τ).loc Cert.Kernel47Ideal.main_arg4) = m ((c.tc : Thread Cert.Kernel47Ideal.nD Cert.Kernel47Ideal.τ).loc Cert.Kernel47Ideal.main_arg4))
      ∧ r.2.sem = fun _ => 0)

def quiescent_Reference47Ideal [hReference47Ideal : Cert.Reference47Ideal.Facts] : Prop :=
  ∀ (m : (ℓ : Loc Cert.Reference47Ideal.nD Cert.Reference47Ideal.τ Cert.Reference47Ideal.sig) → Buf (Elt Ideal) ℓ) (g : Dev Cert.Reference47Ideal.nD → PrngReg), Pre_Reference47Ideal m →
    θ_run (Cert.Reference47Ideal.defs (F := Ideal)) (onTc (τ := Cert.Reference47Ideal.τ) (Cert.Reference47Ideal.main (F := Ideal))) ⟨m, fun _ => 0, g⟩ (fun r => (∀ c : Dev Cert.Reference47Ideal.nD,
      r.2.mem ((c.tc : Thread Cert.Reference47Ideal.nD Cert.Reference47Ideal.τ).loc Cert.Reference47Ideal.main_arg0) = m ((c.tc : Thread Cert.Reference47Ideal.nD Cert.Reference47Ideal.τ).loc Cert.Reference47Ideal.main_arg0)
      ∧ r.2.mem ((c.tc : Thread Cert.Reference47Ideal.nD Cert.Reference47Ideal.τ).loc Cert.Reference47Ideal.main_arg1) = m ((c.tc : Thread Cert.Reference47Ideal.nD Cert.Reference47Ideal.τ).loc Cert.Reference47Ideal.main_arg1)
      ∧ r.2.mem ((c.tc : Thread Cert.Reference47Ideal.nD Cert.Reference47Ideal.τ).loc Cert.Reference47Ideal.main_arg2) = m ((c.tc : Thread Cert.Reference47Ideal.nD Cert.Reference47Ideal.τ).loc Cert.Reference47Ideal.main_arg2)
      ∧ r.2.mem ((c.tc : Thread Cert.Reference47Ideal.nD Cert.Reference47Ideal.τ).loc Cert.Reference47Ideal.main_arg3) = m ((c.tc : Thread Cert.Reference47Ideal.nD Cert.Reference47Ideal.τ).loc Cert.Reference47Ideal.main_arg3)
      ∧ r.2.mem ((c.tc : Thread Cert.Reference47Ideal.nD Cert.Reference47Ideal.τ).loc Cert.Reference47Ideal.main_arg4) = m ((c.tc : Thread Cert.Reference47Ideal.nD Cert.Reference47Ideal.τ).loc Cert.Reference47Ideal.main_arg4))
      ∧ r.2.sem = fun _ => 0)

def quiescent_Kernel49 [hKernel49 : Cert.Kernel49.Facts] : Prop :=
  ∀ (m : (ℓ : Loc Cert.Kernel49.nD Cert.Kernel49.τ Cert.Kernel49.sig) → Buf (Elt Bits) ℓ) (g : Dev Cert.Kernel49.nD → PrngReg), Pre_Kernel49 m →
    θ_run (Cert.Kernel49.defs (F := Bits)) (onTc (τ := Cert.Kernel49.τ) (Cert.Kernel49.main (F := Bits))) ⟨m, fun _ => 0, g⟩ (fun r => (∀ c : Dev Cert.Kernel49.nD,
      r.2.mem ((c.tc : Thread Cert.Kernel49.nD Cert.Kernel49.τ).loc Cert.Kernel49.main_arg0) = m ((c.tc : Thread Cert.Kernel49.nD Cert.Kernel49.τ).loc Cert.Kernel49.main_arg0)
      ∧ r.2.mem ((c.tc : Thread Cert.Kernel49.nD Cert.Kernel49.τ).loc Cert.Kernel49.main_arg1) = m ((c.tc : Thread Cert.Kernel49.nD Cert.Kernel49.τ).loc Cert.Kernel49.main_arg1)
      ∧ r.2.mem ((c.tc : Thread Cert.Kernel49.nD Cert.Kernel49.τ).loc Cert.Kernel49.main_arg2) = m ((c.tc : Thread Cert.Kernel49.nD Cert.Kernel49.τ).loc Cert.Kernel49.main_arg2)
      ∧ r.2.mem ((c.tc : Thread Cert.Kernel49.nD Cert.Kernel49.τ).loc Cert.Kernel49.main_arg3) = m ((c.tc : Thread Cert.Kernel49.nD Cert.Kernel49.τ).loc Cert.Kernel49.main_arg3)
      ∧ r.2.mem ((c.tc : Thread Cert.Kernel49.nD Cert.Kernel49.τ).loc Cert.Kernel49.main_arg4) = m ((c.tc : Thread Cert.Kernel49.nD Cert.Kernel49.τ).loc Cert.Kernel49.main_arg4)
      ∧ r.2.mem ((c.tc : Thread Cert.Kernel49.nD Cert.Kernel49.τ).loc Cert.Kernel49.main_arg5) = m ((c.tc : Thread Cert.Kernel49.nD Cert.Kernel49.τ).loc Cert.Kernel49.main_arg5))
      ∧ r.2.sem = fun _ => 0)

def quiescent_Kernel49Ideal [hKernel49Ideal : Cert.Kernel49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg), Pre_Kernel49Ideal m →
    θ_run (Cert.Kernel49Ideal.defs (F := Ideal)) (onTc (τ := Cert.Kernel49Ideal.τ) (Cert.Kernel49Ideal.main (F := Ideal))) ⟨m, fun _ => 0, g⟩ (fun r => (∀ c : Dev Cert.Kernel49Ideal.nD,
      r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
      ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1)
      ∧ r.2.mem ((c.tc : Thread Cert.Kernel49Ideal.nD Cert.Kernel49Ideal.τ).loc Cert.Kernel49Ideal.main_arg2) = m ((c.tc : Thread Cert.Kernel49Ideal.nD Cert.Kernel49Ideal.τ).loc Cert.Kernel49Ideal.main_arg2)
      ∧ r.2.mem ((c.tc : Thread Cert.Kernel49Ideal.nD Cert.Kernel49Ideal.τ).loc Cert.Kernel49Ideal.main_arg3) = m ((c.tc : Thread Cert.Kernel49Ideal.nD Cert.Kernel49Ideal.τ).loc Cert.Kernel49Ideal.main_arg3)
      ∧ r.2.mem ((c.tc : Thread Cert.Kernel49Ideal.nD Cert.Kernel49Ideal.τ).loc Cert.Kernel49Ideal.main_arg4) = m ((c.tc : Thread Cert.Kernel49Ideal.nD Cert.Kernel49Ideal.τ).loc Cert.Kernel49Ideal.main_arg4)
      ∧ r.2.mem ((c.tc : Thread Cert.Kernel49Ideal.nD Cert.Kernel49Ideal.τ).loc Cert.Kernel49Ideal.main_arg5) = m ((c.tc : Thread Cert.Kernel49Ideal.nD Cert.Kernel49Ideal.τ).loc Cert.Kernel49Ideal.main_arg5))
      ∧ r.2.sem = fun _ => 0)

def quiescent_Reference49Ideal [hReference49Ideal : Cert.Reference49Ideal.Facts] : Prop :=
  ∀ (m : (ℓ : Loc Cert.Reference49Ideal.nD Cert.Reference49Ideal.τ Cert.Reference49Ideal.sig) → Buf (Elt Ideal) ℓ) (g : Dev Cert.Reference49Ideal.nD → PrngReg), Pre_Reference49Ideal m →
    θ_run (Cert.Reference49Ideal.defs (F := Ideal)) (onTc (τ := Cert.Reference49Ideal.τ) (Cert.Reference49Ideal.main (F := Ideal))) ⟨m, fun _ => 0, g⟩ (fun r => (∀ c : Dev Cert.Reference49Ideal.nD,
      r.2.mem ((c.tc : Thread Cert.Reference49Ideal.nD Cert.Reference49Ideal.τ).loc Cert.Reference49Ideal.main_arg0) = m ((c.tc : Thread Cert.Reference49Ideal.nD Cert.Reference49Ideal.τ).loc Cert.Reference49Ideal.main_arg0)
      ∧ r.2.mem ((c.tc : Thread Cert.Reference49Ideal.nD Cert.Reference49Ideal.τ).loc Cert.Reference49Ideal.main_arg1) = m ((c.tc : Thread Cert.Reference49Ideal.nD Cert.Reference49Ideal.τ).loc Cert.Reference49Ideal.main_arg1)
      ∧ r.2.mem ((c.tc : Thread Cert.Reference49Ideal.nD Cert.Reference49Ideal.τ).loc Cert.Reference49Ideal.main_arg2) = m ((c.tc : Thread Cert.Reference49Ideal.nD Cert.Reference49Ideal.τ).loc Cert.Reference49Ideal.main_arg2)
      ∧ r.2.mem ((c.tc : Thread Cert.Reference49Ideal.nD Cert.Reference49Ideal.τ).loc Cert.Reference49Ideal.main_arg3) = m ((c.tc : Thread Cert.Reference49Ideal.nD Cert.Reference49Ideal.τ).loc Cert.Reference49Ideal.main_arg3)
      ∧ r.2.mem ((c.tc : Thread Cert.Reference49Ideal.nD Cert.Reference49Ideal.τ).loc Cert.Reference49Ideal.main_arg4) = m ((c.tc : Thread Cert.Reference49Ideal.nD Cert.Reference49Ideal.τ).loc Cert.Reference49Ideal.main_arg4)
      ∧ r.2.mem ((c.tc : Thread Cert.Reference49Ideal.nD Cert.Reference49Ideal.τ).loc Cert.Reference49Ideal.main_arg5) = m ((c.tc : Thread Cert.Reference49Ideal.nD Cert.Reference49Ideal.τ).loc Cert.Reference49Ideal.main_arg5))
      ∧ r.2.sem = fun _ => 0)

def quiescent_Kernel50 [hKernel50 : Cert.Kernel50.Facts] : Prop :=
  ∀ (m : (ℓ : Loc Cert.Kernel50.nD Cert.Kernel50.τ Cert.Kernel50.sig) → Buf (Elt Bits) ℓ) (g : Dev Cert.Kernel50.nD → PrngReg), Pre_Kernel50 m →
    θ_run (Cert.Kernel50.defs (F := Bits)) (onTc (τ := Cert.Kernel50.τ) (Cert.Kernel50.main (F := Bits))) ⟨m, fun _ => 0, g⟩ (fun r => (∀ c : Dev Cert.Kernel50.nD,
      r.2.mem ((c.tc : Thread Cert.Kernel50.nD Cert.Kernel50.τ).loc Cert.Kernel50.main_arg0) = m ((c.tc : Thread Cert.Kernel50.nD Cert.Kernel50.τ).loc Cert.Kernel50.main_arg0))
      ∧ r.2.sem = fun _ => 0)

def quiescent_Kernel50Ideal [hKernel50Ideal : Cert.Kernel50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg), Pre_Kernel50Ideal m →
    θ_run (Cert.Kernel50Ideal.defs (F := Ideal)) (onTc (τ := Cert.Kernel50Ideal.τ) (Cert.Kernel50Ideal.main (F := Ideal))) ⟨m, fun _ => 0, g⟩ (fun r => (∀ c : Dev Cert.Kernel50Ideal.nD,
      r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0))
      ∧ r.2.sem = fun _ => 0)

def quiescent_Reference50Ideal [hReference50Ideal : Cert.Reference50Ideal.Facts] : Prop :=
  ∀ (m : (ℓ : Loc Cert.Reference50Ideal.nD Cert.Reference50Ideal.τ Cert.Reference50Ideal.sig) → Buf (Elt Ideal) ℓ) (g : Dev Cert.Reference50Ideal.nD → PrngReg), Pre_Reference50Ideal m →
    θ_run (Cert.Reference50Ideal.defs (F := Ideal)) (onTc (τ := Cert.Reference50Ideal.τ) (Cert.Reference50Ideal.main (F := Ideal))) ⟨m, fun _ => 0, g⟩ (fun r => (∀ c : Dev Cert.Reference50Ideal.nD,
      r.2.mem ((c.tc : Thread Cert.Reference50Ideal.nD Cert.Reference50Ideal.τ).loc Cert.Reference50Ideal.main_arg0) = m ((c.tc : Thread Cert.Reference50Ideal.nD Cert.Reference50Ideal.τ).loc Cert.Reference50Ideal.main_arg0))
      ∧ r.2.sem = fun _ => 0)

def quiescent_Kernel51 [hKernel51 : Cert.Kernel51.Facts] : Prop :=
  ∀ (m : (ℓ : Loc Cert.Kernel51.nD Cert.Kernel51.τ Cert.Kernel51.sig) → Buf (Elt Bits) ℓ) (g : Dev Cert.Kernel51.nD → PrngReg), Pre_Kernel51 m →
    θ_run (Cert.Kernel51.defs (F := Bits)) (onTc (τ := Cert.Kernel51.τ) (Cert.Kernel51.main (F := Bits))) ⟨m, fun _ => 0, g⟩ (fun r => (∀ c : Dev Cert.Kernel51.nD,
      r.2.mem ((c.tc : Thread Cert.Kernel51.nD Cert.Kernel51.τ).loc Cert.Kernel51.main_arg0) = m ((c.tc : Thread Cert.Kernel51.nD Cert.Kernel51.τ).loc Cert.Kernel51.main_arg0)
      ∧ r.2.mem ((c.tc : Thread Cert.Kernel51.nD Cert.Kernel51.τ).loc Cert.Kernel51.main_arg1) = m ((c.tc : Thread Cert.Kernel51.nD Cert.Kernel51.τ).loc Cert.Kernel51.main_arg1))
      ∧ r.2.sem = fun _ => 0)

def quiescent_Kernel51Ideal [hKernel51Ideal : Cert.Kernel51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg), Pre_Kernel51Ideal m →
    θ_run (Cert.Kernel51Ideal.defs (F := Ideal)) (onTc (τ := Cert.Kernel51Ideal.τ) (Cert.Kernel51Ideal.main (F := Ideal))) ⟨m, fun _ => 0, g⟩ (fun r => (∀ c : Dev Cert.Kernel51Ideal.nD,
      r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
      ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1))
      ∧ r.2.sem = fun _ => 0)

def quiescent_Reference51Ideal [hReference51Ideal : Cert.Reference51Ideal.Facts] : Prop :=
  ∀ (m : (ℓ : Loc Cert.Reference51Ideal.nD Cert.Reference51Ideal.τ Cert.Reference51Ideal.sig) → Buf (Elt Ideal) ℓ) (g : Dev Cert.Reference51Ideal.nD → PrngReg), Pre_Reference51Ideal m →
    θ_run (Cert.Reference51Ideal.defs (F := Ideal)) (onTc (τ := Cert.Reference51Ideal.τ) (Cert.Reference51Ideal.main (F := Ideal))) ⟨m, fun _ => 0, g⟩ (fun r => (∀ c : Dev Cert.Reference51Ideal.nD,
      r.2.mem ((c.tc : Thread Cert.Reference51Ideal.nD Cert.Reference51Ideal.τ).loc Cert.Reference51Ideal.main_arg0) = m ((c.tc : Thread Cert.Reference51Ideal.nD Cert.Reference51Ideal.τ).loc Cert.Reference51Ideal.main_arg0)
      ∧ r.2.mem ((c.tc : Thread Cert.Reference51Ideal.nD Cert.Reference51Ideal.τ).loc Cert.Reference51Ideal.main_arg1) = m ((c.tc : Thread Cert.Reference51Ideal.nD Cert.Reference51Ideal.τ).loc Cert.Reference51Ideal.main_arg1))
      ∧ r.2.sem = fun _ => 0)

def quiescent_Kernel52 [hKernel52 : Cert.Kernel52.Facts] : Prop :=
  ∀ (m : (ℓ : Loc Cert.Kernel52.nD Cert.Kernel52.τ Cert.Kernel52.sig) → Buf (Elt Bits) ℓ) (g : Dev Cert.Kernel52.nD → PrngReg), Pre_Kernel52 m →
    θ_run (Cert.Kernel52.defs (F := Bits)) (onTc (τ := Cert.Kernel52.τ) (Cert.Kernel52.main (F := Bits))) ⟨m, fun _ => 0, g⟩ (fun r => (∀ c : Dev Cert.Kernel52.nD,
      r.2.mem ((c.tc : Thread Cert.Kernel52.nD Cert.Kernel52.τ).loc Cert.Kernel52.main_arg0) = m ((c.tc : Thread Cert.Kernel52.nD Cert.Kernel52.τ).loc Cert.Kernel52.main_arg0)
      ∧ r.2.mem ((c.tc : Thread Cert.Kernel52.nD Cert.Kernel52.τ).loc Cert.Kernel52.main_arg1) = m ((c.tc : Thread Cert.Kernel52.nD Cert.Kernel52.τ).loc Cert.Kernel52.main_arg1)
      ∧ r.2.mem ((c.tc : Thread Cert.Kernel52.nD Cert.Kernel52.τ).loc Cert.Kernel52.main_arg2) = m ((c.tc : Thread Cert.Kernel52.nD Cert.Kernel52.τ).loc Cert.Kernel52.main_arg2))
      ∧ r.2.sem = fun _ => 0)

def quiescent_Kernel52Ideal [hKernel52Ideal : Cert.Kernel52Ideal.Facts] : Prop :=
  ∀ (m : (ℓ : Loc Cert.Kernel52Ideal.nD Cert.Kernel52Ideal.τ Cert.Kernel52Ideal.sig) → Buf (Elt Ideal) ℓ) (g : Dev Cert.Kernel52Ideal.nD → PrngReg), Pre_Kernel52Ideal m →
    θ_run (Cert.Kernel52Ideal.defs (F := Ideal)) (onTc (τ := Cert.Kernel52Ideal.τ) (Cert.Kernel52Ideal.main (F := Ideal))) ⟨m, fun _ => 0, g⟩ (fun r => (∀ c : Dev Cert.Kernel52Ideal.nD,
      r.2.mem ((c.tc : Thread Cert.Kernel52Ideal.nD Cert.Kernel52Ideal.τ).loc Cert.Kernel52Ideal.main_arg0) = m ((c.tc : Thread Cert.Kernel52Ideal.nD Cert.Kernel52Ideal.τ).loc Cert.Kernel52Ideal.main_arg0)
      ∧ r.2.mem ((c.tc : Thread Cert.Kernel52Ideal.nD Cert.Kernel52Ideal.τ).loc Cert.Kernel52Ideal.main_arg1) = m ((c.tc : Thread Cert.Kernel52Ideal.nD Cert.Kernel52Ideal.τ).loc Cert.Kernel52Ideal.main_arg1)
      ∧ r.2.mem ((c.tc : Thread Cert.Kernel52Ideal.nD Cert.Kernel52Ideal.τ).loc Cert.Kernel52Ideal.main_arg2) = m ((c.tc : Thread Cert.Kernel52Ideal.nD Cert.Kernel52Ideal.τ).loc Cert.Kernel52Ideal.main_arg2))
      ∧ r.2.sem = fun _ => 0)

def quiescent_Reference52Ideal [hReference52Ideal : Cert.Reference52Ideal.Facts] : Prop :=
  ∀ (m : (ℓ : Loc Cert.Reference52Ideal.nD Cert.Reference52Ideal.τ Cert.Reference52Ideal.sig) → Buf (Elt Ideal) ℓ) (g : Dev Cert.Reference52Ideal.nD → PrngReg), Pre_Reference52Ideal m →
    θ_run (Cert.Reference52Ideal.defs (F := Ideal)) (onTc (τ := Cert.Reference52Ideal.τ) (Cert.Reference52Ideal.main (F := Ideal))) ⟨m, fun _ => 0, g⟩ (fun r => (∀ c : Dev Cert.Reference52Ideal.nD,
      r.2.mem ((c.tc : Thread Cert.Reference52Ideal.nD Cert.Reference52Ideal.τ).loc Cert.Reference52Ideal.main_arg0) = m ((c.tc : Thread Cert.Reference52Ideal.nD Cert.Reference52Ideal.τ).loc Cert.Reference52Ideal.main_arg0)
      ∧ r.2.mem ((c.tc : Thread Cert.Reference52Ideal.nD Cert.Reference52Ideal.τ).loc Cert.Reference52Ideal.main_arg1) = m ((c.tc : Thread Cert.Reference52Ideal.nD Cert.Reference52Ideal.τ).loc Cert.Reference52Ideal.main_arg1)
      ∧ r.2.mem ((c.tc : Thread Cert.Reference52Ideal.nD Cert.Reference52Ideal.τ).loc Cert.Reference52Ideal.main_arg2) = m ((c.tc : Thread Cert.Reference52Ideal.nD Cert.Reference52Ideal.τ).loc Cert.Reference52Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_v7) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_v7) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v4_0)) (v1 : (c : Dev Cert.Kernel19Ideal.nD) → Buf (Elt Ideal) ((c.tc : Thread Cert.Kernel19Ideal.nD Cert.Kernel19Ideal.τ).loc Cert.Kernel19Ideal.main_v4_1)) (v2 : (c : Dev Cert.Kernel19Ideal.nD) → Buf (Elt Ideal) ((c.tc : Thread Cert.Kernel19Ideal.nD Cert.Kernel19Ideal.τ).loc Cert.Kernel19Ideal.main_v4_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4_0) = v0 c
          ∧ r.2.mem ((c.tc : Thread Cert.Kernel19Ideal.nD Cert.Kernel19Ideal.τ).loc Cert.Kernel19Ideal.main_v4_1) = v1 c
          ∧ r.2.mem ((c.tc : Thread Cert.Kernel19Ideal.nD Cert.Kernel19Ideal.τ).loc Cert.Kernel19Ideal.main_v4_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v24) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v26) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v4_0)) (v1 : (c : Dev Cert.Kernel20Ideal.nD) → Buf (Elt Ideal) ((c.tc : Thread Cert.Kernel20Ideal.nD Cert.Kernel20Ideal.τ).loc Cert.Kernel20Ideal.main_v4_1)) (v2 : (c : Dev Cert.Kernel20Ideal.nD) → Buf (Elt Ideal) ((c.tc : Thread Cert.Kernel20Ideal.nD Cert.Kernel20Ideal.τ).loc Cert.Kernel20Ideal.main_v4_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4_0) = v0 c
          ∧ r.2.mem ((c.tc : Thread Cert.Kernel20Ideal.nD Cert.Kernel20Ideal.τ).loc Cert.Kernel20Ideal.main_v4_1) = v1 c
          ∧ r.2.mem ((c.tc : Thread Cert.Kernel20Ideal.nD Cert.Kernel20Ideal.τ).loc Cert.Kernel20Ideal.main_v4_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v24) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v26) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v4_0)) (v1 : (c : Dev Cert.Kernel21Ideal.nD) → Buf (Elt Ideal) ((c.tc : Thread Cert.Kernel21Ideal.nD Cert.Kernel21Ideal.τ).loc Cert.Kernel21Ideal.main_v4_1)) (v2 : (c : Dev Cert.Kernel21Ideal.nD) → Buf (Elt Ideal) ((c.tc : Thread Cert.Kernel21Ideal.nD Cert.Kernel21Ideal.τ).loc Cert.Kernel21Ideal.main_v4_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4_0) = v0 c
          ∧ r.2.mem ((c.tc : Thread Cert.Kernel21Ideal.nD Cert.Kernel21Ideal.τ).loc Cert.Kernel21Ideal.main_v4_1) = v1 c
          ∧ r.2.mem ((c.tc : Thread Cert.Kernel21Ideal.nD Cert.Kernel21Ideal.τ).loc Cert.Kernel21Ideal.main_v4_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v24) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v26) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v4_0)) (v1 : (c : Dev Cert.Kernel22Ideal.nD) → Buf (Elt Ideal) ((c.tc : Thread Cert.Kernel22Ideal.nD Cert.Kernel22Ideal.τ).loc Cert.Kernel22Ideal.main_v4_1)) (v2 : (c : Dev Cert.Kernel22Ideal.nD) → Buf (Elt Ideal) ((c.tc : Thread Cert.Kernel22Ideal.nD Cert.Kernel22Ideal.τ).loc Cert.Kernel22Ideal.main_v4_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4_0) = v0 c
          ∧ r.2.mem ((c.tc : Thread Cert.Kernel22Ideal.nD Cert.Kernel22Ideal.τ).loc Cert.Kernel22Ideal.main_v4_1) = v1 c
          ∧ r.2.mem ((c.tc : Thread Cert.Kernel22Ideal.nD Cert.Kernel22Ideal.τ).loc Cert.Kernel22Ideal.main_v4_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v24) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v26) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v4_0)) (v1 : (c : Dev Cert.Kernel23Ideal.nD) → Buf (Elt Ideal) ((c.tc : Thread Cert.Kernel23Ideal.nD Cert.Kernel23Ideal.τ).loc Cert.Kernel23Ideal.main_v4_1)) (v2 : (c : Dev Cert.Kernel23Ideal.nD) → Buf (Elt Ideal) ((c.tc : Thread Cert.Kernel23Ideal.nD Cert.Kernel23Ideal.τ).loc Cert.Kernel23Ideal.main_v4_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v4_0) = v0 c
          ∧ r.2.mem ((c.tc : Thread Cert.Kernel23Ideal.nD Cert.Kernel23Ideal.τ).loc Cert.Kernel23Ideal.main_v4_1) = v1 c
          ∧ r.2.mem ((c.tc : Thread Cert.Kernel23Ideal.nD Cert.Kernel23Ideal.τ).loc Cert.Kernel23Ideal.main_v4_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v24) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v26) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v4_0)) (v1 : (c : Dev Cert.Kernel25Ideal.nD) → Buf (Elt Ideal) ((c.tc : Thread Cert.Kernel25Ideal.nD Cert.Kernel25Ideal.τ).loc Cert.Kernel25Ideal.main_v4_1)) (v2 : (c : Dev Cert.Kernel25Ideal.nD) → Buf (Elt Ideal) ((c.tc : Thread Cert.Kernel25Ideal.nD Cert.Kernel25Ideal.τ).loc Cert.Kernel25Ideal.main_v4_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v4_0) = v0 c
          ∧ r.2.mem ((c.tc : Thread Cert.Kernel25Ideal.nD Cert.Kernel25Ideal.τ).loc Cert.Kernel25Ideal.main_v4_1) = v1 c
          ∧ r.2.mem ((c.tc : Thread Cert.Kernel25Ideal.nD Cert.Kernel25Ideal.τ).loc Cert.Kernel25Ideal.main_v4_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v24) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v26) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v4_0)) (v1 : (c : Dev Cert.Kernel26Ideal.nD) → Buf (Elt Ideal) ((c.tc : Thread Cert.Kernel26Ideal.nD Cert.Kernel26Ideal.τ).loc Cert.Kernel26Ideal.main_v4_1)) (v2 : (c : Dev Cert.Kernel26Ideal.nD) → Buf (Elt Ideal) ((c.tc : Thread Cert.Kernel26Ideal.nD Cert.Kernel26Ideal.τ).loc Cert.Kernel26Ideal.main_v4_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v4_0) = v0 c
          ∧ r.2.mem ((c.tc : Thread Cert.Kernel26Ideal.nD Cert.Kernel26Ideal.τ).loc Cert.Kernel26Ideal.main_v4_1) = v1 c
          ∧ r.2.mem ((c.tc : Thread Cert.Kernel26Ideal.nD Cert.Kernel26Ideal.τ).loc Cert.Kernel26Ideal.main_v4_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v24) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v26) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v4_0)) (v1 : (c : Dev Cert.Kernel27Ideal.nD) → Buf (Elt Ideal) ((c.tc : Thread Cert.Kernel27Ideal.nD Cert.Kernel27Ideal.τ).loc Cert.Kernel27Ideal.main_v4_1)) (v2 : (c : Dev Cert.Kernel27Ideal.nD) → Buf (Elt Ideal) ((c.tc : Thread Cert.Kernel27Ideal.nD Cert.Kernel27Ideal.τ).loc Cert.Kernel27Ideal.main_v4_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v4_0) = v0 c
          ∧ r.2.mem ((c.tc : Thread Cert.Kernel27Ideal.nD Cert.Kernel27Ideal.τ).loc Cert.Kernel27Ideal.main_v4_1) = v1 c
          ∧ r.2.mem ((c.tc : Thread Cert.Kernel27Ideal.nD Cert.Kernel27Ideal.τ).loc Cert.Kernel27Ideal.main_v4_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v24) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_v26) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v4_0)) (v1 : (c : Dev Cert.Kernel29Ideal.nD) → Buf (Elt Ideal) ((c.tc : Thread Cert.Kernel29Ideal.nD Cert.Kernel29Ideal.τ).loc Cert.Kernel29Ideal.main_v4_1)) (v2 : (c : Dev Cert.Kernel29Ideal.nD) → Buf (Elt Ideal) ((c.tc : Thread Cert.Kernel29Ideal.nD Cert.Kernel29Ideal.τ).loc Cert.Kernel29Ideal.main_v4_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v4_0) = v0 c
          ∧ r.2.mem ((c.tc : Thread Cert.Kernel29Ideal.nD Cert.Kernel29Ideal.τ).loc Cert.Kernel29Ideal.main_v4_1) = v1 c
          ∧ r.2.mem ((c.tc : Thread Cert.Kernel29Ideal.nD Cert.Kernel29Ideal.τ).loc Cert.Kernel29Ideal.main_v4_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v24) = v0 c
          ∧ r.2.mem ((c.tc : Thread Cert.Reference29Ideal.nD Cert.Reference29Ideal.τ).loc Cert.Reference29Ideal.main_v25) = v1 c
          ∧ r.2.mem ((c.tc : Thread Cert.Reference29Ideal.nD Cert.Reference29Ideal.τ).loc Cert.Reference29Ideal.main_v26) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v4_0)) (v1 : (c : Dev Cert.Kernel30Ideal.nD) → Buf (Elt Ideal) ((c.tc : Thread Cert.Kernel30Ideal.nD Cert.Kernel30Ideal.τ).loc Cert.Kernel30Ideal.main_v4_1)) (v2 : (c : Dev Cert.Kernel30Ideal.nD) → Buf (Elt Ideal) ((c.tc : Thread Cert.Kernel30Ideal.nD Cert.Kernel30Ideal.τ).loc Cert.Kernel30Ideal.main_v4_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v4_0) = v0 c
          ∧ r.2.mem ((c.tc : Thread Cert.Kernel30Ideal.nD Cert.Kernel30Ideal.τ).loc Cert.Kernel30Ideal.main_v4_1) = v1 c
          ∧ r.2.mem ((c.tc : Thread Cert.Kernel30Ideal.nD Cert.Kernel30Ideal.τ).loc Cert.Kernel30Ideal.main_v4_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v24) = v0 c
          ∧ r.2.mem ((c.tc : Thread Cert.Reference30Ideal.nD Cert.Reference30Ideal.τ).loc Cert.Reference30Ideal.main_v25) = v1 c
          ∧ r.2.mem ((c.tc : Thread Cert.Reference30Ideal.nD Cert.Reference30Ideal.τ).loc Cert.Reference30Ideal.main_v26) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v4_0)) (v1 : (c : Dev Cert.Kernel31Ideal.nD) → Buf (Elt Ideal) ((c.tc : Thread Cert.Kernel31Ideal.nD Cert.Kernel31Ideal.τ).loc Cert.Kernel31Ideal.main_v4_1)) (v2 : (c : Dev Cert.Kernel31Ideal.nD) → Buf (Elt Ideal) ((c.tc : Thread Cert.Kernel31Ideal.nD Cert.Kernel31Ideal.τ).loc Cert.Kernel31Ideal.main_v4_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v4_0) = v0 c
          ∧ r.2.mem ((c.tc : Thread Cert.Kernel31Ideal.nD Cert.Kernel31Ideal.τ).loc Cert.Kernel31Ideal.main_v4_1) = v1 c
          ∧ r.2.mem ((c.tc : Thread Cert.Kernel31Ideal.nD Cert.Kernel31Ideal.τ).loc Cert.Kernel31Ideal.main_v4_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v24) = v0 c
          ∧ r.2.mem ((c.tc : Thread Cert.Reference31Ideal.nD Cert.Reference31Ideal.τ).loc Cert.Reference31Ideal.main_v25) = v1 c
          ∧ r.2.mem ((c.tc : Thread Cert.Reference31Ideal.nD Cert.Reference31Ideal.τ).loc Cert.Reference31Ideal.main_v26) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v4_0)) (v1 : (c : Dev Cert.Kernel32Ideal.nD) → Buf (Elt Ideal) ((c.tc : Thread Cert.Kernel32Ideal.nD Cert.Kernel32Ideal.τ).loc Cert.Kernel32Ideal.main_v4_1)) (v2 : (c : Dev Cert.Kernel32Ideal.nD) → Buf (Elt Ideal) ((c.tc : Thread Cert.Kernel32Ideal.nD Cert.Kernel32Ideal.τ).loc Cert.Kernel32Ideal.main_v4_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v4_0) = v0 c
          ∧ r.2.mem ((c.tc : Thread Cert.Kernel32Ideal.nD Cert.Kernel32Ideal.τ).loc Cert.Kernel32Ideal.main_v4_1) = v1 c
          ∧ r.2.mem ((c.tc : Thread Cert.Kernel32Ideal.nD Cert.Kernel32Ideal.τ).loc Cert.Kernel32Ideal.main_v4_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v24) = v0 c
          ∧ r.2.mem ((c.tc : Thread Cert.Reference32Ideal.nD Cert.Reference32Ideal.τ).loc Cert.Reference32Ideal.main_v25) = v1 c
          ∧ r.2.mem ((c.tc : Thread Cert.Reference32Ideal.nD Cert.Reference32Ideal.τ).loc Cert.Reference32Ideal.main_v26) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v23) = v0 c
          ∧ r.2.mem ((c.tc : Thread Cert.Reference33Ideal.nD Cert.Reference33Ideal.τ).loc Cert.Reference33Ideal.main_v4) = v1 c
          ∧ r.2.mem ((c.tc : Thread Cert.Reference33Ideal.nD Cert.Reference33Ideal.τ).loc Cert.Reference33Ideal.main_v10) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v4_0)) (v1 : (c : Dev Cert.Kernel34Ideal.nD) → Buf (Elt Ideal) ((c.tc : Thread Cert.Kernel34Ideal.nD Cert.Kernel34Ideal.τ).loc Cert.Kernel34Ideal.main_v4_1)) (v2 : (c : Dev Cert.Kernel34Ideal.nD) → Buf (Elt Ideal) ((c.tc : Thread Cert.Kernel34Ideal.nD Cert.Kernel34Ideal.τ).loc Cert.Kernel34Ideal.main_v4_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v4_0) = v0 c
          ∧ r.2.mem ((c.tc : Thread Cert.Kernel34Ideal.nD Cert.Kernel34Ideal.τ).loc Cert.Kernel34Ideal.main_v4_1) = v1 c
          ∧ r.2.mem ((c.tc : Thread Cert.Kernel34Ideal.nD Cert.Kernel34Ideal.τ).loc Cert.Kernel34Ideal.main_v4_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v24) = v0 c
          ∧ r.2.mem ((c.tc : Thread Cert.Reference34Ideal.nD Cert.Reference34Ideal.τ).loc Cert.Reference34Ideal.main_v25) = v1 c
          ∧ r.2.mem ((c.tc : Thread Cert.Reference34Ideal.nD Cert.Reference34Ideal.τ).loc Cert.Reference34Ideal.main_v26) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)) →
    ∃ (v0 : (c : Dev Cert.Kernel35Ideal.nD) → Buf (Elt Ideal) ((c.tc : Thread Cert.Kernel35Ideal.nD Cert.Kernel35Ideal.τ).loc Cert.Kernel35Ideal.main_v3)) (v1 : (c : Dev Cert.Kernel35Ideal.nD) → Buf (Elt Ideal) ((c.tc : Thread Cert.Kernel35Ideal.nD Cert.Kernel35Ideal.τ).loc Cert.Kernel35Ideal.main_v5)) (v2 : (c : Dev Cert.Kernel35Ideal.nD) → Buf (Elt Ideal) ((c.tc : Thread Cert.Kernel35Ideal.nD Cert.Kernel35Ideal.τ).loc Cert.Kernel35Ideal.main_v8)) (v3 : (c : Dev Cert.Kernel35Ideal.nD) → Buf (Elt Ideal) ((c.tc : Thread Cert.Kernel35Ideal.nD Cert.Kernel35Ideal.τ).loc Cert.Kernel35Ideal.main_v10)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v3) = v0 c
          ∧ r.2.mem ((c.tc : Thread Cert.Kernel35Ideal.nD Cert.Kernel35Ideal.τ).loc Cert.Kernel35Ideal.main_v5) = v1 c
          ∧ r.2.mem ((c.tc : Thread Cert.Kernel35Ideal.nD Cert.Kernel35Ideal.τ).loc Cert.Kernel35Ideal.main_v8) = v2 c
          ∧ r.2.mem ((c.tc : Thread Cert.Kernel35Ideal.nD Cert.Kernel35Ideal.τ).loc Cert.Kernel35Ideal.main_v10) = v3 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v4) = v0 c
          ∧ r.2.mem ((c.tc : Thread Cert.Reference35Ideal.nD Cert.Reference35Ideal.τ).loc Cert.Reference35Ideal.main_v6) = v1 c
          ∧ r.2.mem ((c.tc : Thread Cert.Reference35Ideal.nD Cert.Reference35Ideal.τ).loc Cert.Reference35Ideal.main_v9) = v2 c
          ∧ r.2.mem ((c.tc : Thread Cert.Reference35Ideal.nD Cert.Reference35Ideal.τ).loc Cert.Reference35Ideal.main_v11) = v3 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)) →
    ∃ (v0 : (c : Dev Cert.Kernel36Ideal.nD) → Buf (Elt Ideal) ((c.tc : Thread Cert.Kernel36Ideal.nD Cert.Kernel36Ideal.τ).loc Cert.Kernel36Ideal.main_v3)) (v1 : (c : Dev Cert.Kernel36Ideal.nD) → Buf (Elt Ideal) ((c.tc : Thread Cert.Kernel36Ideal.nD Cert.Kernel36Ideal.τ).loc Cert.Kernel36Ideal.main_v6)) (v2 : (c : Dev Cert.Kernel36Ideal.nD) → Buf (Elt Ideal) ((c.tc : Thread Cert.Kernel36Ideal.nD Cert.Kernel36Ideal.τ).loc Cert.Kernel36Ideal.main_v9)) (v3 : (c : Dev Cert.Kernel36Ideal.nD) → Buf (Elt Ideal) ((c.tc : Thread Cert.Kernel36Ideal.nD Cert.Kernel36Ideal.τ).loc Cert.Kernel36Ideal.main_v11)) (v4 : (c : Dev Cert.Kernel36Ideal.nD) → Buf (Elt Ideal) ((c.tc : Thread Cert.Kernel36Ideal.nD Cert.Kernel36Ideal.τ).loc Cert.Kernel36Ideal.main_v14)) (v5 : (c : Dev Cert.Kernel36Ideal.nD) → Buf (Elt Ideal) ((c.tc : Thread Cert.Kernel36Ideal.nD Cert.Kernel36Ideal.τ).loc Cert.Kernel36Ideal.main_v18)) (v6 : (c : Dev Cert.Kernel36Ideal.nD) → Buf (Elt Ideal) ((c.tc : Thread Cert.Kernel36Ideal.nD Cert.Kernel36Ideal.τ).loc Cert.Kernel36Ideal.main_v21)) (v7 : (c : Dev Cert.Kernel36Ideal.nD) → Buf (Elt Ideal) ((c.tc : Thread Cert.Kernel36Ideal.nD Cert.Kernel36Ideal.τ).loc Cert.Kernel36Ideal.main_v24)) (v8 : (c : Dev Cert.Kernel36Ideal.nD) → Buf (Elt Ideal) ((c.tc : Thread Cert.Kernel36Ideal.nD Cert.Kernel36Ideal.τ).loc Cert.Kernel36Ideal.main_v28)) (v9 : (c : Dev Cert.Kernel36Ideal.nD) → Buf (Elt Ideal) ((c.tc : Thread Cert.Kernel36Ideal.nD Cert.Kernel36Ideal.τ).loc Cert.Kernel36Ideal.main_v31)) (v10 : (c : Dev Cert.Kernel36Ideal.nD) → Buf (Elt Ideal) ((c.tc : Thread Cert.Kernel36Ideal.nD Cert.Kernel36Ideal.τ).loc Cert.Kernel36Ideal.main_v34)) (v11 : (c : Dev Cert.Kernel36Ideal.nD) → Buf (Elt Ideal) ((c.tc : Thread Cert.Kernel36Ideal.nD Cert.Kernel36Ideal.τ).loc Cert.Kernel36Ideal.main_v37)) (v12 : (c : Dev Cert.Kernel36Ideal.nD) → Buf (Elt Ideal) ((c.tc : Thread Cert.Kernel36Ideal.nD Cert.Kernel36Ideal.τ).loc Cert.Kernel36Ideal.main_v40)) (v13 : (c : Dev Cert.Kernel36Ideal.nD) → Buf (Elt Ideal) ((c.tc : Thread Cert.Kernel36Ideal.nD Cert.Kernel36Ideal.τ).loc Cert.Kernel36Ideal.main_v43)) (v14 : (c : Dev Cert.Kernel36Ideal.nD) → Buf (Elt Ideal) ((c.tc : Thread Cert.Kernel36Ideal.nD Cert.Kernel36Ideal.τ).loc Cert.Kernel36Ideal.main_v46)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v3) = v0 c
          ∧ r.2.mem ((c.tc : Thread Cert.Kernel36Ideal.nD Cert.Kernel36Ideal.τ).loc Cert.Kernel36Ideal.main_v6) = v1 c
          ∧ r.2.mem ((c.tc : Thread Cert.Kernel36Ideal.nD Cert.Kernel36Ideal.τ).loc Cert.Kernel36Ideal.main_v9) = v2 c
          ∧ r.2.mem ((c.tc : Thread Cert.Kernel36Ideal.nD Cert.Kernel36Ideal.τ).loc Cert.Kernel36Ideal.main_v11) = v3 c
          ∧ r.2.mem ((c.tc : Thread Cert.Kernel36Ideal.nD Cert.Kernel36Ideal.τ).loc Cert.Kernel36Ideal.main_v14) = v4 c
          ∧ r.2.mem ((c.tc : Thread Cert.Kernel36Ideal.nD Cert.Kernel36Ideal.τ).loc Cert.Kernel36Ideal.main_v18) = v5 c
          ∧ r.2.mem ((c.tc : Thread Cert.Kernel36Ideal.nD Cert.Kernel36Ideal.τ).loc Cert.Kernel36Ideal.main_v21) = v6 c
          ∧ r.2.mem ((c.tc : Thread Cert.Kernel36Ideal.nD Cert.Kernel36Ideal.τ).loc Cert.Kernel36Ideal.main_v24) = v7 c
          ∧ r.2.mem ((c.tc : Thread Cert.Kernel36Ideal.nD Cert.Kernel36Ideal.τ).loc Cert.Kernel36Ideal.main_v28) = v8 c
          ∧ r.2.mem ((c.tc : Thread Cert.Kernel36Ideal.nD Cert.Kernel36Ideal.τ).loc Cert.Kernel36Ideal.main_v31) = v9 c
          ∧ r.2.mem ((c.tc : Thread Cert.Kernel36Ideal.nD Cert.Kernel36Ideal.τ).loc Cert.Kernel36Ideal.main_v34) = v10 c
          ∧ r.2.mem ((c.tc : Thread Cert.Kernel36Ideal.nD Cert.Kernel36Ideal.τ).loc Cert.Kernel36Ideal.main_v37) = v11 c
          ∧ r.2.mem ((c.tc : Thread Cert.Kernel36Ideal.nD Cert.Kernel36Ideal.τ).loc Cert.Kernel36Ideal.main_v40) = v12 c
          ∧ r.2.mem ((c.tc : Thread Cert.Kernel36Ideal.nD Cert.Kernel36Ideal.τ).loc Cert.Kernel36Ideal.main_v43) = v13 c
          ∧ r.2.mem ((c.tc : Thread Cert.Kernel36Ideal.nD Cert.Kernel36Ideal.τ).loc Cert.Kernel36Ideal.main_v46) = v14 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v3) = v0 c
          ∧ r.2.mem ((c.tc : Thread Cert.Reference36Ideal.nD Cert.Reference36Ideal.τ).loc Cert.Reference36Ideal.main_v6) = v1 c
          ∧ r.2.mem ((c.tc : Thread Cert.Reference36Ideal.nD Cert.Reference36Ideal.τ).loc Cert.Reference36Ideal.main_v9) = v2 c
          ∧ r.2.mem ((c.tc : Thread Cert.Reference36Ideal.nD Cert.Reference36Ideal.τ).loc Cert.Reference36Ideal.main_v11) = v3 c
          ∧ r.2.mem ((c.tc : Thread Cert.Reference36Ideal.nD Cert.Reference36Ideal.τ).loc Cert.Reference36Ideal.main_v14) = v4 c
          ∧ r.2.mem ((c.tc : Thread Cert.Reference36Ideal.nD Cert.Reference36Ideal.τ).loc Cert.Reference36Ideal.main_v18) = v5 c
          ∧ r.2.mem ((c.tc : Thread Cert.Reference36Ideal.nD Cert.Reference36Ideal.τ).loc Cert.Reference36Ideal.main_v21) = v6 c
          ∧ r.2.mem ((c.tc : Thread Cert.Reference36Ideal.nD Cert.Reference36Ideal.τ).loc Cert.Reference36Ideal.main_v24) = v7 c
          ∧ r.2.mem ((c.tc : Thread Cert.Reference36Ideal.nD Cert.Reference36Ideal.τ).loc Cert.Reference36Ideal.main_v28) = v8 c
          ∧ r.2.mem ((c.tc : Thread Cert.Reference36Ideal.nD Cert.Reference36Ideal.τ).loc Cert.Reference36Ideal.main_v31) = v9 c
          ∧ r.2.mem ((c.tc : Thread Cert.Reference36Ideal.nD Cert.Reference36Ideal.τ).loc Cert.Reference36Ideal.main_v34) = v10 c
          ∧ r.2.mem ((c.tc : Thread Cert.Reference36Ideal.nD Cert.Reference36Ideal.τ).loc Cert.Reference36Ideal.main_v37) = v11 c
          ∧ r.2.mem ((c.tc : Thread Cert.Reference36Ideal.nD Cert.Reference36Ideal.τ).loc Cert.Reference36Ideal.main_v40) = v12 c
          ∧ r.2.mem ((c.tc : Thread Cert.Reference36Ideal.nD Cert.Reference36Ideal.τ).loc Cert.Reference36Ideal.main_v43) = v13 c
          ∧ r.2.mem ((c.tc : Thread Cert.Reference36Ideal.nD Cert.Reference36Ideal.τ).loc Cert.Reference36Ideal.main_v46) = v14 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v8)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v8) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v11) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)
      ∧ m' ((c.tc : Thread Cert.Reference38Ideal.nD Cert.Reference38Ideal.τ).loc Cert.Reference38Ideal.main_arg4) = m ((c.tc : Thread Cert.Kernel38Ideal.nD Cert.Kernel38Ideal.τ).loc Cert.Kernel38Ideal.main_arg4)
      ∧ m' ((c.tc : Thread Cert.Reference38Ideal.nD Cert.Reference38Ideal.τ).loc Cert.Reference38Ideal.main_arg5) = m ((c.tc : Thread Cert.Kernel38Ideal.nD Cert.Kernel38Ideal.τ).loc Cert.Kernel38Ideal.main_arg5)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)) (v3 : (c : Dev Cert.Kernel38Ideal.nD) → Buf (Elt Ideal) ((c.tc : Thread Cert.Kernel38Ideal.nD Cert.Kernel38Ideal.τ).loc Cert.Kernel38Ideal.main_v0_3)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_v0_3) = v3 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
          ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4)
          ∧ r.2.mem ((c.tc : Thread Cert.Kernel38Ideal.nD Cert.Kernel38Ideal.τ).loc Cert.Kernel38Ideal.main_arg5) = m ((c.tc : Thread Cert.Kernel38Ideal.nD Cert.Kernel38Ideal.τ).loc Cert.Kernel38Ideal.main_arg5))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v132) = v0 c
          ∧ r.2.mem ((c.tc : Thread Cert.Reference38Ideal.nD Cert.Reference38Ideal.τ).loc Cert.Reference38Ideal.main_v135) = v1 c
          ∧ r.2.mem ((c.tc : Thread Cert.Reference38Ideal.nD Cert.Reference38Ideal.τ).loc Cert.Reference38Ideal.main_v138) = v2 c
          ∧ r.2.mem ((c.tc : Thread Cert.Reference38Ideal.nD Cert.Reference38Ideal.τ).loc Cert.Reference38Ideal.main_v139) = v3 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3)
          ∧ r.2.mem ((c.tc : Thread Cert.Reference38Ideal.nD Cert.Reference38Ideal.τ).loc Cert.Reference38Ideal.main_arg4) = m' ((c.tc : Thread Cert.Reference38Ideal.nD Cert.Reference38Ideal.τ).loc Cert.Reference38Ideal.main_arg4)
          ∧ r.2.mem ((c.tc : Thread Cert.Reference38Ideal.nD Cert.Reference38Ideal.τ).loc Cert.Reference38Ideal.main_arg5) = m' ((c.tc : Thread Cert.Reference38Ideal.nD Cert.Reference38Ideal.τ).loc Cert.Reference38Ideal.main_arg5))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)) →
    ∃ (v0 : (c : Dev Cert.Kernel39Ideal.nD) → Buf (Elt Ideal) ((c.tc : Thread Cert.Kernel39Ideal.nD Cert.Kernel39Ideal.τ).loc Cert.Kernel39Ideal.main_v3)) (v1 : (c : Dev Cert.Kernel39Ideal.nD) → Buf (Elt Ideal) ((c.tc : Thread Cert.Kernel39Ideal.nD Cert.Kernel39Ideal.τ).loc Cert.Kernel39Ideal.main_v0_1)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v3) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v8) = v0 c
          ∧ r.2.mem ((c.tc : Thread Cert.Reference39Ideal.nD Cert.Reference39Ideal.τ).loc Cert.Reference39Ideal.main_v14) = v1 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)
      ∧ m' ((c.tc : Thread Cert.Reference40Ideal.nD Cert.Reference40Ideal.τ).loc Cert.Reference40Ideal.main_arg4) = m ((c.tc : Thread Cert.Kernel40Ideal.nD Cert.Kernel40Ideal.τ).loc Cert.Kernel40Ideal.main_arg4)
      ∧ m' ((c.tc : Thread Cert.Reference40Ideal.nD Cert.Reference40Ideal.τ).loc Cert.Reference40Ideal.main_arg5) = m ((c.tc : Thread Cert.Kernel40Ideal.nD Cert.Kernel40Ideal.τ).loc Cert.Kernel40Ideal.main_arg5)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)) (v2 : (c : Dev Cert.Kernel40Ideal.nD) → Buf (Elt Ideal) ((c.tc : Thread Cert.Kernel40Ideal.nD Cert.Kernel40Ideal.τ).loc Cert.Kernel40Ideal.main_v0_2)) (v3 : (c : Dev Cert.Kernel40Ideal.nD) → Buf (Elt Ideal) ((c.tc : Thread Cert.Kernel40Ideal.nD Cert.Kernel40Ideal.τ).loc Cert.Kernel40Ideal.main_v0_3)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_v0_2) = v2 c
          ∧ r.2.mem ((c.tc : Thread Cert.Kernel40Ideal.nD Cert.Kernel40Ideal.τ).loc Cert.Kernel40Ideal.main_v0_3) = v3 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
          ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4)
          ∧ r.2.mem ((c.tc : Thread Cert.Kernel40Ideal.nD Cert.Kernel40Ideal.τ).loc Cert.Kernel40Ideal.main_arg5) = m ((c.tc : Thread Cert.Kernel40Ideal.nD Cert.Kernel40Ideal.τ).loc Cert.Kernel40Ideal.main_arg5))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v60) = v0 c
          ∧ r.2.mem ((c.tc : Thread Cert.Reference40Ideal.nD Cert.Reference40Ideal.τ).loc Cert.Reference40Ideal.main_v61) = v1 c
          ∧ r.2.mem ((c.tc : Thread Cert.Reference40Ideal.nD Cert.Reference40Ideal.τ).loc Cert.Reference40Ideal.main_v62) = v2 c
          ∧ r.2.mem ((c.tc : Thread Cert.Reference40Ideal.nD Cert.Reference40Ideal.τ).loc Cert.Reference40Ideal.main_v63) = v3 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3)
          ∧ r.2.mem ((c.tc : Thread Cert.Reference40Ideal.nD Cert.Reference40Ideal.τ).loc Cert.Reference40Ideal.main_arg4) = m' ((c.tc : Thread Cert.Reference40Ideal.nD Cert.Reference40Ideal.τ).loc Cert.Reference40Ideal.main_arg4)
          ∧ r.2.mem ((c.tc : Thread Cert.Reference40Ideal.nD Cert.Reference40Ideal.τ).loc Cert.Reference40Ideal.main_arg5) = m' ((c.tc : Thread Cert.Reference40Ideal.nD Cert.Reference40Ideal.τ).loc Cert.Reference40Ideal.main_arg5))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)
      ∧ m' ((c.tc : Thread Cert.Reference41Ideal.nD Cert.Reference41Ideal.τ).loc Cert.Reference41Ideal.main_arg3) = m ((c.tc : Thread Cert.Kernel41Ideal.nD Cert.Kernel41Ideal.τ).loc Cert.Kernel41Ideal.main_arg3)) →
    ∃ (v0 : (c : Dev Cert.Kernel41Ideal.nD) → Buf (Elt Ideal) ((c.tc : Thread Cert.Kernel41Ideal.nD Cert.Kernel41Ideal.τ).loc Cert.Kernel41Ideal.main_v0)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0) = v0 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
          ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v55) = v0 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2)
          ∧ r.2.mem ((c.tc : Thread Cert.Reference41Ideal.nD Cert.Reference41Ideal.τ).loc Cert.Reference41Ideal.main_arg3) = m' ((c.tc : Thread Cert.Reference41Ideal.nD Cert.Reference41Ideal.τ).loc Cert.Reference41Ideal.main_arg3))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)
      ∧ m' ((c.tc : Thread Cert.Reference42Ideal.nD Cert.Reference42Ideal.τ).loc Cert.Reference42Ideal.main_arg3) = m ((c.tc : Thread Cert.Kernel42Ideal.nD Cert.Kernel42Ideal.τ).loc Cert.Kernel42Ideal.main_arg3)) →
    ∃ (v0 : (c : Dev Cert.Kernel42Ideal.nD) → Buf (Elt Ideal) ((c.tc : Thread Cert.Kernel42Ideal.nD Cert.Kernel42Ideal.τ).loc Cert.Kernel42Ideal.main_v0)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
          ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v22) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2)
          ∧ r.2.mem ((c.tc : Thread Cert.Reference42Ideal.nD Cert.Reference42Ideal.τ).loc Cert.Reference42Ideal.main_arg3) = m' ((c.tc : Thread Cert.Reference42Ideal.nD Cert.Reference42Ideal.τ).loc Cert.Reference42Ideal.main_arg3))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)
      ∧ m' ((c.tc : Thread Cert.Reference43Ideal.nD Cert.Reference43Ideal.τ).loc Cert.Reference43Ideal.main_arg3) = m ((c.tc : Thread Cert.Kernel43Ideal.nD Cert.Kernel43Ideal.τ).loc Cert.Kernel43Ideal.main_arg3)) →
    ∃ (v0 : (c : Dev Cert.Kernel43Ideal.nD) → Buf (Elt Ideal) ((c.tc : Thread Cert.Kernel43Ideal.nD Cert.Kernel43Ideal.τ).loc Cert.Kernel43Ideal.main_v0)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0) = v0 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
          ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v48) = v0 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2)
          ∧ r.2.mem ((c.tc : Thread Cert.Reference43Ideal.nD Cert.Reference43Ideal.τ).loc Cert.Reference43Ideal.main_arg3) = m' ((c.tc : Thread Cert.Reference43Ideal.nD Cert.Reference43Ideal.τ).loc Cert.Reference43Ideal.main_arg3))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)
      ∧ m' ((c.tc : Thread Cert.Reference44Ideal.nD Cert.Reference44Ideal.τ).loc Cert.Reference44Ideal.main_arg2) = m ((c.tc : Thread Cert.Kernel44Ideal.nD Cert.Kernel44Ideal.τ).loc Cert.Kernel44Ideal.main_arg2)
      ∧ m' ((c.tc : Thread Cert.Reference44Ideal.nD Cert.Reference44Ideal.τ).loc Cert.Reference44Ideal.main_arg3) = m ((c.tc : Thread Cert.Kernel44Ideal.nD Cert.Kernel44Ideal.τ).loc Cert.Kernel44Ideal.main_arg3)) →
    ∃ (v0 : (c : Dev Cert.Kernel44Ideal.nD) → Buf (Elt Ideal) ((c.tc : Thread Cert.Kernel44Ideal.nD Cert.Kernel44Ideal.τ).loc Cert.Kernel44Ideal.main_v0)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0) = v0 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
          ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
          ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v19) = v0 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1)
          ∧ r.2.mem ((c.tc : Thread Cert.Reference44Ideal.nD Cert.Reference44Ideal.τ).loc Cert.Reference44Ideal.main_arg2) = m' ((c.tc : Thread Cert.Reference44Ideal.nD Cert.Reference44Ideal.τ).loc Cert.Reference44Ideal.main_arg2)
          ∧ r.2.mem ((c.tc : Thread Cert.Reference44Ideal.nD Cert.Reference44Ideal.τ).loc Cert.Reference44Ideal.main_arg3) = m' ((c.tc : Thread Cert.Reference44Ideal.nD Cert.Reference44Ideal.τ).loc Cert.Reference44Ideal.main_arg3))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)) →
    ∃ (v0 : (c : Dev Cert.Kernel45Ideal.nD) → Buf (Elt Ideal) ((c.tc : Thread Cert.Kernel45Ideal.nD Cert.Kernel45Ideal.τ).loc Cert.Kernel45Ideal.main_v0)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v0) = v0 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v33) = v0 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1))

def preserves_Kernel46_Kernel46Ideal : Prop :=
  True

def algebraic_Kernel46Ideal_Reference46Ideal [hKernel46Ideal : Cert.Kernel46Ideal.Facts] [hReference46Ideal : Cert.Reference46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg)
    (m' : (ℓ : Loc Cert.Reference46Ideal.nD Cert.Reference46Ideal.τ Cert.Reference46Ideal.sig) → Buf (Elt Ideal) ℓ) (g' : Dev Cert.Reference46Ideal.nD → PrngReg), Pre_Kernel46Ideal m →
    (∀ c : Dev Cert.Kernel46Ideal.nD,
      m' ((c.tc : Thread Cert.Reference46Ideal.nD Cert.Reference46Ideal.τ).loc Cert.Reference46Ideal.main_arg0) = m ((c.tc : Thread Cert.Kernel46Ideal.nD Cert.Kernel46Ideal.τ).loc Cert.Kernel46Ideal.main_arg0)
      ∧ m' ((c.tc : Thread Cert.Reference46Ideal.nD Cert.Reference46Ideal.τ).loc Cert.Reference46Ideal.main_arg1) = m ((c.tc : Thread Cert.Kernel46Ideal.nD Cert.Kernel46Ideal.τ).loc Cert.Kernel46Ideal.main_arg1)) →
    ∃ (v0 : (c : Dev Cert.Kernel46Ideal.nD) → Buf (Elt Ideal) ((c.tc : Thread Cert.Kernel46Ideal.nD Cert.Kernel46Ideal.τ).loc Cert.Kernel46Ideal.main_v0)),
      θ_run (Cert.Kernel46Ideal.defs (F := Ideal)) (onTc (τ := Cert.Kernel46Ideal.τ) (Cert.Kernel46Ideal.main (F := Ideal))) ⟨m, fun _ => 0, g⟩ (fun r => ∀ c : Dev Cert.Kernel46Ideal.nD,
          r.2.mem ((c.tc : Thread Cert.Kernel46Ideal.nD Cert.Kernel46Ideal.τ).loc Cert.Kernel46Ideal.main_v0) = v0 c
          ∧ r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
          ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1))
      ∧ θ_run (Cert.Reference46Ideal.defs (F := Ideal)) (onTc (τ := Cert.Reference46Ideal.τ) (Cert.Reference46Ideal.main (F := Ideal))) ⟨m', fun _ => 0, g'⟩ (fun r => ∀ c : Dev Cert.Reference46Ideal.nD,
          r.2.mem ((c.tc : Thread Cert.Reference46Ideal.nD Cert.Reference46Ideal.τ).loc Cert.Reference46Ideal.main_v33) = v0 c
          ∧ r.2.mem ((c.tc : Thread Cert.Reference46Ideal.nD Cert.Reference46Ideal.τ).loc Cert.Reference46Ideal.main_arg0) = m' ((c.tc : Thread Cert.Reference46Ideal.nD Cert.Reference46Ideal.τ).loc Cert.Reference46Ideal.main_arg0)
          ∧ r.2.mem ((c.tc : Thread Cert.Reference46Ideal.nD Cert.Reference46Ideal.τ).loc Cert.Reference46Ideal.main_arg1) = m' ((c.tc : Thread Cert.Reference46Ideal.nD Cert.Reference46Ideal.τ).loc Cert.Reference46Ideal.main_arg1))

def preserves_Kernel47_Kernel47Ideal : Prop :=
  True

def algebraic_Kernel47Ideal_Reference47Ideal [hKernel47Ideal : Cert.Kernel47Ideal.Facts] [hReference47Ideal : Cert.Reference47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg)
    (m' : (ℓ : Loc Cert.Reference47Ideal.nD Cert.Reference47Ideal.τ Cert.Reference47Ideal.sig) → Buf (Elt Ideal) ℓ) (g' : Dev Cert.Reference47Ideal.nD → PrngReg), Pre_Kernel47Ideal m →
    (∀ c : Dev Cert.Kernel47Ideal.nD,
      m' ((c.tc : Thread Cert.Reference47Ideal.nD Cert.Reference47Ideal.τ).loc Cert.Reference47Ideal.main_arg0) = m ((c.tc : Thread Cert.Kernel47Ideal.nD Cert.Kernel47Ideal.τ).loc Cert.Kernel47Ideal.main_arg0)
      ∧ m' ((c.tc : Thread Cert.Reference47Ideal.nD Cert.Reference47Ideal.τ).loc Cert.Reference47Ideal.main_arg1) = m ((c.tc : Thread Cert.Kernel47Ideal.nD Cert.Kernel47Ideal.τ).loc Cert.Kernel47Ideal.main_arg1)
      ∧ m' ((c.tc : Thread Cert.Reference47Ideal.nD Cert.Reference47Ideal.τ).loc Cert.Reference47Ideal.main_arg2) = m ((c.tc : Thread Cert.Kernel47Ideal.nD Cert.Kernel47Ideal.τ).loc Cert.Kernel47Ideal.main_arg2)
      ∧ m' ((c.tc : Thread Cert.Reference47Ideal.nD Cert.Reference47Ideal.τ).loc Cert.Reference47Ideal.main_arg3) = m ((c.tc : Thread Cert.Kernel47Ideal.nD Cert.Kernel47Ideal.τ).loc Cert.Kernel47Ideal.main_arg3)
      ∧ m' ((c.tc : Thread Cert.Reference47Ideal.nD Cert.Reference47Ideal.τ).loc Cert.Reference47Ideal.main_arg4) = m ((c.tc : Thread Cert.Kernel47Ideal.nD Cert.Kernel47Ideal.τ).loc Cert.Kernel47Ideal.main_arg4)) →
    ∃ (v0 : (c : Dev Cert.Kernel47Ideal.nD) → Buf (Elt Ideal) ((c.tc : Thread Cert.Kernel47Ideal.nD Cert.Kernel47Ideal.τ).loc Cert.Kernel47Ideal.main_v0_0)) (v1 : (c : Dev Cert.Kernel47Ideal.nD) → Buf (Elt Ideal) ((c.tc : Thread Cert.Kernel47Ideal.nD Cert.Kernel47Ideal.τ).loc Cert.Kernel47Ideal.main_v0_1)) (v2 : (c : Dev Cert.Kernel47Ideal.nD) → Buf (Elt Ideal) ((c.tc : Thread Cert.Kernel47Ideal.nD Cert.Kernel47Ideal.τ).loc Cert.Kernel47Ideal.main_v0_2)),
      θ_run (Cert.Kernel47Ideal.defs (F := Ideal)) (onTc (τ := Cert.Kernel47Ideal.τ) (Cert.Kernel47Ideal.main (F := Ideal))) ⟨m, fun _ => 0, g⟩ (fun r => ∀ c : Dev Cert.Kernel47Ideal.nD,
          r.2.mem ((c.tc : Thread Cert.Kernel47Ideal.nD Cert.Kernel47Ideal.τ).loc Cert.Kernel47Ideal.main_v0_0) = v0 c
          ∧ r.2.mem ((c.tc : Thread Cert.Kernel47Ideal.nD Cert.Kernel47Ideal.τ).loc Cert.Kernel47Ideal.main_v0_1) = v1 c
          ∧ r.2.mem ((c.tc : Thread Cert.Kernel47Ideal.nD Cert.Kernel47Ideal.τ).loc Cert.Kernel47Ideal.main_v0_2) = v2 c
          ∧ r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
          ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1)
          ∧ r.2.mem ((c.tc : Thread Cert.Kernel47Ideal.nD Cert.Kernel47Ideal.τ).loc Cert.Kernel47Ideal.main_arg2) = m ((c.tc : Thread Cert.Kernel47Ideal.nD Cert.Kernel47Ideal.τ).loc Cert.Kernel47Ideal.main_arg2)
          ∧ r.2.mem ((c.tc : Thread Cert.Kernel47Ideal.nD Cert.Kernel47Ideal.τ).loc Cert.Kernel47Ideal.main_arg3) = m ((c.tc : Thread Cert.Kernel47Ideal.nD Cert.Kernel47Ideal.τ).loc Cert.Kernel47Ideal.main_arg3)
          ∧ r.2.mem ((c.tc : Thread Cert.Kernel47Ideal.nD Cert.Kernel47Ideal.τ).loc Cert.Kernel47Ideal.main_arg4) = m ((c.tc : Thread Cert.Kernel47Ideal.nD Cert.Kernel47Ideal.τ).loc Cert.Kernel47Ideal.main_arg4))
      ∧ θ_run (Cert.Reference47Ideal.defs (F := Ideal)) (onTc (τ := Cert.Reference47Ideal.τ) (Cert.Reference47Ideal.main (F := Ideal))) ⟨m', fun _ => 0, g'⟩ (fun r => ∀ c : Dev Cert.Reference47Ideal.nD,
          r.2.mem ((c.tc : Thread Cert.Reference47Ideal.nD Cert.Reference47Ideal.τ).loc Cert.Reference47Ideal.main_v50) = v0 c
          ∧ r.2.mem ((c.tc : Thread Cert.Reference47Ideal.nD Cert.Reference47Ideal.τ).loc Cert.Reference47Ideal.main_v51) = v1 c
          ∧ r.2.mem ((c.tc : Thread Cert.Reference47Ideal.nD Cert.Reference47Ideal.τ).loc Cert.Reference47Ideal.main_v52) = v2 c
          ∧ r.2.mem ((c.tc : Thread Cert.Reference47Ideal.nD Cert.Reference47Ideal.τ).loc Cert.Reference47Ideal.main_arg0) = m' ((c.tc : Thread Cert.Reference47Ideal.nD Cert.Reference47Ideal.τ).loc Cert.Reference47Ideal.main_arg0)
          ∧ r.2.mem ((c.tc : Thread Cert.Reference47Ideal.nD Cert.Reference47Ideal.τ).loc Cert.Reference47Ideal.main_arg1) = m' ((c.tc : Thread Cert.Reference47Ideal.nD Cert.Reference47Ideal.τ).loc Cert.Reference47Ideal.main_arg1)
          ∧ r.2.mem ((c.tc : Thread Cert.Reference47Ideal.nD Cert.Reference47Ideal.τ).loc Cert.Reference47Ideal.main_arg2) = m' ((c.tc : Thread Cert.Reference47Ideal.nD Cert.Reference47Ideal.τ).loc Cert.Reference47Ideal.main_arg2)
          ∧ r.2.mem ((c.tc : Thread Cert.Reference47Ideal.nD Cert.Reference47Ideal.τ).loc Cert.Reference47Ideal.main_arg3) = m' ((c.tc : Thread Cert.Reference47Ideal.nD Cert.Reference47Ideal.τ).loc Cert.Reference47Ideal.main_arg3)
          ∧ r.2.mem ((c.tc : Thread Cert.Reference47Ideal.nD Cert.Reference47Ideal.τ).loc Cert.Reference47Ideal.main_arg4) = m' ((c.tc : Thread Cert.Reference47Ideal.nD Cert.Reference47Ideal.τ).loc Cert.Reference47Ideal.main_arg4))

def preserves_Kernel49_Kernel49Ideal : Prop :=
  True

def algebraic_Kernel49Ideal_Reference49Ideal [hKernel49Ideal : Cert.Kernel49Ideal.Facts] [hReference49Ideal : Cert.Reference49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg)
    (m' : (ℓ : Loc Cert.Reference49Ideal.nD Cert.Reference49Ideal.τ Cert.Reference49Ideal.sig) → Buf (Elt Ideal) ℓ) (g' : Dev Cert.Reference49Ideal.nD → PrngReg), Pre_Kernel49Ideal m →
    (∀ c : Dev Cert.Kernel49Ideal.nD,
      m' ((c.tc : Thread Cert.Reference49Ideal.nD Cert.Reference49Ideal.τ).loc Cert.Reference49Ideal.main_arg0) = m ((c.tc : Thread Cert.Kernel49Ideal.nD Cert.Kernel49Ideal.τ).loc Cert.Kernel49Ideal.main_arg0)
      ∧ m' ((c.tc : Thread Cert.Reference49Ideal.nD Cert.Reference49Ideal.τ).loc Cert.Reference49Ideal.main_arg1) = m ((c.tc : Thread Cert.Kernel49Ideal.nD Cert.Kernel49Ideal.τ).loc Cert.Kernel49Ideal.main_arg1)
      ∧ m' ((c.tc : Thread Cert.Reference49Ideal.nD Cert.Reference49Ideal.τ).loc Cert.Reference49Ideal.main_arg2) = m ((c.tc : Thread Cert.Kernel49Ideal.nD Cert.Kernel49Ideal.τ).loc Cert.Kernel49Ideal.main_arg2)
      ∧ m' ((c.tc : Thread Cert.Reference49Ideal.nD Cert.Reference49Ideal.τ).loc Cert.Reference49Ideal.main_arg3) = m ((c.tc : Thread Cert.Kernel49Ideal.nD Cert.Kernel49Ideal.τ).loc Cert.Kernel49Ideal.main_arg3)
      ∧ m' ((c.tc : Thread Cert.Reference49Ideal.nD Cert.Reference49Ideal.τ).loc Cert.Reference49Ideal.main_arg4) = m ((c.tc : Thread Cert.Kernel49Ideal.nD Cert.Kernel49Ideal.τ).loc Cert.Kernel49Ideal.main_arg4)
      ∧ m' ((c.tc : Thread Cert.Reference49Ideal.nD Cert.Reference49Ideal.τ).loc Cert.Reference49Ideal.main_arg5) = m ((c.tc : Thread Cert.Kernel49Ideal.nD Cert.Kernel49Ideal.τ).loc Cert.Kernel49Ideal.main_arg5)) →
    ∃ (v0 : (c : Dev Cert.Kernel49Ideal.nD) → Buf (Elt Ideal) ((c.tc : Thread Cert.Kernel49Ideal.nD Cert.Kernel49Ideal.τ).loc Cert.Kernel49Ideal.main_v0)),
      θ_run (Cert.Kernel49Ideal.defs (F := Ideal)) (onTc (τ := Cert.Kernel49Ideal.τ) (Cert.Kernel49Ideal.main (F := Ideal))) ⟨m, fun _ => 0, g⟩ (fun r => ∀ c : Dev Cert.Kernel49Ideal.nD,
          r.2.mem ((c.tc : Thread Cert.Kernel49Ideal.nD Cert.Kernel49Ideal.τ).loc Cert.Kernel49Ideal.main_v0) = v0 c
          ∧ r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
          ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1)
          ∧ r.2.mem ((c.tc : Thread Cert.Kernel49Ideal.nD Cert.Kernel49Ideal.τ).loc Cert.Kernel49Ideal.main_arg2) = m ((c.tc : Thread Cert.Kernel49Ideal.nD Cert.Kernel49Ideal.τ).loc Cert.Kernel49Ideal.main_arg2)
          ∧ r.2.mem ((c.tc : Thread Cert.Kernel49Ideal.nD Cert.Kernel49Ideal.τ).loc Cert.Kernel49Ideal.main_arg3) = m ((c.tc : Thread Cert.Kernel49Ideal.nD Cert.Kernel49Ideal.τ).loc Cert.Kernel49Ideal.main_arg3)
          ∧ r.2.mem ((c.tc : Thread Cert.Kernel49Ideal.nD Cert.Kernel49Ideal.τ).loc Cert.Kernel49Ideal.main_arg4) = m ((c.tc : Thread Cert.Kernel49Ideal.nD Cert.Kernel49Ideal.τ).loc Cert.Kernel49Ideal.main_arg4)
          ∧ r.2.mem ((c.tc : Thread Cert.Kernel49Ideal.nD Cert.Kernel49Ideal.τ).loc Cert.Kernel49Ideal.main_arg5) = m ((c.tc : Thread Cert.Kernel49Ideal.nD Cert.Kernel49Ideal.τ).loc Cert.Kernel49Ideal.main_arg5))
      ∧ θ_run (Cert.Reference49Ideal.defs (F := Ideal)) (onTc (τ := Cert.Reference49Ideal.τ) (Cert.Reference49Ideal.main (F := Ideal))) ⟨m', fun _ => 0, g'⟩ (fun r => ∀ c : Dev Cert.Reference49Ideal.nD,
          r.2.mem ((c.tc : Thread Cert.Reference49Ideal.nD Cert.Reference49Ideal.τ).loc Cert.Reference49Ideal.main_v30) = v0 c
          ∧ r.2.mem ((c.tc : Thread Cert.Reference49Ideal.nD Cert.Reference49Ideal.τ).loc Cert.Reference49Ideal.main_arg0) = m' ((c.tc : Thread Cert.Reference49Ideal.nD Cert.Reference49Ideal.τ).loc Cert.Reference49Ideal.main_arg0)
          ∧ r.2.mem ((c.tc : Thread Cert.Reference49Ideal.nD Cert.Reference49Ideal.τ).loc Cert.Reference49Ideal.main_arg1) = m' ((c.tc : Thread Cert.Reference49Ideal.nD Cert.Reference49Ideal.τ).loc Cert.Reference49Ideal.main_arg1)
          ∧ r.2.mem ((c.tc : Thread Cert.Reference49Ideal.nD Cert.Reference49Ideal.τ).loc Cert.Reference49Ideal.main_arg2) = m' ((c.tc : Thread Cert.Reference49Ideal.nD Cert.Reference49Ideal.τ).loc Cert.Reference49Ideal.main_arg2)
          ∧ r.2.mem ((c.tc : Thread Cert.Reference49Ideal.nD Cert.Reference49Ideal.τ).loc Cert.Reference49Ideal.main_arg3) = m' ((c.tc : Thread Cert.Reference49Ideal.nD Cert.Reference49Ideal.τ).loc Cert.Reference49Ideal.main_arg3)
          ∧ r.2.mem ((c.tc : Thread Cert.Reference49Ideal.nD Cert.Reference49Ideal.τ).loc Cert.Reference49Ideal.main_arg4) = m' ((c.tc : Thread Cert.Reference49Ideal.nD Cert.Reference49Ideal.τ).loc Cert.Reference49Ideal.main_arg4)
          ∧ r.2.mem ((c.tc : Thread Cert.Reference49Ideal.nD Cert.Reference49Ideal.τ).loc Cert.Reference49Ideal.main_arg5) = m' ((c.tc : Thread Cert.Reference49Ideal.nD Cert.Reference49Ideal.τ).loc Cert.Reference49Ideal.main_arg5))

def preserves_Kernel50_Kernel50Ideal : Prop :=
  True

def algebraic_Kernel50Ideal_Reference50Ideal [hKernel50Ideal : Cert.Kernel50Ideal.Facts] [hReference50Ideal : Cert.Reference50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg)
    (m' : (ℓ : Loc Cert.Reference50Ideal.nD Cert.Reference50Ideal.τ Cert.Reference50Ideal.sig) → Buf (Elt Ideal) ℓ) (g' : Dev Cert.Reference50Ideal.nD → PrngReg), Pre_Kernel50Ideal m →
    (∀ c : Dev Cert.Kernel50Ideal.nD,
      m' ((c.tc : Thread Cert.Reference50Ideal.nD Cert.Reference50Ideal.τ).loc Cert.Reference50Ideal.main_arg0) = m ((c.tc : Thread Cert.Kernel50Ideal.nD Cert.Kernel50Ideal.τ).loc Cert.Kernel50Ideal.main_arg0)) →
    ∃ (v0 : (c : Dev Cert.Kernel50Ideal.nD) → Buf (Elt Ideal) ((c.tc : Thread Cert.Kernel50Ideal.nD Cert.Kernel50Ideal.τ).loc Cert.Kernel50Ideal.main_v47_0)) (v1 : (c : Dev Cert.Kernel50Ideal.nD) → Buf (Elt Ideal) ((c.tc : Thread Cert.Kernel50Ideal.nD Cert.Kernel50Ideal.τ).loc Cert.Kernel50Ideal.main_v47_1)),
      θ_run (Cert.Kernel50Ideal.defs (F := Ideal)) (onTc (τ := Cert.Kernel50Ideal.τ) (Cert.Kernel50Ideal.main (F := Ideal))) ⟨m, fun _ => 0, g⟩ (fun r => ∀ c : Dev Cert.Kernel50Ideal.nD,
          r.2.mem ((c.tc : Thread Cert.Kernel50Ideal.nD Cert.Kernel50Ideal.τ).loc Cert.Kernel50Ideal.main_v47_0) = v0 c
          ∧ r.2.mem ((c.tc : Thread Cert.Kernel50Ideal.nD Cert.Kernel50Ideal.τ).loc Cert.Kernel50Ideal.main_v47_1) = v1 c
          ∧ r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0))
      ∧ θ_run (Cert.Reference50Ideal.defs (F := Ideal)) (onTc (τ := Cert.Reference50Ideal.τ) (Cert.Reference50Ideal.main (F := Ideal))) ⟨m', fun _ => 0, g'⟩ (fun r => ∀ c : Dev Cert.Reference50Ideal.nD,
          r.2.mem ((c.tc : Thread Cert.Reference50Ideal.nD Cert.Reference50Ideal.τ).loc Cert.Reference50Ideal.main_v127) = v0 c
          ∧ r.2.mem ((c.tc : Thread Cert.Reference50Ideal.nD Cert.Reference50Ideal.τ).loc Cert.Reference50Ideal.main_v128) = v1 c
          ∧ r.2.mem ((c.tc : Thread Cert.Reference50Ideal.nD Cert.Reference50Ideal.τ).loc Cert.Reference50Ideal.main_arg0) = m' ((c.tc : Thread Cert.Reference50Ideal.nD Cert.Reference50Ideal.τ).loc Cert.Reference50Ideal.main_arg0))

def preserves_Kernel51_Kernel51Ideal : Prop :=
  True

def algebraic_Kernel51Ideal_Reference51Ideal [hKernel51Ideal : Cert.Kernel51Ideal.Facts] [hReference51Ideal : Cert.Reference51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg)
    (m' : (ℓ : Loc Cert.Reference51Ideal.nD Cert.Reference51Ideal.τ Cert.Reference51Ideal.sig) → Buf (Elt Ideal) ℓ) (g' : Dev Cert.Reference51Ideal.nD → PrngReg), Pre_Kernel51Ideal m →
    (∀ c : Dev Cert.Kernel51Ideal.nD,
      m' ((c.tc : Thread Cert.Reference51Ideal.nD Cert.Reference51Ideal.τ).loc Cert.Reference51Ideal.main_arg0) = m ((c.tc : Thread Cert.Kernel51Ideal.nD Cert.Kernel51Ideal.τ).loc Cert.Kernel51Ideal.main_arg0)
      ∧ m' ((c.tc : Thread Cert.Reference51Ideal.nD Cert.Reference51Ideal.τ).loc Cert.Reference51Ideal.main_arg1) = m ((c.tc : Thread Cert.Kernel51Ideal.nD Cert.Kernel51Ideal.τ).loc Cert.Kernel51Ideal.main_arg1)) →
    ∃ (v0 : (c : Dev Cert.Kernel51Ideal.nD) → Buf (Elt Ideal) ((c.tc : Thread Cert.Kernel51Ideal.nD Cert.Kernel51Ideal.τ).loc Cert.Kernel51Ideal.main_v47_0)) (v1 : (c : Dev Cert.Kernel51Ideal.nD) → Buf (Elt Ideal) ((c.tc : Thread Cert.Kernel51Ideal.nD Cert.Kernel51Ideal.τ).loc Cert.Kernel51Ideal.main_v47_1)),
      θ_run (Cert.Kernel51Ideal.defs (F := Ideal)) (onTc (τ := Cert.Kernel51Ideal.τ) (Cert.Kernel51Ideal.main (F := Ideal))) ⟨m, fun _ => 0, g⟩ (fun r => ∀ c : Dev Cert.Kernel51Ideal.nD,
          r.2.mem ((c.tc : Thread Cert.Kernel51Ideal.nD Cert.Kernel51Ideal.τ).loc Cert.Kernel51Ideal.main_v47_0) = v0 c
          ∧ r.2.mem ((c.tc : Thread Cert.Kernel51Ideal.nD Cert.Kernel51Ideal.τ).loc Cert.Kernel51Ideal.main_v47_1) = v1 c
          ∧ r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
          ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1))
      ∧ θ_run (Cert.Reference51Ideal.defs (F := Ideal)) (onTc (τ := Cert.Reference51Ideal.τ) (Cert.Reference51Ideal.main (F := Ideal))) ⟨m', fun _ => 0, g'⟩ (fun r => ∀ c : Dev Cert.Reference51Ideal.nD,
          r.2.mem ((c.tc : Thread Cert.Reference51Ideal.nD Cert.Reference51Ideal.τ).loc Cert.Reference51Ideal.main_v190) = v0 c
          ∧ r.2.mem ((c.tc : Thread Cert.Reference51Ideal.nD Cert.Reference51Ideal.τ).loc Cert.Reference51Ideal.main_v156) = v1 c
          ∧ r.2.mem ((c.tc : Thread Cert.Reference51Ideal.nD Cert.Reference51Ideal.τ).loc Cert.Reference51Ideal.main_arg0) = m' ((c.tc : Thread Cert.Reference51Ideal.nD Cert.Reference51Ideal.τ).loc Cert.Reference51Ideal.main_arg0)
          ∧ r.2.mem ((c.tc : Thread Cert.Reference51Ideal.nD Cert.Reference51Ideal.τ).loc Cert.Reference51Ideal.main_arg1) = m' ((c.tc : Thread Cert.Reference51Ideal.nD Cert.Reference51Ideal.τ).loc Cert.Reference51Ideal.main_arg1))

def preserves_Kernel52_Kernel52Ideal : Prop :=
  True

def algebraic_Kernel52Ideal_Reference52Ideal [hKernel52Ideal : Cert.Kernel52Ideal.Facts] [hReference52Ideal : Cert.Reference52Ideal.Facts] : Prop :=
  ∀ (m : (ℓ : Loc Cert.Kernel52Ideal.nD Cert.Kernel52Ideal.τ Cert.Kernel52Ideal.sig) → Buf (Elt Ideal) ℓ) (g : Dev Cert.Kernel52Ideal.nD → PrngReg)
    (m' : (ℓ : Loc Cert.Reference52Ideal.nD Cert.Reference52Ideal.τ Cert.Reference52Ideal.sig) → Buf (Elt Ideal) ℓ) (g' : Dev Cert.Reference52Ideal.nD → PrngReg), Pre_Kernel52Ideal m →
    (∀ c : Dev Cert.Kernel52Ideal.nD,
      m' ((c.tc : Thread Cert.Reference52Ideal.nD Cert.Reference52Ideal.τ).loc Cert.Reference52Ideal.main_arg0) = m ((c.tc : Thread Cert.Kernel52Ideal.nD Cert.Kernel52Ideal.τ).loc Cert.Kernel52Ideal.main_arg0)
      ∧ m' ((c.tc : Thread Cert.Reference52Ideal.nD Cert.Reference52Ideal.τ).loc Cert.Reference52Ideal.main_arg1) = m ((c.tc : Thread Cert.Kernel52Ideal.nD Cert.Kernel52Ideal.τ).loc Cert.Kernel52Ideal.main_arg1)
      ∧ m' ((c.tc : Thread Cert.Reference52Ideal.nD Cert.Reference52Ideal.τ).loc Cert.Reference52Ideal.main_arg2) = m ((c.tc : Thread Cert.Kernel52Ideal.nD Cert.Kernel52Ideal.τ).loc Cert.Kernel52Ideal.main_arg2)) →
    ∃ (v0 : (c : Dev Cert.Kernel52Ideal.nD) → Buf (Elt Ideal) ((c.tc : Thread Cert.Kernel52Ideal.nD Cert.Kernel52Ideal.τ).loc Cert.Kernel52Ideal.main_v0_0)) (v1 : (c : Dev Cert.Kernel52Ideal.nD) → Buf (Elt Ideal) ((c.tc : Thread Cert.Kernel52Ideal.nD Cert.Kernel52Ideal.τ).loc Cert.Kernel52Ideal.main_v0_1)) (v2 : (c : Dev Cert.Kernel52Ideal.nD) → Buf (Elt Ideal) ((c.tc : Thread Cert.Kernel52Ideal.nD Cert.Kernel52Ideal.τ).loc Cert.Kernel52Ideal.main_v0_2)) (v3 : (c : Dev Cert.Kernel52Ideal.nD) → Buf (Elt Ideal) ((c.tc : Thread Cert.Kernel52Ideal.nD Cert.Kernel52Ideal.τ).loc Cert.Kernel52Ideal.main_v0_3)),
      θ_run (Cert.Kernel52Ideal.defs (F := Ideal)) (onTc (τ := Cert.Kernel52Ideal.τ) (Cert.Kernel52Ideal.main (F := Ideal))) ⟨m, fun _ => 0, g⟩ (fun r => ∀ c : Dev Cert.Kernel52Ideal.nD,
          r.2.mem ((c.tc : Thread Cert.Kernel52Ideal.nD Cert.Kernel52Ideal.τ).loc Cert.Kernel52Ideal.main_v0_0) = v0 c
          ∧ r.2.mem ((c.tc : Thread Cert.Kernel52Ideal.nD Cert.Kernel52Ideal.τ).loc Cert.Kernel52Ideal.main_v0_1) = v1 c
          ∧ r.2.mem ((c.tc : Thread Cert.Kernel52Ideal.nD Cert.Kernel52Ideal.τ).loc Cert.Kernel52Ideal.main_v0_2) = v2 c
          ∧ r.2.mem ((c.tc : Thread Cert.Kernel52Ideal.nD Cert.Kernel52Ideal.τ).loc Cert.Kernel52Ideal.main_v0_3) = v3 c
          ∧ r.2.mem ((c.tc : Thread Cert.Kernel52Ideal.nD Cert.Kernel52Ideal.τ).loc Cert.Kernel52Ideal.main_arg0) = m ((c.tc : Thread Cert.Kernel52Ideal.nD Cert.Kernel52Ideal.τ).loc Cert.Kernel52Ideal.main_arg0)
          ∧ r.2.mem ((c.tc : Thread Cert.Kernel52Ideal.nD Cert.Kernel52Ideal.τ).loc Cert.Kernel52Ideal.main_arg1) = m ((c.tc : Thread Cert.Kernel52Ideal.nD Cert.Kernel52Ideal.τ).loc Cert.Kernel52Ideal.main_arg1)
          ∧ r.2.mem ((c.tc : Thread Cert.Kernel52Ideal.nD Cert.Kernel52Ideal.τ).loc Cert.Kernel52Ideal.main_arg2) = m ((c.tc : Thread Cert.Kernel52Ideal.nD Cert.Kernel52Ideal.τ).loc Cert.Kernel52Ideal.main_arg2))
      ∧ θ_run (Cert.Reference52Ideal.defs (F := Ideal)) (onTc (τ := Cert.Reference52Ideal.τ) (Cert.Reference52Ideal.main (F := Ideal))) ⟨m', fun _ => 0, g'⟩ (fun r => ∀ c : Dev Cert.Reference52Ideal.nD,
          r.2.mem ((c.tc : Thread Cert.Reference52Ideal.nD Cert.Reference52Ideal.τ).loc Cert.Reference52Ideal.main_v75) = v0 c
          ∧ r.2.mem ((c.tc : Thread Cert.Reference52Ideal.nD Cert.Reference52Ideal.τ).loc Cert.Reference52Ideal.main_v76) = v1 c
          ∧ r.2.mem ((c.tc : Thread Cert.Reference52Ideal.nD Cert.Reference52Ideal.τ).loc Cert.Reference52Ideal.main_v77) = v2 c
          ∧ r.2.mem ((c.tc : Thread Cert.Reference52Ideal.nD Cert.Reference52Ideal.τ).loc Cert.Reference52Ideal.main_v79) = v3 c
          ∧ r.2.mem ((c.tc : Thread Cert.Reference52Ideal.nD Cert.Reference52Ideal.τ).loc Cert.Reference52Ideal.main_arg0) = m' ((c.tc : Thread Cert.Reference52Ideal.nD Cert.Reference52Ideal.τ).loc Cert.Reference52Ideal.main_arg0)
          ∧ r.2.mem ((c.tc : Thread Cert.Reference52Ideal.nD Cert.Reference52Ideal.τ).loc Cert.Reference52Ideal.main_arg1) = m' ((c.tc : Thread Cert.Reference52Ideal.nD Cert.Reference52Ideal.τ).loc Cert.Reference52Ideal.main_arg1)
          ∧ r.2.mem ((c.tc : Thread Cert.Reference52Ideal.nD Cert.Reference52Ideal.τ).loc Cert.Reference52Ideal.main_arg2) = m' ((c.tc : Thread Cert.Reference52Ideal.nD Cert.Reference52Ideal.τ).loc Cert.Reference52Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hKernel46 : Cert.Kernel46.Facts) (hKernel46Ideal : Cert.Kernel46Ideal.Facts) (hReference46Ideal : Cert.Reference46Ideal.Facts) (hKernel47 : Cert.Kernel47.Facts) (hKernel47Ideal : Cert.Kernel47Ideal.Facts) (hReference47Ideal : Cert.Reference47Ideal.Facts) (hKernel49 : Cert.Kernel49.Facts) (hKernel49Ideal : Cert.Kernel49Ideal.Facts) (hReference49Ideal : Cert.Reference49Ideal.Facts) (hKernel50 : Cert.Kernel50.Facts) (hKernel50Ideal : Cert.Kernel50Ideal.Facts) (hReference50Ideal : Cert.Reference50Ideal.Facts) (hKernel51 : Cert.Kernel51.Facts) (hKernel51Ideal : Cert.Kernel51Ideal.Facts) (hReference51Ideal : Cert.Reference51Ideal.Facts) (hKernel52 : Cert.Kernel52.Facts) (hKernel52Ideal : Cert.Kernel52Ideal.Facts) (hReference52Ideal : Cert.Reference52Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ quiescent_Kernel46 (hKernel46 := hKernel46)
    ∧ quiescent_Kernel46Ideal (hKernel46Ideal := hKernel46Ideal)
    ∧ quiescent_Reference46Ideal (hReference46Ideal := hReference46Ideal)
    ∧ quiescent_Kernel47 (hKernel47 := hKernel47)
    ∧ quiescent_Kernel47Ideal (hKernel47Ideal := hKernel47Ideal)
    ∧ quiescent_Reference47Ideal (hReference47Ideal := hReference47Ideal)
    ∧ quiescent_Kernel49 (hKernel49 := hKernel49)
    ∧ quiescent_Kernel49Ideal (hKernel49Ideal := hKernel49Ideal)
    ∧ quiescent_Reference49Ideal (hReference49Ideal := hReference49Ideal)
    ∧ quiescent_Kernel50 (hKernel50 := hKernel50)
    ∧ quiescent_Kernel50Ideal (hKernel50Ideal := hKernel50Ideal)
    ∧ quiescent_Reference50Ideal (hReference50Ideal := hReference50Ideal)
    ∧ quiescent_Kernel51 (hKernel51 := hKernel51)
    ∧ quiescent_Kernel51Ideal (hKernel51Ideal := hKernel51Ideal)
    ∧ quiescent_Reference51Ideal (hReference51Ideal := hReference51Ideal)
    ∧ quiescent_Kernel52 (hKernel52 := hKernel52)
    ∧ quiescent_Kernel52Ideal (hKernel52Ideal := hKernel52Ideal)
    ∧ quiescent_Reference52Ideal (hReference52Ideal := hReference52Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
    ∧ preserves_Kernel46_Kernel46Ideal
    ∧ algebraic_Kernel46Ideal_Reference46Ideal (hKernel46Ideal := hKernel46Ideal) (hReference46Ideal := hReference46Ideal)
    ∧ preserves_Kernel47_Kernel47Ideal
    ∧ algebraic_Kernel47Ideal_Reference47Ideal (hKernel47Ideal := hKernel47Ideal) (hReference47Ideal := hReference47Ideal)
    ∧ preserves_Kernel49_Kernel49Ideal
    ∧ algebraic_Kernel49Ideal_Reference49Ideal (hKernel49Ideal := hKernel49Ideal) (hReference49Ideal := hReference49Ideal)
    ∧ preserves_Kernel50_Kernel50Ideal
    ∧ algebraic_Kernel50Ideal_Reference50Ideal (hKernel50Ideal := hKernel50Ideal) (hReference50Ideal := hReference50Ideal)
    ∧ preserves_Kernel51_Kernel51Ideal
    ∧ algebraic_Kernel51Ideal_Reference51Ideal (hKernel51Ideal := hKernel51Ideal) (hReference51Ideal := hReference51Ideal)
    ∧ preserves_Kernel52_Kernel52Ideal
    ∧ algebraic_Kernel52Ideal_Reference52Ideal (hKernel52Ideal := hKernel52Ideal) (hReference52Ideal := hReference52Ideal)
-- ==== Kernel.lean ====
abbrev S9216x1792 : Shape := ⟨2, ![9216, 1792]⟩
abbrev S3x256 : Shape := ⟨2, ![3, 256]⟩
abbrev S9216x768 : Shape := ⟨2, ![9216, 768]⟩
abbrev S8192x256 : Shape := ⟨2, ![8192, 256]⟩
abbrev S8x256 : Shape := ⟨2, ![8, 256]⟩
abbrev S2048x256 : Shape := ⟨2, ![2048, 256]⟩
abbrev S1x256 : Shape := ⟨2, ![1, 256]⟩
abbrev S256 : Shape := ⟨1, ![256]⟩

abbrev nBuf : Space → Nat
  | .hbm => 7
  | .vmem => 16
  | .smem => 0
  | _ => 0

abbrev bufTy : (tb : Table) → Fin (tcTables nBuf tb) → BufTy
  | .hbm, ⟨0, _⟩ => ⟨S9216x1792, .f32⟩
  | .hbm, ⟨1, _⟩ => ⟨S3x256, .f32⟩
  | .hbm, ⟨2, _⟩ => ⟨S9216x768, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S3x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S8x256, .f32⟩
  | _, _ => ⟨S9216x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c3_i32 : BitVec 32 := 3#32
  let c0_i32_0 : BitVec 32 := 0#32
  ![v0.toNat, c3_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c4_i32 : BitVec 32 := 4#32
  let c0_i32_0 : BitVec 32 := 0#32
  ![v0.toNat, c4_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c5_i32 : BitVec 32 := 5#32
  let c0_i32_0 : BitVec 32 := 0#32
  ![v0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c2_i32 : BitVec 32 := 2#32
  let c0_i32_0 : BitVec 32 := 0#32
  ![v0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S9216x1792 : Shape := ⟨2, ![9216, 1792]⟩
abbrev S3x256 : Shape := ⟨2, ![3, 256]⟩
abbrev S9216x768 : Shape := ⟨2, ![9216, 768]⟩
abbrev S8192x1792 : Shape := ⟨2, ![8192, 1792]⟩
abbrev S4x2048x1792 : Shape := ⟨3, ![4, 2048, 1792]⟩
abbrev S4x2048x512 : Shape := ⟨3, ![4, 2048, 512]⟩
abbrev S4x2048x128 : Shape := ⟨3, ![4, 2048, 128]⟩
abbrev S4x2048x256 : Shape := ⟨3, ![4, 2048, 256]⟩
abbrev S8192x256 : Shape := ⟨2, ![8192, 256]⟩
abbrev S_ : Shape := ⟨0, ![]⟩
abbrev S4x1x256 : Shape := ⟨3, ![4, 1, 256]⟩
abbrev S4x2050x256 : Shape := ⟨3, ![4, 2050, 256]⟩
abbrev S1x256 : Shape := ⟨2, ![1, 256]⟩
abbrev S256 : Shape := ⟨1, ![256]⟩
abbrev S1x1x256 : Shape := ⟨3, ![1, 1, 256]⟩
abbrev S5x256 : Shape := ⟨2, ![5, 256]⟩
abbrev S8x256 : Shape := ⟨2, ![8, 256]⟩

abbrev nBuf : Space → Nat
  | .hbm => 99
  | .vmem => 0
  | .smem => 0
  | _ => 0

abbrev bufTy : (tb : Table) → Fin (tcTables nBuf tb) → BufTy
  | .hbm, ⟨0, _⟩ => ⟨S9216x1792, .f32⟩
  | .hbm, ⟨1, _⟩ => ⟨S3x256, .f32⟩
  | .hbm, ⟨2, _⟩ => ⟨S9216x768, .f32⟩
  | .hbm, ⟨3, _⟩ => ⟨S8192x1792, .f32⟩
  | .hbm, ⟨4, _⟩ => ⟨S4x2048x1792, .f32⟩
  | .hbm, ⟨5, _⟩ => ⟨S4x2048x512, .f32⟩
  | .hbm, ⟨6, _⟩ => ⟨S4x2048x128, .f32⟩
  | .hbm, ⟨7, _⟩ => ⟨S4x2048x128, .f32⟩
  | .hbm, ⟨8, _⟩ => ⟨S4x2048x256, .f32⟩
  | .hbm, ⟨9, _⟩ => ⟨S4x2048x256, .f32⟩
  | .hbm, ⟨10, _⟩ => ⟨S4x2048x256, .f32⟩
  | .hbm, ⟨11, _⟩ => ⟨S4x2048x256, .f32⟩
  | .hbm, ⟨12, _⟩ => ⟨S8192x256, .f32⟩
  | .hbm, ⟨13, _⟩ => ⟨S4x2048x256, .f32⟩
  | .hbm, ⟨14, _⟩ => ⟨S4x2048x256, .f32⟩
  | .hbm, ⟨15, _⟩ => ⟨S_, .f32⟩
  | .hbm, ⟨16, _⟩ => ⟨S4x1x256, .f32⟩
  | .hbm, ⟨17, _⟩ => ⟨S4x2050x256, .f32⟩
  | .hbm, ⟨18, _⟩ => ⟨S_, .f32⟩
  | .hbm, ⟨19, _⟩ => ⟨S4x1x256, .f32⟩
  | .hbm, ⟨20, _⟩ => ⟨S_, .f32⟩
  | .hbm, ⟨21, _⟩ => ⟨S4x1x256, .f32⟩
  | .hbm, ⟨22, _⟩ => ⟨S4x2048x256, .f32⟩
  | .hbm, ⟨23, _⟩ => ⟨S1x256, .f32⟩
  | .hbm, ⟨24, _⟩ => ⟨S256, .f32⟩
  | .hbm, ⟨25, _⟩ => ⟨S1x1x256, .f32⟩
  | .hbm, ⟨26, _⟩ => ⟨S4x2048x256, .f32⟩
  | .hbm, ⟨27, _⟩ => ⟨S4x2048x256, .f32⟩
  | .hbm, ⟨28, _⟩ => ⟨S4x2048x256, .f32⟩
  | .hbm, ⟨29, _⟩ => ⟨S1x256, .f32⟩
  | .hbm, ⟨30, _⟩ => ⟨S256, .f32⟩
  | .hbm, ⟨31, _⟩ => ⟨S1x1x256, .f32⟩
  | .hbm, ⟨32, _⟩ => ⟨S4x2048x256, .f32⟩
  | .hbm, ⟨33, _⟩ => ⟨S4x2048x256, .f32⟩
  | .hbm, ⟨34, _⟩ => ⟨S4x2048x256, .f32⟩
  | .hbm, ⟨35, _⟩ => ⟨S4x2048x256, .f32⟩
  | .hbm, ⟨36, _⟩ => ⟨S1x256, .f32⟩
  | .hbm, ⟨37, _⟩ => ⟨S256, .f32⟩
  | .hbm, ⟨38, _⟩ => ⟨S1x1x256, .f32⟩
  | .hbm, ⟨39, _⟩ => ⟨S4x2048x256, .f32⟩
  | .hbm, ⟨40, _⟩ => ⟨S4x2048x256, .f32⟩
  | .hbm, ⟨41, _⟩ => ⟨S4x2048x256, .f32⟩
  | .hbm, ⟨42, _⟩ => ⟨S4x2048x256, .f32⟩
  | .hbm, ⟨43, _⟩ => ⟨S4x2048x256, .f32⟩
  | .hbm, ⟨44, _⟩ => ⟨S4x2048x256, .f32⟩
  | .hbm, ⟨45, _⟩ => ⟨S4x2048x256, .f32⟩
  | .hbm, ⟨46, _⟩ => ⟨S_, .f32⟩
  | .hbm, ⟨47, _⟩ => ⟨S256, .f32⟩
  | .hbm, ⟨48, _⟩ => ⟨S1x1x256, .f32⟩
  | .hbm, ⟨49, _⟩ => ⟨S4x2048x256, .f32⟩
  | .hbm, ⟨50, _⟩ => ⟨S4x2048x256, .f32⟩
  | .hbm, ⟨51, _⟩ => ⟨S_, .f32⟩
  | .hbm, ⟨52, _⟩ => ⟨S256, .f32⟩
  | .hbm, ⟨53, _⟩ => ⟨S1x256, .f32⟩
  | .hbm, ⟨54, _⟩ => ⟨S_, .f32⟩
  | .hbm, ⟨55, _⟩ => ⟨S3x256, .f32⟩
  | .hbm, ⟨56, _⟩ => ⟨S_, .f32⟩
  | .hbm, ⟨57, _⟩ => ⟨S4x2050x256, .f32⟩
  | .hbm, ⟨58, _⟩ => ⟨S4x2048x256, .f32⟩
  | .hbm, ⟨59, _⟩ => ⟨S_, .f32⟩
  | .hbm, ⟨60, _⟩ => ⟨S256, .f32⟩
  | .hbm, ⟨61, _⟩ => ⟨S1x1x256, .f32⟩
  | .hbm, ⟨62, _⟩ => ⟨S4x2048x256, .f32⟩
  | .hbm, ⟨63, _⟩ => ⟨S4x2048x256, .f32⟩
  | .hbm, ⟨64, _⟩ => ⟨S_, .f32⟩
  | .hbm, ⟨65, _⟩ => ⟨S256, .f32⟩
  | .hbm, ⟨66, _⟩ => ⟨S1x256, .f32⟩
  | .hbm, ⟨67, _⟩ => ⟨S_, .f32⟩
  | .hbm, ⟨68, _⟩ => ⟨S3x256, .f32⟩
  | .hbm, ⟨69, _⟩ => ⟨S3x256, .f32⟩
  | .hbm, ⟨70, _⟩ => ⟨S_, .f32⟩
  | .hbm, ⟨71, _⟩ => ⟨S4x2050x256, .f32⟩
  | .hbm, ⟨72, _⟩ => ⟨S4x2050x256, .f32⟩
  | .hbm, ⟨73, _⟩ => ⟨S4x2048x256, .f32⟩
  | .hbm, ⟨74, _⟩ => ⟨S_, .f32⟩
  | .hbm, ⟨75, _⟩ => ⟨S256, .f32⟩
  | .hbm, ⟨76, _⟩ => ⟨S1x1x256, .f32⟩
  | .hbm, ⟨77, _⟩ => ⟨S4x2048x256, .f32⟩
  | .hbm, ⟨78, _⟩ => ⟨S4x2048x256, .f32⟩
  | .hbm, ⟨79, _⟩ => ⟨S_, .f32⟩
  | .hbm, ⟨80, _⟩ => ⟨S256, .f32⟩
  | .hbm, ⟨81, _⟩ => ⟨S1x256, .f32⟩
  | .hbm, ⟨82, _⟩ => ⟨S_, .f32⟩
  | .hbm, ⟨83, _⟩ => ⟨S3x256, .f32⟩
  | .hbm, ⟨84, _⟩ => ⟨S3x256, .f32⟩
  | .hbm, ⟨85, _⟩ => ⟨S_, .f32⟩
  | .hbm, ⟨86, _⟩ => ⟨S4x2050x256, .f32⟩
  | .hbm, ⟨87, _⟩ => ⟨S4x2050x256, .f32⟩
  | .hbm, ⟨88, _⟩ => ⟨S4x1x256, .f32⟩
  | .hbm, ⟨89, _⟩ => ⟨S4x2048x256, .f32⟩
  | .hbm, ⟨90, _⟩ => ⟨S4x1x256, .f32⟩
  | .hbm, ⟨91, _⟩ => ⟨S4x2048x256, .f32⟩
  | .hbm, ⟨92, _⟩ => ⟨S4x2048x256, .f32⟩
  | .hbm, ⟨93, _⟩ => ⟨S8192x256, .f32⟩
  | .hbm, ⟨94, _⟩ => ⟨S8192x256, .f32⟩
  | .hbm, ⟨95, _⟩ => ⟨S8192x256, .f32⟩
  | .hbm, ⟨96, _⟩ => ⟨S_, .f32⟩
  | .hbm, ⟨97, _⟩ => ⟨S5x256, .f32⟩
  | .hbm, ⟨98, _⟩ => ⟨S8x256, .f32⟩
  | _, _ => ⟨S9216x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_3 : Ref sig .tc := ⟨.hbm, 51, rfl⟩
abbrev main_v44 : Ref sig .tc := ⟨.hbm, 52, rfl⟩
abbrev main_v45 : Ref sig .tc := ⟨.hbm, 53, rfl⟩
abbrev main_cst_4 : Ref sig .tc := ⟨.hbm, 54, rfl⟩
abbrev main_v46 : Ref sig .tc := ⟨.hbm, 55, rfl⟩
abbrev main_cst_5 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_7 : Ref sig .tc := ⟨.hbm, 64, rfl⟩
abbrev main_v53 : Ref sig .tc := ⟨.hbm, 65, rfl⟩
abbrev main_v54 : Ref sig .tc := ⟨.hbm, 66, rfl⟩
abbrev main_cst_8 : Ref sig .tc := ⟨.hbm, 67, rfl⟩
abbrev main_v55 : Ref sig .tc := ⟨.hbm, 68, rfl⟩
abbrev main_v56 : Ref sig .tc := ⟨.hbm, 69, rfl⟩
abbrev main_cst_9 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_10 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_11 : Ref sig .tc := ⟨.hbm, 79, rfl⟩
abbrev main_v64 : Ref sig .tc := ⟨.hbm, 80, rfl⟩
abbrev main_v65 : Ref sig .tc := ⟨.hbm, 81, rfl⟩
abbrev main_cst_12 : Ref sig .tc := ⟨.hbm, 82, rfl⟩
abbrev main_v66 : Ref sig .tc := ⟨.hbm, 83, rfl⟩
abbrev main_v67 : Ref sig .tc := ⟨.hbm, 84, rfl⟩
abbrev main_cst_13 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_14 : Ref sig .tc := ⟨.hbm, 96, rfl⟩
abbrev main_v78 : Ref sig .tc := ⟨.hbm, 97, rfl⟩
abbrev main_v79 : Ref sig .tc := ⟨.hbm, 98, rfl⟩

abbrev nD : Nat := 1
abbrev τ : Topo := Topo.v7x

variable {F : FTy → Type} [FloatOps F]
-- ==== Kernel2.lean ====
abbrev S9216x1024 : Shape := ⟨2, ![9216, 1024]⟩
abbrev S4096x1024 : Shape := ⟨2, ![4096, 1024]⟩
abbrev S9216x4096 : Shape := ⟨2, ![9216, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S9216x1024, .bf16⟩
  | .hbm, ⟨1, _⟩ => ⟨S4096x1024, .bf16⟩
  | .hbm, ⟨2, _⟩ => ⟨S9216x4096, .bf16⟩
  | .hbm, ⟨3, _⟩ => ⟨S9216x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![9, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel2Ideal.lean ====
abbrev S9216x1024 : Shape := ⟨2, ![9216, 1024]⟩
abbrev S4096x1024 : Shape := ⟨2, ![4096, 1024]⟩
abbrev S9216x4096 : Shape := ⟨2, ![9216, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S9216x1024, .bf16⟩
  | .hbm, ⟨1, _⟩ => ⟨S4096x1024, .bf16⟩
  | .hbm, ⟨2, _⟩ => ⟨S9216x4096, .bf16⟩
  | .hbm, ⟨3, _⟩ => ⟨S9216x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![9, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S9216x1024 : Shape := ⟨2, ![9216, 1024]⟩
abbrev S4096x1024 : Shape := ⟨2, ![4096, 1024]⟩
abbrev S9216x4096 : Shape := ⟨2, ![9216, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S4096x1024, .bf16⟩
  | .hbm, ⟨2, _⟩ => ⟨S9216x4096, .bf16⟩
  | .hbm, ⟨3, _⟩ => ⟨S9216x4096, .f32⟩
  | .hbm, ⟨4, _⟩ => ⟨S_, .f32⟩
  | .hbm, ⟨5, _⟩ => ⟨S9216x4096, .f32⟩
  | .hbm, ⟨6, _⟩ => ⟨S9216x4096, .f32⟩
  | .hbm, ⟨7, _⟩ => ⟨S_, .f32⟩
  | .hbm, ⟨8, _⟩ => ⟨S9216x4096, .f32⟩
  | .hbm, ⟨9, _⟩ => ⟨S9216x4096, .i1⟩
  | .hbm, ⟨10, _⟩ => ⟨S_, .f32⟩
  | .hbm, ⟨11, _⟩ => ⟨S9216x4096, .f32⟩
  | .hbm, ⟨12, _⟩ => ⟨S9216x4096, .f32⟩
  | .hbm, ⟨13, _⟩ => ⟨S_, .f32⟩
  | .hbm, ⟨14, _⟩ => ⟨S9216x4096, .f32⟩
  | .hbm, ⟨15, _⟩ => ⟨S9216x4096, .f32⟩
  | .hbm, ⟨16, _⟩ => ⟨S4096x1024, .f32⟩
  | .hbm, ⟨17, _⟩ => ⟨S9216x1024, .f32⟩
  | .hbm, ⟨18, _⟩ => ⟨S9216x1024, .f32⟩
  | .hbm, ⟨19, _⟩ => ⟨S9216x4096, .f32⟩
  | .hbm, ⟨20, _⟩ => ⟨S9216x4096, .f32⟩
  | .hbm, ⟨21, _⟩ => ⟨S_, .f32⟩
  | .hbm, ⟨22, _⟩ => ⟨S9216x4096, .f32⟩
  | .hbm, ⟨23, _⟩ => ⟨S9216x4096, .f32⟩
  | .hbm, ⟨24, _⟩ => ⟨S9216x4096, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel3.lean ====
abbrev S9216x4096 : Shape := ⟨2, ![9216, 4096]⟩
abbrev S4096x1024 : Shape := ⟨2, ![4096, 1024]⟩
abbrev S9216x1024 : Shape := ⟨2, ![9216, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S4096x1024, .bf16⟩
  | .hbm, ⟨2, _⟩ => ⟨S9216x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel3Ideal.lean ====
abbrev S9216x4096 : Shape := ⟨2, ![9216, 4096]⟩
abbrev S4096x1024 : Shape := ⟨2, ![4096, 1024]⟩
abbrev S9216x1024 : Shape := ⟨2, ![9216, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S4096x1024, .bf16⟩
  | .hbm, ⟨2, _⟩ => ⟨S9216x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S9216x4096 : Shape := ⟨2, ![9216, 4096]⟩
abbrev S4096x1024 : Shape := ⟨2, ![4096, 1024]⟩
abbrev S_ : Shape := ⟨0, ![]⟩
abbrev S9216x1024 : Shape := ⟨2, ![9216, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S4096x1024, .bf16⟩
  | .hbm, ⟨2, _⟩ => ⟨S_, .f32⟩
  | .hbm, ⟨3, _⟩ => ⟨S9216x1024, .f32⟩
  | .hbm, ⟨4, _⟩ => ⟨S4096x1024, .f32⟩
  | .hbm, ⟨5, _⟩ => ⟨S1024x4096, .f32⟩
  | .hbm, ⟨6, _⟩ => ⟨S9216x4096, .f32⟩
  | .hbm, ⟨7, _⟩ => ⟨S9216x4096, .f32⟩
  | .hbm, ⟨8, _⟩ => ⟨S9216x1024, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S9216x4096 : Shape := ⟨2, ![9216, 4096]⟩
abbrev S9216x1024 : Shape := ⟨2, ![9216, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S9216x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 9], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel4Ideal.lean ====
abbrev S9216x4096 : Shape := ⟨2, ![9216, 4096]⟩
abbrev S9216x1024 : Shape := ⟨2, ![9216, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S9216x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 9], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S9216x4096 : Shape := ⟨2, ![9216, 4096]⟩
abbrev S9216x1024 : Shape := ⟨2, ![9216, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S9216x1024, .bf16⟩
  | .hbm, ⟨2, _⟩ => ⟨S_, .f32⟩
  | .hbm, ⟨3, _⟩ => ⟨S4096x1024, .f32⟩
  | .hbm, ⟨4, _⟩ => ⟨S9216x4096, .f32⟩
  | .hbm, ⟨5, _⟩ => ⟨S9216x1024, .f32⟩
  | .hbm, ⟨6, _⟩ => ⟨S9216x1024, .f32⟩
  | .hbm, ⟨7, _⟩ => ⟨S1024x4096, .f32⟩
  | .hbm, ⟨8, _⟩ => ⟨S4096x1024, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S9216x1024 : Shape := ⟨2, ![9216, 1024]⟩
abbrev S4096x1024 : Shape := ⟨2, ![4096, 1024]⟩
abbrev S9216x4096 : Shape := ⟨2, ![9216, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S9216x1024, .bf16⟩
  | .hbm, ⟨1, _⟩ => ⟨S4096x1024, .bf16⟩
  | .hbm, ⟨2, _⟩ => ⟨S9216x4096, .bf16⟩
  | .hbm, ⟨3, _⟩ => ⟨S9216x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![9, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel5Ideal.lean ====
abbrev S9216x1024 : Shape := ⟨2, ![9216, 1024]⟩
abbrev S4096x1024 : Shape := ⟨2, ![4096, 1024]⟩
abbrev S9216x4096 : Shape := ⟨2, ![9216, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S9216x1024, .bf16⟩
  | .hbm, ⟨1, _⟩ => ⟨S4096x1024, .bf16⟩
  | .hbm, ⟨2, _⟩ => ⟨S9216x4096, .bf16⟩
  | .hbm, ⟨3, _⟩ => ⟨S9216x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![9, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S9216x1024 : Shape := ⟨2, ![9216, 1024]⟩
abbrev S4096x1024 : Shape := ⟨2, ![4096, 1024]⟩
abbrev S1024x4096 : Shape := ⟨2, ![1024, 4096]⟩
abbrev S9216x4096 : Shape := ⟨2, ![9216, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S4096x1024, .bf16⟩
  | .hbm, ⟨2, _⟩ => ⟨S9216x1024, .f32⟩
  | .hbm, ⟨3, _⟩ => ⟨S4096x1024, .f32⟩
  | .hbm, ⟨4, _⟩ => ⟨S1024x4096, .f32⟩
  | .hbm, ⟨5, _⟩ => ⟨S9216x4096, .f32⟩
  | .hbm, ⟨6, _⟩ => ⟨S9216x4096, .bf16⟩
  | .hbm, ⟨7, _⟩ => ⟨S_, .f32⟩
  | .hbm, ⟨8, _⟩ => ⟨S9216x4096, .f32⟩
  | .hbm, ⟨9, _⟩ => ⟨S9216x4096, .f32⟩
  | .hbm, ⟨10, _⟩ => ⟨S9216x4096, .f32⟩
  | .hbm, ⟨11, _⟩ => ⟨S9216x4096, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel6.lean ====
abbrev S9216x1024 : Shape := ⟨2, ![9216, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S9216x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel6Ideal.lean ====
abbrev S9216x1024 : Shape := ⟨2, ![9216, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S9216x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S9216x1024 : Shape := ⟨2, ![9216, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S_, .f32⟩
  | .hbm, ⟨3, _⟩ => ⟨S9216x1024, .f32⟩
  | .hbm, ⟨4, _⟩ => ⟨S1024x1024, .f32⟩
  | .hbm, ⟨5, _⟩ => ⟨S9216x1024, .f32⟩
  | .hbm, ⟨6, _⟩ => ⟨S9216x1024, .f32⟩
  | .hbm, ⟨7, _⟩ => ⟨S9216x1024, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S9216x1024 : Shape := ⟨2, ![9216, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 9], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel7Ideal.lean ====
abbrev S9216x1024 : Shape := ⟨2, ![9216, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 9], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S9216x1024 : Shape := ⟨2, ![9216, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S_, .f32⟩
  | .hbm, ⟨3, _⟩ => ⟨S1024x1024, .f32⟩
  | .hbm, ⟨4, _⟩ => ⟨S9216x1024, .f32⟩
  | .hbm, ⟨5, _⟩ => ⟨S9216x1024, .f32⟩
  | .hbm, ⟨6, _⟩ => ⟨S9216x1024, .f32⟩
  | .hbm, ⟨7, _⟩ => ⟨S1024x1024, .f32⟩
  | .hbm, ⟨8, _⟩ => ⟨S1024x1024, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S9216x1024 : Shape := ⟨2, ![9216, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S9216x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel8Ideal.lean ====
abbrev S9216x1024 : Shape := ⟨2, ![9216, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S9216x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S9216x1024 : Shape := ⟨2, ![9216, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S9216x1024, .f32⟩
  | .hbm, ⟨3, _⟩ => ⟨S1024x1024, .f32⟩
  | .hbm, ⟨4, _⟩ => ⟨S9216x1024, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S8192x1024 : Shape := ⟨2, ![8192, 1024]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S4096x1024, .f32⟩
  | .hbm, ⟨17, _⟩ => ⟨S8192x1024, .f32⟩
  | .hbm, ⟨18, _⟩ => ⟨S8192x1024, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel10.lean ====
abbrev S8192x4096 : Shape := ⟨2, ![8192, 4096]⟩
abbrev S4096x1024 : Shape := ⟨2, ![4096, 1024]⟩
abbrev S8192x1024 : Shape := ⟨2, ![8192, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel10Ideal.lean ====
abbrev S8192x4096 : Shape := ⟨2, ![8192, 4096]⟩
abbrev S4096x1024 : Shape := ⟨2, ![4096, 1024]⟩
abbrev S8192x1024 : Shape := ⟨2, ![8192, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x4096 : Shape := ⟨2, ![8192, 4096]⟩
abbrev S4096x1024 : Shape := ⟨2, ![4096, 1024]⟩
abbrev S_ : Shape := ⟨0, ![]⟩
abbrev S8192x1024 : Shape := ⟨2, ![8192, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S_, .f32⟩
  | .hbm, ⟨3, _⟩ => ⟨S8192x1024, .f32⟩
  | .hbm, ⟨4, _⟩ => ⟨S4096x1024, .f32⟩
  | .hbm, ⟨5, _⟩ => ⟨S1024x4096, .f32⟩
  | .hbm, ⟨6, _⟩ => ⟨S8192x4096, .f32⟩
  | .hbm, ⟨7, _⟩ => ⟨S8192x4096, .f32⟩
  | .hbm, ⟨8, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel11Ideal.lean ====
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S8192x1024, .f32⟩
  | .hbm, ⟨7, _⟩ => ⟨S1024x4096, .f32⟩
  | .hbm, ⟨8, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8192x1024 : Shape := ⟨2, ![8192, 1024]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S8192x1024 : Shape := ⟨2, ![8192, 1024]⟩
abbrev S4096x1024 : Shape := ⟨2, ![4096, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x1024, .f32⟩
  | .hbm, ⟨3, _⟩ => ⟨S4096x1024, .f32⟩
  | .hbm, ⟨4, _⟩ => ⟨S1024x4096, .f32⟩
  | .hbm, ⟨5, _⟩ => ⟨S8192x4096, .f32⟩
  | .hbm, ⟨6, _⟩ => ⟨S8192x4096, .bf16⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S9216x1792 : Shape := ⟨2, ![9216, 1792]⟩
abbrev S1792x1024 : Shape := ⟨2, ![1792, 1024]⟩
abbrev S9216x1024 : Shape := ⟨2, ![9216, 1024]⟩
abbrev S1024x1792 : Shape := ⟨2, ![1024, 1792]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S9216x1792, .f32⟩
  | .hbm, ⟨1, _⟩ => ⟨S1792x1024, .bf16⟩
  | .hbm, ⟨2, _⟩ => ⟨S9216x1024, .f32⟩
  | .local _ .vmem, ⟨0, _⟩ => ⟨S1024x1792, .f32⟩
  | .local _ .vmem, ⟨1, _⟩ => ⟨S1024x1792, .f32⟩
  | .local _ .vmem, ⟨2, _⟩ => ⟨S1792x1024, .bf16⟩
  | .local _ .vmem, ⟨3, _⟩ => ⟨S1024x1024, .f32⟩
  | .local _ .vmem, ⟨4, _⟩ => ⟨S1024x1024, .f32⟩
  | _, _ => ⟨S9216x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S9216x1792 : Shape := ⟨2, ![9216, 1792]⟩
abbrev S1792x1024 : Shape := ⟨2, ![1792, 1024]⟩
abbrev S_ : Shape := ⟨0, ![]⟩
abbrev S9216x1024 : Shape := ⟨2, ![9216, 1024]⟩
abbrev S1024x1792 : Shape := ⟨2, ![1024, 1792]⟩

abbrev nBuf : Space → Nat
  | .hbm => 8
  | .vmem => 0
  | .smem => 0
  | _ => 0

abbrev bufTy : (tb : Table) → Fin (tcTables nBuf tb) → BufTy
  | .hbm, ⟨0, _⟩ => ⟨S9216x1792, .f32⟩
  | .hbm, ⟨1, _⟩ => ⟨S1792x1024, .bf16⟩
  | .hbm, ⟨2, _⟩ => ⟨S_, .f32⟩
  | .hbm, ⟨3, _⟩ => ⟨S9216x1024, .f32⟩
  | .hbm, ⟨4, _⟩ => ⟨S1792x1024, .f32⟩
  | .hbm, ⟨5, _⟩ => ⟨S1024x1792, .f32⟩
  | .hbm, ⟨6, _⟩ => ⟨S9216x1792, .f32⟩
  | .hbm, ⟨7, _⟩ => ⟨S9216x1024, .f32⟩
  | _, _ => ⟨S9216x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S9216x1792 : Shape := ⟨2, ![9216, 1792]⟩
abbrev S9216x1024 : Shape := ⟨2, ![9216, 1024]⟩
abbrev S1792x1024 : Shape := ⟨2, ![1792, 1024]⟩
abbrev S1024x896 : Shape := ⟨2, ![1024, 896]⟩
abbrev S1024x1024 : Shape := ⟨2, ![1024, 1024]⟩
abbrev S896x1024 : Shape := ⟨2, ![896, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x1792, .f32⟩
  | .hbm, ⟨1, _⟩ => ⟨S9216x1024, .bf16⟩
  | .hbm, ⟨2, _⟩ => ⟨S1792x1024, .f32⟩
  | .local _ .vmem, ⟨0, _⟩ => ⟨S1024x896, .f32⟩
  | .local _ .vmem, ⟨1, _⟩ => ⟨S1024x896, .f32⟩
  | .local _ .vmem, ⟨2, _⟩ => ⟨S1024x1024, .bf16⟩
  | .local _ .vmem, ⟨3, _⟩ => ⟨S1024x1024, .bf16⟩
  | .local _ .vmem, ⟨4, _⟩ => ⟨S896x1024, .f32⟩
  | .local _ .vmem, ⟨5, _⟩ => ⟨S896x1024, .f32⟩
  | _, _ => ⟨S9216x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 9], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S9216x1792 : Shape := ⟨2, ![9216, 1792]⟩
abbrev S9216x1024 : Shape := ⟨2, ![9216, 1024]⟩
abbrev S_ : Shape := ⟨0, ![]⟩
abbrev S1792x1024 : Shape := ⟨2, ![1792, 1024]⟩
abbrev S1024x1792 : Shape := ⟨2, ![1024, 1792]⟩

abbrev nBuf : Space → Nat
  | .hbm => 10
  | .vmem => 0
  | .smem => 0
  | _ => 0

abbrev bufTy : (tb : Table) → Fin (tcTables nBuf tb) → BufTy
  | .hbm, ⟨0, _⟩ => ⟨S9216x1792, .f32⟩
  | .hbm, ⟨1, _⟩ => ⟨S9216x1024, .bf16⟩
  | .hbm, ⟨2, _⟩ => ⟨S_, .f32⟩
  | .hbm, ⟨3, _⟩ => ⟨S1792x1024, .f32⟩
  | .hbm, ⟨4, _⟩ => ⟨S9216x1024, .f32⟩
  | .hbm, ⟨5, _⟩ => ⟨S1024x1792, .f32⟩
  | .hbm, ⟨6, _⟩ => ⟨S9216x1792, .f32⟩
  | .hbm, ⟨7, _⟩ => ⟨S1792x1024, .f32⟩
  | .hbm, ⟨8, _⟩ => ⟨S1024x1792, .f32⟩
  | .hbm, ⟨9, _⟩ => ⟨S1792x1024, .f32⟩
  | _, _ => ⟨S9216x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S9216x1024 : Shape := ⟨2, ![9216, 1024]⟩
abbrev S1792x1024 : Shape := ⟨2, ![1792, 1024]⟩
abbrev S9216x1792 : Shape := ⟨2, ![9216, 1792]⟩
abbrev S1024x1024 : Shape := ⟨2, ![1024, 1024]⟩
abbrev S896x1024 : Shape := ⟨2, ![896, 1024]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S1792x1024, .bf16⟩
  | .hbm, ⟨2, _⟩ => ⟨S9216x1792, .f32⟩
  | .local _ .vmem, ⟨0, _⟩ => ⟨S1024x1024, .bf16⟩
  | .local _ .vmem, ⟨1, _⟩ => ⟨S1024x1024, .bf16⟩
  | .local _ .vmem, ⟨2, _⟩ => ⟨S896x1024, .bf16⟩
  | .local _ .vmem, ⟨3, _⟩ => ⟨S896x1024, .bf16⟩
  | .local _ .vmem, ⟨4, _⟩ => ⟨S1024x896, .f32⟩
  | .local _ .vmem, ⟨5, _⟩ => ⟨S1024x896, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S896x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S9216x1024 : Shape := ⟨2, ![9216, 1024]⟩
abbrev S1792x1024 : Shape := ⟨2, ![1792, 1024]⟩
abbrev S1024x1792 : Shape := ⟨2, ![1024, 1792]⟩
abbrev S9216x1792 : Shape := ⟨2, ![9216, 1792]⟩

abbrev nBuf : Space → Nat
  | .hbm => 6
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1792x1024, .bf16⟩
  | .hbm, ⟨2, _⟩ => ⟨S9216x1024, .f32⟩
  | .hbm, ⟨3, _⟩ => ⟨S1792x1024, .f32⟩
  | .hbm, ⟨4, _⟩ => ⟨S1024x1792, .f32⟩
  | .hbm, ⟨5, _⟩ => ⟨S9216x1792, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel19.lean ====
abbrev S4x1024x512 : Shape := ⟨3, ![4, 1024, 512]⟩
abbrev S4096x512 : Shape := ⟨2, ![4096, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel19Ideal.lean ====
abbrev S4x1024x512 : Shape := ⟨3, ![4, 1024, 512]⟩
abbrev S4096x512 : Shape := ⟨2, ![4096, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S4x1024x512 : Shape := ⟨3, ![4, 1024, 512]⟩
abbrev S_ : Shape := ⟨0, ![]⟩
abbrev S4096x512 : Shape := ⟨2, ![4096, 512]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S_, .f32⟩
  | .hbm, ⟨5, _⟩ => ⟨S4x1024x512, .f32⟩
  | .hbm, ⟨6, _⟩ => ⟨S4x1024x512, .f32⟩
  | .hbm, ⟨7, _⟩ => ⟨S_, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S_, .f32⟩
  | .hbm, ⟨12, _⟩ => ⟨S4x1024x512, .f32⟩
  | .hbm, ⟨13, _⟩ => ⟨S4x1024x512, .f32⟩
  | .hbm, ⟨14, _⟩ => ⟨S4x1024x512, .f32⟩
  | .hbm, ⟨15, _⟩ => ⟨S_, .f32⟩
  | .hbm, ⟨16, _⟩ => ⟨S4x1024x512, .f32⟩
  | .hbm, ⟨17, _⟩ => ⟨S4x1024x512, .f32⟩
  | .hbm, ⟨18, _⟩ => ⟨S4x1024x512, .f32⟩
  | .hbm, ⟨19, _⟩ => ⟨S_, .f32⟩
  | .hbm, ⟨20, _⟩ => ⟨S4x1024x512, .f32⟩
  | .hbm, ⟨21, _⟩ => ⟨S4x1024x512, .f32⟩
  | .hbm, ⟨22, _⟩ => ⟨S_, .f32⟩
  | .hbm, ⟨23, _⟩ => ⟨S4x1024x512, .f32⟩
  | .hbm, ⟨24, _⟩ => ⟨S4x1024x512, .f32⟩
  | .hbm, ⟨25, _⟩ => ⟨S4x1024x512, .f32⟩
  | .hbm, ⟨26, _⟩ => ⟨S_, .f32⟩
  | .hbm, ⟨27, _⟩ => ⟨S4x1024x512, .f32⟩
  | .hbm, ⟨28, _⟩ => ⟨S4x1024x512, .f32⟩
  | .hbm, ⟨29, _⟩ => ⟨S4x1024x512, .f32⟩
  | .hbm, ⟨30, _⟩ => ⟨S_, .f32⟩
  | .hbm, ⟨31, _⟩ => ⟨S4x1024x512, .f32⟩
  | .hbm, ⟨32, _⟩ => ⟨S4x1024x512, .f32⟩
  | .hbm, ⟨33, _⟩ => ⟨S4x1024x512, .f32⟩
  | .hbm, ⟨34, _⟩ => ⟨S_, .f32⟩
  | .hbm, ⟨35, _⟩ => ⟨S4x1024x512, .f32⟩
  | .hbm, ⟨36, _⟩ => ⟨S4x1024x512, .f32⟩
  | .hbm, ⟨37, _⟩ => ⟨S4096x512, .f32⟩
  | .hbm, ⟨38, _⟩ => ⟨S4096x512, .f32⟩
  | .hbm, ⟨39, _⟩ => ⟨S4096x512, .f32⟩
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel20.lean ====
abbrev S4x512x1024 : Shape := ⟨3, ![4, 512, 1024]⟩
abbrev S2048x1024 : Shape := ⟨2, ![2048, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel20Ideal.lean ====
abbrev S4x512x1024 : Shape := ⟨3, ![4, 512, 1024]⟩
abbrev S2048x1024 : Shape := ⟨2, ![2048, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S4x512x1024 : Shape := ⟨3, ![4, 512, 1024]⟩
abbrev S_ : Shape := ⟨0, ![]⟩
abbrev S2048x1024 : Shape := ⟨2, ![2048, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S_, .f32⟩
  | .hbm, ⟨5, _⟩ => ⟨S4x512x1024, .f32⟩
  | .hbm, ⟨6, _⟩ => ⟨S4x512x1024, .f32⟩
  | .hbm, ⟨7, _⟩ => ⟨S_, .f32⟩
  | .hbm, ⟨8, _⟩ => ⟨S4x512x1024, .f32⟩
  | .hbm, ⟨9, _⟩ => ⟨S4x512x1024, .f32⟩
  | .hbm, ⟨10, _⟩ => ⟨S4x512x1024, .f32⟩
  | .hbm, ⟨11, _⟩ => ⟨S_, .f32⟩
  | .hbm, ⟨12, _⟩ => ⟨S4x512x1024, .f32⟩
  | .hbm, ⟨13, _⟩ => ⟨S4x512x1024, .f32⟩
  | .hbm, ⟨14, _⟩ => ⟨S4x512x1024, .f32⟩
  | .hbm, ⟨15, _⟩ => ⟨S_, .f32⟩
  | .hbm, ⟨16, _⟩ => ⟨S4x512x1024, .f32⟩
  | .hbm, ⟨17, _⟩ => ⟨S4x512x1024, .f32⟩
  | .hbm, ⟨18, _⟩ => ⟨S4x512x1024, .f32⟩
  | .hbm, ⟨19, _⟩ => ⟨S_, .f32⟩
  | .hbm, ⟨20, _⟩ => ⟨S4x512x1024, .f32⟩
  | .hbm, ⟨21, _⟩ => ⟨S4x512x1024, .f32⟩
  | .hbm, ⟨22, _⟩ => ⟨S_, .f32⟩
  | .hbm, ⟨23, _⟩ => ⟨S4x512x1024, .f32⟩
  | .hbm, ⟨24, _⟩ => ⟨S4x512x1024, .f32⟩
  | .hbm, ⟨25, _⟩ => ⟨S4x512x1024, .f32⟩
  | .hbm, ⟨26, _⟩ => ⟨S_, .f32⟩
  | .hbm, ⟨27, _⟩ => ⟨S4x512x1024, .f32⟩
  | .hbm, ⟨28, _⟩ => ⟨S4x512x1024, .f32⟩
  | .hbm, ⟨29, _⟩ => ⟨S4x512x1024, .f32⟩
  | .hbm, ⟨30, _⟩ => ⟨S_, .f32⟩
  | .hbm, ⟨31, _⟩ => ⟨S4x512x1024, .f32⟩
  | .hbm, ⟨32, _⟩ => ⟨S4x512x1024, .f32⟩
  | .hbm, ⟨33, _⟩ => ⟨S4x512x1024, .f32⟩
  | .hbm, ⟨34, _⟩ => ⟨S_, .f32⟩
  | .hbm, ⟨35, _⟩ => ⟨S4x512x1024, .f32⟩
  | .hbm, ⟨36, _⟩ => ⟨S4x512x1024, .f32⟩
  | .hbm, ⟨37, _⟩ => ⟨S2048x1024, .f32⟩
  | .hbm, ⟨38, _⟩ => ⟨S2048x1024, .f32⟩
  | .hbm, ⟨39, _⟩ => ⟨S2048x1024, .f32⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel21.lean ====
abbrev S4x1024x224 : Shape := ⟨3, ![4, 1024, 224]⟩
abbrev S4096x224 : Shape := ⟨2, ![4096, 224]⟩
abbrev S1024x224 : Shape := ⟨2, ![1024, 224]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x224, .f32⟩
  | .hbm, ⟨1, _⟩ => ⟨S4x1024x224, .f32⟩
  | .hbm, ⟨2, _⟩ => ⟨S4x1024x224, .f32⟩
  | .hbm, ⟨3, _⟩ => ⟨S4x1024x224, .f32⟩
  | .hbm, ⟨4, _⟩ => ⟨S4096x224, .f32⟩
  | .hbm, ⟨5, _⟩ => ⟨S4096x224, .f32⟩
  | .hbm, ⟨6, _⟩ => ⟨S4096x224, .f32⟩
  | .hbm, ⟨7, _⟩ => ⟨S4096x224, .f32⟩
  | .hbm, ⟨8, _⟩ => ⟨S4096x224, .f32⟩
  | .hbm, ⟨9, _⟩ => ⟨S4096x224, .f32⟩
  | .hbm, ⟨10, _⟩ => ⟨S4096x224, .f32⟩
  | .local _ .vmem, ⟨0, _⟩ => ⟨S1024x224, .f32⟩
  | .local _ .vmem, ⟨1, _⟩ => ⟨S1024x224, .f32⟩
  | .local _ .vmem, ⟨2, _⟩ => ⟨S1024x224, .f32⟩
  | .local _ .vmem, ⟨3, _⟩ => ⟨S1024x224, .f32⟩
  | .local _ .vmem, ⟨4, _⟩ => ⟨S1024x224, .f32⟩
  | .local _ .vmem, ⟨5, _⟩ => ⟨S1024x224, .f32⟩
  | .local _ .vmem, ⟨6, _⟩ => ⟨S1024x224, .f32⟩
  | .local _ .vmem, ⟨7, _⟩ => ⟨S1024x224, .f32⟩
  | .local _ .vmem, ⟨8, _⟩ => ⟨S1024x224, .f32⟩
  | .local _ .vmem, ⟨9, _⟩ => ⟨S1024x224, .f32⟩
  | .local _ .vmem, ⟨10, _⟩ => ⟨S1024x224, .f32⟩
  | .local _ .vmem, ⟨11, _⟩ => ⟨S1024x224, .f32⟩
  | .local _ .vmem, ⟨12, _⟩ => ⟨S1024x224, .f32⟩
  | .local _ .vmem, ⟨13, _⟩ => ⟨S1024x224, .f32⟩
  | _, _ => ⟨S4x1024x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x224 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel21Ideal.lean ====
abbrev S4x1024x224 : Shape := ⟨3, ![4, 1024, 224]⟩
abbrev S4096x224 : Shape := ⟨2, ![4096, 224]⟩
abbrev S1024x224 : Shape := ⟨2, ![1024, 224]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x224, .f32⟩
  | .hbm, ⟨1, _⟩ => ⟨S4x1024x224, .f32⟩
  | .hbm, ⟨2, _⟩ => ⟨S4x1024x224, .f32⟩
  | .hbm, ⟨3, _⟩ => ⟨S4x1024x224, .f32⟩
  | .hbm, ⟨4, _⟩ => ⟨S4096x224, .f32⟩
  | .hbm, ⟨5, _⟩ => ⟨S4096x224, .f32⟩
  | .hbm, ⟨6, _⟩ => ⟨S4096x224, .f32⟩
  | .hbm, ⟨7, _⟩ => ⟨S4096x224, .f32⟩
  | .hbm, ⟨8, _⟩ => ⟨S4096x224, .f32⟩
  | .hbm, ⟨9, _⟩ => ⟨S4096x224, .f32⟩
  | .hbm, ⟨10, _⟩ => ⟨S4096x224, .f32⟩
  | .local _ .vmem, ⟨0, _⟩ => ⟨S1024x224, .f32⟩
  | .local _ .vmem, ⟨1, _⟩ => ⟨S1024x224, .f32⟩
  | .local _ .vmem, ⟨2, _⟩ => ⟨S1024x224, .f32⟩
  | .local _ .vmem, ⟨3, _⟩ => ⟨S1024x224, .f32⟩
  | .local _ .vmem, ⟨4, _⟩ => ⟨S1024x224, .f32⟩
  | .local _ .vmem, ⟨5, _⟩ => ⟨S1024x224, .f32⟩
  | .local _ .vmem, ⟨6, _⟩ => ⟨S1024x224, .f32⟩
  | .local _ .vmem, ⟨7, _⟩ => ⟨S1024x224, .f32⟩
  | .local _ .vmem, ⟨8, _⟩ => ⟨S1024x224, .f32⟩
  | .local _ .vmem, ⟨9, _⟩ => ⟨S1024x224, .f32⟩
  | .local _ .vmem, ⟨10, _⟩ => ⟨S1024x224, .f32⟩
  | .local _ .vmem, ⟨11, _⟩ => ⟨S1024x224, .f32⟩
  | .local _ .vmem, ⟨12, _⟩ => ⟨S1024x224, .f32⟩
  | .local _ .vmem, ⟨13, _⟩ => ⟨S1024x224, .f32⟩
  | _, _ => ⟨S4x1024x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x224 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S4x1024x224 : Shape := ⟨3, ![4, 1024, 224]⟩
abbrev S_ : Shape := ⟨0, ![]⟩
abbrev S4096x224 : Shape := ⟨2, ![4096, 224]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x224, .f32⟩
  | .hbm, ⟨1, _⟩ => ⟨S4x1024x224, .f32⟩
  | .hbm, ⟨2, _⟩ => ⟨S4x1024x224, .f32⟩
  | .hbm, ⟨3, _⟩ => ⟨S4x1024x224, .f32⟩
  | .hbm, ⟨4, _⟩ => ⟨S_, .f32⟩
  | .hbm, ⟨5, _⟩ => ⟨S4x1024x224, .f32⟩
  | .hbm, ⟨6, _⟩ => ⟨S4x1024x224, .f32⟩
  | .hbm, ⟨7, _⟩ => ⟨S_, .f32⟩
  | .hbm, ⟨8, _⟩ => ⟨S4x1024x224, .f32⟩
  | .hbm, ⟨9, _⟩ => ⟨S4x1024x224, .f32⟩
  | .hbm, ⟨10, _⟩ => ⟨S4x1024x224, .f32⟩
  | .hbm, ⟨11, _⟩ => ⟨S_, .f32⟩
  | .hbm, ⟨12, _⟩ => ⟨S4x1024x224, .f32⟩
  | .hbm, ⟨13, _⟩ => ⟨S4x1024x224, .f32⟩
  | .hbm, ⟨14, _⟩ => ⟨S4x1024x224, .f32⟩
  | .hbm, ⟨15, _⟩ => ⟨S_, .f32⟩
  | .hbm, ⟨16, _⟩ => ⟨S4x1024x224, .f32⟩
  | .hbm, ⟨17, _⟩ => ⟨S4x1024x224, .f32⟩
  | .hbm, ⟨18, _⟩ => ⟨S4x1024x224, .f32⟩
  | .hbm, ⟨19, _⟩ => ⟨S_, .f32⟩
  | .hbm, ⟨20, _⟩ => ⟨S4x1024x224, .f32⟩
  | .hbm, ⟨21, _⟩ => ⟨S4x1024x224, .f32⟩
  | .hbm, ⟨22, _⟩ => ⟨S_, .f32⟩
  | .hbm, ⟨23, _⟩ => ⟨S4x1024x224, .f32⟩
  | .hbm, ⟨24, _⟩ => ⟨S4x1024x224, .f32⟩
  | .hbm, ⟨25, _⟩ => ⟨S4x1024x224, .f32⟩
  | .hbm, ⟨26, _⟩ => ⟨S_, .f32⟩
  | .hbm, ⟨27, _⟩ => ⟨S4x1024x224, .f32⟩
  | .hbm, ⟨28, _⟩ => ⟨S4x1024x224, .f32⟩
  | .hbm, ⟨29, _⟩ => ⟨S4x1024x224, .f32⟩
  | .hbm, ⟨30, _⟩ => ⟨S_, .f32⟩
  | .hbm, ⟨31, _⟩ => ⟨S4x1024x224, .f32⟩
  | .hbm, ⟨32, _⟩ => ⟨S4x1024x224, .f32⟩
  | .hbm, ⟨33, _⟩ => ⟨S4x1024x224, .f32⟩
  | .hbm, ⟨34, _⟩ => ⟨S_, .f32⟩
  | .hbm, ⟨35, _⟩ => ⟨S4x1024x224, .f32⟩
  | .hbm, ⟨36, _⟩ => ⟨S4x1024x224, .f32⟩
  | .hbm, ⟨37, _⟩ => ⟨S4096x224, .f32⟩
  | .hbm, ⟨38, _⟩ => ⟨S4096x224, .f32⟩
  | .hbm, ⟨39, _⟩ => ⟨S4096x224, .f32⟩
  | _, _ => ⟨S4x1024x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel22.lean ====
abbrev S4x128x1024 : Shape := ⟨3, ![4, 128, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel22Ideal.lean ====
abbrev S4x128x1024 : Shape := ⟨3, ![4, 128, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference22Ideal.lean ====
abbrev S4x128x1024 : Shape := ⟨3, ![4, 128, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S_, .f32⟩
  | .hbm, ⟨5, _⟩ => ⟨S4x128x1024, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S_, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S_, .f32⟩
  | .hbm, ⟨16, _⟩ => ⟨S4x128x1024, .f32⟩
  | .hbm, ⟨17, _⟩ => ⟨S4x128x1024, .f32⟩
  | .hbm, ⟨18, _⟩ => ⟨S4x128x1024, .f32⟩
  | .hbm, ⟨19, _⟩ => ⟨S_, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel23.lean ====
abbrev S4x1024x768 : Shape := ⟨3, ![4, 1024, 768]⟩
abbrev S4096x768 : Shape := ⟨2, ![4096, 768]⟩
abbrev S256x768 : Shape := ⟨2, ![256, 768]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S4096x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel23Ideal.lean ====
abbrev S4x1024x768 : Shape := ⟨3, ![4, 1024, 768]⟩
abbrev S4096x768 : Shape := ⟨2, ![4096, 768]⟩
abbrev S256x768 : Shape := ⟨2, ![256, 768]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S4096x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S4x1024x768 : Shape := ⟨3, ![4, 1024, 768]⟩
abbrev S_ : Shape := ⟨0, ![]⟩
abbrev S4096x768 : Shape := ⟨2, ![4096, 768]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S_, .f32⟩
  | .hbm, ⟨5, _⟩ => ⟨S4x1024x768, .f32⟩
  | .hbm, ⟨6, _⟩ => ⟨S4x1024x768, .f32⟩
  | .hbm, ⟨7, _⟩ => ⟨S_, .f32⟩
  | .hbm, ⟨8, _⟩ => ⟨S4x1024x768, .f32⟩
  | .hbm, ⟨9, _⟩ => ⟨S4x1024x768, .f32⟩
  | .hbm, ⟨10, _⟩ => ⟨S4x1024x768, .f32⟩
  | .hbm, ⟨11, _⟩ => ⟨S_, .f32⟩
  | .hbm, ⟨12, _⟩ => ⟨S4x1024x768, .f32⟩
  | .hbm, ⟨13, _⟩ => ⟨S4x1024x768, .f32⟩
  | .hbm, ⟨14, _⟩ => ⟨S4x1024x768, .f32⟩
  | .hbm, ⟨15, _⟩ => ⟨S_, .f32⟩
  | .hbm, ⟨16, _⟩ => ⟨S4x1024x768, .f32⟩
  | .hbm, ⟨17, _⟩ => ⟨S4x1024x768, .f32⟩
  | .hbm, ⟨18, _⟩ => ⟨S4x1024x768, .f32⟩
  | .hbm, ⟨19, _⟩ => ⟨S_, .f32⟩
  | .hbm, ⟨20, _⟩ => ⟨S4x1024x768, .f32⟩
  | .hbm, ⟨21, _⟩ => ⟨S4x1024x768, .f32⟩
  | .hbm, ⟨22, _⟩ => ⟨S_, .f32⟩
  | .hbm, ⟨23, _⟩ => ⟨S4x1024x768, .f32⟩
  | .hbm, ⟨24, _⟩ => ⟨S4x1024x768, .f32⟩
  | .hbm, ⟨25, _⟩ => ⟨S4x1024x768, .f32⟩
  | .hbm, ⟨26, _⟩ => ⟨S_, .f32⟩
  | .hbm, ⟨27, _⟩ => ⟨S4x1024x768, .f32⟩
  | .hbm, ⟨28, _⟩ => ⟨S4x1024x768, .f32⟩
  | .hbm, ⟨29, _⟩ => ⟨S4x1024x768, .f32⟩
  | .hbm, ⟨30, _⟩ => ⟨S_, .f32⟩
  | .hbm, ⟨31, _⟩ => ⟨S4x1024x768, .f32⟩
  | .hbm, ⟨32, _⟩ => ⟨S4x1024x768, .f32⟩
  | .hbm, ⟨33, _⟩ => ⟨S4x1024x768, .f32⟩
  | .hbm, ⟨34, _⟩ => ⟨S_, .f32⟩
  | .hbm, ⟨35, _⟩ => ⟨S4x1024x768, .f32⟩
  | .hbm, ⟨36, _⟩ => ⟨S4x1024x768, .f32⟩
  | .hbm, ⟨37, _⟩ => ⟨S4096x768, .f32⟩
  | .hbm, ⟨38, _⟩ => ⟨S4096x768, .f32⟩
  | .hbm, ⟨39, _⟩ => ⟨S4096x768, .f32⟩
  | _, _ => ⟨S4x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel24.lean ====
abbrev S4x6144 : Shape := ⟨2, ![4, 6144]⟩

abbrev nBuf : Space → Nat
  | .hbm => 7
  | .vmem => 7
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S4x6144, .f32⟩
  | .hbm, ⟨5, _⟩ => ⟨S4x6144, .f32⟩
  | .hbm, ⟨6, _⟩ => ⟨S4x6144, .f32⟩
  | .local _ .vmem, ⟨0, _⟩ => ⟨S4x6144, .f32⟩
  | .local _ .vmem, ⟨1, _⟩ => ⟨S4x6144, .f32⟩
  | .local _ .vmem, ⟨2, _⟩ => ⟨S4x6144, .f32⟩
  | .local _ .vmem, ⟨3, _⟩ => ⟨S4x6144, .f32⟩
  | .local _ .vmem, ⟨4, _⟩ => ⟨S4x6144, .f32⟩
  | .local _ .vmem, ⟨5, _⟩ => ⟨S4x6144, .f32⟩
  | .local _ .vmem, ⟨6, _⟩ => ⟨S4x6144, .f32⟩
  | _, _ => ⟨S4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel24Ideal.lean ====
abbrev S4x6144 : Shape := ⟨2, ![4, 6144]⟩

abbrev nBuf : Space → Nat
  | .hbm => 7
  | .vmem => 7
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S4x6144, .f32⟩
  | .hbm, ⟨5, _⟩ => ⟨S4x6144, .f32⟩
  | .hbm, ⟨6, _⟩ => ⟨S4x6144, .f32⟩
  | .local _ .vmem, ⟨0, _⟩ => ⟨S4x6144, .f32⟩
  | .local _ .vmem, ⟨1, _⟩ => ⟨S4x6144, .f32⟩
  | .local _ .vmem, ⟨2, _⟩ => ⟨S4x6144, .f32⟩
  | .local _ .vmem, ⟨3, _⟩ => ⟨S4x6144, .f32⟩
  | .local _ .vmem, ⟨4, _⟩ => ⟨S4x6144, .f32⟩
  | .local _ .vmem, ⟨5, _⟩ => ⟨S4x6144, .f32⟩
  | .local _ .vmem, ⟨6, _⟩ => ⟨S4x6144, .f32⟩
  | _, _ => ⟨S4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference24Ideal.lean ====
abbrev S4x6144 : Shape := ⟨2, ![4, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S_, .f32⟩
  | .hbm, ⟨5, _⟩ => ⟨S4x6144, .f32⟩
  | .hbm, ⟨6, _⟩ => ⟨S4x6144, .f32⟩
  | .hbm, ⟨7, _⟩ => ⟨S_, .f32⟩
  | .hbm, ⟨8, _⟩ => ⟨S4x6144, .f32⟩
  | .hbm, ⟨9, _⟩ => ⟨S4x6144, .f32⟩
  | .hbm, ⟨10, _⟩ => ⟨S4x6144, .f32⟩
  | .hbm, ⟨11, _⟩ => ⟨S_, .f32⟩
  | .hbm, ⟨12, _⟩ => ⟨S4x6144, .f32⟩
  | .hbm, ⟨13, _⟩ => ⟨S4x6144, .f32⟩
  | .hbm, ⟨14, _⟩ => ⟨S4x6144, .f32⟩
  | .hbm, ⟨15, _⟩ => ⟨S_, .f32⟩
  | .hbm, ⟨16, _⟩ => ⟨S4x6144, .f32⟩
  | .hbm, ⟨17, _⟩ => ⟨S4x6144, .f32⟩
  | .hbm, ⟨18, _⟩ => ⟨S4x6144, .f32⟩
  | .hbm, ⟨19, _⟩ => ⟨S_, .f32⟩
  | .hbm, ⟨20, _⟩ => ⟨S4x6144, .f32⟩
  | .hbm, ⟨21, _⟩ => ⟨S4x6144, .f32⟩
  | .hbm, ⟨22, _⟩ => ⟨S_, .f32⟩
  | .hbm, ⟨23, _⟩ => ⟨S4x6144, .f32⟩
  | .hbm, ⟨24, _⟩ => ⟨S4x6144, .f32⟩
  | .hbm, ⟨25, _⟩ => ⟨S4x6144, .f32⟩
  | .hbm, ⟨26, _⟩ => ⟨S_, .f32⟩
  | .hbm, ⟨27, _⟩ => ⟨S4x6144, .f32⟩
  | .hbm, ⟨28, _⟩ => ⟨S4x6144, .f32⟩
  | .hbm, ⟨29, _⟩ => ⟨S4x6144, .f32⟩
  | .hbm, ⟨30, _⟩ => ⟨S_, .f32⟩
  | .hbm, ⟨31, _⟩ => ⟨S4x6144, .f32⟩
  | .hbm, ⟨32, _⟩ => ⟨S4x6144, .f32⟩
  | .hbm, ⟨33, _⟩ => ⟨S4x6144, .f32⟩
  | .hbm, ⟨34, _⟩ => ⟨S_, .f32⟩
  | .hbm, ⟨35, _⟩ => ⟨S4x6144, .f32⟩
  | .hbm, ⟨36, _⟩ => ⟨S4x6144, .f32⟩
  | _, _ => ⟨S4x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S1024 : Shape := ⟨1, ![1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel25Ideal.lean ====
abbrev S1024 : Shape := ⟨1, ![1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference25Ideal.lean ====
abbrev S1024 : Shape := ⟨1, ![1024]⟩
abbrev S_ : Shape := ⟨0, ![]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S1x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel26.lean ====
abbrev S4x4x128 : Shape := ⟨3, ![4, 4, 128]⟩
abbrev S16x128 : Shape := ⟨2, ![16, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x4x128, .f32⟩
  | .hbm, ⟨1, _⟩ => ⟨S4x4x128, .f32⟩
  | .hbm, ⟨2, _⟩ => ⟨S4x4x128, .f32⟩
  | .hbm, ⟨3, _⟩ => ⟨S4x4x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S16x128, .f32⟩
  | .hbm, ⟨10, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S4x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel26Ideal.lean ====
abbrev S4x4x128 : Shape := ⟨3, ![4, 4, 128]⟩
abbrev S16x128 : Shape := ⟨2, ![16, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x4x128, .f32⟩
  | .hbm, ⟨1, _⟩ => ⟨S4x4x128, .f32⟩
  | .hbm, ⟨2, _⟩ => ⟨S4x4x128, .f32⟩
  | .hbm, ⟨3, _⟩ => ⟨S4x4x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S16x128, .f32⟩
  | .hbm, ⟨10, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S4x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference26Ideal.lean ====
abbrev S4x4x128 : Shape := ⟨3, ![4, 4, 128]⟩
abbrev S_ : Shape := ⟨0, ![]⟩
abbrev S16x128 : Shape := ⟨2, ![16, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x4x128, .f32⟩
  | .hbm, ⟨1, _⟩ => ⟨S4x4x128, .f32⟩
  | .hbm, ⟨2, _⟩ => ⟨S4x4x128, .f32⟩
  | .hbm, ⟨3, _⟩ => ⟨S4x4x128, .f32⟩
  | .hbm, ⟨4, _⟩ => ⟨S_, .f32⟩
  | .hbm, ⟨5, _⟩ => ⟨S4x4x128, .f32⟩
  | .hbm, ⟨6, _⟩ => ⟨S4x4x128, .f32⟩
  | .hbm, ⟨7, _⟩ => ⟨S_, .f32⟩
  | .hbm, ⟨8, _⟩ => ⟨S4x4x128, .f32⟩
  | .hbm, ⟨9, _⟩ => ⟨S4x4x128, .f32⟩
  | .hbm, ⟨10, _⟩ => ⟨S4x4x128, .f32⟩
  | .hbm, ⟨11, _⟩ => ⟨S_, .f32⟩
  | .hbm, ⟨12, _⟩ => ⟨S4x4x128, .f32⟩
  | .hbm, ⟨13, _⟩ => ⟨S4x4x128, .f32⟩
  | .hbm, ⟨14, _⟩ => ⟨S4x4x128, .f32⟩
  | .hbm, ⟨15, _⟩ => ⟨S_, .f32⟩
  | .hbm, ⟨16, _⟩ => ⟨S4x4x128, .f32⟩
  | .hbm, ⟨17, _⟩ => ⟨S4x4x128, .f32⟩
  | .hbm, ⟨18, _⟩ => ⟨S4x4x128, .f32⟩
  | .hbm, ⟨19, _⟩ => ⟨S_, .f32⟩
  | .hbm, ⟨20, _⟩ => ⟨S4x4x128, .f32⟩
  | .hbm, ⟨21, _⟩ => ⟨S4x4x128, .f32⟩
  | .hbm, ⟨22, _⟩ => ⟨S_, .f32⟩
  | .hbm, ⟨23, _⟩ => ⟨S4x4x128, .f32⟩
  | .hbm, ⟨24, _⟩ => ⟨S4x4x128, .f32⟩
  | .hbm, ⟨25, _⟩ => ⟨S4x4x128, .f32⟩
  | .hbm, ⟨26, _⟩ => ⟨S_, .f32⟩
  | .hbm, ⟨27, _⟩ => ⟨S4x4x128, .f32⟩
  | .hbm, ⟨28, _⟩ => ⟨S4x4x128, .f32⟩
  | .hbm, ⟨29, _⟩ => ⟨S4x4x128, .f32⟩
  | .hbm, ⟨30, _⟩ => ⟨S_, .f32⟩
  | .hbm, ⟨31, _⟩ => ⟨S4x4x128, .f32⟩
  | .hbm, ⟨32, _⟩ => ⟨S4x4x128, .f32⟩
  | .hbm, ⟨33, _⟩ => ⟨S4x4x128, .f32⟩
  | .hbm, ⟨34, _⟩ => ⟨S_, .f32⟩
  | .hbm, ⟨35, _⟩ => ⟨S4x4x128, .f32⟩
  | .hbm, ⟨36, _⟩ => ⟨S4x4x128, .f32⟩
  | .hbm, ⟨37, _⟩ => ⟨S16x128, .f32⟩
  | .hbm, ⟨38, _⟩ => ⟨S16x128, .f32⟩
  | .hbm, ⟨39, _⟩ => ⟨S16x128, .f32⟩
  | _, _ => ⟨S4x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel27.lean ====
abbrev S4x3x32 : Shape := ⟨3, ![4, 3, 32]⟩
abbrev S12x32 : Shape := ⟨2, ![12, 32]⟩

abbrev nBuf : Space → Nat
  | .hbm => 11
  | .vmem => 7
  | .smem => 0
  | _ => 0

abbrev bufTy : (tb : Table) → Fin (tcTables nBuf tb) → BufTy
  | .hbm, ⟨0, _⟩ => ⟨S4x3x32, .f32⟩
  | .hbm, ⟨1, _⟩ => ⟨S4x3x32, .f32⟩
  | .hbm, ⟨2, _⟩ => ⟨S4x3x32, .f32⟩
  | .hbm, ⟨3, _⟩ => ⟨S4x3x32, .f32⟩
  | .hbm, ⟨4, _⟩ => ⟨S12x32, .f32⟩
  | .hbm, ⟨5, _⟩ => ⟨S12x32, .f32⟩
  | .hbm, ⟨6, _⟩ => ⟨S12x32, .f32⟩
  | .hbm, ⟨7, _⟩ => ⟨S12x32, .f32⟩
  | .hbm, ⟨8, _⟩ => ⟨S12x32, .f32⟩
  | .hbm, ⟨9, _⟩ => ⟨S12x32, .f32⟩
  | .hbm, ⟨10, _⟩ => ⟨S12x32, .f32⟩
  | .local _ .vmem, ⟨0, _⟩ => ⟨S12x32, .f32⟩
  | .local _ .vmem, ⟨1, _⟩ => ⟨S12x32, .f32⟩
  | .local _ .vmem, ⟨2, _⟩ => ⟨S12x32, .f32⟩
  | .local _ .vmem, ⟨3, _⟩ => ⟨S12x32, .f32⟩
  | .local _ .vmem, ⟨4, _⟩ => ⟨S12x32, .f32⟩
  | .local _ .vmem, ⟨5, _⟩ => ⟨S12x32, .f32⟩
  | .local _ .vmem, ⟨6, _⟩ => ⟨S12x32, .f32⟩
  | _, _ => ⟨S4x3x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel27Ideal.lean ====
abbrev S4x3x32 : Shape := ⟨3, ![4, 3, 32]⟩
abbrev S12x32 : Shape := ⟨2, ![12, 32]⟩

abbrev nBuf : Space → Nat
  | .hbm => 11
  | .vmem => 7
  | .smem => 0
  | _ => 0

abbrev bufTy : (tb : Table) → Fin (tcTables nBuf tb) → BufTy
  | .hbm, ⟨0, _⟩ => ⟨S4x3x32, .f32⟩
  | .hbm, ⟨1, _⟩ => ⟨S4x3x32, .f32⟩
  | .hbm, ⟨2, _⟩ => ⟨S4x3x32, .f32⟩
  | .hbm, ⟨3, _⟩ => ⟨S4x3x32, .f32⟩
  | .hbm, ⟨4, _⟩ => ⟨S12x32, .f32⟩
  | .hbm, ⟨5, _⟩ => ⟨S12x32, .f32⟩
  | .hbm, ⟨6, _⟩ => ⟨S12x32, .f32⟩
  | .hbm, ⟨7, _⟩ => ⟨S12x32, .f32⟩
  | .hbm, ⟨8, _⟩ => ⟨S12x32, .f32⟩
  | .hbm, ⟨9, _⟩ => ⟨S12x32, .f32⟩
  | .hbm, ⟨10, _⟩ => ⟨S12x32, .f32⟩
  | .local _ .vmem, ⟨0, _⟩ => ⟨S12x32, .f32⟩
  | .local _ .vmem, ⟨1, _⟩ => ⟨S12x32, .f32⟩
  | .local _ .vmem, ⟨2, _⟩ => ⟨S12x32, .f32⟩
  | .local _ .vmem, ⟨3, _⟩ => ⟨S12x32, .f32⟩
  | .local _ .vmem, ⟨4, _⟩ => ⟨S12x32, .f32⟩
  | .local _ .vmem, ⟨5, _⟩ => ⟨S12x32, .f32⟩
  | .local _ .vmem, ⟨6, _⟩ => ⟨S12x32, .f32⟩
  | _, _ => ⟨S4x3x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference27Ideal.lean ====
abbrev S4x3x32 : Shape := ⟨3, ![4, 3, 32]⟩
abbrev S_ : Shape := ⟨0, ![]⟩
abbrev S12x32 : Shape := ⟨2, ![12, 32]⟩

abbrev nBuf : Space → Nat
  | .hbm => 40
  | .vmem => 0
  | .smem => 0
  | _ => 0

abbrev bufTy : (tb : Table) → Fin (tcTables nBuf tb) → BufTy
  | .hbm, ⟨0, _⟩ => ⟨S4x3x32, .f32⟩
  | .hbm, ⟨1, _⟩ => ⟨S4x3x32, .f32⟩
  | .hbm, ⟨2, _⟩ => ⟨S4x3x32, .f32⟩
  | .hbm, ⟨3, _⟩ => ⟨S4x3x32, .f32⟩
  | .hbm, ⟨4, _⟩ => ⟨S_, .f32⟩
  | .hbm, ⟨5, _⟩ => ⟨S4x3x32, .f32⟩
  | .hbm, ⟨6, _⟩ => ⟨S4x3x32, .f32⟩
  | .hbm, ⟨7, _⟩ => ⟨S_, .f32⟩
  | .hbm, ⟨8, _⟩ => ⟨S4x3x32, .f32⟩
  | .hbm, ⟨9, _⟩ => ⟨S4x3x32, .f32⟩
  | .hbm, ⟨10, _⟩ => ⟨S4x3x32, .f32⟩
  | .hbm, ⟨11, _⟩ => ⟨S_, .f32⟩
  | .hbm, ⟨12, _⟩ => ⟨S4x3x32, .f32⟩
  | .hbm, ⟨13, _⟩ => ⟨S4x3x32, .f32⟩
  | .hbm, ⟨14, _⟩ => ⟨S4x3x32, .f32⟩
  | .hbm, ⟨15, _⟩ => ⟨S_, .f32⟩
  | .hbm, ⟨16, _⟩ => ⟨S4x3x32, .f32⟩
  | .hbm, ⟨17, _⟩ => ⟨S4x3x32, .f32⟩
  | .hbm, ⟨18, _⟩ => ⟨S4x3x32, .f32⟩
  | .hbm, ⟨19, _⟩ => ⟨S_, .f32⟩
  | .hbm, ⟨20, _⟩ => ⟨S4x3x32, .f32⟩
  | .hbm, ⟨21, _⟩ => ⟨S4x3x32, .f32⟩
  | .hbm, ⟨22, _⟩ => ⟨S_, .f32⟩
  | .hbm, ⟨23, _⟩ => ⟨S4x3x32, .f32⟩
  | .hbm, ⟨24, _⟩ => ⟨S4x3x32, .f32⟩
  | .hbm, ⟨25, _⟩ => ⟨S4x3x32, .f32⟩
  | .hbm, ⟨26, _⟩ => ⟨S_, .f32⟩
  | .hbm, ⟨27, _⟩ => ⟨S4x3x32, .f32⟩
  | .hbm, ⟨28, _⟩ => ⟨S4x3x32, .f32⟩
  | .hbm, ⟨29, _⟩ => ⟨S4x3x32, .f32⟩
  | .hbm, ⟨30, _⟩ => ⟨S_, .f32⟩
  | .hbm, ⟨31, _⟩ => ⟨S4x3x32, .f32⟩
  | .hbm, ⟨32, _⟩ => ⟨S4x3x32, .f32⟩
  | .hbm, ⟨33, _⟩ => ⟨S4x3x32, .f32⟩
  | .hbm, ⟨34, _⟩ => ⟨S_, .f32⟩
  | .hbm, ⟨35, _⟩ => ⟨S4x3x32, .f32⟩
  | .hbm, ⟨36, _⟩ => ⟨S4x3x32, .f32⟩
  | .hbm, ⟨37, _⟩ => ⟨S12x32, .f32⟩
  | .hbm, ⟨38, _⟩ => ⟨S12x32, .f32⟩
  | .hbm, ⟨39, _⟩ => ⟨S12x32, .f32⟩
  | _, _ => ⟨S4x3x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel28.lean ====
abbrev S4x8 : Shape := ⟨2, ![4, 8]⟩

abbrev nBuf : Space → Nat
  | .hbm => 7
  | .vmem => 7
  | .smem => 0
  | _ => 0

abbrev bufTy : (tb : Table) → Fin (tcTables nBuf tb) → BufTy
  | .hbm, ⟨0, _⟩ => ⟨S4x8, .f32⟩
  | .hbm, ⟨1, _⟩ => ⟨S4x8, .f32⟩
  | .hbm, ⟨2, _⟩ => ⟨S4x8, .f32⟩
  | .hbm, ⟨3, _⟩ => ⟨S4x8, .f32⟩
  | .hbm, ⟨4, _⟩ => ⟨S4x8, .f32⟩
  | .hbm, ⟨5, _⟩ => ⟨S4x8, .f32⟩
  | .hbm, ⟨6, _⟩ => ⟨S4x8, .f32⟩
  | .local _ .vmem, ⟨0, _⟩ => ⟨S4x8, .f32⟩
  | .local _ .vmem, ⟨1, _⟩ => ⟨S4x8, .f32⟩
  | .local _ .vmem, ⟨2, _⟩ => ⟨S4x8, .f32⟩
  | .local _ .vmem, ⟨3, _⟩ => ⟨S4x8, .f32⟩
  | .local _ .vmem, ⟨4, _⟩ => ⟨S4x8, .f32⟩
  | .local _ .vmem, ⟨5, _⟩ => ⟨S4x8, .f32⟩
  | .local _ .vmem, ⟨6, _⟩ => ⟨S4x8, .f32⟩
  | _, _ => ⟨S4x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel28Ideal.lean ====
abbrev S4x8 : Shape := ⟨2, ![4, 8]⟩

abbrev nBuf : Space → Nat
  | .hbm => 7
  | .vmem => 7
  | .smem => 0
  | _ => 0

abbrev bufTy : (tb : Table) → Fin (tcTables nBuf tb) → BufTy
  | .hbm, ⟨0, _⟩ => ⟨S4x8, .f32⟩
  | .hbm, ⟨1, _⟩ => ⟨S4x8, .f32⟩
  | .hbm, ⟨2, _⟩ => ⟨S4x8, .f32⟩
  | .hbm, ⟨3, _⟩ => ⟨S4x8, .f32⟩
  | .hbm, ⟨4, _⟩ => ⟨S4x8, .f32⟩
  | .hbm, ⟨5, _⟩ => ⟨S4x8, .f32⟩
  | .hbm, ⟨6, _⟩ => ⟨S4x8, .f32⟩
  | .local _ .vmem, ⟨0, _⟩ => ⟨S4x8, .f32⟩
  | .local _ .vmem, ⟨1, _⟩ => ⟨S4x8, .f32⟩
  | .local _ .vmem, ⟨2, _⟩ => ⟨S4x8, .f32⟩
  | .local _ .vmem, ⟨3, _⟩ => ⟨S4x8, .f32⟩
  | .local _ .vmem, ⟨4, _⟩ => ⟨S4x8, .f32⟩
  | .local _ .vmem, ⟨5, _⟩ => ⟨S4x8, .f32⟩
  | .local _ .vmem, ⟨6, _⟩ => ⟨S4x8, .f32⟩
  | _, _ => ⟨S4x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference28Ideal.lean ====
abbrev S4x8 : Shape := ⟨2, ![4, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x8, .f32⟩
  | .hbm, ⟨1, _⟩ => ⟨S4x8, .f32⟩
  | .hbm, ⟨2, _⟩ => ⟨S4x8, .f32⟩
  | .hbm, ⟨3, _⟩ => ⟨S4x8, .f32⟩
  | .hbm, ⟨4, _⟩ => ⟨S_, .f32⟩
  | .hbm, ⟨5, _⟩ => ⟨S4x8, .f32⟩
  | .hbm, ⟨6, _⟩ => ⟨S4x8, .f32⟩
  | .hbm, ⟨7, _⟩ => ⟨S_, .f32⟩
  | .hbm, ⟨8, _⟩ => ⟨S4x8, .f32⟩
  | .hbm, ⟨9, _⟩ => ⟨S4x8, .f32⟩
  | .hbm, ⟨10, _⟩ => ⟨S4x8, .f32⟩
  | .hbm, ⟨11, _⟩ => ⟨S_, .f32⟩
  | .hbm, ⟨12, _⟩ => ⟨S4x8, .f32⟩
  | .hbm, ⟨13, _⟩ => ⟨S4x8, .f32⟩
  | .hbm, ⟨14, _⟩ => ⟨S4x8, .f32⟩
  | .hbm, ⟨15, _⟩ => ⟨S_, .f32⟩
  | .hbm, ⟨16, _⟩ => ⟨S4x8, .f32⟩
  | .hbm, ⟨17, _⟩ => ⟨S4x8, .f32⟩
  | .hbm, ⟨18, _⟩ => ⟨S4x8, .f32⟩
  | .hbm, ⟨19, _⟩ => ⟨S_, .f32⟩
  | .hbm, ⟨20, _⟩ => ⟨S4x8, .f32⟩
  | .hbm, ⟨21, _⟩ => ⟨S4x8, .f32⟩
  | .hbm, ⟨22, _⟩ => ⟨S_, .f32⟩
  | .hbm, ⟨23, _⟩ => ⟨S4x8, .f32⟩
  | .hbm, ⟨24, _⟩ => ⟨S4x8, .f32⟩
  | .hbm, ⟨25, _⟩ => ⟨S4x8, .f32⟩
  | .hbm, ⟨26, _⟩ => ⟨S_, .f32⟩
  | .hbm, ⟨27, _⟩ => ⟨S4x8, .f32⟩
  | .hbm, ⟨28, _⟩ => ⟨S4x8, .f32⟩
  | .hbm, ⟨29, _⟩ => ⟨S4x8, .f32⟩
  | .hbm, ⟨30, _⟩ => ⟨S_, .f32⟩
  | .hbm, ⟨31, _⟩ => ⟨S4x8, .f32⟩
  | .hbm, ⟨32, _⟩ => ⟨S4x8, .f32⟩
  | .hbm, ⟨33, _⟩ => ⟨S4x8, .f32⟩
  | .hbm, ⟨34, _⟩ => ⟨S_, .f32⟩
  | .hbm, ⟨35, _⟩ => ⟨S4x8, .f32⟩
  | .hbm, ⟨36, _⟩ => ⟨S4x8, .f32⟩
  | _, _ => ⟨S4x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S4x2x16x64 : Shape := ⟨4, ![4, 2, 16, 64]⟩
abbrev S128x64 : Shape := ⟨2, ![128, 64]⟩

abbrev nBuf : Space → Nat
  | .hbm => 11
  | .vmem => 7
  | .smem => 0
  | _ => 0

abbrev bufTy : (tb : Table) → Fin (tcTables nBuf tb) → BufTy
  | .hbm, ⟨0, _⟩ => ⟨S4x2x16x64, .f32⟩
  | .hbm, ⟨1, _⟩ => ⟨S4x2x16x64, .f32⟩
  | .hbm, ⟨2, _⟩ => ⟨S4x2x16x64, .f32⟩
  | .hbm, ⟨3, _⟩ => ⟨S4x2x16x64, .f32⟩
  | .hbm, ⟨4, _⟩ => ⟨S128x64, .f32⟩
  | .hbm, ⟨5, _⟩ => ⟨S128x64, .f32⟩
  | .hbm, ⟨6, _⟩ => ⟨S128x64, .f32⟩
  | .hbm, ⟨7, _⟩ => ⟨S128x64, .f32⟩
  | .hbm, ⟨8, _⟩ => ⟨S128x64, .f32⟩
  | .hbm, ⟨9, _⟩ => ⟨S128x64, .f32⟩
  | .hbm, ⟨10, _⟩ => ⟨S128x64, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | _, _ => ⟨S4x2x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel29Ideal.lean ====
abbrev S4x2x16x64 : Shape := ⟨4, ![4, 2, 16, 64]⟩
abbrev S128x64 : Shape := ⟨2, ![128, 64]⟩

abbrev nBuf : Space → Nat
  | .hbm => 11
  | .vmem => 7
  | .smem => 0
  | _ => 0

abbrev bufTy : (tb : Table) → Fin (tcTables nBuf tb) → BufTy
  | .hbm, ⟨0, _⟩ => ⟨S4x2x16x64, .f32⟩
  | .hbm, ⟨1, _⟩ => ⟨S4x2x16x64, .f32⟩
  | .hbm, ⟨2, _⟩ => ⟨S4x2x16x64, .f32⟩
  | .hbm, ⟨3, _⟩ => ⟨S4x2x16x64, .f32⟩
  | .hbm, ⟨4, _⟩ => ⟨S128x64, .f32⟩
  | .hbm, ⟨5, _⟩ => ⟨S128x64, .f32⟩
  | .hbm, ⟨6, _⟩ => ⟨S128x64, .f32⟩
  | .hbm, ⟨7, _⟩ => ⟨S128x64, .f32⟩
  | .hbm, ⟨8, _⟩ => ⟨S128x64, .f32⟩
  | .hbm, ⟨9, _⟩ => ⟨S128x64, .f32⟩
  | .hbm, ⟨10, _⟩ => ⟨S128x64, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | _, _ => ⟨S4x2x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference29Ideal.lean ====
abbrev S4x2x16x64 : Shape := ⟨4, ![4, 2, 16, 64]⟩
abbrev S_ : Shape := ⟨0, ![]⟩
abbrev S128x64 : Shape := ⟨2, ![128, 64]⟩

abbrev nBuf : Space → Nat
  | .hbm => 40
  | .vmem => 0
  | .smem => 0
  | _ => 0

abbrev bufTy : (tb : Table) → Fin (tcTables nBuf tb) → BufTy
  | .hbm, ⟨0, _⟩ => ⟨S4x2x16x64, .f32⟩
  | .hbm, ⟨1, _⟩ => ⟨S4x2x16x64, .f32⟩
  | .hbm, ⟨2, _⟩ => ⟨S4x2x16x64, .f32⟩
  | .hbm, ⟨3, _⟩ => ⟨S4x2x16x64, .f32⟩
  | .hbm, ⟨4, _⟩ => ⟨S_, .f32⟩
  | .hbm, ⟨5, _⟩ => ⟨S4x2x16x64, .f32⟩
  | .hbm, ⟨6, _⟩ => ⟨S4x2x16x64, .f32⟩
  | .hbm, ⟨7, _⟩ => ⟨S_, .f32⟩
  | .hbm, ⟨8, _⟩ => ⟨S4x2x16x64, .f32⟩
  | .hbm, ⟨9, _⟩ => ⟨S4x2x16x64, .f32⟩
  | .hbm, ⟨10, _⟩ => ⟨S4x2x16x64, .f32⟩
  | .hbm, ⟨11, _⟩ => ⟨S_, .f32⟩
  | .hbm, ⟨12, _⟩ => ⟨S4x2x16x64, .f32⟩
  | .hbm, ⟨13, _⟩ => ⟨S4x2x16x64, .f32⟩
  | .hbm, ⟨14, _⟩ => ⟨S4x2x16x64, .f32⟩
  | .hbm, ⟨15, _⟩ => ⟨S_, .f32⟩
  | .hbm, ⟨16, _⟩ => ⟨S4x2x16x64, .f32⟩
  | .hbm, ⟨17, _⟩ => ⟨S4x2x16x64, .f32⟩
  | .hbm, ⟨18, _⟩ => ⟨S4x2x16x64, .f32⟩
  | .hbm, ⟨19, _⟩ => ⟨S_, .f32⟩
  | .hbm, ⟨20, _⟩ => ⟨S4x2x16x64, .f32⟩
  | .hbm, ⟨21, _⟩ => ⟨S4x2x16x64, .f32⟩
  | .hbm, ⟨22, _⟩ => ⟨S_, .f32⟩
  | .hbm, ⟨23, _⟩ => ⟨S4x2x16x64, .f32⟩
  | .hbm, ⟨24, _⟩ => ⟨S4x2x16x64, .f32⟩
  | .hbm, ⟨25, _⟩ => ⟨S4x2x16x64, .f32⟩
  | .hbm, ⟨26, _⟩ => ⟨S_, .f32⟩
  | .hbm, ⟨27, _⟩ => ⟨S4x2x16x64, .f32⟩
  | .hbm, ⟨28, _⟩ => ⟨S4x2x16x64, .f32⟩
  | .hbm, ⟨29, _⟩ => ⟨S4x2x16x64, .f32⟩
  | .hbm, ⟨30, _⟩ => ⟨S_, .f32⟩
  | .hbm, ⟨31, _⟩ => ⟨S4x2x16x64, .f32⟩
  | .hbm, ⟨32, _⟩ => ⟨S4x2x16x64, .f32⟩
  | .hbm, ⟨33, _⟩ => ⟨S4x2x16x64, .f32⟩
  | .hbm, ⟨34, _⟩ => ⟨S_, .f32⟩
  | .hbm, ⟨35, _⟩ => ⟨S4x2x16x64, .f32⟩
  | .hbm, ⟨36, _⟩ => ⟨S4x2x16x64, .f32⟩
  | .hbm, ⟨37, _⟩ => ⟨S128x64, .f32⟩
  | .hbm, ⟨38, _⟩ => ⟨S128x64, .f32⟩
  | .hbm, ⟨39, _⟩ => ⟨S128x64, .f32⟩
  | _, _ => ⟨S4x2x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel30.lean ====
abbrev S4x2x16 : Shape := ⟨3, ![4, 2, 16]⟩
abbrev S8x16 : Shape := ⟨2, ![8, 16]⟩

abbrev nBuf : Space → Nat
  | .hbm => 11
  | .vmem => 7
  | .smem => 0
  | _ => 0

abbrev bufTy : (tb : Table) → Fin (tcTables nBuf tb) → BufTy
  | .hbm, ⟨0, _⟩ => ⟨S4x2x16, .f32⟩
  | .hbm, ⟨1, _⟩ => ⟨S4x2x16, .f32⟩
  | .hbm, ⟨2, _⟩ => ⟨S4x2x16, .f32⟩
  | .hbm, ⟨3, _⟩ => ⟨S4x2x16, .f32⟩
  | .hbm, ⟨4, _⟩ => ⟨S8x16, .f32⟩
  | .hbm, ⟨5, _⟩ => ⟨S8x16, .f32⟩
  | .hbm, ⟨6, _⟩ => ⟨S8x16, .f32⟩
  | .hbm, ⟨7, _⟩ => ⟨S8x16, .f32⟩
  | .hbm, ⟨8, _⟩ => ⟨S8x16, .f32⟩
  | .hbm, ⟨9, _⟩ => ⟨S8x16, .f32⟩
  | .hbm, ⟨10, _⟩ => ⟨S8x16, .f32⟩
  | .local _ .vmem, ⟨0, _⟩ => ⟨S8x16, .f32⟩
  | .local _ .vmem, ⟨1, _⟩ => ⟨S8x16, .f32⟩
  | .local _ .vmem, ⟨2, _⟩ => ⟨S8x16, .f32⟩
  | .local _ .vmem, ⟨3, _⟩ => ⟨S8x16, .f32⟩
  | .local _ .vmem, ⟨4, _⟩ => ⟨S8x16, .f32⟩
  | .local _ .vmem, ⟨5, _⟩ => ⟨S8x16, .f32⟩
  | .local _ .vmem, ⟨6, _⟩ => ⟨S8x16, .f32⟩
  | _, _ => ⟨S4x2x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel30Ideal.lean ====
abbrev S4x2x16 : Shape := ⟨3, ![4, 2, 16]⟩
abbrev S8x16 : Shape := ⟨2, ![8, 16]⟩

abbrev nBuf : Space → Nat
  | .hbm => 11
  | .vmem => 7
  | .smem => 0
  | _ => 0

abbrev bufTy : (tb : Table) → Fin (tcTables nBuf tb) → BufTy
  | .hbm, ⟨0, _⟩ => ⟨S4x2x16, .f32⟩
  | .hbm, ⟨1, _⟩ => ⟨S4x2x16, .f32⟩
  | .hbm, ⟨2, _⟩ => ⟨S4x2x16, .f32⟩
  | .hbm, ⟨3, _⟩ => ⟨S4x2x16, .f32⟩
  | .hbm, ⟨4, _⟩ => ⟨S8x16, .f32⟩
  | .hbm, ⟨5, _⟩ => ⟨S8x16, .f32⟩
  | .hbm, ⟨6, _⟩ => ⟨S8x16, .f32⟩
  | .hbm, ⟨7, _⟩ => ⟨S8x16, .f32⟩
  | .hbm, ⟨8, _⟩ => ⟨S8x16, .f32⟩
  | .hbm, ⟨9, _⟩ => ⟨S8x16, .f32⟩
  | .hbm, ⟨10, _⟩ => ⟨S8x16, .f32⟩
  | .local _ .vmem, ⟨0, _⟩ => ⟨S8x16, .f32⟩
  | .local _ .vmem, ⟨1, _⟩ => ⟨S8x16, .f32⟩
  | .local _ .vmem, ⟨2, _⟩ => ⟨S8x16, .f32⟩
  | .local _ .vmem, ⟨3, _⟩ => ⟨S8x16, .f32⟩
  | .local _ .vmem, ⟨4, _⟩ => ⟨S8x16, .f32⟩
  | .local _ .vmem, ⟨5, _⟩ => ⟨S8x16, .f32⟩
  | .local _ .vmem, ⟨6, _⟩ => ⟨S8x16, .f32⟩
  | _, _ => ⟨S4x2x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference30Ideal.lean ====
abbrev S4x2x16 : Shape := ⟨3, ![4, 2, 16]⟩
abbrev S_ : Shape := ⟨0, ![]⟩
abbrev S8x16 : Shape := ⟨2, ![8, 16]⟩

abbrev nBuf : Space → Nat
  | .hbm => 40
  | .vmem => 0
  | .smem => 0
  | _ => 0

abbrev bufTy : (tb : Table) → Fin (tcTables nBuf tb) → BufTy
  | .hbm, ⟨0, _⟩ => ⟨S4x2x16, .f32⟩
  | .hbm, ⟨1, _⟩ => ⟨S4x2x16, .f32⟩
  | .hbm, ⟨2, _⟩ => ⟨S4x2x16, .f32⟩
  | .hbm, ⟨3, _⟩ => ⟨S4x2x16, .f32⟩
  | .hbm, ⟨4, _⟩ => ⟨S_, .f32⟩
  | .hbm, ⟨5, _⟩ => ⟨S4x2x16, .f32⟩
  | .hbm, ⟨6, _⟩ => ⟨S4x2x16, .f32⟩
  | .hbm, ⟨7, _⟩ => ⟨S_, .f32⟩
  | .hbm, ⟨8, _⟩ => ⟨S4x2x16, .f32⟩
  | .hbm, ⟨9, _⟩ => ⟨S4x2x16, .f32⟩
  | .hbm, ⟨10, _⟩ => ⟨S4x2x16, .f32⟩
  | .hbm, ⟨11, _⟩ => ⟨S_, .f32⟩
  | .hbm, ⟨12, _⟩ => ⟨S4x2x16, .f32⟩
  | .hbm, ⟨13, _⟩ => ⟨S4x2x16, .f32⟩
  | .hbm, ⟨14, _⟩ => ⟨S4x2x16, .f32⟩
  | .hbm, ⟨15, _⟩ => ⟨S_, .f32⟩
  | .hbm, ⟨16, _⟩ => ⟨S4x2x16, .f32⟩
  | .hbm, ⟨17, _⟩ => ⟨S4x2x16, .f32⟩
  | .hbm, ⟨18, _⟩ => ⟨S4x2x16, .f32⟩
  | .hbm, ⟨19, _⟩ => ⟨S_, .f32⟩
  | .hbm, ⟨20, _⟩ => ⟨S4x2x16, .f32⟩
  | .hbm, ⟨21, _⟩ => ⟨S4x2x16, .f32⟩
  | .hbm, ⟨22, _⟩ => ⟨S_, .f32⟩
  | .hbm, ⟨23, _⟩ => ⟨S4x2x16, .f32⟩
  | .hbm, ⟨24, _⟩ => ⟨S4x2x16, .f32⟩
  | .hbm, ⟨25, _⟩ => ⟨S4x2x16, .f32⟩
  | .hbm, ⟨26, _⟩ => ⟨S_, .f32⟩
  | .hbm, ⟨27, _⟩ => ⟨S4x2x16, .f32⟩
  | .hbm, ⟨28, _⟩ => ⟨S4x2x16, .f32⟩
  | .hbm, ⟨29, _⟩ => ⟨S4x2x16, .f32⟩
  | .hbm, ⟨30, _⟩ => ⟨S_, .f32⟩
  | .hbm, ⟨31, _⟩ => ⟨S4x2x16, .f32⟩
  | .hbm, ⟨32, _⟩ => ⟨S4x2x16, .f32⟩
  | .hbm, ⟨33, _⟩ => ⟨S4x2x16, .f32⟩
  | .hbm, ⟨34, _⟩ => ⟨S_, .f32⟩
  | .hbm, ⟨35, _⟩ => ⟨S4x2x16, .f32⟩
  | .hbm, ⟨36, _⟩ => ⟨S4x2x16, .f32⟩
  | .hbm, ⟨37, _⟩ => ⟨S8x16, .f32⟩
  | .hbm, ⟨38, _⟩ => ⟨S8x16, .f32⟩
  | .hbm, ⟨39, _⟩ => ⟨S8x16, .f32⟩
  | _, _ => ⟨S4x2x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel31.lean ====
abbrev S4x2x16x64x16 : Shape := ⟨5, ![4, 2, 16, 64, 16]⟩
abbrev S8192x16 : Shape := ⟨2, ![8192, 16]⟩
abbrev S1024x16 : Shape := ⟨2, ![1024, 16]⟩

abbrev nBuf : Space → Nat
  | .hbm => 11
  | .vmem => 14
  | .smem => 0
  | _ => 0

abbrev bufTy : (tb : Table) → Fin (tcTables nBuf tb) → BufTy
  | .hbm, ⟨0, _⟩ => ⟨S4x2x16x64x16, .f32⟩
  | .hbm, ⟨1, _⟩ => ⟨S4x2x16x64x16, .f32⟩
  | .hbm, ⟨2, _⟩ => ⟨S4x2x16x64x16, .f32⟩
  | .hbm, ⟨3, _⟩ => ⟨S4x2x16x64x16, .f32⟩
  | .hbm, ⟨4, _⟩ => ⟨S8192x16, .f32⟩
  | .hbm, ⟨5, _⟩ => ⟨S8192x16, .f32⟩
  | .hbm, ⟨6, _⟩ => ⟨S8192x16, .f32⟩
  | .hbm, ⟨7, _⟩ => ⟨S8192x16, .f32⟩
  | .hbm, ⟨8, _⟩ => ⟨S8192x16, .f32⟩
  | .hbm, ⟨9, _⟩ => ⟨S8192x16, .f32⟩
  | .hbm, ⟨10, _⟩ => ⟨S8192x16, .f32⟩
  | .local _ .vmem, ⟨0, _⟩ => ⟨S1024x16, .f32⟩
  | .local _ .vmem, ⟨1, _⟩ => ⟨S1024x16, .f32⟩
  | .local _ .vmem, ⟨2, _⟩ => ⟨S1024x16, .f32⟩
  | .local _ .vmem, ⟨3, _⟩ => ⟨S1024x16, .f32⟩
  | .local _ .vmem, ⟨4, _⟩ => ⟨S1024x16, .f32⟩
  | .local _ .vmem, ⟨5, _⟩ => ⟨S1024x16, .f32⟩
  | .local _ .vmem, ⟨6, _⟩ => ⟨S1024x16, .f32⟩
  | .local _ .vmem, ⟨7, _⟩ => ⟨S1024x16, .f32⟩
  | .local _ .vmem, ⟨8, _⟩ => ⟨S1024x16, .f32⟩
  | .local _ .vmem, ⟨9, _⟩ => ⟨S1024x16, .f32⟩
  | .local _ .vmem, ⟨10, _⟩ => ⟨S1024x16, .f32⟩
  | .local _ .vmem, ⟨11, _⟩ => ⟨S1024x16, .f32⟩
  | .local _ .vmem, ⟨12, _⟩ => ⟨S1024x16, .f32⟩
  | .local _ .vmem, ⟨13, _⟩ => ⟨S1024x16, .f32⟩
  | _, _ => ⟨S4x2x16x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel31Ideal.lean ====
abbrev S4x2x16x64x16 : Shape := ⟨5, ![4, 2, 16, 64, 16]⟩
abbrev S8192x16 : Shape := ⟨2, ![8192, 16]⟩
abbrev S1024x16 : Shape := ⟨2, ![1024, 16]⟩

abbrev nBuf : Space → Nat
  | .hbm => 11
  | .vmem => 14
  | .smem => 0
  | _ => 0

abbrev bufTy : (tb : Table) → Fin (tcTables nBuf tb) → BufTy
  | .hbm, ⟨0, _⟩ => ⟨S4x2x16x64x16, .f32⟩
  | .hbm, ⟨1, _⟩ => ⟨S4x2x16x64x16, .f32⟩
  | .hbm, ⟨2, _⟩ => ⟨S4x2x16x64x16, .f32⟩
  | .hbm, ⟨3, _⟩ => ⟨S4x2x16x64x16, .f32⟩
  | .hbm, ⟨4, _⟩ => ⟨S8192x16, .f32⟩
  | .hbm, ⟨5, _⟩ => ⟨S8192x16, .f32⟩
  | .hbm, ⟨6, _⟩ => ⟨S8192x16, .f32⟩
  | .hbm, ⟨7, _⟩ => ⟨S8192x16, .f32⟩
  | .hbm, ⟨8, _⟩ => ⟨S8192x16, .f32⟩
  | .hbm, ⟨9, _⟩ => ⟨S8192x16, .f32⟩
  | .hbm, ⟨10, _⟩ => ⟨S8192x16, .f32⟩
  | .local _ .vmem, ⟨0, _⟩ => ⟨S1024x16, .f32⟩
  | .local _ .vmem, ⟨1, _⟩ => ⟨S1024x16, .f32⟩
  | .local _ .vmem, ⟨2, _⟩ => ⟨S1024x16, .f32⟩
  | .local _ .vmem, ⟨3, _⟩ => ⟨S1024x16, .f32⟩
  | .local _ .vmem, ⟨4, _⟩ => ⟨S1024x16, .f32⟩
  | .local _ .vmem, ⟨5, _⟩ => ⟨S1024x16, .f32⟩
  | .local _ .vmem, ⟨6, _⟩ => ⟨S1024x16, .f32⟩
  | .local _ .vmem, ⟨7, _⟩ => ⟨S1024x16, .f32⟩
  | .local _ .vmem, ⟨8, _⟩ => ⟨S1024x16, .f32⟩
  | .local _ .vmem, ⟨9, _⟩ => ⟨S1024x16, .f32⟩
  | .local _ .vmem, ⟨10, _⟩ => ⟨S1024x16, .f32⟩
  | .local _ .vmem, ⟨11, _⟩ => ⟨S1024x16, .f32⟩
  | .local _ .vmem, ⟨12, _⟩ => ⟨S1024x16, .f32⟩
  | .local _ .vmem, ⟨13, _⟩ => ⟨S1024x16, .f32⟩
  | _, _ => ⟨S4x2x16x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference31Ideal.lean ====
abbrev S4x2x16x64x16 : Shape := ⟨5, ![4, 2, 16, 64, 16]⟩
abbrev S_ : Shape := ⟨0, ![]⟩
abbrev S8192x16 : Shape := ⟨2, ![8192, 16]⟩

abbrev nBuf : Space → Nat
  | .hbm => 40
  | .vmem => 0
  | .smem => 0
  | _ => 0

abbrev bufTy : (tb : Table) → Fin (tcTables nBuf tb) → BufTy
  | .hbm, ⟨0, _⟩ => ⟨S4x2x16x64x16, .f32⟩
  | .hbm, ⟨1, _⟩ => ⟨S4x2x16x64x16, .f32⟩
  | .hbm, ⟨2, _⟩ => ⟨S4x2x16x64x16, .f32⟩
  | .hbm, ⟨3, _⟩ => ⟨S4x2x16x64x16, .f32⟩
  | .hbm, ⟨4, _⟩ => ⟨S_, .f32⟩
  | .hbm, ⟨5, _⟩ => ⟨S4x2x16x64x16, .f32⟩
  | .hbm, ⟨6, _⟩ => ⟨S4x2x16x64x16, .f32⟩
  | .hbm, ⟨7, _⟩ => ⟨S_, .f32⟩
  | .hbm, ⟨8, _⟩ => ⟨S4x2x16x64x16, .f32⟩
  | .hbm, ⟨9, _⟩ => ⟨S4x2x16x64x16, .f32⟩
  | .hbm, ⟨10, _⟩ => ⟨S4x2x16x64x16, .f32⟩
  | .hbm, ⟨11, _⟩ => ⟨S_, .f32⟩
  | .hbm, ⟨12, _⟩ => ⟨S4x2x16x64x16, .f32⟩
  | .hbm, ⟨13, _⟩ => ⟨S4x2x16x64x16, .f32⟩
  | .hbm, ⟨14, _⟩ => ⟨S4x2x16x64x16, .f32⟩
  | .hbm, ⟨15, _⟩ => ⟨S_, .f32⟩
  | .hbm, ⟨16, _⟩ => ⟨S4x2x16x64x16, .f32⟩
  | .hbm, ⟨17, _⟩ => ⟨S4x2x16x64x16, .f32⟩
  | .hbm, ⟨18, _⟩ => ⟨S4x2x16x64x16, .f32⟩
  | .hbm, ⟨19, _⟩ => ⟨S_, .f32⟩
  | .hbm, ⟨20, _⟩ => ⟨S4x2x16x64x16, .f32⟩
  | .hbm, ⟨21, _⟩ => ⟨S4x2x16x64x16, .f32⟩
  | .hbm, ⟨22, _⟩ => ⟨S_, .f32⟩
  | .hbm, ⟨23, _⟩ => ⟨S4x2x16x64x16, .f32⟩
  | .hbm, ⟨24, _⟩ => ⟨S4x2x16x64x16, .f32⟩
  | .hbm, ⟨25, _⟩ => ⟨S4x2x16x64x16, .f32⟩
  | .hbm, ⟨26, _⟩ => ⟨S_, .f32⟩
  | .hbm, ⟨27, _⟩ => ⟨S4x2x16x64x16, .f32⟩
  | .hbm, ⟨28, _⟩ => ⟨S4x2x16x64x16, .f32⟩
  | .hbm, ⟨29, _⟩ => ⟨S4x2x16x64x16, .f32⟩
  | .hbm, ⟨30, _⟩ => ⟨S_, .f32⟩
  | .hbm, ⟨31, _⟩ => ⟨S4x2x16x64x16, .f32⟩
  | .hbm, ⟨32, _⟩ => ⟨S4x2x16x64x16, .f32⟩
  | .hbm, ⟨33, _⟩ => ⟨S4x2x16x64x16, .f32⟩
  | .hbm, ⟨34, _⟩ => ⟨S_, .f32⟩
  | .hbm, ⟨35, _⟩ => ⟨S4x2x16x64x16, .f32⟩
  | .hbm, ⟨36, _⟩ => ⟨S4x2x16x64x16, .f32⟩
  | .hbm, ⟨37, _⟩ => ⟨S8192x16, .f32⟩
  | .hbm, ⟨38, _⟩ => ⟨S8192x16, .f32⟩
  | .hbm, ⟨39, _⟩ => ⟨S8192x16, .f32⟩
  | _, _ => ⟨S4x2x16x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel32.lean ====
abbrev S4x2x16x16x64 : Shape := ⟨5, ![4, 2, 16, 16, 64]⟩
abbrev S2048x64 : Shape := ⟨2, ![2048, 64]⟩
abbrev S1024x64 : Shape := ⟨2, ![1024, 64]⟩

abbrev nBuf : Space → Nat
  | .hbm => 11
  | .vmem => 14
  | .smem => 0
  | _ => 0

abbrev bufTy : (tb : Table) → Fin (tcTables nBuf tb) → BufTy
  | .hbm, ⟨0, _⟩ => ⟨S4x2x16x16x64, .f32⟩
  | .hbm, ⟨1, _⟩ => ⟨S4x2x16x16x64, .f32⟩
  | .hbm, ⟨2, _⟩ => ⟨S4x2x16x16x64, .f32⟩
  | .hbm, ⟨3, _⟩ => ⟨S4x2x16x16x64, .f32⟩
  | .hbm, ⟨4, _⟩ => ⟨S2048x64, .f32⟩
  | .hbm, ⟨5, _⟩ => ⟨S2048x64, .f32⟩
  | .hbm, ⟨6, _⟩ => ⟨S2048x64, .f32⟩
  | .hbm, ⟨7, _⟩ => ⟨S2048x64, .f32⟩
  | .hbm, ⟨8, _⟩ => ⟨S2048x64, .f32⟩
  | .hbm, ⟨9, _⟩ => ⟨S2048x64, .f32⟩
  | .hbm, ⟨10, _⟩ => ⟨S2048x64, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | _, _ => ⟨S4x2x16x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel32Ideal.lean ====
abbrev S4x2x16x16x64 : Shape := ⟨5, ![4, 2, 16, 16, 64]⟩
abbrev S2048x64 : Shape := ⟨2, ![2048, 64]⟩
abbrev S1024x64 : Shape := ⟨2, ![1024, 64]⟩

abbrev nBuf : Space → Nat
  | .hbm => 11
  | .vmem => 14
  | .smem => 0
  | _ => 0

abbrev bufTy : (tb : Table) → Fin (tcTables nBuf tb) → BufTy
  | .hbm, ⟨0, _⟩ => ⟨S4x2x16x16x64, .f32⟩
  | .hbm, ⟨1, _⟩ => ⟨S4x2x16x16x64, .f32⟩
  | .hbm, ⟨2, _⟩ => ⟨S4x2x16x16x64, .f32⟩
  | .hbm, ⟨3, _⟩ => ⟨S4x2x16x16x64, .f32⟩
  | .hbm, ⟨4, _⟩ => ⟨S2048x64, .f32⟩
  | .hbm, ⟨5, _⟩ => ⟨S2048x64, .f32⟩
  | .hbm, ⟨6, _⟩ => ⟨S2048x64, .f32⟩
  | .hbm, ⟨7, _⟩ => ⟨S2048x64, .f32⟩
  | .hbm, ⟨8, _⟩ => ⟨S2048x64, .f32⟩
  | .hbm, ⟨9, _⟩ => ⟨S2048x64, .f32⟩
  | .hbm, ⟨10, _⟩ => ⟨S2048x64, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | _, _ => ⟨S4x2x16x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference32Ideal.lean ====
abbrev S4x2x16x16x64 : Shape := ⟨5, ![4, 2, 16, 16, 64]⟩
abbrev S_ : Shape := ⟨0, ![]⟩
abbrev S2048x64 : Shape := ⟨2, ![2048, 64]⟩

abbrev nBuf : Space → Nat
  | .hbm => 40
  | .vmem => 0
  | .smem => 0
  | _ => 0

abbrev bufTy : (tb : Table) → Fin (tcTables nBuf tb) → BufTy
  | .hbm, ⟨0, _⟩ => ⟨S4x2x16x16x64, .f32⟩
  | .hbm, ⟨1, _⟩ => ⟨S4x2x16x16x64, .f32⟩
  | .hbm, ⟨2, _⟩ => ⟨S4x2x16x16x64, .f32⟩
  | .hbm, ⟨3, _⟩ => ⟨S4x2x16x16x64, .f32⟩
  | .hbm, ⟨4, _⟩ => ⟨S_, .f32⟩
  | .hbm, ⟨5, _⟩ => ⟨S4x2x16x16x64, .f32⟩
  | .hbm, ⟨6, _⟩ => ⟨S4x2x16x16x64, .f32⟩
  | .hbm, ⟨7, _⟩ => ⟨S_, .f32⟩
  | .hbm, ⟨8, _⟩ => ⟨S4x2x16x16x64, .f32⟩
  | .hbm, ⟨9, _⟩ => ⟨S4x2x16x16x64, .f32⟩
  | .hbm, ⟨10, _⟩ => ⟨S4x2x16x16x64, .f32⟩
  | .hbm, ⟨11, _⟩ => ⟨S_, .f32⟩
  | .hbm, ⟨12, _⟩ => ⟨S4x2x16x16x64, .f32⟩
  | .hbm, ⟨13, _⟩ => ⟨S4x2x16x16x64, .f32⟩
  | .hbm, ⟨14, _⟩ => ⟨S4x2x16x16x64, .f32⟩
  | .hbm, ⟨15, _⟩ => ⟨S_, .f32⟩
  | .hbm, ⟨16, _⟩ => ⟨S4x2x16x16x64, .f32⟩
  | .hbm, ⟨17, _⟩ => ⟨S4x2x16x16x64, .f32⟩
  | .hbm, ⟨18, _⟩ => ⟨S4x2x16x16x64, .f32⟩
  | .hbm, ⟨19, _⟩ => ⟨S_, .f32⟩
  | .hbm, ⟨20, _⟩ => ⟨S4x2x16x16x64, .f32⟩
  | .hbm, ⟨21, _⟩ => ⟨S4x2x16x16x64, .f32⟩
  | .hbm, ⟨22, _⟩ => ⟨S_, .f32⟩
  | .hbm, ⟨23, _⟩ => ⟨S4x2x16x16x64, .f32⟩
  | .hbm, ⟨24, _⟩ => ⟨S4x2x16x16x64, .f32⟩
  | .hbm, ⟨25, _⟩ => ⟨S4x2x16x16x64, .f32⟩
  | .hbm, ⟨26, _⟩ => ⟨S_, .f32⟩
  | .hbm, ⟨27, _⟩ => ⟨S4x2x16x16x64, .f32⟩
  | .hbm, ⟨28, _⟩ => ⟨S4x2x16x16x64, .f32⟩
  | .hbm, ⟨29, _⟩ => ⟨S4x2x16x16x64, .f32⟩
  | .hbm, ⟨30, _⟩ => ⟨S_, .f32⟩
  | .hbm, ⟨31, _⟩ => ⟨S4x2x16x16x64, .f32⟩
  | .hbm, ⟨32, _⟩ => ⟨S4x2x16x16x64, .f32⟩
  | .hbm, ⟨33, _⟩ => ⟨S4x2x16x16x64, .f32⟩
  | .hbm, ⟨34, _⟩ => ⟨S_, .f32⟩
  | .hbm, ⟨35, _⟩ => ⟨S4x2x16x16x64, .f32⟩
  | .hbm, ⟨36, _⟩ => ⟨S4x2x16x16x64, .f32⟩
  | .hbm, ⟨37, _⟩ => ⟨S2048x64, .f32⟩
  | .hbm, ⟨38, _⟩ => ⟨S2048x64, .f32⟩
  | .hbm, ⟨39, _⟩ => ⟨S2048x64, .f32⟩
  | _, _ => ⟨S4x2x16x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel33.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel33Ideal.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference33Ideal.lean ====
abbrev S4x256 : Shape := ⟨2, ![4, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S_, .f32⟩
  | .hbm, ⟨5, _⟩ => ⟨S4x256, .f32⟩
  | .hbm, ⟨6, _⟩ => ⟨S4x256, .f32⟩
  | .hbm, ⟨7, _⟩ => ⟨S_, .f32⟩
  | .hbm, ⟨8, _⟩ => ⟨S4x256, .f32⟩
  | .hbm, ⟨9, _⟩ => ⟨S4x256, .f32⟩
  | .hbm, ⟨10, _⟩ => ⟨S4x256, .f32⟩
  | .hbm, ⟨11, _⟩ => ⟨S_, .f32⟩
  | .hbm, ⟨12, _⟩ => ⟨S4x256, .f32⟩
  | .hbm, ⟨13, _⟩ => ⟨S4x256, .f32⟩
  | .hbm, ⟨14, _⟩ => ⟨S4x256, .f32⟩
  | .hbm, ⟨15, _⟩ => ⟨S_, .f32⟩
  | .hbm, ⟨16, _⟩ => ⟨S4x256, .f32⟩
  | .hbm, ⟨17, _⟩ => ⟨S4x256, .f32⟩
  | .hbm, ⟨18, _⟩ => ⟨S4x256, .f32⟩
  | .hbm, ⟨19, _⟩ => ⟨S_, .f32⟩
  | .hbm, ⟨20, _⟩ => ⟨S4x256, .f32⟩
  | .hbm, ⟨21, _⟩ => ⟨S4x256, .f32⟩
  | .hbm, ⟨22, _⟩ => ⟨S_, .f32⟩
  | .hbm, ⟨23, _⟩ => ⟨S4x256, .f32⟩
  | .hbm, ⟨24, _⟩ => ⟨S4x256, .f32⟩
  | .hbm, ⟨25, _⟩ => ⟨S4x256, .f32⟩
  | .hbm, ⟨26, _⟩ => ⟨S_, .f32⟩
  | .hbm, ⟨27, _⟩ => ⟨S4x256, .f32⟩
  | .hbm, ⟨28, _⟩ => ⟨S4x256, .f32⟩
  | .hbm, ⟨29, _⟩ => ⟨S4x256, .f32⟩
  | .hbm, ⟨30, _⟩ => ⟨S_, .f32⟩
  | .hbm, ⟨31, _⟩ => ⟨S4x256, .f32⟩
  | .hbm, ⟨32, _⟩ => ⟨S4x256, .f32⟩
  | .hbm, ⟨33, _⟩ => ⟨S4x256, .f32⟩
  | .hbm, ⟨34, _⟩ => ⟨S_, .f32⟩
  | .hbm, ⟨35, _⟩ => ⟨S4x256, .f32⟩
  | .hbm, ⟨36, _⟩ => ⟨S4x256, .f32⟩
  | _, _ => ⟨S4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel34.lean ====
abbrev S4x32x256 : Shape := ⟨3, ![4, 32, 256]⟩
abbrev S128x256 : Shape := ⟨2, ![128, 256]⟩

abbrev nBuf : Space → Nat
  | .hbm => 11
  | .vmem => 7
  | .smem => 0
  | _ => 0

abbrev bufTy : (tb : Table) → Fin (tcTables nBuf tb) → BufTy
  | .hbm, ⟨0, _⟩ => ⟨S4x32x256, .f32⟩
  | .hbm, ⟨1, _⟩ => ⟨S4x32x256, .f32⟩
  | .hbm, ⟨2, _⟩ => ⟨S4x32x256, .f32⟩
  | .hbm, ⟨3, _⟩ => ⟨S4x32x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .hbm, ⟨8, _⟩ => ⟨S128x256, .f32⟩
  | .hbm, ⟨9, _⟩ => ⟨S128x256, .f32⟩
  | .hbm, ⟨10, _⟩ => ⟨S128x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | _, _ => ⟨S4x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference34Ideal.lean ====
abbrev S4x32x256 : Shape := ⟨3, ![4, 32, 256]⟩
abbrev S_ : Shape := ⟨0, ![]⟩
abbrev S128x256 : Shape := ⟨2, ![128, 256]⟩

abbrev nBuf : Space → Nat
  | .hbm => 40
  | .vmem => 0
  | .smem => 0
  | _ => 0

abbrev bufTy : (tb : Table) → Fin (tcTables nBuf tb) → BufTy
  | .hbm, ⟨0, _⟩ => ⟨S4x32x256, .f32⟩
  | .hbm, ⟨1, _⟩ => ⟨S4x32x256, .f32⟩
  | .hbm, ⟨2, _⟩ => ⟨S4x32x256, .f32⟩
  | .hbm, ⟨3, _⟩ => ⟨S4x32x256, .f32⟩
  | .hbm, ⟨4, _⟩ => ⟨S_, .f32⟩
  | .hbm, ⟨5, _⟩ => ⟨S4x32x256, .f32⟩
  | .hbm, ⟨6, _⟩ => ⟨S4x32x256, .f32⟩
  | .hbm, ⟨7, _⟩ => ⟨S_, .f32⟩
  | .hbm, ⟨8, _⟩ => ⟨S4x32x256, .f32⟩
  | .hbm, ⟨9, _⟩ => ⟨S4x32x256, .f32⟩
  | .hbm, ⟨10, _⟩ => ⟨S4x32x256, .f32⟩
  | .hbm, ⟨11, _⟩ => ⟨S_, .f32⟩
  | .hbm, ⟨12, _⟩ => ⟨S4x32x256, .f32⟩
  | .hbm, ⟨13, _⟩ => ⟨S4x32x256, .f32⟩
  | .hbm, ⟨14, _⟩ => ⟨S4x32x256, .f32⟩
  | .hbm, ⟨15, _⟩ => ⟨S_, .f32⟩
  | .hbm, ⟨16, _⟩ => ⟨S4x32x256, .f32⟩
  | .hbm, ⟨17, _⟩ => ⟨S4x32x256, .f32⟩
  | .hbm, ⟨18, _⟩ => ⟨S4x32x256, .f32⟩
  | .hbm, ⟨19, _⟩ => ⟨S_, .f32⟩
  | .hbm, ⟨20, _⟩ => ⟨S4x32x256, .f32⟩
  | .hbm, ⟨21, _⟩ => ⟨S4x32x256, .f32⟩
  | .hbm, ⟨22, _⟩ => ⟨S_, .f32⟩
  | .hbm, ⟨23, _⟩ => ⟨S4x32x256, .f32⟩
  | .hbm, ⟨24, _⟩ => ⟨S4x32x256, .f32⟩
  | .hbm, ⟨25, _⟩ => ⟨S4x32x256, .f32⟩
  | .hbm, ⟨26, _⟩ => ⟨S_, .f32⟩
  | .hbm, ⟨27, _⟩ => ⟨S4x32x256, .f32⟩
  | .hbm, ⟨28, _⟩ => ⟨S4x32x256, .f32⟩
  | .hbm, ⟨29, _⟩ => ⟨S4x32x256, .f32⟩
  | .hbm, ⟨30, _⟩ => ⟨S_, .f32⟩
  | .hbm, ⟨31, _⟩ => ⟨S4x32x256, .f32⟩
  | .hbm, ⟨32, _⟩ => ⟨S4x32x256, .f32⟩
  | .hbm, ⟨33, _⟩ => ⟨S4x32x256, .f32⟩
  | .hbm, ⟨34, _⟩ => ⟨S_, .f32⟩
  | .hbm, ⟨35, _⟩ => ⟨S4x32x256, .f32⟩
  | .hbm, ⟨36, _⟩ => ⟨S4x32x256, .f32⟩
  | .hbm, ⟨37, _⟩ => ⟨S128x256, .f32⟩
  | .hbm, ⟨38, _⟩ => ⟨S128x256, .f32⟩
  | .hbm, ⟨39, _⟩ => ⟨S128x256, .f32⟩
  | _, _ => ⟨S4x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel35.lean ====
abbrev S4x5632x1024 : Shape := ⟨3, ![4, 5632, 1024]⟩
abbrev S5632x1024 : Shape := ⟨2, ![5632, 1024]⟩
abbrev S4x512x1024 : Shape := ⟨3, ![4, 512, 1024]⟩
abbrev S512x1024 : Shape := ⟨2, ![512, 1024]⟩
abbrev S1x512x1024 : Shape := ⟨3, ![1, 512, 1024]⟩
abbrev S896x1024 : Shape := ⟨2, ![896, 1024]⟩
abbrev S4x224x1024 : Shape := ⟨3, ![4, 224, 1024]⟩
abbrev S4x1024x224 : Shape := ⟨3, ![4, 1024, 224]⟩
abbrev S4x128x1024 : Shape := ⟨3, ![4, 128, 1024]⟩
abbrev S2048x1024 : Shape := ⟨2, ![2048, 1024]⟩
abbrev S4x1024x512 : Shape := ⟨3, ![4, 1024, 512]⟩

abbrev nBuf : Space → Nat
  | .hbm => 12
  | .vmem => 4
  | .smem => 0
  | _ => 0

abbrev bufTy : (tb : Table) → Fin (tcTables nBuf tb) → BufTy
  | .hbm, ⟨0, _⟩ => ⟨S4x5632x1024, .bf16⟩
  | .hbm, ⟨1, _⟩ => ⟨S5632x1024, .f32⟩
  | .hbm, ⟨2, _⟩ => ⟨S896x1024, .f32⟩
  | .hbm, ⟨3, _⟩ => ⟨S4x224x1024, .f32⟩
  | .hbm, ⟨4, _⟩ => ⟨S4x1024x224, .f32⟩
  | .hbm, ⟨5, _⟩ => ⟨S512x1024, .f32⟩
  | .hbm, ⟨6, _⟩ => ⟨S4x128x1024, .f32⟩
  | .hbm, ⟨7, _⟩ => ⟨S2048x1024, .f32⟩
  | .hbm, ⟨8, _⟩ => ⟨S4x512x1024, .f32⟩
  | .hbm, ⟨9, _⟩ => ⟨S4x1024x512, .f32⟩
  | .hbm, ⟨10, _⟩ => ⟨S2048x1024, .f32⟩
  | .hbm, ⟨11, _⟩ => ⟨S4x512x1024, .f32⟩
  | .local _ .vmem, ⟨0, _⟩ => ⟨S4x512x1024, .bf16⟩
  | .local _ .vmem, ⟨1, _⟩ => ⟨S4x512x1024, .bf16⟩
  | .local _ .vmem, ⟨2, _⟩ => ⟨S512x1024, .f32⟩
  | .local _ .vmem, ⟨3, _⟩ => ⟨S512x1024, .f32⟩
  | _, _ => ⟨S4x5632x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference35Ideal.lean ====
abbrev S4x5632x1024 : Shape := ⟨3, ![4, 5632, 1024]⟩
abbrev S_ : Shape := ⟨0, ![]⟩
abbrev S5632x1024 : Shape := ⟨2, ![5632, 1024]⟩
abbrev S896x1024 : Shape := ⟨2, ![896, 1024]⟩
abbrev S4x224x1024 : Shape := ⟨3, ![4, 224, 1024]⟩
abbrev S4x1024x224 : Shape := ⟨3, ![4, 1024, 224]⟩
abbrev S512x1024 : Shape := ⟨2, ![512, 1024]⟩
abbrev S4x128x1024 : Shape := ⟨3, ![4, 128, 1024]⟩
abbrev S2048x1024 : Shape := ⟨2, ![2048, 1024]⟩
abbrev S4x512x1024 : Shape := ⟨3, ![4, 512, 1024]⟩
abbrev S4x1024x512 : Shape := ⟨3, ![4, 1024, 512]⟩

abbrev nBuf : Space → Nat
  | .hbm => 14
  | .vmem => 0
  | .smem => 0
  | _ => 0

abbrev bufTy : (tb : Table) → Fin (tcTables nBuf tb) → BufTy
  | .hbm, ⟨0, _⟩ => ⟨S4x5632x1024, .bf16⟩
  | .hbm, ⟨1, _⟩ => ⟨S4x5632x1024, .f32⟩
  | .hbm, ⟨2, _⟩ => ⟨S_, .f32⟩
  | .hbm, ⟨3, _⟩ => ⟨S5632x1024, .f32⟩
  | .hbm, ⟨4, _⟩ => ⟨S896x1024, .f32⟩
  | .hbm, ⟨5, _⟩ => ⟨S4x224x1024, .f32⟩
  | .hbm, ⟨6, _⟩ => ⟨S4x1024x224, .f32⟩
  | .hbm, ⟨7, _⟩ => ⟨S512x1024, .f32⟩
  | .hbm, ⟨8, _⟩ => ⟨S4x128x1024, .f32⟩
  | .hbm, ⟨9, _⟩ => ⟨S2048x1024, .f32⟩
  | .hbm, ⟨10, _⟩ => ⟨S4x512x1024, .f32⟩
  | .hbm, ⟨11, _⟩ => ⟨S4x1024x512, .f32⟩
  | .hbm, ⟨12, _⟩ => ⟨S2048x1024, .f32⟩
  | .hbm, ⟨13, _⟩ => ⟨S4x512x1024, .f32⟩
  | _, _ => ⟨S4x5632x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Kernel36.lean ====
abbrev S8x6656x128 : Shape := ⟨3, ![8, 6656, 128]⟩
abbrev S6656x128 : Shape := ⟨2, ![6656, 128]⟩
abbrev S8x512x128 : Shape := ⟨3, ![8, 512, 128]⟩
abbrev S512x128 : Shape := ⟨2, ![512, 128]⟩
abbrev S1x512x128 : Shape := ⟨3, ![1, 512, 128]⟩
abbrev S128x128 : Shape := ⟨2, ![128, 128]⟩
abbrev S16384 : Shape := ⟨1, ![16384]⟩
abbrev S4x4x1024 : Shape := ⟨3, ![4, 4, 1024]⟩
abbrev S24x128 : Shape := ⟨2, ![24, 128]⟩
abbrev S3072 : Shape := ⟨1, ![3072]⟩
abbrev S4x3x256 : Shape := ⟨3, ![4, 3, 256]⟩
abbrev S2048x128 : Shape := ⟨2, ![2048, 128]⟩
abbrev S262144 : Shape := ⟨1, ![262144]⟩
abbrev S4x256x256 : Shape := ⟨3, ![4, 256, 256]⟩
abbrev S8x128 : Shape := ⟨2, ![8, 128]⟩
abbrev S1024 : Shape := ⟨1, ![1024]⟩
abbrev S192x128 : Shape := ⟨2, ![192, 128]⟩
abbrev S24576 : Shape := ⟨1, ![24576]⟩
abbrev S4x6144 : Shape := ⟨2, ![4, 6144]⟩
abbrev S32 : Shape := ⟨1, ![32]⟩
abbrev S4x8 : Shape := ⟨2, ![4, 8]⟩
abbrev S64x128 : Shape := ⟨2, ![64, 128]⟩
abbrev S8192 : Shape := ⟨1, ![8192]⟩
abbrev S4x2x16x64 : Shape := ⟨4, ![4, 2, 16, 64]⟩
abbrev S128 : Shape := ⟨1, ![128]⟩
abbrev S4x2x16 : Shape := ⟨3, ![4, 2, 16]⟩
abbrev S1024x128 : Shape := ⟨2, ![1024, 128]⟩
abbrev S131072 : Shape := ⟨1, ![131072]⟩
abbrev S4x2x16x64x16 : Shape := ⟨5, ![4, 2, 16, 64, 16]⟩
abbrev S4x2x16x16x64 : Shape := ⟨5, ![4, 2, 16, 16, 64]⟩
abbrev S4x256 : Shape := ⟨2, ![4, 256]⟩

abbrev nBuf : Space → Nat
  | .hbm => 48
  | .vmem => 4
  | .smem => 0
  | _ => 0

abbrev bufTy : (tb : Table) → Fin (tcTables nBuf tb) → BufTy
  | .hbm, ⟨0, _⟩ => ⟨S8x6656x128, .f32⟩
  | .hbm, ⟨1, _⟩ => ⟨S6656x128, .f32⟩
  | .hbm, ⟨2, _⟩ => ⟨S128x128, .f32⟩
  | .hbm, ⟨3, _⟩ => ⟨S16384, .f32⟩
  | .hbm, ⟨4, _⟩ => ⟨S4x4x1024, .f32⟩
  | .hbm, ⟨5, _⟩ => ⟨S24x128, .f32⟩
  | .hbm, ⟨6, _⟩ => ⟨S3072, .f32⟩
  | .hbm, ⟨7, _⟩ => ⟨S4x3x256, .f32⟩
  | .hbm, ⟨8, _⟩ => ⟨S2048x128, .f32⟩
  | .hbm, ⟨9, _⟩ => ⟨S262144, .f32⟩
  | .hbm, ⟨10, _⟩ => ⟨S4x256x256, .f32⟩
  | .hbm, ⟨11, _⟩ => ⟨S8x128, .f32⟩
  | .hbm, ⟨12, _⟩ => ⟨S1024, .f32⟩
  | .hbm, ⟨13, _⟩ => ⟨S192x128, .f32⟩
  | .hbm, ⟨14, _⟩ => ⟨S24576, .f32⟩
  | .hbm, ⟨15, _⟩ => ⟨S4x6144, .f32⟩
  | .hbm, ⟨16, _⟩ => ⟨S8x128, .f32⟩
  | .hbm, ⟨17, _⟩ => ⟨S1024, .f32⟩
  | .hbm, ⟨18, _⟩ => ⟨S32, .f32⟩
  | .hbm, ⟨19, _⟩ => ⟨S4x8, .f32⟩
  | .hbm, ⟨20, _⟩ => ⟨S64x128, .f32⟩
  | .hbm, ⟨21, _⟩ => ⟨S8192, .f32⟩
  | .hbm, ⟨22, _⟩ => ⟨S4x2x16x64, .f32⟩
  | .hbm, ⟨23, _⟩ => ⟨S64x128, .f32⟩
  | .hbm, ⟨24, _⟩ => ⟨S8192, .f32⟩
  | .hbm, ⟨25, _⟩ => ⟨S4x2x16x64, .f32⟩
  | .hbm, ⟨26, _⟩ => ⟨S8x128, .f32⟩
  | .hbm, ⟨27, _⟩ => ⟨S1024, .f32⟩
  | .hbm, ⟨28, _⟩ => ⟨S128, .f32⟩
  | .hbm, ⟨29, _⟩ => ⟨S4x2x16, .f32⟩
  | .hbm, ⟨30, _⟩ => ⟨S1024x128, .f32⟩
  | .hbm, ⟨31, _⟩ => ⟨S131072, .f32⟩
  | .hbm, ⟨32, _⟩ => ⟨S4x2x16x64x16, .f32⟩
  | .hbm, ⟨33, _⟩ => ⟨S1024x128, .f32⟩
  | .hbm, ⟨34, _⟩ => ⟨S131072, .f32⟩
  | .hbm, ⟨35, _⟩ => ⟨S4x2x16x64x16, .f32⟩
  | .hbm, ⟨36, _⟩ => ⟨S1024x128, .f32⟩
  | .hbm, ⟨37, _⟩ => ⟨S131072, .f32⟩
  | .hbm, ⟨38, _⟩ => ⟨S4x2x16x16x64, .f32⟩
  | .hbm, ⟨39, _⟩ => ⟨S1024x128, .f32⟩
  | .hbm, ⟨40, _⟩ => ⟨S131072, .f32⟩
  | .hbm, ⟨41, _⟩ => ⟨S4x2x16x16x64, .f32⟩
  | .hbm, ⟨42, _⟩ => ⟨S8x128, .f32⟩
  | .hbm, ⟨43, _⟩ => ⟨S1024, .f32⟩
  | .hbm, ⟨44, _⟩ => ⟨S4x256, .f32⟩
  | .hbm, ⟨45, _⟩ => ⟨S8x128, .f32⟩
  | .hbm, ⟨46, _⟩ => ⟨S1024, .f32⟩
  | .hbm, ⟨47, _⟩ => ⟨S4x256, .f32⟩
  | .local _ .vmem, ⟨0, _⟩ => ⟨S8x512x128, .f32⟩
  | .local _ .vmem, ⟨1, _⟩ => ⟨S8x512x128, .f32⟩
  | .local _ .vmem, ⟨2, _⟩ => ⟨S512x128, .f32⟩
  | .local _ .vmem, ⟨3, _⟩ => ⟨S512x128, .f32⟩
  | _, _ => ⟨S8x6656x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![13], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference36Ideal.lean ====
abbrev S8x6656x128 : Shape := ⟨3, ![8, 6656, 128]⟩
abbrev S_ : Shape := ⟨0, ![]⟩
abbrev S6656x128 : Shape := ⟨2, ![6656, 128]⟩
abbrev S128x128 : Shape := ⟨2, ![128, 128]⟩
abbrev S16384 : Shape := ⟨1, ![16384]⟩
abbrev S4x4x1024 : Shape := ⟨3, ![4, 4, 1024]⟩
abbrev S24x128 : Shape := ⟨2, ![24, 128]⟩
abbrev S3072 : Shape := ⟨1, ![3072]⟩
abbrev S4x3x256 : Shape := ⟨3, ![4, 3, 256]⟩
abbrev S2048x128 : Shape := ⟨2, ![2048, 128]⟩
abbrev S262144 : Shape := ⟨1, ![262144]⟩
abbrev S4x256x256 : Shape := ⟨3, ![4, 256, 256]⟩
abbrev S8x128 : Shape := ⟨2, ![8, 128]⟩
abbrev S1024 : Shape := ⟨1, ![1024]⟩
abbrev S192x128 : Shape := ⟨2, ![192, 128]⟩
abbrev S24576 : Shape := ⟨1, ![24576]⟩
abbrev S4x6144 : Shape := ⟨2, ![4, 6144]⟩
abbrev S32 : Shape := ⟨1, ![32]⟩
abbrev S4x8 : Shape := ⟨2, ![4, 8]⟩
abbrev S64x128 : Shape := ⟨2, ![64, 128]⟩
abbrev S8192 : Shape := ⟨1, ![8192]⟩
abbrev S4x2x16x64 : Shape := ⟨4, ![4, 2, 16, 64]⟩
abbrev S128 : Shape := ⟨1, ![128]⟩
abbrev S4x2x16 : Shape := ⟨3, ![4, 2, 16]⟩
abbrev S1024x128 : Shape := ⟨2, ![1024, 128]⟩
abbrev S131072 : Shape := ⟨1, ![131072]⟩
abbrev S4x2x16x64x16 : Shape := ⟨5, ![4, 2, 16, 64, 16]⟩
abbrev S4x2x16x16x64 : Shape := ⟨5, ![4, 2, 16, 16, 64]⟩
abbrev S4x256 : Shape := ⟨2, ![4, 256]⟩

abbrev nBuf : Space → Nat
  | .hbm => 49
  | .vmem => 0
  | .smem => 0
  | _ => 0

abbrev bufTy : (tb : Table) → Fin (tcTables nBuf tb) → BufTy
  | .hbm, ⟨0, _⟩ => ⟨S8x6656x128, .f32⟩
  | .hbm, ⟨1, _⟩ => ⟨S_, .f32⟩
  | .hbm, ⟨2, _⟩ => ⟨S6656x128, .f32⟩
  | .hbm, ⟨3, _⟩ => ⟨S128x128, .f32⟩
  | .hbm, ⟨4, _⟩ => ⟨S16384, .f32⟩
  | .hbm, ⟨5, _⟩ => ⟨S4x4x1024, .f32⟩
  | .hbm, ⟨6, _⟩ => ⟨S24x128, .f32⟩
  | .hbm, ⟨7, _⟩ => ⟨S3072, .f32⟩
  | .hbm, ⟨8, _⟩ => ⟨S4x3x256, .f32⟩
  | .hbm, ⟨9, _⟩ => ⟨S2048x128, .f32⟩
  | .hbm, ⟨10, _⟩ => ⟨S262144, .f32⟩
  | .hbm, ⟨11, _⟩ => ⟨S4x256x256, .f32⟩
  | .hbm, ⟨12, _⟩ => ⟨S8x128, .f32⟩
  | .hbm, ⟨13, _⟩ => ⟨S1024, .f32⟩
  | .hbm, ⟨14, _⟩ => ⟨S192x128, .f32⟩
  | .hbm, ⟨15, _⟩ => ⟨S24576, .f32⟩
  | .hbm, ⟨16, _⟩ => ⟨S4x6144, .f32⟩
  | .hbm, ⟨17, _⟩ => ⟨S8x128, .f32⟩
  | .hbm, ⟨18, _⟩ => ⟨S1024, .f32⟩
  | .hbm, ⟨19, _⟩ => ⟨S32, .f32⟩
  | .hbm, ⟨20, _⟩ => ⟨S4x8, .f32⟩
  | .hbm, ⟨21, _⟩ => ⟨S64x128, .f32⟩
  | .hbm, ⟨22, _⟩ => ⟨S8192, .f32⟩
  | .hbm, ⟨23, _⟩ => ⟨S4x2x16x64, .f32⟩
  | .hbm, ⟨24, _⟩ => ⟨S64x128, .f32⟩
  | .hbm, ⟨25, _⟩ => ⟨S8192, .f32⟩
  | .hbm, ⟨26, _⟩ => ⟨S4x2x16x64, .f32⟩
  | .hbm, ⟨27, _⟩ => ⟨S8x128, .f32⟩
  | .hbm, ⟨28, _⟩ => ⟨S1024, .f32⟩
  | .hbm, ⟨29, _⟩ => ⟨S128, .f32⟩
  | .hbm, ⟨30, _⟩ => ⟨S4x2x16, .f32⟩
  | .hbm, ⟨31, _⟩ => ⟨S1024x128, .f32⟩
  | .hbm, ⟨32, _⟩ => ⟨S131072, .f32⟩
  | .hbm, ⟨33, _⟩ => ⟨S4x2x16x64x16, .f32⟩
  | .hbm, ⟨34, _⟩ => ⟨S1024x128, .f32⟩
  | .hbm, ⟨35, _⟩ => ⟨S131072, .f32⟩
  | .hbm, ⟨36, _⟩ => ⟨S4x2x16x64x16, .f32⟩
  | .hbm, ⟨37, _⟩ => ⟨S1024x128, .f32⟩
  | .hbm, ⟨38, _⟩ => ⟨S131072, .f32⟩
  | .hbm, ⟨39, _⟩ => ⟨S4x2x16x16x64, .f32⟩
  | .hbm, ⟨40, _⟩ => ⟨S1024x128, .f32⟩
  | .hbm, ⟨41, _⟩ => ⟨S131072, .f32⟩
  | .hbm, ⟨42, _⟩ => ⟨S4x2x16x16x64, .f32⟩
  | .hbm, ⟨43, _⟩ => ⟨S8x128, .f32⟩
  | .hbm, ⟨44, _⟩ => ⟨S1024, .f32⟩
  | .hbm, ⟨45, _⟩ => ⟨S4x256, .f32⟩
  | .hbm, ⟨46, _⟩ => ⟨S8x128, .f32⟩
  | .hbm, ⟨47, _⟩ => ⟨S1024, .f32⟩
  | .hbm, ⟨48, _⟩ => ⟨S4x256, .f32⟩
  | _, _ => ⟨S8x6656x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩

abbrev nD : Nat := 1
abbrev τ : Topo := Topo.v7x

variable {F : FTy → Type} [FloatOps F]
-- ==== Kernel37.lean ====
abbrev S1024 : Shape := ⟨1, ![1024]⟩
abbrev S32x1024 : Shape := ⟨2, ![32, 1024]⟩
abbrev S32x768 : Shape := ⟨2, ![32, 768]⟩
abbrev S768 : Shape := ⟨1, ![768]⟩
abbrev S_ : Shape := ⟨0, ![]⟩
abbrev S1x1024 : Shape := ⟨2, ![1, 1024]⟩
abbrev S95x1024 : Shape := ⟨2, ![95, 1024]⟩
abbrev S128x1024 : Shape := ⟨2, ![128, 1024]⟩
abbrev S1x768 : Shape := ⟨2, ![1, 768]⟩
abbrev S95x768 : Shape := ⟨2, ![95, 768]⟩
abbrev S128x768 : Shape := ⟨2, ![128, 768]⟩
abbrev S1024x768 : Shape := ⟨2, ![1024, 768]⟩

abbrev nBuf : Space → Nat
  | .hbm => 31
  | .vmem => 3
  | .smem => 0
  | _ => 0

abbrev bufTy : (tb : Table) → Fin (tcTables nBuf tb) → BufTy
  | .hbm, ⟨0, _⟩ => ⟨S1024, .f32⟩
  | .hbm, ⟨1, _⟩ => ⟨S32x1024, .f32⟩
  | .hbm, ⟨2, _⟩ => ⟨S32x768, .f32⟩
  | .hbm, ⟨3, _⟩ => ⟨S768, .f32⟩
  | .hbm, ⟨4, _⟩ => ⟨S32x1024, .f32⟩
  | .hbm, ⟨5, _⟩ => ⟨S32x1024, .f32⟩
  | .hbm, ⟨6, _⟩ => ⟨S_, .f32⟩
  | .hbm, ⟨7, _⟩ => ⟨S32x1024, .f32⟩
  | .hbm, ⟨8, _⟩ => ⟨S32x1024, .f32⟩
  | .hbm, ⟨9, _⟩ => ⟨S_, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1x1024, .f32⟩
  | .hbm, ⟨23, _⟩ => ⟨S_, .f32⟩
  | .hbm, ⟨24, _⟩ => ⟨S95x1024, .f32⟩
  | .hbm, ⟨25, _⟩ => ⟨S128x1024, .f32⟩
  | .hbm, ⟨26, _⟩ => ⟨S1x768, .f32⟩
  | .hbm, ⟨27, _⟩ => ⟨S_, .f32⟩
  | .hbm, ⟨28, _⟩ => ⟨S95x768, .f32⟩
  | .hbm, ⟨29, _⟩ => ⟨S128x768, .f32⟩
  | .hbm, ⟨30, _⟩ => ⟨S1024x768, .f32⟩
  | .local _ .vmem, ⟨0, _⟩ => ⟨S128x1024, .f32⟩
  | .local _ .vmem, ⟨1, _⟩ => ⟨S128x768, .f32⟩
  | .local _ .vmem, ⟨2, _⟩ => ⟨S1024x768, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S128x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference37Ideal.lean ====
abbrev S1024 : Shape := ⟨1, ![1024]⟩
abbrev S32x1024 : Shape := ⟨2, ![32, 1024]⟩
abbrev S32x768 : Shape := ⟨2, ![32, 768]⟩
abbrev S768 : Shape := ⟨1, ![768]⟩
abbrev S_ : Shape := ⟨0, ![]⟩
abbrev S1024x768 : Shape := ⟨2, ![1024, 768]⟩
abbrev S1x1024 : Shape := ⟨2, ![1, 1024]⟩
abbrev S1x768 : Shape := ⟨2, ![1, 768]⟩
abbrev S768x1024 : Shape := ⟨2, ![768, 1024]⟩

abbrev nBuf : Space → Nat
  | .hbm => 33
  | .vmem => 0
  | .smem => 0
  | _ => 0

abbrev bufTy : (tb : Table) → Fin (tcTables nBuf tb) → BufTy
  | .hbm, ⟨0, _⟩ => ⟨S1024, .f32⟩
  | .hbm, ⟨1, _⟩ => ⟨S32x1024, .f32⟩
  | .hbm, ⟨2, _⟩ => ⟨S32x768, .f32⟩
  | .hbm, ⟨3, _⟩ => ⟨S768, .f32⟩
  | .hbm, ⟨4, _⟩ => ⟨S_, .f32⟩
  | .hbm, ⟨5, _⟩ => ⟨S1024x768, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S_, .f32⟩
  | .hbm, ⟨12, _⟩ => ⟨S32x1024, .f32⟩
  | .hbm, ⟨13, _⟩ => ⟨S32x1024, .f32⟩
  | .hbm, ⟨14, _⟩ => ⟨S32x1024, .f32⟩
  | .hbm, ⟨15, _⟩ => ⟨S32x768, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1x1024, .f32⟩
  | .hbm, ⟨26, _⟩ => ⟨S1x768, .f32⟩
  | .hbm, ⟨27, _⟩ => ⟨S1x768, .f32⟩
  | .hbm, ⟨28, _⟩ => ⟨S768x1024, .f32⟩
  | .hbm, ⟨29, _⟩ => ⟨S1024x768, .f32⟩
  | .hbm, ⟨30, _⟩ => ⟨S768x1024, .f32⟩
  | .hbm, ⟨31, _⟩ => ⟨S1024x768, .f32⟩
  | .hbm, ⟨32, _⟩ => ⟨S1024x768, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_call1_v0 : Ref sig .tc := ⟨.hbm, 16, rfl⟩
abbrev main_call1_v1 : Ref sig .tc := ⟨.hbm, 17, rfl⟩
abbrev main_call1_cst : Ref sig .tc := ⟨.hbm, 18, rfl⟩
abbrev main_call1_v2 : Ref sig .tc := ⟨.hbm, 19, rfl⟩
abbrev main_call1_v3 : Ref sig .tc := ⟨.hbm, 20, rfl⟩
abbrev main_call1_cst_0 : Ref sig .tc := ⟨.hbm, 21, rfl⟩
abbrev main_call1_v4 : Ref sig .tc := ⟨.hbm, 22, rfl⟩
abbrev main_call1_v5 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩

abbrev nD : Nat := 1
abbrev τ : Topo := Topo.v7x

variable {F : FTy → Type} [FloatOps F]
-- ==== Kernel38.lean ====
abbrev S9216x1024 : Shape := ⟨2, ![9216, 1024]⟩
abbrev S5x1x1024 : Shape := ⟨3, ![5, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 18
  | .smem => 0
  | _ => 0

abbrev bufTy : (tb : Table) → Fin (tcTables nBuf tb) → BufTy
  | .hbm, ⟨0, _⟩ => ⟨S9216x1024, .f32⟩
  | .hbm, ⟨1, _⟩ => ⟨S5x1x1024, .f32⟩
  | .hbm, ⟨2, _⟩ => ⟨S5x1x1024, .f32⟩
  | .hbm, ⟨3, _⟩ => ⟨S1x1024, .f32⟩
  | .hbm, ⟨4, _⟩ => ⟨S9216x1024, .f32⟩
  | .hbm, ⟨5, _⟩ => ⟨S9216x1024, .f32⟩
  | .hbm, ⟨6, _⟩ => ⟨S9216x1024, .f32⟩
  | .hbm, ⟨7, _⟩ => ⟨S5x1x1024, .f32⟩
  | .hbm, ⟨8, _⟩ => ⟨S5x1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c17_i32 : BitVec 32 := 17#32
  let v0 : BitVec 32 := Scalar.minsi arg0 c17_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_8 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Kernel38Ideal.lean ====
abbrev S9216x1024 : Shape := ⟨2, ![9216, 1024]⟩
abbrev S5x1x1024 : Shape := ⟨3, ![5, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 18
  | .smem => 0
  | _ => 0

abbrev bufTy : (tb : Table) → Fin (tcTables nBuf tb) → BufTy
  | .hbm, ⟨0, _⟩ => ⟨S9216x1024, .f32⟩
  | .hbm, ⟨1, _⟩ => ⟨S5x1x1024, .f32⟩
  | .hbm, ⟨2, _⟩ => ⟨S5x1x1024, .f32⟩
  | .hbm, ⟨3, _⟩ => ⟨S1x1024, .f32⟩
  | .hbm, ⟨4, _⟩ => ⟨S9216x1024, .f32⟩
  | .hbm, ⟨5, _⟩ => ⟨S9216x1024, .f32⟩
  | .hbm, ⟨6, _⟩ => ⟨S9216x1024, .f32⟩
  | .hbm, ⟨7, _⟩ => ⟨S5x1x1024, .f32⟩
  | .hbm, ⟨8, _⟩ => ⟨S5x1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c17_i32 : BitVec 32 := 17#32
  let v0 : BitVec 32 := Scalar.minsi arg0 c17_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_8 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference38Ideal.lean ====
abbrev S9216x1024 : Shape := ⟨2, ![9216, 1024]⟩
abbrev S5x1x1024 : Shape := ⟨3, ![5, 1, 1024]⟩
abbrev S1x1024 : Shape := ⟨2, ![1, 1024]⟩
abbrev S8192x1024 : Shape := ⟨2, ![8192, 1024]⟩
abbrev S4x2048x1024 : Shape := ⟨3, ![4, 2048, 1024]⟩
abbrev S1024x1024 : Shape := ⟨2, ![1024, 1024]⟩
abbrev S4x256x1024 : Shape := ⟨3, ![4, 256, 1024]⟩
abbrev S4x1x1024 : Shape := ⟨3, ![4, 1, 1024]⟩
abbrev S4x1024 : Shape := ⟨2, ![4, 1024]⟩
abbrev S1x1x1024 : Shape := ⟨3, ![1, 1, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S4x256 : Shape := ⟨2, ![4, 256]⟩
abbrev S4x256x1 : Shape := ⟨3, ![4, 256, 1]⟩
abbrev S5x1024 : Shape := ⟨2, ![5, 1024]⟩

abbrev nBuf : Space → Nat
  | .hbm => 174
  | .vmem => 0
  | .smem => 0
  | _ => 0

abbrev hbmTy0_0 (i : Nat) : BufTy := match i % 128 with
  | 0 => ⟨S9216x1024, .f32⟩
  | 1 => ⟨S5x1x1024, .f32⟩
  | 2 => ⟨S5x1x1024, .f32⟩
  | 3 => ⟨S1x1024, .f32⟩
  | 4 => ⟨S9216x1024, .f32⟩
  | 5 => ⟨S9216x1024, .f32⟩
  | 6 => ⟨S8192x1024, .f32⟩
  | 7 => ⟨S4x2048x1024, .f32⟩
  | 8 => ⟨S1024x1024, .f32⟩
  | 9 => ⟨S4x256x1024, .f32⟩
  | 10 => ⟨S4x1x1024, .f32⟩
  | 11 => ⟨S4x1024, .f32⟩
  | 12 => ⟨S1x1x1024, .f32⟩
  | 13 => ⟨S1024, .f32⟩
  | 14 => ⟨S4x1x1024, .f32⟩
  | 15 => ⟨S4x1024, .f32⟩
  | 16 => ⟨S1x1x1024, .f32⟩
  | 17 => ⟨S1024, .f32⟩
  | 18 => ⟨S1024, .f32⟩
  | 19 => ⟨S4x2048x1024, .f32⟩
  | 20 => ⟨S_, .f32⟩
  | 21 => ⟨S4x2048, .f32⟩
  | 22 => ⟨S4x2048x1, .f32⟩
  | 23 => ⟨S_, .f32⟩
  | 24 => ⟨S4x2048x1, .f32⟩
  | 25 => ⟨S4x2048x1, .f32⟩
  | 26 => ⟨S_, .f32⟩
  | 27 => ⟨S4x2048x1, .f32⟩
  | 28 => ⟨S4x2048x1, .f32⟩
  | 29 => ⟨S4x2048x1, .f32⟩
  | 30 => ⟨S4x2048x1, .f32⟩
  | 31 => ⟨S_, .f32⟩
  | 32 => ⟨S4x2048x1, .f32⟩
  | 33 => ⟨S4x2048x1, .f32⟩
  | 34 => ⟨S4x2048x1024, .f32⟩
  | 35 => ⟨S4x2048x1024, .f32⟩
  | 36 => ⟨S1x1x1024, .f32⟩
  | 37 => ⟨S4x2048x1024, .f32⟩
  | 38 => ⟨S4x2048x1024, .f32⟩
  | 39 => ⟨S4x1x1024, .f32⟩
  | 40 => ⟨S4x1x1024, .f32⟩
  | 41 => ⟨S_, .f32⟩
  | 42 => ⟨S4x1x1024, .f32⟩
  | 43 => ⟨S4x1x1024, .f32⟩
  | 44 => ⟨S4x2048x1024, .f32⟩
  | 45 => ⟨S4x2048x1024, .f32⟩
  | 46 => ⟨S4x2048x1024, .f32⟩
  | 47 => ⟨S4x2048x1024, .f32⟩
  | 48 => ⟨S4x256x1024, .f32⟩
  | 49 => ⟨S_, .f32⟩
  | 50 => ⟨S4x256, .f32⟩
  | 51 => ⟨S4x256x1, .f32⟩
  | 52 => ⟨S_, .f32⟩
  | 53 => ⟨S4x256x1, .f32⟩
  | 54 => ⟨S4x256x1, .f32⟩
  | 55 => ⟨S_, .f32⟩
  | 56 => ⟨S4x256x1, .f32⟩
  | 57 => ⟨S4x256x1, .f32⟩
  | 58 => ⟨S4x256x1, .f32⟩
  | 59 => ⟨S4x256x1, .f32⟩
  | 60 => ⟨S_, .f32⟩
  | 61 => ⟨S4x256x1, .f32⟩
  | 62 => ⟨S4x256x1, .f32⟩
  | 63 => ⟨S4x256x1024, .f32⟩
  | 64 => ⟨S4x256x1024, .f32⟩
  | 65 => ⟨S1x1x1024, .f32⟩
  | 66 => ⟨S4x256x1024, .f32⟩
  | 67 => ⟨S4x256x1024, .f32⟩
  | 68 => ⟨S_, .f32⟩
  | 69 => ⟨S1024, .f32⟩
  | 70 => ⟨S1024, .f32⟩
  | 71 => ⟨S1x1x1024, .f32⟩
  | 72 => ⟨S4x256x1024, .f32⟩
  | 73 => ⟨S4x256x1024, .f32⟩
  | 74 => ⟨S1x1x1024, .f32⟩
  | 75 => ⟨S4x256x1024, .f32⟩
  | 76 => ⟨S4x256x1024, .f32⟩
  | 77 => ⟨S8192x1024, .f32⟩
  | 78 => ⟨S4x2048x1024, .f32⟩
  | 79 => ⟨S1024x1024, .f32⟩
  | 80 => ⟨S4x256x1024, .f32⟩
  | 81 => ⟨S8192x1024, .f32⟩
  | 82 => ⟨S4x2048x1024, .f32⟩
  | 83 => ⟨S1024x1024, .f32⟩
  | 84 => ⟨S4x256x1024, .f32⟩
  | 85 => ⟨S_, .f32⟩
  | 86 => ⟨S1024, .f32⟩
  | 87 => ⟨S1x1x1024, .f32⟩
  | 88 => ⟨S_, .f32⟩
  | 89 => ⟨S1024, .f32⟩
  | 90 => ⟨S4x256x1024, .f32⟩
  | 91 => ⟨S_, .f32⟩
  | 92 => ⟨S1024, .f32⟩
  | 93 => ⟨S1x1x1024, .f32⟩
  | 94 => ⟨S4x256x1024, .f32⟩
  | 95 => ⟨S4x256x1024, .f32⟩
  | 96 => ⟨S_, .f32⟩
  | 97 => ⟨S1024, .f32⟩
  | 98 => ⟨S4x256x1024, .f32⟩
  | 99 => ⟨S_, .f32⟩
  | 100 => ⟨S1024, .f32⟩
  | 101 => ⟨S1x1x1024, .f32⟩
  | 102 => ⟨S4x256x1024, .f32⟩
  | 103 => ⟨S4x256x1024, .f32⟩
  | 104 => ⟨S_, .f32⟩
  | 105 => ⟨S1024, .f32⟩
  | 106 => ⟨S4x256x1024, .f32⟩
  | 107 => ⟨S_, .f32⟩
  | 108 => ⟨S4x256, .f32⟩
  | 109 => ⟨S4x256x1, .f32⟩
  | 110 => ⟨S4x256x1024, .f32⟩
  | 111 => ⟨S4x256x1024, .f32⟩
  | 112 => ⟨S4x256x1024, .f32⟩
  | 113 => ⟨S4x256x1, .f32⟩
  | 114 => ⟨S_, .f32⟩
  | 115 => ⟨S4x256x1, .f32⟩
  | 116 => ⟨S4x256x1, .f32⟩
  | 117 => ⟨S_, .f32⟩
  | 118 => ⟨S4x256, .f32⟩
  | 119 => ⟨S4x256x1024, .f32⟩
  | 120 => ⟨S4x256x1024, .f32⟩
  | 121 => ⟨S4x256x1024, .f32⟩
  | 122 => ⟨S4x256x1024, .f32⟩
  | 123 => ⟨S4x256x1024, .f32⟩
  | 124 => ⟨S_, .f32⟩
  | 125 => ⟨S4x1024, .f32⟩
  | 126 => ⟨S4x1x1024, .f32⟩
  | 127 => ⟨S4x2048x1024, .f32⟩
  | _ => ⟨S9216x1024, .f32⟩

abbrev hbmTy0_1 (i : Nat) : BufTy := match i % 128 with
  | 0 => ⟨S_, .f32⟩
  | 1 => ⟨S4x1024, .f32⟩
  | 2 => ⟨S4x1x1024, .f32⟩
  | 3 => ⟨S4x2048x1024, .f32⟩
  | 4 => ⟨S4x2048x1024, .f32⟩
  | 5 => ⟨S_, .f32⟩
  | 6 => ⟨S4x1024, .f32⟩
  | 7 => ⟨S_, .f32⟩
  | 8 => ⟨S4x1024, .f32⟩
  | 9 => ⟨S4x2048x1024, .f32⟩
  | 10 => ⟨S_, .f32⟩
  | 11 => ⟨S1024, .f32⟩
  | 12 => ⟨S1x1x1024, .f32⟩
  | 13 => ⟨S4x2048x1024, .f32⟩
  | 14 => ⟨S4x2048x1024, .f32⟩
  | 15 => ⟨S_, .f32⟩
  | 16 => ⟨S1024, .f32⟩
  | 17 => ⟨S1024, .f32⟩
  | 18 => ⟨S4x2048x1024, .f32⟩
  | 19 => ⟨S_, .f32⟩
  | 20 => ⟨S4x2048, .f32⟩
  | 21 => ⟨S4x2048x1, .f32⟩
  | 22 => ⟨S4x2048x1024, .f32⟩
  | 23 => ⟨S4x2048x1024, .f32⟩
  | 24 => ⟨S4x2048x1024, .f32⟩
  | 25 => ⟨S4x2048x1, .f32⟩
  | 26 => ⟨S_, .f32⟩
  | 27 => ⟨S4x2048x1, .f32⟩
  | 28 => ⟨S4x2048x1, .f32⟩
  | 29 => ⟨S_, .f32⟩
  | 30 => ⟨S4x2048, .f32⟩
  | 31 => ⟨S4x2048x1024, .f32⟩
  | 32 => ⟨S4x2048x1024, .f32⟩
  | 33 => ⟨S4x2048x1024, .f32⟩
  | 34 => ⟨S4x2048x1024, .f32⟩
  | 35 => ⟨S4x2048x1024, .f32⟩
  | 36 => ⟨S8192x1024, .f32⟩
  | 37 => ⟨S1024x1024, .f32⟩
  | 38 => ⟨S9216x1024, .f32⟩
  | 39 => ⟨S1x1024, .f32⟩
  | 40 => ⟨S5x1024, .f32⟩
  | 41 => ⟨S5x1x1024, .f32⟩
  | 42 => ⟨S1x1024, .f32⟩
  | 43 => ⟨S5x1024, .f32⟩
  | 44 => ⟨S5x1x1024, .f32⟩
  | 45 => ⟨S1x1024, .f32⟩
  | _ => ⟨S9216x1024, .f32⟩

abbrev hbmTy (i : Nat) : BufTy := match i / 128 with
  | 0 => hbmTy0_0 i
  | 1 => hbmTy0_1 i
  | _ => ⟨S9216x1024, .f32⟩

abbrev bufTy : (tb : Table) → Fin (tcTables nBuf tb) → BufTy
  | .hbm, ⟨i, _⟩ => hbmTy i
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_9 : Ref sig .tc := ⟨.hbm, 85, rfl⟩
abbrev main_v69 : Ref sig .tc := ⟨.hbm, 86, rfl⟩
abbrev main_v70 : Ref sig .tc := ⟨.hbm, 87, rfl⟩
abbrev main_cst_10 : Ref sig .tc := ⟨.hbm, 88, rfl⟩
abbrev main_v71 : Ref sig .tc := ⟨.hbm, 89, rfl⟩
abbrev main_v72 : Ref sig .tc := ⟨.hbm, 90, rfl⟩
abbrev main_cst_11 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_12 : Ref sig .tc := ⟨.hbm, 96, rfl⟩
abbrev main_v77 : Ref sig .tc := ⟨.hbm, 97, rfl⟩
abbrev main_v78 : Ref sig .tc := ⟨.hbm, 98, rfl⟩
abbrev main_cst_13 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_14 : Ref sig .tc := ⟨.hbm, 104, rfl⟩
abbrev main_v83 : Ref sig .tc := ⟨.hbm, 105, rfl⟩
abbrev main_v84 : Ref sig .tc := ⟨.hbm, 106, rfl⟩
abbrev main_cst_15 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_16 : Ref sig .tc := ⟨.hbm, 114, rfl⟩
abbrev main_v91 : Ref sig .tc := ⟨.hbm, 115, rfl⟩
abbrev main_v92 : Ref sig .tc := ⟨.hbm, 116, rfl⟩
abbrev main_cst_17 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_18 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_19 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_cst_20 : Ref sig .tc := ⟨.hbm, 133, rfl⟩
abbrev main_v106 : Ref sig .tc := ⟨.hbm, 134, rfl⟩
abbrev main_cst_21 : Ref sig .tc := ⟨.hbm, 135, rfl⟩
abbrev main_v107 : Ref sig .tc := ⟨.hbm, 136, rfl⟩
abbrev main_v108 : Ref sig .tc := ⟨.hbm, 137, rfl⟩
abbrev main_cst_22 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_23 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_cst_24 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_cst_25 : Ref sig .tc := ⟨.hbm, 154, rfl⟩
abbrev main_v122 : Ref sig .tc := ⟨.hbm, 155, rfl⟩
abbrev main_v123 : Ref sig .tc := ⟨.hbm, 156, rfl⟩
abbrev main_cst_26 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩

abbrev nD : Nat := 1
abbrev τ : Topo := Topo.v7x

variable {F : FTy → Type} [FloatOps F]
-- ==== Kernel39.lean ====
abbrev S8192x1024 : Shape := ⟨2, ![8192, 1024]⟩
abbrev S8x1024 : Shape := ⟨2, ![8, 1024]⟩
abbrev S512x1024 : Shape := ⟨2, ![512, 1024]⟩
abbrev S1x1024 : Shape := ⟨2, ![1, 1024]⟩
abbrev S1024 : Shape := ⟨1, ![1024]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8x1024, .f32⟩
  | .hbm, ⟨3, _⟩ => ⟨S8192x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference39Ideal.lean ====
abbrev S8192x1024 : Shape := ⟨2, ![8192, 1024]⟩
abbrev S_ : Shape := ⟨0, ![]⟩
abbrev S8192 : Shape := ⟨1, ![8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Kernel40.lean ====
abbrev S8192x1024 : Shape := ⟨2, ![8192, 1024]⟩
abbrev S4x1x1024 : Shape := ⟨3, ![4, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S4x1x1024, .f32⟩
  | .hbm, ⟨2, _⟩ => ⟨S4x1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S4x1x1024, .f32⟩
  | .hbm, ⟨8, _⟩ => ⟨S4x1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32 : BitVec 32 := 3#32
  let v18 : BitVec 32 := Scalar.minsi v17 c3_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32 : BitVec 32 := 3#32
  let v18 : BitVec 32 := Scalar.minsi v17 c3_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32 : BitVec 32 := 3#32
  let v18 : BitVec 32 := Scalar.minsi v17 c3_i32
  let c0_i32_4 : BitVec 32 := 0#32
  let c0_i32_5 : BitVec 32 := 0#32
  let c0_i32_6 : BitVec 32 := 0#32
  ![v18.toNat, c0_i32_4.toNat, c0_i32_5.toNat]

def cc0_transform_8 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32 : BitVec 32 := 3#32
  let v18 : BitVec 32 := Scalar.minsi v17 c3_i32
  let c0_i32_4 : BitVec 32 := 0#32
  let c0_i32_5 : BitVec 32 := 0#32
  let c0_i32_6 : BitVec 32 := 0#32
  ![v18.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference40Ideal.lean ====
abbrev S8192x1024 : Shape := ⟨2, ![8192, 1024]⟩
abbrev S4x1x1024 : Shape := ⟨3, ![4, 1, 1024]⟩
abbrev S1x1024 : Shape := ⟨2, ![1, 1024]⟩
abbrev S4x2048x1024 : Shape := ⟨3, ![4, 2048, 1024]⟩
abbrev S4x1024 : Shape := ⟨2, ![4, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 84
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1x1024, .f32⟩
  | .hbm, ⟨2, _⟩ => ⟨S4x1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S4x2048x1024, .f32⟩
  | .hbm, ⟨7, _⟩ => ⟨S4x1024, .f32⟩
  | .hbm, ⟨8, _⟩ => ⟨S4x1024, .f32⟩
  | .hbm, ⟨9, _⟩ => ⟨S1024, .f32⟩
  | .hbm, ⟨10, _⟩ => ⟨S4x2048x1024, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1024, .f32⟩
  | .hbm, ⟨26, _⟩ => ⟨S4x2048x1024, .f32⟩
  | .hbm, ⟨27, _⟩ => ⟨S1x1x1024, .f32⟩
  | .hbm, ⟨28, _⟩ => ⟨S4x2048x1024, .f32⟩
  | .hbm, ⟨29, _⟩ => ⟨S4x2048x1024, .f32⟩
  | .hbm, ⟨30, _⟩ => ⟨S4x1x1024, .f32⟩
  | .hbm, ⟨31, _⟩ => ⟨S4x1x1024, .f32⟩
  | .hbm, ⟨32, _⟩ => ⟨S_, .f32⟩
  | .hbm, ⟨33, _⟩ => ⟨S4x1x1024, .f32⟩
  | .hbm, ⟨34, _⟩ => ⟨S4x1x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S_, .f32⟩
  | .hbm, ⟨42, _⟩ => ⟨S4x1024, .f32⟩
  | .hbm, ⟨43, _⟩ => ⟨S4x1x1024, .f32⟩
  | .hbm, ⟨44, _⟩ => ⟨S4x2048x1024, .f32⟩
  | .hbm, ⟨45, _⟩ => ⟨S_, .f32⟩
  | .hbm, ⟨46, _⟩ => ⟨S4x1024, .f32⟩
  | .hbm, ⟨47, _⟩ => ⟨S4x1x1024, .f32⟩
  | .hbm, ⟨48, _⟩ => ⟨S4x2048x1024, .f32⟩
  | .hbm, ⟨49, _⟩ => ⟨S4x2048x1024, .f32⟩
  | .hbm, ⟨50, _⟩ => ⟨S_, .f32⟩
  | .hbm, ⟨51, _⟩ => ⟨S4x1024, .f32⟩
  | .hbm, ⟨52, _⟩ => ⟨S_, .f32⟩
  | .hbm, ⟨53, _⟩ => ⟨S4x1024, .f32⟩
  | .hbm, ⟨54, _⟩ => ⟨S4x2048x1024, .f32⟩
  | .hbm, ⟨55, _⟩ => ⟨S_, .f32⟩
  | .hbm, ⟨56, _⟩ => ⟨S1024, .f32⟩
  | .hbm, ⟨57, _⟩ => ⟨S1x1x1024, .f32⟩
  | .hbm, ⟨58, _⟩ => ⟨S4x2048x1024, .f32⟩
  | .hbm, ⟨59, _⟩ => ⟨S4x2048x1024, .f32⟩
  | .hbm, ⟨60, _⟩ => ⟨S_, .f32⟩
  | .hbm, ⟨61, _⟩ => ⟨S1024, .f32⟩
  | .hbm, ⟨62, _⟩ => ⟨S4x2048x1024, .f32⟩
  | .hbm, ⟨63, _⟩ => ⟨S_, .f32⟩
  | .hbm, ⟨64, _⟩ => ⟨S4x2048, .f32⟩
  | .hbm, ⟨65, _⟩ => ⟨S4x2048x1, .f32⟩
  | .hbm, ⟨66, _⟩ => ⟨S4x2048x1024, .f32⟩
  | .hbm, ⟨67, _⟩ => ⟨S4x2048x1024, .f32⟩
  | .hbm, ⟨68, _⟩ => ⟨S4x2048x1024, .f32⟩
  | .hbm, ⟨69, _⟩ => ⟨S4x2048x1, .f32⟩
  | .hbm, ⟨70, _⟩ => ⟨S_, .f32⟩
  | .hbm, ⟨71, _⟩ => ⟨S4x2048x1, .f32⟩
  | .hbm, ⟨72, _⟩ => ⟨S4x2048x1, .f32⟩
  | .hbm, ⟨73, _⟩ => ⟨S_, .f32⟩
  | .hbm, ⟨74, _⟩ => ⟨S4x2048, .f32⟩
  | .hbm, ⟨75, _⟩ => ⟨S4x2048x1024, .f32⟩
  | .hbm, ⟨76, _⟩ => ⟨S4x2048x1024, .f32⟩
  | .hbm, ⟨77, _⟩ => ⟨S4x2048x1024, .f32⟩
  | .hbm, ⟨78, _⟩ => ⟨S4x2048x1024, .f32⟩
  | .hbm, ⟨79, _⟩ => ⟨S4x2048x1024, .f32⟩
  | .hbm, ⟨80, _⟩ => ⟨S8192x1024, .f32⟩
  | .hbm, ⟨81, _⟩ => ⟨S4x1x1024, .f32⟩
  | .hbm, ⟨82, _⟩ => ⟨S4x1x1024, .f32⟩
  | .hbm, ⟨83, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]
-- ==== Kernel41.lean ====
abbrev S9216x1024 : Shape := ⟨2, ![9216, 1024]⟩
abbrev S5x1x1024 : Shape := ⟨3, ![5, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S9216x1024, .f32⟩
  | .hbm, ⟨1, _⟩ => ⟨S5x1x1024, .f32⟩
  | .hbm, ⟨2, _⟩ => ⟨S5x1x1024, .f32⟩
  | .hbm, ⟨3, _⟩ => ⟨S1x1024, .f32⟩
  | .hbm, ⟨4, _⟩ => ⟨S9216x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel41Ideal.lean ====
abbrev S9216x1024 : Shape := ⟨2, ![9216, 1024]⟩
abbrev S5x1x1024 : Shape := ⟨3, ![5, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S9216x1024, .f32⟩
  | .hbm, ⟨1, _⟩ => ⟨S5x1x1024, .f32⟩
  | .hbm, ⟨2, _⟩ => ⟨S5x1x1024, .f32⟩
  | .hbm, ⟨3, _⟩ => ⟨S1x1024, .f32⟩
  | .hbm, ⟨4, _⟩ => ⟨S9216x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference41Ideal.lean ====
abbrev S9216x1024 : Shape := ⟨2, ![9216, 1024]⟩
abbrev S5x1x1024 : Shape := ⟨3, ![5, 1, 1024]⟩
abbrev S1x1024 : Shape := ⟨2, ![1, 1024]⟩
abbrev S8192x1024 : Shape := ⟨2, ![8192, 1024]⟩
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S1024x1024 : Shape := ⟨2, ![1024, 1024]⟩
abbrev S4x256x1024 : Shape := ⟨3, ![4, 256, 1024]⟩
abbrev S4x256 : Shape := ⟨2, ![4, 256]⟩
abbrev S4x256x1 : Shape := ⟨3, ![4, 256, 1]⟩

abbrev nBuf : Space → Nat
  | .hbm => 68
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S5x1x1024, .f32⟩
  | .hbm, ⟨2, _⟩ => ⟨S5x1x1024, .f32⟩
  | .hbm, ⟨3, _⟩ => ⟨S1x1024, .f32⟩
  | .hbm, ⟨4, _⟩ => ⟨S8192x1024, .f32⟩
  | .hbm, ⟨5, _⟩ => ⟨S4x2048x1024, .f32⟩
  | .hbm, ⟨6, _⟩ => ⟨S1024, .f32⟩
  | .hbm, ⟨7, _⟩ => ⟨S4x2048x1024, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x1024, .f32⟩
  | .hbm, ⟨19, _⟩ => ⟨S4x2048x1024, .f32⟩
  | .hbm, ⟨20, _⟩ => ⟨S1x1x1024, .f32⟩
  | .hbm, ⟨21, _⟩ => ⟨S4x2048x1024, .f32⟩
  | .hbm, ⟨22, _⟩ => ⟨S4x2048x1024, .f32⟩
  | .hbm, ⟨23, _⟩ => ⟨S4x1x1024, .f32⟩
  | .hbm, ⟨24, _⟩ => ⟨S4x1x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x2048x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S1024x1024, .f32⟩
  | .hbm, ⟨33, _⟩ => ⟨S4x256x1024, .f32⟩
  | .hbm, ⟨34, _⟩ => ⟨S1024, .f32⟩
  | .hbm, ⟨35, _⟩ => ⟨S4x256x1024, .f32⟩
  | .hbm, ⟨36, _⟩ => ⟨S_, .f32⟩
  | .hbm, ⟨37, _⟩ => ⟨S4x256, .f32⟩
  | .hbm, ⟨38, _⟩ => ⟨S4x256x1, .f32⟩
  | .hbm, ⟨39, _⟩ => ⟨S_, .f32⟩
  | .hbm, ⟨40, _⟩ => ⟨S4x256x1, .f32⟩
  | .hbm, ⟨41, _⟩ => ⟨S4x256x1, .f32⟩
  | .hbm, ⟨42, _⟩ => ⟨S_, .f32⟩
  | .hbm, ⟨43, _⟩ => ⟨S4x256x1, .f32⟩
  | .hbm, ⟨44, _⟩ => ⟨S4x256x1, .f32⟩
  | .hbm, ⟨45, _⟩ => ⟨S4x256x1, .f32⟩
  | .hbm, ⟨46, _⟩ => ⟨S4x256x1024, .f32⟩
  | .hbm, ⟨47, _⟩ => ⟨S4x256x1024, .f32⟩
  | .hbm, ⟨48, _⟩ => ⟨S1x1x1024, .f32⟩
  | .hbm, ⟨49, _⟩ => ⟨S4x256x1024, .f32⟩
  | .hbm, ⟨50, _⟩ => ⟨S4x256x1024, .f32⟩
  | .hbm, ⟨51, _⟩ => ⟨S1x1x1024, .f32⟩
  | .hbm, ⟨52, _⟩ => ⟨S1024, .f32⟩
  | .hbm, ⟨53, _⟩ => ⟨S1x1x1024, .f32⟩
  | .hbm, ⟨54, _⟩ => ⟨S1024, .f32⟩
  | .hbm, ⟨55, _⟩ => ⟨S_, .f32⟩
  | .hbm, ⟨56, _⟩ => ⟨S1024, .f32⟩
  | .hbm, ⟨57, _⟩ => ⟨S1024, .f32⟩
  | .hbm, ⟨58, _⟩ => ⟨S1x1x1024, .f32⟩
  | .hbm, ⟨59, _⟩ => ⟨S4x256x1024, .f32⟩
  | .hbm, ⟨60, _⟩ => ⟨S4x256x1024, .f32⟩
  | .hbm, ⟨61, _⟩ => ⟨S1x1x1024, .f32⟩
  | .hbm, ⟨62, _⟩ => ⟨S4x256x1024, .f32⟩
  | .hbm, ⟨63, _⟩ => ⟨S4x256x1024, .f32⟩
  | .hbm, ⟨64, _⟩ => ⟨S8192x1024, .f32⟩
  | .hbm, ⟨65, _⟩ => ⟨S1024x1024, .f32⟩
  | .hbm, ⟨66, _⟩ => ⟨S9216x1024, .f32⟩
  | .hbm, ⟨67, _⟩ => ⟨S9216x1024, .bf16⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩

abbrev nD : Nat := 1
abbrev τ : Topo := Topo.v7x

variable {F : FTy → Type} [FloatOps F]
-- ==== Kernel42.lean ====
abbrev S8192x1024 : Shape := ⟨2, ![8192, 1024]⟩
abbrev S4x1x1024 : Shape := ⟨3, ![4, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S4x1x1024, .f32⟩
  | .hbm, ⟨2, _⟩ => ⟨S4x1x1024, .f32⟩
  | .hbm, ⟨3, _⟩ => ⟨S1x1024, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32 : BitVec 32 := 3#32
  let v18 : BitVec 32 := Scalar.minsi v17 c3_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32 : BitVec 32 := 3#32
  let v18 : BitVec 32 := Scalar.minsi v17 c3_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference42Ideal.lean ====
abbrev S8192x1024 : Shape := ⟨2, ![8192, 1024]⟩
abbrev S4x1x1024 : Shape := ⟨3, ![4, 1, 1024]⟩
abbrev S1x1024 : Shape := ⟨2, ![1, 1024]⟩
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1x1024, .f32⟩
  | .hbm, ⟨2, _⟩ => ⟨S4x1x1024, .f32⟩
  | .hbm, ⟨3, _⟩ => ⟨S1x1024, .f32⟩
  | .hbm, ⟨4, _⟩ => ⟨S4x2048x1024, .f32⟩
  | .hbm, ⟨5, _⟩ => ⟨S1024, .f32⟩
  | .hbm, ⟨6, _⟩ => ⟨S4x2048x1024, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x1024, .f32⟩
  | .hbm, ⟨18, _⟩ => ⟨S4x2048x1024, .f32⟩
  | .hbm, ⟨19, _⟩ => ⟨S1x1x1024, .f32⟩
  | .hbm, ⟨20, _⟩ => ⟨S4x2048x1024, .f32⟩
  | .hbm, ⟨21, _⟩ => ⟨S4x2048x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S8192x1024, .f32⟩
  | .hbm, ⟨30, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel43.lean ====
abbrev S9216x1024 : Shape := ⟨2, ![9216, 1024]⟩
abbrev S5x1x1024 : Shape := ⟨3, ![5, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S5x1x1024, .f32⟩
  | .hbm, ⟨3, _⟩ => ⟨S1x1024, .f32⟩
  | .hbm, ⟨4, _⟩ => ⟨S9216x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel43Ideal.lean ====
abbrev S9216x1024 : Shape := ⟨2, ![9216, 1024]⟩
abbrev S5x1x1024 : Shape := ⟨3, ![5, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S5x1x1024, .f32⟩
  | .hbm, ⟨3, _⟩ => ⟨S1x1024, .f32⟩
  | .hbm, ⟨4, _⟩ => ⟨S9216x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference43Ideal.lean ====
abbrev S9216x1024 : Shape := ⟨2, ![9216, 1024]⟩
abbrev S5x1x1024 : Shape := ⟨3, ![5, 1, 1024]⟩
abbrev S1x1024 : Shape := ⟨2, ![1, 1024]⟩
abbrev S8192x1024 : Shape := ⟨2, ![8192, 1024]⟩
abbrev S4x2048x1024 : Shape := ⟨3, ![4, 2048, 1024]⟩
abbrev S4x1x1024 : Shape := ⟨3, ![4, 1, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1024x1024 : Shape := ⟨2, ![1024, 1024]⟩
abbrev S4x256x1024 : Shape := ⟨3, ![4, 256, 1024]⟩
abbrev S4x256 : Shape := ⟨2, ![4, 256]⟩
abbrev S4x256x1 : Shape := ⟨3, ![4, 256, 1]⟩

abbrev nBuf : Space → Nat
  | .hbm => 59
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S5x1x1024, .f32⟩
  | .hbm, ⟨3, _⟩ => ⟨S1x1024, .f32⟩
  | .hbm, ⟨4, _⟩ => ⟨S8192x1024, .f32⟩
  | .hbm, ⟨5, _⟩ => ⟨S4x2048x1024, .f32⟩
  | .hbm, ⟨6, _⟩ => ⟨S4x1x1024, .f32⟩
  | .hbm, ⟨7, _⟩ => ⟨S8192x1024, .f32⟩
  | .hbm, ⟨8, _⟩ => ⟨S4x2048x1024, .f32⟩
  | .hbm, ⟨9, _⟩ => ⟨S1024, .f32⟩
  | .hbm, ⟨10, _⟩ => ⟨S4x2048x1024, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S4x2048x1024, .f32⟩
  | .hbm, ⟨22, _⟩ => ⟨S4x2048x1024, .f32⟩
  | .hbm, ⟨23, _⟩ => ⟨S1x1x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S1024x1024, .f32⟩
  | .hbm, ⟨30, _⟩ => ⟨S4x256x1024, .f32⟩
  | .hbm, ⟨31, _⟩ => ⟨S1x1x1024, .f32⟩
  | .hbm, ⟨32, _⟩ => ⟨S1024, .f32⟩
  | .hbm, ⟨33, _⟩ => ⟨S1024x1024, .f32⟩
  | .hbm, ⟨34, _⟩ => ⟨S4x256x1024, .f32⟩
  | .hbm, ⟨35, _⟩ => ⟨S1024, .f32⟩
  | .hbm, ⟨36, _⟩ => ⟨S4x256x1024, .f32⟩
  | .hbm, ⟨37, _⟩ => ⟨S_, .f32⟩
  | .hbm, ⟨38, _⟩ => ⟨S4x256, .f32⟩
  | .hbm, ⟨39, _⟩ => ⟨S4x256x1, .f32⟩
  | .hbm, ⟨40, _⟩ => ⟨S_, .f32⟩
  | .hbm, ⟨41, _⟩ => ⟨S4x256x1, .f32⟩
  | .hbm, ⟨42, _⟩ => ⟨S4x256x1, .f32⟩
  | .hbm, ⟨43, _⟩ => ⟨S_, .f32⟩
  | .hbm, ⟨44, _⟩ => ⟨S4x256x1, .f32⟩
  | .hbm, ⟨45, _⟩ => ⟨S4x256x1, .f32⟩
  | .hbm, ⟨46, _⟩ => ⟨S4x256x1, .f32⟩
  | .hbm, ⟨47, _⟩ => ⟨S4x256x1024, .f32⟩
  | .hbm, ⟨48, _⟩ => ⟨S4x256x1024, .f32⟩
  | .hbm, ⟨49, _⟩ => ⟨S1x1x1024, .f32⟩
  | .hbm, ⟨50, _⟩ => ⟨S4x256x1024, .f32⟩
  | .hbm, ⟨51, _⟩ => ⟨S4x256x1024, .f32⟩
  | .hbm, ⟨52, _⟩ => ⟨S1x1x1024, .f32⟩
  | .hbm, ⟨53, _⟩ => ⟨S4x256x1024, .f32⟩
  | .hbm, ⟨54, _⟩ => ⟨S4x256x1024, .f32⟩
  | .hbm, ⟨55, _⟩ => ⟨S4x256x1024, .f32⟩
  | .hbm, ⟨56, _⟩ => ⟨S8192x1024, .f32⟩
  | .hbm, ⟨57, _⟩ => ⟨S1024x1024, .f32⟩
  | .hbm, ⟨58, _⟩ => ⟨S9216x1024, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩

abbrev nD : Nat := 1
abbrev τ : Topo := Topo.v7x

variable {F : FTy → Type} [FloatOps F]
-- ==== Kernel44.lean ====
abbrev S8192x1024 : Shape := ⟨2, ![8192, 1024]⟩
abbrev S4x1x1024 : Shape := ⟨3, ![4, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x1x1024, .f32⟩
  | .hbm, ⟨3, _⟩ => ⟨S1x1024, .f32⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32 : BitVec 32 := 3#32
  let v18 : BitVec 32 := Scalar.minsi v17 c3_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference44Ideal.lean ====
abbrev S8192x1024 : Shape := ⟨2, ![8192, 1024]⟩
abbrev S4x1x1024 : Shape := ⟨3, ![4, 1, 1024]⟩
abbrev S1x1024 : Shape := ⟨2, ![1, 1024]⟩
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x1x1024, .f32⟩
  | .hbm, ⟨3, _⟩ => ⟨S1x1024, .f32⟩
  | .hbm, ⟨4, _⟩ => ⟨S4x2048x1024, .f32⟩
  | .hbm, ⟨5, _⟩ => ⟨S4x2048x1024, .f32⟩
  | .hbm, ⟨6, _⟩ => ⟨S1024, .f32⟩
  | .hbm, ⟨7, _⟩ => ⟨S4x2048x1024, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x1024, .f32⟩
  | .hbm, ⟨19, _⟩ => ⟨S4x2048x1024, .f32⟩
  | .hbm, ⟨20, _⟩ => ⟨S1x1x1024, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel45.lean ====
abbrev S9216x1792 : Shape := ⟨2, ![9216, 1792]⟩
abbrev S3x256 : Shape := ⟨2, ![3, 256]⟩
abbrev S8192x256 : Shape := ⟨2, ![8192, 256]⟩
abbrev S2048x256 : Shape := ⟨2, ![2048, 256]⟩
abbrev S1x256 : Shape := ⟨2, ![1, 256]⟩

abbrev nBuf : Space → Nat
  | .hbm => 3
  | .vmem => 9
  | .smem => 0
  | _ => 0

abbrev bufTy : (tb : Table) → Fin (tcTables nBuf tb) → BufTy
  | .hbm, ⟨0, _⟩ => ⟨S9216x1792, .f32⟩
  | .hbm, ⟨1, _⟩ => ⟨S3x256, .f32⟩
  | .hbm, ⟨2, _⟩ => ⟨S8192x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S3x256, .f32⟩
  | .local _ .vmem, ⟨7, _⟩ => ⟨S2048x256, .f32⟩
  | .local _ .vmem, ⟨8, _⟩ => ⟨S2048x256, .f32⟩
  | _, _ => ⟨S9216x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c3_i32 : BitVec 32 := 3#32
  let c0_i32_0 : BitVec 32 := 0#32
  ![v0.toNat, c3_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c4_i32 : BitVec 32 := 4#32
  let c0_i32_0 : BitVec 32 := 0#32
  ![v0.toNat, c4_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c5_i32 : BitVec 32 := 5#32
  let c0_i32_0 : BitVec 32 := 0#32
  ![v0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference45Ideal.lean ====
abbrev S9216x1792 : Shape := ⟨2, ![9216, 1792]⟩
abbrev S3x256 : Shape := ⟨2, ![3, 256]⟩
abbrev S8192x1792 : Shape := ⟨2, ![8192, 1792]⟩
abbrev S4x2048x1792 : Shape := ⟨3, ![4, 2048, 1792]⟩
abbrev S4x2048x512 : Shape := ⟨3, ![4, 2048, 512]⟩
abbrev S4x2048x128 : Shape := ⟨3, ![4, 2048, 128]⟩
abbrev S4x2048x256 : Shape := ⟨3, ![4, 2048, 256]⟩
abbrev S_ : Shape := ⟨0, ![]⟩
abbrev S4x1x256 : Shape := ⟨3, ![4, 1, 256]⟩
abbrev S4x2050x256 : Shape := ⟨3, ![4, 2050, 256]⟩
abbrev S1x256 : Shape := ⟨2, ![1, 256]⟩
abbrev S256 : Shape := ⟨1, ![256]⟩
abbrev S1x1x256 : Shape := ⟨3, ![1, 1, 256]⟩
abbrev S8192x256 : Shape := ⟨2, ![8192, 256]⟩

abbrev nBuf : Space → Nat
  | .hbm => 37
  | .vmem => 0
  | .smem => 0
  | _ => 0

abbrev bufTy : (tb : Table) → Fin (tcTables nBuf tb) → BufTy
  | .hbm, ⟨0, _⟩ => ⟨S9216x1792, .f32⟩
  | .hbm, ⟨1, _⟩ => ⟨S3x256, .f32⟩
  | .hbm, ⟨2, _⟩ => ⟨S8192x1792, .f32⟩
  | .hbm, ⟨3, _⟩ => ⟨S4x2048x1792, .f32⟩
  | .hbm, ⟨4, _⟩ => ⟨S4x2048x512, .f32⟩
  | .hbm, ⟨5, _⟩ => ⟨S4x2048x128, .f32⟩
  | .hbm, ⟨6, _⟩ => ⟨S4x2048x128, .f32⟩
  | .hbm, ⟨7, _⟩ => ⟨S4x2048x256, .f32⟩
  | .hbm, ⟨8, _⟩ => ⟨S4x2048x256, .f32⟩
  | .hbm, ⟨9, _⟩ => ⟨S4x2048x256, .f32⟩
  | .hbm, ⟨10, _⟩ => ⟨S4x2048x256, .f32⟩
  | .hbm, ⟨11, _⟩ => ⟨S4x2048x256, .f32⟩
  | .hbm, ⟨12, _⟩ => ⟨S_, .f32⟩
  | .hbm, ⟨13, _⟩ => ⟨S4x1x256, .f32⟩
  | .hbm, ⟨14, _⟩ => ⟨S4x2050x256, .f32⟩
  | .hbm, ⟨15, _⟩ => ⟨S4x2048x256, .f32⟩
  | .hbm, ⟨16, _⟩ => ⟨S1x256, .f32⟩
  | .hbm, ⟨17, _⟩ => ⟨S256, .f32⟩
  | .hbm, ⟨18, _⟩ => ⟨S1x1x256, .f32⟩
  | .hbm, ⟨19, _⟩ => ⟨S4x2048x256, .f32⟩
  | .hbm, ⟨20, _⟩ => ⟨S4x2048x256, .f32⟩
  | .hbm, ⟨21, _⟩ => ⟨S4x2048x256, .f32⟩
  | .hbm, ⟨22, _⟩ => ⟨S1x256, .f32⟩
  | .hbm, ⟨23, _⟩ => ⟨S256, .f32⟩
  | .hbm, ⟨24, _⟩ => ⟨S1x1x256, .f32⟩
  | .hbm, ⟨25, _⟩ => ⟨S4x2048x256, .f32⟩
  | .hbm, ⟨26, _⟩ => ⟨S4x2048x256, .f32⟩
  | .hbm, ⟨27, _⟩ => ⟨S4x2048x256, .f32⟩
  | .hbm, ⟨28, _⟩ => ⟨S4x2048x256, .f32⟩
  | .hbm, ⟨29, _⟩ => ⟨S1x256, .f32⟩
  | .hbm, ⟨30, _⟩ => ⟨S256, .f32⟩
  | .hbm, ⟨31, _⟩ => ⟨S1x1x256, .f32⟩
  | .hbm, ⟨32, _⟩ => ⟨S4x2048x256, .f32⟩
  | .hbm, ⟨33, _⟩ => ⟨S4x2048x256, .f32⟩
  | .hbm, ⟨34, _⟩ => ⟨S4x2048x256, .f32⟩
  | .hbm, ⟨35, _⟩ => ⟨S4x2048x256, .f32⟩
  | .hbm, ⟨36, _⟩ => ⟨S8192x256, .f32⟩
  | _, _ => ⟨S9216x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩

abbrev nD : Nat := 1
abbrev τ : Topo := Topo.v7x

variable {F : FTy → Type} [FloatOps F]
-- ==== Kernel46.lean ====
abbrev S9216x1792 : Shape := ⟨2, ![9216, 1792]⟩
abbrev S3x256 : Shape := ⟨2, ![3, 256]⟩
abbrev S1024x256 : Shape := ⟨2, ![1024, 256]⟩
abbrev S256x256 : Shape := ⟨2, ![256, 256]⟩
abbrev S1x256 : Shape := ⟨2, ![1, 256]⟩

abbrev nBuf : Space → Nat
  | .hbm => 3
  | .vmem => 9
  | .smem => 0
  | _ => 0

abbrev bufTy : (tb : Table) → Fin (tcTables nBuf tb) → BufTy
  | .hbm, ⟨0, _⟩ => ⟨S9216x1792, .f32⟩
  | .hbm, ⟨1, _⟩ => ⟨S3x256, .f32⟩
  | .hbm, ⟨2, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S3x256, .f32⟩
  | .local _ .vmem, ⟨7, _⟩ => ⟨S256x256, .f32⟩
  | .local _ .vmem, ⟨8, _⟩ => ⟨S256x256, .f32⟩
  | _, _ => ⟨S9216x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c3_i32 : BitVec 32 := 3#32
  let c0_i32 : BitVec 32 := 0#32
  ![v0.toNat, c3_i32.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c4_i32 : BitVec 32 := 4#32
  let c0_i32 : BitVec 32 := 0#32
  ![v0.toNat, c4_i32.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c5_i32 : BitVec 32 := 5#32
  let c0_i32 : BitVec 32 := 0#32
  ![v0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference46Ideal.lean ====
abbrev S9216x1792 : Shape := ⟨2, ![9216, 1792]⟩
abbrev S3x256 : Shape := ⟨2, ![3, 256]⟩
abbrev S1024x1792 : Shape := ⟨2, ![1024, 1792]⟩
abbrev S4x256x1792 : Shape := ⟨3, ![4, 256, 1792]⟩
abbrev S4x256x512 : Shape := ⟨3, ![4, 256, 512]⟩
abbrev S4x256x128 : Shape := ⟨3, ![4, 256, 128]⟩
abbrev S4x256x256 : Shape := ⟨3, ![4, 256, 256]⟩
abbrev S_ : Shape := ⟨0, ![]⟩
abbrev S4x1x256 : Shape := ⟨3, ![4, 1, 256]⟩
abbrev S4x258x256 : Shape := ⟨3, ![4, 258, 256]⟩
abbrev S1x256 : Shape := ⟨2, ![1, 256]⟩
abbrev S256 : Shape := ⟨1, ![256]⟩
abbrev S1x1x256 : Shape := ⟨3, ![1, 1, 256]⟩
abbrev S1024x256 : Shape := ⟨2, ![1024, 256]⟩

abbrev nBuf : Space → Nat
  | .hbm => 37
  | .vmem => 0
  | .smem => 0
  | _ => 0

abbrev bufTy : (tb : Table) → Fin (tcTables nBuf tb) → BufTy
  | .hbm, ⟨0, _⟩ => ⟨S9216x1792, .f32⟩
  | .hbm, ⟨1, _⟩ => ⟨S3x256, .f32⟩
  | .hbm, ⟨2, _⟩ => ⟨S1024x1792, .f32⟩
  | .hbm, ⟨3, _⟩ => ⟨S4x256x1792, .f32⟩
  | .hbm, ⟨4, _⟩ => ⟨S4x256x512, .f32⟩
  | .hbm, ⟨5, _⟩ => ⟨S4x256x128, .f32⟩
  | .hbm, ⟨6, _⟩ => ⟨S4x256x128, .f32⟩
  | .hbm, ⟨7, _⟩ => ⟨S4x256x256, .f32⟩
  | .hbm, ⟨8, _⟩ => ⟨S4x256x256, .f32⟩
  | .hbm, ⟨9, _⟩ => ⟨S4x256x256, .f32⟩
  | .hbm, ⟨10, _⟩ => ⟨S4x256x256, .f32⟩
  | .hbm, ⟨11, _⟩ => ⟨S4x256x256, .f32⟩
  | .hbm, ⟨12, _⟩ => ⟨S_, .f32⟩
  | .hbm, ⟨13, _⟩ => ⟨S4x1x256, .f32⟩
  | .hbm, ⟨14, _⟩ => ⟨S4x258x256, .f32⟩
  | .hbm, ⟨15, _⟩ => ⟨S4x256x256, .f32⟩
  | .hbm, ⟨16, _⟩ => ⟨S1x256, .f32⟩
  | .hbm, ⟨17, _⟩ => ⟨S256, .f32⟩
  | .hbm, ⟨18, _⟩ => ⟨S1x1x256, .f32⟩
  | .hbm, ⟨19, _⟩ => ⟨S4x256x256, .f32⟩
  | .hbm, ⟨20, _⟩ => ⟨S4x256x256, .f32⟩
  | .hbm, ⟨21, _⟩ => ⟨S4x256x256, .f32⟩
  | .hbm, ⟨22, _⟩ => ⟨S1x256, .f32⟩
  | .hbm, ⟨23, _⟩ => ⟨S256, .f32⟩
  | .hbm, ⟨24, _⟩ => ⟨S1x1x256, .f32⟩
  | .hbm, ⟨25, _⟩ => ⟨S4x256x256, .f32⟩
  | .hbm, ⟨26, _⟩ => ⟨S4x256x256, .f32⟩
  | .hbm, ⟨27, _⟩ => ⟨S4x256x256, .f32⟩
  | .hbm, ⟨28, _⟩ => ⟨S4x256x256, .f32⟩
  | .hbm, ⟨29, _⟩ => ⟨S1x256, .f32⟩
  | .hbm, ⟨30, _⟩ => ⟨S256, .f32⟩
  | .hbm, ⟨31, _⟩ => ⟨S1x1x256, .f32⟩
  | .hbm, ⟨32, _⟩ => ⟨S4x256x256, .f32⟩
  | .hbm, ⟨33, _⟩ => ⟨S4x256x256, .f32⟩
  | .hbm, ⟨34, _⟩ => ⟨S4x256x256, .f32⟩
  | .hbm, ⟨35, _⟩ => ⟨S4x256x256, .f32⟩
  | .hbm, ⟨36, _⟩ => ⟨S1024x256, .f32⟩
  | _, _ => ⟨S9216x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩

abbrev nD : Nat := 1
abbrev τ : Topo := Topo.v7x

variable {F : FTy → Type} [FloatOps F]
-- ==== Kernel47.lean ====
abbrev S8192x1024 : Shape := ⟨2, ![8192, 1024]⟩
abbrev S4x1x1024 : Shape := ⟨3, ![4, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x1x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .hbm, ⟨6, _⟩ => ⟨S4x1x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32 : BitVec 32 := 3#32
  let v18 : BitVec 32 := Scalar.minsi v17 c3_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32 : BitVec 32 := 3#32
  let v18 : BitVec 32 := Scalar.minsi v17 c3_i32
  let c0_i32_4 : BitVec 32 := 0#32
  let c0_i32_5 : BitVec 32 := 0#32
  let c0_i32_6 : BitVec 32 := 0#32
  ![v18.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference47Ideal.lean ====
abbrev S8192x1024 : Shape := ⟨2, ![8192, 1024]⟩
abbrev S4x1x1024 : Shape := ⟨3, ![4, 1, 1024]⟩
abbrev S1x1024 : Shape := ⟨2, ![1, 1024]⟩
abbrev S4x2048x1024 : Shape := ⟨3, ![4, 2048, 1024]⟩
abbrev S4x1024 : Shape := ⟨2, ![4, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x1x1024, .f32⟩
  | .hbm, ⟨3, _⟩ => ⟨S1x1024, .f32⟩
  | .hbm, ⟨4, _⟩ => ⟨S8192x1024, .f32⟩
  | .hbm, ⟨5, _⟩ => ⟨S4x2048x1024, .f32⟩
  | .hbm, ⟨6, _⟩ => ⟨S4x1024, .f32⟩
  | .hbm, ⟨7, _⟩ => ⟨S1024, .f32⟩
  | .hbm, ⟨8, _⟩ => ⟨S4x1x1024, .f32⟩
  | .hbm, ⟨9, _⟩ => ⟨S4x2048x1024, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1024, .f32⟩
  | .hbm, ⟨25, _⟩ => ⟨S4x2048x1024, .f32⟩
  | .hbm, ⟨26, _⟩ => ⟨S1x1x1024, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S_, .f32⟩
  | .hbm, ⟨36, _⟩ => ⟨S4x1024, .f32⟩
  | .hbm, ⟨37, _⟩ => ⟨S4x1x1024, .f32⟩
  | .hbm, ⟨38, _⟩ => ⟨S4x2048x1024, .f32⟩
  | .hbm, ⟨39, _⟩ => ⟨S_, .f32⟩
  | .hbm, ⟨40, _⟩ => ⟨S1024, .f32⟩
  | .hbm, ⟨41, _⟩ => ⟨S1x1x1024, .f32⟩
  | .hbm, ⟨42, _⟩ => ⟨S4x2048x1024, .f32⟩
  | .hbm, ⟨43, _⟩ => ⟨S4x2048x1024, .f32⟩
  | .hbm, ⟨44, _⟩ => ⟨S_, .f32⟩
  | .hbm, ⟨45, _⟩ => ⟨S1024, .f32⟩
  | .hbm, ⟨46, _⟩ => ⟨S4x2048x1024, .f32⟩
  | .hbm, ⟨47, _⟩ => ⟨S_, .f32⟩
  | .hbm, ⟨48, _⟩ => ⟨S4x2048, .f32⟩
  | .hbm, ⟨49, _⟩ => ⟨S4x2048x1, .f32⟩
  | .hbm, ⟨50, _⟩ => ⟨S4x2048x1024, .f32⟩
  | .hbm, ⟨51, _⟩ => ⟨S4x2048x1024, .f32⟩
  | .hbm, ⟨52, _⟩ => ⟨S4x2048x1, .f32⟩
  | .hbm, ⟨53, _⟩ => ⟨S_, .f32⟩
  | .hbm, ⟨54, _⟩ => ⟨S4x2048x1, .f32⟩
  | .hbm, ⟨55, _⟩ => ⟨S4x2048x1, .f32⟩
  | .hbm, ⟨56, _⟩ => ⟨S_, .f32⟩
  | .hbm, ⟨57, _⟩ => ⟨S4x2048, .f32⟩
  | .hbm, ⟨58, _⟩ => ⟨S4x2048x1024, .f32⟩
  | .hbm, ⟨59, _⟩ => ⟨S4x2048x1024, .f32⟩
  | .hbm, ⟨60, _⟩ => ⟨S4x2048x1024, .f32⟩
  | .hbm, ⟨61, _⟩ => ⟨S4x2048x1024, .f32⟩
  | .hbm, ⟨62, _⟩ => ⟨S4x2048x1024, .f32⟩
  | .hbm, ⟨63, _⟩ => ⟨S_, .f32⟩
  | .hbm, ⟨64, _⟩ => ⟨S4x1024, .f32⟩
  | .hbm, ⟨65, _⟩ => ⟨S8192x1024, .f32⟩
  | .hbm, ⟨66, _⟩ => ⟨S8192x1024, .bf16⟩
  | .hbm, ⟨67, _⟩ => ⟨S4x1x1024, .f32⟩
  | .hbm, ⟨68, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== Kernel49.lean ====
abbrev S9216x256 : Shape := ⟨2, ![9216, 256]⟩
abbrev S1x256 : Shape := ⟨2, ![1, 256]⟩
abbrev S256x256 : Shape := ⟨2, ![256, 256]⟩
abbrev S512x256 : Shape := ⟨2, ![512, 256]⟩

abbrev nBuf : Space → Nat
  | .hbm => 7
  | .vmem => 11
  | .smem => 0
  | _ => 0

abbrev bufTy : (tb : Table) → Fin (tcTables nBuf tb) → BufTy
  | .hbm, ⟨0, _⟩ => ⟨S9216x256, .f32⟩
  | .hbm, ⟨1, _⟩ => ⟨S9216x256, .f32⟩
  | .hbm, ⟨2, _⟩ => ⟨S9216x256, .f32⟩
  | .hbm, ⟨3, _⟩ => ⟨S1x256, .f32⟩
  | .hbm, ⟨4, _⟩ => ⟨S256x256, .f32⟩
  | .hbm, ⟨5, _⟩ => ⟨S1x256, .f32⟩
  | .hbm, ⟨6, _⟩ => ⟨S9216x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S256x256, .f32⟩
  | .local _ .vmem, ⟨8, _⟩ => ⟨S1x256, .f32⟩
  | .local _ .vmem, ⟨9, _⟩ => ⟨S512x256, .f32⟩
  | .local _ .vmem, ⟨10, _⟩ => ⟨S512x256, .f32⟩
  | _, _ => ⟨S9216x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference49Ideal.lean ====
abbrev S9216x256 : Shape := ⟨2, ![9216, 256]⟩
abbrev S1x256 : Shape := ⟨2, ![1, 256]⟩
abbrev S256x256 : Shape := ⟨2, ![256, 256]⟩
abbrev S256 : Shape := ⟨1, ![256]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S9216x256, .f32⟩
  | .hbm, ⟨1, _⟩ => ⟨S9216x256, .f32⟩
  | .hbm, ⟨2, _⟩ => ⟨S9216x256, .f32⟩
  | .hbm, ⟨3, _⟩ => ⟨S1x256, .f32⟩
  | .hbm, ⟨4, _⟩ => ⟨S256x256, .f32⟩
  | .hbm, ⟨5, _⟩ => ⟨S1x256, .f32⟩
  | .hbm, ⟨6, _⟩ => ⟨S9216x256, .f32⟩
  | .hbm, ⟨7, _⟩ => ⟨S256, .f32⟩
  | .hbm, ⟨8, _⟩ => ⟨S1x256, .f32⟩
  | .hbm, ⟨9, _⟩ => ⟨S9216x256, .f32⟩
  | .hbm, ⟨10, _⟩ => ⟨S9216x256, .f32⟩
  | .hbm, ⟨11, _⟩ => ⟨S9216x256, .f32⟩
  | .hbm, ⟨12, _⟩ => ⟨S9216x256, .f32⟩
  | .hbm, ⟨13, _⟩ => ⟨S9216x256, .f32⟩
  | .hbm, ⟨14, _⟩ => ⟨S_, .f32⟩
  | .hbm, ⟨15, _⟩ => ⟨S9216x256, .f32⟩
  | .hbm, ⟨16, _⟩ => ⟨S9216x256, .f32⟩
  | .hbm, ⟨17, _⟩ => ⟨S9216x256, .f32⟩
  | .hbm, ⟨18, _⟩ => ⟨S_, .f32⟩
  | .hbm, ⟨19, _⟩ => ⟨S9216x256, .f32⟩
  | .hbm, ⟨20, _⟩ => ⟨S9216x256, .f32⟩
  | .hbm, ⟨21, _⟩ => ⟨S9216x256, .f32⟩
  | .hbm, ⟨22, _⟩ => ⟨S_, .f32⟩
  | .hbm, ⟨23, _⟩ => ⟨S9216x256, .f32⟩
  | .hbm, ⟨24, _⟩ => ⟨S9216x256, .f32⟩
  | .hbm, ⟨25, _⟩ => ⟨S_, .f32⟩
  | .hbm, ⟨26, _⟩ => ⟨S9216x256, .f32⟩
  | .hbm, ⟨27, _⟩ => ⟨S9216x256, .f32⟩
  | .hbm, ⟨28, _⟩ => ⟨S9216x256, .f32⟩
  | .hbm, ⟨29, _⟩ => ⟨S9216x256, .f32⟩
  | .hbm, ⟨30, _⟩ => ⟨S256, .f32⟩
  | .hbm, ⟨31, _⟩ => ⟨S1x256, .f32⟩
  | .hbm, ⟨32, _⟩ => ⟨S9216x256, .f32⟩
  | .hbm, ⟨33, _⟩ => ⟨S9216x256, .f32⟩
  | .hbm, ⟨34, _⟩ => ⟨S9216x256, .f32⟩
  | .hbm, ⟨35, _⟩ => ⟨S9216x256, .f32⟩
  | .hbm, ⟨36, _⟩ => ⟨S_, .f32⟩
  | .hbm, ⟨37, _⟩ => ⟨S9216x256, .f32⟩
  | .hbm, ⟨38, _⟩ => ⟨S9216x256, .f32⟩
  | .hbm, ⟨39, _⟩ => ⟨S_, .f32⟩
  | .hbm, ⟨40, _⟩ => ⟨S9216x256, .f32⟩
  | .hbm, ⟨41, _⟩ => ⟨S9216x256, .f32⟩
  | .hbm, ⟨42, _⟩ => ⟨S9216x256, .f32⟩
  | _, _ => ⟨S9216x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel50.lean ====
abbrev S9216x1792 : Shape := ⟨2, ![9216, 1792]⟩
abbrev S32 : Shape := ⟨1, ![32]⟩
abbrev S32x1 : Shape := ⟨2, ![32, 1]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S8192x512 : Shape := ⟨2, ![8192, 512]⟩
abbrev S8192x128 : Shape := ⟨2, ![8192, 128]⟩
abbrev S512x512 : Shape := ⟨2, ![512, 512]⟩
abbrev S512x128 : Shape := ⟨2, ![512, 128]⟩

abbrev nBuf : Space → Nat
  | .hbm => 52
  | .vmem => 12
  | .smem => 0
  | _ => 0

abbrev bufTy : (tb : Table) → Fin (tcTables nBuf tb) → BufTy
  | .hbm, ⟨0, _⟩ => ⟨S9216x1792, .f32⟩
  | .hbm, ⟨1, _⟩ => ⟨S32, .i32⟩
  | .hbm, ⟨2, _⟩ => ⟨S32x1, .i32⟩
  | .hbm, ⟨3, _⟩ => ⟨S32x64, .i32⟩
  | .hbm, ⟨4, _⟩ => ⟨S2048, .i32⟩
  | .hbm, ⟨5, _⟩ => ⟨S64, .i32⟩
  | .hbm, ⟨6, _⟩ => ⟨S1x64, .i32⟩
  | .hbm, ⟨7, _⟩ => ⟨S32x64, .i32⟩
  | .hbm, ⟨8, _⟩ => ⟨S2048, .i32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S2048x1, .i32⟩
  | .hbm, ⟨18, _⟩ => ⟨S2048x1, .f32⟩
  | .hbm, ⟨19, _⟩ => ⟨S1x16, .f32⟩
  | .hbm, ⟨20, _⟩ => ⟨S2048x16, .f32⟩
  | .hbm, ⟨21, _⟩ => ⟨S2048x16, .f32⟩
  | .hbm, ⟨22, _⟩ => ⟨S2048x16, .f32⟩
  | .hbm, ⟨23, _⟩ => ⟨S2048x1, .i32⟩
  | .hbm, ⟨24, _⟩ => ⟨S2048x1, .f32⟩
  | .hbm, ⟨25, _⟩ => ⟨S1x16, .f32⟩
  | .hbm, ⟨26, _⟩ => ⟨S2048x16, .f32⟩
  | .hbm, ⟨27, _⟩ => ⟨S2048x16, .f32⟩
  | .hbm, ⟨28, _⟩ => ⟨S2048x16, .f32⟩
  | .hbm, ⟨29, _⟩ => ⟨S2048x32, .f32⟩
  | .hbm, ⟨30, _⟩ => ⟨S2048x32, .f32⟩
  | .hbm, ⟨31, _⟩ => ⟨S2048x32, .f32⟩
  | .hbm, ⟨32, _⟩ => ⟨S2048x16, .f32⟩
  | .hbm, ⟨33, _⟩ => ⟨S2048x16, .f32⟩
  | .hbm, ⟨34, _⟩ => ⟨S2048x16, .f32⟩
  | .hbm, ⟨35, _⟩ => ⟨S2048x16, .f32⟩
  | .hbm, ⟨36, _⟩ => ⟨S2048x64, .f32⟩
  | .hbm, ⟨37, _⟩ => ⟨S2048x16, .f32⟩
  | .hbm, ⟨38, _⟩ => ⟨S2048x16, .f32⟩
  | .hbm, ⟨39, _⟩ => ⟨S2048x16, .f32⟩
  | .hbm, ⟨40, _⟩ => ⟨S2048x16, .f32⟩
  | .hbm, ⟨41, _⟩ => ⟨S2048x16, .f32⟩
  | .hbm, ⟨42, _⟩ => ⟨S2048x16, .f32⟩
  | .hbm, ⟨43, _⟩ => ⟨S2048x64, .f32⟩
  | .hbm, ⟨44, _⟩ => ⟨S1x2048x1x64, .f32⟩
  | .hbm, ⟨45, _⟩ => ⟨S1x2048x2x64, .f32⟩
  | .hbm, ⟨46, _⟩ => ⟨S2048x128, .f32⟩
  | .hbm, ⟨47, _⟩ => ⟨S1x2048x1x64, .f32⟩
  | .hbm, ⟨48, _⟩ => ⟨S1x2048x2x64, .f32⟩
  | .hbm, ⟨49, _⟩ => ⟨S2048x128, .f32⟩
  | .hbm, ⟨50, _⟩ => ⟨S8192x512, .bf16⟩
  | .hbm, ⟨51, _⟩ => ⟨S8192x128, .bf16⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x512, .bf16⟩
  | .local _ .vmem, ⟨9, _⟩ => ⟨S512x512, .bf16⟩
  | .local _ .vmem, ⟨10, _⟩ => ⟨S512x128, .bf16⟩
  | .local _ .vmem, ⟨11, _⟩ => ⟨S512x128, .bf16⟩
  | _, _ => ⟨S9216x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47_0 : Ref sig .tc := ⟨.hbm, 50, rfl⟩
abbrev main_v47_1 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference50Ideal.lean ====
abbrev S9216x1792 : Shape := ⟨2, ![9216, 1792]⟩
abbrev S8192x1792 : Shape := ⟨2, ![8192, 1792]⟩
abbrev S8192x512 : Shape := ⟨2, ![8192, 512]⟩
abbrev S8192x128 : Shape := ⟨2, ![8192, 128]⟩
abbrev S8192x256 : Shape := ⟨2, ![8192, 256]⟩
abbrev S32 : Shape := ⟨1, ![32]⟩
abbrev S32x1 : Shape := ⟨2, ![32, 1]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S4x2048x8x64 : Shape := ⟨4, ![4, 2048, 8, 64]⟩
abbrev S2048x1x32 : Shape := ⟨3, ![2048, 1, 32]⟩
abbrev S4x2048x8x32 : Shape := ⟨4, ![4, 2048, 8, 32]⟩
abbrev S2048x1x16 : Shape := ⟨3, ![2048, 1, 16]⟩
abbrev S4x2048x8x16 : Shape := ⟨4, ![4, 2048, 8, 16]⟩
abbrev S1x2048x1x16 : Shape := ⟨4, ![1, 2048, 1, 16]⟩
abbrev S4x2048x2x64 : Shape := ⟨4, ![4, 2048, 2, 64]⟩
abbrev S4x2048x2x32 : Shape := ⟨4, ![4, 2048, 2, 32]⟩
abbrev S4x2048x2x16 : Shape := ⟨4, ![4, 2048, 2, 16]⟩

abbrev nBuf : Space → Nat
  | .hbm => 132
  | .vmem => 0
  | .smem => 0
  | _ => 0

abbrev hbmTy0_0 (i : Nat) : BufTy := match i % 128 with
  | 0 => ⟨S9216x1792, .f32⟩
  | 1 => ⟨S8192x1792, .f32⟩
  | 2 => ⟨S8192x512, .f32⟩
  | 3 => ⟨S8192x128, .f32⟩
  | 4 => ⟨S8192x128, .f32⟩
  | 5 => ⟨S8192x256, .f32⟩
  | 6 => ⟨S8192x256, .f32⟩
  | 7 => ⟨S8192x256, .f32⟩
  | 8 => ⟨S8192x256, .f32⟩
  | 9 => ⟨S32, .i32⟩
  | 10 => ⟨S32x1, .i32⟩
  | 11 => ⟨S32x64, .i32⟩
  | 12 => ⟨S2048, .i32⟩
  | 13 => ⟨S64, .i32⟩
  | 14 => ⟨S1x64, .i32⟩
  | 15 => ⟨S32x64, .i32⟩
  | 16 => ⟨S2048, .i32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S2048x1, .i32⟩
  | 26 => ⟨S2048x1, .f32⟩
  | 27 => ⟨S1x16, .f32⟩
  | 28 => ⟨S2048x16, .f32⟩
  | 29 => ⟨S2048x16, .f32⟩
  | 30 => ⟨S2048x16, .f32⟩
  | 31 => ⟨S2048x1, .i32⟩
  | 32 => ⟨S2048x1, .f32⟩
  | 33 => ⟨S1x16, .f32⟩
  | 34 => ⟨S2048x16, .f32⟩
  | 35 => ⟨S2048x16, .f32⟩
  | 36 => ⟨S2048x16, .f32⟩
  | 37 => ⟨S2048x32, .f32⟩
  | 38 => ⟨S2048x32, .f32⟩
  | 39 => ⟨S2048x32, .f32⟩
  | 40 => ⟨S4x2048x8x64, .f32⟩
  | 41 => ⟨S2048x1x32, .f32⟩
  | 42 => ⟨S2048x1x32, .f32⟩
  | 43 => ⟨S4x2048x8x32, .f32⟩
  | 44 => ⟨S2048x1x16, .f32⟩
  | 45 => ⟨S2048x1x16, .f32⟩
  | 46 => ⟨S4x2048x8x16, .f32⟩
  | 47 => ⟨S4x2048x8x16, .f32⟩
  | 48 => ⟨S1x2048x1x16, .f32⟩
  | 49 => ⟨S4x2048x8x16, .f32⟩
  | 50 => ⟨S4x2048x8x16, .f32⟩
  | 51 => ⟨S1x2048x1x16, .f32⟩
  | 52 => ⟨S4x2048x8x16, .f32⟩
  | 53 => ⟨S4x2048x8x16, .f32⟩
  | 54 => ⟨S4x2048x8x16, .f32⟩
  | 55 => ⟨S1x2048x1x16, .f32⟩
  | 56 => ⟨S4x2048x8x16, .f32⟩
  | 57 => ⟨S4x2048x8x16, .f32⟩
  | 58 => ⟨S1x2048x1x16, .f32⟩
  | 59 => ⟨S4x2048x8x16, .f32⟩
  | 60 => ⟨S4x2048x8x16, .f32⟩
  | 61 => ⟨S4x2048x8x16, .f32⟩
  | 62 => ⟨S4x2048x8x32, .f32⟩
  | 63 => ⟨S4x2048x8x32, .f32⟩
  | 64 => ⟨S2048x1x16, .f32⟩
  | 65 => ⟨S2048x1x16, .f32⟩
  | 66 => ⟨S4x2048x8x16, .f32⟩
  | 67 => ⟨S4x2048x8x16, .f32⟩
  | 68 => ⟨S1x2048x1x16, .f32⟩
  | 69 => ⟨S4x2048x8x16, .f32⟩
  | 70 => ⟨S4x2048x8x16, .f32⟩
  | 71 => ⟨S1x2048x1x16, .f32⟩
  | 72 => ⟨S4x2048x8x16, .f32⟩
  | 73 => ⟨S4x2048x8x16, .f32⟩
  | 74 => ⟨S4x2048x8x16, .f32⟩
  | 75 => ⟨S1x2048x1x16, .f32⟩
  | 76 => ⟨S4x2048x8x16, .f32⟩
  | 77 => ⟨S4x2048x8x16, .f32⟩
  | 78 => ⟨S1x2048x1x16, .f32⟩
  | 79 => ⟨S4x2048x8x16, .f32⟩
  | 80 => ⟨S4x2048x8x16, .f32⟩
  | 81 => ⟨S4x2048x8x16, .f32⟩
  | 82 => ⟨S4x2048x8x32, .f32⟩
  | 83 => ⟨S4x2048x8x64, .f32⟩
  | 84 => ⟨S4x2048x2x64, .f32⟩
  | 85 => ⟨S2048x1x32, .f32⟩
  | 86 => ⟨S2048x1x32, .f32⟩
  | 87 => ⟨S4x2048x2x32, .f32⟩
  | 88 => ⟨S2048x1x16, .f32⟩
  | 89 => ⟨S2048x1x16, .f32⟩
  | 90 => ⟨S4x2048x2x16, .f32⟩
  | 91 => ⟨S4x2048x2x16, .f32⟩
  | 92 => ⟨S1x2048x1x16, .f32⟩
  | 93 => ⟨S4x2048x2x16, .f32⟩
  | 94 => ⟨S4x2048x2x16, .f32⟩
  | 95 => ⟨S1x2048x1x16, .f32⟩
  | 96 => ⟨S4x2048x2x16, .f32⟩
  | 97 => ⟨S4x2048x2x16, .f32⟩
  | 98 => ⟨S4x2048x2x16, .f32⟩
  | 99 => ⟨S1x2048x1x16, .f32⟩
  | 100 => ⟨S4x2048x2x16, .f32⟩
  | 101 => ⟨S4x2048x2x16, .f32⟩
  | 102 => ⟨S1x2048x1x16, .f32⟩
  | 103 => ⟨S4x2048x2x16, .f32⟩
  | 104 => ⟨S4x2048x2x16, .f32⟩
  | 105 => ⟨S4x2048x2x16, .f32⟩
  | 106 => ⟨S4x2048x2x32, .f32⟩
  | 107 => ⟨S4x2048x2x32, .f32⟩
  | 108 => ⟨S2048x1x16, .f32⟩
  | 109 => ⟨S2048x1x16, .f32⟩
  | 110 => ⟨S4x2048x2x16, .f32⟩
  | 111 => ⟨S4x2048x2x16, .f32⟩
  | 112 => ⟨S1x2048x1x16, .f32⟩
  | 113 => ⟨S4x2048x2x16, .f32⟩
  | 114 => ⟨S4x2048x2x16, .f32⟩
  | 115 => ⟨S1x2048x1x16, .f32⟩
  | 116 => ⟨S4x2048x2x16, .f32⟩
  | 117 => ⟨S4x2048x2x16, .f32⟩
  | 118 => ⟨S4x2048x2x16, .f32⟩
  | 119 => ⟨S1x2048x1x16, .f32⟩
  | 120 => ⟨S4x2048x2x16, .f32⟩
  | 121 => ⟨S4x2048x2x16, .f32⟩
  | 122 => ⟨S1x2048x1x16, .f32⟩
  | 123 => ⟨S4x2048x2x16, .f32⟩
  | 124 => ⟨S4x2048x2x16, .f32⟩
  | 125 => ⟨S4x2048x2x16, .f32⟩
  | 126 => ⟨S4x2048x2x32, .f32⟩
  | 127 => ⟨S4x2048x2x64, .f32⟩
  | _ => ⟨S9216x1792, .f32⟩

abbrev hbmTy0_1 (i : Nat) : BufTy := match i % 128 with
  | 0 => ⟨S8192x512, .f32⟩
  | 1 => ⟨S8192x128, .f32⟩
  | 2 => ⟨S8192x512, .bf16⟩
  | 3 => ⟨S8192x128, .bf16⟩
  | _ => ⟨S9216x1792, .f32⟩

abbrev hbmTy (i : Nat) : BufTy := match i / 128 with
  | 0 => hbmTy0_0 i
  | 1 => hbmTy0_1 i
  | _ => ⟨S9216x1792, .f32⟩

abbrev bufTy : (tb : Table) → Fin (tcTables nBuf tb) → BufTy
  | .hbm, ⟨i, _⟩ => hbmTy i
  | _, _ => ⟨S9216x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_cst : Ref sig .tc := ⟨.hbm, 19, rfl⟩
abbrev main_v18 : Ref sig .tc := ⟨.hbm, 20, rfl⟩
abbrev main_v19 : Ref sig .tc := ⟨.hbm, 21, rfl⟩
abbrev main_cst_0 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩
abbrev main_v109 : Ref sig .tc := ⟨.hbm, 112, rfl⟩
abbrev main_v110 : Ref sig .tc := ⟨.hbm, 113, rfl⟩
abbrev main_v111 : Ref sig .tc := ⟨.hbm, 114, rfl⟩
abbrev main_v112 : Ref sig .tc := ⟨.hbm, 115, rfl⟩
abbrev main_v113 : Ref sig .tc := ⟨.hbm, 116, rfl⟩
abbrev main_v114 : Ref sig .tc := ⟨.hbm, 117, rfl⟩
abbrev main_v115 : Ref sig .tc := ⟨.hbm, 118, rfl⟩
abbrev main_v116 : Ref sig .tc := ⟨.hbm, 119, rfl⟩
abbrev main_v117 : Ref sig .tc := ⟨.hbm, 120, rfl⟩
abbrev main_v118 : Ref sig .tc := ⟨.hbm, 121, rfl⟩
abbrev main_v119 : Ref sig .tc := ⟨.hbm, 122, rfl⟩
abbrev main_v120 : Ref sig .tc := ⟨.hbm, 123, rfl⟩
abbrev main_v121 : Ref sig .tc := ⟨.hbm, 124, rfl⟩
abbrev main_v122 : Ref sig .tc := ⟨.hbm, 125, rfl⟩
abbrev main_v123 : Ref sig .tc := ⟨.hbm, 126, rfl⟩
abbrev main_v124 : Ref sig .tc := ⟨.hbm, 127, rfl⟩
abbrev main_v125 : Ref sig .tc := ⟨.hbm, 128, rfl⟩
abbrev main_v126 : Ref sig .tc := ⟨.hbm, 129, rfl⟩
abbrev main_v127 : Ref sig .tc := ⟨.hbm, 130, rfl⟩
abbrev main_v128 : Ref sig .tc := ⟨.hbm, 131, rfl⟩

abbrev nD : Nat := 1
abbrev τ : Topo := Topo.v7x

variable {F : FTy → Type} [FloatOps F]
-- ==== Kernel51.lean ====
abbrev S8192x512 : Shape := ⟨2, ![8192, 512]⟩
abbrev S8192x128 : Shape := ⟨2, ![8192, 128]⟩
abbrev S32 : Shape := ⟨1, ![32]⟩
abbrev S32x1 : Shape := ⟨2, ![32, 1]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S512x512 : Shape := ⟨2, ![512, 512]⟩
abbrev S512x128 : Shape := ⟨2, ![512, 128]⟩

abbrev nBuf : Space → Nat
  | .hbm => 53
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S32, .i32⟩
  | .hbm, ⟨3, _⟩ => ⟨S32x1, .i32⟩
  | .hbm, ⟨4, _⟩ => ⟨S32x64, .i32⟩
  | .hbm, ⟨5, _⟩ => ⟨S2048, .i32⟩
  | .hbm, ⟨6, _⟩ => ⟨S64, .i32⟩
  | .hbm, ⟨7, _⟩ => ⟨S1x64, .i32⟩
  | .hbm, ⟨8, _⟩ => ⟨S32x64, .i32⟩
  | .hbm, ⟨9, _⟩ => ⟨S2048, .i32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S2048x1, .i32⟩
  | .hbm, ⟨19, _⟩ => ⟨S2048x1, .f32⟩
  | .hbm, ⟨20, _⟩ => ⟨S1x16, .f32⟩
  | .hbm, ⟨21, _⟩ => ⟨S2048x16, .f32⟩
  | .hbm, ⟨22, _⟩ => ⟨S2048x16, .f32⟩
  | .hbm, ⟨23, _⟩ => ⟨S2048x16, .f32⟩
  | .hbm, ⟨24, _⟩ => ⟨S2048x1, .i32⟩
  | .hbm, ⟨25, _⟩ => ⟨S2048x1, .f32⟩
  | .hbm, ⟨26, _⟩ => ⟨S1x16, .f32⟩
  | .hbm, ⟨27, _⟩ => ⟨S2048x16, .f32⟩
  | .hbm, ⟨28, _⟩ => ⟨S2048x16, .f32⟩
  | .hbm, ⟨29, _⟩ => ⟨S2048x16, .f32⟩
  | .hbm, ⟨30, _⟩ => ⟨S2048x32, .f32⟩
  | .hbm, ⟨31, _⟩ => ⟨S2048x32, .f32⟩
  | .hbm, ⟨32, _⟩ => ⟨S2048x32, .f32⟩
  | .hbm, ⟨33, _⟩ => ⟨S2048x16, .f32⟩
  | .hbm, ⟨34, _⟩ => ⟨S2048x16, .f32⟩
  | .hbm, ⟨35, _⟩ => ⟨S2048x16, .f32⟩
  | .hbm, ⟨36, _⟩ => ⟨S2048x16, .f32⟩
  | .hbm, ⟨37, _⟩ => ⟨S2048x64, .f32⟩
  | .hbm, ⟨38, _⟩ => ⟨S2048x16, .f32⟩
  | .hbm, ⟨39, _⟩ => ⟨S2048x16, .f32⟩
  | .hbm, ⟨40, _⟩ => ⟨S2048x16, .f32⟩
  | .hbm, ⟨41, _⟩ => ⟨S2048x16, .f32⟩
  | .hbm, ⟨42, _⟩ => ⟨S2048x16, .f32⟩
  | .hbm, ⟨43, _⟩ => ⟨S2048x16, .f32⟩
  | .hbm, ⟨44, _⟩ => ⟨S2048x64, .f32⟩
  | .hbm, ⟨45, _⟩ => ⟨S1x2048x1x64, .f32⟩
  | .hbm, ⟨46, _⟩ => ⟨S1x2048x2x64, .f32⟩
  | .hbm, ⟨47, _⟩ => ⟨S2048x128, .f32⟩
  | .hbm, ⟨48, _⟩ => ⟨S1x2048x1x64, .f32⟩
  | .hbm, ⟨49, _⟩ => ⟨S1x2048x2x64, .f32⟩
  | .hbm, ⟨50, _⟩ => ⟨S2048x128, .f32⟩
  | .hbm, ⟨51, _⟩ => ⟨S8192x512, .f32⟩
  | .hbm, ⟨52, _⟩ => ⟨S8192x128, .f32⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x512, .f32⟩
  | .local _ .vmem, ⟨9, _⟩ => ⟨S512x512, .f32⟩
  | .local _ .vmem, ⟨10, _⟩ => ⟨S512x128, .f32⟩
  | .local _ .vmem, ⟨11, _⟩ => ⟨S512x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47_0 : Ref sig .tc := ⟨.hbm, 51, rfl⟩
abbrev main_v47_1 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference51Ideal.lean ====
abbrev S8192x512 : Shape := ⟨2, ![8192, 512]⟩
abbrev S8192x128 : Shape := ⟨2, ![8192, 128]⟩
abbrev S_ : Shape := ⟨0, ![]⟩
abbrev S32 : Shape := ⟨1, ![32]⟩
abbrev S32x1 : Shape := ⟨2, ![32, 1]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S4x2048x8x64 : Shape := ⟨4, ![4, 2048, 8, 64]⟩
abbrev S2048x1x32 : Shape := ⟨3, ![2048, 1, 32]⟩
abbrev S4x2048x8x32 : Shape := ⟨4, ![4, 2048, 8, 32]⟩
abbrev S2048x1x16 : Shape := ⟨3, ![2048, 1, 16]⟩
abbrev S4x2048x8x16 : Shape := ⟨4, ![4, 2048, 8, 16]⟩
abbrev S1x2048x1x16 : Shape := ⟨4, ![1, 2048, 1, 16]⟩
abbrev S4x2048x2x64 : Shape := ⟨4, ![4, 2048, 2, 64]⟩
abbrev S4x2048x2x32 : Shape := ⟨4, ![4, 2048, 2, 32]⟩
abbrev S4x2048x2x16 : Shape := ⟨4, ![4, 2048, 2, 16]⟩

abbrev nBuf : Space → Nat
  | .hbm => 201
  | .vmem => 0
  | .smem => 0
  | _ => 0

abbrev hbmTy0_0 (i : Nat) : BufTy := match i % 128 with
  | 0 => ⟨S8192x512, .f32⟩
  | 1 => ⟨S8192x128, .f32⟩
  | 2 => ⟨S_, .f32⟩
  | 3 => ⟨S8192x512, .f32⟩
  | 4 => ⟨S_, .f32⟩
  | 5 => ⟨S8192x128, .f32⟩
  | 6 => ⟨S32, .i32⟩
  | 7 => ⟨S32x1, .i32⟩
  | 8 => ⟨S32x64, .i32⟩
  | 9 => ⟨S2048, .i32⟩
  | 10 => ⟨S64, .i32⟩
  | 11 => ⟨S1x64, .i32⟩
  | 12 => ⟨S32x64, .i32⟩
  | 13 => ⟨S2048, .i32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S2048x1, .i32⟩
  | 23 => ⟨S2048x1, .f32⟩
  | 24 => ⟨S1x16, .f32⟩
  | 25 => ⟨S2048x16, .f32⟩
  | 26 => ⟨S2048x16, .f32⟩
  | 27 => ⟨S2048x16, .f32⟩
  | 28 => ⟨S2048x1, .i32⟩
  | 29 => ⟨S2048x1, .f32⟩
  | 30 => ⟨S1x16, .f32⟩
  | 31 => ⟨S2048x16, .f32⟩
  | 32 => ⟨S2048x16, .f32⟩
  | 33 => ⟨S2048x16, .f32⟩
  | 34 => ⟨S2048x32, .f32⟩
  | 35 => ⟨S2048x32, .f32⟩
  | 36 => ⟨S2048x32, .f32⟩
  | 37 => ⟨S4x2048x8x64, .f32⟩
  | 38 => ⟨S2048x1x32, .f32⟩
  | 39 => ⟨S2048x1x32, .f32⟩
  | 40 => ⟨S4x2048x8x32, .f32⟩
  | 41 => ⟨S2048x1x16, .f32⟩
  | 42 => ⟨S2048x1x16, .f32⟩
  | 43 => ⟨S4x2048x8x16, .f32⟩
  | 44 => ⟨S4x2048x8x16, .f32⟩
  | 45 => ⟨S1x2048x1x16, .f32⟩
  | 46 => ⟨S4x2048x8x16, .f32⟩
  | 47 => ⟨S4x2048x8x16, .f32⟩
  | 48 => ⟨S1x2048x1x16, .f32⟩
  | 49 => ⟨S4x2048x8x16, .f32⟩
  | 50 => ⟨S4x2048x8x16, .f32⟩
  | 51 => ⟨S4x2048x8x16, .f32⟩
  | 52 => ⟨S1x2048x1x16, .f32⟩
  | 53 => ⟨S4x2048x8x16, .f32⟩
  | 54 => ⟨S4x2048x8x16, .f32⟩
  | 55 => ⟨S1x2048x1x16, .f32⟩
  | 56 => ⟨S4x2048x8x16, .f32⟩
  | 57 => ⟨S4x2048x8x16, .f32⟩
  | 58 => ⟨S4x2048x8x16, .f32⟩
  | 59 => ⟨S4x2048x8x32, .f32⟩
  | 60 => ⟨S4x2048x8x32, .f32⟩
  | 61 => ⟨S2048x1x16, .f32⟩
  | 62 => ⟨S2048x1x16, .f32⟩
  | 63 => ⟨S4x2048x8x16, .f32⟩
  | 64 => ⟨S4x2048x8x16, .f32⟩
  | 65 => ⟨S1x2048x1x16, .f32⟩
  | 66 => ⟨S4x2048x8x16, .f32⟩
  | 67 => ⟨S4x2048x8x16, .f32⟩
  | 68 => ⟨S1x2048x1x16, .f32⟩
  | 69 => ⟨S4x2048x8x16, .f32⟩
  | 70 => ⟨S4x2048x8x16, .f32⟩
  | 71 => ⟨S4x2048x8x16, .f32⟩
  | 72 => ⟨S1x2048x1x16, .f32⟩
  | 73 => ⟨S4x2048x8x16, .f32⟩
  | 74 => ⟨S4x2048x8x16, .f32⟩
  | 75 => ⟨S1x2048x1x16, .f32⟩
  | 76 => ⟨S4x2048x8x16, .f32⟩
  | 77 => ⟨S4x2048x8x16, .f32⟩
  | 78 => ⟨S4x2048x8x16, .f32⟩
  | 79 => ⟨S4x2048x8x32, .f32⟩
  | 80 => ⟨S4x2048x8x64, .f32⟩
  | 81 => ⟨S4x2048x2x64, .f32⟩
  | 82 => ⟨S2048x1x32, .f32⟩
  | 83 => ⟨S2048x1x32, .f32⟩
  | 84 => ⟨S4x2048x2x32, .f32⟩
  | 85 => ⟨S2048x1x16, .f32⟩
  | 86 => ⟨S2048x1x16, .f32⟩
  | 87 => ⟨S4x2048x2x16, .f32⟩
  | 88 => ⟨S4x2048x2x16, .f32⟩
  | 89 => ⟨S1x2048x1x16, .f32⟩
  | 90 => ⟨S4x2048x2x16, .f32⟩
  | 91 => ⟨S4x2048x2x16, .f32⟩
  | 92 => ⟨S1x2048x1x16, .f32⟩
  | 93 => ⟨S4x2048x2x16, .f32⟩
  | 94 => ⟨S4x2048x2x16, .f32⟩
  | 95 => ⟨S4x2048x2x16, .f32⟩
  | 96 => ⟨S1x2048x1x16, .f32⟩
  | 97 => ⟨S4x2048x2x16, .f32⟩
  | 98 => ⟨S4x2048x2x16, .f32⟩
  | 99 => ⟨S1x2048x1x16, .f32⟩
  | 100 => ⟨S4x2048x2x16, .f32⟩
  | 101 => ⟨S4x2048x2x16, .f32⟩
  | 102 => ⟨S4x2048x2x16, .f32⟩
  | 103 => ⟨S4x2048x2x32, .f32⟩
  | 104 => ⟨S4x2048x2x32, .f32⟩
  | 105 => ⟨S2048x1x16, .f32⟩
  | 106 => ⟨S2048x1x16, .f32⟩
  | 107 => ⟨S4x2048x2x16, .f32⟩
  | 108 => ⟨S4x2048x2x16, .f32⟩
  | 109 => ⟨S1x2048x1x16, .f32⟩
  | 110 => ⟨S4x2048x2x16, .f32⟩
  | 111 => ⟨S4x2048x2x16, .f32⟩
  | 112 => ⟨S1x2048x1x16, .f32⟩
  | 113 => ⟨S4x2048x2x16, .f32⟩
  | 114 => ⟨S4x2048x2x16, .f32⟩
  | 115 => ⟨S4x2048x2x16, .f32⟩
  | 116 => ⟨S1x2048x1x16, .f32⟩
  | 117 => ⟨S4x2048x2x16, .f32⟩
  | 118 => ⟨S4x2048x2x16, .f32⟩
  | 119 => ⟨S1x2048x1x16, .f32⟩
  | 120 => ⟨S4x2048x2x16, .f32⟩
  | 121 => ⟨S4x2048x2x16, .f32⟩
  | 122 => ⟨S4x2048x2x16, .f32⟩
  | 123 => ⟨S4x2048x2x32, .f32⟩
  | 124 => ⟨S4x2048x2x64, .f32⟩
  | 125 => ⟨S8192x512, .f32⟩
  | 126 => ⟨S8192x128, .f32⟩
  | 127 => ⟨S4x2048x2x64, .f32⟩
  | _ => ⟨S8192x512, .f32⟩

abbrev hbmTy0_1 (i : Nat) : BufTy := match i % 128 with
  | 0 => ⟨S4x2048x8x64, .f32⟩
  | 1 => ⟨S4x2048x2x32, .f32⟩
  | 2 => ⟨S4x2048x2x32, .f32⟩
  | 3 => ⟨S4x2048x2x16, .f32⟩
  | 4 => ⟨S4x2048x2x16, .f32⟩
  | 5 => ⟨S4x2048x2x16, .f32⟩
  | 6 => ⟨S4x2048x2x16, .f32⟩
  | 7 => ⟨S4x2048x2x16, .f32⟩
  | 8 => ⟨S4x2048x2x16, .f32⟩
  | 9 => ⟨S4x2048x2x16, .f32⟩
  | 10 => ⟨S4x2048x2x16, .f32⟩
  | 11 => ⟨S4x2048x2x16, .f32⟩
  | 12 => ⟨S4x2048x2x16, .f32⟩
  | 13 => ⟨S4x2048x2x16, .f32⟩
  | 14 => ⟨S4x2048x2x16, .f32⟩
  | 15 => ⟨S4x2048x2x16, .f32⟩
  | 16 => ⟨S4x2048x2x32, .f32⟩
  | 17 => ⟨S_, .f32⟩
  | 18 => ⟨S4x2048x2x64, .f32⟩
  | 19 => ⟨S4x2048x2x16, .f32⟩
  | 20 => ⟨S4x2048x2x16, .f32⟩
  | 21 => ⟨S4x2048x2x16, .f32⟩
  | 22 => ⟨S4x2048x2x16, .f32⟩
  | 23 => ⟨S4x2048x2x16, .f32⟩
  | 24 => ⟨S4x2048x2x16, .f32⟩
  | 25 => ⟨S4x2048x2x16, .f32⟩
  | 26 => ⟨S4x2048x2x16, .f32⟩
  | 27 => ⟨S4x2048x2x16, .f32⟩
  | 28 => ⟨S4x2048x2x16, .f32⟩
  | 29 => ⟨S4x2048x2x16, .f32⟩
  | 30 => ⟨S4x2048x2x16, .f32⟩
  | 31 => ⟨S4x2048x2x16, .f32⟩
  | 32 => ⟨S4x2048x2x32, .f32⟩
  | 33 => ⟨S_, .f32⟩
  | 34 => ⟨S4x2048x2x64, .f32⟩
  | 35 => ⟨S4x2048x2x64, .f32⟩
  | 36 => ⟨S8192x128, .f32⟩
  | 37 => ⟨S4x2048x8x32, .f32⟩
  | 38 => ⟨S4x2048x8x32, .f32⟩
  | 39 => ⟨S4x2048x8x16, .f32⟩
  | 40 => ⟨S4x2048x8x16, .f32⟩
  | 41 => ⟨S4x2048x8x16, .f32⟩
  | 42 => ⟨S4x2048x8x16, .f32⟩
  | 43 => ⟨S4x2048x8x16, .f32⟩
  | 44 => ⟨S4x2048x8x16, .f32⟩
  | 45 => ⟨S4x2048x8x16, .f32⟩
  | 46 => ⟨S4x2048x8x16, .f32⟩
  | 47 => ⟨S4x2048x8x16, .f32⟩
  | 48 => ⟨S4x2048x8x16, .f32⟩
  | 49 => ⟨S4x2048x8x16, .f32⟩
  | 50 => ⟨S4x2048x8x16, .f32⟩
  | 51 => ⟨S4x2048x8x16, .f32⟩
  | 52 => ⟨S4x2048x8x32, .f32⟩
  | 53 => ⟨S_, .f32⟩
  | 54 => ⟨S4x2048x8x64, .f32⟩
  | 55 => ⟨S4x2048x8x16, .f32⟩
  | 56 => ⟨S4x2048x8x16, .f32⟩
  | 57 => ⟨S4x2048x8x16, .f32⟩
  | 58 => ⟨S4x2048x8x16, .f32⟩
  | 59 => ⟨S4x2048x8x16, .f32⟩
  | 60 => ⟨S4x2048x8x16, .f32⟩
  | 61 => ⟨S4x2048x8x16, .f32⟩
  | 62 => ⟨S4x2048x8x16, .f32⟩
  | 63 => ⟨S4x2048x8x16, .f32⟩
  | 64 => ⟨S4x2048x8x16, .f32⟩
  | 65 => ⟨S4x2048x8x16, .f32⟩
  | 66 => ⟨S4x2048x8x16, .f32⟩
  | 67 => ⟨S4x2048x8x16, .f32⟩
  | 68 => ⟨S4x2048x8x32, .f32⟩
  | 69 => ⟨S_, .f32⟩
  | 70 => ⟨S4x2048x8x64, .f32⟩
  | 71 => ⟨S4x2048x8x64, .f32⟩
  | 72 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_cst_3 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_cst_4 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_cst_5 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_cst_6 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩

abbrev nD : Nat := 1
abbrev τ : Topo := Topo.v7x

variable {F : FTy → Type} [FloatOps F]
-- ==== Kernel52.lean ====
abbrev S9216x1792 : Shape := ⟨2, ![9216, 1792]⟩
abbrev S3x256 : Shape := ⟨2, ![3, 256]⟩
abbrev S9216x768 : Shape := ⟨2, ![9216, 768]⟩
abbrev S1024x256 : Shape := ⟨2, ![1024, 256]⟩
abbrev S8x256 : Shape := ⟨2, ![8, 256]⟩
abbrev S256x256 : Shape := ⟨2, ![256, 256]⟩
abbrev S1x256 : Shape := ⟨2, ![1, 256]⟩
abbrev S256 : Shape := ⟨1, ![256]⟩

abbrev nBuf : Space → Nat
  | .hbm => 7
  | .vmem => 16
  | .smem => 0
  | _ => 0

abbrev bufTy : (tb : Table) → Fin (tcTables nBuf tb) → BufTy
  | .hbm, ⟨0, _⟩ => ⟨S9216x1792, .f32⟩
  | .hbm, ⟨1, _⟩ => ⟨S3x256, .f32⟩
  | .hbm, ⟨2, _⟩ => ⟨S9216x768, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S8x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S3x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S8x256, .f32⟩
  | _, _ => ⟨S9216x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c3_i32 : BitVec 32 := 3#32
  let c0_i32 : BitVec 32 := 0#32
  ![v0.toNat, c3_i32.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c4_i32 : BitVec 32 := 4#32
  let c0_i32 : BitVec 32 := 0#32
  ![v0.toNat, c4_i32.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c5_i32 : BitVec 32 := 5#32
  let c0_i32 : BitVec 32 := 0#32
  ![v0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c32_i32 : BitVec 32 := 32#32
  let v0 : BitVec 32 := Scalar.addi c32_i32 arg0
  let c2_i32 : BitVec 32 := 2#32
  let c0_i32 : BitVec 32 := 0#32
  ![v0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference52Ideal.lean ====
abbrev S9216x1792 : Shape := ⟨2, ![9216, 1792]⟩
abbrev S3x256 : Shape := ⟨2, ![3, 256]⟩
abbrev S9216x768 : Shape := ⟨2, ![9216, 768]⟩
abbrev S1024x1792 : Shape := ⟨2, ![1024, 1792]⟩
abbrev S4x256x1792 : Shape := ⟨3, ![4, 256, 1792]⟩
abbrev S4x256x512 : Shape := ⟨3, ![4, 256, 512]⟩
abbrev S4x256x128 : Shape := ⟨3, ![4, 256, 128]⟩
abbrev S4x256x256 : Shape := ⟨3, ![4, 256, 256]⟩
abbrev S1024x256 : Shape := ⟨2, ![1024, 256]⟩
abbrev S_ : Shape := ⟨0, ![]⟩
abbrev S4x1x256 : Shape := ⟨3, ![4, 1, 256]⟩
abbrev S4x258x256 : Shape := ⟨3, ![4, 258, 256]⟩
abbrev S1x256 : Shape := ⟨2, ![1, 256]⟩
abbrev S256 : Shape := ⟨1, ![256]⟩
abbrev S1x1x256 : Shape := ⟨3, ![1, 1, 256]⟩
abbrev S5x256 : Shape := ⟨2, ![5, 256]⟩
abbrev S8x256 : Shape := ⟨2, ![8, 256]⟩

abbrev nBuf : Space → Nat
  | .hbm => 99
  | .vmem => 0
  | .smem => 0
  | _ => 0

abbrev bufTy : (tb : Table) → Fin (tcTables nBuf tb) → BufTy
  | .hbm, ⟨0, _⟩ => ⟨S9216x1792, .f32⟩
  | .hbm, ⟨1, _⟩ => ⟨S3x256, .f32⟩
  | .hbm, ⟨2, _⟩ => ⟨S9216x768, .f32⟩
  | .hbm, ⟨3, _⟩ => ⟨S1024x1792, .f32⟩
  | .hbm, ⟨4, _⟩ => ⟨S4x256x1792, .f32⟩
  | .hbm, ⟨5, _⟩ => ⟨S4x256x512, .f32⟩
  | .hbm, ⟨6, _⟩ => ⟨S4x256x128, .f32⟩
  | .hbm, ⟨7, _⟩ => ⟨S4x256x128, .f32⟩
  | .hbm, ⟨8, _⟩ => ⟨S4x256x256, .f32⟩
  | .hbm, ⟨9, _⟩ => ⟨S4x256x256, .f32⟩
  | .hbm, ⟨10, _⟩ => ⟨S4x256x256, .f32⟩
  | .hbm, ⟨11, _⟩ => ⟨S4x256x256, .f32⟩
  | .hbm, ⟨12, _⟩ => ⟨S1024x256, .f32⟩
  | .hbm, ⟨13, _⟩ => ⟨S4x256x256, .f32⟩
  | .hbm, ⟨14, _⟩ => ⟨S4x256x256, .f32⟩
  | .hbm, ⟨15, _⟩ => ⟨S_, .f32⟩
  | .hbm, ⟨16, _⟩ => ⟨S4x1x256, .f32⟩
  | .hbm, ⟨17, _⟩ => ⟨S4x258x256, .f32⟩
  | .hbm, ⟨18, _⟩ => ⟨S_, .f32⟩
  | .hbm, ⟨19, _⟩ => ⟨S4x1x256, .f32⟩
  | .hbm, ⟨20, _⟩ => ⟨S_, .f32⟩
  | .hbm, ⟨21, _⟩ => ⟨S4x1x256, .f32⟩
  | .hbm, ⟨22, _⟩ => ⟨S4x256x256, .f32⟩
  | .hbm, ⟨23, _⟩ => ⟨S1x256, .f32⟩
  | .hbm, ⟨24, _⟩ => ⟨S256, .f32⟩
  | .hbm, ⟨25, _⟩ => ⟨S1x1x256, .f32⟩
  | .hbm, ⟨26, _⟩ => ⟨S4x256x256, .f32⟩
  | .hbm, ⟨27, _⟩ => ⟨S4x256x256, .f32⟩
  | .hbm, ⟨28, _⟩ => ⟨S4x256x256, .f32⟩
  | .hbm, ⟨29, _⟩ => ⟨S1x256, .f32⟩
  | .hbm, ⟨30, _⟩ => ⟨S256, .f32⟩
  | .hbm, ⟨31, _⟩ => ⟨S1x1x256, .f32⟩
  | .hbm, ⟨32, _⟩ => ⟨S4x256x256, .f32⟩
  | .hbm, ⟨33, _⟩ => ⟨S4x256x256, .f32⟩
  | .hbm, ⟨34, _⟩ => ⟨S4x256x256, .f32⟩
  | .hbm, ⟨35, _⟩ => ⟨S4x256x256, .f32⟩
  | .hbm, ⟨36, _⟩ => ⟨S1x256, .f32⟩
  | .hbm, ⟨37, _⟩ => ⟨S256, .f32⟩
  | .hbm, ⟨38, _⟩ => ⟨S1x1x256, .f32⟩
  | .hbm, ⟨39, _⟩ => ⟨S4x256x256, .f32⟩
  | .hbm, ⟨40, _⟩ => ⟨S4x256x256, .f32⟩
  | .hbm, ⟨41, _⟩ => ⟨S4x256x256, .f32⟩
  | .hbm, ⟨42, _⟩ => ⟨S4x256x256, .f32⟩
  | .hbm, ⟨43, _⟩ => ⟨S4x256x256, .f32⟩
  | .hbm, ⟨44, _⟩ => ⟨S4x256x256, .f32⟩
  | .hbm, ⟨45, _⟩ => ⟨S4x256x256, .f32⟩
  | .hbm, ⟨46, _⟩ => ⟨S_, .f32⟩
  | .hbm, ⟨47, _⟩ => ⟨S256, .f32⟩
  | .hbm, ⟨48, _⟩ => ⟨S1x1x256, .f32⟩
  | .hbm, ⟨49, _⟩ => ⟨S4x256x256, .f32⟩
  | .hbm, ⟨50, _⟩ => ⟨S4x256x256, .f32⟩
  | .hbm, ⟨51, _⟩ => ⟨S_, .f32⟩
  | .hbm, ⟨52, _⟩ => ⟨S256, .f32⟩
  | .hbm, ⟨53, _⟩ => ⟨S1x256, .f32⟩
  | .hbm, ⟨54, _⟩ => ⟨S_, .f32⟩
  | .hbm, ⟨55, _⟩ => ⟨S3x256, .f32⟩
  | .hbm, ⟨56, _⟩ => ⟨S_, .f32⟩
  | .hbm, ⟨57, _⟩ => ⟨S4x258x256, .f32⟩
  | .hbm, ⟨58, _⟩ => ⟨S4x256x256, .f32⟩
  | .hbm, ⟨59, _⟩ => ⟨S_, .f32⟩
  | .hbm, ⟨60, _⟩ => ⟨S256, .f32⟩
  | .hbm, ⟨61, _⟩ => ⟨S1x1x256, .f32⟩
  | .hbm, ⟨62, _⟩ => ⟨S4x256x256, .f32⟩
  | .hbm, ⟨63, _⟩ => ⟨S4x256x256, .f32⟩
  | .hbm, ⟨64, _⟩ => ⟨S_, .f32⟩
  | .hbm, ⟨65, _⟩ => ⟨S256, .f32⟩
  | .hbm, ⟨66, _⟩ => ⟨S1x256, .f32⟩
  | .hbm, ⟨67, _⟩ => ⟨S_, .f32⟩
  | .hbm, ⟨68, _⟩ => ⟨S3x256, .f32⟩
  | .hbm, ⟨69, _⟩ => ⟨S3x256, .f32⟩
  | .hbm, ⟨70, _⟩ => ⟨S_, .f32⟩
  | .hbm, ⟨71, _⟩ => ⟨S4x258x256, .f32⟩
  | .hbm, ⟨72, _⟩ => ⟨S4x258x256, .f32⟩
  | .hbm, ⟨73, _⟩ => ⟨S4x256x256, .f32⟩
  | .hbm, ⟨74, _⟩ => ⟨S_, .f32⟩
  | .hbm, ⟨75, _⟩ => ⟨S256, .f32⟩
  | .hbm, ⟨76, _⟩ => ⟨S1x1x256, .f32⟩
  | .hbm, ⟨77, _⟩ => ⟨S4x256x256, .f32⟩
  | .hbm, ⟨78, _⟩ => ⟨S4x256x256, .f32⟩
  | .hbm, ⟨79, _⟩ => ⟨S_, .f32⟩
  | .hbm, ⟨80, _⟩ => ⟨S256, .f32⟩
  | .hbm, ⟨81, _⟩ => ⟨S1x256, .f32⟩
  | .hbm, ⟨82, _⟩ => ⟨S_, .f32⟩
  | .hbm, ⟨83, _⟩ => ⟨S3x256, .f32⟩
  | .hbm, ⟨84, _⟩ => ⟨S3x256, .f32⟩
  | .hbm, ⟨85, _⟩ => ⟨S_, .f32⟩
  | .hbm, ⟨86, _⟩ => ⟨S4x258x256, .f32⟩
  | .hbm, ⟨87, _⟩ => ⟨S4x258x256, .f32⟩
  | .hbm, ⟨88, _⟩ => ⟨S4x1x256, .f32⟩
  | .hbm, ⟨89, _⟩ => ⟨S4x256x256, .f32⟩
  | .hbm, ⟨90, _⟩ => ⟨S4x1x256, .f32⟩
  | .hbm, ⟨91, _⟩ => ⟨S4x256x256, .f32⟩
  | .hbm, ⟨92, _⟩ => ⟨S4x256x256, .f32⟩
  | .hbm, ⟨93, _⟩ => ⟨S1024x256, .f32⟩
  | .hbm, ⟨94, _⟩ => ⟨S1024x256, .f32⟩
  | .hbm, ⟨95, _⟩ => ⟨S1024x256, .f32⟩
  | .hbm, ⟨96, _⟩ => ⟨S_, .f32⟩
  | .hbm, ⟨97, _⟩ => ⟨S5x256, .f32⟩
  | .hbm, ⟨98, _⟩ => ⟨S8x256, .f32⟩
  | _, _ => ⟨S9216x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_3 : Ref sig .tc := ⟨.hbm, 51, rfl⟩
abbrev main_v44 : Ref sig .tc := ⟨.hbm, 52, rfl⟩
abbrev main_v45 : Ref sig .tc := ⟨.hbm, 53, rfl⟩
abbrev main_cst_4 : Ref sig .tc := ⟨.hbm, 54, rfl⟩
abbrev main_v46 : Ref sig .tc := ⟨.hbm, 55, rfl⟩
abbrev main_cst_5 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_7 : Ref sig .tc := ⟨.hbm, 64, rfl⟩
abbrev main_v53 : Ref sig .tc := ⟨.hbm, 65, rfl⟩
abbrev main_v54 : Ref sig .tc := ⟨.hbm, 66, rfl⟩
abbrev main_cst_8 : Ref sig .tc := ⟨.hbm, 67, rfl⟩
abbrev main_v55 : Ref sig .tc := ⟨.hbm, 68, rfl⟩
abbrev main_v56 : Ref sig .tc := ⟨.hbm, 69, rfl⟩
abbrev main_cst_9 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_10 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_11 : Ref sig .tc := ⟨.hbm, 79, rfl⟩
abbrev main_v64 : Ref sig .tc := ⟨.hbm, 80, rfl⟩
abbrev main_v65 : Ref sig .tc := ⟨.hbm, 81, rfl⟩
abbrev main_cst_12 : Ref sig .tc := ⟨.hbm, 82, rfl⟩
abbrev main_v66 : Ref sig .tc := ⟨.hbm, 83, rfl⟩
abbrev main_v67 : Ref sig .tc := ⟨.hbm, 84, rfl⟩
abbrev main_cst_13 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_14 : Ref sig .tc := ⟨.hbm, 96, rfl⟩
abbrev main_v78 : Ref sig .tc := ⟨.hbm, 97, rfl⟩
abbrev main_v79 : Ref sig .tc := ⟨.hbm, 98, rfl⟩

abbrev nD : Nat := 1
abbrev τ : Topo := Topo.v7x

variable {F : FTy → Type} [FloatOps F]
-- ==== Proof.ConvOut.lean ====
module

public import proofs.«01_k».proof.Proof.Gen.KernelIdeal.Value
public import Idealize.ShloMosaic.Lib.Pointwise
public import Idealize.ShloMosaic.Lib.Pipeline.Value
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Conv

open Cert.KernelIdeal Cert.KernelIdeal.Gen

theorem hz : (![0, 0] : Fin 2 → Nat) = fun _ => 0 := funext fun a => by fin_cases a <;> rfl

/-- A tile of the launch: 2048 rows of 256 lanes. -/
abbrev Tile := Vec Ideal S2048x256 .f32

/-- The product of two tiles. -/
def tmul (x y : Tile) : Tile := fun j => x j * y j

/-- The row before, zero before the first. -/
def prv (z : Tile) (r : Fin 2048) (l : Fin 256) : EReal :=
  if h : r.val = 0 then 0 else z (ix2 ⟨r.val - 1, by omega⟩ l)

/-- The row after, zero after the last. -/
def nxt (z : Tile) (r : Fin 2048) (l : Fin 256) : EReal :=
  if h : r.val = 2047 then 0 else z (ix2 ⟨r.val + 1, by omega⟩ l)

/-- What the body's shift down reads, and its product with a tap. -/
theorem sel_prv (x y : Tile) (w : EReal) (r : Fin 2048) (l : Fin 256) (h : (r.val + 2048 - 1) % 2048 < 2048) :
    Scalar.select (IntOp.cmpi CmpIPredicate.eq (BitVec.ofNat 32 r.val) 0#32) 0
      (x (ix2 ⟨(r.val + 2048 - 1) % 2048, h⟩ l) * y (ix2 ⟨(r.val + 2048 - 1) % 2048, h⟩ l) * w) = prv (tmul x y) r l * w := by
  unfold prv tmul
  by_cases h0 : r.val = 0
  · have hc : IntOp.cmpi CmpIPredicate.eq (BitVec.ofNat 32 r.val) 0#32 = 1#1 := by rw [h0]; decide
    rw [dif_pos h0, hc, zero_mul]; rfl
  · have hc : IntOp.cmpi CmpIPredicate.eq (BitVec.ofNat 32 r.val) 0#32 = 0#1 := by
      have hne : (BitVec.ofNat 32 r.val == 0#32) = false := by
        rw [beq_eq_false_iff_ne]; intro hb
        have := congrArg BitVec.toNat hb
        rw [BitVec.toNat_ofNat, Nat.mod_eq_of_lt (by omega)] at this
        exact h0 this
      simp only [IntOp.cmpi, hne]; rfl
    rw [dif_neg h0, hc]
    have e : (⟨(r.val + 2048 - 1) % 2048, h⟩ : Fin 2048) = ⟨r.val - 1, by omega⟩ := Fin.ext (by dsimp only; omega)
    rw [e]; rfl

/-- What the body's shift up reads, and its product with a tap. -/
theorem sel_nxt (x y : Tile) (w : EReal) (r : Fin 2048) (l : Fin 256) (h : (r.val + 2048 - 2047) % 2048 < 2048) :
    Scalar.select (IntOp.cmpi CmpIPredicate.eq (BitVec.ofNat 32 r.val) 2047#32) 0
      (x (ix2 ⟨(r.val + 2048 - 2047) % 2048, h⟩ l) * y (ix2 ⟨(r.val + 2048 - 2047) % 2048, h⟩ l) * w) = nxt (tmul x y) r l * w := by
  unfold nxt tmul
  by_cases h0 : r.val = 2047
  · have hc : IntOp.cmpi CmpIPredicate.eq (BitVec.ofNat 32 r.val) 2047#32 = 1#1 := by rw [h0]; decide
    rw [dif_pos h0, hc, zero_mul]; rfl
  · have hc : IntOp.cmpi CmpIPredicate.eq (BitVec.ofNat 32 r.val) 2047#32 = 0#1 := by
      have hne : (BitVec.ofNat 32 r.val == 2047#32) = false := by
        rw [beq_eq_false_iff_ne]; intro hb
        have := congrArg BitVec.toNat hb
        rw [BitVec.toNat_ofNat, Nat.mod_eq_of_lt (by omega)] at this
        exact h0 this
      simp only [IntOp.cmpi, hne]; rfl
    rw [dif_neg h0, hc]
    have e : (⟨(r.val + 2048 - 2047) % 2048, h⟩ : Fin 2048) = ⟨r.val + 1, by omega⟩ := Fin.ext (by dsimp only; omega)
    rw [e]; rfl

/-- The gradient of the gate. -/
def fCb (x1 x2 : Tile) (x3 : Vec Ideal S3x256 .f32) (x4 : Tile) (r : Fin 2048) (l : Fin 256) : EReal :=
  x4 (ix2 r l) * (prv (tmul x1 x2) r l * x3 (ix2 0 l) + x1 (ix2 r l) * x2 (ix2 r l) * x3 (ix2 1 l) + nxt (tmul x1 x2) r l * x3 (ix2 2 l))

/-- The gradient of the convolution's operand. -/
def fZ (x0 : Tile) (x3 : Vec Ideal S3x256 .f32) (x4 : Tile) (r : Fin 2048) (l : Fin 256) : EReal :=
  nxt (tmul x4 x0) r l * x3 (ix2 0 l) + x4 (ix2 r l) * x0 (ix2 r l) * x3 (ix2 1 l) + prv (tmul x4 x0) r l * x3 (ix2 2 l)

variable (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S3x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x256 .f32) (harg8 : arg8.IsWhole) (arg9 : Memref sig .tc .vmem S8x256 .f32) (harg9 : arg9.IsWhole)
  (x0 x1 x2 : Tile) (x3 : Vec Ideal S3x256 .f32) (x4 : Tile)

theorem out_A5 (hc0 : cond0_0 i) (r : Fin 2048) (l : Fin 256) :
    out0_A_5 c i arg1 harg1 arg2 harg2 arg3 harg3 arg4 harg4 arg5 harg5 arg6 harg6 arg7 harg7 arg8 harg8 arg9 harg9 hc0 x0 x1 x2 x3 x4 (ix2 r l) = fCb x1 x2 x3 x4 r l := by
  unfold out0_A_5
  rw [View.read_writes_eq_canon _ _ _ (fun y => cover0_A_5 (y := y) ..)]
  unfold kernelRun0_A
  dsimp only
  sl_unfold_words
  rw [View.canon_unit_zero hz]
  simp only [View.readAt_eq_ld, harg1.read_unread, harg2.read_unread, harg3.read_unread, harg4.read_unread, harg5.read_unread, View.ld_unit_zero (S := S2048x256) hz]
  unfold_payloads
  pointwise [fCb, fZ]
  exact congrArg (x4 (ix2 r l) * ·) (congrArg₂ (· + ·) (congrArg₂ (· + ·) (sel_prv _ _ _ r l _) rfl) (sel_nxt _ _ _ r l _))

theorem out_A6 (hc0 : cond0_0 i) (r : Fin 2048) (l : Fin 256) :
    out0_A_6 c i arg1 harg1 arg2 harg2 arg3 harg3 arg4 harg4 arg5 harg5 arg6 harg6 arg7 harg7 arg8 harg8 arg9 harg9 hc0 x0 x1 x2 x3 x4 (ix2 r l) = fZ x0 x3 x4 r l * x2 (ix2 r l) := by
  unfold out0_A_6
  rw [View.read_writes_eq_canon _ _ _ (fun y => cover0_A_6 (y := y) ..)]
  unfold kernelRun0_A
  dsimp only
  sl_unfold_words
  rw [View.canon_unit_zero hz]
  simp only [View.readAt_eq_ld, harg1.read_unread, harg2.read_unread, harg3.read_unread, harg4.read_unread, harg5.read_unread, View.ld_unit_zero (S := S2048x256) hz]
  unfold_payloads
  pointwise [fCb, fZ]
  exact congrArg (· * x2 (ix2 r l)) (congrArg₂ (· + ·) (congrArg₂ (· + ·) (sel_nxt _ _ _ r l _) rfl) (sel_prv _ _ _ r l _))

theorem out_A7 (hc0 : cond0_0 i) (r : Fin 2048) (l : Fin 256) :
    out0_A_7 c i arg1 harg1 arg2 harg2 arg3 harg3 arg4 harg4 arg5 harg5 arg6 harg6 arg7 harg7 arg8 harg8 arg9 harg9 hc0 x0 x1 x2 x3 x4 (ix2 r l) = fZ x0 x3 x4 r l * x1 (ix2 r l) := by
  unfold out0_A_7
  rw [View.read_writes_eq_canon _ _ _ (fun y => cover0_A_7 (y := y) ..)]
  unfold kernelRun0_A
  dsimp only
  sl_unfold_words
  rw [View.canon_unit_zero hz]
  simp only [View.readAt_eq_ld, harg1.read_unread, harg2.read_unread, harg3.read_unread, harg4.read_unread, harg5.read_unread, View.ld_unit_zero (S := S2048x256) hz]
  unfold_payloads
  pointwise [fCb, fZ]
  exact congrArg (· * x1 (ix2 r l)) (congrArg₂ (· + ·) (congrArg₂ (· + ·) (sel_nxt _ _ _ r l _) rfl) (sel_prv _ _ _ r l _))

theorem out_B5 (hc0 : ¬cond0_0 i) (xo : Vec Ideal S8x256 .f32) (r : Fin 2048) (l : Fin 256) :
    out0_B_5 c i arg1 harg1 arg2 harg2 arg3 harg3 arg4 harg4 arg5 harg5 arg6 harg6 arg7 harg7 arg8 harg8 arg9 harg9 hc0 x0 x1 x2 x3 x4 xo (ix2 r l) = fCb x1 x2 x3 x4 r l := by
  unfold out0_B_5
  rw [View.read_writes_eq_canon _ _ _ (fun y => cover0_B_5 (y := y) ..)]
  unfold kernelRun0_B
  dsimp only
  sl_unfold_words
  rw [View.canon_unit_zero hz]
  simp only [View.readAt_eq_ld, harg1.read_unread, harg2.read_unread, harg3.read_unread, harg4.read_unread, harg5.read_unread, View.ld_unit_zero (S := S2048x256) hz]
  unfold_payloads
  pointwise [fCb, fZ]
  exact congrArg (x4 (ix2 r l) * ·) (congrArg₂ (· + ·) (congrArg₂ (· + ·) (sel_prv _ _ _ r l _) rfl) (sel_nxt _ _ _ r l _))

theorem out_B6 (hc0 : ¬cond0_0 i) (xo : Vec Ideal S8x256 .f32) (r : Fin 2048) (l : Fin 256) :
    out0_B_6 c i arg1 harg1 arg2 harg2 arg3 harg3 arg4 harg4 arg5 harg5 arg6 harg6 arg7 harg7 arg8 harg8 arg9 harg9 hc0 x0 x1 x2 x3 x4 xo (ix2 r l) = fZ x0 x3 x4 r l * x2 (ix2 r l) := by
  unfold out0_B_6
  rw [View.read_writes_eq_canon _ _ _ (fun y => cover0_B_6 (y := y) ..)]
  unfold kernelRun0_B
  dsimp only
  sl_unfold_words
  rw [View.canon_unit_zero hz]
  simp only [View.readAt_eq_ld, harg1.read_unread, harg2.read_unread, harg3.read_unread, harg4.read_unread, harg5.read_unread, View.ld_unit_zero (S := S2048x256) hz]
  unfold_payloads
  pointwise [fCb, fZ]
  exact congrArg (· * x2 (ix2 r l)) (congrArg₂ (· + ·) (congrArg₂ (· + ·) (sel_nxt _ _ _ r l _) rfl) (sel_prv _ _ _ r l _))

theorem out_B7 (hc0 : ¬cond0_0 i) (xo : Vec Ideal S8x256 .f32) (r : Fin 2048) (l : Fin 256) :
    out0_B_7 c i arg1 harg1 arg2 harg2 arg3 harg3 arg4 harg4 arg5 harg5 arg6 harg6 arg7 harg7 arg8 harg8 arg9 harg9 hc0 x0 x1 x2 x3 x4 xo (ix2 r l) = fZ x0 x3 x4 r l * x1 (ix2 r l) := by
  unfold out0_B_7
  rw [View.read_writes_eq_canon _ _ _ (fun y => cover0_B_7 (y := y) ..)]
  unfold kernelRun0_B
  dsimp only
  sl_unfold_words
  rw [View.canon_unit_zero hz]
  simp only [View.readAt_eq_ld, harg1.read_unread, harg2.read_unread, harg3.read_unread, harg4.read_unread, harg5.read_unread, View.ld_unit_zero (S := S2048x256) hz]
  unfold_payloads
  pointwise [fCb, fZ]
  exact congrArg (· * x1 (ix2 r l)) (congrArg₂ (· + ·) (congrArg₂ (· + ·) (sel_nxt _ _ _ r l _) rfl) (sel_prv _ _ _ r l _))

end Cert.Conv
-- ==== Proof.ConvW.lean ====
module

public import proofs.«01_k».proof.Proof.ConvOut
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.Conv

open Cert.KernelIdeal Cert.KernelIdeal.Gen

/-- A row store, read back at an index. -/
theorem canon_row {o : ℕ} (inb : ∀ a, (![o, 0] : Fin 2 → ℕ) a + (![1, 256] : Fin 2 → ℕ) a ≤ S8x256.size a)
    (w : (Rect.unit (s := S8x256) ![o, 0] ![1, 256] inb).shape.Idx → EReal) (L : List (View.Piece (Elt Ideal) S8x256 .f32))
    (k : Fin 8) (l : Fin 256) :
    View.canon (Val := Elt Ideal) ((⟨Rect.unit (s := S8x256) ![o, 0] ![1, 256] inb, w⟩ : View.Piece (Elt Ideal) S8x256 .f32) :: L) (ix2 k l)
      = if k.val = o then w (ix2 (0 : Fin 1) l) else View.canon (Val := Elt Ideal) L (ix2 k l) := by
  by_cases h : k.val = o
  · rw [if_pos h]
    have he : (Rect.unit (s := S8x256) ![o, 0] ![1, 256] inb).emb (ix2 (0 : Fin 1) l) = ix2 k l := by
      funext x; apply Fin.ext
      match x with
      | ⟨0, _⟩ => show o + 1 * 0 = k.val; omega
      | ⟨1, _⟩ => show 0 + 1 * l.val = l.val; omega
    rw [← he]
    exact View.canon_cons_emb (Val := Elt Ideal) (Rect.unit (s := S8x256) ![o, 0] ![1, 256] inb) w L (ix2 (0 : Fin 1) l)
  · rw [if_neg h]
    refine View.canon_cons_of_not_mem _ L ?_
    intro hm
    obtain ⟨i, hi, he⟩ := (LoadRect.mem_set _).mp hm (0 : Fin 2)
    have hi1 : i < 1 := hi
    have he' : k.val = o + 1 * i := he
    omega

/-- A row store over contents, read back at an index. -/
theorem read_row {o : ℕ} (v : View sig .tc .vmem S8x256 .f32) (f : v.ty.Contents (Elt Ideal))
    (inb : ∀ a, (![o, 0] : Fin 2 → ℕ) a + (![1, 256] : Fin 2 → ℕ) a ≤ S8x256.size a)
    (w : (Rect.unit (s := S8x256) ![o, 0] ![1, 256] inb).shape.Idx → EReal) (L : List (View.Piece (Elt Ideal) S8x256 .f32))
    (k : Fin 8) (l : Fin 256) :
    v.read (Elt Ideal) (v.writes (Elt Ideal) f ((⟨Rect.unit (s := S8x256) ![o, 0] ![1, 256] inb, w⟩ : View.Piece (Elt Ideal) S8x256 .f32) :: L)) (ix2 k l)
      = if k.val = o then w (ix2 (0 : Fin 1) l) else v.read (Elt Ideal) (v.writes (Elt Ideal) f L) (ix2 k l) := by
  by_cases h : k.val = o
  · rw [if_pos h]
    refine View.read_writes_cons_unit_of_mem v f inb w L (ix2 k l) (ix2 (0 : Fin 1) l) rfl fun a => ?_
    match a with
    | ⟨0, _⟩ => exact h
    | ⟨1, _⟩ => exact (Nat.zero_add _).symm
  · rw [if_neg h]
    refine View.read_writes_cons_unit_of_not_mem v f inb w L (ix2 k l) rfl (0 : Fin 2) ?_
    show k.val < o ∨ o + 1 ≤ k.val
    omega

/-- A row load of contents. -/
theorem ld_row {o : ℕ} (X : S8x256.Idx → EReal) (inb : ∀ a, (![o, 0] : Fin 2 → ℕ) a + (![1, 256] : Fin 2 → ℕ) a ≤ S8x256.size a)
    (k : Fin 8) (h : k.val = o) (l : Fin 256) :
    View.ld (Val := Elt Ideal) (e' := .f32) X (Rect.unit (s := S8x256) ![o, 0] ![1, 256] inb) (ix2 (0 : Fin 1) l) = X (ix2 k l) := by
  refine congrArg X ?_
  funext x; apply Fin.ext
  match x with
  | ⟨0, _⟩ => show o + 1 * 0 = k.val; omega
  | ⟨1, _⟩ => show 0 + 1 * l.val = l.val; omega

/-- A row load of what stores left. -/
theorem readCov_row {o : ℕ} (v : View sig .tc .vmem S8x256 .f32) (inb : ∀ a, (![o, 0] : Fin 2 → ℕ) a + (![1, 256] : Fin 2 → ℕ) a ≤ S8x256.size a)
    (L : List (View.Piece (Elt Ideal) S8x256 .f32)) (ho : o < 8) (l : Fin 256) :
    v.readCov L (Rect.unit (s := S8x256) ![o, 0] ![1, 256] inb).toLoadRect (ix2 (0 : Fin 1) l) = View.canon (Val := Elt Ideal) L (ix2 ⟨o, ho⟩ l) := by
  rw [View.readCov_eq_canon']
  refine congrArg (View.canon L) ?_
  funext x; apply Fin.ext
  match x with
  | ⟨0, _⟩ => show o + 1 * 0 = o; omega
  | ⟨1, _⟩ => show 0 + 1 * l.val = l.val; omega

theorem pay_next (x0 x1 x2 x4 : Tile) (a : Vec Ideal S1x256 .f32) (l : Fin 256) :
    k0_pay2 (k0_pay6 x1 x2) (k0_pay8 x4 x0) a (ix2 (0 : Fin 1) l) = a (ix2 0 l) + ∑ r : Fin 2048, x4 (ix2 r l) * x0 (ix2 r l) * nxt (tmul x1 x2) r l := by
  unfold_payloads
  pointwise []
  exact congrArg (a (ix2 0 l) + ·) (Finset.sum_congr rfl fun r _ =>
    (congrArg (Scalar.select _ 0) (mul_comm _ _)).trans ((sel_nxt x1 x2 _ r l _).trans (mul_comm _ _)))

theorem pay_mid (x0 x1 x2 x4 : Tile) (a : Vec Ideal S1x256 .f32) (l : Fin 256) :
    k0_pay1 (k0_pay4 x1 x2) (k0_pay8 x4 x0) a (ix2 (0 : Fin 1) l) = a (ix2 0 l) + ∑ r : Fin 2048, x4 (ix2 r l) * x0 (ix2 r l) * (x1 (ix2 r l) * x2 (ix2 r l)) := by
  unfold_payloads
  pointwise []

theorem pay_prev (x0 x1 x2 x4 : Tile) (a : Vec Ideal S1x256 .f32) (l : Fin 256) :
    k0_pay12 (k0_pay5 x1 x2) x4 x0 a (ix2 (0 : Fin 1) l) = a (ix2 0 l) + ∑ r : Fin 2048, x4 (ix2 r l) * x0 (ix2 r l) * prv (tmul x1 x2) r l := by
  unfold_payloads
  pointwise []
  exact congrArg (a (ix2 0 l) + ·) (Finset.sum_congr rfl fun r _ =>
    (congrArg (Scalar.select _ 0) (mul_comm _ _)).trans ((sel_prv x1 x2 _ r l _).trans (mul_comm _ _)))

/-- One tile's part of the taps' gradient, on the launch's eight rows. -/
def fW (x0 x1 x2 x4 : Tile) (k : Fin 8) (l : Fin 256) : EReal :=
  if k.val = 2 then ∑ r : Fin 2048, x4 (ix2 r l) * x0 (ix2 r l) * nxt (tmul x1 x2) r l
  else if k.val = 1 then ∑ r : Fin 2048, x4 (ix2 r l) * x0 (ix2 r l) * (x1 (ix2 r l) * x2 (ix2 r l))
  else if k.val = 0 then ∑ r : Fin 2048, x4 (ix2 r l) * x0 (ix2 r l) * prv (tmul x1 x2) r l
  else 0

theorem pay_zero (k : Fin 8) (l : Fin 256) : (k0_pay3 (F := Ideal)) (ix2 k l) = 0 := by
  unfold_payloads
  pointwise []

variable (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S3x256 .f32) (harg4 : arg4.IsWhole) (arg5 : Memref sig .tc .vmem S2048x256 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x256 .f32) (harg8 : arg8.IsWhole) (arg9 : Memref sig .tc .vmem S8x256 .f32) (harg9 : arg9.IsWhole)
  (x0 x1 x2 : Tile) (x3 : Vec Ideal S3x256 .f32) (x4 : Tile)

theorem out_A8 (hc0 : cond0_0 i) (k : Fin 8) (l : Fin 256) :
    out0_A_8 c i arg1 harg1 arg2 harg2 arg3 harg3 arg4 harg4 arg5 harg5 arg6 harg6 arg7 harg7 arg8 harg8 arg9 harg9 hc0 x0 x1 x2 x3 x4 (ix2 k l) = fW x0 x1 x2 x4 k l := by
  unfold out0_A_8
  rw [View.read_writes_eq_canon _ _ _ (fun y => cover0_A_8 (y := y) ..)]
  unfold kernelRun0_A
  dsimp only
  sl_unfold_words
  simp only [View.readAt_eq_ld, harg1.read_unread, harg2.read_unread, harg3.read_unread, harg4.read_unread, harg5.read_unread, View.ld_unit_zero (S := S2048x256) hz]
  rw [canon_row, canon_row, canon_row, pay_next, pay_mid, pay_prev, readCov_row _ _ _ (by omega), readCov_row _ _ _ (by omega), readCov_row _ _ _ (by omega),
    canon_row, canon_row, View.canon_cons_unit_zero (S := S8x256) hz]
  simp only [pay_zero, canon_row, if_neg (show ¬ ((2 : ℕ) = 1) by omega), if_neg (show ¬ ((2 : ℕ) = 0) by omega), if_neg (show ¬ ((1 : ℕ) = 0) by omega), View.canon_cons_unit_zero (S := S8x256) hz, zero_add]
  rfl

theorem out_B8 (hc0 : ¬cond0_0 i) (xo) (k : Fin 8) (l : Fin 256) :
    out0_B_8 c i arg1 harg1 arg2 harg2 arg3 harg3 arg4 harg4 arg5 harg5 arg6 harg6 arg7 harg7 arg8 harg8 arg9 harg9 hc0 x0 x1 x2 x3 x4 xo (ix2 k l) = xo (ix2 k l) + fW x0 x1 x2 x4 k l := by
  unfold out0_B_8
  unfold kernelRun0_B
  dsimp only
  sl_unfold_words
  simp only [View.readAt_eq_ld, harg1.read_unread, harg2.read_unread, harg3.read_unread, harg4.read_unread, harg5.read_unread, harg9.read_unread, View.ld_unit_zero (S := S2048x256) hz]
  rw [read_row, read_row, read_row, pay_next, pay_mid, pay_prev]
  unfold fW
  by_cases h2 : k.val = 2
  · rw [if_pos h2, if_pos h2, ld_row _ _ k h2]
  rw [if_neg h2, if_neg h2]
  by_cases h1 : k.val = 1
  · rw [if_pos h1, if_pos h1, ld_row _ _ k h1]
  rw [if_neg h1, if_neg h1]
  by_cases h0 : k.val = 0
  · rw [if_pos h0, if_pos h0, ld_row _ _ k h0]
  rw [if_neg h0, if_neg h0, View.writes_nil, harg9.read_unread, add_zero]

end Cert.Conv
-- ==== Proof.ConvArr.lean ====
module

public import proofs.«01_k».proof.Proof.ConvW
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Conv

open Cert.KernelIdeal Cert.KernelIdeal.Gen

variable (m : (ℓ : Loc nD τ sig) → Buf (Elt Ideal) ℓ)

/-- The three arguments, as arrays. -/
abbrev argP (c : Dev nD) : S9216x1792.Idx → EReal := m ((c : Thread nD τ).loc main_arg0)
abbrev argW (c : Dev nD) : S3x256.Idx → EReal := m ((c : Thread nD τ).loc main_arg1)
abbrev argD (c : Dev nD) : S9216x768.Idx → EReal := m ((c : Thread nD τ).loc main_arg2)

/-- A sequence's tile of the packed projection, from column `o` on. -/
def tileP (p : S9216x1792.Idx → EReal) (o : ℕ) (ho : o + 256 ≤ 1792) (s : Fin 4) : Tile :=
  fun j => p (ix2 ⟨2048 * s.val + (j 0).val, by have : (j 0).val < 2048 := (j 0).isLt; omega⟩ ⟨o + (j 1).val, by have : (j 1).val < 256 := (j 1).isLt; omega⟩)

/-- A sequence's tile of the gradient that comes in. -/
def tileD (d : S9216x768.Idx → EReal) (s : Fin 4) : Tile :=
  fun j => d (ix2 ⟨2048 * s.val + (j 0).val, by have : (j 0).val < 2048 := (j 0).isLt; omega⟩ ⟨512 + (j 1).val, by have : (j 1).val < 256 := (j 1).isLt; omega⟩)

theorem hN : cfg0.N = 4 := N_0

theorem idx0 : ∀ t : Fin grid0.N, win0_0.index t = ![t.val, 3] ∧ win0_1.index t = ![t.val, 4] ∧ win0_2.index t = ![t.val, 5] ∧ win0_3.index t = ![0, 0]
    ∧ win0_4.index t = ![t.val, 2] ∧ win0_5.index t = ![t.val, 0] ∧ win0_6.index t = ![t.val, 0] ∧ win0_7.index t = ![t.val, 0] ∧ win0_8.index t = ![0, 0] := by
  decide +kernel

/-- The point of the grid, as a sequence. -/
abbrev seqOf (t : Fin cfg0.N) : Fin 4 := ⟨t.val, lt_of_lt_of_eq t.isLt hN⟩

theorem in0 (c : Dev nD) (t : Fin cfg0.N) : X0_0 m c t = tileP (argP m c) 768 (by omega) (seqOf t) := by
  funext j
  unfold X0_0 Pipeline.Window.fill
  rw [dif_pos (moved0_0 t j)]
  unfold tileP argP
  have h := idx0 t
  blk_ext [iblk, V, h.1]

theorem in1 (c : Dev nD) (t : Fin cfg0.N) : X0_1 m c t = tileP (argP m c) 1024 (by omega) (seqOf t) := by
  funext j
  unfold X0_1 Pipeline.Window.fill
  rw [dif_pos (moved0_1 t j)]
  unfold tileP argP
  have h := idx0 t
  blk_ext [iblk, V, h.2.1]

theorem in2 (c : Dev nD) (t : Fin cfg0.N) : X0_2 m c t = tileP (argP m c) 1280 (by omega) (seqOf t) := by
  funext j
  unfold X0_2 Pipeline.Window.fill
  rw [dif_pos (moved0_2 t j)]
  unfold tileP argP
  have h := idx0 t
  blk_ext [iblk, V, h.2.2.1]

theorem in3 (c : Dev nD) (t : Fin cfg0.N) : (iblk m c 3 t : S3x256.Idx → EReal) = argW m c := by
  funext j
  have h := idx0 t
  blk_ext [iblk, V, h.2.2.2.1]

theorem in4 (c : Dev nD) (t : Fin cfg0.N) : X0_4 m c t = tileD (argD m c) (seqOf t) := by
  funext j
  unfold X0_4 Pipeline.Window.fill
  rw [dif_pos (moved0_4 t j)]
  unfold tileD argD
  have h := idx0 t
  blk_ext [iblk, V, h.2.2.2.2.1]

/-- What the launch leaves in result 0, at a sequence, a row and a lane. -/
def g5 (p : S9216x1792.Idx → EReal) (w : S3x256.Idx → EReal) (d : S9216x768.Idx → EReal) (s : Fin 4) (r : Fin 2048) (l : Fin 256) : EReal :=
  fCb (tileP p 1024 (by omega) s) (tileP p 1280 (by omega) s) w (tileD d s) r l

theorem after5 (c : Dev nD) (t : Fin cfg0.N) (r : Fin 2048) (l : Fin 256) :
    (outsAt0 m c t.val t.isLt).1 (ix2 r l) = g5 (argP m c) (argW m c) (argD m c) (seqOf t) r l := by
  unfold g5
  by_cases h0 : t.val % 4 = 0
  · rw [outsAt0_A m c t h0]
    dsimp only
    rw [out_A5, in1, in2, in3, in4]
  · rw [outsAt0_B m c t h0]
    dsimp only
    rw [out_B5, in1, in2, in3, in4]

/-- What the launch leaves in result 0. -/
def res5 (p : S9216x1792.Idx → EReal) (w : S3x256.Idx → EReal) (d : S9216x768.Idx → EReal) : S8192x256.Idx → EReal := fun i =>
  g5 p w d ⟨(i 0).val / 2048, by have : (i 0).val < 8192 := (i 0).isLt; omega⟩ ⟨(i 0).val % 2048, by omega⟩ ⟨(i 1).val, (i 1).isLt⟩

theorem arr5 (c : Dev nD) : (dats m 0 c).arrAt 5 cfg0.N = res5 (argP m c) (argW m c) (argD m c) := by
  refine (dats m 0 c).arrAt_eq_of_covers 5 _ (by decide +kernel) fun t hf y => ?_
  blk_simp
  rw [after0_5]
  have h := idx0 t
  have hy0 : (y 0).val < 2048 := (y 0).isLt
  have hy1 : (y 1).val < 256 := (y 1).isLt
  have hy : (y : S2048x256.Idx) = ix2 ⟨(y 0).val, hy0⟩ ⟨(y 1).val, hy1⟩ := by funext a; match a with | ⟨0, _⟩ => rfl | ⟨1, _⟩ => rfl
  refine (congrArg ((outsAt0 m c t.val t.isLt).1) hy).trans ((after5 m c t _ _).trans ?_)
  have e0 : (((win0_5.blk t).view.emb y) 0 : ℕ) = 2048 * t.val + (y 0).val := by blk_simp [h.2.2.2.2.2.1]; omega
  have e1 : (((win0_5.blk t).view.emb y) 1 : ℕ) = (y 1).val := by blk_simp [h.2.2.2.2.2.1]
  unfold res5
  congr 1 <;> apply Fin.ext
  · show t.val = _ / 2048
    rw [e0]; omega
  · show (y 0).val = _ % 2048
    rw [e0]; omega
  · exact e1.symm

/-- What the launch leaves in result 1, at a sequence, a row and a lane. -/
def g6 (p : S9216x1792.Idx → EReal) (w : S3x256.Idx → EReal) (d : S9216x768.Idx → EReal) (s : Fin 4) (r : Fin 2048) (l : Fin 256) : EReal :=
  fZ (tileP p 768 (by omega) s) w (tileD d s) r l * (tileP p 1280 (by omega) s) (ix2 r l)

theorem after6 (c : Dev nD) (t : Fin cfg0.N) (r : Fin 2048) (l : Fin 256) :
    (outsAt0 m c t.val t.isLt).2.1 (ix2 r l) = g6 (argP m c) (argW m c) (argD m c) (seqOf t) r l := by
  unfold g6
  by_cases h0 : t.val % 4 = 0
  · rw [outsAt0_A m c t h0]
    dsimp only
    rw [out_A6, in0, in2, in3, in4]
  · rw [outsAt0_B m c t h0]
    dsimp only
    rw [out_B6, in0, in2, in3, in4]

/-- What the launch leaves in result 1. -/
def res6 (p : S9216x1792.Idx → EReal) (w : S3x256.Idx → EReal) (d : S9216x768.Idx → EReal) : S8192x256.Idx → EReal := fun i =>
  g6 p w d ⟨(i 0).val / 2048, by have : (i 0).val < 8192 := (i 0).isLt; omega⟩ ⟨(i 0).val % 2048, by omega⟩ ⟨(i 1).val, (i 1).isLt⟩

theorem arr6 (c : Dev nD) : (dats m 0 c).arrAt 6 cfg0.N = res6 (argP m c) (argW m c) (argD m c) := by
  refine (dats m 0 c).arrAt_eq_of_covers 6 _ (by decide +kernel) fun t hf y => ?_
  blk_simp
  rw [after0_6]
  have h := idx0 t
  have hy0 : (y 0).val < 2048 := (y 0).isLt
  have hy1 : (y 1).val < 256 := (y 1).isLt
  have hy : (y : S2048x256.Idx) = ix2 ⟨(y 0).val, hy0⟩ ⟨(y 1).val, hy1⟩ := by funext a; match a with | ⟨0, _⟩ => rfl | ⟨1, _⟩ => rfl
  refine (congrArg ((outsAt0 m c t.val t.isLt).2.1) hy).trans ((after6 m c t _ _).trans ?_)
  have e0 : (((win0_6.blk t).view.emb y) 0 : ℕ) = 2048 * t.val + (y 0).val := by blk_simp [h.2.2.2.2.2.2.1]; omega
  have e1 : (((win0_6.blk t).view.emb y) 1 : ℕ) = (y 1).val := by blk_simp [h.2.2.2.2.2.2.1]
  unfold res6
  congr 1 <;> apply Fin.ext
  · show t.val = _ / 2048
    rw [e0]; omega
  · show (y 0).val = _ % 2048
    rw [e0]; omega
  · exact e1.symm

/-- What the launch leaves in result 2, at a sequence, a row and a lane. -/
def g7 (p : S9216x1792.Idx → EReal) (w : S3x256.Idx → EReal) (d : S9216x768.Idx → EReal) (s : Fin 4) (r : Fin 2048) (l : Fin 256) : EReal :=
  fZ (tileP p 768 (by omega) s) w (tileD d s) r l * (tileP p 1024 (by omega) s) (ix2 r l)

theorem after7 (c : Dev nD) (t : Fin cfg0.N) (r : Fin 2048) (l : Fin 256) :
    (outsAt0 m c t.val t.isLt).2.2.1 (ix2 r l) = g7 (argP m c) (argW m c) (argD m c) (seqOf t) r l := by
  unfold g7
  by_cases h0 : t.val % 4 = 0
  · rw [outsAt0_A m c t h0]
    dsimp only
    rw [out_A7, in0, in1, in3, in4]
  · rw [outsAt0_B m c t h0]
    dsimp only
    rw [out_B7, in0, in1, in3, in4]

/-- What the launch leaves in result 2. -/
def res7 (p : S9216x1792.Idx → EReal) (w : S3x256.Idx → EReal) (d : S9216x768.Idx → EReal) : S8192x256.Idx → EReal := fun i =>
  g7 p w d ⟨(i 0).val / 2048, by have : (i 0).val < 8192 := (i 0).isLt; omega⟩ ⟨(i 0).val % 2048, by omega⟩ ⟨(i 1).val, (i 1).isLt⟩

theorem arr7 (c : Dev nD) : (dats m 0 c).arrAt 7 cfg0.N = res7 (argP m c) (argW m c) (argD m c) := by
  refine (dats m 0 c).arrAt_eq_of_covers 7 _ (by decide +kernel) fun t hf y => ?_
  blk_simp
  rw [after0_7]
  have h := idx0 t
  have hy0 : (y 0).val < 2048 := (y 0).isLt
  have hy1 : (y 1).val < 256 := (y 1).isLt
  have hy : (y : S2048x256.Idx) = ix2 ⟨(y 0).val, hy0⟩ ⟨(y 1).val, hy1⟩ := by funext a; match a with | ⟨0, _⟩ => rfl | ⟨1, _⟩ => rfl
  refine (congrArg ((outsAt0 m c t.val t.isLt).2.2.1) hy).trans ((after7 m c t _ _).trans ?_)
  have e0 : (((win0_7.blk t).view.emb y) 0 : ℕ) = 2048 * t.val + (y 0).val := by blk_simp [h.2.2.2.2.2.2.2.1]; omega
  have e1 : (((win0_7.blk t).view.emb y) 1 : ℕ) = (y 1).val := by blk_simp [h.2.2.2.2.2.2.2.1]
  unfold res7
  congr 1 <;> apply Fin.ext
  · show t.val = _ / 2048
    rw [e0]; omega
  · show (y 0).val = _ % 2048
    rw [e0]; omega
  · exact e1.symm

/-- What the launch leaves in result 3, at a row and a lane. -/
def g8 (p : S9216x1792.Idx → EReal) (d : S9216x768.Idx → EReal) (k : Fin 8) (l : Fin 256) : EReal :=
  ∑ s : Fin 4, fW (tileP p 768 (by omega) s) (tileP p 1024 (by omega) s) (tileP p 1280 (by omega) s) (tileD d s) k l

theorem step8_A (c : Dev nD) (t : Fin cfg0.N) (h0 : t.val % 4 = 0) (k : Fin 8) (l : Fin 256) :
    (outsAt0 m c t.val t.isLt).2.2.2 (ix2 k l) = fW (tileP (argP m c) 768 (by omega) (seqOf t)) (tileP (argP m c) 1024 (by omega) (seqOf t)) (tileP (argP m c) 1280 (by omega) (seqOf t)) (tileD (argD m c) (seqOf t)) k l := by
  rw [outsAt0_A m c t h0]
  dsimp only
  rw [out_A8, in0, in1, in2, in4]

theorem step8_B (c : Dev nD) (t : Fin cfg0.N) (h0 : ¬t.val % 4 = 0) (k : Fin 8) (l : Fin 256) :
    (outsAt0 m c t.val t.isLt).2.2.2 (ix2 k l) = (outsAt0 m c (t.val - 1) (Nat.lt_of_le_of_lt (Nat.sub_le _ _) t.isLt)).2.2.2 (ix2 k l)
      + fW (tileP (argP m c) 768 (by omega) (seqOf t)) (tileP (argP m c) 1024 (by omega) (seqOf t)) (tileP (argP m c) 1280 (by omega) (seqOf t)) (tileD (argD m c) (seqOf t)) k l := by
  rw [outsAt0_B m c t h0]
  dsimp only
  rw [out_B8, in0, in1, in2, in4]

theorem acc8 (c : Dev nD) (hn : 3 < cfg0.N) (k : Fin 8) (l : Fin 256) :
    (outsAt0 m c 3 hn).2.2.2 (ix2 k l) = g8 (argP m c) (argD m c) k l := by
  have a0 := step8_A m c ⟨0, by rw [hN]; omega⟩ (by rfl) k l
  have a1 := step8_B m c ⟨1, by rw [hN]; omega⟩ (by dsimp only; omega) k l
  have a2 := step8_B m c ⟨2, by rw [hN]; omega⟩ (by dsimp only; omega) k l
  have a3 := step8_B m c ⟨3, hn⟩ (by dsimp only; omega) k l
  dsimp only [Nat.reduceSub] at a0 a1 a2 a3
  rw [a3, a2, a1, a0]
  unfold g8
  rw [Fin.sum_univ_four]
  rfl

theorem after8 (c : Dev nD) (t : Fin cfg0.N) (h3 : t.val = 3) (k : Fin 8) (l : Fin 256) :
    (outsAt0 m c t.val t.isLt).2.2.2 (ix2 k l) = g8 (argP m c) (argD m c) k l := by
  have key : ∀ (n : ℕ) (hn : n < cfg0.N), n = 3 → (outsAt0 m c n hn).2.2.2 (ix2 k l) = g8 (argP m c) (argD m c) k l := by
    intro n hn e
    subst e
    exact acc8 m c hn k l
  exact key t.val t.isLt h3

/-- What the launch leaves in result 3. -/
def res8 (p : S9216x1792.Idx → EReal) (d : S9216x768.Idx → EReal) : S8x256.Idx → EReal := fun i =>
  g8 p d ⟨(i 0).val, (i 0).isLt⟩ ⟨(i 1).val, (i 1).isLt⟩

theorem arr8 (c : Dev nD) : (dats m 0 c).arrAt 8 cfg0.N = res8 (argP m c) (argD m c) := by
  refine (dats m 0 c).arrAt_eq_of_covers 8 _ (by decide +kernel) fun t hf y => ?_
  blk_simp
  rw [after0_8]
  have h := idx0 t
  have h3 : t.val = 3 := by have := (flush0_8 t).mp hf; have : t.val < 4 := lt_of_lt_of_eq t.isLt hN; omega
  have hy0 : (y 0).val < 8 := (y 0).isLt
  have hy1 : (y 1).val < 256 := (y 1).isLt
  have hy : (y : S8x256.Idx) = ix2 ⟨(y 0).val, hy0⟩ ⟨(y 1).val, hy1⟩ := by funext a; match a with | ⟨0, _⟩ => rfl | ⟨1, _⟩ => rfl
  refine (congrArg ((outsAt0 m c t.val t.isLt).2.2.2) hy).trans ((after8 m c t h3 _ _).trans ?_)
  have e0 : (((win0_8.blk t).view.emb y) 0 : ℕ) = (y 0).val := by blk_simp [h.2.2.2.2.2.2.2.2]
  have e1 : (((win0_8.blk t).view.emb y) 1 : ℕ) = (y 1).val := by blk_simp [h.2.2.2.2.2.2.2.2]
  unfold res8
  congr 1 <;> apply Fin.ext
  · exact e0.symm
  · exact e1.symm

end Cert.Conv
-- ==== Proof.ConvRef.lean ====
module

public import proofs.«01_k».proof.Proof.ConvArr
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem

namespace Cert.Conv

/-- The sum over the two leading axes of a rank 3 array, at an index of the kept axis. -/
theorem sum_lead2 {n0 n1 n2 : ℕ} (h : (⟨3, ![n0, n1, n2]⟩ : Shape).ReducesTo [0, 1] (⟨1, ![n2]⟩ : Shape))
    (v : (⟨3, ![n0, n1, n2]⟩ : Shape).Idx → EReal) (z : EReal) (l : Fin n2) :
    Ideal.hostReduceAdd h v z (ix1 l) = z + ∑ a : Fin n0, ∑ b : Fin n1, v (ix3 a b l) := by
  unfold Ideal.hostReduceAdd
  refine congrArg (z + ·) ?_
  have hinj : Function.Injective (fun q : Fin n0 × Fin n1 => (ix3 q.1 q.2 l : (⟨3, ![n0, n1, n2]⟩ : Shape).Idx)) :=
    fun q q' e => Prod.ext (congrFun e 0) (congrFun e 1)
  have hp : ∀ i : (⟨3, ![n0, n1, n2]⟩ : Shape).Idx, h.drop i = ix1 l ↔ ∃ q : Fin n0 × Fin n1, ix3 q.1 q.2 l = i := by
    intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨q, rfl⟩
      funext b
      apply Fin.ext
      match b with
      | ⟨0, _⟩ => rfl
  rw [Finset.sum_filter_eq_sum_of_fiber _ _ hinj hp v]
  exact Fintype.sum_prod_type _

open Cert.ReferenceIdeal Cert.ReferenceIdeal.Gen Cert.ReferenceIdeal.Read

variable (p : S9216x1792.Idx → EReal) (w : S3x256.Idx → EReal) (d : S9216x768.Idx → EReal)

theorem r5 (b : Fin 4) (r : Fin 2048) (l : Fin 256) :
    (val_main_v5 (F := Ideal) p : S4x2048x256.Idx → EReal) (ix3 b r l) = tileP p 768 (by omega) b (ix2 r l) := by
  unfold tileP
  pointwise [val_main_v5, val_main_v1, val_main_v0]
  congr 2; exact Fin.ext (by simp only [Nat.mul_comm])

theorem r6 (b : Fin 4) (r : Fin 2048) (l : Fin 256) :
    (val_main_v6 (F := Ideal) p : S4x2048x256.Idx → EReal) (ix3 b r l) = tileP p 1024 (by omega) b (ix2 r l) := by
  unfold tileP
  pointwise [val_main_v6, val_main_v1, val_main_v0]
  congr 2; exact Fin.ext (by simp only [Nat.mul_comm])

theorem r7 (b : Fin 4) (r : Fin 2048) (l : Fin 256) :
    (val_main_v7 (F := Ideal) p : S4x2048x256.Idx → EReal) (ix3 b r l) = tileP p 1280 (by omega) b (ix2 r l) := by
  unfold tileP
  pointwise [val_main_v7, val_main_v1, val_main_v0]
  congr 2; exact Fin.ext (by simp only [Nat.mul_comm])

theorem r10 (b : Fin 4) (r : Fin 2048) (l : Fin 256) :
    (val_main_v10 (F := Ideal) d : S4x2048x256.Idx → EReal) (ix3 b r l) = tileD d b (ix2 r l) := by
  unfold tileD
  pointwise [val_main_v10, val_main_v9]
  congr 2; exact Fin.ext (by simp only [Nat.mul_comm])

/-- The product that the convolution reads. -/
theorem r11 (b : Fin 4) (r : Fin 2048) (l : Fin 256) :
    (val_main_v11 (F := Ideal) p : S4x2048x256.Idx → EReal) (ix3 b r l)
      = tmul (tileP p 1024 (by omega) b) (tileP p 1280 (by omega) b) (ix2 r l) := by
  rw [val_main_v11_apply, r6, r7]; rfl

theorem r13 (b : Fin 4) (r : Fin 2050) (l : Fin 256) :
    (val_main_v13 (F := Ideal) p : S4x2050x256.Idx → EReal) (ix3 b r l) = if h : r.val = 0 ∨ r.val = 2049 then 0 else
      tmul (tileP p 1024 (by omega) b) (tileP p 1280 (by omega) b) (ix2 ⟨r.val - 1, by omega⟩ l) := by
  have h0 : ∀ i, (val_main_cst (F := Ideal) : S_.Idx → EReal) i = 0 := fun i => by pointwise [val_main_cst]
  pointwise [val_main_v13, val_main_v12]
  have hr := r.isLt
  by_cases a : r.val < 1
  · rw [dif_pos a, dif_pos (by omega)]; exact h0 _
  · rw [dif_neg a]
    by_cases e : r.val - 1 < 2048
    · rw [dif_pos e, dif_neg (by omega)]; exact r11 p b _ l
    · rw [dif_neg e, dif_pos (by omega)]; exact h0 _

theorem r16 (b : Fin 4) (r : Fin 2048) (l : Fin 256) :
    (val_main_v16 (F := Ideal) p : S4x2048x256.Idx → EReal) (ix3 b r l)
      = prv (tmul (tileP p 1024 (by omega) b) (tileP p 1280 (by omega) b)) r l := by
  have e : (val_main_v16 (F := Ideal) p : S4x2048x256.Idx → EReal) (ix3 b r l)
      = (val_main_v13 (F := Ideal) p : S4x2050x256.Idx → EReal) (ix3 b ⟨r.val, by omega⟩ l) := by
    pointwise [val_main_v16]
  rw [e, r13]
  unfold prv
  have hr := r.isLt
  by_cases a : r.val = 0
  · rw [dif_pos (Or.inl a), dif_pos a]
  · rw [dif_neg (by dsimp only; omega), dif_neg a]

theorem r22 (b : Fin 4) (r : Fin 2048) (l : Fin 256) :
    (val_main_v22 (F := Ideal) p : S4x2048x256.Idx → EReal) (ix3 b r l)
      = tmul (tileP p 1024 (by omega) b) (tileP p 1280 (by omega) b) (ix2 r l) := by
  have e : (val_main_v22 (F := Ideal) p : S4x2048x256.Idx → EReal) (ix3 b r l)
      = (val_main_v13 (F := Ideal) p : S4x2050x256.Idx → EReal) (ix3 b ⟨1 + r.val, by omega⟩ l) := by
    pointwise [val_main_v22]
  have hr := r.isLt
  rw [e, r13, dif_neg (by dsimp only; omega)]
  congr 2; exact Fin.ext (by dsimp only; omega)

theorem r29 (b : Fin 4) (r : Fin 2048) (l : Fin 256) :
    (val_main_v29 (F := Ideal) p : S4x2048x256.Idx → EReal) (ix3 b r l)
      = nxt (tmul (tileP p 1024 (by omega) b) (tileP p 1280 (by omega) b)) r l := by
  have e : (val_main_v29 (F := Ideal) p : S4x2048x256.Idx → EReal) (ix3 b r l)
      = (val_main_v13 (F := Ideal) p : S4x2050x256.Idx → EReal) (ix3 b ⟨2 + r.val, by omega⟩ l) := by
    pointwise [val_main_v29]
  rw [e, r13]
  unfold nxt
  have hr := r.isLt
  by_cases a : r.val = 2047
  · rw [dif_pos (by dsimp only; omega), dif_pos a]
  · rw [dif_neg (by dsimp only; omega), dif_neg a]
    congr 2; exact Fin.ext (by dsimp only; omega)

theorem r20 (b : Fin 4) (r : Fin 2048) (l : Fin 256) :
    (val_main_v20 (F := Ideal) w : S4x2048x256.Idx → EReal) (ix3 b r l) = w (ix2 0 l) := by
  pointwise [val_main_v20, val_main_v19, val_main_v18, val_main_v17]

theorem r26 (b : Fin 4) (r : Fin 2048) (l : Fin 256) :
    (val_main_v26 (F := Ideal) w : S4x2048x256.Idx → EReal) (ix3 b r l) = w (ix2 1 l) := by
  pointwise [val_main_v26, val_main_v25, val_main_v24, val_main_v23]

theorem r33 (b : Fin 4) (r : Fin 2048) (l : Fin 256) :
    (val_main_v33 (F := Ideal) w : S4x2048x256.Idx → EReal) (ix3 b r l) = w (ix2 2 l) := by
  pointwise [val_main_v33, val_main_v32, val_main_v31, val_main_v30]

theorem r42 (b : Fin 4) (r : Fin 2048) (l : Fin 256) :
    (val_main_v42 (F := Ideal) w : S4x2048x256.Idx → EReal) (ix3 b r l) = w (ix2 2 l) := by
  pointwise [val_main_v42, val_main_v32, val_main_v31, val_main_v30]

theorem r51 (b : Fin 4) (r : Fin 2048) (l : Fin 256) :
    (val_main_v51 (F := Ideal) w : S4x2048x256.Idx → EReal) (ix3 b r l) = w (ix2 1 l) := by
  pointwise [val_main_v51, val_main_v25, val_main_v24, val_main_v23]

theorem r62 (b : Fin 4) (r : Fin 2048) (l : Fin 256) :
    (val_main_v62 (F := Ideal) w : S4x2048x256.Idx → EReal) (ix3 b r l) = w (ix2 0 l) := by
  pointwise [val_main_v62, val_main_v19, val_main_v18, val_main_v17]

theorem r38 (b : Fin 4) (r : Fin 2048) (l : Fin 256) :
    (val_main_v38 (F := Ideal) p w d : S4x2048x256.Idx → EReal) (ix3 b r l) = g5 p w d b r l := by
  rw [val_main_v38_apply, val_main_v35_apply, val_main_v28_apply, val_main_v21_apply, val_main_v27_apply, val_main_v34_apply,
    r10, r16, r20, r22, r26, r29, r33]
  rfl

theorem r37 (b : Fin 4) (r : Fin 2048) (l : Fin 256) :
    (val_main_v37 (F := Ideal) p d : S4x2048x256.Idx → EReal) (ix3 b r l) = tmul (tileD d b) (tileP p 768 (by omega) b) (ix2 r l) := by
  rw [val_main_v37_apply, r5, r10]
  exact mul_comm _ _

theorem r71 (b : Fin 4) (r : Fin 2048) (l : Fin 256) :
    (val_main_v71 (F := Ideal) p w d : S4x2048x256.Idx → EReal) (ix3 b r l)
      = fZ (tileP p 768 (by omega) b) w (tileD d b) r l := by
  have e : (val_main_v71 (F := Ideal) p w d : S4x2048x256.Idx → EReal) (ix3 b r l)
      = (val_main_v69 (F := Ideal) p w d : S4x2050x256.Idx → EReal) (ix3 b ⟨1 + r.val, by omega⟩ l) := by
    pointwise [val_main_v71]
  have h0 : ∀ i, (val_main_cst_5 (F := Ideal) : S_.Idx → EReal) i = 0 := fun i => by pointwise [val_main_cst_5]
  have h1 : ∀ i, (val_main_cst_13 (F := Ideal) : S_.Idx → EReal) i = 0 := fun i => by pointwise [val_main_cst_13]
  rw [e]
  pointwise [val_main_v69, val_main_v58, val_main_v57, val_main_v47, val_main_v68]
  have hr := r.isLt
  have e0 : ∀ q : Fin 2048, (val_main_v43 (F := Ideal) p w d : S4x2048x256.Idx → EReal) (ix3 b q l)
      = tmul (tileD d b) (tileP p 768 (by omega) b) (ix2 q l) * w (ix2 2 l) := fun q => by
    rw [val_main_v43_apply, r37, r42]; rfl
  have e1 : ∀ q : Fin 2048, (val_main_v52 (F := Ideal) p w d : S4x2048x256.Idx → EReal) (ix3 b q l)
      = tmul (tileD d b) (tileP p 768 (by omega) b) (ix2 q l) * w (ix2 1 l) := fun q => by
    rw [val_main_v52_apply, r37, r51]; rfl
  have e2 : ∀ q : Fin 2048, (val_main_v63 (F := Ideal) p w d : S4x2048x256.Idx → EReal) (ix3 b q l)
      = tmul (tileD d b) (tileP p 768 (by omega) b) (ix2 q l) * w (ix2 0 l) := fun q => by
    rw [val_main_v63_apply, r37, r62]; rfl
  unfold fZ
  have sw : ∀ {A B C A' B' C' : EReal}, A = A' → B = B' → C = C' → A + B + C = C' + B' + A' := by
    rintro A B C _ _ _ rfl rfl rfl
    rw [add_comm (A + B) C, add_comm A B, add_assoc C B A]
  refine sw ?_ ?_ ?_
  · unfold prv
    by_cases a : r.val = 0
    · rw [dif_neg (by omega), dif_pos a, zero_mul]; exact h0 _
    · rw [dif_pos (by omega), dif_neg a]
      refine (e0 _).trans ?_
      congr 3; exact Fin.ext (by dsimp only; omega)
  · exact e1 r
  · unfold nxt
    by_cases a : r.val = 2047
    · rw [dif_neg (by omega), dif_pos a, zero_mul]; exact h1 _
    · rw [dif_pos (by omega), dif_neg a]
      refine (e2 _).trans ?_
      congr 3; exact Fin.ext (by dsimp only; omega)

theorem r74 (b : Fin 4) (r : Fin 2048) (l : Fin 256) :
    (val_main_v74 (F := Ideal) p w d : S4x2048x256.Idx → EReal) (ix3 b r l) = g6 p w d b r l := by
  rw [val_main_v74_apply, r71, r7]; rfl

theorem r73 (b : Fin 4) (r : Fin 2048) (l : Fin 256) :
    (val_main_v73 (F := Ideal) p w d : S4x2048x256.Idx → EReal) (ix3 b r l) = g7 p w d b r l := by
  rw [val_main_v73_apply, r71, r6]
  exact mul_comm _ _

theorem refOut0 : (val_main_v75 (F := Ideal) p w d : S8192x256.Idx → EReal) = res5 p w d := by
  funext i
  have h0 : (i 0).val < 8192 := (i 0).isLt
  have h1 : (i 1).val < 256 := (i 1).isLt
  unfold res5
  rw [← r38]
  pointwise [val_main_v75]

theorem refOut1 : (val_main_v76 (F := Ideal) p w d : S8192x256.Idx → EReal) = res6 p w d := by
  funext i
  have h0 : (i 0).val < 8192 := (i 0).isLt
  have h1 : (i 1).val < 256 := (i 1).isLt
  unfold res6
  rw [← r74]
  pointwise [val_main_v76]

theorem refOut2 : (val_main_v77 (F := Ideal) p w d : S8192x256.Idx → EReal) = res7 p w d := by
  funext i
  have h0 : (i 0).val < 8192 := (i 0).isLt
  have h1 : (i 1).val < 256 := (i 1).isLt
  unfold res7
  rw [← r73]
  pointwise [val_main_v77]

theorem r79 (k : Fin 8) (l : Fin 256) :
    (val_main_v79 (F := Ideal) p d : S8x256.Idx → EReal) (ix2 k l) = g8 p d k l := by
  pointwise [val_main_v79, val_main_v78, val_main_v67, val_main_v66, val_main_v56, val_main_v46, val_main_v55, val_main_v65, val_main_v64, val_main_v61, val_main_v60,
    val_main_v45, val_main_v44, val_main_v41, val_main_v40, val_main_v54, val_main_v53, val_main_v50, val_main_v49, sum_lead2]
  have z2 : ∀ i, (val_main_cst_2 (F := Ideal) : S_.Idx → EReal) i = 0 := fun i => by pointwise [val_main_cst_2]
  have z3 : ∀ i, (val_main_cst_3 (F := Ideal) : S_.Idx → EReal) i = 0 := fun i => by pointwise [val_main_cst_3]
  have z4 : ∀ i, (val_main_cst_4 (F := Ideal) : S_.Idx → EReal) i = 0 := fun i => by pointwise [val_main_cst_4]
  have z6 : ∀ i, (val_main_cst_6 (F := Ideal) : S_.Idx → EReal) i = 0 := fun i => by pointwise [val_main_cst_6]
  have z7 : ∀ i, (val_main_cst_7 (F := Ideal) : S_.Idx → EReal) i = 0 := fun i => by pointwise [val_main_cst_7]
  have z8 : ∀ i, (val_main_cst_8 (F := Ideal) : S_.Idx → EReal) i = 0 := fun i => by pointwise [val_main_cst_8]
  have z10 : ∀ i, (val_main_cst_10 (F := Ideal) : S_.Idx → EReal) i = 0 := fun i => by pointwise [val_main_cst_10]
  have z11 : ∀ i, (val_main_cst_11 (F := Ideal) : S_.Idx → EReal) i = 0 := fun i => by pointwise [val_main_cst_11]
  have z12 : ∀ i, (val_main_cst_12 (F := Ideal) : S_.Idx → EReal) i = 0 := fun i => by pointwise [val_main_cst_12]
  have z14 : ∀ i, (val_main_cst_14 (F := Ideal) : S_.Idx → EReal) i = 0 := fun i => by pointwise [val_main_cst_14]
  simp only [z2, z3, z4, z6, z7, z8, z10, z11, z12, z14, zero_add, Finset.univ_unique, Finset.sum_const, Finset.card_singleton, one_smul]
  have w2 : ∑ a : Fin 4, ∑ r : Fin 2048, (val_main_v39 (F := Ideal) p d : S4x2048x256.Idx → EReal) (ix3 a r l)
      = ∑ a : Fin 4, ∑ r : Fin 2048, tileD d a (ix2 r l) * tileP p 768 (by omega) a (ix2 r l)
        * nxt (tmul (tileP p 1024 (by omega) a) (tileP p 1280 (by omega) a)) r l :=
    Finset.sum_congr rfl fun a _ => Finset.sum_congr rfl fun r _ => by
      rw [val_main_v39_apply, r37, r29]; exact mul_comm _ _
  have w1 : ∑ a : Fin 4, ∑ r : Fin 2048, (val_main_v48 (F := Ideal) p d : S4x2048x256.Idx → EReal) (ix3 a r l)
      = ∑ a : Fin 4, ∑ r : Fin 2048, tileD d a (ix2 r l) * tileP p 768 (by omega) a (ix2 r l)
        * (tileP p 1024 (by omega) a (ix2 r l) * tileP p 1280 (by omega) a (ix2 r l)) :=
    Finset.sum_congr rfl fun a _ => Finset.sum_congr rfl fun r _ => by
      rw [val_main_v48_apply, r37, r22]; exact mul_comm _ _
  have w0 : ∑ a : Fin 4, ∑ r : Fin 2048, (val_main_v59 (F := Ideal) p d : S4x2048x256.Idx → EReal) (ix3 a r l)
      = ∑ a : Fin 4, ∑ r : Fin 2048, tileD d a (ix2 r l) * tileP p 768 (by omega) a (ix2 r l)
        * prv (tmul (tileP p 1024 (by omega) a) (tileP p 1280 (by omega) a)) r l :=
    Finset.sum_congr rfl fun a _ => Finset.sum_congr rfl fun r _ => by
      rw [val_main_v59_apply, r37, r16]; exact mul_comm _ _
  unfold g8 fW
  by_cases k2 : k.val = 2
  · simp only [k2, Nat.reduceLT, Nat.reduceLeDiff, Nat.reduceSub, and_self, and_false, ↓reduceDIte, ↓reduceIte, add_zero, zero_add, Nat.reduceEqDiff]
    exact w2
  by_cases k1 : k.val = 1
  · simp only [k1, Nat.reduceLT, Nat.reduceLeDiff, Nat.reduceSub, and_self, and_false, false_and, ↓reduceDIte, ↓reduceIte, add_zero, zero_add, Nat.reduceEqDiff, lt_self_iff_false]
    exact w1
  by_cases k0 : k.val = 0
  · simp only [k0, Nat.reduceLT, Nat.reduceLeDiff, Nat.reduceSub, and_self, and_false, false_and, ↓reduceDIte, ↓reduceIte, add_zero, zero_add, Nat.reduceEqDiff]
    exact w0
  rw [dif_neg (by omega)]
  simp only [if_neg k2, if_neg k1, if_neg k0, Finset.sum_const_zero]

theorem refOut3 : (val_main_v79 (F := Ideal) p d : S8x256.Idx → EReal) = res8 p d := by
  funext i
  have h0 : (i 0).val < 8 := (i 0).isLt
  have h1 : (i 1).val < 256 := (i 1).isLt
  unfold res8
  rw [← r79]
  exact congrArg _ (eq_ix2 i)

end Cert.Conv
-- ==== Proof.ConvTie.lean ====
module

public import proofs.«01_k».proof.Defs
public import proofs.«01_k».proof.Proof.ConvRef

@[expose] public section

set_option maxRecDepth 16384

noncomputable section

open Idealize.ShloMosaic Idealize.ShloMosaic.TcCoe Idealize.SL.Sem

namespace Cert.Conv

/-- The gradient of the gated convolution: the launch and the three lines' gradient leave the same arrays. -/
theorem tie : Cert.algebraic_KernelIdeal_ReferenceIdeal (hKernelIdeal := Cert.KernelIdeal.Gen.facts)
    (hReferenceIdeal := Cert.ReferenceIdeal.Gen.facts) := by
  intro m g m' g' _ hagree
  refine ⟨fun c => res5 (argP m c) (argW m c) (argD m c), fun c => res6 (argP m c) (argW m c) (argD m c),
    fun c => res7 (argP m c) (argW m c) (argD m c), fun c => res8 (argP m c) (argD m c), ?_, ?_⟩
  · refine (θ_run _ _ _).mono (fun r h c => ?_) (Cert.KernelIdeal.Value.run_blocks (F := Ideal) m g)
    obtain ⟨h5, h6, h7, h8, h0, h1, h2⟩ := h c
    exact ⟨h5.trans (arr5 m c), h6.trans (arr6 m c), h7.trans (arr7 m c), h8.trans (arr8 m c), h0, h1, h2⟩
  · refine (θ_run _ _ _).mono (fun r h c => ?_) (Cert.ReferenceIdeal.Value.run (F := Ideal) m' g')
    obtain ⟨h5, h6, h7, h8, h0, h1, h2⟩ := h c
    obtain ⟨a0, a1, a2⟩ := hagree c
    refine ⟨h5.trans ?_, h6.trans ?_, h7.trans ?_, h8.trans ?_, h0, h1, h2⟩
    · rw [Cert.ReferenceIdeal.Read.val_main_v75_eq, a0, a1, a2]
      exact refOut0 _ _ _
    · rw [a0, a1, a2]
      exact refOut1 _ _ _
    · rw [a0, a1, a2]
      exact refOut2 _ _ _
    · rw [Cert.ReferenceIdeal.Read.val_main_v79_eq, a0, a2]
      exact refOut3 _ _

end Cert.Conv
-- ==== Proof.ProdSum.lean ====
module

public import Idealize.ShloMosaic.Lib.Pointwise
public import Idealize.ShloMosaic.Lib.Pipeline.Value
public import Idealize.ShloMosaic.Lib.Pipeline.ValueKit
public import Idealize.ShloMosaic.Lib.Tactic

@[expose] public section

noncomputable section

open Idealize.ShloMosaic

/-! What the products share: a block stored whole, two indices equal by their coordinates, and a contraction walked in blocks. -/

namespace Cert.Prod

theorem hz : (![0, 0] : Fin 2 → Nat) = fun _ => 0 := funext fun a => by fin_cases a <;> rfl

theorem ix2_ext {p q : ℕ} {r r' : Fin p} {l l' : Fin q} (h0 : r.val = r'.val) (h1 : l.val = l'.val) : ix2 r l = ix2 r' l' := by
  rw [Fin.ext h0, Fin.ext h1]

/-- A sum over blocks and their lanes is the sum over the whole axis. -/
theorem sum_blocks {J n K : ℕ} (hK : K = J * n) (f : Fin J → Fin n → EReal) (g : Fin K → EReal)
    (h : ∀ (s : Fin J) (k : Fin n), f s k = g ⟨s.val * n + k.val, by
      have h1 := s.isLt; have h2 := k.isLt; rw [hK]
      calc s.val * n + k.val < s.val * n + n := by omega
        _ = (s.val + 1) * n := by ring
        _ ≤ J * n := Nat.mul_le_mul_right _ h1⟩) :
    ∑ s : Fin J, ∑ k : Fin n, f s k = ∑ l : Fin K, g l := by
  subst hK
  rw [← Fintype.sum_prod_type' f]
  refine Fintype.sum_equiv finProdFinEquiv _ _ fun p => ?_
  rw [h]
  refine congrArg g (Fin.ext ?_)
  show p.1.val * n + p.2.val = p.2.val + n * p.1.val
  ring

end Cert.Prod
-- ==== Proof.Prod2.lean ====
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.ProdSum

@[expose] public section

set_option maxRecDepth 16384

noncomputable section

open Idealize.ShloMosaic Idealize.ShloMosaic.TcCoe Idealize.SL.Sem
open Idealize.ShloMosaic.Pipeline (Dat)

/-! Program 2: the gradient through the second product and the squared activation, 9216 × 1024 × 4096 in blocks of 1024 × 1024 × 1024. -/

namespace Cert.Prod2

open Cert.Kernel2Ideal Cert.Kernel2Ideal.Gen
open Cert.Reference2Ideal.Read

/-- The product of the two operands, at a row and a column. -/
def prod (a : S9216x1024.Idx → EReal) (b : S4096x1024.Idx → EReal) (r : Fin 9216) (l : Fin 4096) : EReal :=
  ∑ k : Fin 1024, a (ix2 r k) * b (ix2 l k)

/-- One block's share of it. -/
def part (x0 : S1024x1024.Idx → EReal) (x1 : S1024x1024.Idx → EReal) (r : Fin 1024) (l : Fin 1024) : EReal :=
  ∑ k : Fin 1024, x0 (ix2 r k) * x1 (ix2 l k)

/-- The gradient through the squared activation. -/
def dsq (p z : EReal) : EReal := p * (Ideal.ofBits .f32 0x40000000#32 * max z 0)

theorem idx0 : ∀ t : Fin grid0.N, win0_0.index t = ![t.val / 4, 0] ∧ win0_1.index t = ![t.val % 4, 0] ∧ win0_2.index t = ![t.val / 4, t.val % 4] ∧ win0_3.index t = ![t.val / 4, t.val % 4] := by
  decide +kernel

theorem hN : cfg0.N = 36 := N_0

theorem out_3 (x0 : S1024x1024.Idx → EReal) (x1 : S1024x1024.Idx → EReal) (x2 : S1024x1024.Idx → EReal) (r : Fin 1024) (l : Fin 1024) :
    out0_3 (F := Ideal) x0 x1 x2 (ix2 r l) = dsq (part x0 x1 r l) (x2 (ix2 r l)) := by
  unfold out0_3 r0_0
  rw [View.canon_unit_zero Cert.Prod.hz]
  simp only [View.ld_unit_zero (S := S1024x1024) Cert.Prod.hz, View.ld_unit_zero (S := S1024x1024) Cert.Prod.hz, View.ld_unit_zero (S := S1024x1024) Cert.Prod.hz]
  unfold_payloads
  pointwise [part, dsq]

variable (m : (ℓ : Loc nD τ sig) → Buf (Elt Ideal) ℓ)

/-- The arguments, as arrays. -/
abbrev argA (c : Dev nD) : S9216x1024.Idx → EReal := m ((c : Thread nD τ).loc main_arg0)
abbrev argB (c : Dev nD) : S4096x1024.Idx → EReal := m ((c : Thread nD τ).loc main_arg1)
abbrev argZ (c : Dev nD) : S9216x4096.Idx → EReal := m ((c : Thread nD τ).loc main_arg2)

theorem inA (c : Dev nD) (t : Fin cfg0.N) (r : Fin 1024) (k : Fin 1024) :
    (iblk m c 0 t : S1024x1024.Idx → EReal) (ix2 r k) = argA m c (ix2 ⟨1024 * (t.val / 4) + r.val, by have := t.isLt; have := hN; omega⟩ k) := by
  have h := idx0 t
  unfold argA
  blk_ext [iblk, V, h.1]

theorem inB (c : Dev nD) (t : Fin cfg0.N) (l : Fin 1024) (k : Fin 1024) :
    (iblk m c 1 t : S1024x1024.Idx → EReal) (ix2 l k) = argB m c (ix2 ⟨1024 * (t.val % 4) + l.val, by have := t.isLt; have := hN; omega⟩ k) := by
  have h := idx0 t
  unfold argB
  blk_ext [iblk, V, h.2.1]

theorem inZ (c : Dev nD) (t : Fin cfg0.N) (r : Fin 1024) (l : Fin 1024) :
    (iblk m c 2 t : S1024x1024.Idx → EReal) (ix2 r l) = argZ m c (ix2 ⟨1024 * (t.val / 4) + r.val, by have := t.isLt; have := hN; omega⟩ ⟨1024 * (t.val % 4) + l.val, by have := t.isLt; have := hN; omega⟩) := by
  have h := idx0 t
  unfold argZ
  blk_ext [iblk, V, h.2.2.1]

theorem part_eq (c : Dev nD) (t : Fin cfg0.N) (r : Fin 1024) (l : Fin 1024) :
    part (iblk m c 0 t) (iblk m c 1 t) r l = prod (argA m c) (argB m c) ⟨1024 * (t.val / 4) + r.val, by have := t.isLt; have := hN; omega⟩ ⟨1024 * (t.val % 4) + l.val, by have := t.isLt; have := hN; omega⟩ := by
  unfold part prod
  exact Finset.sum_congr rfl fun k _ => congrArg₂ (· * ·) (inA m c t r k) (inB m c t l k)

/-- What the launch leaves. -/
def res (a : S9216x1024.Idx → EReal) (b : S4096x1024.Idx → EReal) (z : S9216x4096.Idx → EReal) : S9216x4096.Idx → EReal := fun i => dsq (prod a b (i 0) (i 1)) (z (ix2 (i 0) (i 1)))

theorem arr_res (c : Dev nD) : (dats m 0 c).arrAt 3 cfg0.N = res (argA m c) (argB m c) (argZ m c) := by
  refine (dats m 0 c).arrAt_eq_of_covers 3 _ (by decide +kernel) fun t hf y => ?_
  blk_simp
  rw [after0_3]
  have h := idx0 t
  have hy0 : (y 0).val < 1024 := (y 0).isLt
  have hy1 : (y 1).val < 1024 := (y 1).isLt
  have hy : (y : S1024x1024.Idx) = ix2 ⟨(y 0).val, hy0⟩ ⟨(y 1).val, hy1⟩ := by funext a; match a with | ⟨0, _⟩ => rfl | ⟨1, _⟩ => rfl
  have e0 : (((win0_3.blk t).view.emb y) 0 : ℕ) = 1024 * (t.val / 4) + (y 0).val := by blk_simp [h.2.2.2]; try omega
  have e1 : (((win0_3.blk t).view.emb y) 1 : ℕ) = 1024 * (t.val % 4) + (y 1).val := by blk_simp [h.2.2.2]; try omega
  refine (congrArg (out0_3 (iblk m c 0 t) (iblk m c 1 t) (iblk m c 2 t)) hy).trans ((out_3 _ _ _ _ _).trans ?_)
  rw [part_eq, inZ]
  unfold res
  exact congrArg₂ dsq (congrArg₂ (prod _ _) (Fin.ext e0.symm) (Fin.ext e1.symm)) (congrArg (argZ m c) (Cert.Prod.ix2_ext e0.symm e1.symm))

/-- The reference's array is the same one. -/
theorem ref_res (a : S9216x1024.Idx → EReal) (b : S4096x1024.Idx → EReal) (z : S9216x4096.Idx → EReal) :
    val_main_v15 (F := Ideal) a b z = res a b z := by
  funext i
  rw [eq_ix2 i]
  pointwise [val_main_v0, val_main_call0_cst, val_main_call0_v0, val_main_v1, val_main_cst, val_main_v2, val_main_v3, val_main_cst_0, val_main_v4, val_main_v5, val_main_cst_1, val_main_v6, val_main_v7, val_main_v8, val_main_v9, val_main_v10, val_main_v11, val_main_v12, val_main_cst_2, val_main_v13, val_main_v14, val_main_v15, res, prod, dsq]
  split_ifs with h
  · rfl
  · rw [max_eq_right (not_lt.mp h), mul_zero, mul_zero]

/-- The launch and the reference leave the same array. -/
theorem tie : Cert.algebraic_Kernel2Ideal_Reference2Ideal (hKernel2Ideal := Cert.Kernel2Ideal.Gen.facts)
    (hReference2Ideal := Cert.Reference2Ideal.Gen.facts) := by
  intro m g m' g' _ hagree
  refine ⟨fun c => res (argA m c) (argB m c) (argZ m c), ?_, ?_⟩
  · refine (θ_run _ _ _).mono (fun r h c => ?_) (Cert.Kernel2Ideal.Value.run_blocks (F := Ideal) m g)
    obtain ⟨h0, k0, k1, k2⟩ := h c
    exact ⟨h0.trans (arr_res m c), k0, k1, k2⟩
  · refine (θ_run _ _ _).mono (fun r h c => ?_) (Cert.Reference2Ideal.Value.run (F := Ideal) m' g')
    obtain ⟨h0, k0, k1, k2⟩ := h c
    obtain ⟨a0, a1, a2⟩ := hagree c
    refine ⟨h0.trans ?_, k0, k1, k2⟩
    · rw [val_main_v15_eq, a0, a1, a2]
      exact ref_res _ _ _

end Cert.Prod2
-- ==== Proof.Prod3.lean ====
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.ProdSum

@[expose] public section

set_option maxRecDepth 16384

noncomputable section

open Idealize.ShloMosaic Idealize.ShloMosaic.TcCoe Idealize.SL.Sem
open Idealize.ShloMosaic.Pipeline (Dat)

/-! Program 3: the gradient in the operand of a product by a transposed weight, 9216 × 4096 × 1024 in blocks of 1024 × 2048 × 1024. -/

namespace Cert.Prod3

open Cert.Kernel3Ideal Cert.Kernel3Ideal.Gen
open Cert.Reference3Ideal.Read

/-- The product of the two operands, at a row and a column. -/
def prod (a : S9216x4096.Idx → EReal) (b : S4096x1024.Idx → EReal) (r : Fin 9216) (l : Fin 1024) : EReal :=
  ∑ k : Fin 4096, a (ix2 r k) * b (ix2 k l)

/-- One block's share of it. -/
def part (x0 : S1024x2048.Idx → EReal) (x1 : S2048x1024.Idx → EReal) (r : Fin 1024) (l : Fin 1024) : EReal :=
  ∑ k : Fin 2048, x0 (ix2 r k) * x1 (ix2 k l)

theorem idx0 : ∀ t : Fin grid0.N, win0_0.index t = ![t.val / 2, t.val % 2] ∧ win0_1.index t = ![t.val % 2, 0] ∧ win0_2.index t = ![t.val / 2, 0] := by
  decide +kernel

theorem hN : cfg0.N = 18 := N_0

variable (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole)
  (x0 : Vec Ideal S1024x2048 .bf16) (x1 : Vec Ideal S2048x1024 .bf16)

theorem out_A (hc0 : cond0_0 i) (hc1 : ¬cond0_1 i) (r : Fin 1024) (l : Fin 1024) :
    out0_A_2 c i arg3 harg3 arg4 harg4 arg5 harg5 hc0 hc1 x0 x1 (ix2 r l) = 0 + part x0 x1 r l := by
  unfold out0_A_2
  rw [View.read_writes_eq_canon _ _ _ (fun y => cover0_A_2 (y := y) ..)]
  unfold kernelRun0_A
  dsimp only
  sl_unfold_words
  rw [View.canon_unit_zero Cert.Prod.hz]
  simp only [View.readAt_eq_ld, harg3.read_unread, harg4.read_unread, harg5.read_unread, View.ld_unit_zero (S := S1024x2048) Cert.Prod.hz, View.ld_unit_zero (S := S2048x1024) Cert.Prod.hz, View.ld_unit_zero (S := S1024x1024) Cert.Prod.hz]
  unfold_payloads
  pointwise [part]

theorem out_B (hc0 : ¬cond0_0 i) (hc1 : cond0_1 i) (xo : Vec Ideal S1024x1024 .f32) (r : Fin 1024) (l : Fin 1024) :
    out0_B_2 c i arg3 harg3 arg4 harg4 arg5 harg5 hc0 hc1 x0 x1 xo (ix2 r l) = xo (ix2 r l) + part x0 x1 r l := by
  unfold out0_B_2
  rw [View.read_writes_eq_canon _ _ _ (fun y => cover0_B_2 (y := y) ..)]
  unfold kernelRun0_B
  dsimp only
  sl_unfold_words
  rw [View.canon_unit_zero Cert.Prod.hz]
  simp only [View.readAt_eq_ld, harg3.read_unread, harg4.read_unread, harg5.read_unread, View.ld_unit_zero (S := S1024x2048) Cert.Prod.hz, View.ld_unit_zero (S := S2048x1024) Cert.Prod.hz, View.ld_unit_zero (S := S1024x1024) Cert.Prod.hz]
  unfold_payloads
  pointwise [part]

variable (m : (ℓ : Loc nD τ sig) → Buf (Elt Ideal) ℓ)

/-- The arguments, as arrays. -/
abbrev argA (c : Dev nD) : S9216x4096.Idx → EReal := m ((c : Thread nD τ).loc main_arg0)
abbrev argB (c : Dev nD) : S4096x1024.Idx → EReal := m ((c : Thread nD τ).loc main_arg1)

theorem inA (c : Dev nD) (t : Fin cfg0.N) (r : Fin 1024) (k : Fin 2048) :
    (iblk m c 0 t : S1024x2048.Idx → EReal) (ix2 r k) = argA m c (ix2 ⟨1024 * (t.val / 2) + r.val, by have := t.isLt; have := hN; omega⟩ ⟨2048 * (t.val % 2) + k.val, by have := t.isLt; have := hN; omega⟩) := by
  have h := idx0 t
  unfold argA
  blk_ext [iblk, V, h.1]

theorem inB (c : Dev nD) (t : Fin cfg0.N) (k : Fin 2048) (l : Fin 1024) :
    (iblk m c 1 t : S2048x1024.Idx → EReal) (ix2 k l) = argB m c (ix2 ⟨2048 * (t.val % 2) + k.val, by have := t.isLt; have := hN; omega⟩ l) := by
  have h := idx0 t
  unfold argB
  blk_ext [iblk, V, h.2.1]

theorem after2 (c : Dev nD) (t : Fin cfg0.N) (hf : (cfg0.win 2).flush t = true) (r : Fin 1024) (l : Fin 1024) :
    outsAt0 m c t.val t.isLt (ix2 r l) = prod (argA m c) (argB m c) ⟨1024 * (t.val / 2) + r.val, by have := t.isLt; have := hN; omega⟩ l := by
  have hr : t.val % 2 = 1 := (flush0_2 t).mp hf
  rw [Pipeline.eq_sum_fin_of_reset_step_apply_of_flush (fun n h => outsAt0 m c n h) 2 (fun _ => 0)
    (fun s y => part (iblk m c 0 s) (iblk m c 1 s) (y 0) (y 1))
    (fun t h j => by
      rw [outsAt0_A m c t h (by have := t.isLt; have := hN; omega), eq_ix2 j]
      exact out_A ..)
    (fun t h j => by
      rw [outsAt0_B m c t h (by have := t.isLt; have := hN; omega), eq_ix2 j]
      exact out_B ..) t hr (ix2 r l), zero_add]
  unfold prod part
  refine Cert.Prod.sum_blocks (by norm_num) _ _ fun s k => ?_
  show @HMul.hMul EReal EReal EReal _ (iblk m c 0 _ (ix2 r k)) (iblk m c 1 _ (ix2 k l)) = _
  refine congrArg₂ (· * ·) ((inA m c _ _ _).trans ?_) ((inB m c _ _ _).trans ?_)
  · refine congrArg (argA m c) (Cert.Prod.ix2_ext ?_ ?_) <;> (try dsimp only) <;> have := t.isLt <;> have := hN <;> have := s.isLt <;> omega
  · refine congrArg (argB m c) (Cert.Prod.ix2_ext ?_ ?_) <;> (try dsimp only) <;> have := t.isLt <;> have := hN <;> have := s.isLt <;> omega

/-- What the launch leaves. -/
def res (a : S9216x4096.Idx → EReal) (b : S4096x1024.Idx → EReal) : S9216x1024.Idx → EReal := fun i => prod a b (i 0) (i 1)

theorem arr_res (c : Dev nD) : (dats m 0 c).arrAt 2 cfg0.N = res (argA m c) (argB m c) := by
  refine (dats m 0 c).arrAt_eq_of_covers 2 _ (by decide +kernel) fun t hf y => ?_
  blk_simp
  rw [after0_2]
  have h := idx0 t
  have e0 : (((win0_2.blk t).view.emb y) 0 : ℕ) = 1024 * (t.val / 2) + (y 0).val := by blk_simp [h.2.2]; try omega
  have e1 : (((win0_2.blk t).view.emb y) 1 : ℕ) = (y 1).val := by blk_simp [h.2.2]; try omega
  refine (congrArg (outsAt0 m c t.val t.isLt) (eq_ix2 y)).trans ((after2 m c t hf _ _).trans ?_)
  unfold res
  exact congrArg₂ (prod _ _) (Fin.ext e0.symm) (Fin.ext e1.symm)

/-- The reference's array is the same one. -/
theorem ref_res (a : S9216x4096.Idx → EReal) (b : S4096x1024.Idx → EReal) :
    val_main_v5 (F := Ideal) a b = res a b := by
  funext i
  rw [eq_ix2 i]
  pointwise [val_main_cst, val_main_v0, val_main_v1, val_main_v2, val_main_v3, val_main_v4, val_main_v5, res, prod]

/-- The launch and the reference leave the same array. -/
theorem tie : Cert.algebraic_Kernel3Ideal_Reference3Ideal (hKernel3Ideal := Cert.Kernel3Ideal.Gen.facts)
    (hReference3Ideal := Cert.Reference3Ideal.Gen.facts) := by
  intro m g m' g' _ hagree
  refine ⟨fun c => res (argA m c) (argB m c), ?_, ?_⟩
  · refine (θ_run _ _ _).mono (fun r h c => ?_) (Cert.Kernel3Ideal.Value.run_blocks (F := Ideal) m g)
    obtain ⟨h0, k0, k1⟩ := h c
    exact ⟨h0.trans (arr_res m c), k0, k1⟩
  · refine (θ_run _ _ _).mono (fun r h c => ?_) (Cert.Reference3Ideal.Value.run (F := Ideal) m' g')
    obtain ⟨h0, k0, k1⟩ := h c
    obtain ⟨a0, a1⟩ := hagree c
    refine ⟨h0.trans ?_, k0, k1⟩
    · rw [val_main_v5_eq, a0, a1]
      exact ref_res _ _

end Cert.Prod3
-- ==== Proof.Prod4.lean ====
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.ProdSum

@[expose] public section

set_option maxRecDepth 16384

noncomputable section

open Idealize.ShloMosaic Idealize.ShloMosaic.TcCoe Idealize.SL.Sem
open Idealize.ShloMosaic.Pipeline (Dat)

/-! Program 4: a product's gradient in its weight, 4096 × 9216 × 1024 in blocks of 1024 × 1024 × 1024. -/

namespace Cert.Prod4

open Cert.Kernel4Ideal Cert.Kernel4Ideal.Gen
open Cert.Reference4Ideal.Read

/-- The product of the two operands, at a row and a column. -/
def prod (a : S9216x4096.Idx → EReal) (b : S9216x1024.Idx → EReal) (r : Fin 4096) (l : Fin 1024) : EReal :=
  ∑ k : Fin 9216, a (ix2 k r) * b (ix2 k l)

/-- One block's share of it. -/
def part (x0 : S1024x1024.Idx → EReal) (x1 : S1024x1024.Idx → EReal) (r : Fin 1024) (l : Fin 1024) : EReal :=
  ∑ k : Fin 1024, x0 (ix2 k r) * x1 (ix2 k l)

theorem idx0 : ∀ t : Fin grid0.N, win0_0.index t = ![t.val % 9, t.val / 9] ∧ win0_1.index t = ![t.val % 9, 0] ∧ win0_2.index t = ![t.val / 9, 0] := by
  decide +kernel

theorem hN : cfg0.N = 36 := N_0

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole)
  (x0 : Vec Ideal S1024x1024 .bf16) (x1 : Vec Ideal S1024x1024 .bf16)

theorem out_A (hc0 : cond0_0 i) (hc1 : ¬cond0_1 i) (r : Fin 1024) (l : Fin 1024) :
    out0_A_2 c i arg3 harg3 arg4 harg4 arg5 harg5 hc0 hc1 x0 x1 (ix2 r l) = 0 + part x0 x1 r l := by
  unfold out0_A_2
  rw [View.read_writes_eq_canon _ _ _ (fun y => cover0_A_2 (y := y) ..)]
  unfold kernelRun0_A
  dsimp only
  sl_unfold_words
  rw [View.canon_unit_zero Cert.Prod.hz]
  simp only [View.readAt_eq_ld, harg3.read_unread, harg4.read_unread, harg5.read_unread, View.ld_unit_zero (S := S1024x1024) Cert.Prod.hz]
  unfold_payloads
  pointwise [part]

theorem out_B (hc0 : ¬cond0_0 i) (hc1 : cond0_1 i) (xo : Vec Ideal S1024x1024 .f32) (r : Fin 1024) (l : Fin 1024) :
    out0_B_2 c i arg3 harg3 arg4 harg4 arg5 harg5 hc0 hc1 x0 x1 xo (ix2 r l) = xo (ix2 r l) + part x0 x1 r l := by
  unfold out0_B_2
  rw [View.read_writes_eq_canon _ _ _ (fun y => cover0_B_2 (y := y) ..)]
  unfold kernelRun0_B
  dsimp only
  sl_unfold_words
  rw [View.canon_unit_zero Cert.Prod.hz]
  simp only [View.readAt_eq_ld, harg3.read_unread, harg4.read_unread, harg5.read_unread, View.ld_unit_zero (S := S1024x1024) Cert.Prod.hz]
  unfold_payloads
  pointwise [part]

variable (m : (ℓ : Loc nD τ sig) → Buf (Elt Ideal) ℓ)

/-- The arguments, as arrays. -/
abbrev argA (c : Dev nD) : S9216x4096.Idx → EReal := m ((c : Thread nD τ).loc main_arg0)
abbrev argB (c : Dev nD) : S9216x1024.Idx → EReal := m ((c : Thread nD τ).loc main_arg1)

theorem inA (c : Dev nD) (t : Fin cfg0.N) (k : Fin 1024) (r : Fin 1024) :
    (iblk m c 0 t : S1024x1024.Idx → EReal) (ix2 k r) = argA m c (ix2 ⟨1024 * (t.val % 9) + k.val, by have := t.isLt; have := hN; omega⟩ ⟨1024 * (t.val / 9) + r.val, by have := t.isLt; have := hN; omega⟩) := by
  have h := idx0 t
  unfold argA
  blk_ext [iblk, V, h.1]

theorem inB (c : Dev nD) (t : Fin cfg0.N) (k : Fin 1024) (l : Fin 1024) :
    (iblk m c 1 t : S1024x1024.Idx → EReal) (ix2 k l) = argB m c (ix2 ⟨1024 * (t.val % 9) + k.val, by have := t.isLt; have := hN; omega⟩ l) := by
  have h := idx0 t
  unfold argB
  blk_ext [iblk, V, h.2.1]

theorem after2 (c : Dev nD) (t : Fin cfg0.N) (hf : (cfg0.win 2).flush t = true) (r : Fin 1024) (l : Fin 1024) :
    outsAt0 m c t.val t.isLt (ix2 r l) = prod (argA m c) (argB m c) ⟨1024 * (t.val / 9) + r.val, by have := t.isLt; have := hN; omega⟩ l := by
  have hr : t.val % 9 = 8 := (flush0_2 t).mp hf
  rw [Pipeline.eq_sum_fin_of_reset_step_apply_of_flush (fun n h => outsAt0 m c n h) 9 (fun _ => 0)
    (fun s y => part (iblk m c 0 s) (iblk m c 1 s) (y 0) (y 1))
    (fun t h j => by
      rw [outsAt0_A m c t h (by have := t.isLt; have := hN; omega), eq_ix2 j]
      exact out_A ..)
    (fun t h j => by
      rw [outsAt0_B m c t h (by have := t.isLt; have := hN; omega), eq_ix2 j]
      exact out_B ..) t hr (ix2 r l), zero_add]
  unfold prod part
  refine Cert.Prod.sum_blocks (by norm_num) _ _ fun s k => ?_
  show @HMul.hMul EReal EReal EReal _ (iblk m c 0 _ (ix2 k r)) (iblk m c 1 _ (ix2 k l)) = _
  refine congrArg₂ (· * ·) ((inA m c _ _ _).trans ?_) ((inB m c _ _ _).trans ?_)
  · refine congrArg (argA m c) (Cert.Prod.ix2_ext ?_ ?_) <;> (try dsimp only) <;> have := t.isLt <;> have := hN <;> have := s.isLt <;> omega
  · refine congrArg (argB m c) (Cert.Prod.ix2_ext ?_ ?_) <;> (try dsimp only) <;> have := t.isLt <;> have := hN <;> have := s.isLt <;> omega

/-- What the launch leaves. -/
def res (a : S9216x4096.Idx → EReal) (b : S9216x1024.Idx → EReal) : S4096x1024.Idx → EReal := fun i => prod a b (i 0) (i 1)

theorem arr_res (c : Dev nD) : (dats m 0 c).arrAt 2 cfg0.N = res (argA m c) (argB m c) := by
  refine (dats m 0 c).arrAt_eq_of_covers 2 _ (by decide +kernel) fun t hf y => ?_
  blk_simp
  rw [after0_2]
  have h := idx0 t
  have e0 : (((win0_2.blk t).view.emb y) 0 : ℕ) = 1024 * (t.val / 9) + (y 0).val := by blk_simp [h.2.2]; try omega
  have e1 : (((win0_2.blk t).view.emb y) 1 : ℕ) = (y 1).val := by blk_simp [h.2.2]; try omega
  refine (congrArg (outsAt0 m c t.val t.isLt) (eq_ix2 y)).trans ((after2 m c t hf _ _).trans ?_)
  unfold res
  exact congrArg₂ (prod _ _) (Fin.ext e0.symm) (Fin.ext e1.symm)

/-- The reference's array is the same one. -/
theorem ref_res (a : S9216x4096.Idx → EReal) (b : S9216x1024.Idx → EReal) :
    val_main_v5 (F := Ideal) a b = res a b := by
  funext i
  rw [eq_ix2 i]
  pointwise [val_main_cst, val_main_v0, val_main_v1, val_main_v2, val_main_v3, val_main_v4, val_main_v5, res, prod]
  exact Finset.sum_congr rfl fun _ _ => mul_comm _ _

/-- The launch and the reference leave the same array. -/
theorem tie : Cert.algebraic_Kernel4Ideal_Reference4Ideal (hKernel4Ideal := Cert.Kernel4Ideal.Gen.facts)
    (hReference4Ideal := Cert.Reference4Ideal.Gen.facts) := by
  intro m g m' g' _ hagree
  refine ⟨fun c => res (argA m c) (argB m c), ?_, ?_⟩
  · refine (θ_run _ _ _).mono (fun r h c => ?_) (Cert.Kernel4Ideal.Value.run_blocks (F := Ideal) m g)
    obtain ⟨h0, k0, k1⟩ := h c
    exact ⟨h0.trans (arr_res m c), k0, k1⟩
  · refine (θ_run _ _ _).mono (fun r h c => ?_) (Cert.Reference4Ideal.Value.run (F := Ideal) m' g')
    obtain ⟨h0, k0, k1⟩ := h c
    obtain ⟨a0, a1⟩ := hagree c
    refine ⟨h0.trans ?_, k0, k1⟩
    · rw [val_main_v5_eq, a0, a1]
      exact ref_res _ _

end Cert.Prod4
-- ==== Proof.Prod5.lean ====
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.ProdSum

@[expose] public section

set_option maxRecDepth 16384

noncomputable section

open Idealize.ShloMosaic Idealize.ShloMosaic.TcCoe Idealize.SL.Sem
open Idealize.ShloMosaic.Pipeline (Dat)

/-! Program 5: the first product and its squared activation, 9216 × 1024 × 4096 in blocks of 1024 × 1024 × 1024. -/

namespace Cert.Prod5

open Cert.Kernel5Ideal Cert.Kernel5Ideal.Gen
open Cert.Reference5Ideal.Read

/-- The product of the two operands, at a row and a column. -/
def prod (a : S9216x1024.Idx → EReal) (b : S4096x1024.Idx → EReal) (r : Fin 9216) (l : Fin 4096) : EReal :=
  ∑ k : Fin 1024, a (ix2 r k) * b (ix2 l k)

/-- One block's share of it. -/
def part (x0 : S1024x1024.Idx → EReal) (x1 : S1024x1024.Idx → EReal) (r : Fin 1024) (l : Fin 1024) : EReal :=
  ∑ k : Fin 1024, x0 (ix2 r k) * x1 (ix2 l k)

theorem idx0 : ∀ t : Fin grid0.N, win0_0.index t = ![t.val / 4, 0] ∧ win0_1.index t = ![t.val % 4, 0] ∧ win0_2.index t = ![t.val / 4, t.val % 4] ∧ win0_3.index t = ![t.val / 4, t.val % 4] := by
  decide +kernel

theorem hN : cfg0.N = 36 := N_0

theorem out_2 (x0 : S1024x1024.Idx → EReal) (x1 : S1024x1024.Idx → EReal) (r : Fin 1024) (l : Fin 1024) :
    out0_2 (F := Ideal) x0 x1 (ix2 r l) = part x0 x1 r l := by
  unfold out0_2 r0_0
  rw [View.canon_unit_zero Cert.Prod.hz]
  simp only [View.ld_unit_zero (S := S1024x1024) Cert.Prod.hz]
  unfold_payloads
  pointwise [part]

theorem out_3 (x0 : S1024x1024.Idx → EReal) (x1 : S1024x1024.Idx → EReal) (r : Fin 1024) (l : Fin 1024) :
    out0_3 (F := Ideal) x0 x1 (ix2 r l) = max (part x0 x1 r l) 0 * max (part x0 x1 r l) 0 := by
  unfold out0_3 r0_0
  rw [View.canon_unit_zero Cert.Prod.hz]
  simp only [View.ld_unit_zero (S := S1024x1024) Cert.Prod.hz]
  unfold_payloads
  pointwise [part]

variable (m : (ℓ : Loc nD τ sig) → Buf (Elt Ideal) ℓ)

/-- The arguments, as arrays. -/
abbrev argA (c : Dev nD) : S9216x1024.Idx → EReal := m ((c : Thread nD τ).loc main_arg0)
abbrev argB (c : Dev nD) : S4096x1024.Idx → EReal := m ((c : Thread nD τ).loc main_arg1)

theorem inA (c : Dev nD) (t : Fin cfg0.N) (r : Fin 1024) (k : Fin 1024) :
    (iblk m c 0 t : S1024x1024.Idx → EReal) (ix2 r k) = argA m c (ix2 ⟨1024 * (t.val / 4) + r.val, by have := t.isLt; have := hN; omega⟩ k) := by
  have h := idx0 t
  unfold argA
  blk_ext [iblk, V, h.1]

theorem inB (c : Dev nD) (t : Fin cfg0.N) (l : Fin 1024) (k : Fin 1024) :
    (iblk m c 1 t : S1024x1024.Idx → EReal) (ix2 l k) = argB m c (ix2 ⟨1024 * (t.val % 4) + l.val, by have := t.isLt; have := hN; omega⟩ k) := by
  have h := idx0 t
  unfold argB
  blk_ext [iblk, V, h.2.1]

theorem part_eq (c : Dev nD) (t : Fin cfg0.N) (r : Fin 1024) (l : Fin 1024) :
    part (iblk m c 0 t) (iblk m c 1 t) r l = prod (argA m c) (argB m c) ⟨1024 * (t.val / 4) + r.val, by have := t.isLt; have := hN; omega⟩ ⟨1024 * (t.val % 4) + l.val, by have := t.isLt; have := hN; omega⟩ := by
  unfold part prod
  exact Finset.sum_congr rfl fun k _ => congrArg₂ (· * ·) (inA m c t r k) (inB m c t l k)

/-- What the launch leaves. -/
def res (a : S9216x1024.Idx → EReal) (b : S4096x1024.Idx → EReal) : S9216x4096.Idx → EReal := fun i => prod a b (i 0) (i 1)

theorem arr_res (c : Dev nD) : (dats m 0 c).arrAt 2 cfg0.N = res (argA m c) (argB m c) := by
  refine (dats m 0 c).arrAt_eq_of_covers 2 _ (by decide +kernel) fun t hf y => ?_
  blk_simp
  rw [after0_2]
  have h := idx0 t
  have hy0 : (y 0).val < 1024 := (y 0).isLt
  have hy1 : (y 1).val < 1024 := (y 1).isLt
  have hy : (y : S1024x1024.Idx) = ix2 ⟨(y 0).val, hy0⟩ ⟨(y 1).val, hy1⟩ := by funext a; match a with | ⟨0, _⟩ => rfl | ⟨1, _⟩ => rfl
  have e0 : (((win0_2.blk t).view.emb y) 0 : ℕ) = 1024 * (t.val / 4) + (y 0).val := by blk_simp [h.2.2.1]; try omega
  have e1 : (((win0_2.blk t).view.emb y) 1 : ℕ) = 1024 * (t.val % 4) + (y 1).val := by blk_simp [h.2.2.1]; try omega
  refine (congrArg (out0_2 (iblk m c 0 t) (iblk m c 1 t)) hy).trans ((out_2 _ _ _ _).trans ?_)
  rw [part_eq]
  unfold res
  exact congrArg₂ (prod _ _) (Fin.ext e0.symm) (Fin.ext e1.symm)

/-- What the launch leaves. -/
def res' (a : S9216x1024.Idx → EReal) (b : S4096x1024.Idx → EReal) : S9216x4096.Idx → EReal := fun i => max (prod a b (i 0) (i 1)) 0 * max (prod a b (i 0) (i 1)) 0

theorem arr_res' (c : Dev nD) : (dats m 0 c).arrAt 3 cfg0.N = res' (argA m c) (argB m c) := by
  refine (dats m 0 c).arrAt_eq_of_covers 3 _ (by decide +kernel) fun t hf y => ?_
  blk_simp
  rw [after0_3]
  have h := idx0 t
  have hy0 : (y 0).val < 1024 := (y 0).isLt
  have hy1 : (y 1).val < 1024 := (y 1).isLt
  have hy : (y : S1024x1024.Idx) = ix2 ⟨(y 0).val, hy0⟩ ⟨(y 1).val, hy1⟩ := by funext a; match a with | ⟨0, _⟩ => rfl | ⟨1, _⟩ => rfl
  have e0 : (((win0_3.blk t).view.emb y) 0 : ℕ) = 1024 * (t.val / 4) + (y 0).val := by blk_simp [h.2.2.2]; try omega
  have e1 : (((win0_3.blk t).view.emb y) 1 : ℕ) = 1024 * (t.val % 4) + (y 1).val := by blk_simp [h.2.2.2]; try omega
  refine (congrArg (out0_3 (iblk m c 0 t) (iblk m c 1 t)) hy).trans ((out_3 _ _ _ _).trans ?_)
  rw [part_eq]
  unfold res'
  exact congrArg (fun p => max p 0 * max p 0) (congrArg₂ (prod _ _) (Fin.ext e0.symm) (Fin.ext e1.symm))

/-- The reference's array is the same one. -/
theorem ref_res (a : S9216x1024.Idx → EReal) (b : S4096x1024.Idx → EReal) :
    val_main_v4 (F := Ideal) a b = res a b := by
  funext i
  rw [eq_ix2 i]
  pointwise [val_main_v0, val_main_v1, val_main_v2, val_main_v3, val_main_v4, val_main_call0_cst, val_main_call0_v0, val_main_v5, val_main_v6, val_main_v7, res, prod]

/-- The reference's array is the same one. -/
theorem ref_res' (a : S9216x1024.Idx → EReal) (b : S4096x1024.Idx → EReal) :
    val_main_v7 (F := Ideal) a b = res' a b := by
  funext i
  rw [eq_ix2 i]
  pointwise [val_main_v0, val_main_v1, val_main_v2, val_main_v3, val_main_v4, val_main_call0_cst, val_main_call0_v0, val_main_v5, val_main_v6, val_main_v7, res', prod]

/-- The launch and the reference leave the same arrays. -/
theorem tie : Cert.algebraic_Kernel5Ideal_Reference5Ideal (hKernel5Ideal := Cert.Kernel5Ideal.Gen.facts)
    (hReference5Ideal := Cert.Reference5Ideal.Gen.facts) := by
  intro m g m' g' _ hagree
  refine ⟨fun c => res (argA m c) (argB m c), fun c => res' (argA m c) (argB m c), ?_, ?_⟩
  · refine (θ_run _ _ _).mono (fun r h c => ?_) (Cert.Kernel5Ideal.Value.run_blocks (F := Ideal) m g)
    obtain ⟨h0, h1, k0, k1⟩ := h c
    exact ⟨h0.trans (arr_res m c), h1.trans (arr_res' m c), k0, k1⟩
  · refine (θ_run _ _ _).mono (fun r h c => ?_) (Cert.Reference5Ideal.Value.run (F := Ideal) m' g')
    obtain ⟨h0, h1, k0, k1⟩ := h c
    obtain ⟨a0, a1⟩ := hagree c
    refine ⟨h0.trans ?_, h1.trans ?_, k0, k1⟩
    · rw [val_main_v4_eq, a0, a1]
      exact ref_res _ _
    · rw [val_main_v7_eq, a0, a1]
      exact ref_res' _ _

end Cert.Prod5
-- ==== Proof.Prod6.lean ====
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.ProdSum

@[expose] public section

set_option maxRecDepth 16384

noncomputable section

open Idealize.ShloMosaic Idealize.ShloMosaic.TcCoe Idealize.SL.Sem
open Idealize.ShloMosaic.Pipeline (Dat)

/-! Program 6: a product's gradient in its operand, 9216 × 1024 × 1024 in blocks of 1024 × 1024 × 1024. -/

namespace Cert.Prod6

open Cert.Kernel6Ideal Cert.Kernel6Ideal.Gen
open Cert.Reference6Ideal.Read

/-- The product of the two operands, at a row and a column. -/
def prod (a : S9216x1024.Idx → EReal) (b : S1024x1024.Idx → EReal) (r : Fin 9216) (l : Fin 1024) : EReal :=
  ∑ k : Fin 1024, a (ix2 r k) * b (ix2 l k)

/-- One block's share of it. -/
def part (x0 : S1024x1024.Idx → EReal) (x1 : S1024x1024.Idx → EReal) (r : Fin 1024) (l : Fin 1024) : EReal :=
  ∑ k : Fin 1024, x0 (ix2 r k) * x1 (ix2 l k)

theorem idx0 : ∀ t : Fin grid0.N, win0_0.index t = ![t.val, 0] ∧ win0_1.index t = ![0, 0] ∧ win0_2.index t = ![t.val, 0] := by
  decide +kernel

theorem hN : cfg0.N = 9 := N_0

theorem out_2 (x0 : S1024x1024.Idx → EReal) (x1 : S1024x1024.Idx → EReal) (r : Fin 1024) (l : Fin 1024) :
    out0_2 (F := Ideal) x0 x1 (ix2 r l) = part x0 x1 r l := by
  unfold out0_2 r0_0
  rw [View.canon_unit_zero Cert.Prod.hz]
  simp only [View.ld_unit_zero (S := S1024x1024) Cert.Prod.hz]
  unfold_payloads
  pointwise [part]

variable (m : (ℓ : Loc nD τ sig) → Buf (Elt Ideal) ℓ)

/-- The arguments, as arrays. -/
abbrev argA (c : Dev nD) : S9216x1024.Idx → EReal := m ((c : Thread nD τ).loc main_arg0)
abbrev argB (c : Dev nD) : S1024x1024.Idx → EReal := m ((c : Thread nD τ).loc main_arg1)

theorem inA (c : Dev nD) (t : Fin cfg0.N) (r : Fin 1024) (k : Fin 1024) :
    (iblk m c 0 t : S1024x1024.Idx → EReal) (ix2 r k) = argA m c (ix2 ⟨1024 * (t.val) + r.val, by have := t.isLt; have := hN; omega⟩ k) := by
  have h := idx0 t
  unfold argA
  blk_ext [iblk, V, h.1]

theorem inB (c : Dev nD) (t : Fin cfg0.N) (l : Fin 1024) (k : Fin 1024) :
    (iblk m c 1 t : S1024x1024.Idx → EReal) (ix2 l k) = argB m c (ix2 l k) := by
  have h := idx0 t
  unfold argB
  blk_ext [iblk, V, h.2.1]

theorem part_eq (c : Dev nD) (t : Fin cfg0.N) (r : Fin 1024) (l : Fin 1024) :
    part (iblk m c 0 t) (iblk m c 1 t) r l = prod (argA m c) (argB m c) ⟨1024 * (t.val) + r.val, by have := t.isLt; have := hN; omega⟩ l := by
  unfold part prod
  exact Finset.sum_congr rfl fun k _ => congrArg₂ (· * ·) (inA m c t r k) (inB m c t l k)

/-- What the launch leaves. -/
def res (a : S9216x1024.Idx → EReal) (b : S1024x1024.Idx → EReal) : S9216x1024.Idx → EReal := fun i => prod a b (i 0) (i 1)

theorem arr_res (c : Dev nD) : (dats m 0 c).arrAt 2 cfg0.N = res (argA m c) (argB m c) := by
  refine (dats m 0 c).arrAt_eq_of_covers 2 _ (by decide +kernel) fun t hf y => ?_
  blk_simp
  rw [after0_2]
  have h := idx0 t
  have hy0 : (y 0).val < 1024 := (y 0).isLt
  have hy1 : (y 1).val < 1024 := (y 1).isLt
  have hy : (y : S1024x1024.Idx) = ix2 ⟨(y 0).val, hy0⟩ ⟨(y 1).val, hy1⟩ := by funext a; match a with | ⟨0, _⟩ => rfl | ⟨1, _⟩ => rfl
  have e0 : (((win0_2.blk t).view.emb y) 0 : ℕ) = 1024 * (t.val) + (y 0).val := by blk_simp [h.2.2]; try omega
  have e1 : (((win0_2.blk t).view.emb y) 1 : ℕ) = (y 1).val := by blk_simp [h.2.2]; try omega
  refine (congrArg (out0_2 (iblk m c 0 t) (iblk m c 1 t)) hy).trans ((out_2 _ _ _ _).trans ?_)
  rw [part_eq]
  unfold res
  exact congrArg₂ (prod _ _) (Fin.ext e0.symm) (Fin.ext e1.symm)

/-- The reference's array is the same one. -/
theorem ref_res (a : S9216x1024.Idx → EReal) (b : S1024x1024.Idx → EReal) :
    val_main_v4 (F := Ideal) a b = res a b := by
  funext i
  rw [eq_ix2 i]
  pointwise [val_main_cst, val_main_v0, val_main_v1, val_main_v2, val_main_v3, val_main_v4, res, prod]

/-- The launch and the reference leave the same array. -/
theorem tie : Cert.algebraic_Kernel6Ideal_Reference6Ideal (hKernel6Ideal := Cert.Kernel6Ideal.Gen.facts)
    (hReference6Ideal := Cert.Reference6Ideal.Gen.facts) := by
  intro m g m' g' _ hagree
  refine ⟨fun c => res (argA m c) (argB m c), ?_, ?_⟩
  · refine (θ_run _ _ _).mono (fun r h c => ?_) (Cert.Kernel6Ideal.Value.run_blocks (F := Ideal) m g)
    obtain ⟨h0, k0, k1⟩ := h c
    exact ⟨h0.trans (arr_res m c), k0, k1⟩
  · refine (θ_run _ _ _).mono (fun r h c => ?_) (Cert.Reference6Ideal.Value.run (F := Ideal) m' g')
    obtain ⟨h0, k0, k1⟩ := h c
    obtain ⟨a0, a1⟩ := hagree c
    refine ⟨h0.trans ?_, k0, k1⟩
    · rw [val_main_v4_eq, a0, a1]
      exact ref_res _ _

end Cert.Prod6
-- ==== Proof.Prod7.lean ====
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.ProdSum

@[expose] public section

set_option maxRecDepth 16384

noncomputable section

open Idealize.ShloMosaic Idealize.ShloMosaic.TcCoe Idealize.SL.Sem
open Idealize.ShloMosaic.Pipeline (Dat)

/-! Program 7: a product's gradient in its weight, 1024 × 9216 × 1024 in blocks of 1024 × 1024 × 1024. -/

namespace Cert.Prod7

open Cert.Kernel7Ideal Cert.Kernel7Ideal.Gen
open Cert.Reference7Ideal.Read

/-- The product of the two operands, at a row and a column. -/
def prod (a : S9216x1024.Idx → EReal) (b : S9216x1024.Idx → EReal) (r : Fin 1024) (l : Fin 1024) : EReal :=
  ∑ k : Fin 9216, a (ix2 k r) * b (ix2 k l)

/-- One block's share of it. -/
def part (x0 : S1024x1024.Idx → EReal) (x1 : S1024x1024.Idx → EReal) (r : Fin 1024) (l : Fin 1024) : EReal :=
  ∑ k : Fin 1024, x0 (ix2 k r) * x1 (ix2 k l)

theorem idx0 : ∀ t : Fin grid0.N, win0_0.index t = ![t.val % 9, t.val / 9] ∧ win0_1.index t = ![t.val % 9, 0] ∧ win0_2.index t = ![t.val / 9, 0] := by
  decide +kernel

theorem hN : cfg0.N = 9 := N_0

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole)
  (x0 : Vec Ideal S1024x1024 .bf16) (x1 : Vec Ideal S1024x1024 .bf16)

theorem out_A (hc0 : cond0_0 i) (hc1 : ¬cond0_1 i) (r : Fin 1024) (l : Fin 1024) :
    out0_A_2 c i arg3 harg3 arg4 harg4 arg5 harg5 hc0 hc1 x0 x1 (ix2 r l) = 0 + part x0 x1 r l := by
  unfold out0_A_2
  rw [View.read_writes_eq_canon _ _ _ (fun y => cover0_A_2 (y := y) ..)]
  unfold kernelRun0_A
  dsimp only
  sl_unfold_words
  rw [View.canon_unit_zero Cert.Prod.hz]
  simp only [View.readAt_eq_ld, harg3.read_unread, harg4.read_unread, harg5.read_unread, View.ld_unit_zero (S := S1024x1024) Cert.Prod.hz]
  unfold_payloads
  pointwise [part]

theorem out_B (hc0 : ¬cond0_0 i) (hc1 : cond0_1 i) (xo : Vec Ideal S1024x1024 .f32) (r : Fin 1024) (l : Fin 1024) :
    out0_B_2 c i arg3 harg3 arg4 harg4 arg5 harg5 hc0 hc1 x0 x1 xo (ix2 r l) = xo (ix2 r l) + part x0 x1 r l := by
  unfold out0_B_2
  rw [View.read_writes_eq_canon _ _ _ (fun y => cover0_B_2 (y := y) ..)]
  unfold kernelRun0_B
  dsimp only
  sl_unfold_words
  rw [View.canon_unit_zero Cert.Prod.hz]
  simp only [View.readAt_eq_ld, harg3.read_unread, harg4.read_unread, harg5.read_unread, View.ld_unit_zero (S := S1024x1024) Cert.Prod.hz]
  unfold_payloads
  pointwise [part]

variable (m : (ℓ : Loc nD τ sig) → Buf (Elt Ideal) ℓ)

/-- The arguments, as arrays. -/
abbrev argA (c : Dev nD) : S9216x1024.Idx → EReal := m ((c : Thread nD τ).loc main_arg0)
abbrev argB (c : Dev nD) : S9216x1024.Idx → EReal := m ((c : Thread nD τ).loc main_arg1)

theorem inA (c : Dev nD) (t : Fin cfg0.N) (k : Fin 1024) (r : Fin 1024) :
    (iblk m c 0 t : S1024x1024.Idx → EReal) (ix2 k r) = argA m c (ix2 ⟨1024 * (t.val % 9) + k.val, by have := t.isLt; have := hN; omega⟩ ⟨1024 * (t.val / 9) + r.val, by have := t.isLt; have := hN; omega⟩) := by
  have h := idx0 t
  unfold argA
  blk_ext [iblk, V, h.1]

theorem inB (c : Dev nD) (t : Fin cfg0.N) (k : Fin 1024) (l : Fin 1024) :
    (iblk m c 1 t : S1024x1024.Idx → EReal) (ix2 k l) = argB m c (ix2 ⟨1024 * (t.val % 9) + k.val, by have := t.isLt; have := hN; omega⟩ l) := by
  have h := idx0 t
  unfold argB
  blk_ext [iblk, V, h.2.1]

theorem after2 (c : Dev nD) (t : Fin cfg0.N) (hf : (cfg0.win 2).flush t = true) (r : Fin 1024) (l : Fin 1024) :
    outsAt0 m c t.val t.isLt (ix2 r l) = prod (argA m c) (argB m c) ⟨1024 * (t.val / 9) + r.val, by have := t.isLt; have := hN; omega⟩ l := by
  have hr : t.val % 9 = 8 := (flush0_2 t).mp hf
  rw [Pipeline.eq_sum_fin_of_reset_step_apply_of_flush (fun n h => outsAt0 m c n h) 9 (fun _ => 0)
    (fun s y => part (iblk m c 0 s) (iblk m c 1 s) (y 0) (y 1))
    (fun t h j => by
      rw [outsAt0_A m c t h (by have := t.isLt; have := hN; omega), eq_ix2 j]
      exact out_A ..)
    (fun t h j => by
      rw [outsAt0_B m c t h (by have := t.isLt; have := hN; omega), eq_ix2 j]
      exact out_B ..) t hr (ix2 r l), zero_add]
  unfold prod part
  refine Cert.Prod.sum_blocks (by norm_num) _ _ fun s k => ?_
  show @HMul.hMul EReal EReal EReal _ (iblk m c 0 _ (ix2 k r)) (iblk m c 1 _ (ix2 k l)) = _
  refine congrArg₂ (· * ·) ((inA m c _ _ _).trans ?_) ((inB m c _ _ _).trans ?_)
  · refine congrArg (argA m c) (Cert.Prod.ix2_ext ?_ ?_) <;> (try dsimp only) <;> have := t.isLt <;> have := hN <;> have := s.isLt <;> omega
  · refine congrArg (argB m c) (Cert.Prod.ix2_ext ?_ ?_) <;> (try dsimp only) <;> have := t.isLt <;> have := hN <;> have := s.isLt <;> omega

/-- What the launch leaves. -/
def res (a : S9216x1024.Idx → EReal) (b : S9216x1024.Idx → EReal) : S1024x1024.Idx → EReal := fun i => prod a b (i 0) (i 1)

theorem arr_res (c : Dev nD) : (dats m 0 c).arrAt 2 cfg0.N = res (argA m c) (argB m c) := by
  refine (dats m 0 c).arrAt_eq_of_covers 2 _ (by decide +kernel) fun t hf y => ?_
  blk_simp
  rw [after0_2]
  have h := idx0 t
  have e0 : (((win0_2.blk t).view.emb y) 0 : ℕ) = 1024 * (t.val / 9) + (y 0).val := by blk_simp [h.2.2]; try omega
  have e1 : (((win0_2.blk t).view.emb y) 1 : ℕ) = (y 1).val := by blk_simp [h.2.2]; try omega
  refine (congrArg (outsAt0 m c t.val t.isLt) (eq_ix2 y)).trans ((after2 m c t hf _ _).trans ?_)
  unfold res
  exact congrArg₂ (prod _ _) (Fin.ext e0.symm) (Fin.ext e1.symm)

/-- The reference's array is the same one. -/
theorem ref_res (a : S9216x1024.Idx → EReal) (b : S9216x1024.Idx → EReal) :
    val_main_v5 (F := Ideal) a b = res a b := by
  funext i
  rw [eq_ix2 i]
  pointwise [val_main_cst, val_main_v0, val_main_v1, val_main_v2, val_main_v3, val_main_v4, val_main_v5, res, prod]
  exact Finset.sum_congr rfl fun _ _ => mul_comm _ _

/-- The launch and the reference leave the same array. -/
theorem tie : Cert.algebraic_Kernel7Ideal_Reference7Ideal (hKernel7Ideal := Cert.Kernel7Ideal.Gen.facts)
    (hReference7Ideal := Cert.Reference7Ideal.Gen.facts) := by
  intro m g m' g' _ hagree
  refine ⟨fun c => res (argA m c) (argB m c), ?_, ?_⟩
  · refine (θ_run _ _ _).mono (fun r h c => ?_) (Cert.Kernel7Ideal.Value.run_blocks (F := Ideal) m g)
    obtain ⟨h0, k0, k1⟩ := h c
    exact ⟨h0.trans (arr_res m c), k0, k1⟩
  · refine (θ_run _ _ _).mono (fun r h c => ?_) (Cert.Reference7Ideal.Value.run (F := Ideal) m' g')
    obtain ⟨h0, k0, k1⟩ := h c
    obtain ⟨a0, a1⟩ := hagree c
    refine ⟨h0.trans ?_, k0, k1⟩
    · rw [val_main_v5_eq, a0, a1]
      exact ref_res _ _

end Cert.Prod7
-- ==== Proof.Prod8.lean ====
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.ProdSum

@[expose] public section

set_option maxRecDepth 16384

noncomputable section

open Idealize.ShloMosaic Idealize.ShloMosaic.TcCoe Idealize.SL.Sem
open Idealize.ShloMosaic.Pipeline (Dat)

/-! Program 8: a product, 9216 × 1024 × 1024 in blocks of 1024 × 1024 × 1024. -/

namespace Cert.Prod8

open Cert.Kernel8Ideal Cert.Kernel8Ideal.Gen
open Cert.Reference8Ideal.Read

/-- The product of the two operands, at a row and a column. -/
def prod (a : S9216x1024.Idx → EReal) (b : S1024x1024.Idx → EReal) (r : Fin 9216) (l : Fin 1024) : EReal :=
  ∑ k : Fin 1024, a (ix2 r k) * b (ix2 k l)

/-- One block's share of it. -/
def part (x0 : S1024x1024.Idx → EReal) (x1 : S1024x1024.Idx → EReal) (r : Fin 1024) (l : Fin 1024) : EReal :=
  ∑ k : Fin 1024, x0 (ix2 r k) * x1 (ix2 k l)

theorem idx0 : ∀ t : Fin grid0.N, win0_0.index t = ![t.val, 0] ∧ win0_1.index t = ![0, 0] ∧ win0_2.index t = ![t.val, 0] := by
  decide +kernel

theorem hN : cfg0.N = 9 := N_0

theorem out_2 (x0 : S1024x1024.Idx → EReal) (x1 : S1024x1024.Idx → EReal) (r : Fin 1024) (l : Fin 1024) :
    out0_2 (F := Ideal) x0 x1 (ix2 r l) = part x0 x1 r l := by
  unfold out0_2 r0_0
  rw [View.canon_unit_zero Cert.Prod.hz]
  simp only [View.ld_unit_zero (S := S1024x1024) Cert.Prod.hz]
  unfold_payloads
  pointwise [part]

variable (m : (ℓ : Loc nD τ sig) → Buf (Elt Ideal) ℓ)

/-- The arguments, as arrays. -/
abbrev argA (c : Dev nD) : S9216x1024.Idx → EReal := m ((c : Thread nD τ).loc main_arg0)
abbrev argB (c : Dev nD) : S1024x1024.Idx → EReal := m ((c : Thread nD τ).loc main_arg1)

theorem inA (c : Dev nD) (t : Fin cfg0.N) (r : Fin 1024) (k : Fin 1024) :
    (iblk m c 0 t : S1024x1024.Idx → EReal) (ix2 r k) = argA m c (ix2 ⟨1024 * (t.val) + r.val, by have := t.isLt; have := hN; omega⟩ k) := by
  have h := idx0 t
  unfold argA
  blk_ext [iblk, V, h.1]

theorem inB (c : Dev nD) (t : Fin cfg0.N) (k : Fin 1024) (l : Fin 1024) :
    (iblk m c 1 t : S1024x1024.Idx → EReal) (ix2 k l) = argB m c (ix2 k l) := by
  have h := idx0 t
  unfold argB
  blk_ext [iblk, V, h.2.1]

theorem part_eq (c : Dev nD) (t : Fin cfg0.N) (r : Fin 1024) (l : Fin 1024) :
    part (iblk m c 0 t) (iblk m c 1 t) r l = prod (argA m c) (argB m c) ⟨1024 * (t.val) + r.val, by have := t.isLt; have := hN; omega⟩ l := by
  unfold part prod
  exact Finset.sum_congr rfl fun k _ => congrArg₂ (· * ·) (inA m c t r k) (inB m c t k l)

/-- What the launch leaves. -/
def res (a : S9216x1024.Idx → EReal) (b : S1024x1024.Idx → EReal) : S9216x1024.Idx → EReal := fun i => prod a b (i 0) (i 1)

theorem arr_res (c : Dev nD) : (dats m 0 c).arrAt 2 cfg0.N = res (argA m c) (argB m c) := by
  refine (dats m 0 c).arrAt_eq_of_covers 2 _ (by decide +kernel) fun t hf y => ?_
  blk_simp
  rw [after0_2]
  have h := idx0 t
  have hy0 : (y 0).val < 1024 := (y 0).isLt
  have hy1 : (y 1).val < 1024 := (y 1).isLt
  have hy : (y : S1024x1024.Idx) = ix2 ⟨(y 0).val, hy0⟩ ⟨(y 1).val, hy1⟩ := by funext a; match a with | ⟨0, _⟩ => rfl | ⟨1, _⟩ => rfl
  have e0 : (((win0_2.blk t).view.emb y) 0 : ℕ) = 1024 * (t.val) + (y 0).val := by blk_simp [h.2.2]; try omega
  have e1 : (((win0_2.blk t).view.emb y) 1 : ℕ) = (y 1).val := by blk_simp [h.2.2]; try omega
  refine (congrArg (out0_2 (iblk m c 0 t) (iblk m c 1 t)) hy).trans ((out_2 _ _ _ _).trans ?_)
  rw [part_eq]
  unfold res
  exact congrArg₂ (prod _ _) (Fin.ext e0.symm) (Fin.ext e1.symm)

/-- The reference's array is the same one. -/
theorem ref_res (a : S9216x1024.Idx → EReal) (b : S1024x1024.Idx → EReal) :
    val_main_v2 (F := Ideal) a b = res a b := by
  funext i
  rw [eq_ix2 i]
  pointwise [val_main_v0, val_main_v1, val_main_v2, res, prod]

/-- The launch and the reference leave the same array. -/
theorem tie : Cert.algebraic_Kernel8Ideal_Reference8Ideal (hKernel8Ideal := Cert.Kernel8Ideal.Gen.facts)
    (hReference8Ideal := Cert.Reference8Ideal.Gen.facts) := by
  intro m g m' g' _ hagree
  refine ⟨fun c => res (argA m c) (argB m c), ?_, ?_⟩
  · refine (θ_run _ _ _).mono (fun r h c => ?_) (Cert.Kernel8Ideal.Value.run_blocks (F := Ideal) m g)
    obtain ⟨h0, k0, k1⟩ := h c
    exact ⟨h0.trans (arr_res m c), k0, k1⟩
  · refine (θ_run _ _ _).mono (fun r h c => ?_) (Cert.Reference8Ideal.Value.run (F := Ideal) m' g')
    obtain ⟨h0, k0, k1⟩ := h c
    obtain ⟨a0, a1⟩ := hagree c
    refine ⟨h0.trans ?_, k0, k1⟩
    · rw [val_main_v2_eq, a0, a1]
      exact ref_res _ _

end Cert.Prod8
-- ==== Proof.Prod9.lean ====
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.ProdSum

@[expose] public section

set_option maxRecDepth 16384

noncomputable section

open Idealize.ShloMosaic Idealize.ShloMosaic.TcCoe Idealize.SL.Sem
open Idealize.ShloMosaic.Pipeline (Dat)

/-! Program 9: the gradient through the second product and the squared activation, 8192 × 1024 × 4096 in blocks of 1024 × 1024 × 1024. -/

namespace Cert.Prod9

open Cert.Kernel9Ideal Cert.Kernel9Ideal.Gen
open Cert.Reference9Ideal.Read

/-- The product of the two operands, at a row and a column. -/
def prod (a : S8192x1024.Idx → EReal) (b : S4096x1024.Idx → EReal) (r : Fin 8192) (l : Fin 4096) : EReal :=
  ∑ k : Fin 1024, a (ix2 r k) * b (ix2 l k)

/-- One block's share of it. -/
def part (x0 : S1024x1024.Idx → EReal) (x1 : S1024x1024.Idx → EReal) (r : Fin 1024) (l : Fin 1024) : EReal :=
  ∑ k : Fin 1024, x0 (ix2 r k) * x1 (ix2 l k)

/-- The gradient through the squared activation. -/
def dsq (p z : EReal) : EReal := p * (Ideal.ofBits .f32 0x40000000#32 * max z 0)

theorem idx0 : ∀ t : Fin grid0.N, win0_0.index t = ![t.val / 4, 0] ∧ win0_1.index t = ![t.val % 4, 0] ∧ win0_2.index t = ![t.val / 4, t.val % 4] ∧ win0_3.index t = ![t.val / 4, t.val % 4] := by
  decide +kernel

theorem hN : cfg0.N = 32 := N_0

theorem out_3 (x0 : S1024x1024.Idx → EReal) (x1 : S1024x1024.Idx → EReal) (x2 : S1024x1024.Idx → EReal) (r : Fin 1024) (l : Fin 1024) :
    out0_3 (F := Ideal) x0 x1 x2 (ix2 r l) = dsq (part x0 x1 r l) (x2 (ix2 r l)) := by
  unfold out0_3 r0_0
  rw [View.canon_unit_zero Cert.Prod.hz]
  simp only [View.ld_unit_zero (S := S1024x1024) Cert.Prod.hz, View.ld_unit_zero (S := S1024x1024) Cert.Prod.hz, View.ld_unit_zero (S := S1024x1024) Cert.Prod.hz]
  unfold_payloads
  pointwise [part, dsq]

variable (m : (ℓ : Loc nD τ sig) → Buf (Elt Ideal) ℓ)

/-- The arguments, as arrays. -/
abbrev argA (c : Dev nD) : S8192x1024.Idx → EReal := m ((c : Thread nD τ).loc main_arg0)
abbrev argB (c : Dev nD) : S4096x1024.Idx → EReal := m ((c : Thread nD τ).loc main_arg1)
abbrev argZ (c : Dev nD) : S8192x4096.Idx → EReal := m ((c : Thread nD τ).loc main_arg2)

theorem inA (c : Dev nD) (t : Fin cfg0.N) (r : Fin 1024) (k : Fin 1024) :
    (iblk m c 0 t : S1024x1024.Idx → EReal) (ix2 r k) = argA m c (ix2 ⟨1024 * (t.val / 4) + r.val, by have := t.isLt; have := hN; omega⟩ k) := by
  have h := idx0 t
  unfold argA
  blk_ext [iblk, V, h.1]

theorem inB (c : Dev nD) (t : Fin cfg0.N) (l : Fin 1024) (k : Fin 1024) :
    (iblk m c 1 t : S1024x1024.Idx → EReal) (ix2 l k) = argB m c (ix2 ⟨1024 * (t.val % 4) + l.val, by have := t.isLt; have := hN; omega⟩ k) := by
  have h := idx0 t
  unfold argB
  blk_ext [iblk, V, h.2.1]

theorem inZ (c : Dev nD) (t : Fin cfg0.N) (r : Fin 1024) (l : Fin 1024) :
    (iblk m c 2 t : S1024x1024.Idx → EReal) (ix2 r l) = argZ m c (ix2 ⟨1024 * (t.val / 4) + r.val, by have := t.isLt; have := hN; omega⟩ ⟨1024 * (t.val % 4) + l.val, by have := t.isLt; have := hN; omega⟩) := by
  have h := idx0 t
  unfold argZ
  blk_ext [iblk, V, h.2.2.1]

theorem part_eq (c : Dev nD) (t : Fin cfg0.N) (r : Fin 1024) (l : Fin 1024) :
    part (iblk m c 0 t) (iblk m c 1 t) r l = prod (argA m c) (argB m c) ⟨1024 * (t.val / 4) + r.val, by have := t.isLt; have := hN; omega⟩ ⟨1024 * (t.val % 4) + l.val, by have := t.isLt; have := hN; omega⟩ := by
  unfold part prod
  exact Finset.sum_congr rfl fun k _ => congrArg₂ (· * ·) (inA m c t r k) (inB m c t l k)

/-- What the launch leaves. -/
def res (a : S8192x1024.Idx → EReal) (b : S4096x1024.Idx → EReal) (z : S8192x4096.Idx → EReal) : S8192x4096.Idx → EReal := fun i => dsq (prod a b (i 0) (i 1)) (z (ix2 (i 0) (i 1)))

theorem arr_res (c : Dev nD) : (dats m 0 c).arrAt 3 cfg0.N = res (argA m c) (argB m c) (argZ m c) := by
  refine (dats m 0 c).arrAt_eq_of_covers 3 _ (by decide +kernel) fun t hf y => ?_
  blk_simp
  rw [after0_3]
  have h := idx0 t
  have hy0 : (y 0).val < 1024 := (y 0).isLt
  have hy1 : (y 1).val < 1024 := (y 1).isLt
  have hy : (y : S1024x1024.Idx) = ix2 ⟨(y 0).val, hy0⟩ ⟨(y 1).val, hy1⟩ := by funext a; match a with | ⟨0, _⟩ => rfl | ⟨1, _⟩ => rfl
  have e0 : (((win0_3.blk t).view.emb y) 0 : ℕ) = 1024 * (t.val / 4) + (y 0).val := by blk_simp [h.2.2.2]; try omega
  have e1 : (((win0_3.blk t).view.emb y) 1 : ℕ) = 1024 * (t.val % 4) + (y 1).val := by blk_simp [h.2.2.2]; try omega
  refine (congrArg (out0_3 (iblk m c 0 t) (iblk m c 1 t) (iblk m c 2 t)) hy).trans ((out_3 _ _ _ _ _).trans ?_)
  rw [part_eq, inZ]
  unfold res
  exact congrArg₂ dsq (congrArg₂ (prod _ _) (Fin.ext e0.symm) (Fin.ext e1.symm)) (congrArg (argZ m c) (Cert.Prod.ix2_ext e0.symm e1.symm))

/-- The reference's array is the same one. -/
theorem ref_res (a : S8192x1024.Idx → EReal) (b : S4096x1024.Idx → EReal) (z : S8192x4096.Idx → EReal) :
    val_main_v15 (F := Ideal) a b z = res a b z := by
  funext i
  rw [eq_ix2 i]
  pointwise [val_main_v0, val_main_call0_cst, val_main_call0_v0, val_main_v1, val_main_cst, val_main_v2, val_main_v3, val_main_cst_0, val_main_v4, val_main_v5, val_main_cst_1, val_main_v6, val_main_v7, val_main_v8, val_main_v9, val_main_v10, val_main_v11, val_main_v12, val_main_cst_2, val_main_v13, val_main_v14, val_main_v15, res, prod, dsq]
  split_ifs with h
  · rfl
  · rw [max_eq_right (not_lt.mp h), mul_zero, mul_zero]

/-- The launch and the reference leave the same array. -/
theorem tie : Cert.algebraic_Kernel9Ideal_Reference9Ideal (hKernel9Ideal := Cert.Kernel9Ideal.Gen.facts)
    (hReference9Ideal := Cert.Reference9Ideal.Gen.facts) := by
  intro m g m' g' _ hagree
  refine ⟨fun c => res (argA m c) (argB m c) (argZ m c), ?_, ?_⟩
  · refine (θ_run _ _ _).mono (fun r h c => ?_) (Cert.Kernel9Ideal.Value.run_blocks (F := Ideal) m g)
    obtain ⟨h0, k0, k1, k2⟩ := h c
    exact ⟨h0.trans (arr_res m c), k0, k1, k2⟩
  · refine (θ_run _ _ _).mono (fun r h c => ?_) (Cert.Reference9Ideal.Value.run (F := Ideal) m' g')
    obtain ⟨h0, k0, k1, k2⟩ := h c
    obtain ⟨a0, a1, a2⟩ := hagree c
    refine ⟨h0.trans ?_, k0, k1, k2⟩
    · rw [val_main_v15_eq, a0, a1, a2]
      exact ref_res _ _ _

end Cert.Prod9
-- ==== Proof.Prod10.lean ====
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.ProdSum

@[expose] public section

set_option maxRecDepth 16384

noncomputable section

open Idealize.ShloMosaic Idealize.ShloMosaic.TcCoe Idealize.SL.Sem
open Idealize.ShloMosaic.Pipeline (Dat)

/-! Program 10: the gradient in the operand of a product by a transposed weight, 8192 × 4096 × 1024 in blocks of 1024 × 2048 × 1024. -/

namespace Cert.Prod10

open Cert.Kernel10Ideal Cert.Kernel10Ideal.Gen
open Cert.Reference10Ideal.Read

/-- The product of the two operands, at a row and a column. -/
def prod (a : S8192x4096.Idx → EReal) (b : S4096x1024.Idx → EReal) (r : Fin 8192) (l : Fin 1024) : EReal :=
  ∑ k : Fin 4096, a (ix2 r k) * b (ix2 k l)

/-- One block's share of it. -/
def part (x0 : S1024x2048.Idx → EReal) (x1 : S2048x1024.Idx → EReal) (r : Fin 1024) (l : Fin 1024) : EReal :=
  ∑ k : Fin 2048, x0 (ix2 r k) * x1 (ix2 k l)

theorem idx0 : ∀ t : Fin grid0.N, win0_0.index t = ![t.val / 2, t.val % 2] ∧ win0_1.index t = ![t.val % 2, 0] ∧ win0_2.index t = ![t.val / 2, 0] := by
  decide +kernel

theorem hN : cfg0.N = 16 := N_0

variable (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole)
  (x0 : Vec Ideal S1024x2048 .bf16) (x1 : Vec Ideal S2048x1024 .bf16)

theorem out_A (hc0 : cond0_0 i) (hc1 : ¬cond0_1 i) (r : Fin 1024) (l : Fin 1024) :
    out0_A_2 c i arg3 harg3 arg4 harg4 arg5 harg5 hc0 hc1 x0 x1 (ix2 r l) = 0 + part x0 x1 r l := by
  unfold out0_A_2
  rw [View.read_writes_eq_canon _ _ _ (fun y => cover0_A_2 (y := y) ..)]
  unfold kernelRun0_A
  dsimp only
  sl_unfold_words
  rw [View.canon_unit_zero Cert.Prod.hz]
  simp only [View.readAt_eq_ld, harg3.read_unread, harg4.read_unread, harg5.read_unread, View.ld_unit_zero (S := S1024x2048) Cert.Prod.hz, View.ld_unit_zero (S := S2048x1024) Cert.Prod.hz, View.ld_unit_zero (S := S1024x1024) Cert.Prod.hz]
  unfold_payloads
  pointwise [part]

theorem out_B (hc0 : ¬cond0_0 i) (hc1 : cond0_1 i) (xo : Vec Ideal S1024x1024 .f32) (r : Fin 1024) (l : Fin 1024) :
    out0_B_2 c i arg3 harg3 arg4 harg4 arg5 harg5 hc0 hc1 x0 x1 xo (ix2 r l) = xo (ix2 r l) + part x0 x1 r l := by
  unfold out0_B_2
  rw [View.read_writes_eq_canon _ _ _ (fun y => cover0_B_2 (y := y) ..)]
  unfold kernelRun0_B
  dsimp only
  sl_unfold_words
  rw [View.canon_unit_zero Cert.Prod.hz]
  simp only [View.readAt_eq_ld, harg3.read_unread, harg4.read_unread, harg5.read_unread, View.ld_unit_zero (S := S1024x2048) Cert.Prod.hz, View.ld_unit_zero (S := S2048x1024) Cert.Prod.hz, View.ld_unit_zero (S := S1024x1024) Cert.Prod.hz]
  unfold_payloads
  pointwise [part]

variable (m : (ℓ : Loc nD τ sig) → Buf (Elt Ideal) ℓ)

/-- The arguments, as arrays. -/
abbrev argA (c : Dev nD) : S8192x4096.Idx → EReal := m ((c : Thread nD τ).loc main_arg0)
abbrev argB (c : Dev nD) : S4096x1024.Idx → EReal := m ((c : Thread nD τ).loc main_arg1)

theorem inA (c : Dev nD) (t : Fin cfg0.N) (r : Fin 1024) (k : Fin 2048) :
    (iblk m c 0 t : S1024x2048.Idx → EReal) (ix2 r k) = argA m c (ix2 ⟨1024 * (t.val / 2) + r.val, by have := t.isLt; have := hN; omega⟩ ⟨2048 * (t.val % 2) + k.val, by have := t.isLt; have := hN; omega⟩) := by
  have h := idx0 t
  unfold argA
  blk_ext [iblk, V, h.1]

theorem inB (c : Dev nD) (t : Fin cfg0.N) (k : Fin 2048) (l : Fin 1024) :
    (iblk m c 1 t : S2048x1024.Idx → EReal) (ix2 k l) = argB m c (ix2 ⟨2048 * (t.val % 2) + k.val, by have := t.isLt; have := hN; omega⟩ l) := by
  have h := idx0 t
  unfold argB
  blk_ext [iblk, V, h.2.1]

theorem after2 (c : Dev nD) (t : Fin cfg0.N) (hf : (cfg0.win 2).flush t = true) (r : Fin 1024) (l : Fin 1024) :
    outsAt0 m c t.val t.isLt (ix2 r l) = prod (argA m c) (argB m c) ⟨1024 * (t.val / 2) + r.val, by have := t.isLt; have := hN; omega⟩ l := by
  have hr : t.val % 2 = 1 := (flush0_2 t).mp hf
  rw [Pipeline.eq_sum_fin_of_reset_step_apply_of_flush (fun n h => outsAt0 m c n h) 2 (fun _ => 0)
    (fun s y => part (iblk m c 0 s) (iblk m c 1 s) (y 0) (y 1))
    (fun t h j => by
      rw [outsAt0_A m c t h (by have := t.isLt; have := hN; omega), eq_ix2 j]
      exact out_A ..)
    (fun t h j => by
      rw [outsAt0_B m c t h (by have := t.isLt; have := hN; omega), eq_ix2 j]
      exact out_B ..) t hr (ix2 r l), zero_add]
  unfold prod part
  refine Cert.Prod.sum_blocks (by norm_num) _ _ fun s k => ?_
  show @HMul.hMul EReal EReal EReal _ (iblk m c 0 _ (ix2 r k)) (iblk m c 1 _ (ix2 k l)) = _
  refine congrArg₂ (· * ·) ((inA m c _ _ _).trans ?_) ((inB m c _ _ _).trans ?_)
  · refine congrArg (argA m c) (Cert.Prod.ix2_ext ?_ ?_) <;> (try dsimp only) <;> have := t.isLt <;> have := hN <;> have := s.isLt <;> omega
  · refine congrArg (argB m c) (Cert.Prod.ix2_ext ?_ ?_) <;> (try dsimp only) <;> have := t.isLt <;> have := hN <;> have := s.isLt <;> omega

/-- What the launch leaves. -/
def res (a : S8192x4096.Idx → EReal) (b : S4096x1024.Idx → EReal) : S8192x1024.Idx → EReal := fun i => prod a b (i 0) (i 1)

theorem arr_res (c : Dev nD) : (dats m 0 c).arrAt 2 cfg0.N = res (argA m c) (argB m c) := by
  refine (dats m 0 c).arrAt_eq_of_covers 2 _ (by decide +kernel) fun t hf y => ?_
  blk_simp
  rw [after0_2]
  have h := idx0 t
  have e0 : (((win0_2.blk t).view.emb y) 0 : ℕ) = 1024 * (t.val / 2) + (y 0).val := by blk_simp [h.2.2]; try omega
  have e1 : (((win0_2.blk t).view.emb y) 1 : ℕ) = (y 1).val := by blk_simp [h.2.2]; try omega
  refine (congrArg (outsAt0 m c t.val t.isLt) (eq_ix2 y)).trans ((after2 m c t hf _ _).trans ?_)
  unfold res
  exact congrArg₂ (prod _ _) (Fin.ext e0.symm) (Fin.ext e1.symm)

/-- The reference's array is the same one. -/
theorem ref_res (a : S8192x4096.Idx → EReal) (b : S4096x1024.Idx → EReal) :
    val_main_v5 (F := Ideal) a b = res a b := by
  funext i
  rw [eq_ix2 i]
  pointwise [val_main_cst, val_main_v0, val_main_v1, val_main_v2, val_main_v3, val_main_v4, val_main_v5, res, prod]

/-- The launch and the reference leave the same array. -/
theorem tie : Cert.algebraic_Kernel10Ideal_Reference10Ideal (hKernel10Ideal := Cert.Kernel10Ideal.Gen.facts)
    (hReference10Ideal := Cert.Reference10Ideal.Gen.facts) := by
  intro m g m' g' _ hagree
  refine ⟨fun c => res (argA m c) (argB m c), ?_, ?_⟩
  · refine (θ_run _ _ _).mono (fun r h c => ?_) (Cert.Kernel10Ideal.Value.run_blocks (F := Ideal) m g)
    obtain ⟨h0, k0, k1⟩ := h c
    exact ⟨h0.trans (arr_res m c), k0, k1⟩
  · refine (θ_run _ _ _).mono (fun r h c => ?_) (Cert.Reference10Ideal.Value.run (F := Ideal) m' g')
    obtain ⟨h0, k0, k1⟩ := h c
    obtain ⟨a0, a1⟩ := hagree c
    refine ⟨h0.trans ?_, k0, k1⟩
    · rw [val_main_v5_eq, a0, a1]
      exact ref_res _ _

end Cert.Prod10
-- ==== Proof.Prod11.lean ====
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import proofs.«01_k».proof.Proof.ProdSum

@[expose] public section

set_option maxRecDepth 16384

noncomputable section

open Idealize.ShloMosaic Idealize.ShloMosaic.TcCoe Idealize.SL.Sem
open Idealize.ShloMosaic.Pipeline (Dat)

/-! Program 11: a product's gradient in its weight, 4096 × 8192 × 1024 in blocks of 1024 × 1024 × 1024. -/

namespace Cert.Prod11

open Cert.Kernel11Ideal Cert.Kernel11Ideal.Gen
open Cert.Reference11Ideal.Read

/-- The product of the two operands, at a row and a column. -/
def prod (a : S8192x4096.Idx → EReal) (b : S8192x1024.Idx → EReal) (r : Fin 4096) (l : Fin 1024) : EReal :=
  ∑ k : Fin 8192, a (ix2 k r) * b (ix2 k l)

/-- One block's share of it. -/
def part (x0 : S1024x1024.Idx → EReal) (x1 : S1024x1024.Idx → EReal) (r : Fin 1024) (l : Fin 1024) : EReal :=
  ∑ k : Fin 1024, x0 (ix2 k r) * x1 (ix2 k l)

theorem idx0 : ∀ t : Fin grid0.N, win0_0.index t = ![t.val % 8, t.val / 8] ∧ win0_1.index t = ![t.val % 8, 0] ∧ win0_2.index t = ![t.val / 8, 0] := by
  decide +kernel

theorem hN : cfg0.N = 32 := N_0

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole)
  (x0 : Vec Ideal S1024x1024 .bf16) (x1 : Vec Ideal S1024x1024 .bf16)

theorem out_A (hc0 : cond0_0 i) (hc1 : ¬cond0_1 i) (r : Fin 1024) (l : Fin 1024) :
    out0_A_2 c i arg3 harg3 arg4 harg4 arg5 harg5 hc0 hc1 x0 x1 (ix2 r l) = 0 + part x0 x1 r l := by
  unfold out0_A_2
  rw [View.read_writes_eq_canon _ _ _ (fun y => cover0_A_2 (y := y) ..)]
  unfold kernelRun0_A
  dsimp only
  sl_unfold_words
  rw [View.canon_unit_zero Cert.Prod.hz]
  simp only [View.readAt_eq_ld, harg3.read_unread, harg4.read_unread, harg5.read_unread, View.ld_unit_zero (S := S1024x1024) Cert.Prod.hz]
  unfold_payloads
  pointwise [part]

theorem out_B (hc0 : ¬cond0_0 i) (hc1 : cond0_1 i) (xo : Vec Ideal S1024x1024 .f32) (r : Fin 1024) (l : Fin 1024) :
    out0_B_2 c i arg3 harg3 arg4 harg4 arg5 harg5 hc0 hc1 x0 x1 xo (ix2 r l) = xo (ix2 r l) + part x0 x1 r l := by
  unfold out0_B_2
  rw [View.read_writes_eq_canon _ _ _ (fun y => cover0_B_2 (y := y) ..)]
  unfold kernelRun0_B
  dsimp only
  sl_unfold_words
  rw [View.canon_unit_zero Cert.Prod.hz]
  simp only [View.readAt_eq_ld, harg3.read_unread, harg4.read_unread, harg5.read_unread, View.ld_unit_zero (S := S1024x1024) Cert.Prod.hz]
  unfold_payloads
  pointwise [part]

variable (m : (ℓ : Loc nD τ sig) → Buf (Elt Ideal) ℓ)

/-- The arguments, as arrays. -/
abbrev argA (c : Dev nD) : S8192x4096.Idx → EReal := m ((c : Thread nD τ).loc main_arg0)
abbrev argB (c : Dev nD) : S8192x1024.Idx → EReal := m ((c : Thread nD τ).loc main_arg1)

theorem inA (c : Dev nD) (t : Fin cfg0.N) (k : Fin 1024) (r : Fin 1024) :
    (iblk m c 0 t : S1024x1024.Idx → EReal) (ix2 k r) = argA m c (ix2 ⟨1024 * (t.val % 8) + k.val, by have := t.isLt; have := hN; omega⟩ ⟨1024 * (t.val / 8) + r.val, by have := t.isLt; have := hN; omega⟩) := by
  have h := idx0 t
  unfold argA
  blk_ext [iblk, V, h.1]

theorem inB (c : Dev nD) (t : Fin cfg0.N) (k : Fin 1024) (l : Fin 1024) :
    (iblk m c 1 t : S1024x1024.Idx → EReal) (ix2 k l) = argB m c (ix2 ⟨1024 * (t.val % 8) + k.val, by have := t.isLt; have := hN; omega⟩ l) := by
  have h := idx0 t
  unfold argB
  blk_ext [iblk, V, h.2.1]

theorem after2 (c : Dev nD) (t : Fin cfg0.N) (hf : (cfg0.win 2).flush t = true) (r : Fin 1024) (l : Fin 1024) :
    outsAt0 m c t.val t.isLt (ix2 r l) = prod (argA m c) (argB m c) ⟨1024 * (t.val / 8) + r.val, by have := t.isLt; have := hN; omega⟩ l := by
  have hr : t.val % 8 = 7 := (flush0_2 t).mp hf
  rw [Pipeline.eq_sum_fin_of_reset_step_apply_of_flush (fun n h => outsAt0 m c n h) 8 (fun _ => 0)
    (fun s y => part (iblk m c 0 s) (iblk m c 1 s) (y 0) (y 1))
    (fun t h j => by
      rw [outsAt0_A m c t h (by have := t.isLt; have := hN; omega), eq_ix2 j]
      exact out_A ..)
    (fun t h j => by
      rw [outsAt0_B m c t h (by have := t.isLt; have := hN; omega), eq_ix2 j]
      exact out_B ..) t hr (ix2 r l), zero_add]
  unfold prod part
  refine Cert.Prod.sum_blocks (by norm_num) _ _ fun s k => ?_
  show @HMul.hMul EReal EReal EReal _ (iblk m c 0 _ (ix2 k r)) (iblk m c 1 _ (ix2 k l)) = _
  refine congrArg₂ (· * ·) ((inA m c _ _ _).trans ?_) ((inB m c _ _ _).trans ?_)
  · refine congrArg (argA m c) (Cert.Prod.ix2_ext ?_ ?_) <;> (try dsimp only) <;> have := t.isLt <;> have := hN <;> have := s.isLt <;> omega
  · refine congrArg (argB m c) (Cert.Prod.ix2_ext ?_ ?_) <;> (try dsimp only) <;> have := t.isLt <;> have := hN <;> have := s.isLt <;> omega

/-- What the launch leaves. -/
def res (a : S8192x4096.Idx → EReal) (b : S8192x1024.Idx → EReal) : S4096x1024.Idx → EReal := fun i => prod a b (i 0) (i 1)

theorem arr_res (c : Dev nD) : (dats m 0 c).arrAt 2 cfg0.N = res (argA m c) (argB m c) := by
  refine (dats m 0 c).arrAt_eq_of_covers 2 _ (by decide +kernel) fun t hf y => ?_
  blk_simp
  rw [after0_2]
  have h := idx0 t
  have e0 : (((win0_2.blk t).view.emb y) 0 : ℕ) = 1024 * (t.val / 8) + (y 0).val := by blk_simp [h.2.2]; try omega
  have e1 : (((win0_2.blk t).view.emb y) 1 : ℕ) = (y 1).val := by blk_simp [h.2.2]; try omega
  refine (congrArg (outsAt0 m c t.val t.isLt) (eq_ix2 y)).trans ((after2 m c t hf _ _).trans ?_)
  unfold res
  exact congrArg₂ (prod _ _) (Fin.ext e0.symm) (Fin.ext e1.symm)

/-- The reference's array is the same one. -/
theorem ref_res (a : S8192x4096.Idx → EReal) (b : S8192x1024.Idx → EReal) :
    val_main_v5 (F := Ideal) a b = res a b := by
  funext i
  rw [eq_ix2 i]
  pointwise [val_main_cst, val_main_v0, val_main_v1, val_main_v2, val_main_v3, val_main_v4, val_main_v5, res, prod]
  exact Finset.sum_congr rfl fun _ _ => mul_comm _ _

/-- The launch and the reference leave the same array. -/
theorem tie : Cert.algebraic_Kernel11Ideal_Reference11Ideal (hKernel11Ideal := Cert.Kernel11Ideal.Gen.facts)
    (hReference11Ideal := Cert.Reference11Ideal.Gen.facts) := by
  intro m g m' g' _ hagree
  refine ⟨fun c => res (argA m c) (argB m c), ?_, ?_⟩
  · refine (θ_run _ _ _).mono (fun r h c => ?_) (Cert.Kernel11Ideal.Value.run_blocks (F := Ideal) m g)
    obtain ⟨h0, k0, k1⟩ := h c
    exact ⟨h0.trans (arr_res m c), k0, k1⟩
  · refine (θ_run _ _ _).mono (fun r h c => ?_) (Cert.Reference11Ideal.Value.run (F := Ideal) m' g')
    obtain ⟨h0, k0, k1⟩ := h c
    obtain ⟨a0, a1⟩ := hagree c
    refine ⟨h0.trans ?_, k0, k1⟩
    · rw [val_main_v5_eq, a0, a1]
      exact ref_res _ _

end Cert.Prod11
-- ==== Proof.Prod12.lean ====
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import proofs.«01_k».proof.Proof.ProdSum

@[expose] public section

set_option maxRecDepth 16384

noncomputable section

open Idealize.ShloMosaic Idealize.ShloMosaic.TcCoe Idealize.SL.Sem
open Idealize.ShloMosaic.Pipeline (Dat)

/-! Program 12: the first product and its squared activation, 8192 × 1024 × 4096 in blocks of 1024 × 1024 × 1024. -/

namespace Cert.Prod12

open Cert.Kernel12Ideal Cert.Kernel12Ideal.Gen
open Cert.Reference12Ideal.Read

/-- The product of the two operands, at a row and a column. -/
def prod (a : S8192x1024.Idx → EReal) (b : S4096x1024.Idx → EReal) (r : Fin 8192) (l : Fin 4096) : EReal :=
  ∑ k : Fin 1024, a (ix2 r k) * b (ix2 l k)

/-- One block's share of it. -/
def part (x0 : S1024x1024.Idx → EReal) (x1 : S1024x1024.Idx → EReal) (r : Fin 1024) (l : Fin 1024) : EReal :=
  ∑ k : Fin 1024, x0 (ix2 r k) * x1 (ix2 l k)

theorem idx0 : ∀ t : Fin grid0.N, win0_0.index t = ![t.val / 4, 0] ∧ win0_1.index t = ![t.val % 4, 0] ∧ win0_2.index t = ![t.val / 4, t.val % 4] ∧ win0_3.index t = ![t.val / 4, t.val % 4] := by
  decide +kernel

theorem hN : cfg0.N = 32 := N_0

theorem out_2 (x0 : S1024x1024.Idx → EReal) (x1 : S1024x1024.Idx → EReal) (r : Fin 1024) (l : Fin 1024) :
    out0_2 (F := Ideal) x0 x1 (ix2 r l) = part x0 x1 r l := by
  unfold out0_2 r0_0
  rw [View.canon_unit_zero Cert.Prod.hz]
  simp only [View.ld_unit_zero (S := S1024x1024) Cert.Prod.hz]
  unfold_payloads
  pointwise [part]

theorem out_3 (x0 : S1024x1024.Idx → EReal) (x1 : S1024x1024.Idx → EReal) (r : Fin 1024) (l : Fin 1024) :
    out0_3 (F := Ideal) x0 x1 (ix2 r l) = max (part x0 x1 r l) 0 * max (part x0 x1 r l) 0 := by
  unfold out0_3 r0_0
  rw [View.canon_unit_zero Cert.Prod.hz]
  simp only [View.ld_unit_zero (S := S1024x1024) Cert.Prod.hz]
  unfold_payloads
  pointwise [part]

variable (m : (ℓ : Loc nD τ sig) → Buf (Elt Ideal) ℓ)

/-- The arguments, as arrays. -/
abbrev argA (c : Dev nD) : S8192x1024.Idx → EReal := m ((c : Thread nD τ).loc main_arg0)
abbrev argB (c : Dev nD) : S4096x1024.Idx → EReal := m ((c : Thread nD τ).loc main_arg1)

theorem inA (c : Dev nD) (t : Fin cfg0.N) (r : Fin 1024) (k : Fin 1024) :
    (iblk m c 0 t : S1024x1024.Idx → EReal) (ix2 r k) = argA m c (ix2 ⟨1024 * (t.val / 4) + r.val, by have := t.isLt; have := hN; omega⟩ k) := by
  have h := idx0 t
  unfold argA
  blk_ext [iblk, V, h.1]

theorem inB (c : Dev nD) (t : Fin cfg0.N) (l : Fin 1024) (k : Fin 1024) :
    (iblk m c 1 t : S1024x1024.Idx → EReal) (ix2 l k) = argB m c (ix2 ⟨1024 * (t.val % 4) + l.val, by have := t.isLt; have := hN; omega⟩ k) := by
  have h := idx0 t
  unfold argB
  blk_ext [iblk, V, h.2.1]

theorem part_eq (c : Dev nD) (t : Fin cfg0.N) (r : Fin 1024) (l : Fin 1024) :
    part (iblk m c 0 t) (iblk m c 1 t) r l = prod (argA m c) (argB m c) ⟨1024 * (t.val / 4) + r.val, by have := t.isLt; have := hN; omega⟩ ⟨1024 * (t.val % 4) + l.val, by have := t.isLt; have := hN; omega⟩ := by
  unfold part prod
  exact Finset.sum_congr rfl fun k _ => congrArg₂ (· * ·) (inA m c t r k) (inB m c t l k)

/-- What the launch leaves. -/
def res (a : S8192x1024.Idx → EReal) (b : S4096x1024.Idx → EReal) : S8192x4096.Idx → EReal := fun i => prod a b (i 0) (i 1)

theorem arr_res (c : Dev nD) : (dats m 0 c).arrAt 2 cfg0.N = res (argA m c) (argB m c) := by
  refine (dats m 0 c).arrAt_eq_of_covers 2 _ (by decide +kernel) fun t hf y => ?_
  blk_simp
  rw [after0_2]
  have h := idx0 t
  have hy0 : (y 0).val < 1024 := (y 0).isLt
  have hy1 : (y 1).val < 1024 := (y 1).isLt
  have hy : (y : S1024x1024.Idx) = ix2 ⟨(y 0).val, hy0⟩ ⟨(y 1).val, hy1⟩ := by funext a; match a with | ⟨0, _⟩ => rfl | ⟨1, _⟩ => rfl
  have e0 : (((win0_2.blk t).view.emb y) 0 : ℕ) = 1024 * (t.val / 4) + (y 0).val := by blk_simp [h.2.2.1]; try omega
  have e1 : (((win0_2.blk t).view.emb y) 1 : ℕ) = 1024 * (t.val % 4) + (y 1).val := by blk_simp [h.2.2.1]; try omega
  refine (congrArg (out0_2 (iblk m c 0 t) (iblk m c 1 t)) hy).trans ((out_2 _ _ _ _).trans ?_)
  rw [part_eq]
  unfold res
  exact congrArg₂ (prod _ _) (Fin.ext e0.symm) (Fin.ext e1.symm)

/-- What the launch leaves. -/
def res' (a : S8192x1024.Idx → EReal) (b : S4096x1024.Idx → EReal) : S8192x4096.Idx → EReal := fun i => max (prod a b (i 0) (i 1)) 0 * max (prod a b (i 0) (i 1)) 0

theorem arr_res' (c : Dev nD) : (dats m 0 c).arrAt 3 cfg0.N = res' (argA m c) (argB m c) := by
  refine (dats m 0 c).arrAt_eq_of_covers 3 _ (by decide +kernel) fun t hf y => ?_
  blk_simp
  rw [after0_3]
  have h := idx0 t
  have hy0 : (y 0).val < 1024 := (y 0).isLt
  have hy1 : (y 1).val < 1024 := (y 1).isLt
  have hy : (y : S1024x1024.Idx) = ix2 ⟨(y 0).val, hy0⟩ ⟨(y 1).val, hy1⟩ := by funext a; match a with | ⟨0, _⟩ => rfl | ⟨1, _⟩ => rfl
  have e0 : (((win0_3.blk t).view.emb y) 0 : ℕ) = 1024 * (t.val / 4) + (y 0).val := by blk_simp [h.2.2.2]; try omega
  have e1 : (((win0_3.blk t).view.emb y) 1 : ℕ) = 1024 * (t.val % 4) + (y 1).val := by blk_simp [h.2.2.2]; try omega
  refine (congrArg (out0_3 (iblk m c 0 t) (iblk m c 1 t)) hy).trans ((out_3 _ _ _ _).trans ?_)
  rw [part_eq]
  unfold res'
  exact congrArg (fun p => max p 0 * max p 0) (congrArg₂ (prod _ _) (Fin.ext e0.symm) (Fin.ext e1.symm))

/-- The reference's array is the same one. -/
theorem ref_res (a : S8192x1024.Idx → EReal) (b : S4096x1024.Idx → EReal) :
    val_main_v4 (F := Ideal) a b = res a b := by
  funext i
  rw [eq_ix2 i]
  pointwise [val_main_v0, val_main_v1, val_main_v2, val_main_v3, val_main_v4, val_main_call0_cst, val_main_call0_v0, val_main_v5, val_main_v6, val_main_v7, res, prod]

/-- The reference's array is the same one. -/
theorem ref_res' (a : S8192x1024.Idx → EReal) (b : S4096x1024.Idx → EReal) :
    val_main_v7 (F := Ideal) a b = res' a b := by
  funext i
  rw [eq_ix2 i]
  pointwise [val_main_v0, val_main_v1, val_main_v2, val_main_v3, val_main_v4, val_main_call0_cst, val_main_call0_v0, val_main_v5, val_main_v6, val_main_v7, res', prod]

/-- The launch and the reference leave the same arrays. -/
theorem tie : Cert.algebraic_Kernel12Ideal_Reference12Ideal (hKernel12Ideal := Cert.Kernel12Ideal.Gen.facts)
    (hReference12Ideal := Cert.Reference12Ideal.Gen.facts) := by
  intro m g m' g' _ hagree
  refine ⟨fun c => res (argA m c) (argB m c), fun c => res' (argA m c) (argB m c), ?_, ?_⟩
  · refine (θ_run _ _ _).mono (fun r h c => ?_) (Cert.Kernel12Ideal.Value.run_blocks (F := Ideal) m g)
    obtain ⟨h0, h1, k0, k1⟩ := h c
    exact ⟨h0.trans (arr_res m c), h1.trans (arr_res' m c), k0, k1⟩
  · refine (θ_run _ _ _).mono (fun r h c => ?_) (Cert.Reference12Ideal.Value.run (F := Ideal) m' g')
    obtain ⟨h0, h1, k0, k1⟩ := h c
    obtain ⟨a0, a1⟩ := hagree c
    refine ⟨h0.trans ?_, h1.trans ?_, k0, k1⟩
    · rw [val_main_v4_eq, a0, a1]
      exact ref_res _ _
    · rw [val_main_v7_eq, a0, a1]
      exact ref_res' _ _

end Cert.Prod12
-- ==== Proof.Prod13.lean ====
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import proofs.«01_k».proof.Proof.ProdSum

@[expose] public section

set_option maxRecDepth 16384

noncomputable section

open Idealize.ShloMosaic Idealize.ShloMosaic.TcCoe Idealize.SL.Sem
open Idealize.ShloMosaic.Pipeline (Dat)

/-! Program 13: a product's gradient in its operand, 8192 × 1024 × 1024 in blocks of 1024 × 1024 × 1024. -/

namespace Cert.Prod13

open Cert.Kernel13Ideal Cert.Kernel13Ideal.Gen
open Cert.Reference13Ideal.Read

/-- The product of the two operands, at a row and a column. -/
def prod (a : S8192x1024.Idx → EReal) (b : S1024x1024.Idx → EReal) (r : Fin 8192) (l : Fin 1024) : EReal :=
  ∑ k : Fin 1024, a (ix2 r k) * b (ix2 l k)

/-- One block's share of it. -/
def part (x0 : S1024x1024.Idx → EReal) (x1 : S1024x1024.Idx → EReal) (r : Fin 1024) (l : Fin 1024) : EReal :=
  ∑ k : Fin 1024, x0 (ix2 r k) * x1 (ix2 l k)

theorem idx0 : ∀ t : Fin grid0.N, win0_0.index t = ![t.val, 0] ∧ win0_1.index t = ![0, 0] ∧ win0_2.index t = ![t.val, 0] := by
  decide +kernel

theorem hN : cfg0.N = 8 := N_0

theorem out_2 (x0 : S1024x1024.Idx → EReal) (x1 : S1024x1024.Idx → EReal) (r : Fin 1024) (l : Fin 1024) :
    out0_2 (F := Ideal) x0 x1 (ix2 r l) = part x0 x1 r l := by
  unfold out0_2 r0_0
  rw [View.canon_unit_zero Cert.Prod.hz]
  simp only [View.ld_unit_zero (S := S1024x1024) Cert.Prod.hz]
  unfold_payloads
  pointwise [part]

variable (m : (ℓ : Loc nD τ sig) → Buf (Elt Ideal) ℓ)

/-- The arguments, as arrays. -/
abbrev argA (c : Dev nD) : S8192x1024.Idx → EReal := m ((c : Thread nD τ).loc main_arg0)
abbrev argB (c : Dev nD) : S1024x1024.Idx → EReal := m ((c : Thread nD τ).loc main_arg1)

theorem inA (c : Dev nD) (t : Fin cfg0.N) (r : Fin 1024) (k : Fin 1024) :
    (iblk m c 0 t : S1024x1024.Idx → EReal) (ix2 r k) = argA m c (ix2 ⟨1024 * (t.val) + r.val, by have := t.isLt; have := hN; omega⟩ k) := by
  have h := idx0 t
  unfold argA
  blk_ext [iblk, V, h.1]

theorem inB (c : Dev nD) (t : Fin cfg0.N) (l : Fin 1024) (k : Fin 1024) :
    (iblk m c 1 t : S1024x1024.Idx → EReal) (ix2 l k) = argB m c (ix2 l k) := by
  have h := idx0 t
  unfold argB
  blk_ext [iblk, V, h.2.1]

theorem part_eq (c : Dev nD) (t : Fin cfg0.N) (r : Fin 1024) (l : Fin 1024) :
    part (iblk m c 0 t) (iblk m c 1 t) r l = prod (argA m c) (argB m c) ⟨1024 * (t.val) + r.val, by have := t.isLt; have := hN; omega⟩ l := by
  unfold part prod
  exact Finset.sum_congr rfl fun k _ => congrArg₂ (· * ·) (inA m c t r k) (inB m c t l k)

/-- What the launch leaves. -/
def res (a : S8192x1024.Idx → EReal) (b : S1024x1024.Idx → EReal) : S8192x1024.Idx → EReal := fun i => prod a b (i 0) (i 1)

theorem arr_res (c : Dev nD) : (dats m 0 c).arrAt 2 cfg0.N = res (argA m c) (argB m c) := by
  refine (dats m 0 c).arrAt_eq_of_covers 2 _ (by decide +kernel) fun t hf y => ?_
  blk_simp
  rw [after0_2]
  have h := idx0 t
  have hy0 : (y 0).val < 1024 := (y 0).isLt
  have hy1 : (y 1).val < 1024 := (y 1).isLt
  have hy : (y : S1024x1024.Idx) = ix2 ⟨(y 0).val, hy0⟩ ⟨(y 1).val, hy1⟩ := by funext a; match a with | ⟨0, _⟩ => rfl | ⟨1, _⟩ => rfl
  have e0 : (((win0_2.blk t).view.emb y) 0 : ℕ) = 1024 * (t.val) + (y 0).val := by blk_simp [h.2.2]; try omega
  have e1 : (((win0_2.blk t).view.emb y) 1 : ℕ) = (y 1).val := by blk_simp [h.2.2]; try omega
  refine (congrArg (out0_2 (iblk m c 0 t) (iblk m c 1 t)) hy).trans ((out_2 _ _ _ _).trans ?_)
  rw [part_eq]
  unfold res
  exact congrArg₂ (prod _ _) (Fin.ext e0.symm) (Fin.ext e1.symm)

/-- The reference's array is the same one. -/
theorem ref_res (a : S8192x1024.Idx → EReal) (b : S1024x1024.Idx → EReal) :
    val_main_v4 (F := Ideal) a b = res a b := by
  funext i
  rw [eq_ix2 i]
  pointwise [val_main_cst, val_main_v0, val_main_v1, val_main_v2, val_main_v3, val_main_v4, res, prod]

/-- The launch and the reference leave the same array. -/
theorem tie : Cert.algebraic_Kernel13Ideal_Reference13Ideal (hKernel13Ideal := Cert.Kernel13Ideal.Gen.facts)
    (hReference13Ideal := Cert.Reference13Ideal.Gen.facts) := by
  intro m g m' g' _ hagree
  refine ⟨fun c => res (argA m c) (argB m c), ?_, ?_⟩
  · refine (θ_run _ _ _).mono (fun r h c => ?_) (Cert.Kernel13Ideal.Value.run_blocks (F := Ideal) m g)
    obtain ⟨h0, k0, k1⟩ := h c
    exact ⟨h0.trans (arr_res m c), k0, k1⟩
  · refine (θ_run _ _ _).mono (fun r h c => ?_) (Cert.Reference13Ideal.Value.run (F := Ideal) m' g')
    obtain ⟨h0, k0, k1⟩ := h c
    obtain ⟨a0, a1⟩ := hagree c
    refine ⟨h0.trans ?_, k0, k1⟩
    · rw [val_main_v4_eq, a0, a1]
      exact ref_res _ _

end Cert.Prod13
-- ==== Proof.Prod14.lean ====
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import proofs.«01_k».proof.Proof.ProdSum

@[expose] public section

set_option maxRecDepth 16384

noncomputable section

open Idealize.ShloMosaic Idealize.ShloMosaic.TcCoe Idealize.SL.Sem
open Idealize.ShloMosaic.Pipeline (Dat)

/-! Program 14: a product's gradient in its weight, 1024 × 8192 × 1024 in blocks of 1024 × 1024 × 1024. -/

namespace Cert.Prod14

open Cert.Kernel14Ideal Cert.Kernel14Ideal.Gen
open Cert.Reference14Ideal.Read

/-- The product of the two operands, at a row and a column. -/
def prod (a : S8192x1024.Idx → EReal) (b : S8192x1024.Idx → EReal) (r : Fin 1024) (l : Fin 1024) : EReal :=
  ∑ k : Fin 8192, a (ix2 k r) * b (ix2 k l)

/-- One block's share of it. -/
def part (x0 : S1024x1024.Idx → EReal) (x1 : S1024x1024.Idx → EReal) (r : Fin 1024) (l : Fin 1024) : EReal :=
  ∑ k : Fin 1024, x0 (ix2 k r) * x1 (ix2 k l)

theorem idx0 : ∀ t : Fin grid0.N, win0_0.index t = ![t.val % 8, t.val / 8] ∧ win0_1.index t = ![t.val % 8, 0] ∧ win0_2.index t = ![t.val / 8, 0] := by
  decide +kernel

theorem hN : cfg0.N = 8 := N_0

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole)
  (x0 : Vec Ideal S1024x1024 .bf16) (x1 : Vec Ideal S1024x1024 .bf16)

theorem out_A (hc0 : cond0_0 i) (hc1 : ¬cond0_1 i) (r : Fin 1024) (l : Fin 1024) :
    out0_A_2 c i arg3 harg3 arg4 harg4 arg5 harg5 hc0 hc1 x0 x1 (ix2 r l) = 0 + part x0 x1 r l := by
  unfold out0_A_2
  rw [View.read_writes_eq_canon _ _ _ (fun y => cover0_A_2 (y := y) ..)]
  unfold kernelRun0_A
  dsimp only
  sl_unfold_words
  rw [View.canon_unit_zero Cert.Prod.hz]
  simp only [View.readAt_eq_ld, harg3.read_unread, harg4.read_unread, harg5.read_unread, View.ld_unit_zero (S := S1024x1024) Cert.Prod.hz]
  unfold_payloads
  pointwise [part]

theorem out_B (hc0 : ¬cond0_0 i) (hc1 : cond0_1 i) (xo : Vec Ideal S1024x1024 .f32) (r : Fin 1024) (l : Fin 1024) :
    out0_B_2 c i arg3 harg3 arg4 harg4 arg5 harg5 hc0 hc1 x0 x1 xo (ix2 r l) = xo (ix2 r l) + part x0 x1 r l := by
  unfold out0_B_2
  rw [View.read_writes_eq_canon _ _ _ (fun y => cover0_B_2 (y := y) ..)]
  unfold kernelRun0_B
  dsimp only
  sl_unfold_words
  rw [View.canon_unit_zero Cert.Prod.hz]
  simp only [View.readAt_eq_ld, harg3.read_unread, harg4.read_unread, harg5.read_unread, View.ld_unit_zero (S := S1024x1024) Cert.Prod.hz]
  unfold_payloads
  pointwise [part]

variable (m : (ℓ : Loc nD τ sig) → Buf (Elt Ideal) ℓ)

/-- The arguments, as arrays. -/
abbrev argA (c : Dev nD) : S8192x1024.Idx → EReal := m ((c : Thread nD τ).loc main_arg0)
abbrev argB (c : Dev nD) : S8192x1024.Idx → EReal := m ((c : Thread nD τ).loc main_arg1)

theorem inA (c : Dev nD) (t : Fin cfg0.N) (k : Fin 1024) (r : Fin 1024) :
    (iblk m c 0 t : S1024x1024.Idx → EReal) (ix2 k r) = argA m c (ix2 ⟨1024 * (t.val % 8) + k.val, by have := t.isLt; have := hN; omega⟩ ⟨1024 * (t.val / 8) + r.val, by have := t.isLt; have := hN; omega⟩) := by
  have h := idx0 t
  unfold argA
  blk_ext [iblk, V, h.1]

theorem inB (c : Dev nD) (t : Fin cfg0.N) (k : Fin 1024) (l : Fin 1024) :
    (iblk m c 1 t : S1024x1024.Idx → EReal) (ix2 k l) = argB m c (ix2 ⟨1024 * (t.val % 8) + k.val, by have := t.isLt; have := hN; omega⟩ l) := by
  have h := idx0 t
  unfold argB
  blk_ext [iblk, V, h.2.1]

theorem after2 (c : Dev nD) (t : Fin cfg0.N) (hf : (cfg0.win 2).flush t = true) (r : Fin 1024) (l : Fin 1024) :
    outsAt0 m c t.val t.isLt (ix2 r l) = prod (argA m c) (argB m c) ⟨1024 * (t.val / 8) + r.val, by have := t.isLt; have := hN; omega⟩ l := by
  have hr : t.val % 8 = 7 := (flush0_2 t).mp hf
  rw [Pipeline.eq_sum_fin_of_reset_step_apply_of_flush (fun n h => outsAt0 m c n h) 8 (fun _ => 0)
    (fun s y => part (iblk m c 0 s) (iblk m c 1 s) (y 0) (y 1))
    (fun t h j => by
      rw [outsAt0_A m c t h (by have := t.isLt; have := hN; omega), eq_ix2 j]
      exact out_A ..)
    (fun t h j => by
      rw [outsAt0_B m c t h (by have := t.isLt; have := hN; omega), eq_ix2 j]
      exact out_B ..) t hr (ix2 r l), zero_add]
  unfold prod part
  refine Cert.Prod.sum_blocks (by norm_num) _ _ fun s k => ?_
  show @HMul.hMul EReal EReal EReal _ (iblk m c 0 _ (ix2 k r)) (iblk m c 1 _ (ix2 k l)) = _
  refine congrArg₂ (· * ·) ((inA m c _ _ _).trans ?_) ((inB m c _ _ _).trans ?_)
  · refine congrArg (argA m c) (Cert.Prod.ix2_ext ?_ ?_) <;> (try dsimp only) <;> have := t.isLt <;> have := hN <;> have := s.isLt <;> omega
  · refine congrArg (argB m c) (Cert.Prod.ix2_ext ?_ ?_) <;> (try dsimp only) <;> have := t.isLt <;> have := hN <;> have := s.isLt <;> omega

/-- What the launch leaves. -/
def res (a : S8192x1024.Idx → EReal) (b : S8192x1024.Idx → EReal) : S1024x1024.Idx → EReal := fun i => prod a b (i 0) (i 1)

theorem arr_res (c : Dev nD) : (dats m 0 c).arrAt 2 cfg0.N = res (argA m c) (argB m c) := by
  refine (dats m 0 c).arrAt_eq_of_covers 2 _ (by decide +kernel) fun t hf y => ?_
  blk_simp
  rw [after0_2]
  have h := idx0 t
  have e0 : (((win0_2.blk t).view.emb y) 0 : ℕ) = 1024 * (t.val / 8) + (y 0).val := by blk_simp [h.2.2]; try omega
  have e1 : (((win0_2.blk t).view.emb y) 1 : ℕ) = (y 1).val := by blk_simp [h.2.2]; try omega
  refine (congrArg (outsAt0 m c t.val t.isLt) (eq_ix2 y)).trans ((after2 m c t hf _ _).trans ?_)
  unfold res
  exact congrArg₂ (prod _ _) (Fin.ext e0.symm) (Fin.ext e1.symm)

/-- The reference's array is the same one. -/
theorem ref_res (a : S8192x1024.Idx → EReal) (b : S8192x1024.Idx → EReal) :
    val_main_v5 (F := Ideal) a b = res a b := by
  funext i
  rw [eq_ix2 i]
  pointwise [val_main_cst, val_main_v0, val_main_v1, val_main_v2, val_main_v3, val_main_v4, val_main_v5, res, prod]
  exact Finset.sum_congr rfl fun _ _ => mul_comm _ _

/-- The launch and the reference leave the same array. -/
theorem tie : Cert.algebraic_Kernel14Ideal_Reference14Ideal (hKernel14Ideal := Cert.Kernel14Ideal.Gen.facts)
    (hReference14Ideal := Cert.Reference14Ideal.Gen.facts) := by
  intro m g m' g' _ hagree
  refine ⟨fun c => res (argA m c) (argB m c), ?_, ?_⟩
  · refine (θ_run _ _ _).mono (fun r h c => ?_) (Cert.Kernel14Ideal.Value.run_blocks (F := Ideal) m g)
    obtain ⟨h0, k0, k1⟩ := h c
    exact ⟨h0.trans (arr_res m c), k0, k1⟩
  · refine (θ_run _ _ _).mono (fun r h c => ?_) (Cert.Reference14Ideal.Value.run (F := Ideal) m' g')
    obtain ⟨h0, k0, k1⟩ := h c
    obtain ⟨a0, a1⟩ := hagree c
    refine ⟨h0.trans ?_, k0, k1⟩
    · rw [val_main_v5_eq, a0, a1]
      exact ref_res _ _

end Cert.Prod14
-- ==== Proof.Prod15.lean ====
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import proofs.«01_k».proof.Proof.ProdSum

@[expose] public section

set_option maxRecDepth 16384

noncomputable section

open Idealize.ShloMosaic Idealize.ShloMosaic.TcCoe Idealize.SL.Sem
open Idealize.ShloMosaic.Pipeline (Dat)

/-! Program 15: a product, 8192 × 1024 × 1024 in blocks of 1024 × 1024 × 1024. -/

namespace Cert.Prod15

open Cert.Kernel15Ideal Cert.Kernel15Ideal.Gen
open Cert.Reference15Ideal.Read

/-- The product of the two operands, at a row and a column. -/
def prod (a : S8192x1024.Idx → EReal) (b : S1024x1024.Idx → EReal) (r : Fin 8192) (l : Fin 1024) : EReal :=
  ∑ k : Fin 1024, a (ix2 r k) * b (ix2 k l)

/-- One block's share of it. -/
def part (x0 : S1024x1024.Idx → EReal) (x1 : S1024x1024.Idx → EReal) (r : Fin 1024) (l : Fin 1024) : EReal :=
  ∑ k : Fin 1024, x0 (ix2 r k) * x1 (ix2 k l)

theorem idx0 : ∀ t : Fin grid0.N, win0_0.index t = ![t.val, 0] ∧ win0_1.index t = ![0, 0] ∧ win0_2.index t = ![t.val, 0] := by
  decide +kernel

theorem hN : cfg0.N = 8 := N_0

theorem out_2 (x0 : S1024x1024.Idx → EReal) (x1 : S1024x1024.Idx → EReal) (r : Fin 1024) (l : Fin 1024) :
    out0_2 (F := Ideal) x0 x1 (ix2 r l) = part x0 x1 r l := by
  unfold out0_2 r0_0
  rw [View.canon_unit_zero Cert.Prod.hz]
  simp only [View.ld_unit_zero (S := S1024x1024) Cert.Prod.hz]
  unfold_payloads
  pointwise [part]

variable (m : (ℓ : Loc nD τ sig) → Buf (Elt Ideal) ℓ)

/-- The arguments, as arrays. -/
abbrev argA (c : Dev nD) : S8192x1024.Idx → EReal := m ((c : Thread nD τ).loc main_arg0)
abbrev argB (c : Dev nD) : S1024x1024.Idx → EReal := m ((c : Thread nD τ).loc main_arg1)

theorem inA (c : Dev nD) (t : Fin cfg0.N) (r : Fin 1024) (k : Fin 1024) :
    (iblk m c 0 t : S1024x1024.Idx → EReal) (ix2 r k) = argA m c (ix2 ⟨1024 * (t.val) + r.val, by have := t.isLt; have := hN; omega⟩ k) := by
  have h := idx0 t
  unfold argA
  blk_ext [iblk, V, h.1]

theorem inB (c : Dev nD) (t : Fin cfg0.N) (k : Fin 1024) (l : Fin 1024) :
    (iblk m c 1 t : S1024x1024.Idx → EReal) (ix2 k l) = argB m c (ix2 k l) := by
  have h := idx0 t
  unfold argB
  blk_ext [iblk, V, h.2.1]

theorem part_eq (c : Dev nD) (t : Fin cfg0.N) (r : Fin 1024) (l : Fin 1024) :
    part (iblk m c 0 t) (iblk m c 1 t) r l = prod (argA m c) (argB m c) ⟨1024 * (t.val) + r.val, by have := t.isLt; have := hN; omega⟩ l := by
  unfold part prod
  exact Finset.sum_congr rfl fun k _ => congrArg₂ (· * ·) (inA m c t r k) (inB m c t k l)

/-- What the launch leaves. -/
def res (a : S8192x1024.Idx → EReal) (b : S1024x1024.Idx → EReal) : S8192x1024.Idx → EReal := fun i => prod a b (i 0) (i 1)

theorem arr_res (c : Dev nD) : (dats m 0 c).arrAt 2 cfg0.N = res (argA m c) (argB m c) := by
  refine (dats m 0 c).arrAt_eq_of_covers 2 _ (by decide +kernel) fun t hf y => ?_
  blk_simp
  rw [after0_2]
  have h := idx0 t
  have hy0 : (y 0).val < 1024 := (y 0).isLt
  have hy1 : (y 1).val < 1024 := (y 1).isLt
  have hy : (y : S1024x1024.Idx) = ix2 ⟨(y 0).val, hy0⟩ ⟨(y 1).val, hy1⟩ := by funext a; match a with | ⟨0, _⟩ => rfl | ⟨1, _⟩ => rfl
  have e0 : (((win0_2.blk t).view.emb y) 0 : ℕ) = 1024 * (t.val) + (y 0).val := by blk_simp [h.2.2]; try omega
  have e1 : (((win0_2.blk t).view.emb y) 1 : ℕ) = (y 1).val := by blk_simp [h.2.2]; try omega
  refine (congrArg (out0_2 (iblk m c 0 t) (iblk m c 1 t)) hy).trans ((out_2 _ _ _ _).trans ?_)
  rw [part_eq]
  unfold res
  exact congrArg₂ (prod _ _) (Fin.ext e0.symm) (Fin.ext e1.symm)

/-- The reference's array is the same one. -/
theorem ref_res (a : S8192x1024.Idx → EReal) (b : S1024x1024.Idx → EReal) :
    val_main_v2 (F := Ideal) a b = res a b := by
  funext i
  rw [eq_ix2 i]
  pointwise [val_main_v0, val_main_v1, val_main_v2, res, prod]

/-- The launch and the reference leave the same array. -/
theorem tie : Cert.algebraic_Kernel15Ideal_Reference15Ideal (hKernel15Ideal := Cert.Kernel15Ideal.Gen.facts)
    (hReference15Ideal := Cert.Reference15Ideal.Gen.facts) := by
  intro m g m' g' _ hagree
  refine ⟨fun c => res (argA m c) (argB m c), ?_, ?_⟩
  · refine (θ_run _ _ _).mono (fun r h c => ?_) (Cert.Kernel15Ideal.Value.run_blocks (F := Ideal) m g)
    obtain ⟨h0, k0, k1⟩ := h c
    exact ⟨h0.trans (arr_res m c), k0, k1⟩
  · refine (θ_run _ _ _).mono (fun r h c => ?_) (Cert.Reference15Ideal.Value.run (F := Ideal) m' g')
    obtain ⟨h0, k0, k1⟩ := h c
    obtain ⟨a0, a1⟩ := hagree c
    refine ⟨h0.trans ?_, k0, k1⟩
    · rw [val_main_v2_eq, a0, a1]
      exact ref_res _ _

end Cert.Prod15
-- ==== Proof.Prod16.lean ====
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import proofs.«01_k».proof.Proof.ProdSum

@[expose] public section

set_option maxRecDepth 16384

noncomputable section

open Idealize.ShloMosaic Idealize.ShloMosaic.TcCoe Idealize.SL.Sem
open Idealize.ShloMosaic.Pipeline (Dat)

/-! Program 16: the gradient in the operand of a product by a transposed weight, 9216 × 1792 × 1024 in blocks of 1024 × 1792 × 1024. -/

namespace Cert.Prod16

open Cert.Kernel16Ideal Cert.Kernel16Ideal.Gen
open Cert.Reference16Ideal.Read

/-- The product of the two operands, at a row and a column. -/
def prod (a : S9216x1792.Idx → EReal) (b : S1792x1024.Idx → EReal) (r : Fin 9216) (l : Fin 1024) : EReal :=
  ∑ k : Fin 1792, a (ix2 r k) * b (ix2 k l)

/-- One block's share of it. -/
def part (x0 : S1024x1792.Idx → EReal) (x1 : S1792x1024.Idx → EReal) (r : Fin 1024) (l : Fin 1024) : EReal :=
  ∑ k : Fin 1792, x0 (ix2 r k) * x1 (ix2 k l)

theorem idx0 : ∀ t : Fin grid0.N, win0_0.index t = ![t.val, 0] ∧ win0_1.index t = ![0, 0] ∧ win0_2.index t = ![t.val, 0] := by
  decide +kernel

theorem hN : cfg0.N = 9 := N_0

theorem out_2 (x0 : S1024x1792.Idx → EReal) (x1 : S1792x1024.Idx → EReal) (r : Fin 1024) (l : Fin 1024) :
    out0_2 (F := Ideal) x0 x1 (ix2 r l) = part x0 x1 r l := by
  unfold out0_2 r0_0
  rw [View.canon_unit_zero Cert.Prod.hz]
  simp only [View.ld_unit_zero (S := S1024x1792) Cert.Prod.hz, View.ld_unit_zero (S := S1792x1024) Cert.Prod.hz]
  unfold_payloads
  pointwise [part]

variable (m : (ℓ : Loc nD τ sig) → Buf (Elt Ideal) ℓ)

/-- The arguments, as arrays. -/
abbrev argA (c : Dev nD) : S9216x1792.Idx → EReal := m ((c : Thread nD τ).loc main_arg0)
abbrev argB (c : Dev nD) : S1792x1024.Idx → EReal := m ((c : Thread nD τ).loc main_arg1)

theorem inA (c : Dev nD) (t : Fin cfg0.N) (r : Fin 1024) (k : Fin 1792) :
    (iblk m c 0 t : S1024x1792.Idx → EReal) (ix2 r k) = argA m c (ix2 ⟨1024 * (t.val) + r.val, by have := t.isLt; have := hN; omega⟩ k) := by
  have h := idx0 t
  unfold argA
  blk_ext [iblk, V, h.1]

theorem inB (c : Dev nD) (t : Fin cfg0.N) (k : Fin 1792) (l : Fin 1024) :
    (iblk m c 1 t : S1792x1024.Idx → EReal) (ix2 k l) = argB m c (ix2 k l) := by
  have h := idx0 t
  unfold argB
  blk_ext [iblk, V, h.2.1]

theorem part_eq (c : Dev nD) (t : Fin cfg0.N) (r : Fin 1024) (l : Fin 1024) :
    part (iblk m c 0 t) (iblk m c 1 t) r l = prod (argA m c) (argB m c) ⟨1024 * (t.val) + r.val, by have := t.isLt; have := hN; omega⟩ l := by
  unfold part prod
  exact Finset.sum_congr rfl fun k _ => congrArg₂ (· * ·) (inA m c t r k) (inB m c t k l)

/-- What the launch leaves. -/
def res (a : S9216x1792.Idx → EReal) (b : S1792x1024.Idx → EReal) : S9216x1024.Idx → EReal := fun i => prod a b (i 0) (i 1)

theorem arr_res (c : Dev nD) : (dats m 0 c).arrAt 2 cfg0.N = res (argA m c) (argB m c) := by
  refine (dats m 0 c).arrAt_eq_of_covers 2 _ (by decide +kernel) fun t hf y => ?_
  blk_simp
  rw [after0_2]
  have h := idx0 t
  have hy0 : (y 0).val < 1024 := (y 0).isLt
  have hy1 : (y 1).val < 1024 := (y 1).isLt
  have hy : (y : S1024x1024.Idx) = ix2 ⟨(y 0).val, hy0⟩ ⟨(y 1).val, hy1⟩ := by funext a; match a with | ⟨0, _⟩ => rfl | ⟨1, _⟩ => rfl
  have e0 : (((win0_2.blk t).view.emb y) 0 : ℕ) = 1024 * (t.val) + (y 0).val := by blk_simp [h.2.2]; try omega
  have e1 : (((win0_2.blk t).view.emb y) 1 : ℕ) = (y 1).val := by blk_simp [h.2.2]; try omega
  refine (congrArg (out0_2 (iblk m c 0 t) (iblk m c 1 t)) hy).trans ((out_2 _ _ _ _).trans ?_)
  rw [part_eq]
  unfold res
  exact congrArg₂ (prod _ _) (Fin.ext e0.symm) (Fin.ext e1.symm)

/-- The reference's array is the same one. -/
theorem ref_res (a : S9216x1792.Idx → EReal) (b : S1792x1024.Idx → EReal) :
    val_main_v4 (F := Ideal) a b = res a b := by
  funext i
  rw [eq_ix2 i]
  pointwise [val_main_cst, val_main_v0, val_main_v1, val_main_v2, val_main_v3, val_main_v4, res, prod]

/-- The launch and the reference leave the same array. -/
theorem tie : Cert.algebraic_Kernel16Ideal_Reference16Ideal (hKernel16Ideal := Cert.Kernel16Ideal.Gen.facts)
    (hReference16Ideal := Cert.Reference16Ideal.Gen.facts) := by
  intro m g m' g' _ hagree
  refine ⟨fun c => res (argA m c) (argB m c), ?_, ?_⟩
  · refine (θ_run _ _ _).mono (fun r h c => ?_) (Cert.Kernel16Ideal.Value.run_blocks (F := Ideal) m g)
    obtain ⟨h0, k0, k1⟩ := h c
    exact ⟨h0.trans (arr_res m c), k0, k1⟩
  · refine (θ_run _ _ _).mono (fun r h c => ?_) (Cert.Reference16Ideal.Value.run (F := Ideal) m' g')
    obtain ⟨h0, k0, k1⟩ := h c
    obtain ⟨a0, a1⟩ := hagree c
    refine ⟨h0.trans ?_, k0, k1⟩
    · rw [val_main_v4_eq, a0, a1]
      exact ref_res _ _

end Cert.Prod16
-- ==== Proof.Prod17.lean ====
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import proofs.«01_k».proof.Proof.ProdSum

@[expose] public section

set_option maxRecDepth 16384

noncomputable section

open Idealize.ShloMosaic Idealize.ShloMosaic.TcCoe Idealize.SL.Sem
open Idealize.ShloMosaic.Pipeline (Dat)

/-! Program 17: the gradient in the weight of a product by a transposed weight, 1792 × 9216 × 1024 in blocks of 896 × 1024 × 1024. -/

namespace Cert.Prod17

open Cert.Kernel17Ideal Cert.Kernel17Ideal.Gen
open Cert.Reference17Ideal.Read

/-- The product of the two operands, at a row and a column. -/
def prod (a : S9216x1792.Idx → EReal) (b : S9216x1024.Idx → EReal) (r : Fin 1792) (l : Fin 1024) : EReal :=
  ∑ k : Fin 9216, a (ix2 k r) * b (ix2 k l)

/-- One block's share of it. -/
def part (x0 : S1024x896.Idx → EReal) (x1 : S1024x1024.Idx → EReal) (r : Fin 896) (l : Fin 1024) : EReal :=
  ∑ k : Fin 1024, x0 (ix2 k r) * x1 (ix2 k l)

theorem idx0 : ∀ t : Fin grid0.N, win0_0.index t = ![t.val % 9, t.val / 9] ∧ win0_1.index t = ![t.val % 9, 0] ∧ win0_2.index t = ![t.val / 9, 0] := by
  decide +kernel

theorem hN : cfg0.N = 18 := N_0

variable (c : Dev nD) (i : grid0.Coords) (arg3 : Memref sig .tc .vmem S1024x896 .f32) (harg3 : arg3.IsWhole) (arg4 : Memref sig .tc .vmem S1024x1024 .bf16) (harg4 : arg4.IsWhole) (arg5 : Memref sig .tc .vmem S896x1024 .f32) (harg5 : arg5.IsWhole)
  (x0 : Vec Ideal S1024x896 .f32) (x1 : Vec Ideal S1024x1024 .bf16)

theorem out_A (hc0 : cond0_0 i) (hc1 : ¬cond0_1 i) (r : Fin 896) (l : Fin 1024) :
    out0_A_2 c i arg3 harg3 arg4 harg4 arg5 harg5 hc0 hc1 x0 x1 (ix2 r l) = 0 + part x0 x1 r l := by
  unfold out0_A_2
  rw [View.read_writes_eq_canon _ _ _ (fun y => cover0_A_2 (y := y) ..)]
  unfold kernelRun0_A
  dsimp only
  sl_unfold_words
  rw [View.canon_unit_zero Cert.Prod.hz]
  simp only [View.readAt_eq_ld, harg3.read_unread, harg4.read_unread, harg5.read_unread, View.ld_unit_zero (S := S1024x896) Cert.Prod.hz, View.ld_unit_zero (S := S1024x1024) Cert.Prod.hz, View.ld_unit_zero (S := S896x1024) Cert.Prod.hz]
  unfold_payloads
  pointwise [part]

theorem out_B (hc0 : ¬cond0_0 i) (hc1 : cond0_1 i) (xo : Vec Ideal S896x1024 .f32) (r : Fin 896) (l : Fin 1024) :
    out0_B_2 c i arg3 harg3 arg4 harg4 arg5 harg5 hc0 hc1 x0 x1 xo (ix2 r l) = xo (ix2 r l) + part x0 x1 r l := by
  unfold out0_B_2
  rw [View.read_writes_eq_canon _ _ _ (fun y => cover0_B_2 (y := y) ..)]
  unfold kernelRun0_B
  dsimp only
  sl_unfold_words
  rw [View.canon_unit_zero Cert.Prod.hz]
  simp only [View.readAt_eq_ld, harg3.read_unread, harg4.read_unread, harg5.read_unread, View.ld_unit_zero (S := S1024x896) Cert.Prod.hz, View.ld_unit_zero (S := S1024x1024) Cert.Prod.hz, View.ld_unit_zero (S := S896x1024) Cert.Prod.hz]
  unfold_payloads
  pointwise [part]

variable (m : (ℓ : Loc nD τ sig) → Buf (Elt Ideal) ℓ)

/-- The arguments, as arrays. -/
abbrev argA (c : Dev nD) : S9216x1792.Idx → EReal := m ((c : Thread nD τ).loc main_arg0)
abbrev argB (c : Dev nD) : S9216x1024.Idx → EReal := m ((c : Thread nD τ).loc main_arg1)

theorem inA (c : Dev nD) (t : Fin cfg0.N) (k : Fin 1024) (r : Fin 896) :
    (iblk m c 0 t : S1024x896.Idx → EReal) (ix2 k r) = argA m c (ix2 ⟨1024 * (t.val % 9) + k.val, by have := t.isLt; have := hN; omega⟩ ⟨896 * (t.val / 9) + r.val, by have := t.isLt; have := hN; omega⟩) := by
  have h := idx0 t
  unfold argA
  blk_ext [iblk, V, h.1]

theorem inB (c : Dev nD) (t : Fin cfg0.N) (k : Fin 1024) (l : Fin 1024) :
    (iblk m c 1 t : S1024x1024.Idx → EReal) (ix2 k l) = argB m c (ix2 ⟨1024 * (t.val % 9) + k.val, by have := t.isLt; have := hN; omega⟩ l) := by
  have h := idx0 t
  unfold argB
  blk_ext [iblk, V, h.2.1]

theorem after2 (c : Dev nD) (t : Fin cfg0.N) (hf : (cfg0.win 2).flush t = true) (r : Fin 896) (l : Fin 1024) :
    outsAt0 m c t.val t.isLt (ix2 r l) = prod (argA m c) (argB m c) ⟨896 * (t.val / 9) + r.val, by have := t.isLt; have := hN; omega⟩ l := by
  have hr : t.val % 9 = 8 := (flush0_2 t).mp hf
  rw [Pipeline.eq_sum_fin_of_reset_step_apply_of_flush (fun n h => outsAt0 m c n h) 9 (fun _ => 0)
    (fun s y => part (iblk m c 0 s) (iblk m c 1 s) (y 0) (y 1))
    (fun t h j => by
      rw [outsAt0_A m c t h (by have := t.isLt; have := hN; omega), eq_ix2 j]
      exact out_A ..)
    (fun t h j => by
      rw [outsAt0_B m c t h (by have := t.isLt; have := hN; omega), eq_ix2 j]
      exact out_B ..) t hr (ix2 r l), zero_add]
  unfold prod part
  refine Cert.Prod.sum_blocks (by norm_num) _ _ fun s k => ?_
  show @HMul.hMul EReal EReal EReal _ (iblk m c 0 _ (ix2 k r)) (iblk m c 1 _ (ix2 k l)) = _
  refine congrArg₂ (· * ·) ((inA m c _ _ _).trans ?_) ((inB m c _ _ _).trans ?_)
  · refine congrArg (argA m c) (Cert.Prod.ix2_ext ?_ ?_) <;> (try dsimp only) <;> have := t.isLt <;> have := hN <;> have := s.isLt <;> omega
  · refine congrArg (argB m c) (Cert.Prod.ix2_ext ?_ ?_) <;> (try dsimp only) <;> have := t.isLt <;> have := hN <;> have := s.isLt <;> omega

/-- What the launch leaves. -/
def res (a : S9216x1792.Idx → EReal) (b : S9216x1024.Idx → EReal) : S1792x1024.Idx → EReal := fun i => prod a b (i 0) (i 1)

theorem arr_res (c : Dev nD) : (dats m 0 c).arrAt 2 cfg0.N = res (argA m c) (argB m c) := by
  refine (dats m 0 c).arrAt_eq_of_covers 2 _ (by decide +kernel) fun t hf y => ?_
  blk_simp
  rw [after0_2]
  have h := idx0 t
  have e0 : (((win0_2.blk t).view.emb y) 0 : ℕ) = 896 * (t.val / 9) + (y 0).val := by blk_simp [h.2.2]; try omega
  have e1 : (((win0_2.blk t).view.emb y) 1 : ℕ) = (y 1).val := by blk_simp [h.2.2]; try omega
  refine (congrArg (outsAt0 m c t.val t.isLt) (eq_ix2 y)).trans ((after2 m c t hf _ _).trans ?_)
  unfold res
  exact congrArg₂ (prod _ _) (Fin.ext e0.symm) (Fin.ext e1.symm)

/-- The reference's array is the same one. -/
theorem ref_res (a : S9216x1792.Idx → EReal) (b : S9216x1024.Idx → EReal) :
    val_main_v6 (F := Ideal) a b = res a b := by
  funext i
  rw [eq_ix2 i]
  pointwise [val_main_cst, val_main_v0, val_main_v1, val_main_v2, val_main_v3, val_main_v4, val_main_v5, val_main_v6, res, prod]

/-- The launch and the reference leave the same array. -/
theorem tie : Cert.algebraic_Kernel17Ideal_Reference17Ideal (hKernel17Ideal := Cert.Kernel17Ideal.Gen.facts)
    (hReference17Ideal := Cert.Reference17Ideal.Gen.facts) := by
  intro m g m' g' _ hagree
  refine ⟨fun c => res (argA m c) (argB m c), ?_, ?_⟩
  · refine (θ_run _ _ _).mono (fun r h c => ?_) (Cert.Kernel17Ideal.Value.run_blocks (F := Ideal) m g)
    obtain ⟨h0, k0, k1⟩ := h c
    exact ⟨h0.trans (arr_res m c), k0, k1⟩
  · refine (θ_run _ _ _).mono (fun r h c => ?_) (Cert.Reference17Ideal.Value.run (F := Ideal) m' g')
    obtain ⟨h0, k0, k1⟩ := h c
    obtain ⟨a0, a1⟩ := hagree c
    refine ⟨h0.trans ?_, k0, k1⟩
    · rw [val_main_v6_eq, a0, a1]
      exact ref_res _ _

end Cert.Prod17
-- ==== Proof.Prod18.lean ====
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import proofs.«01_k».proof.Proof.ProdSum

@[expose] public section

set_option maxRecDepth 16384

noncomputable section

open Idealize.ShloMosaic Idealize.ShloMosaic.TcCoe Idealize.SL.Sem
open Idealize.ShloMosaic.Pipeline (Dat)

/-! Program 18: a product by a transposed weight, 9216 × 1024 × 1792 in blocks of 1024 × 1024 × 896. -/

namespace Cert.Prod18

open Cert.Kernel18Ideal Cert.Kernel18Ideal.Gen
open Cert.Reference18Ideal.Read

/-- The product of the two operands, at a row and a column. -/
def prod (a : S9216x1024.Idx → EReal) (b : S1792x1024.Idx → EReal) (r : Fin 9216) (l : Fin 1792) : EReal :=
  ∑ k : Fin 1024, a (ix2 r k) * b (ix2 l k)

/-- One block's share of it. -/
def part (x0 : S1024x1024.Idx → EReal) (x1 : S896x1024.Idx → EReal) (r : Fin 1024) (l : Fin 896) : EReal :=
  ∑ k : Fin 1024, x0 (ix2 r k) * x1 (ix2 l k)

theorem idx0 : ∀ t : Fin grid0.N, win0_0.index t = ![t.val / 2, 0] ∧ win0_1.index t = ![t.val % 2, 0] ∧ win0_2.index t = ![t.val / 2, t.val % 2] := by
  decide +kernel

theorem hN : cfg0.N = 18 := N_0

theorem out_2 (x0 : S1024x1024.Idx → EReal) (x1 : S896x1024.Idx → EReal) (r : Fin 1024) (l : Fin 896) :
    out0_2 (F := Ideal) x0 x1 (ix2 r l) = part x0 x1 r l := by
  unfold out0_2 r0_0
  rw [View.canon_unit_zero Cert.Prod.hz]
  simp only [View.ld_unit_zero (S := S1024x1024) Cert.Prod.hz, View.ld_unit_zero (S := S896x1024) Cert.Prod.hz]
  unfold_payloads
  pointwise [part]

variable (m : (ℓ : Loc nD τ sig) → Buf (Elt Ideal) ℓ)

/-- The arguments, as arrays. -/
abbrev argA (c : Dev nD) : S9216x1024.Idx → EReal := m ((c : Thread nD τ).loc main_arg0)
abbrev argB (c : Dev nD) : S1792x1024.Idx → EReal := m ((c : Thread nD τ).loc main_arg1)

theorem inA (c : Dev nD) (t : Fin cfg0.N) (r : Fin 1024) (k : Fin 1024) :
    (iblk m c 0 t : S1024x1024.Idx → EReal) (ix2 r k) = argA m c (ix2 ⟨1024 * (t.val / 2) + r.val, by have := t.isLt; have := hN; omega⟩ k) := by
  have h := idx0 t
  unfold argA
  blk_ext [iblk, V, h.1]

theorem inB (c : Dev nD) (t : Fin cfg0.N) (l : Fin 896) (k : Fin 1024) :
    (iblk m c 1 t : S896x1024.Idx → EReal) (ix2 l k) = argB m c (ix2 ⟨896 * (t.val % 2) + l.val, by have := t.isLt; have := hN; omega⟩ k) := by
  have h := idx0 t
  unfold argB
  blk_ext [iblk, V, h.2.1]

theorem part_eq (c : Dev nD) (t : Fin cfg0.N) (r : Fin 1024) (l : Fin 896) :
    part (iblk m c 0 t) (iblk m c 1 t) r l = prod (argA m c) (argB m c) ⟨1024 * (t.val / 2) + r.val, by have := t.isLt; have := hN; omega⟩ ⟨896 * (t.val % 2) + l.val, by have := t.isLt; have := hN; omega⟩ := by
  unfold part prod
  exact Finset.sum_congr rfl fun k _ => congrArg₂ (· * ·) (inA m c t r k) (inB m c t l k)

/-- What the launch leaves. -/
def res (a : S9216x1024.Idx → EReal) (b : S1792x1024.Idx → EReal) : S9216x1792.Idx → EReal := fun i => prod a b (i 0) (i 1)

theorem arr_res (c : Dev nD) : (dats m 0 c).arrAt 2 cfg0.N = res (argA m c) (argB m c) := by
  refine (dats m 0 c).arrAt_eq_of_covers 2 _ (by decide +kernel) fun t hf y => ?_
  blk_simp
  rw [after0_2]
  have h := idx0 t
  have hy0 : (y 0).val < 1024 := (y 0).isLt
  have hy1 : (y 1).val < 896 := (y 1).isLt
  have hy : (y : S1024x896.Idx) = ix2 ⟨(y 0).val, hy0⟩ ⟨(y 1).val, hy1⟩ := by funext a; match a with | ⟨0, _⟩ => rfl | ⟨1, _⟩ => rfl
  have e0 : (((win0_2.blk t).view.emb y) 0 : ℕ) = 1024 * (t.val / 2) + (y 0).val := by blk_simp [h.2.2]; try omega
  have e1 : (((win0_2.blk t).view.emb y) 1 : ℕ) = 896 * (t.val % 2) + (y 1).val := by blk_simp [h.2.2]; try omega
  refine (congrArg (out0_2 (iblk m c 0 t) (iblk m c 1 t)) hy).trans ((out_2 _ _ _ _).trans ?_)
  rw [part_eq]
  unfold res
  exact congrArg₂ (prod _ _) (Fin.ext e0.symm) (Fin.ext e1.symm)

/-- The reference's array is the same one. -/
theorem ref_res (a : S9216x1024.Idx → EReal) (b : S1792x1024.Idx → EReal) :
    val_main_v3 (F := Ideal) a b = res a b := by
  funext i
  rw [eq_ix2 i]
  pointwise [val_main_v0, val_main_v1, val_main_v2, val_main_v3, res, prod]

/-- The launch and the reference leave the same array. -/
theorem tie : Cert.algebraic_Kernel18Ideal_Reference18Ideal (hKernel18Ideal := Cert.Kernel18Ideal.Gen.facts)
    (hReference18Ideal := Cert.Reference18Ideal.Gen.facts) := by
  intro m g m' g' _ hagree
  refine ⟨fun c => res (argA m c) (argB m c), ?_, ?_⟩
  · refine (θ_run _ _ _).mono (fun r h c => ?_) (Cert.Kernel18Ideal.Value.run_blocks (F := Ideal) m g)
    obtain ⟨h0, k0, k1⟩ := h c
    exact ⟨h0.trans (arr_res m c), k0, k1⟩
  · refine (θ_run _ _ _).mono (fun r h c => ?_) (Cert.Reference18Ideal.Value.run (F := Ideal) m' g')
    obtain ⟨h0, k0, k1⟩ := h c
    obtain ⟨a0, a1⟩ := hagree c
    refine ⟨h0.trans ?_, k0, k1⟩
    · rw [val_main_v3_eq, a0, a1]
      exact ref_res _ _

end Cert.Prod18
-- ==== Proof.Adam19.lean ====
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! Program 19: the optimiser's step at weights of shape 4 × 1024 × 512, taken as 4096 rows of 512. -/

namespace Cert.Adam19

open Cert.Kernel19Ideal Cert.Kernel19Ideal.Gen
open Cert.Reference19Ideal.Read

variable (m : (ℓ : Loc nD τ sig) → Buf (Elt Ideal) ℓ)

/-- The arguments, as arrays. -/
abbrev w0 (c : Dev nD) : S4x1024x512.Idx → EReal := m ((c : Thread nD τ).loc main_arg0)
abbrev w1 (c : Dev nD) : S4x1024x512.Idx → EReal := m ((c : Thread nD τ).loc main_arg1)
abbrev w2 (c : Dev nD) : S4x1024x512.Idx → EReal := m ((c : Thread nD τ).loc main_arg2)
abbrev w3 (c : Dev nD) : S4x1024x512.Idx → EReal := m ((c : Thread nD τ).loc main_arg3)
/-- The entry that a point's row and lane stand for. -/
abbrev ent (t : Fin cfg0.N) (y : S512x512.Idx) : S4x1024x512.Idx := Shape.reshapeEquiv shapeCasts_S4x1024x512_S4096x512 ((win0_4.blk t).view.emb y)

theorem idx0 : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] := by
  decide +kernel

variable (c : Dev nD) (t : Fin cfg0.N) (y : S512x512.Idx)

/-- What the launch reads of argument 0 at a point: the argument at the entry the row and the lane stand for. -/
theorem in0 : iblk m c 0 t y = w0 m c (ent t y) := by
  have h : iblk m c 0 t y = (V m c main_v0 : S4096x512.Idx → EReal) ((win0_4.blk t).view.emb y) := by
    blk_ext [iblk, idx0 t]
  rw [h]
  entry_read
  rfl

theorem in1 : iblk m c 1 t y = w1 m c (ent t y) := by
  have h : iblk m c 1 t y = (V m c main_v1 : S4096x512.Idx → EReal) ((win0_4.blk t).view.emb y) := by
    blk_ext [iblk, idx0 t]
  rw [h]
  entry_read
  rfl

theorem in2 : iblk m c 2 t y = w2 m c (ent t y) := by
  have h : iblk m c 2 t y = (V m c main_v2 : S4096x512.Idx → EReal) ((win0_4.blk t).view.emb y) := by
    blk_ext [iblk, idx0 t]
  rw [h]
  entry_read
  rfl

theorem in3 : iblk m c 3 t y = w3 m c (ent t y) := by
  have h : iblk m c 3 t y = (V m c main_v3 : S4096x512.Idx → EReal) ((win0_4.blk t).view.emb y) := by
    blk_ext [iblk, idx0 t]
  rw [h]
  entry_read
  rfl

/-- Result 0: the launch's array is the reference's formula of the arguments. -/
theorem arr4 (c : Dev nD) : (dats m 0 c).arrAt 4 cfg0.N = val_main_v24 (F := Ideal) (w0 m c) (w1 m c) (w2 m c) (w3 m c) := by
  refine (dats m 0 c).arrAt_eq_of_covers 4 _ (by decide +kernel) fun t hf y => ?_
  blk_simp
  rw [after0_4]
  frame_out
  show _ = val_main_v23 (F := Ideal) _ _ _ _ (ent t y)
  generalize hj : ent t y = j
  pointwise [k0_pay1, k0_pay2, k0_pay3, k0_pay4, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  rw [in0, in1, in2, in3, hj]

/-- Result 1, likewise. -/
theorem arr5 (c : Dev nD) : (dats m 0 c).arrAt 5 cfg0.N = val_main_v25 (F := Ideal) (w1 m c) (w2 m c) := by
  refine (dats m 0 c).arrAt_eq_of_covers 5 _ (by decide +kernel) fun t hf y => ?_
  blk_simp
  rw [after0_5]
  frame_out
  show _ = val_main_v4 (F := Ideal) _ _ (ent t y)
  generalize hj : ent t y = j
  pointwise [k0_pay1, k0_pay2, k0_pay3, k0_pay4, val_main_cst, val_main_v0, val_main_v1, val_main_cst_0, val_main_v2, val_main_v3, val_main_v4]
  rw [in1, in2, hj]

/-- Result 2, likewise. -/
theorem arr6 (c : Dev nD) : (dats m 0 c).arrAt 6 cfg0.N = val_main_v26 (F := Ideal) (w1 m c) (w3 m c) := by
  refine (dats m 0 c).arrAt_eq_of_covers 6 _ (by decide +kernel) fun t hf y => ?_
  blk_simp
  rw [after0_6]
  frame_out
  show _ = val_main_v10 (F := Ideal) _ _ (ent t y)
  generalize hj : ent t y = j
  pointwise [k0_pay1, k0_pay2, k0_pay3, k0_pay4, val_main_cst_1, val_main_v5, val_main_v6, val_main_v7, val_main_cst_2, val_main_v8, val_main_v9, val_main_v10]
  rw [in1, in3, hj]

/-- The launch and the reference leave the same three arrays. -/
theorem tie : Cert.algebraic_Kernel19Ideal_Reference19Ideal (hKernel19Ideal := Cert.Kernel19Ideal.Gen.facts)
    (hReference19Ideal := Cert.Reference19Ideal.Gen.facts) := by
  intro m g m' g' _ hagree
  refine ⟨fun c => val_main_v24 (F := Ideal) (w0 m c) (w1 m c) (w2 m c) (w3 m c), fun c => val_main_v25 (F := Ideal) (w1 m c) (w2 m c), fun c => val_main_v26 (F := Ideal) (w1 m c) (w3 m c), ?_, ?_⟩
  · refine (θ_run _ _ _).mono (fun r h c => ?_) (Cert.Kernel19Ideal.Value.run_blocks (F := Ideal) m g)
    obtain ⟨h0, h1, h2, hk⟩ := h c
    exact ⟨h0.trans (arr4 m c), h1.trans (arr5 m c), h2.trans (arr6 m c), hk⟩
  · refine (θ_run _ _ _).mono (fun r h c => ?_) (Cert.Reference19Ideal.Value.run (F := Ideal) m' g')
    obtain ⟨h0, h1, h2, hk⟩ := h c
    obtain ⟨a0, a1, a2, a3⟩ := hagree c
    refine ⟨h0.trans ?_, h1.trans ?_, h2.trans ?_, hk⟩
    · rw [val_main_v24_eq, a0, a1, a2, a3]
    · rw [val_main_v25_eq, a1, a2]
    · rw [val_main_v26_eq, a1, a3]

end Cert.Adam19
-- ==== Proof.Adam20.lean ====
module

public import proofs.«01_k».proof.Defs
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! Program 20: the optimiser's step at weights of shape 4 × 512 × 1024, taken as 2048 rows of 1024. -/

namespace Cert.Adam20

open Cert.Kernel20Ideal Cert.Kernel20Ideal.Gen
open Cert.Reference20Ideal.Read

variable (m : (ℓ : Loc nD τ sig) → Buf (Elt Ideal) ℓ)

/-- The arguments, as arrays. -/
abbrev w0 (c : Dev nD) : S4x512x1024.Idx → EReal := m ((c : Thread nD τ).loc main_arg0)
abbrev w1 (c : Dev nD) : S4x512x1024.Idx → EReal := m ((c : Thread nD τ).loc main_arg1)
abbrev w2 (c : Dev nD) : S4x512x1024.Idx → EReal := m ((c : Thread nD τ).loc main_arg2)
abbrev w3 (c : Dev nD) : S4x512x1024.Idx → EReal := m ((c : Thread nD τ).loc main_arg3)
/-- The entry that a point's row and lane stand for. -/
abbrev ent (t : Fin cfg0.N) (y : S256x1024.Idx) : S4x512x1024.Idx := Shape.reshapeEquiv shapeCasts_S4x512x1024_S2048x1024 ((win0_4.blk t).view.emb y)

theorem idx0 : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] := by
  decide +kernel

variable (c : Dev nD) (t : Fin cfg0.N) (y : S256x1024.Idx)

/-- What the launch reads of argument 0 at a point: the argument at the entry the row and the lane stand for. -/
theorem in0 : iblk m c 0 t y = w0 m c (ent t y) := by
  have h : iblk m c 0 t y = (V m c main_v0 : S2048x1024.Idx → EReal) ((win0_4.blk t).view.emb y) := by
    blk_ext [iblk, idx0 t]
  rw [h]
  entry_read
  rfl

theorem in1 : iblk m c 1 t y = w1 m c (ent t y) := by
  have h : iblk m c 1 t y = (V m c main_v1 : S2048x1024.Idx → EReal) ((win0_4.blk t).view.emb y) := by
    blk_ext [iblk, idx0 t]
  rw [h]
  entry_read
  rfl

theorem in2 : iblk m c 2 t y = w2 m c (ent t y) := by
  have h : iblk m c 2 t y = (V m c main_v2 : S2048x1024.Idx → EReal) ((win0_4.blk t).view.emb y) := by
    blk_ext [iblk, idx0 t]
  rw [h]
  entry_read
  rfl

theorem in3 : iblk m c 3 t y = w3 m c (ent t y) := by
  have h : iblk m c 3 t y = (V m c main_v3 : S2048x1024.Idx → EReal) ((win0_4.blk t).view.emb y) := by
    blk_ext [iblk, idx0 t]
  rw [h]
  entry_read
  rfl

/-- Result 0: the launch's array is the reference's formula of the arguments. -/
theorem arr4 (c : Dev nD) : (dats m 0 c).arrAt 4 cfg0.N = val_main_v24 (F := Ideal) (w0 m c) (w1 m c) (w2 m c) (w3 m c) := by
  refine (dats m 0 c).arrAt_eq_of_covers 4 _ (by decide +kernel) fun t hf y => ?_
  blk_simp
  rw [after0_4]
  frame_out
  show _ = val_main_v23 (F := Ideal) _ _ _ _ (ent t y)
  generalize hj : ent t y = j
  pointwise [k0_pay1, k0_pay2, k0_pay3, k0_pay4, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  rw [in0, in1, in2, in3, hj]

/-- Result 1, likewise. -/
theorem arr5 (c : Dev nD) : (dats m 0 c).arrAt 5 cfg0.N = val_main_v25 (F := Ideal) (w1 m c) (w2 m c) := by
  refine (dats m 0 c).arrAt_eq_of_covers 5 _ (by decide +kernel) fun t hf y => ?_
  blk_simp
  rw [after0_5]
  frame_out
  show _ = val_main_v4 (F := Ideal) _ _ (ent t y)
  generalize hj : ent t y = j
  pointwise [k0_pay1, k0_pay2, k0_pay3, k0_pay4, val_main_cst, val_main_v0, val_main_v1, val_main_cst_0, val_main_v2, val_main_v3, val_main_v4]
  rw [in1, in2, hj]

/-- Result 2, likewise. -/
theorem arr6 (c : Dev nD) : (dats m 0 c).arrAt 6 cfg0.N = val_main_v26 (F := Ideal) (w1 m c) (w3 m c) := by
  refine (dats m 0 c).arrAt_eq_of_covers 6 _ (by decide +kernel) fun t hf y => ?_
  blk_simp
  rw [after0_6]
  frame_out
  show _ = val_main_v10 (F := Ideal) _ _ (ent t y)
  generalize hj : ent t y = j
  pointwise [k0_pay1, k0_pay2, k0_pay3, k0_pay4, val_main_cst_1, val_main_v5, val_main_v6, val_main_v7, val_main_cst_2, val_main_v8, val_main_v9, val_main_v10]
  rw [in1, in3, hj]

/-- The launch and the reference leave the same three arrays. -/
theorem tie : Cert.algebraic_Kernel20Ideal_Reference20Ideal (hKernel20Ideal := Cert.Kernel20Ideal.Gen.facts)
    (hReference20Ideal := Cert.Reference20Ideal.Gen.facts) := by
  intro m g m' g' _ hagree
  refine ⟨fun c => val_main_v24 (F := Ideal) (w0 m c) (w1 m c) (w2 m c) (w3 m c), fun c => val_main_v25 (F := Ideal) (w1 m c) (w2 m c), fun c => val_main_v26 (F := Ideal) (w1 m c) (w3 m c), ?_, ?_⟩
  · refine (θ_run _ _ _).mono (fun r h c => ?_) (Cert.Kernel20Ideal.Value.run_blocks (F := Ideal) m g)
    obtain ⟨h0, h1, h2, hk⟩ := h c
    exact ⟨h0.trans (arr4 m c), h1.trans (arr5 m c), h2.trans (arr6 m c), hk⟩
  · refine (θ_run _ _ _).mono (fun r h c => ?_) (Cert.Reference20Ideal.Value.run (F := Ideal) m' g')
    obtain ⟨h0, h1, h2, hk⟩ := h c
    obtain ⟨a0, a1, a2, a3⟩ := hagree c
    refine ⟨h0.trans ?_, h1.trans ?_, h2.trans ?_, hk⟩
    · rw [val_main_v24_eq, a0, a1, a2, a3]
    · rw [val_main_v25_eq, a1, a2]
    · rw [val_main_v26_eq, a1, a3]

end Cert.Adam20
-- ==== Proof.Adam21.lean ====
module

public import proofs.«01_k».proof.Defs
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! Program 21: the optimiser's step at weights of shape 4 × 1024 × 224, taken as 4096 rows of 224. -/

namespace Cert.Adam21

open Cert.Kernel21Ideal Cert.Kernel21Ideal.Gen
open Cert.Reference21Ideal.Read

variable (m : (ℓ : Loc nD τ sig) → Buf (Elt Ideal) ℓ)

/-- The arguments, as arrays. -/
abbrev w0 (c : Dev nD) : S4x1024x224.Idx → EReal := m ((c : Thread nD τ).loc main_arg0)
abbrev w1 (c : Dev nD) : S4x1024x224.Idx → EReal := m ((c : Thread nD τ).loc main_arg1)
abbrev w2 (c : Dev nD) : S4x1024x224.Idx → EReal := m ((c : Thread nD τ).loc main_arg2)
abbrev w3 (c : Dev nD) : S4x1024x224.Idx → EReal := m ((c : Thread nD τ).loc main_arg3)
/-- The entry that a point's row and lane stand for. -/
abbrev ent (t : Fin cfg0.N) (y : S1024x224.Idx) : S4x1024x224.Idx := Shape.reshapeEquiv shapeCasts_S4x1024x224_S4096x224 ((win0_4.blk t).view.emb y)

theorem idx0 : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] := by
  decide +kernel

variable (c : Dev nD) (t : Fin cfg0.N) (y : S1024x224.Idx)

/-- What the launch reads of argument 0 at a point: the argument at the entry the row and the lane stand for. -/
theorem in0 : iblk m c 0 t y = w0 m c (ent t y) := by
  have h : iblk m c 0 t y = (V m c main_v0 : S4096x224.Idx → EReal) ((win0_4.blk t).view.emb y) := by
    blk_ext [iblk, idx0 t]
  rw [h]
  entry_read
  rfl

theorem in1 : iblk m c 1 t y = w1 m c (ent t y) := by
  have h : iblk m c 1 t y = (V m c main_v1 : S4096x224.Idx → EReal) ((win0_4.blk t).view.emb y) := by
    blk_ext [iblk, idx0 t]
  rw [h]
  entry_read
  rfl

theorem in2 : iblk m c 2 t y = w2 m c (ent t y) := by
  have h : iblk m c 2 t y = (V m c main_v2 : S4096x224.Idx → EReal) ((win0_4.blk t).view.emb y) := by
    blk_ext [iblk, idx0 t]
  rw [h]
  entry_read
  rfl

theorem in3 : iblk m c 3 t y = w3 m c (ent t y) := by
  have h : iblk m c 3 t y = (V m c main_v3 : S4096x224.Idx → EReal) ((win0_4.blk t).view.emb y) := by
    blk_ext [iblk, idx0 t]
  rw [h]
  entry_read
  rfl

/-- Result 0: the launch's array is the reference's formula of the arguments. -/
theorem arr4 (c : Dev nD) : (dats m 0 c).arrAt 4 cfg0.N = val_main_v24 (F := Ideal) (w0 m c) (w1 m c) (w2 m c) (w3 m c) := by
  refine (dats m 0 c).arrAt_eq_of_covers 4 _ (by decide +kernel) fun t hf y => ?_
  blk_simp
  rw [after0_4]
  frame_out
  show _ = val_main_v23 (F := Ideal) _ _ _ _ (ent t y)
  generalize hj : ent t y = j
  pointwise [k0_pay1, k0_pay2, k0_pay3, k0_pay4, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  rw [in0, in1, in2, in3, hj]

/-- Result 1, likewise. -/
theorem arr5 (c : Dev nD) : (dats m 0 c).arrAt 5 cfg0.N = val_main_v25 (F := Ideal) (w1 m c) (w2 m c) := by
  refine (dats m 0 c).arrAt_eq_of_covers 5 _ (by decide +kernel) fun t hf y => ?_
  blk_simp
  rw [after0_5]
  frame_out
  show _ = val_main_v4 (F := Ideal) _ _ (ent t y)
  generalize hj : ent t y = j
  pointwise [k0_pay1, k0_pay2, k0_pay3, k0_pay4, val_main_cst, val_main_v0, val_main_v1, val_main_cst_0, val_main_v2, val_main_v3, val_main_v4]
  rw [in1, in2, hj]

/-- Result 2, likewise. -/
theorem arr6 (c : Dev nD) : (dats m 0 c).arrAt 6 cfg0.N = val_main_v26 (F := Ideal) (w1 m c) (w3 m c) := by
  refine (dats m 0 c).arrAt_eq_of_covers 6 _ (by decide +kernel) fun t hf y => ?_
  blk_simp
  rw [after0_6]
  frame_out
  show _ = val_main_v10 (F := Ideal) _ _ (ent t y)
  generalize hj : ent t y = j
  pointwise [k0_pay1, k0_pay2, k0_pay3, k0_pay4, val_main_cst_1, val_main_v5, val_main_v6, val_main_v7, val_main_cst_2, val_main_v8, val_main_v9, val_main_v10]
  rw [in1, in3, hj]

/-- The launch and the reference leave the same three arrays. -/
theorem tie : Cert.algebraic_Kernel21Ideal_Reference21Ideal (hKernel21Ideal := Cert.Kernel21Ideal.Gen.facts)
    (hReference21Ideal := Cert.Reference21Ideal.Gen.facts) := by
  intro m g m' g' _ hagree
  refine ⟨fun c => val_main_v24 (F := Ideal) (w0 m c) (w1 m c) (w2 m c) (w3 m c), fun c => val_main_v25 (F := Ideal) (w1 m c) (w2 m c), fun c => val_main_v26 (F := Ideal) (w1 m c) (w3 m c), ?_, ?_⟩
  · refine (θ_run _ _ _).mono (fun r h c => ?_) (Cert.Kernel21Ideal.Value.run_blocks (F := Ideal) m g)
    obtain ⟨h0, h1, h2, hk⟩ := h c
    exact ⟨h0.trans (arr4 m c), h1.trans (arr5 m c), h2.trans (arr6 m c), hk⟩
  · refine (θ_run _ _ _).mono (fun r h c => ?_) (Cert.Reference21Ideal.Value.run (F := Ideal) m' g')
    obtain ⟨h0, h1, h2, hk⟩ := h c
    obtain ⟨a0, a1, a2, a3⟩ := hagree c
    refine ⟨h0.trans ?_, h1.trans ?_, h2.trans ?_, hk⟩
    · rw [val_main_v24_eq, a0, a1, a2, a3]
    · rw [val_main_v25_eq, a1, a2]
    · rw [val_main_v26_eq, a1, a3]

end Cert.Adam21
-- ==== Proof.Adam22.lean ====
module

public import proofs.«01_k».proof.Defs
public import proofs.«01_k».proof.Proof.Gen.Kernel22Ideal.Value
public import proofs.«01_k».proof.Proof.Gen.Reference22Ideal.Run
public import proofs.«01_k».proof.Proof.Gen.Reference22Ideal.Read
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! Program 22: the optimiser's step at weights of shape 4 × 128 × 1024, taken as 512 rows of 1024. -/

namespace Cert.Adam22

open Cert.Kernel22Ideal Cert.Kernel22Ideal.Gen
open Cert.Reference22Ideal.Read

variable (m : (ℓ : Loc nD τ sig) → Buf (Elt Ideal) ℓ)

/-- The arguments, as arrays. -/
abbrev w0 (c : Dev nD) : S4x128x1024.Idx → EReal := m ((c : Thread nD τ).loc main_arg0)
abbrev w1 (c : Dev nD) : S4x128x1024.Idx → EReal := m ((c : Thread nD τ).loc main_arg1)
abbrev w2 (c : Dev nD) : S4x128x1024.Idx → EReal := m ((c : Thread nD τ).loc main_arg2)
abbrev w3 (c : Dev nD) : S4x128x1024.Idx → EReal := m ((c : Thread nD τ).loc main_arg3)
/-- The entry that a point's row and lane stand for. -/
abbrev ent (t : Fin cfg0.N) (y : S256x1024.Idx) : S4x128x1024.Idx := Shape.reshapeEquiv shapeCasts_S4x128x1024_S512x1024 ((win0_4.blk t).view.emb y)

theorem idx0 : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] := by
  decide +kernel

variable (c : Dev nD) (t : Fin cfg0.N) (y : S256x1024.Idx)

/-- What the launch reads of argument 0 at a point: the argument at the entry the row and the lane stand for. -/
theorem in0 : iblk m c 0 t y = w0 m c (ent t y) := by
  have h : iblk m c 0 t y = (V m c main_v0 : S512x1024.Idx → EReal) ((win0_4.blk t).view.emb y) := by
    blk_ext [iblk, idx0 t]
  rw [h]
  entry_read
  rfl

theorem in1 : iblk m c 1 t y = w1 m c (ent t y) := by
  have h : iblk m c 1 t y = (V m c main_v1 : S512x1024.Idx → EReal) ((win0_4.blk t).view.emb y) := by
    blk_ext [iblk, idx0 t]
  rw [h]
  entry_read
  rfl

theorem in2 : iblk m c 2 t y = w2 m c (ent t y) := by
  have h : iblk m c 2 t y = (V m c main_v2 : S512x1024.Idx → EReal) ((win0_4.blk t).view.emb y) := by
    blk_ext [iblk, idx0 t]
  rw [h]
  entry_read
  rfl

theorem in3 : iblk m c 3 t y = w3 m c (ent t y) := by
  have h : iblk m c 3 t y = (V m c main_v3 : S512x1024.Idx → EReal) ((win0_4.blk t).view.emb y) := by
    blk_ext [iblk, idx0 t]
  rw [h]
  entry_read
  rfl

/-- Result 0: the launch's array is the reference's formula of the arguments. -/
theorem arr4 (c : Dev nD) : (dats m 0 c).arrAt 4 cfg0.N = val_main_v24 (F := Ideal) (w0 m c) (w1 m c) (w2 m c) (w3 m c) := by
  refine (dats m 0 c).arrAt_eq_of_covers 4 _ (by decide +kernel) fun t hf y => ?_
  blk_simp
  rw [after0_4]
  frame_out
  show _ = val_main_v23 (F := Ideal) _ _ _ _ (ent t y)
  generalize hj : ent t y = j
  pointwise [k0_pay1, k0_pay2, k0_pay3, k0_pay4, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  rw [in0, in1, in2, in3, hj]

/-- Result 1, likewise. -/
theorem arr5 (c : Dev nD) : (dats m 0 c).arrAt 5 cfg0.N = val_main_v25 (F := Ideal) (w1 m c) (w2 m c) := by
  refine (dats m 0 c).arrAt_eq_of_covers 5 _ (by decide +kernel) fun t hf y => ?_
  blk_simp
  rw [after0_5]
  frame_out
  show _ = val_main_v4 (F := Ideal) _ _ (ent t y)
  generalize hj : ent t y = j
  pointwise [k0_pay1, k0_pay2, k0_pay3, k0_pay4, val_main_cst, val_main_v0, val_main_v1, val_main_cst_0, val_main_v2, val_main_v3, val_main_v4]
  rw [in1, in2, hj]

/-- Result 2, likewise. -/
theorem arr6 (c : Dev nD) : (dats m 0 c).arrAt 6 cfg0.N = val_main_v26 (F := Ideal) (w1 m c) (w3 m c) := by
  refine (dats m 0 c).arrAt_eq_of_covers 6 _ (by decide +kernel) fun t hf y => ?_
  blk_simp
  rw [after0_6]
  frame_out
  show _ = val_main_v10 (F := Ideal) _ _ (ent t y)
  generalize hj : ent t y = j
  pointwise [k0_pay1, k0_pay2, k0_pay3, k0_pay4, val_main_cst_1, val_main_v5, val_main_v6, val_main_v7, val_main_cst_2, val_main_v8, val_main_v9, val_main_v10]
  rw [in1, in3, hj]

/-- The launch and the reference leave the same three arrays. -/
theorem tie : Cert.algebraic_Kernel22Ideal_Reference22Ideal (hKernel22Ideal := Cert.Kernel22Ideal.Gen.facts)
    (hReference22Ideal := Cert.Reference22Ideal.Gen.facts) := by
  intro m g m' g' _ hagree
  refine ⟨fun c => val_main_v24 (F := Ideal) (w0 m c) (w1 m c) (w2 m c) (w3 m c), fun c => val_main_v25 (F := Ideal) (w1 m c) (w2 m c), fun c => val_main_v26 (F := Ideal) (w1 m c) (w3 m c), ?_, ?_⟩
  · refine (θ_run _ _ _).mono (fun r h c => ?_) (Cert.Kernel22Ideal.Value.run_blocks (F := Ideal) m g)
    obtain ⟨h0, h1, h2, hk⟩ := h c
    exact ⟨h0.trans (arr4 m c), h1.trans (arr5 m c), h2.trans (arr6 m c), hk⟩
  · refine (θ_run _ _ _).mono (fun r h c => ?_) (Cert.Reference22Ideal.Value.run (F := Ideal) m' g')
    obtain ⟨h0, h1, h2, hk⟩ := h c
    obtain ⟨a0, a1, a2, a3⟩ := hagree c
    refine ⟨h0.trans ?_, h1.trans ?_, h2.trans ?_, hk⟩
    · rw [val_main_v24_eq, a0, a1, a2, a3]
    · rw [val_main_v25_eq, a1, a2]
    · rw [val_main_v26_eq, a1, a3]

end Cert.Adam22
-- ==== Proof.Adam23.lean ====
module

public import proofs.«01_k».proof.Defs
public import proofs.«01_k».proof.Proof.Gen.Kernel23Ideal.Value
public import proofs.«01_k».proof.Proof.Gen.Reference23Ideal.Run
public import proofs.«01_k».proof.Proof.Gen.Reference23Ideal.Read
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! Program 23: the optimiser's step at weights of shape 4 × 1024 × 768, taken as 4096 rows of 768. -/

namespace Cert.Adam23

open Cert.Kernel23Ideal Cert.Kernel23Ideal.Gen
open Cert.Reference23Ideal.Read

variable (m : (ℓ : Loc nD τ sig) → Buf (Elt Ideal) ℓ)

/-- The arguments, as arrays. -/
abbrev w0 (c : Dev nD) : S4x1024x768.Idx → EReal := m ((c : Thread nD τ).loc main_arg0)
abbrev w1 (c : Dev nD) : S4x1024x768.Idx → EReal := m ((c : Thread nD τ).loc main_arg1)
abbrev w2 (c : Dev nD) : S4x1024x768.Idx → EReal := m ((c : Thread nD τ).loc main_arg2)
abbrev w3 (c : Dev nD) : S4x1024x768.Idx → EReal := m ((c : Thread nD τ).loc main_arg3)
/-- The entry that a point's row and lane stand for. -/
abbrev ent (t : Fin cfg0.N) (y : S256x768.Idx) : S4x1024x768.Idx := Shape.reshapeEquiv shapeCasts_S4x1024x768_S4096x768 ((win0_4.blk t).view.emb y)

theorem idx0 : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] := by
  decide +kernel

variable (c : Dev nD) (t : Fin cfg0.N) (y : S256x768.Idx)

/-- What the launch reads of argument 0 at a point: the argument at the entry the row and the lane stand for. -/
theorem in0 : iblk m c 0 t y = w0 m c (ent t y) := by
  have h : iblk m c 0 t y = (V m c main_v0 : S4096x768.Idx → EReal) ((win0_4.blk t).view.emb y) := by
    blk_ext [iblk, idx0 t]
  rw [h]
  entry_read
  rfl

theorem in1 : iblk m c 1 t y = w1 m c (ent t y) := by
  have h : iblk m c 1 t y = (V m c main_v1 : S4096x768.Idx → EReal) ((win0_4.blk t).view.emb y) := by
    blk_ext [iblk, idx0 t]
  rw [h]
  entry_read
  rfl

theorem in2 : iblk m c 2 t y = w2 m c (ent t y) := by
  have h : iblk m c 2 t y = (V m c main_v2 : S4096x768.Idx → EReal) ((win0_4.blk t).view.emb y) := by
    blk_ext [iblk, idx0 t]
  rw [h]
  entry_read
  rfl

theorem in3 : iblk m c 3 t y = w3 m c (ent t y) := by
  have h : iblk m c 3 t y = (V m c main_v3 : S4096x768.Idx → EReal) ((win0_4.blk t).view.emb y) := by
    blk_ext [iblk, idx0 t]
  rw [h]
  entry_read
  rfl

/-- Result 0: the launch's array is the reference's formula of the arguments. -/
theorem arr4 (c : Dev nD) : (dats m 0 c).arrAt 4 cfg0.N = val_main_v24 (F := Ideal) (w0 m c) (w1 m c) (w2 m c) (w3 m c) := by
  refine (dats m 0 c).arrAt_eq_of_covers 4 _ (by decide +kernel) fun t hf y => ?_
  blk_simp
  rw [after0_4]
  frame_out
  show _ = val_main_v23 (F := Ideal) _ _ _ _ (ent t y)
  generalize hj : ent t y = j
  pointwise [k0_pay1, k0_pay2, k0_pay3, k0_pay4, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  rw [in0, in1, in2, in3, hj]

/-- Result 1, likewise. -/
theorem arr5 (c : Dev nD) : (dats m 0 c).arrAt 5 cfg0.N = val_main_v25 (F := Ideal) (w1 m c) (w2 m c) := by
  refine (dats m 0 c).arrAt_eq_of_covers 5 _ (by decide +kernel) fun t hf y => ?_
  blk_simp
  rw [after0_5]
  frame_out
  show _ = val_main_v4 (F := Ideal) _ _ (ent t y)
  generalize hj : ent t y = j
  pointwise [k0_pay1, k0_pay2, k0_pay3, k0_pay4, val_main_cst, val_main_v0, val_main_v1, val_main_cst_0, val_main_v2, val_main_v3, val_main_v4]
  rw [in1, in2, hj]

/-- Result 2, likewise. -/
theorem arr6 (c : Dev nD) : (dats m 0 c).arrAt 6 cfg0.N = val_main_v26 (F := Ideal) (w1 m c) (w3 m c) := by
  refine (dats m 0 c).arrAt_eq_of_covers 6 _ (by decide +kernel) fun t hf y => ?_
  blk_simp
  rw [after0_6]
  frame_out
  show _ = val_main_v10 (F := Ideal) _ _ (ent t y)
  generalize hj : ent t y = j
  pointwise [k0_pay1, k0_pay2, k0_pay3, k0_pay4, val_main_cst_1, val_main_v5, val_main_v6, val_main_v7, val_main_cst_2, val_main_v8, val_main_v9, val_main_v10]
  rw [in1, in3, hj]

/-- The launch and the reference leave the same three arrays. -/
theorem tie : Cert.algebraic_Kernel23Ideal_Reference23Ideal (hKernel23Ideal := Cert.Kernel23Ideal.Gen.facts)
    (hReference23Ideal := Cert.Reference23Ideal.Gen.facts) := by
  intro m g m' g' _ hagree
  refine ⟨fun c => val_main_v24 (F := Ideal) (w0 m c) (w1 m c) (w2 m c) (w3 m c), fun c => val_main_v25 (F := Ideal) (w1 m c) (w2 m c), fun c => val_main_v26 (F := Ideal) (w1 m c) (w3 m c), ?_, ?_⟩
  · refine (θ_run _ _ _).mono (fun r h c => ?_) (Cert.Kernel23Ideal.Value.run_blocks (F := Ideal) m g)
    obtain ⟨h0, h1, h2, hk⟩ := h c
    exact ⟨h0.trans (arr4 m c), h1.trans (arr5 m c), h2.trans (arr6 m c), hk⟩
  · refine (θ_run _ _ _).mono (fun r h c => ?_) (Cert.Reference23Ideal.Value.run (F := Ideal) m' g')
    obtain ⟨h0, h1, h2, hk⟩ := h c
    obtain ⟨a0, a1, a2, a3⟩ := hagree c
    refine ⟨h0.trans ?_, h1.trans ?_, h2.trans ?_, hk⟩
    · rw [val_main_v24_eq, a0, a1, a2, a3]
    · rw [val_main_v25_eq, a1, a2]
    · rw [val_main_v26_eq, a1, a3]

end Cert.Adam23
-- ==== Proof.Adam24.lean ====
module

public import proofs.«01_k».proof.Defs
public import proofs.«01_k».proof.Proof.Gen.Kernel24Ideal.Value
public import proofs.«01_k».proof.Proof.Gen.Reference24Ideal.Run
public import proofs.«01_k».proof.Proof.Gen.Reference24Ideal.Read
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! Program 24: the optimiser's step at weights of shape 4 × 6144, taken as 4 rows of 6144. -/

namespace Cert.Adam24

open Cert.Kernel24Ideal Cert.Kernel24Ideal.Gen
open Cert.Reference24Ideal.Read

variable (m : (ℓ : Loc nD τ sig) → Buf (Elt Ideal) ℓ)

theorem idx0 : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] := by
  decide +kernel

/-- Result 0: the launch's array is the reference's formula of the arguments. -/
theorem arr4 (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx0 t]

/-- Result 1, likewise. -/
theorem arr5 (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay1, k0_pay2, k0_pay3, val_main_cst, val_main_v0, val_main_v1, val_main_cst_0, val_main_v2, val_main_v3, val_main_v4]
  blk_point [iblk, V, idx0 t]

/-- Result 2, likewise. -/
theorem arr6 (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  pointwise [k0_pay1, k0_pay2, k0_pay3, val_main_cst_1, val_main_v5, val_main_v6, val_main_v7, val_main_cst_2, val_main_v8, val_main_v9, val_main_v10]
  blk_point [iblk, V, idx0 t]

/-- The launch and the reference leave the same three arrays. -/
theorem tie : Cert.algebraic_Kernel24Ideal_Reference24Ideal (hKernel24Ideal := Cert.Kernel24Ideal.Gen.facts)
    (hReference24Ideal := Cert.Reference24Ideal.Gen.facts) := by
  intro m g m' g' _ hagree
  refine ⟨fun c => val_main_v23 (F := Ideal) (m ((c : Thread nD τ).loc main_arg0)) (m ((c : Thread nD τ).loc main_arg1)) (m ((c : Thread nD τ).loc main_arg2)) (m ((c : Thread nD τ).loc main_arg3)), fun c => val_main_v4 (F := Ideal) (m ((c : Thread nD τ).loc main_arg1)) (m ((c : Thread nD τ).loc main_arg2)), fun c => val_main_v10 (F := Ideal) (m ((c : Thread nD τ).loc main_arg1)) (m ((c : Thread nD τ).loc main_arg3)), ?_, ?_⟩
  · refine (θ_run _ _ _).mono (fun r h c => ?_) (Cert.Kernel24Ideal.Value.run_blocks (F := Ideal) m g)
    obtain ⟨h0, h1, h2, hk⟩ := h c
    exact ⟨h0.trans (arr4 m c), h1.trans (arr5 m c), h2.trans (arr6 m c), hk⟩
  · refine (θ_run _ _ _).mono (fun r h c => ?_) (Cert.Reference24Ideal.Value.run (F := Ideal) m' g')
    obtain ⟨h0, h1, h2, hk⟩ := h c
    obtain ⟨a0, a1, a2, a3⟩ := hagree c
    refine ⟨h0.trans ?_, h1.trans ?_, h2.trans ?_, hk⟩
    · rw [val_main_v23_eq, a0, a1, a2, a3]
    · rw [val_main_v4_eq, a1, a2]
    · rw [val_main_v10_eq, a1, a3]

end Cert.Adam24
-- ==== Proof.Adam25.lean ====
module

public import proofs.«01_k».proof.Defs
public import proofs.«01_k».proof.Proof.Gen.Kernel25Ideal.Value
public import proofs.«01_k».proof.Proof.Gen.Reference25Ideal.Run
public import proofs.«01_k».proof.Proof.Gen.Reference25Ideal.Read
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! Program 25: the optimiser's step at weights of shape 1024, taken as 1 rows of 1024. -/

namespace Cert.Adam25

open Cert.Kernel25Ideal Cert.Kernel25Ideal.Gen
open Cert.Reference25Ideal.Read

variable (m : (ℓ : Loc nD τ sig) → Buf (Elt Ideal) ℓ)

/-- The arguments, as arrays. -/
abbrev w0 (c : Dev nD) : S1024.Idx → EReal := m ((c : Thread nD τ).loc main_arg0)
abbrev w1 (c : Dev nD) : S1024.Idx → EReal := m ((c : Thread nD τ).loc main_arg1)
abbrev w2 (c : Dev nD) : S1024.Idx → EReal := m ((c : Thread nD τ).loc main_arg2)
abbrev w3 (c : Dev nD) : S1024.Idx → EReal := m ((c : Thread nD τ).loc main_arg3)
/-- The entry that a point's row and lane stand for. -/
abbrev ent (t : Fin cfg0.N) (y : S1x1024.Idx) : S1024.Idx := Shape.reshapeEquiv shapeCasts_S1024_S1x1024 ((win0_4.blk t).view.emb y)

theorem idx0 : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] := by
  decide +kernel

variable (c : Dev nD) (t : Fin cfg0.N) (y : S1x1024.Idx)

/-- What the launch reads of argument 0 at a point: the argument at the entry the row and the lane stand for. -/
theorem in0 : iblk m c 0 t y = w0 m c (ent t y) := by
  have h : iblk m c 0 t y = (V m c main_v0 : S1x1024.Idx → EReal) ((win0_4.blk t).view.emb y) := by
    blk_ext [iblk, idx0 t]
  rw [h]
  entry_read
  rfl

theorem in1 : iblk m c 1 t y = w1 m c (ent t y) := by
  have h : iblk m c 1 t y = (V m c main_v1 : S1x1024.Idx → EReal) ((win0_4.blk t).view.emb y) := by
    blk_ext [iblk, idx0 t]
  rw [h]
  entry_read
  rfl

theorem in2 : iblk m c 2 t y = w2 m c (ent t y) := by
  have h : iblk m c 2 t y = (V m c main_v2 : S1x1024.Idx → EReal) ((win0_4.blk t).view.emb y) := by
    blk_ext [iblk, idx0 t]
  rw [h]
  entry_read
  rfl

theorem in3 : iblk m c 3 t y = w3 m c (ent t y) := by
  have h : iblk m c 3 t y = (V m c main_v3 : S1x1024.Idx → EReal) ((win0_4.blk t).view.emb y) := by
    blk_ext [iblk, idx0 t]
  rw [h]
  entry_read
  rfl

/-- Result 0: the launch's array is the reference's formula of the arguments. -/
theorem arr4 (c : Dev nD) : (dats m 0 c).arrAt 4 cfg0.N = val_main_v24 (F := Ideal) (w0 m c) (w1 m c) (w2 m c) (w3 m c) := by
  refine (dats m 0 c).arrAt_eq_of_covers 4 _ (by decide +kernel) fun t hf y => ?_
  blk_simp
  rw [after0_4]
  frame_out
  show _ = val_main_v23 (F := Ideal) _ _ _ _ (ent t y)
  generalize hj : ent t y = j
  pointwise [k0_pay1, k0_pay2, k0_pay3, k0_pay4, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  rw [in0, in1, in2, in3, hj]

/-- Result 1, likewise. -/
theorem arr5 (c : Dev nD) : (dats m 0 c).arrAt 5 cfg0.N = val_main_v25 (F := Ideal) (w1 m c) (w2 m c) := by
  refine (dats m 0 c).arrAt_eq_of_covers 5 _ (by decide +kernel) fun t hf y => ?_
  blk_simp
  rw [after0_5]
  frame_out
  show _ = val_main_v4 (F := Ideal) _ _ (ent t y)
  generalize hj : ent t y = j
  pointwise [k0_pay1, k0_pay2, k0_pay3, k0_pay4, val_main_cst, val_main_v0, val_main_v1, val_main_cst_0, val_main_v2, val_main_v3, val_main_v4]
  rw [in1, in2, hj]

/-- Result 2, likewise. -/
theorem arr6 (c : Dev nD) : (dats m 0 c).arrAt 6 cfg0.N = val_main_v26 (F := Ideal) (w1 m c) (w3 m c) := by
  refine (dats m 0 c).arrAt_eq_of_covers 6 _ (by decide +kernel) fun t hf y => ?_
  blk_simp
  rw [after0_6]
  frame_out
  show _ = val_main_v10 (F := Ideal) _ _ (ent t y)
  generalize hj : ent t y = j
  pointwise [k0_pay1, k0_pay2, k0_pay3, k0_pay4, val_main_cst_1, val_main_v5, val_main_v6, val_main_v7, val_main_cst_2, val_main_v8, val_main_v9, val_main_v10]
  rw [in1, in3, hj]

/-- The launch and the reference leave the same three arrays. -/
theorem tie : Cert.algebraic_Kernel25Ideal_Reference25Ideal (hKernel25Ideal := Cert.Kernel25Ideal.Gen.facts)
    (hReference25Ideal := Cert.Reference25Ideal.Gen.facts) := by
  intro m g m' g' _ hagree
  refine ⟨fun c => val_main_v24 (F := Ideal) (w0 m c) (w1 m c) (w2 m c) (w3 m c), fun c => val_main_v25 (F := Ideal) (w1 m c) (w2 m c), fun c => val_main_v26 (F := Ideal) (w1 m c) (w3 m c), ?_, ?_⟩
  · refine (θ_run _ _ _).mono (fun r h c => ?_) (Cert.Kernel25Ideal.Value.run_blocks (F := Ideal) m g)
    obtain ⟨h0, h1, h2, hk⟩ := h c
    exact ⟨h0.trans (arr4 m c), h1.trans (arr5 m c), h2.trans (arr6 m c), hk⟩
  · refine (θ_run _ _ _).mono (fun r h c => ?_) (Cert.Reference25Ideal.Value.run (F := Ideal) m' g')
    obtain ⟨h0, h1, h2, hk⟩ := h c
    obtain ⟨a0, a1, a2, a3⟩ := hagree c
    refine ⟨h0.trans ?_, h1.trans ?_, h2.trans ?_, hk⟩
    · rw [val_main_v24_eq, a0, a1, a2, a3]
    · rw [val_main_v25_eq, a1, a2]
    · rw [val_main_v26_eq, a1, a3]

end Cert.Adam25
-- ==== Proof.Adam26.lean ====
module

public import proofs.«01_k».proof.Defs
public import proofs.«01_k».proof.Proof.Gen.Kernel26Ideal.Value
public import proofs.«01_k».proof.Proof.Gen.Reference26Ideal.Run
public import proofs.«01_k».proof.Proof.Gen.Reference26Ideal.Read
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! Program 26: the optimiser's step at weights of shape 4 × 4 × 128, taken as 16 rows of 128. -/

namespace Cert.Adam26

open Cert.Kernel26Ideal Cert.Kernel26Ideal.Gen
open Cert.Reference26Ideal.Read

variable (m : (ℓ : Loc nD τ sig) → Buf (Elt Ideal) ℓ)

/-- The arguments, as arrays. -/
abbrev w0 (c : Dev nD) : S4x4x128.Idx → EReal := m ((c : Thread nD τ).loc main_arg0)
abbrev w1 (c : Dev nD) : S4x4x128.Idx → EReal := m ((c : Thread nD τ).loc main_arg1)
abbrev w2 (c : Dev nD) : S4x4x128.Idx → EReal := m ((c : Thread nD τ).loc main_arg2)
abbrev w3 (c : Dev nD) : S4x4x128.Idx → EReal := m ((c : Thread nD τ).loc main_arg3)
/-- The entry that a point's row and lane stand for. -/
abbrev ent (t : Fin cfg0.N) (y : S16x128.Idx) : S4x4x128.Idx := Shape.reshapeEquiv shapeCasts_S4x4x128_S16x128 ((win0_4.blk t).view.emb y)

theorem idx0 : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] := by
  decide +kernel

variable (c : Dev nD) (t : Fin cfg0.N) (y : S16x128.Idx)

/-- What the launch reads of argument 0 at a point: the argument at the entry the row and the lane stand for. -/
theorem in0 : iblk m c 0 t y = w0 m c (ent t y) := by
  have h : iblk m c 0 t y = (V m c main_v0 : S16x128.Idx → EReal) ((win0_4.blk t).view.emb y) := by
    blk_ext [iblk, idx0 t]
  rw [h]
  entry_read
  rfl

theorem in1 : iblk m c 1 t y = w1 m c (ent t y) := by
  have h : iblk m c 1 t y = (V m c main_v1 : S16x128.Idx → EReal) ((win0_4.blk t).view.emb y) := by
    blk_ext [iblk, idx0 t]
  rw [h]
  entry_read
  rfl

theorem in2 : iblk m c 2 t y = w2 m c (ent t y) := by
  have h : iblk m c 2 t y = (V m c main_v2 : S16x128.Idx → EReal) ((win0_4.blk t).view.emb y) := by
    blk_ext [iblk, idx0 t]
  rw [h]
  entry_read
  rfl

theorem in3 : iblk m c 3 t y = w3 m c (ent t y) := by
  have h : iblk m c 3 t y = (V m c main_v3 : S16x128.Idx → EReal) ((win0_4.blk t).view.emb y) := by
    blk_ext [iblk, idx0 t]
  rw [h]
  entry_read
  rfl

/-- Result 0: the launch's array is the reference's formula of the arguments. -/
theorem arr4 (c : Dev nD) : (dats m 0 c).arrAt 4 cfg0.N = val_main_v24 (F := Ideal) (w0 m c) (w1 m c) (w2 m c) (w3 m c) := by
  refine (dats m 0 c).arrAt_eq_of_covers 4 _ (by decide +kernel) fun t hf y => ?_
  blk_simp
  rw [after0_4]
  frame_out
  show _ = val_main_v23 (F := Ideal) _ _ _ _ (ent t y)
  generalize hj : ent t y = j
  pointwise [k0_pay1, k0_pay2, k0_pay3, k0_pay4, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  rw [in0, in1, in2, in3, hj]

/-- Result 1, likewise. -/
theorem arr5 (c : Dev nD) : (dats m 0 c).arrAt 5 cfg0.N = val_main_v25 (F := Ideal) (w1 m c) (w2 m c) := by
  refine (dats m 0 c).arrAt_eq_of_covers 5 _ (by decide +kernel) fun t hf y => ?_
  blk_simp
  rw [after0_5]
  frame_out
  show _ = val_main_v4 (F := Ideal) _ _ (ent t y)
  generalize hj : ent t y = j
  pointwise [k0_pay1, k0_pay2, k0_pay3, k0_pay4, val_main_cst, val_main_v0, val_main_v1, val_main_cst_0, val_main_v2, val_main_v3, val_main_v4]
  rw [in1, in2, hj]

/-- Result 2, likewise. -/
theorem arr6 (c : Dev nD) : (dats m 0 c).arrAt 6 cfg0.N = val_main_v26 (F := Ideal) (w1 m c) (w3 m c) := by
  refine (dats m 0 c).arrAt_eq_of_covers 6 _ (by decide +kernel) fun t hf y => ?_
  blk_simp
  rw [after0_6]
  frame_out
  show _ = val_main_v10 (F := Ideal) _ _ (ent t y)
  generalize hj : ent t y = j
  pointwise [k0_pay1, k0_pay2, k0_pay3, k0_pay4, val_main_cst_1, val_main_v5, val_main_v6, val_main_v7, val_main_cst_2, val_main_v8, val_main_v9, val_main_v10]
  rw [in1, in3, hj]

/-- The launch and the reference leave the same three arrays. -/
theorem tie : Cert.algebraic_Kernel26Ideal_Reference26Ideal (hKernel26Ideal := Cert.Kernel26Ideal.Gen.facts)
    (hReference26Ideal := Cert.Reference26Ideal.Gen.facts) := by
  intro m g m' g' _ hagree
  refine ⟨fun c => val_main_v24 (F := Ideal) (w0 m c) (w1 m c) (w2 m c) (w3 m c), fun c => val_main_v25 (F := Ideal) (w1 m c) (w2 m c), fun c => val_main_v26 (F := Ideal) (w1 m c) (w3 m c), ?_, ?_⟩
  · refine (θ_run _ _ _).mono (fun r h c => ?_) (Cert.Kernel26Ideal.Value.run_blocks (F := Ideal) m g)
    obtain ⟨h0, h1, h2, hk⟩ := h c
    exact ⟨h0.trans (arr4 m c), h1.trans (arr5 m c), h2.trans (arr6 m c), hk⟩
  · refine (θ_run _ _ _).mono (fun r h c => ?_) (Cert.Reference26Ideal.Value.run (F := Ideal) m' g')
    obtain ⟨h0, h1, h2, hk⟩ := h c
    obtain ⟨a0, a1, a2, a3⟩ := hagree c
    refine ⟨h0.trans ?_, h1.trans ?_, h2.trans ?_, hk⟩
    · rw [val_main_v24_eq, a0, a1, a2, a3]
    · rw [val_main_v25_eq, a1, a2]
    · rw [val_main_v26_eq, a1, a3]

end Cert.Adam26
-- ==== Proof.Adam27.lean ====
module

public import proofs.«01_k».proof.Defs
public import proofs.«01_k».proof.Proof.Gen.Kernel27Ideal.Value
public import proofs.«01_k».proof.Proof.Gen.Reference27Ideal.Run
public import proofs.«01_k».proof.Proof.Gen.Reference27Ideal.Read
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! Program 27: the optimiser's step at weights of shape 4 × 3 × 32, taken as 12 rows of 32. -/

namespace Cert.Adam27

open Cert.Kernel27Ideal Cert.Kernel27Ideal.Gen
open Cert.Reference27Ideal.Read

variable (m : (ℓ : Loc nD τ sig) → Buf (Elt Ideal) ℓ)

/-- The arguments, as arrays. -/
abbrev w0 (c : Dev nD) : S4x3x32.Idx → EReal := m ((c : Thread nD τ).loc main_arg0)
abbrev w1 (c : Dev nD) : S4x3x32.Idx → EReal := m ((c : Thread nD τ).loc main_arg1)
abbrev w2 (c : Dev nD) : S4x3x32.Idx → EReal := m ((c : Thread nD τ).loc main_arg2)
abbrev w3 (c : Dev nD) : S4x3x32.Idx → EReal := m ((c : Thread nD τ).loc main_arg3)
/-- The entry that a point's row and lane stand for. -/
abbrev ent (t : Fin cfg0.N) (y : S12x32.Idx) : S4x3x32.Idx := Shape.reshapeEquiv shapeCasts_S4x3x32_S12x32 ((win0_4.blk t).view.emb y)

theorem idx0 : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] := by
  decide +kernel

variable (c : Dev nD) (t : Fin cfg0.N) (y : S12x32.Idx)

/-- What the launch reads of argument 0 at a point: the argument at the entry the row and the lane stand for. -/
theorem in0 : iblk m c 0 t y = w0 m c (ent t y) := by
  have h : iblk m c 0 t y = (V m c main_v0 : S12x32.Idx → EReal) ((win0_4.blk t).view.emb y) := by
    blk_ext [iblk, idx0 t]
  rw [h]
  entry_read
  rfl

theorem in1 : iblk m c 1 t y = w1 m c (ent t y) := by
  have h : iblk m c 1 t y = (V m c main_v1 : S12x32.Idx → EReal) ((win0_4.blk t).view.emb y) := by
    blk_ext [iblk, idx0 t]
  rw [h]
  entry_read
  rfl

theorem in2 : iblk m c 2 t y = w2 m c (ent t y) := by
  have h : iblk m c 2 t y = (V m c main_v2 : S12x32.Idx → EReal) ((win0_4.blk t).view.emb y) := by
    blk_ext [iblk, idx0 t]
  rw [h]
  entry_read
  rfl

theorem in3 : iblk m c 3 t y = w3 m c (ent t y) := by
  have h : iblk m c 3 t y = (V m c main_v3 : S12x32.Idx → EReal) ((win0_4.blk t).view.emb y) := by
    blk_ext [iblk, idx0 t]
  rw [h]
  entry_read
  rfl

/-- Result 0: the launch's array is the reference's formula of the arguments. -/
theorem arr4 (c : Dev nD) : (dats m 0 c).arrAt 4 cfg0.N = val_main_v24 (F := Ideal) (w0 m c) (w1 m c) (w2 m c) (w3 m c) := by
  refine (dats m 0 c).arrAt_eq_of_covers 4 _ (by decide +kernel) fun t hf y => ?_
  blk_simp
  rw [after0_4]
  frame_out
  show _ = val_main_v23 (F := Ideal) _ _ _ _ (ent t y)
  generalize hj : ent t y = j
  pointwise [k0_pay1, k0_pay2, k0_pay3, k0_pay4, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  rw [in0, in1, in2, in3, hj]

/-- Result 1, likewise. -/
theorem arr5 (c : Dev nD) : (dats m 0 c).arrAt 5 cfg0.N = val_main_v25 (F := Ideal) (w1 m c) (w2 m c) := by
  refine (dats m 0 c).arrAt_eq_of_covers 5 _ (by decide +kernel) fun t hf y => ?_
  blk_simp
  rw [after0_5]
  frame_out
  show _ = val_main_v4 (F := Ideal) _ _ (ent t y)
  generalize hj : ent t y = j
  pointwise [k0_pay1, k0_pay2, k0_pay3, k0_pay4, val_main_cst, val_main_v0, val_main_v1, val_main_cst_0, val_main_v2, val_main_v3, val_main_v4]
  rw [in1, in2, hj]

/-- Result 2, likewise. -/
theorem arr6 (c : Dev nD) : (dats m 0 c).arrAt 6 cfg0.N = val_main_v26 (F := Ideal) (w1 m c) (w3 m c) := by
  refine (dats m 0 c).arrAt_eq_of_covers 6 _ (by decide +kernel) fun t hf y => ?_
  blk_simp
  rw [after0_6]
  frame_out
  show _ = val_main_v10 (F := Ideal) _ _ (ent t y)
  generalize hj : ent t y = j
  pointwise [k0_pay1, k0_pay2, k0_pay3, k0_pay4, val_main_cst_1, val_main_v5, val_main_v6, val_main_v7, val_main_cst_2, val_main_v8, val_main_v9, val_main_v10]
  rw [in1, in3, hj]

/-- The launch and the reference leave the same three arrays. -/
theorem tie : Cert.algebraic_Kernel27Ideal_Reference27Ideal (hKernel27Ideal := Cert.Kernel27Ideal.Gen.facts)
    (hReference27Ideal := Cert.Reference27Ideal.Gen.facts) := by
  intro m g m' g' _ hagree
  refine ⟨fun c => val_main_v24 (F := Ideal) (w0 m c) (w1 m c) (w2 m c) (w3 m c), fun c => val_main_v25 (F := Ideal) (w1 m c) (w2 m c), fun c => val_main_v26 (F := Ideal) (w1 m c) (w3 m c), ?_, ?_⟩
  · refine (θ_run _ _ _).mono (fun r h c => ?_) (Cert.Kernel27Ideal.Value.run_blocks (F := Ideal) m g)
    obtain ⟨h0, h1, h2, hk⟩ := h c
    exact ⟨h0.trans (arr4 m c), h1.trans (arr5 m c), h2.trans (arr6 m c), hk⟩
  · refine (θ_run _ _ _).mono (fun r h c => ?_) (Cert.Reference27Ideal.Value.run (F := Ideal) m' g')
    obtain ⟨h0, h1, h2, hk⟩ := h c
    obtain ⟨a0, a1, a2, a3⟩ := hagree c
    refine ⟨h0.trans ?_, h1.trans ?_, h2.trans ?_, hk⟩
    · rw [val_main_v24_eq, a0, a1, a2, a3]
    · rw [val_main_v25_eq, a1, a2]
    · rw [val_main_v26_eq, a1, a3]

end Cert.Adam27
-- ==== Proof.Adam28.lean ====
module

public import proofs.«01_k».proof.Defs
public import proofs.«01_k».proof.Proof.Gen.Kernel28Ideal.Value
public import proofs.«01_k».proof.Proof.Gen.Reference28Ideal.Run
public import proofs.«01_k».proof.Proof.Gen.Reference28Ideal.Read
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! Program 28: the optimiser's step at weights of shape 4 × 8, taken as 4 rows of 8. -/

namespace Cert.Adam28

open Cert.Kernel28Ideal Cert.Kernel28Ideal.Gen
open Cert.Reference28Ideal.Read

variable (m : (ℓ : Loc nD τ sig) → Buf (Elt Ideal) ℓ)

theorem idx0 : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] := by
  decide +kernel

/-- Result 0: the launch's array is the reference's formula of the arguments. -/
theorem arr4 (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx0 t]

/-- Result 1, likewise. -/
theorem arr5 (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay1, k0_pay2, k0_pay3, val_main_cst, val_main_v0, val_main_v1, val_main_cst_0, val_main_v2, val_main_v3, val_main_v4]
  blk_point [iblk, V, idx0 t]

/-- Result 2, likewise. -/
theorem arr6 (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  pointwise [k0_pay1, k0_pay2, k0_pay3, val_main_cst_1, val_main_v5, val_main_v6, val_main_v7, val_main_cst_2, val_main_v8, val_main_v9, val_main_v10]
  blk_point [iblk, V, idx0 t]

/-- The launch and the reference leave the same three arrays. -/
theorem tie : Cert.algebraic_Kernel28Ideal_Reference28Ideal (hKernel28Ideal := Cert.Kernel28Ideal.Gen.facts)
    (hReference28Ideal := Cert.Reference28Ideal.Gen.facts) := by
  intro m g m' g' _ hagree
  refine ⟨fun c => val_main_v23 (F := Ideal) (m ((c : Thread nD τ).loc main_arg0)) (m ((c : Thread nD τ).loc main_arg1)) (m ((c : Thread nD τ).loc main_arg2)) (m ((c : Thread nD τ).loc main_arg3)), fun c => val_main_v4 (F := Ideal) (m ((c : Thread nD τ).loc main_arg1)) (m ((c : Thread nD τ).loc main_arg2)), fun c => val_main_v10 (F := Ideal) (m ((c : Thread nD τ).loc main_arg1)) (m ((c : Thread nD τ).loc main_arg3)), ?_, ?_⟩
  · refine (θ_run _ _ _).mono (fun r h c => ?_) (Cert.Kernel28Ideal.Value.run_blocks (F := Ideal) m g)
    obtain ⟨h0, h1, h2, hk⟩ := h c
    exact ⟨h0.trans (arr4 m c), h1.trans (arr5 m c), h2.trans (arr6 m c), hk⟩
  · refine (θ_run _ _ _).mono (fun r h c => ?_) (Cert.Reference28Ideal.Value.run (F := Ideal) m' g')
    obtain ⟨h0, h1, h2, hk⟩ := h c
    obtain ⟨a0, a1, a2, a3⟩ := hagree c
    refine ⟨h0.trans ?_, h1.trans ?_, h2.trans ?_, hk⟩
    · rw [val_main_v23_eq, a0, a1, a2, a3]
    · rw [val_main_v4_eq, a1, a2]
    · rw [val_main_v10_eq, a1, a3]

end Cert.Adam28
-- ==== Proof.Adam29.lean ====
module

public import proofs.«01_k».proof.Defs
public import proofs.«01_k».proof.Proof.Gen.Kernel29Ideal.Value
public import proofs.«01_k».proof.Proof.Gen.Reference29Ideal.Run
public import proofs.«01_k».proof.Proof.Gen.Reference29Ideal.Read
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! Program 29: the optimiser's step at weights of shape 4 × 2 × 16 × 64, taken as 128 rows of 64. -/

namespace Cert.Adam29

open Cert.Kernel29Ideal Cert.Kernel29Ideal.Gen
open Cert.Reference29Ideal.Read

variable (m : (ℓ : Loc nD τ sig) → Buf (Elt Ideal) ℓ)

/-- The arguments, as arrays. -/
abbrev w0 (c : Dev nD) : S4x2x16x64.Idx → EReal := m ((c : Thread nD τ).loc main_arg0)
abbrev w1 (c : Dev nD) : S4x2x16x64.Idx → EReal := m ((c : Thread nD τ).loc main_arg1)
abbrev w2 (c : Dev nD) : S4x2x16x64.Idx → EReal := m ((c : Thread nD τ).loc main_arg2)
abbrev w3 (c : Dev nD) : S4x2x16x64.Idx → EReal := m ((c : Thread nD τ).loc main_arg3)
/-- The entry that a point's row and lane stand for. -/
abbrev ent (t : Fin cfg0.N) (y : S128x64.Idx) : S4x2x16x64.Idx := Shape.reshapeEquiv shapeCasts_S4x2x16x64_S128x64 ((win0_4.blk t).view.emb y)

theorem idx0 : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] := by
  decide +kernel

variable (c : Dev nD) (t : Fin cfg0.N) (y : S128x64.Idx)

/-- What the launch reads of argument 0 at a point: the argument at the entry the row and the lane stand for. -/
theorem in0 : iblk m c 0 t y = w0 m c (ent t y) := by
  have h : iblk m c 0 t y = (V m c main_v0 : S128x64.Idx → EReal) ((win0_4.blk t).view.emb y) := by
    blk_ext [iblk, idx0 t]
  rw [h]
  entry_read
  rfl

theorem in1 : iblk m c 1 t y = w1 m c (ent t y) := by
  have h : iblk m c 1 t y = (V m c main_v1 : S128x64.Idx → EReal) ((win0_4.blk t).view.emb y) := by
    blk_ext [iblk, idx0 t]
  rw [h]
  entry_read
  rfl

theorem in2 : iblk m c 2 t y = w2 m c (ent t y) := by
  have h : iblk m c 2 t y = (V m c main_v2 : S128x64.Idx → EReal) ((win0_4.blk t).view.emb y) := by
    blk_ext [iblk, idx0 t]
  rw [h]
  entry_read
  rfl

theorem in3 : iblk m c 3 t y = w3 m c (ent t y) := by
  have h : iblk m c 3 t y = (V m c main_v3 : S128x64.Idx → EReal) ((win0_4.blk t).view.emb y) := by
    blk_ext [iblk, idx0 t]
  rw [h]
  entry_read
  rfl

/-- Result 0: the launch's array is the reference's formula of the arguments. -/
theorem arr4 (c : Dev nD) : (dats m 0 c).arrAt 4 cfg0.N = val_main_v24 (F := Ideal) (w0 m c) (w1 m c) (w2 m c) (w3 m c) := by
  refine (dats m 0 c).arrAt_eq_of_covers 4 _ (by decide +kernel) fun t hf y => ?_
  blk_simp
  rw [after0_4]
  frame_out
  show _ = val_main_v23 (F := Ideal) _ _ _ _ (ent t y)
  generalize hj : ent t y = j
  pointwise [k0_pay1, k0_pay2, k0_pay3, k0_pay4, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  rw [in0, in1, in2, in3, hj]

/-- Result 1, likewise. -/
theorem arr5 (c : Dev nD) : (dats m 0 c).arrAt 5 cfg0.N = val_main_v25 (F := Ideal) (w1 m c) (w2 m c) := by
  refine (dats m 0 c).arrAt_eq_of_covers 5 _ (by decide +kernel) fun t hf y => ?_
  blk_simp
  rw [after0_5]
  frame_out
  show _ = val_main_v4 (F := Ideal) _ _ (ent t y)
  generalize hj : ent t y = j
  pointwise [k0_pay1, k0_pay2, k0_pay3, k0_pay4, val_main_cst, val_main_v0, val_main_v1, val_main_cst_0, val_main_v2, val_main_v3, val_main_v4]
  rw [in1, in2, hj]

/-- Result 2, likewise. -/
theorem arr6 (c : Dev nD) : (dats m 0 c).arrAt 6 cfg0.N = val_main_v26 (F := Ideal) (w1 m c) (w3 m c) := by
  refine (dats m 0 c).arrAt_eq_of_covers 6 _ (by decide +kernel) fun t hf y => ?_
  blk_simp
  rw [after0_6]
  frame_out
  show _ = val_main_v10 (F := Ideal) _ _ (ent t y)
  generalize hj : ent t y = j
  pointwise [k0_pay1, k0_pay2, k0_pay3, k0_pay4, val_main_cst_1, val_main_v5, val_main_v6, val_main_v7, val_main_cst_2, val_main_v8, val_main_v9, val_main_v10]
  rw [in1, in3, hj]

/-- The launch and the reference leave the same three arrays. -/
theorem tie : Cert.algebraic_Kernel29Ideal_Reference29Ideal (hKernel29Ideal := Cert.Kernel29Ideal.Gen.facts)
    (hReference29Ideal := Cert.Reference29Ideal.Gen.facts) := by
  intro m g m' g' _ hagree
  refine ⟨fun c => val_main_v24 (F := Ideal) (w0 m c) (w1 m c) (w2 m c) (w3 m c), fun c => val_main_v25 (F := Ideal) (w1 m c) (w2 m c), fun c => val_main_v26 (F := Ideal) (w1 m c) (w3 m c), ?_, ?_⟩
  · refine (θ_run _ _ _).mono (fun r h c => ?_) (Cert.Kernel29Ideal.Value.run_blocks (F := Ideal) m g)
    obtain ⟨h0, h1, h2, hk⟩ := h c
    exact ⟨h0.trans (arr4 m c), h1.trans (arr5 m c), h2.trans (arr6 m c), hk⟩
  · refine (θ_run _ _ _).mono (fun r h c => ?_) (Cert.Reference29Ideal.Value.run (F := Ideal) m' g')
    obtain ⟨h0, h1, h2, hk⟩ := h c
    obtain ⟨a0, a1, a2, a3⟩ := hagree c
    refine ⟨h0.trans ?_, h1.trans ?_, h2.trans ?_, hk⟩
    · rw [val_main_v24_eq, a0, a1, a2, a3]
    · rw [val_main_v25_eq, a1, a2]
    · rw [val_main_v26_eq, a1, a3]

end Cert.Adam29
-- ==== Proof.Adam30.lean ====
module

public import proofs.«01_k».proof.Defs
public import proofs.«01_k».proof.Proof.Gen.Kernel30Ideal.Value
public import proofs.«01_k».proof.Proof.Gen.Reference30Ideal.Run
public import proofs.«01_k».proof.Proof.Gen.Reference30Ideal.Read
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! Program 30: the optimiser's step at weights of shape 4 × 2 × 16, taken as 8 rows of 16. -/

namespace Cert.Adam30

open Cert.Kernel30Ideal Cert.Kernel30Ideal.Gen
open Cert.Reference30Ideal.Read

variable (m : (ℓ : Loc nD τ sig) → Buf (Elt Ideal) ℓ)

/-- The arguments, as arrays. -/
abbrev w0 (c : Dev nD) : S4x2x16.Idx → EReal := m ((c : Thread nD τ).loc main_arg0)
abbrev w1 (c : Dev nD) : S4x2x16.Idx → EReal := m ((c : Thread nD τ).loc main_arg1)
abbrev w2 (c : Dev nD) : S4x2x16.Idx → EReal := m ((c : Thread nD τ).loc main_arg2)
abbrev w3 (c : Dev nD) : S4x2x16.Idx → EReal := m ((c : Thread nD τ).loc main_arg3)
/-- The entry that a point's row and lane stand for. -/
abbrev ent (t : Fin cfg0.N) (y : S8x16.Idx) : S4x2x16.Idx := Shape.reshapeEquiv shapeCasts_S4x2x16_S8x16 ((win0_4.blk t).view.emb y)

theorem idx0 : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] := by
  decide +kernel

variable (c : Dev nD) (t : Fin cfg0.N) (y : S8x16.Idx)

/-- What the launch reads of argument 0 at a point: the argument at the entry the row and the lane stand for. -/
theorem in0 : iblk m c 0 t y = w0 m c (ent t y) := by
  have h : iblk m c 0 t y = (V m c main_v0 : S8x16.Idx → EReal) ((win0_4.blk t).view.emb y) := by
    blk_ext [iblk, idx0 t]
  rw [h]
  entry_read
  rfl

theorem in1 : iblk m c 1 t y = w1 m c (ent t y) := by
  have h : iblk m c 1 t y = (V m c main_v1 : S8x16.Idx → EReal) ((win0_4.blk t).view.emb y) := by
    blk_ext [iblk, idx0 t]
  rw [h]
  entry_read
  rfl

theorem in2 : iblk m c 2 t y = w2 m c (ent t y) := by
  have h : iblk m c 2 t y = (V m c main_v2 : S8x16.Idx → EReal) ((win0_4.blk t).view.emb y) := by
    blk_ext [iblk, idx0 t]
  rw [h]
  entry_read
  rfl

theorem in3 : iblk m c 3 t y = w3 m c (ent t y) := by
  have h : iblk m c 3 t y = (V m c main_v3 : S8x16.Idx → EReal) ((win0_4.blk t).view.emb y) := by
    blk_ext [iblk, idx0 t]
  rw [h]
  entry_read
  rfl

/-- Result 0: the launch's array is the reference's formula of the arguments. -/
theorem arr4 (c : Dev nD) : (dats m 0 c).arrAt 4 cfg0.N = val_main_v24 (F := Ideal) (w0 m c) (w1 m c) (w2 m c) (w3 m c) := by
  refine (dats m 0 c).arrAt_eq_of_covers 4 _ (by decide +kernel) fun t hf y => ?_
  blk_simp
  rw [after0_4]
  frame_out
  show _ = val_main_v23 (F := Ideal) _ _ _ _ (ent t y)
  generalize hj : ent t y = j
  pointwise [k0_pay1, k0_pay2, k0_pay3, k0_pay4, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  rw [in0, in1, in2, in3, hj]

/-- Result 1, likewise. -/
theorem arr5 (c : Dev nD) : (dats m 0 c).arrAt 5 cfg0.N = val_main_v25 (F := Ideal) (w1 m c) (w2 m c) := by
  refine (dats m 0 c).arrAt_eq_of_covers 5 _ (by decide +kernel) fun t hf y => ?_
  blk_simp
  rw [after0_5]
  frame_out
  show _ = val_main_v4 (F := Ideal) _ _ (ent t y)
  generalize hj : ent t y = j
  pointwise [k0_pay1, k0_pay2, k0_pay3, k0_pay4, val_main_cst, val_main_v0, val_main_v1, val_main_cst_0, val_main_v2, val_main_v3, val_main_v4]
  rw [in1, in2, hj]

/-- Result 2, likewise. -/
theorem arr6 (c : Dev nD) : (dats m 0 c).arrAt 6 cfg0.N = val_main_v26 (F := Ideal) (w1 m c) (w3 m c) := by
  refine (dats m 0 c).arrAt_eq_of_covers 6 _ (by decide +kernel) fun t hf y => ?_
  blk_simp
  rw [after0_6]
  frame_out
  show _ = val_main_v10 (F := Ideal) _ _ (ent t y)
  generalize hj : ent t y = j
  pointwise [k0_pay1, k0_pay2, k0_pay3, k0_pay4, val_main_cst_1, val_main_v5, val_main_v6, val_main_v7, val_main_cst_2, val_main_v8, val_main_v9, val_main_v10]
  rw [in1, in3, hj]

/-- The launch and the reference leave the same three arrays. -/
theorem tie : Cert.algebraic_Kernel30Ideal_Reference30Ideal (hKernel30Ideal := Cert.Kernel30Ideal.Gen.facts)
    (hReference30Ideal := Cert.Reference30Ideal.Gen.facts) := by
  intro m g m' g' _ hagree
  refine ⟨fun c => val_main_v24 (F := Ideal) (w0 m c) (w1 m c) (w2 m c) (w3 m c), fun c => val_main_v25 (F := Ideal) (w1 m c) (w2 m c), fun c => val_main_v26 (F := Ideal) (w1 m c) (w3 m c), ?_, ?_⟩
  · refine (θ_run _ _ _).mono (fun r h c => ?_) (Cert.Kernel30Ideal.Value.run_blocks (F := Ideal) m g)
    obtain ⟨h0, h1, h2, hk⟩ := h c
    exact ⟨h0.trans (arr4 m c), h1.trans (arr5 m c), h2.trans (arr6 m c), hk⟩
  · refine (θ_run _ _ _).mono (fun r h c => ?_) (Cert.Reference30Ideal.Value.run (F := Ideal) m' g')
    obtain ⟨h0, h1, h2, hk⟩ := h c
    obtain ⟨a0, a1, a2, a3⟩ := hagree c
    refine ⟨h0.trans ?_, h1.trans ?_, h2.trans ?_, hk⟩
    · rw [val_main_v24_eq, a0, a1, a2, a3]
    · rw [val_main_v25_eq, a1, a2]
    · rw [val_main_v26_eq, a1, a3]

end Cert.Adam30
-- ==== Proof.Adam31.lean ====
module

public import proofs.«01_k».proof.Defs
public import proofs.«01_k».proof.Proof.Gen.Kernel31Ideal.Value
public import proofs.«01_k».proof.Proof.Gen.Reference31Ideal.Run
public import proofs.«01_k».proof.Proof.Gen.Reference31Ideal.Read
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! Program 31: the optimiser's step at weights of shape 4 × 2 × 16 × 64 × 16, taken as 8192 rows of 16. -/

namespace Cert.Adam31

open Cert.Kernel31Ideal Cert.Kernel31Ideal.Gen
open Cert.Reference31Ideal.Read

variable (m : (ℓ : Loc nD τ sig) → Buf (Elt Ideal) ℓ)

/-- The arguments, as arrays. -/
abbrev w0 (c : Dev nD) : S4x2x16x64x16.Idx → EReal := m ((c : Thread nD τ).loc main_arg0)
abbrev w1 (c : Dev nD) : S4x2x16x64x16.Idx → EReal := m ((c : Thread nD τ).loc main_arg1)
abbrev w2 (c : Dev nD) : S4x2x16x64x16.Idx → EReal := m ((c : Thread nD τ).loc main_arg2)
abbrev w3 (c : Dev nD) : S4x2x16x64x16.Idx → EReal := m ((c : Thread nD τ).loc main_arg3)
/-- The entry that a point's row and lane stand for. -/
abbrev ent (t : Fin cfg0.N) (y : S1024x16.Idx) : S4x2x16x64x16.Idx := Shape.reshapeEquiv shapeCasts_S4x2x16x64x16_S8192x16 ((win0_4.blk t).view.emb y)

theorem idx0 : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] := by
  decide +kernel

variable (c : Dev nD) (t : Fin cfg0.N) (y : S1024x16.Idx)

/-- What the launch reads of argument 0 at a point: the argument at the entry the row and the lane stand for. -/
theorem in0 : iblk m c 0 t y = w0 m c (ent t y) := by
  have h : iblk m c 0 t y = (V m c main_v0 : S8192x16.Idx → EReal) ((win0_4.blk t).view.emb y) := by
    blk_ext [iblk, idx0 t]
  rw [h]
  entry_read
  rfl

theorem in1 : iblk m c 1 t y = w1 m c (ent t y) := by
  have h : iblk m c 1 t y = (V m c main_v1 : S8192x16.Idx → EReal) ((win0_4.blk t).view.emb y) := by
    blk_ext [iblk, idx0 t]
  rw [h]
  entry_read
  rfl

theorem in2 : iblk m c 2 t y = w2 m c (ent t y) := by
  have h : iblk m c 2 t y = (V m c main_v2 : S8192x16.Idx → EReal) ((win0_4.blk t).view.emb y) := by
    blk_ext [iblk, idx0 t]
  rw [h]
  entry_read
  rfl

theorem in3 : iblk m c 3 t y = w3 m c (ent t y) := by
  have h : iblk m c 3 t y = (V m c main_v3 : S8192x16.Idx → EReal) ((win0_4.blk t).view.emb y) := by
    blk_ext [iblk, idx0 t]
  rw [h]
  entry_read
  rfl

/-- Result 0: the launch's array is the reference's formula of the arguments. -/
theorem arr4 (c : Dev nD) : (dats m 0 c).arrAt 4 cfg0.N = val_main_v24 (F := Ideal) (w0 m c) (w1 m c) (w2 m c) (w3 m c) := by
  refine (dats m 0 c).arrAt_eq_of_covers 4 _ (by decide +kernel) fun t hf y => ?_
  blk_simp
  rw [after0_4]
  frame_out
  show _ = val_main_v23 (F := Ideal) _ _ _ _ (ent t y)
  generalize hj : ent t y = j
  pointwise [k0_pay1, k0_pay2, k0_pay3, k0_pay4, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  rw [in0, in1, in2, in3, hj]

/-- Result 1, likewise. -/
theorem arr5 (c : Dev nD) : (dats m 0 c).arrAt 5 cfg0.N = val_main_v25 (F := Ideal) (w1 m c) (w2 m c) := by
  refine (dats m 0 c).arrAt_eq_of_covers 5 _ (by decide +kernel) fun t hf y => ?_
  blk_simp
  rw [after0_5]
  frame_out
  show _ = val_main_v4 (F := Ideal) _ _ (ent t y)
  generalize hj : ent t y = j
  pointwise [k0_pay1, k0_pay2, k0_pay3, k0_pay4, val_main_cst, val_main_v0, val_main_v1, val_main_cst_0, val_main_v2, val_main_v3, val_main_v4]
  rw [in1, in2, hj]

/-- Result 2, likewise. -/
theorem arr6 (c : Dev nD) : (dats m 0 c).arrAt 6 cfg0.N = val_main_v26 (F := Ideal) (w1 m c) (w3 m c) := by
  refine (dats m 0 c).arrAt_eq_of_covers 6 _ (by decide +kernel) fun t hf y => ?_
  blk_simp
  rw [after0_6]
  frame_out
  show _ = val_main_v10 (F := Ideal) _ _ (ent t y)
  generalize hj : ent t y = j
  pointwise [k0_pay1, k0_pay2, k0_pay3, k0_pay4, val_main_cst_1, val_main_v5, val_main_v6, val_main_v7, val_main_cst_2, val_main_v8, val_main_v9, val_main_v10]
  rw [in1, in3, hj]

/-- The launch and the reference leave the same three arrays. -/
theorem tie : Cert.algebraic_Kernel31Ideal_Reference31Ideal (hKernel31Ideal := Cert.Kernel31Ideal.Gen.facts)
    (hReference31Ideal := Cert.Reference31Ideal.Gen.facts) := by
  intro m g m' g' _ hagree
  refine ⟨fun c => val_main_v24 (F := Ideal) (w0 m c) (w1 m c) (w2 m c) (w3 m c), fun c => val_main_v25 (F := Ideal) (w1 m c) (w2 m c), fun c => val_main_v26 (F := Ideal) (w1 m c) (w3 m c), ?_, ?_⟩
  · refine (θ_run _ _ _).mono (fun r h c => ?_) (Cert.Kernel31Ideal.Value.run_blocks (F := Ideal) m g)
    obtain ⟨h0, h1, h2, hk⟩ := h c
    exact ⟨h0.trans (arr4 m c), h1.trans (arr5 m c), h2.trans (arr6 m c), hk⟩
  · refine (θ_run _ _ _).mono (fun r h c => ?_) (Cert.Reference31Ideal.Value.run (F := Ideal) m' g')
    obtain ⟨h0, h1, h2, hk⟩ := h c
    obtain ⟨a0, a1, a2, a3⟩ := hagree c
    refine ⟨h0.trans ?_, h1.trans ?_, h2.trans ?_, hk⟩
    · rw [val_main_v24_eq, a0, a1, a2, a3]
    · rw [val_main_v25_eq, a1, a2]
    · rw [val_main_v26_eq, a1, a3]

end Cert.Adam31
-- ==== Proof.Adam32.lean ====
module

public import proofs.«01_k».proof.Defs
public import proofs.«01_k».proof.Proof.Gen.Kernel32Ideal.Value
public import proofs.«01_k».proof.Proof.Gen.Reference32Ideal.Run
public import proofs.«01_k».proof.Proof.Gen.Reference32Ideal.Read
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! Program 32: the optimiser's step at weights of shape 4 × 2 × 16 × 16 × 64, taken as 2048 rows of 64. -/

namespace Cert.Adam32

open Cert.Kernel32Ideal Cert.Kernel32Ideal.Gen
open Cert.Reference32Ideal.Read

variable (m : (ℓ : Loc nD τ sig) → Buf (Elt Ideal) ℓ)

/-- The arguments, as arrays. -/
abbrev w0 (c : Dev nD) : S4x2x16x16x64.Idx → EReal := m ((c : Thread nD τ).loc main_arg0)
abbrev w1 (c : Dev nD) : S4x2x16x16x64.Idx → EReal := m ((c : Thread nD τ).loc main_arg1)
abbrev w2 (c : Dev nD) : S4x2x16x16x64.Idx → EReal := m ((c : Thread nD τ).loc main_arg2)
abbrev w3 (c : Dev nD) : S4x2x16x16x64.Idx → EReal := m ((c : Thread nD τ).loc main_arg3)
/-- The entry that a point's row and lane stand for. -/
abbrev ent (t : Fin cfg0.N) (y : S1024x64.Idx) : S4x2x16x16x64.Idx := Shape.reshapeEquiv shapeCasts_S4x2x16x16x64_S2048x64 ((win0_4.blk t).view.emb y)

theorem idx0 : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] := by
  decide +kernel

variable (c : Dev nD) (t : Fin cfg0.N) (y : S1024x64.Idx)

/-- What the launch reads of argument 0 at a point: the argument at the entry the row and the lane stand for. -/
theorem in0 : iblk m c 0 t y = w0 m c (ent t y) := by
  have h : iblk m c 0 t y = (V m c main_v0 : S2048x64.Idx → EReal) ((win0_4.blk t).view.emb y) := by
    blk_ext [iblk, idx0 t]
  rw [h]
  entry_read
  rfl

theorem in1 : iblk m c 1 t y = w1 m c (ent t y) := by
  have h : iblk m c 1 t y = (V m c main_v1 : S2048x64.Idx → EReal) ((win0_4.blk t).view.emb y) := by
    blk_ext [iblk, idx0 t]
  rw [h]
  entry_read
  rfl

theorem in2 : iblk m c 2 t y = w2 m c (ent t y) := by
  have h : iblk m c 2 t y = (V m c main_v2 : S2048x64.Idx → EReal) ((win0_4.blk t).view.emb y) := by
    blk_ext [iblk, idx0 t]
  rw [h]
  entry_read
  rfl

theorem in3 : iblk m c 3 t y = w3 m c (ent t y) := by
  have h : iblk m c 3 t y = (V m c main_v3 : S2048x64.Idx → EReal) ((win0_4.blk t).view.emb y) := by
    blk_ext [iblk, idx0 t]
  rw [h]
  entry_read
  rfl

/-- Result 0: the launch's array is the reference's formula of the arguments. -/
theorem arr4 (c : Dev nD) : (dats m 0 c).arrAt 4 cfg0.N = val_main_v24 (F := Ideal) (w0 m c) (w1 m c) (w2 m c) (w3 m c) := by
  refine (dats m 0 c).arrAt_eq_of_covers 4 _ (by decide +kernel) fun t hf y => ?_
  blk_simp
  rw [after0_4]
  frame_out
  show _ = val_main_v23 (F := Ideal) _ _ _ _ (ent t y)
  generalize hj : ent t y = j
  pointwise [k0_pay1, k0_pay2, k0_pay3, k0_pay4, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  rw [in0, in1, in2, in3, hj]

/-- Result 1, likewise. -/
theorem arr5 (c : Dev nD) : (dats m 0 c).arrAt 5 cfg0.N = val_main_v25 (F := Ideal) (w1 m c) (w2 m c) := by
  refine (dats m 0 c).arrAt_eq_of_covers 5 _ (by decide +kernel) fun t hf y => ?_
  blk_simp
  rw [after0_5]
  frame_out
  show _ = val_main_v4 (F := Ideal) _ _ (ent t y)
  generalize hj : ent t y = j
  pointwise [k0_pay1, k0_pay2, k0_pay3, k0_pay4, val_main_cst, val_main_v0, val_main_v1, val_main_cst_0, val_main_v2, val_main_v3, val_main_v4]
  rw [in1, in2, hj]

/-- Result 2, likewise. -/
theorem arr6 (c : Dev nD) : (dats m 0 c).arrAt 6 cfg0.N = val_main_v26 (F := Ideal) (w1 m c) (w3 m c) := by
  refine (dats m 0 c).arrAt_eq_of_covers 6 _ (by decide +kernel) fun t hf y => ?_
  blk_simp
  rw [after0_6]
  frame_out
  show _ = val_main_v10 (F := Ideal) _ _ (ent t y)
  generalize hj : ent t y = j
  pointwise [k0_pay1, k0_pay2, k0_pay3, k0_pay4, val_main_cst_1, val_main_v5, val_main_v6, val_main_v7, val_main_cst_2, val_main_v8, val_main_v9, val_main_v10]
  rw [in1, in3, hj]

/-- The launch and the reference leave the same three arrays. -/
theorem tie : Cert.algebraic_Kernel32Ideal_Reference32Ideal (hKernel32Ideal := Cert.Kernel32Ideal.Gen.facts)
    (hReference32Ideal := Cert.Reference32Ideal.Gen.facts) := by
  intro m g m' g' _ hagree
  refine ⟨fun c => val_main_v24 (F := Ideal) (w0 m c) (w1 m c) (w2 m c) (w3 m c), fun c => val_main_v25 (F := Ideal) (w1 m c) (w2 m c), fun c => val_main_v26 (F := Ideal) (w1 m c) (w3 m c), ?_, ?_⟩
  · refine (θ_run _ _ _).mono (fun r h c => ?_) (Cert.Kernel32Ideal.Value.run_blocks (F := Ideal) m g)
    obtain ⟨h0, h1, h2, hk⟩ := h c
    exact ⟨h0.trans (arr4 m c), h1.trans (arr5 m c), h2.trans (arr6 m c), hk⟩
  · refine (θ_run _ _ _).mono (fun r h c => ?_) (Cert.Reference32Ideal.Value.run (F := Ideal) m' g')
    obtain ⟨h0, h1, h2, hk⟩ := h c
    obtain ⟨a0, a1, a2, a3⟩ := hagree c
    refine ⟨h0.trans ?_, h1.trans ?_, h2.trans ?_, hk⟩
    · rw [val_main_v24_eq, a0, a1, a2, a3]
    · rw [val_main_v25_eq, a1, a2]
    · rw [val_main_v26_eq, a1, a3]

end Cert.Adam32
-- ==== Proof.Adam33.lean ====
module

public import proofs.«01_k».proof.Defs
public import proofs.«01_k».proof.Proof.Gen.Kernel33Ideal.Value
public import proofs.«01_k».proof.Proof.Gen.Reference33Ideal.Run
public import proofs.«01_k».proof.Proof.Gen.Reference33Ideal.Read
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! Program 33: the optimiser's step at weights of shape 4 × 256, taken as 4 rows of 256. -/

namespace Cert.Adam33

open Cert.Kernel33Ideal Cert.Kernel33Ideal.Gen
open Cert.Reference33Ideal.Read

variable (m : (ℓ : Loc nD τ sig) → Buf (Elt Ideal) ℓ)

theorem idx0 : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] := by
  decide +kernel

/-- Result 0: the launch's array is the reference's formula of the arguments. -/
theorem arr4 (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx0 t]

/-- Result 1, likewise. -/
theorem arr5 (c : Dev nD) : (dats m 0 c).arrAt 5 cfg0.N = val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay1, k0_pay2, k0_pay3, val_main_cst, val_main_v0, val_main_v1, val_main_cst_0, val_main_v2, val_main_v3, val_main_v4]
  blk_point [iblk, V, idx0 t]

/-- Result 2, likewise. -/
theorem arr6 (c : Dev nD) : (dats m 0 c).arrAt 6 cfg0.N = val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  pointwise [k0_pay1, k0_pay2, k0_pay3, val_main_cst_1, val_main_v5, val_main_v6, val_main_v7, val_main_cst_2, val_main_v8, val_main_v9, val_main_v10]
  blk_point [iblk, V, idx0 t]

/-- The launch and the reference leave the same three arrays. -/
theorem tie : Cert.algebraic_Kernel33Ideal_Reference33Ideal (hKernel33Ideal := Cert.Kernel33Ideal.Gen.facts)
    (hReference33Ideal := Cert.Reference33Ideal.Gen.facts) := by
  intro m g m' g' _ hagree
  refine ⟨fun c => val_main_v23 (F := Ideal) (m ((c : Thread nD τ).loc main_arg0)) (m ((c : Thread nD τ).loc main_arg1)) (m ((c : Thread nD τ).loc main_arg2)) (m ((c : Thread nD τ).loc main_arg3)), fun c => val_main_v4 (F := Ideal) (m ((c : Thread nD τ).loc main_arg1)) (m ((c : Thread nD τ).loc main_arg2)), fun c => val_main_v10 (F := Ideal) (m ((c : Thread nD τ).loc main_arg1)) (m ((c : Thread nD τ).loc main_arg3)), ?_, ?_⟩
  · refine (θ_run _ _ _).mono (fun r h c => ?_) (Cert.Kernel33Ideal.Value.run_blocks (F := Ideal) m g)
    obtain ⟨h0, h1, h2, hk⟩ := h c
    exact ⟨h0.trans (arr4 m c), h1.trans (arr5 m c), h2.trans (arr6 m c), hk⟩
  · refine (θ_run _ _ _).mono (fun r h c => ?_) (Cert.Reference33Ideal.Value.run (F := Ideal) m' g')
    obtain ⟨h0, h1, h2, hk⟩ := h c
    obtain ⟨a0, a1, a2, a3⟩ := hagree c
    refine ⟨h0.trans ?_, h1.trans ?_, h2.trans ?_, hk⟩
    · rw [val_main_v23_eq, a0, a1, a2, a3]
    · rw [val_main_v4_eq, a1, a2]
    · rw [val_main_v10_eq, a1, a3]

end Cert.Adam33
-- ==== Proof.Adam34.lean ====
module

public import proofs.«01_k».proof.Defs
public import proofs.«01_k».proof.Proof.Gen.Kernel34Ideal.Value
public import proofs.«01_k».proof.Proof.Gen.Reference34Ideal.Run
public import proofs.«01_k».proof.Proof.Gen.Reference34Ideal.Read
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! Program 34: the optimiser's step at weights of shape 4 × 32 × 256, taken as 128 rows of 256. -/

namespace Cert.Adam34

open Cert.Kernel34Ideal Cert.Kernel34Ideal.Gen
open Cert.Reference34Ideal.Read

variable (m : (ℓ : Loc nD τ sig) → Buf (Elt Ideal) ℓ)

/-- The arguments, as arrays. -/
abbrev w0 (c : Dev nD) : S4x32x256.Idx → EReal := m ((c : Thread nD τ).loc main_arg0)
abbrev w1 (c : Dev nD) : S4x32x256.Idx → EReal := m ((c : Thread nD τ).loc main_arg1)
abbrev w2 (c : Dev nD) : S4x32x256.Idx → EReal := m ((c : Thread nD τ).loc main_arg2)
abbrev w3 (c : Dev nD) : S4x32x256.Idx → EReal := m ((c : Thread nD τ).loc main_arg3)
/-- The entry that a point's row and lane stand for. -/
abbrev ent (t : Fin cfg0.N) (y : S128x256.Idx) : S4x32x256.Idx := Shape.reshapeEquiv shapeCasts_S4x32x256_S128x256 ((win0_4.blk t).view.emb y)

theorem idx0 : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] := by
  decide +kernel

variable (c : Dev nD) (t : Fin cfg0.N) (y : S128x256.Idx)

/-- What the launch reads of argument 0 at a point: the argument at the entry the row and the lane stand for. -/
theorem in0 : iblk m c 0 t y = w0 m c (ent t y) := by
  have h : iblk m c 0 t y = (V m c main_v0 : S128x256.Idx → EReal) ((win0_4.blk t).view.emb y) := by
    blk_ext [iblk, idx0 t]
  rw [h]
  entry_read
  rfl

theorem in1 : iblk m c 1 t y = w1 m c (ent t y) := by
  have h : iblk m c 1 t y = (V m c main_v1 : S128x256.Idx → EReal) ((win0_4.blk t).view.emb y) := by
    blk_ext [iblk, idx0 t]
  rw [h]
  entry_read
  rfl

theorem in2 : iblk m c 2 t y = w2 m c (ent t y) := by
  have h : iblk m c 2 t y = (V m c main_v2 : S128x256.Idx → EReal) ((win0_4.blk t).view.emb y) := by
    blk_ext [iblk, idx0 t]
  rw [h]
  entry_read
  rfl

theorem in3 : iblk m c 3 t y = w3 m c (ent t y) := by
  have h : iblk m c 3 t y = (V m c main_v3 : S128x256.Idx → EReal) ((win0_4.blk t).view.emb y) := by
    blk_ext [iblk, idx0 t]
  rw [h]
  entry_read
  rfl

/-- Result 0: the launch's array is the reference's formula of the arguments. -/
theorem arr4 (c : Dev nD) : (dats m 0 c).arrAt 4 cfg0.N = val_main_v24 (F := Ideal) (w0 m c) (w1 m c) (w2 m c) (w3 m c) := by
  refine (dats m 0 c).arrAt_eq_of_covers 4 _ (by decide +kernel) fun t hf y => ?_
  blk_simp
  rw [after0_4]
  frame_out
  show _ = val_main_v23 (F := Ideal) _ _ _ _ (ent t y)
  generalize hj : ent t y = j
  pointwise [k0_pay1, k0_pay2, k0_pay3, k0_pay4, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  rw [in0, in1, in2, in3, hj]

/-- Result 1, likewise. -/
theorem arr5 (c : Dev nD) : (dats m 0 c).arrAt 5 cfg0.N = val_main_v25 (F := Ideal) (w1 m c) (w2 m c) := by
  refine (dats m 0 c).arrAt_eq_of_covers 5 _ (by decide +kernel) fun t hf y => ?_
  blk_simp
  rw [after0_5]
  frame_out
  show _ = val_main_v4 (F := Ideal) _ _ (ent t y)
  generalize hj : ent t y = j
  pointwise [k0_pay1, k0_pay2, k0_pay3, k0_pay4, val_main_cst, val_main_v0, val_main_v1, val_main_cst_0, val_main_v2, val_main_v3, val_main_v4]
  rw [in1, in2, hj]

/-- Result 2, likewise. -/
theorem arr6 (c : Dev nD) : (dats m 0 c).arrAt 6 cfg0.N = val_main_v26 (F := Ideal) (w1 m c) (w3 m c) := by
  refine (dats m 0 c).arrAt_eq_of_covers 6 _ (by decide +kernel) fun t hf y => ?_
  blk_simp
  rw [after0_6]
  frame_out
  show _ = val_main_v10 (F := Ideal) _ _ (ent t y)
  generalize hj : ent t y = j
  pointwise [k0_pay1, k0_pay2, k0_pay3, k0_pay4, val_main_cst_1, val_main_v5, val_main_v6, val_main_v7, val_main_cst_2, val_main_v8, val_main_v9, val_main_v10]
  rw [in1, in3, hj]

/-- The launch and the reference leave the same three arrays. -/
theorem tie : Cert.algebraic_Kernel34Ideal_Reference34Ideal (hKernel34Ideal := Cert.Kernel34Ideal.Gen.facts)
    (hReference34Ideal := Cert.Reference34Ideal.Gen.facts) := by
  intro m g m' g' _ hagree
  refine ⟨fun c => val_main_v24 (F := Ideal) (w0 m c) (w1 m c) (w2 m c) (w3 m c), fun c => val_main_v25 (F := Ideal) (w1 m c) (w2 m c), fun c => val_main_v26 (F := Ideal) (w1 m c) (w3 m c), ?_, ?_⟩
  · refine (θ_run _ _ _).mono (fun r h c => ?_) (Cert.Kernel34Ideal.Value.run_blocks (F := Ideal) m g)
    obtain ⟨h0, h1, h2, hk⟩ := h c
    exact ⟨h0.trans (arr4 m c), h1.trans (arr5 m c), h2.trans (arr6 m c), hk⟩
  · refine (θ_run _ _ _).mono (fun r h c => ?_) (Cert.Reference34Ideal.Value.run (F := Ideal) m' g')
    obtain ⟨h0, h1, h2, hk⟩ := h c
    obtain ⟨a0, a1, a2, a3⟩ := hagree c
    refine ⟨h0.trans ?_, h1.trans ?_, h2.trans ?_, hk⟩
    · rw [val_main_v24_eq, a0, a1, a2, a3]
    · rw [val_main_v25_eq, a1, a2]
    · rw [val_main_v26_eq, a1, a3]

end Cert.Adam34
-- ==== Proof.Sum35.lean ====
module

public import proofs.«01_k».proof.Defs
public import proofs.«01_k».proof.Proof.Gen.Kernel35Ideal.Frame
public import proofs.«01_k».proof.Proof.Gen.Reference35Ideal.Run
public import proofs.«01_k».proof.Proof.Gen.Reference35Ideal.Read
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! Program 35: the sum of the four received slots of the big weights' gradients, and the four gradients taken out of it. -/

namespace Cert.Sum35

open Cert.Kernel35Ideal Cert.Kernel35Ideal.Gen
open Cert.Reference35Ideal.Read

variable (m : (ℓ : Loc nD τ sig) → Buf (Elt Ideal) ℓ)

/-- The argument, as an array. -/
abbrev argA (c : Dev nD) : S4x5632x1024.Idx → EReal := m ((c : Thread nD τ).loc main_arg0)

theorem idx0 : ∀ t : Fin grid0.N, win0_0.index t = ![0, t.val, 0] ∧ win0_1.index t = ![t.val, 0] := by
  decide +kernel

theorem hN : cfg0.N = 11 := N_0

theorem inA (c : Dev nD) (t : Fin cfg0.N) (s : Fin 4) (r : Fin 512) (l : Fin 1024) :
    (iblk m c 0 t : S4x512x1024.Idx → EReal) (ix3 s r l) = argA m c (ix3 s ⟨512 * t.val + r.val, by have := t.isLt; have := hN; have := r.isLt; omega⟩ l) := by
  have h := idx0 t
  unfold argA
  blk_ext [iblk, V, h.1]

/-- What the launch leaves: the sum over the slots. -/
theorem arr_res (c : Dev nD) : (dats m 0 c).arrAt 1 cfg0.N = val_main_v1 (F := Ideal) (argA m c) := by
  refine (dats m 0 c).arrAt_eq_of_covers 1 _ (by decide +kernel) fun t hf y => ?_
  blk_simp
  rw [after0_1]
  frame_out
  have h := idx0 t
  have hy0 : (y 0).val < 512 := (y 0).isLt
  have hy1 : (y 1).val < 1024 := (y 1).isLt
  have ht : t.val < 11 := hN ▸ t.isLt
  have hy : (y : S512x1024.Idx) = ix2 ⟨(y 0).val, hy0⟩ ⟨(y 1).val, hy1⟩ := by funext a; match a with | ⟨0, _⟩ => rfl | ⟨1, _⟩ => rfl
  have e : ((win0_1.blk t).view.emb y : S5632x1024.Idx) = ix2 ⟨512 * t.val + (y 0).val, by omega⟩ ⟨(y 1).val, hy1⟩ := by
    funext a
    match a with
    | ⟨0, _⟩ => exact Fin.ext (by blk_simp [h.2]; show _ = 512 * t.val + (y 0).val; rw [mul_comm]; rfl)
    | ⟨1, _⟩ => exact Fin.ext (by blk_simp [h.2]; rfl)
  rw [e]
  conv_lhs => rw [hy]
  unfold_payloads
  pointwise [val_main_cst, val_main_v0, val_main_v1]
  rw [Fin.sum_univ_four]
  exact (congrArg₂ (fun x y : EReal => x + y) (congrArg₂ (fun x y : EReal => x + y) (congrArg₂ (fun x y : EReal => x + y) (inA m c t _ _ _) (inA m c t _ _ _)) (inA m c t _ _ _)) (inA m c t _ _ _))

/-- Result main_v3: the same entries of the sum. -/
theorem tail_main_v3 (c : Dev nD) : Pipeline.afterTail₀ cfgs (dats m) 0 (V0 m) [hostOps1] c main_v3 = val_main_v4 (F := Ideal) (argA m c) := by
  have e := (Pipeline.withArrays_arr (cfgs 0).spec launch0.win.arr_inj c (V0 m c) (fun w => (dats m 0 c).arrAt w (cfgs 0).N) 1).trans (arr_res m c)
  show StableHlo.after hostOps1 (Pipeline.withArrays (cfgs 0).spec c (V0 m c) fun w => (dats m 0 c).arrAt w (cfgs 0).N) (Proc.devRef .tc main_v3) = _
  generalize (Pipeline.withArrays (cfgs 0).spec c (V0 m c) fun w => (dats m 0 c).arrAt w (cfgs 0).N) = W at e ⊢
  unfold hostOps1
  after_results
  have e' : W (Proc.devRef .tc main_v0) = _ := e
  rw [e']
  rfl

/-- Result main_v5: the same entries of the sum. -/
theorem tail_main_v5 (c : Dev nD) : Pipeline.afterTail₀ cfgs (dats m) 0 (V0 m) [hostOps1] c main_v5 = val_main_v6 (F := Ideal) (argA m c) := by
  have e := (Pipeline.withArrays_arr (cfgs 0).spec launch0.win.arr_inj c (V0 m c) (fun w => (dats m 0 c).arrAt w (cfgs 0).N) 1).trans (arr_res m c)
  show StableHlo.after hostOps1 (Pipeline.withArrays (cfgs 0).spec c (V0 m c) fun w => (dats m 0 c).arrAt w (cfgs 0).N) (Proc.devRef .tc main_v5) = _
  generalize (Pipeline.withArrays (cfgs 0).spec c (V0 m c) fun w => (dats m 0 c).arrAt w (cfgs 0).N) = W at e ⊢
  unfold hostOps1
  after_results
  have e' : W (Proc.devRef .tc main_v0) = _ := e
  rw [e']
  rfl

/-- Result main_v8: the same entries of the sum. -/
theorem tail_main_v8 (c : Dev nD) : Pipeline.afterTail₀ cfgs (dats m) 0 (V0 m) [hostOps1] c main_v8 = val_main_v9 (F := Ideal) (argA m c) := by
  have e := (Pipeline.withArrays_arr (cfgs 0).spec launch0.win.arr_inj c (V0 m c) (fun w => (dats m 0 c).arrAt w (cfgs 0).N) 1).trans (arr_res m c)
  show StableHlo.after hostOps1 (Pipeline.withArrays (cfgs 0).spec c (V0 m c) fun w => (dats m 0 c).arrAt w (cfgs 0).N) (Proc.devRef .tc main_v8) = _
  generalize (Pipeline.withArrays (cfgs 0).spec c (V0 m c) fun w => (dats m 0 c).arrAt w (cfgs 0).N) = W at e ⊢
  unfold hostOps1
  after_results
  have e' : W (Proc.devRef .tc main_v0) = _ := e
  rw [e']
  rfl

/-- Result main_v10: the same entries of the sum. -/
theorem tail_main_v10 (c : Dev nD) : Pipeline.afterTail₀ cfgs (dats m) 0 (V0 m) [hostOps1] c main_v10 = val_main_v11 (F := Ideal) (argA m c) := by
  have e := (Pipeline.withArrays_arr (cfgs 0).spec launch0.win.arr_inj c (V0 m c) (fun w => (dats m 0 c).arrAt w (cfgs 0).N) 1).trans (arr_res m c)
  show StableHlo.after hostOps1 (Pipeline.withArrays (cfgs 0).spec c (V0 m c) fun w => (dats m 0 c).arrAt w (cfgs 0).N) (Proc.devRef .tc main_v10) = _
  generalize (Pipeline.withArrays (cfgs 0).spec c (V0 m c) fun w => (dats m 0 c).arrAt w (cfgs 0).N) = W at e ⊢
  unfold hostOps1
  after_results
  have e' : W (Proc.devRef .tc main_v0) = _ := e
  rw [e']
  rfl

theorem tie : Cert.algebraic_Kernel35Ideal_Reference35Ideal (hKernel35Ideal := Cert.Kernel35Ideal.Gen.facts)
    (hReference35Ideal := Cert.Reference35Ideal.Gen.facts) := by
  intro m g m' g' _ hagree
  refine ⟨fun c => val_main_v4 (F := Ideal) (argA m c), fun c => val_main_v6 (F := Ideal) (argA m c), fun c => val_main_v9 (F := Ideal) (argA m c), fun c => val_main_v11 (F := Ideal) (argA m c), ?_, ?_⟩
  · run_from Cert.Kernel35Ideal.Gen.run_main (F := Ideal) m g
    · exact tail_main_v3 m c
    · exact tail_main_v5 m c
    · exact tail_main_v8 m c
    · exact tail_main_v10 m c
  · refine (θ_run _ _ _).mono (fun r h c => ?_) (Cert.Reference35Ideal.Value.run (F := Ideal) m' g')
    obtain ⟨h0, h1, h2, h3, hk⟩ := h c
    have a0 := hagree c
    refine ⟨h0.trans ?_, h1.trans ?_, h2.trans ?_, h3.trans ?_, hk⟩
    · rw [val_main_v4_eq, a0]
    · rw [val_main_v6_eq, a0]
    · rw [val_main_v9_eq, a0]
    · rw [val_main_v11_eq, a0]

end Cert.Sum35
-- ==== Proof.Sum36.lean ====
module

public import proofs.«01_k».proof.Defs
public import proofs.«01_k».proof.Proof.Gen.Kernel36Ideal.Frame
public import proofs.«01_k».proof.Proof.Gen.Reference36Ideal.Run
public import proofs.«01_k».proof.Proof.Gen.Reference36Ideal.Read
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! Program 36: the sum of the eight received slots of the small weights' gradients, and the fifteen gradients taken out of it. -/

namespace Cert.Sum36

open Cert.Kernel36Ideal Cert.Kernel36Ideal.Gen
open Cert.Reference36Ideal.Read

variable (m : (ℓ : Loc nD τ sig) → Buf (Elt Ideal) ℓ)

/-- The argument, as an array. -/
abbrev argA (c : Dev nD) : S8x6656x128.Idx → EReal := m ((c : Thread nD τ).loc main_arg0)

theorem idx0 : ∀ t : Fin grid0.N, win0_0.index t = ![0, t.val, 0] ∧ win0_1.index t = ![t.val, 0] := by
  decide +kernel

theorem hN : cfg0.N = 13 := N_0

theorem inA (c : Dev nD) (t : Fin cfg0.N) (s : Fin 8) (r : Fin 512) (l : Fin 128) :
    (iblk m c 0 t : S8x512x128.Idx → EReal) (ix3 s r l) = argA m c (ix3 s ⟨512 * t.val + r.val, by have := t.isLt; have := hN; have := r.isLt; omega⟩ l) := by
  have h := idx0 t
  unfold argA
  blk_ext [iblk, V, h.1]

/-- What the launch leaves: the sum over the slots. -/
theorem arr_res (c : Dev nD) : (dats m 0 c).arrAt 1 cfg0.N = val_main_v0 (F := Ideal) (argA m c) := by
  refine (dats m 0 c).arrAt_eq_of_covers 1 _ (by decide +kernel) fun t hf y => ?_
  blk_simp
  rw [after0_1]
  frame_out
  have h := idx0 t
  have hy0 : (y 0).val < 512 := (y 0).isLt
  have hy1 : (y 1).val < 128 := (y 1).isLt
  have ht : t.val < 13 := hN ▸ t.isLt
  have hy : (y : S512x128.Idx) = ix2 ⟨(y 0).val, hy0⟩ ⟨(y 1).val, hy1⟩ := by funext a; match a with | ⟨0, _⟩ => rfl | ⟨1, _⟩ => rfl
  have e : ((win0_1.blk t).view.emb y : S6656x128.Idx) = ix2 ⟨512 * t.val + (y 0).val, by omega⟩ ⟨(y 1).val, hy1⟩ := by
    funext a
    match a with
    | ⟨0, _⟩ => exact Fin.ext (by blk_simp [h.2]; show _ = 512 * t.val + (y 0).val; rw [mul_comm]; rfl)
    | ⟨1, _⟩ => exact Fin.ext (by blk_simp [h.2]; rfl)
  rw [e]
  conv_lhs => rw [hy]
  unfold_payloads
  pointwise [val_main_cst, val_main_v0]
  rw [Fin.sum_univ_eight]
  exact (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (inA m c t _ _ _) (inA m c t _ _ _)) (inA m c t _ _ _)) (inA m c t _ _ _)) (inA m c t _ _ _)) (inA m c t _ _ _)) (inA m c t _ _ _)) (inA m c t _ _ _))

/-- Result main_v3: the same entries of the sum. -/
theorem tail_main_v3 (c : Dev nD) : Pipeline.afterTail₀ cfgs (dats m) 0 (V0 m) [hostOps1] c main_v3 = val_main_v3 (F := Ideal) (argA m c) := by
  have e := (Pipeline.withArrays_arr (cfgs 0).spec launch0.win.arr_inj c (V0 m c) (fun w => (dats m 0 c).arrAt w (cfgs 0).N) 1).trans (arr_res m c)
  show StableHlo.after hostOps1 (Pipeline.withArrays (cfgs 0).spec c (V0 m c) fun w => (dats m 0 c).arrAt w (cfgs 0).N) (Proc.devRef .tc main_v3) = _
  generalize (Pipeline.withArrays (cfgs 0).spec c (V0 m c) fun w => (dats m 0 c).arrAt w (cfgs 0).N) = W at e ⊢
  unfold hostOps1
  after_results
  have e' : W (Proc.devRef .tc main_v0) = _ := e
  rw [e']
  rfl

/-- Result main_v6: the same entries of the sum. -/
theorem tail_main_v6 (c : Dev nD) : Pipeline.afterTail₀ cfgs (dats m) 0 (V0 m) [hostOps1] c main_v6 = val_main_v6 (F := Ideal) (argA m c) := by
  have e := (Pipeline.withArrays_arr (cfgs 0).spec launch0.win.arr_inj c (V0 m c) (fun w => (dats m 0 c).arrAt w (cfgs 0).N) 1).trans (arr_res m c)
  show StableHlo.after hostOps1 (Pipeline.withArrays (cfgs 0).spec c (V0 m c) fun w => (dats m 0 c).arrAt w (cfgs 0).N) (Proc.devRef .tc main_v6) = _
  generalize (Pipeline.withArrays (cfgs 0).spec c (V0 m c) fun w => (dats m 0 c).arrAt w (cfgs 0).N) = W at e ⊢
  unfold hostOps1
  after_results
  have e' : W (Proc.devRef .tc main_v0) = _ := e
  rw [e']
  rfl

/-- Result main_v9: the same entries of the sum. -/
theorem tail_main_v9 (c : Dev nD) : Pipeline.afterTail₀ cfgs (dats m) 0 (V0 m) [hostOps1] c main_v9 = val_main_v9 (F := Ideal) (argA m c) := by
  have e := (Pipeline.withArrays_arr (cfgs 0).spec launch0.win.arr_inj c (V0 m c) (fun w => (dats m 0 c).arrAt w (cfgs 0).N) 1).trans (arr_res m c)
  show StableHlo.after hostOps1 (Pipeline.withArrays (cfgs 0).spec c (V0 m c) fun w => (dats m 0 c).arrAt w (cfgs 0).N) (Proc.devRef .tc main_v9) = _
  generalize (Pipeline.withArrays (cfgs 0).spec c (V0 m c) fun w => (dats m 0 c).arrAt w (cfgs 0).N) = W at e ⊢
  unfold hostOps1
  after_results
  have e' : W (Proc.devRef .tc main_v0) = _ := e
  rw [e']
  rfl

/-- Result main_v11: the same entries of the sum. -/
theorem tail_main_v11 (c : Dev nD) : Pipeline.afterTail₀ cfgs (dats m) 0 (V0 m) [hostOps1] c main_v11 = val_main_v11 (F := Ideal) (argA m c) := by
  have e := (Pipeline.withArrays_arr (cfgs 0).spec launch0.win.arr_inj c (V0 m c) (fun w => (dats m 0 c).arrAt w (cfgs 0).N) 1).trans (arr_res m c)
  show StableHlo.after hostOps1 (Pipeline.withArrays (cfgs 0).spec c (V0 m c) fun w => (dats m 0 c).arrAt w (cfgs 0).N) (Proc.devRef .tc main_v11) = _
  generalize (Pipeline.withArrays (cfgs 0).spec c (V0 m c) fun w => (dats m 0 c).arrAt w (cfgs 0).N) = W at e ⊢
  unfold hostOps1
  after_results
  have e' : W (Proc.devRef .tc main_v0) = _ := e
  rw [e']
  rfl

/-- Result main_v14: the same entries of the sum. -/
theorem tail_main_v14 (c : Dev nD) : Pipeline.afterTail₀ cfgs (dats m) 0 (V0 m) [hostOps1] c main_v14 = val_main_v14 (F := Ideal) (argA m c) := by
  have e := (Pipeline.withArrays_arr (cfgs 0).spec launch0.win.arr_inj c (V0 m c) (fun w => (dats m 0 c).arrAt w (cfgs 0).N) 1).trans (arr_res m c)
  show StableHlo.after hostOps1 (Pipeline.withArrays (cfgs 0).spec c (V0 m c) fun w => (dats m 0 c).arrAt w (cfgs 0).N) (Proc.devRef .tc main_v14) = _
  generalize (Pipeline.withArrays (cfgs 0).spec c (V0 m c) fun w => (dats m 0 c).arrAt w (cfgs 0).N) = W at e ⊢
  unfold hostOps1
  after_results
  have e' : W (Proc.devRef .tc main_v0) = _ := e
  rw [e']
  rfl

/-- Result main_v18: the same entries of the sum. -/
theorem tail_main_v18 (c : Dev nD) : Pipeline.afterTail₀ cfgs (dats m) 0 (V0 m) [hostOps1] c main_v18 = val_main_v18 (F := Ideal) (argA m c) := by
  have e := (Pipeline.withArrays_arr (cfgs 0).spec launch0.win.arr_inj c (V0 m c) (fun w => (dats m 0 c).arrAt w (cfgs 0).N) 1).trans (arr_res m c)
  show StableHlo.after hostOps1 (Pipeline.withArrays (cfgs 0).spec c (V0 m c) fun w => (dats m 0 c).arrAt w (cfgs 0).N) (Proc.devRef .tc main_v18) = _
  generalize (Pipeline.withArrays (cfgs 0).spec c (V0 m c) fun w => (dats m 0 c).arrAt w (cfgs 0).N) = W at e ⊢
  unfold hostOps1
  after_results
  have e' : W (Proc.devRef .tc main_v0) = _ := e
  rw [e']
  rfl

/-- Result main_v21: the same entries of the sum. -/
theorem tail_main_v21 (c : Dev nD) : Pipeline.afterTail₀ cfgs (dats m) 0 (V0 m) [hostOps1] c main_v21 = val_main_v21 (F := Ideal) (argA m c) := by
  have e := (Pipeline.withArrays_arr (cfgs 0).spec launch0.win.arr_inj c (V0 m c) (fun w => (dats m 0 c).arrAt w (cfgs 0).N) 1).trans (arr_res m c)
  show StableHlo.after hostOps1 (Pipeline.withArrays (cfgs 0).spec c (V0 m c) fun w => (dats m 0 c).arrAt w (cfgs 0).N) (Proc.devRef .tc main_v21) = _
  generalize (Pipeline.withArrays (cfgs 0).spec c (V0 m c) fun w => (dats m 0 c).arrAt w (cfgs 0).N) = W at e ⊢
  unfold hostOps1
  after_results
  have e' : W (Proc.devRef .tc main_v0) = _ := e
  rw [e']
  rfl

/-- Result main_v24: the same entries of the sum. -/
theorem tail_main_v24 (c : Dev nD) : Pipeline.afterTail₀ cfgs (dats m) 0 (V0 m) [hostOps1] c main_v24 = val_main_v24 (F := Ideal) (argA m c) := by
  have e := (Pipeline.withArrays_arr (cfgs 0).spec launch0.win.arr_inj c (V0 m c) (fun w => (dats m 0 c).arrAt w (cfgs 0).N) 1).trans (arr_res m c)
  show StableHlo.after hostOps1 (Pipeline.withArrays (cfgs 0).spec c (V0 m c) fun w => (dats m 0 c).arrAt w (cfgs 0).N) (Proc.devRef .tc main_v24) = _
  generalize (Pipeline.withArrays (cfgs 0).spec c (V0 m c) fun w => (dats m 0 c).arrAt w (cfgs 0).N) = W at e ⊢
  unfold hostOps1
  after_results
  have e' : W (Proc.devRef .tc main_v0) = _ := e
  rw [e']
  rfl

/-- Result main_v28: the same entries of the sum. -/
theorem tail_main_v28 (c : Dev nD) : Pipeline.afterTail₀ cfgs (dats m) 0 (V0 m) [hostOps1] c main_v28 = val_main_v28 (F := Ideal) (argA m c) := by
  have e := (Pipeline.withArrays_arr (cfgs 0).spec launch0.win.arr_inj c (V0 m c) (fun w => (dats m 0 c).arrAt w (cfgs 0).N) 1).trans (arr_res m c)
  show StableHlo.after hostOps1 (Pipeline.withArrays (cfgs 0).spec c (V0 m c) fun w => (dats m 0 c).arrAt w (cfgs 0).N) (Proc.devRef .tc main_v28) = _
  generalize (Pipeline.withArrays (cfgs 0).spec c (V0 m c) fun w => (dats m 0 c).arrAt w (cfgs 0).N) = W at e ⊢
  unfold hostOps1
  after_results
  have e' : W (Proc.devRef .tc main_v0) = _ := e
  rw [e']
  rfl

/-- Result main_v31: the same entries of the sum. -/
theorem tail_main_v31 (c : Dev nD) : Pipeline.afterTail₀ cfgs (dats m) 0 (V0 m) [hostOps1] c main_v31 = val_main_v31 (F := Ideal) (argA m c) := by
  have e := (Pipeline.withArrays_arr (cfgs 0).spec launch0.win.arr_inj c (V0 m c) (fun w => (dats m 0 c).arrAt w (cfgs 0).N) 1).trans (arr_res m c)
  show StableHlo.after hostOps1 (Pipeline.withArrays (cfgs 0).spec c (V0 m c) fun w => (dats m 0 c).arrAt w (cfgs 0).N) (Proc.devRef .tc main_v31) = _
  generalize (Pipeline.withArrays (cfgs 0).spec c (V0 m c) fun w => (dats m 0 c).arrAt w (cfgs 0).N) = W at e ⊢
  unfold hostOps1
  after_results
  have e' : W (Proc.devRef .tc main_v0) = _ := e
  rw [e']
  rfl

/-- Result main_v34: the same entries of the sum. -/
theorem tail_main_v34 (c : Dev nD) : Pipeline.afterTail₀ cfgs (dats m) 0 (V0 m) [hostOps1] c main_v34 = val_main_v34 (F := Ideal) (argA m c) := by
  have e := (Pipeline.withArrays_arr (cfgs 0).spec launch0.win.arr_inj c (V0 m c) (fun w => (dats m 0 c).arrAt w (cfgs 0).N) 1).trans (arr_res m c)
  show StableHlo.after hostOps1 (Pipeline.withArrays (cfgs 0).spec c (V0 m c) fun w => (dats m 0 c).arrAt w (cfgs 0).N) (Proc.devRef .tc main_v34) = _
  generalize (Pipeline.withArrays (cfgs 0).spec c (V0 m c) fun w => (dats m 0 c).arrAt w (cfgs 0).N) = W at e ⊢
  unfold hostOps1
  after_results
  have e' : W (Proc.devRef .tc main_v0) = _ := e
  rw [e']
  rfl

/-- Result main_v37: the same entries of the sum. -/
theorem tail_main_v37 (c : Dev nD) : Pipeline.afterTail₀ cfgs (dats m) 0 (V0 m) [hostOps1] c main_v37 = val_main_v37 (F := Ideal) (argA m c) := by
  have e := (Pipeline.withArrays_arr (cfgs 0).spec launch0.win.arr_inj c (V0 m c) (fun w => (dats m 0 c).arrAt w (cfgs 0).N) 1).trans (arr_res m c)
  show StableHlo.after hostOps1 (Pipeline.withArrays (cfgs 0).spec c (V0 m c) fun w => (dats m 0 c).arrAt w (cfgs 0).N) (Proc.devRef .tc main_v37) = _
  generalize (Pipeline.withArrays (cfgs 0).spec c (V0 m c) fun w => (dats m 0 c).arrAt w (cfgs 0).N) = W at e ⊢
  unfold hostOps1
  after_results
  have e' : W (Proc.devRef .tc main_v0) = _ := e
  rw [e']
  rfl

/-- Result main_v40: the same entries of the sum. -/
theorem tail_main_v40 (c : Dev nD) : Pipeline.afterTail₀ cfgs (dats m) 0 (V0 m) [hostOps1] c main_v40 = val_main_v40 (F := Ideal) (argA m c) := by
  have e := (Pipeline.withArrays_arr (cfgs 0).spec launch0.win.arr_inj c (V0 m c) (fun w => (dats m 0 c).arrAt w (cfgs 0).N) 1).trans (arr_res m c)
  show StableHlo.after hostOps1 (Pipeline.withArrays (cfgs 0).spec c (V0 m c) fun w => (dats m 0 c).arrAt w (cfgs 0).N) (Proc.devRef .tc main_v40) = _
  generalize (Pipeline.withArrays (cfgs 0).spec c (V0 m c) fun w => (dats m 0 c).arrAt w (cfgs 0).N) = W at e ⊢
  unfold hostOps1
  after_results
  have e' : W (Proc.devRef .tc main_v0) = _ := e
  rw [e']
  rfl

/-- Result main_v43: the same entries of the sum. -/
theorem tail_main_v43 (c : Dev nD) : Pipeline.afterTail₀ cfgs (dats m) 0 (V0 m) [hostOps1] c main_v43 = val_main_v43 (F := Ideal) (argA m c) := by
  have e := (Pipeline.withArrays_arr (cfgs 0).spec launch0.win.arr_inj c (V0 m c) (fun w => (dats m 0 c).arrAt w (cfgs 0).N) 1).trans (arr_res m c)
  show StableHlo.after hostOps1 (Pipeline.withArrays (cfgs 0).spec c (V0 m c) fun w => (dats m 0 c).arrAt w (cfgs 0).N) (Proc.devRef .tc main_v43) = _
  generalize (Pipeline.withArrays (cfgs 0).spec c (V0 m c) fun w => (dats m 0 c).arrAt w (cfgs 0).N) = W at e ⊢
  unfold hostOps1
  after_results
  have e' : W (Proc.devRef .tc main_v0) = _ := e
  rw [e']
  rfl

/-- Result main_v46: the same entries of the sum. -/
theorem tail_main_v46 (c : Dev nD) : Pipeline.afterTail₀ cfgs (dats m) 0 (V0 m) [hostOps1] c main_v46 = val_main_v46 (F := Ideal) (argA m c) := by
  have e := (Pipeline.withArrays_arr (cfgs 0).spec launch0.win.arr_inj c (V0 m c) (fun w => (dats m 0 c).arrAt w (cfgs 0).N) 1).trans (arr_res m c)
  show StableHlo.after hostOps1 (Pipeline.withArrays (cfgs 0).spec c (V0 m c) fun w => (dats m 0 c).arrAt w (cfgs 0).N) (Proc.devRef .tc main_v46) = _
  generalize (Pipeline.withArrays (cfgs 0).spec c (V0 m c) fun w => (dats m 0 c).arrAt w (cfgs 0).N) = W at e ⊢
  unfold hostOps1
  after_results
  have e' : W (Proc.devRef .tc main_v0) = _ := e
  rw [e']
  rfl

theorem tie : Cert.algebraic_Kernel36Ideal_Reference36Ideal (hKernel36Ideal := Cert.Kernel36Ideal.Gen.facts)
    (hReference36Ideal := Cert.Reference36Ideal.Gen.facts) := by
  intro m g m' g' _ hagree
  refine ⟨fun c => val_main_v3 (F := Ideal) (argA m c), fun c => val_main_v6 (F := Ideal) (argA m c), fun c => val_main_v9 (F := Ideal) (argA m c), fun c => val_main_v11 (F := Ideal) (argA m c), fun c => val_main_v14 (F := Ideal) (argA m c), fun c => val_main_v18 (F := Ideal) (argA m c), fun c => val_main_v21 (F := Ideal) (argA m c), fun c => val_main_v24 (F := Ideal) (argA m c), fun c => val_main_v28 (F := Ideal) (argA m c), fun c => val_main_v31 (F := Ideal) (argA m c), fun c => val_main_v34 (F := Ideal) (argA m c), fun c => val_main_v37 (F := Ideal) (argA m c), fun c => val_main_v40 (F := Ideal) (argA m c), fun c => val_main_v43 (F := Ideal) (argA m c), fun c => val_main_v46 (F := Ideal) (argA m c), ?_, ?_⟩
  · run_from Cert.Kernel36Ideal.Gen.run_main (F := Ideal) m g
    · exact tail_main_v3 m c
    · exact tail_main_v6 m c
    · exact tail_main_v9 m c
    · exact tail_main_v11 m c
    · exact tail_main_v14 m c
    · exact tail_main_v18 m c
    · exact tail_main_v21 m c
    · exact tail_main_v24 m c
    · exact tail_main_v28 m c
    · exact tail_main_v31 m c
    · exact tail_main_v34 m c
    · exact tail_main_v37 m c
    · exact tail_main_v40 m c
    · exact tail_main_v43 m c
    · exact tail_main_v46 m c
  · refine (θ_run _ _ _).mono (fun r h c => ?_) (Cert.Reference36Ideal.Value.run (F := Ideal) m' g')
    obtain ⟨h0, h1, h2, h3, h4, h5, h6, h7, h8, h9, h10, h11, h12, h13, h14, hk⟩ := h c
    have a0 := hagree c
    refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, h14.trans ?_, hk⟩
    · rw [val_main_v3_eq, a0]
    · rw [val_main_v6_eq, a0]
    · rw [val_main_v9_eq, a0]
    · rw [val_main_v11_eq, a0]
    · rw [val_main_v14_eq, a0]
    · rw [val_main_v18_eq, a0]
    · rw [val_main_v21_eq, a0]
    · rw [val_main_v24_eq, a0]
    · rw [val_main_v28_eq, a0]
    · rw [val_main_v31_eq, a0]
    · rw [val_main_v34_eq, a0]
    · rw [val_main_v37_eq, a0]
    · rw [val_main_v40_eq, a0]
    · rw [val_main_v43_eq, a0]
    · rw [val_main_v46_eq, a0]

end Cert.Sum36
-- ==== Proof.Ada37.lean ====
module

public import proofs.«01_k».proof.Defs
public import proofs.«01_k».proof.Proof.Gen.Kernel37Ideal.Value
public import proofs.«01_k».proof.Proof.Gen.Reference37Ideal.Run
public import proofs.«01_k».proof.Proof.Gen.Reference37Ideal.Read
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! Program 37: the gradient of one layer's `w_ada`: the product of the stacked conditioning rows with the stacked
cotangents. -/

namespace Cert.Ada37

open Cert.Kernel37Ideal Cert.Kernel37Ideal.Gen
open Cert.Reference37Ideal.Read

variable (m : (ℓ : Loc nD τ sig) → Buf (Elt Ideal) ℓ)

abbrev arg0 (c : Dev nD) : S1024.Idx → EReal := m ((c : Thread nD τ).loc main_arg0)
abbrev arg1 (c : Dev nD) : S32x1024.Idx → EReal := m ((c : Thread nD τ).loc main_arg1)
abbrev arg2 (c : Dev nD) : S32x768.Idx → EReal := m ((c : Thread nD τ).loc main_arg2)
abbrev arg3 (c : Dev nD) : S768.Idx → EReal := m ((c : Thread nD τ).loc main_arg3)

theorem idx0 : ∀ t : Fin grid0.N, win0_0.index t = ![0, 0] ∧ win0_1.index t = ![0, 0] ∧ win0_2.index t = ![0, 0] := by
  decide +kernel

/-- The first factor: the rows of the conditioning, then the shared row, then zeros. -/
theorem Va (c : Dev nD) : (V m c main_v4 : S128x1024.Idx → EReal) = fun i =>
    if h : (i 0).val < 32 then val_main_v1 (F := Ideal) (arg1 m c) (ix2 ⟨(i 0).val, h⟩ (i 1))
    else if (i 0).val < 33 then val_main_v4 (F := Ideal) (arg0 m c) (ix2 0 (i 1)) else 0 := by
  show StableHlo.after (List.flatten [hostOps0, hostOps0_1, hostOps0_2]) (fun b => m (c, b)) (Proc.devRef .tc main_v4) = _
  simp only [hostOps0, hostOps0_1, hostOps0_2, List.flatten_cons, List.flatten_nil, List.append_nil, List.cons_append, List.nil_append]
  after_results
  funext i
  rw [eq_ix2 i]
  pointwise []
  by_cases h : (i 0).val < 32
  · rw [dif_pos h, dif_pos h]
    rfl
  · rw [dif_neg h, dif_neg h]
    by_cases h' : (i 0).val < 33
    · rw [dif_pos (by omega), if_pos h']
      refine Eq.trans (b := val_main_v4 (F := Ideal) (arg0 m c) (ix2 ⟨(i 0).val - 32, by omega⟩ (i 1))) rfl ?_
      exact congrArg (fun q => val_main_v4 (F := Ideal) (arg0 m c) (ix2 q (i 1))) (Subsingleton.elim _ _)
    · rw [dif_neg (by omega), if_neg h']
      show constant (F := Ideal) S_ .f32 0x00000000#32 (fun a => a.elim0) = (0 : EReal)
      pointwise []

/-- The second factor: the cotangents of the rows, then that of the shared row, then zeros. -/
theorem Vb (c : Dev nD) : (V m c main_v7 : S128x768.Idx → EReal) = fun i =>
    if h : (i 0).val < 32 then arg2 m c (ix2 ⟨(i 0).val, h⟩ (i 1))
    else if (i 0).val < 33 then val_main_v6 (F := Ideal) (arg3 m c) (ix2 0 (i 1)) else 0 := by
  show StableHlo.after (List.flatten [hostOps0, hostOps0_1, hostOps0_2]) (fun b => m (c, b)) (Proc.devRef .tc main_v7) = _
  simp only [hostOps0, hostOps0_1, hostOps0_2, List.flatten_cons, List.flatten_nil, List.append_nil, List.cons_append, List.nil_append]
  after_results
  funext i
  rw [eq_ix2 i]
  pointwise []
  by_cases h : (i 0).val < 32
  · rw [dif_pos h, dif_pos h]
    rfl
  · rw [dif_neg h, dif_neg h]
    by_cases h' : (i 0).val < 33
    · rw [dif_pos (by omega), if_pos h']
      refine Eq.trans (b := val_main_v6 (F := Ideal) (arg3 m c) (ix2 ⟨(i 0).val - 32, by omega⟩ (i 1))) rfl ?_
      exact congrArg (fun q => val_main_v6 (F := Ideal) (arg3 m c) (ix2 q (i 1))) (Subsingleton.elim _ _)
    · rw [dif_neg (by omega), if_neg h']
      show constant (F := Ideal) S_ .f32 0x00000000#32 (fun a => a.elim0) = (0 : EReal)
      pointwise []

theorem inA (c : Dev nD) (t : Fin cfg0.N) (k : Fin 128) (r : Fin 1024) :
    (iblk m c 0 t : S128x1024.Idx → EReal) (ix2 k r) = (V m c main_v4 : S128x1024.Idx → EReal) (ix2 k r) := by
  have h := idx0 t
  blk_ext [iblk, h.1]

theorem inB (c : Dev nD) (t : Fin cfg0.N) (k : Fin 128) (l : Fin 768) :
    (iblk m c 1 t : S128x768.Idx → EReal) (ix2 k l) = (V m c main_v7 : S128x768.Idx → EReal) (ix2 k l) := by
  have h := idx0 t
  blk_ext [iblk, h.2.1]

/-- A sum over 128 rows: 32, one and 95. -/
theorem sum_rows (f : Fin 128 → EReal) : ∑ x, f x = ∑ x : Fin 32, f ⟨x.val, by omega⟩ + (f ⟨32, by omega⟩ + ∑ x : Fin 95, f ⟨33 + x.val, by omega⟩) := by
  refine (Fin.sum_univ_add (a := 32) (b := 96) f).trans ?_
  refine congrArg₂ (· + ·) rfl ?_
  refine (Fin.sum_univ_succ (n := 95) _).trans ?_
  refine congrArg₂ (· + ·) rfl (Finset.sum_congr rfl fun x _ => congrArg f (Fin.ext ?_))
  show 32 + (x.val + 1) = 33 + x.val
  omega

/-- What the launch leaves. -/
theorem arr_res (c : Dev nD) : (dats m 0 c).arrAt 2 cfg0.N = val_main_v11 (F := Ideal) (arg0 m c) (arg1 m c) (arg2 m c) (arg3 m c) := by
  refine (dats m 0 c).arrAt_eq_of_covers 2 _ (by decide +kernel) fun t hf y => ?_
  blk_simp
  rw [after0_2]
  frame_out
  have h := idx0 t
  have e : ((win0_2.blk t).view.emb y : S1024x768.Idx) = y := by
    blk_ext [h.2.2]
  rw [e]
  unfold_payloads
  pointwise [val_main_v5, val_main_v6, val_main_v7, val_main_v8, val_main_v9, val_main_v10, val_main_v11]
  refine (Finset.sum_congr rfl fun x _ => congrArg₂ (fun a b : EReal => a * b) ((inA m c t x (y 0)).trans (congrFun (Va m c) _))
    ((inB m c t x (y 1)).trans (congrFun (Vb m c) _))).trans ?_
  refine (sum_rows _).trans (Eq.trans ?_ (add_comm _ _))
  refine congrArg₂ (fun x y : EReal => x + y) (Finset.sum_congr rfl fun x _ => ?_) ?_
  · exact (congrArg₂ (fun a b : EReal => a * b) (dif_pos x.isLt) (dif_pos x.isLt)).trans (mul_comm _ _)
  · refine Eq.trans (congrArg₂ (fun x y : EReal => x + y) ?_ (Finset.sum_eq_zero fun x _ => ?_)) ((add_zero _).trans (Fin.sum_univ_one _).symm)
    · have h1 : ¬ ((32 : ℕ) < 32) := by decide
      have h2 : (32 : ℕ) < 33 := by decide
      refine (congrArg₂ (fun a b : EReal => a * b) ((dif_neg h1).trans (if_pos h2)) ((dif_neg h1).trans (if_pos h2))).trans (Eq.trans (mul_comm _ _) ?_)
      refine congrArg₂ (fun a b : EReal => a * b) ?_ rfl
      pointwise [val_main_v6]
    · have h1 : ¬ (33 + x.val < 32) := by omega
      have h2 : ¬ (33 + x.val < 33) := by omega
      exact (congrArg₂ (fun a b : EReal => a * b) ((dif_neg h1).trans (if_neg h2)) ((dif_neg h1).trans (if_neg h2))).trans (zero_mul _)

/-- The launch and the reference leave the same array. -/
theorem tie : Cert.algebraic_Kernel37Ideal_Reference37Ideal (hKernel37Ideal := Cert.Kernel37Ideal.Gen.facts)
    (hReference37Ideal := Cert.Reference37Ideal.Gen.facts) := by
  intro m g m' g' _ hagree
  refine ⟨fun c => val_main_v11 (F := Ideal) (arg0 m c) (arg1 m c) (arg2 m c) (arg3 m c), ?_, ?_⟩
  · refine (θ_run _ _ _).mono (fun r h c => ?_) (Cert.Kernel37Ideal.Value.run_blocks (F := Ideal) m g)
    obtain ⟨h0, hk⟩ := h c
    exact ⟨h0.trans (arr_res m c), hk⟩
  · refine (θ_run _ _ _).mono (fun r h c => ?_) (Cert.Reference37Ideal.Value.run (F := Ideal) m' g')
    obtain ⟨h0, hk⟩ := h c
    obtain ⟨a0, a1, a2, a3⟩ := hagree c
    refine ⟨h0.trans ?_, hk⟩
    rw [val_main_v11_eq, a0, a1, a2, a3]

end Cert.Ada37
-- ==== Proof.Norm38Run.lean ====
module

public import proofs.«01_k».proof.Proof.Gen.Kernel38Ideal.Frame
public import proofs.«01_k».proof.Proof.Gen.Kernel38Ideal.Skeleton
public import Idealize.ShloMosaic.Lib.Pipeline.ValueKit
public import Idealize.ShloMosaic.Lib.VecWindow
public import Idealize.ShloMosaic.Lib.Claim

@[expose] public section

set_option maxRecDepth 16384

noncomputable section

/-! Program 38, the kernel's body: what it leaves in each output at a grid point of each kind. -/

namespace Cert.Norm38

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel38Ideal Cert.Kernel38Ideal.Gen

variable {F : FTy → Type} [FloatOps F]

local notation "𝕄" => MT nD τ sig Unit (Elt F) ℕ (UR sig nD τ) ℕ

variable (m : (ℓ : Loc nD τ sig) → Buf (Elt F) ℓ)

/-- The point is the first of a segment: the sums of shift and scale start. -/
abbrev segStart (i : grid0.Coords) : Prop := (Scalar.cmpi .ne (Scalar.extui (Scalar.ori (Scalar.cmpi .eq (BitVec.ofNat 32 (i 0).val) 0#32) (Scalar.cmpi .ne (Scalar.minsi (Scalar.select (Scalar.andi (Scalar.cmpi .ne (Scalar.subi (Scalar.extui (Scalar.cmpi .sgt (Scalar.muli (BitVec.ofNat 32 (i 0).val) 512#32) 0#32)) (Scalar.extui (Scalar.cmpi .slt (Scalar.muli (BitVec.ofNat 32 (i 0).val) 512#32) 0#32))) (Scalar.subi (Scalar.extui (Scalar.cmpi .sgt 2048#32 0#32)) (Scalar.extui (Scalar.cmpi .slt 2048#32 0#32)))) (Scalar.cmpi .ne (Scalar.remsi (Scalar.muli (BitVec.ofNat 32 (i 0).val) 512#32) 2048#32) 0#32)) (Scalar.subi (Scalar.divsi (Scalar.muli (BitVec.ofNat 32 (i 0).val) 512#32) 2048#32) 1#32) (Scalar.divsi (Scalar.muli (BitVec.ofNat 32 (i 0).val) 512#32) 2048#32)) 4#32) (Scalar.minsi (Scalar.select (Scalar.andi (Scalar.cmpi .ne (Scalar.subi (Scalar.extui (Scalar.cmpi .sgt (Scalar.muli (Scalar.maxsi (Scalar.subi (BitVec.ofNat 32 (i 0).val) 1#32) 0#32) 512#32) 0#32)) (Scalar.extui (Scalar.cmpi .slt (Scalar.muli (Scalar.maxsi (Scalar.subi (BitVec.ofNat 32 (i 0).val) 1#32) 0#32) 512#32) 0#32))) (Scalar.subi (Scalar.extui (Scalar.cmpi .sgt 2048#32 0#32)) (Scalar.extui (Scalar.cmpi .slt 2048#32 0#32)))) (Scalar.cmpi .ne (Scalar.remsi (Scalar.muli (Scalar.maxsi (Scalar.subi (BitVec.ofNat 32 (i 0).val) 1#32) 0#32) 512#32) 2048#32) 0#32)) (Scalar.subi (Scalar.divsi (Scalar.muli (Scalar.maxsi (Scalar.subi (BitVec.ofNat 32 (i 0).val) 1#32) 0#32) 512#32) 2048#32) 1#32) (Scalar.divsi (Scalar.muli (Scalar.maxsi (Scalar.subi (BitVec.ofNat 32 (i 0).val) 1#32) 0#32) 512#32) 2048#32)) 4#32)))) 0#32) = 1#1
theorem segStart_iff : ∀ t : Fin cfg0.N, segStart (grid0.coords t) ↔ t.val % 4 = 0 :=
  (by decide +kernel : ∀ t : Fin grid0.N, segStart (grid0.coords t) ↔ t.val % 4 = 0)

/-- The point is the first of the grid: the sum of the gain starts. -/
abbrev gridStart (i : grid0.Coords) : Prop := (Scalar.cmpi .ne (Scalar.extui (Scalar.cmpi .eq (BitVec.ofNat 32 (i 0).val) 0#32)) 0#32) = 1#1
theorem gridStart_iff : ∀ t : Fin cfg0.N, gridStart (grid0.coords t) ↔ t.val = 0 :=
  (by decide +kernel : ∀ t : Fin grid0.N, gridStart (grid0.coords t) ↔ t.val = 0)

/-- The block of dh. -/
def dhT (x0 : Vec F S512x1024 .f32) (x2 : Vec F S1x1x1024 .f32) (x3 : Vec F S1x1024 .f32) (x4 x5 : Vec F S512x1024 .f32) : Vec F S512x1024 .f32 :=
  k0_pay14 x0 (k0_pay4 x0) (k0_pay5 x0) (k0_pay12 x2 x3 x4) (k0_pay13 x0 x2 x3 x4) x5
/-- The running sum of dshift over one more block. -/
def shT (x4 : Vec F S512x1024 .f32) (p : Vec F S1x1x1024 .f32) : Vec F S1x1x1024 .f32 := k0_pay16 (k0_pay8 x4) p
/-- The running sum of dscale over one more block. -/
def scT (x0 : Vec F S512x1024 .f32) (x3 : Vec F S1x1024 .f32) (x4 : Vec F S512x1024 .f32) (p : Vec F S1x1x1024 .f32) : Vec F S1x1x1024 .f32 :=
  k0_pay18 (k0_pay9 x0 x3 x4) p
/-- The running sum of dg over one more block. -/
def dgT (x0 : Vec F S512x1024 .f32) (x2 : Vec F S1x1x1024 .f32) (x4 : Vec F S512x1024 .f32) (p : Vec F S1x1024 .f32) : Vec F S1x1024 .f32 :=
  k0_pay2 (k0_pay11 x0 x2 x4) p

set_option maxHeartbeats 1600000 in
/-- The body at the point that is the first of the grid. -/
theorem runA (c : Dev nD) (i : grid0.Coords) (arg1 : Memref sig .tc .vmem S512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (hs : segStart i) (hg : gridStart i)
    (x0 : Vec F S512x1024 .f32) (x1 : Vec F S1x1x1024 .f32) (x2 : Vec F S1x1x1024 .f32) (x3 : Vec F S1x1024 .f32) (x4 : Vec F S512x1024 .f32) (x5 : Vec F S512x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (dhT x0 x2 x3 x4 x5) ∗ owns (c : Thread nD τ) arg8 fullShare (shT x4 (k0_pay15 (F := F))) ∗ owns (c : Thread nD τ) arg9 fullShare (scT x0 x3 x4 (k0_pay17 (F := F))) ∗ owns (c : Thread nD τ) arg10 fullShare (dgT x0 x2 x4 (k0_pay1 (F := F)))) -∗ K ⟨⟩))
      ⊢ wp frame (wpE (defs₀ (F := F)) Variants.none c none) E (cc0_norm_mod_bwd_add_float32_9216 i arg1 harg1 arg2 harg2 arg3 harg3 arg4 harg4 arg5 harg5 arg6 harg6 arg7 harg7 arg8 harg8 arg9 harg9 arg10 harg10) K := by
  simp only [cc0_norm_mod_bwd_add_float32_9216_eq_skeleton]; unfold cc0_norm_mod_bwd_add_float32_9216_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hs | sl_exact hg)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro; refine (View.read_writes_full _ _ _ _ _).trans ?_; unfold dhT; frame_out
  isplitl [H7]
  · iexists _; isplitr
    swap; · iexact H7
    ipureintro; refine (View.read_writes_full _ _ _ _ _).trans ?_; unfold shT; frame_out
  isplitl [H8]
  · iexists _; isplitr
    swap; · iexact H8
    ipureintro; refine (View.read_writes_full _ _ _ _ _).trans ?_; unfold scT; frame_out
  iexists _; isplitr
  swap; · iexact H9
  ipureintro; refine (View.read_writes_full _ _ _ _ _).trans ?_; unfold dgT; frame_out

set_option maxHeartbeats 1600000 in
/-- The body at the point that is the first of a later segment. -/
theorem runC (c : Dev nD) (i : grid0.Coords) (arg1 : Memref sig .tc .vmem S512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (hs : segStart i) (hg : ¬gridStart i)
    (x0 : Vec F S512x1024 .f32) (x1 : Vec F S1x1x1024 .f32) (x2 : Vec F S1x1x1024 .f32) (x3 : Vec F S1x1024 .f32) (x4 : Vec F S512x1024 .f32) (x5 : Vec F S512x1024 .f32) (p9 : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare p9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (dhT x0 x2 x3 x4 x5) ∗ owns (c : Thread nD τ) arg8 fullShare (shT x4 (k0_pay15 (F := F))) ∗ owns (c : Thread nD τ) arg9 fullShare (scT x0 x3 x4 (k0_pay17 (F := F))) ∗ owns (c : Thread nD τ) arg10 fullShare (dgT x0 x2 x4 p9)) -∗ K ⟨⟩))
      ⊢ wp frame (wpE (defs₀ (F := F)) Variants.none c none) E (cc0_norm_mod_bwd_add_float32_9216 i arg1 harg1 arg2 harg2 arg3 harg3 arg4 harg4 arg5 harg5 arg6 harg6 arg7 harg7 arg8 harg8 arg9 harg9 arg10 harg10) K := by
  simp only [cc0_norm_mod_bwd_add_float32_9216_eq_skeleton]; unfold cc0_norm_mod_bwd_add_float32_9216_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hf9
  sl_exec (disch := first | sl_exact hs | sl_exact hg)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro; refine (View.read_writes_full _ _ _ _ _).trans ?_; unfold dhT; frame_out
  isplitl [H7]
  · iexists _; isplitr
    swap; · iexact H7
    ipureintro; refine (View.read_writes_full _ _ _ _ _).trans ?_; unfold shT; frame_out
  isplitl [H8]
  · iexists _; isplitr
    swap; · iexact H8
    ipureintro; refine (View.read_writes_full _ _ _ _ _).trans ?_; unfold scT; frame_out
  iexists _; isplitr
  swap; · iexact H9
  ipureintro; refine (View.read_writes_full _ _ _ _ _).trans ?_; unfold dgT; frame_out

set_option maxHeartbeats 1600000 in
/-- The body at the point that is the any other. -/
theorem runB (c : Dev nD) (i : grid0.Coords) (arg1 : Memref sig .tc .vmem S512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole) (hs : ¬segStart i) (hg : ¬gridStart i)
    (x0 : Vec F S512x1024 .f32) (x1 : Vec F S1x1x1024 .f32) (x2 : Vec F S1x1x1024 .f32) (x3 : Vec F S1x1024 .f32) (x4 : Vec F S512x1024 .f32) (x5 : Vec F S512x1024 .f32) (p7 : Vec F S1x1x1024 .f32) (p8 : Vec F S1x1x1024 .f32) (p9 : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare p7 ∗ owns (c : Thread nD τ) arg9 fullShare p8 ∗ owns (c : Thread nD τ) arg10 fullShare p9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (dhT x0 x2 x3 x4 x5) ∗ owns (c : Thread nD τ) arg8 fullShare (shT x4 p7) ∗ owns (c : Thread nD τ) arg9 fullShare (scT x0 x3 x4 p8) ∗ owns (c : Thread nD τ) arg10 fullShare (dgT x0 x2 x4 p9)) -∗ K ⟨⟩))
      ⊢ wp frame (wpE (defs₀ (F := F)) Variants.none c none) E (cc0_norm_mod_bwd_add_float32_9216 i arg1 harg1 arg2 harg2 arg3 harg3 arg4 harg4 arg5 harg5 arg6 harg6 arg7 harg7 arg8 harg8 arg9 harg9 arg10 harg10) K := by
  simp only [cc0_norm_mod_bwd_add_float32_9216_eq_skeleton]; unfold cc0_norm_mod_bwd_add_float32_9216_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hf9
  sl_exec (disch := first | sl_exact hs | sl_exact hg)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro; refine (View.read_writes_full _ _ _ _ _).trans ?_; unfold dhT; frame_out
  isplitl [H7]
  · iexists _; isplitr
    swap; · iexact H7
    ipureintro; refine (View.read_writes_full _ _ _ _ _).trans ?_; unfold shT; frame_out
  isplitl [H8]
  · iexists _; isplitr
    swap; · iexact H8
    ipureintro; refine (View.read_writes_full _ _ _ _ _).trans ?_; unfold scT; frame_out
  iexists _; isplitr
  swap; · iexact H9
  ipureintro; refine (View.read_writes_full _ _ _ _ _).trans ?_; unfold dgT; frame_out

end Cert.Norm38

end
-- ==== Proof.Norm38Frame.lean ====
module

public import proofs.«01_k».proof.Proof.Norm38Run

@[expose] public section

set_option maxRecDepth 16384

noncomputable section

/-! Program 38: the launch ends with every output at what the body's blocks and running sums make it. -/

namespace Cert.Norm38

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel38Ideal Cert.Kernel38Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The running sum of dshift at each point: it starts anew at the first point of a segment. -/
def shAt (c : Dev nD) : (n : ℕ) → n < cfg0.N → Vec F S1x1x1024 .f32
  | 0, h => shT (iblk m c 4 ⟨0, h⟩) (k0_pay15 (F := F))
  | n + 1, h => shT (iblk m c 4 ⟨n + 1, h⟩) (if (n + 1) % 4 = 0 then k0_pay15 (F := F) else shAt c n (Nat.lt_of_succ_lt h))

/-- The running sum of dscale. -/
def scAt (c : Dev nD) : (n : ℕ) → n < cfg0.N → Vec F S1x1x1024 .f32
  | 0, h => scT (iblk m c 0 ⟨0, h⟩) (iblk m c 3 ⟨0, h⟩) (iblk m c 4 ⟨0, h⟩) (k0_pay17 (F := F))
  | n + 1, h => scT (iblk m c 0 ⟨n + 1, h⟩) (iblk m c 3 ⟨n + 1, h⟩) (iblk m c 4 ⟨n + 1, h⟩)
      (if (n + 1) % 4 = 0 then k0_pay17 (F := F) else scAt c n (Nat.lt_of_succ_lt h))

/-- The running sum of dg: over the whole grid. -/
def dgAt (c : Dev nD) : (n : ℕ) → n < cfg0.N → Vec F S1x1024 .f32
  | 0, h => dgT (iblk m c 0 ⟨0, h⟩) (iblk m c 2 ⟨0, h⟩) (iblk m c 4 ⟨0, h⟩) (k0_pay1 (F := F))
  | n + 1, h => dgT (iblk m c 0 ⟨n + 1, h⟩) (iblk m c 2 ⟨n + 1, h⟩) (iblk m c 4 ⟨n + 1, h⟩) (dgAt c n (Nat.lt_of_succ_lt h))

theorem pred_lt (t : Fin cfg0.N) : t.val - 1 < cfg0.N := Nat.lt_of_le_of_lt (Nat.sub_le _ _) t.isLt

theorem shAt_first (c : Dev nD) (t : Fin cfg0.N) (h : t.val % 4 = 0) : shAt m c t.val t.isLt = shT (iblk m c 4 t) (k0_pay15 (F := F)) := by
  obtain ⟨n, hn⟩ := t
  cases n with
  | zero => rfl
  | succ n => exact congrArg (shT _) (if_pos h)
theorem shAt_next (c : Dev nD) (t : Fin cfg0.N) (h : ¬t.val % 4 = 0) :
    shAt m c t.val t.isLt = shT (iblk m c 4 t) (shAt m c (t.val - 1) (pred_lt t)) := by
  obtain ⟨n, hn⟩ := t
  cases n with
  | zero => exact absurd rfl h
  | succ n => exact congrArg (shT _) (if_neg h)
theorem scAt_first (c : Dev nD) (t : Fin cfg0.N) (h : t.val % 4 = 0) :
    scAt m c t.val t.isLt = scT (iblk m c 0 t) (iblk m c 3 t) (iblk m c 4 t) (k0_pay17 (F := F)) := by
  obtain ⟨n, hn⟩ := t
  cases n with
  | zero => rfl
  | succ n => exact congrArg (scT _ _ _) (if_pos h)
theorem scAt_next (c : Dev nD) (t : Fin cfg0.N) (h : ¬t.val % 4 = 0) :
    scAt m c t.val t.isLt = scT (iblk m c 0 t) (iblk m c 3 t) (iblk m c 4 t) (scAt m c (t.val - 1) (pred_lt t)) := by
  obtain ⟨n, hn⟩ := t
  cases n with
  | zero => exact absurd rfl h
  | succ n => exact congrArg (scT _ _ _) (if_neg h)
theorem dgAt_first (c : Dev nD) (t : Fin cfg0.N) (h : t.val = 0) :
    dgAt m c t.val t.isLt = dgT (iblk m c 0 t) (iblk m c 2 t) (iblk m c 4 t) (k0_pay1 (F := F)) := by
  obtain ⟨n, hn⟩ := t
  cases n with
  | zero => rfl
  | succ n => exact absurd h (Nat.succ_ne_zero n)
theorem dgAt_next (c : Dev nD) (t : Fin cfg0.N) (h : ¬t.val = 0) :
    dgAt m c t.val t.isLt = dgT (iblk m c 0 t) (iblk m c 2 t) (iblk m c 4 t) (dgAt m c (t.val - 1) (pred_lt t)) := by
  obtain ⟨n, hn⟩ := t
  cases n with
  | zero => exact absurd rfl h
  | succ n => rfl

/-- What each window's buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dhT (iblk m c 0 t) (iblk m c 2 t) (iblk m c 3 t) (iblk m c 4 t) (iblk m c 5 t)
    | ⟨7, _⟩ => shAt m c t.val t.isLt
    | ⟨8, _⟩ => scAt m c t.val t.isLt
    | ⟨9, _⟩ => dgAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = dhT (iblk m c 0 t) (iblk m c 2 t) (iblk m c 3 t) (iblk m c 4 t) (iblk m c 5 t) := by
  dsimp only [dats]
theorem after_7 (c : Dev nD) (t : Fin cfg0.N) : (dats m 0 c).after 7 t = shAt m c t.val t.isLt := by dsimp only [dats]
theorem after_8 (c : Dev nD) (t : Fin cfg0.N) : (dats m 0 c).after 8 t = scAt m c t.val t.isLt := by dsimp only [dats]
theorem after_9 (c : Dev nD) (t : Fin cfg0.N) : (dats m 0 c).after 9 t = dgAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- A segment's sums are not written back before its last point; the gain's sum is written back at the last point alone. -/
theorem kept7 : ∀ t : Fin cfg0.N, t.val % 4 ≠ 0 → (cfg0.win 7).flush ⟨t.val - 1, pred_lt t⟩ = false :=
  (by decide +kernel : ∀ t : Fin grid0.N, t.val % 4 ≠ 0 → win0_7.flush ⟨t.val - 1, Nat.lt_of_le_of_lt (Nat.sub_le _ _) t.isLt⟩ = false)
theorem kept8 : ∀ t : Fin cfg0.N, t.val % 4 ≠ 0 → (cfg0.win 8).flush ⟨t.val - 1, pred_lt t⟩ = false :=
  (by decide +kernel : ∀ t : Fin grid0.N, t.val % 4 ≠ 0 → win0_8.flush ⟨t.val - 1, Nat.lt_of_le_of_lt (Nat.sub_le _ _) t.isLt⟩ = false)
theorem kept9 : ∀ t : Fin cfg0.N, t.val ≠ 0 → (cfg0.win 9).flush ⟨t.val - 1, pred_lt t⟩ = false :=
  (by decide +kernel : ∀ t : Fin grid0.N, t.val ≠ 0 → win0_9.flush ⟨t.val - 1, Nat.lt_of_le_of_lt (Nat.sub_le _ _) t.isLt⟩ = false)

theorem before_7 (c : Dev nD) (t : Fin cfg0.N) (h : ¬t.val % 4 = 0) (d) : (dats m 0 c).before 7 t d = shAt m c (t.val - 1) (pred_lt t) := by
  rw [Dat.before_out_kept _ 7 rfl t (by omega) (kept7 t h) (fun _ => rfl) (fun _ _ => rfl)]
  dsimp only [dats]
theorem before_8 (c : Dev nD) (t : Fin cfg0.N) (h : ¬t.val % 4 = 0) (d) : (dats m 0 c).before 8 t d = scAt m c (t.val - 1) (pred_lt t) := by
  rw [Dat.before_out_kept _ 8 rfl t (by omega) (kept8 t h) (fun _ => rfl) (fun _ _ => rfl)]
  dsimp only [dats]
theorem before_9 (c : Dev nD) (t : Fin cfg0.N) (h : ¬t.val = 0) (d) : (dats m 0 c).before 9 t d = dgAt m c (t.val - 1) (pred_lt t) := by
  rw [Dat.before_out_kept _ 9 rfl t h (kept9 t h) (fun _ => rfl) (fun _ _ => rfl)]
  dsimp only [dats]

/-- What the body finds at a point, -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

/-- and what it leaves. -/
def post (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t))

set_option maxHeartbeats 2400000 in
theorem sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  by_cases h4 : t.val % 4 = 0
  · by_cases h0 : t.val = 0
    · rw [shAt_first m c t h4, scAt_first m c t h4, dgAt_first m c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runA c (grid0.coords t) _ _ _ _ _ _ _ _ _ _ _ _ _ _ _ _ _ _ _ _ ((segStart_iff t).mpr h4) ((gridStart_iff t).mpr h0) _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      iintro ⟨H0, H1, H2, H3, H4, H5, H6, H7, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [shAt_first m c t h4, scAt_first m c t h4, dgAt_next m c t h0]
      simp only [before_9 m c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runC c (grid0.coords t) _ _ _ _ _ _ _ _ _ _ _ _ _ _ _ _ _ _ _ _ ((segStart_iff t).mpr h4) (fun h => h0 ((gridStart_iff t).mp h)) _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexact H9
      iintro ⟨H0, H1, H2, H3, H4, H5, H6, H7, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · have h0 : ¬t.val = 0 := by omega
    rw [shAt_next m c t h4, scAt_next m c t h4, dgAt_next m c t h0]
    simp only [before_7 m c t h4, before_8 m c t h4, before_9 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runB c (grid0.coords t) _ _ _ _ _ _ _ _ _ _ _ _ _ _ _ _ _ _ _ _ (fun h => h4 ((segStart_iff t).mp h)) (fun h => h0 ((gridStart_iff t).mp h)) _ _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound m c t) rfl .rfl fun _ => .rfl

set_option backward.isDefEq.respectTransparency.types false in
/-- Every run ends, with the arrays at what `dats` makes them and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run_quiescent m ρ)

/-- The launch ends, leaves its arguments alone, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_post m ρ)) ((θ_run defs _ _).mono (fun _ h => h.2) (run_quiescent m ρ))

end Cert.Norm38

end
-- ==== Proof.Rows.lean ====
module

public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

/-! What the norms and the gated branches compute of a row. -/

namespace Cert.Norm38

/-- The mean of a row's squares, plus the small constant. -/
def ms (h : Fin 1024 → EReal) : EReal := Ideal.div (∑ x, h x * h x) (Ideal.ofBits .f32 0x44800000#32) + Ideal.ofBits .f32 0x358637BD#32
/-- The row's reciprocal root. -/
def rs (h : Fin 1024 → EReal) : EReal := Ideal.rsqrt (ms h)
/-- The cotangent of the normalised row. -/
def rowQ (s g d : Fin 1024 → EReal) (k : Fin 1024) : EReal := d k * (1 + s k) * g k
/-- The row's cotangent through its mean square. -/
def rowU (h q : Fin 1024 → EReal) : EReal :=
  ∑ _x : Fin 1, Ideal.div ((∑ x, h x * q x) * (Ideal.ofBits .f32 0xBF000000#32 * Ideal.div (rs h) (ms h))) (Ideal.ofBits .f32 0x44800000#32)
/-- A row of the gradient: `h` the row, `s` its scale, `g` the gain, `d` the cotangent's row, `a` the residual's cotangent. -/
def rowDh (h s g d : Fin 1024 → EReal) (a : EReal) (k : Fin 1024) : EReal :=
  a + rowQ s g d k * rs h + h k * rowU h (rowQ s g d) + rowU h (rowQ s g d) * h k
/-- A row's share of the gradient of the scale, -/
def rowSc (h g d : Fin 1024 → EReal) (k : Fin 1024) : EReal := h k * rs h * g k * d k
/-- and of the gain. -/
def rowDg (h s d : Fin 1024 → EReal) (k : Fin 1024) : EReal := h k * rs h * (d k * (1 + s k))

/-- A row of the modulated norm: `h` the row, `t` its shift, `s` its scale, `g` the gain. -/
def rowN (h t s g : Fin 1024 → EReal) (k : Fin 1024) : EReal := h k * rs h * g k * (1 + s k) + t k
/-- A row of the gated branch: `m` the branch's row, `e` its gate, `g` the gain, `x` the stream's element. -/
def rowG (m e g : Fin 1024 → EReal) (x : EReal) (k : Fin 1024) : EReal := x + e k * (m k * rs m * g k)

/-- The row of latent segment `b`'s row `n`, and that of the context's sequence `b`, row `n`. -/
abbrev latRow (b : Fin 4) (n : Fin 2048) : Fin 9216 := ⟨b.val * 2048 + n.val, by omega⟩
abbrev ctxRow (b : Fin 4) (n : Fin 256) : Fin 9216 := ⟨8192 + (b.val * 256 + n.val), by omega⟩

/-- A sum over the first two of three axes. -/
theorem sum01 {n0 n1 n2 : ℕ} (h : (⟨3, ![n0, n1, n2]⟩ : Shape).ReducesTo [0, 1] ⟨1, ![n2]⟩) (v : (⟨3, ![n0, n1, n2]⟩ : Shape).Idx → EReal) (init : EReal)
    (k : Fin n2) : Ideal.hostReduceAdd h v init (ix1 k) = init + ∑ a : Fin n0, ∑ b : Fin n1, v (ix3 a b k) := by
  unfold Ideal.hostReduceAdd
  refine congrArg (init + ·) ?_
  have hd : ∀ i : (⟨3, ![n0, n1, n2]⟩ : Shape).Idx, (h.drop i 0).val = (i 2).val := fun i => rfl
  rw [← Fintype.sum_prod_type' (f := fun a b => v (ix3 a b k))]
  refine Finset.sum_nbij' (fun i => ((i 0 : Fin n0), (i 1 : Fin n1))) (fun p => ix3 p.1 p.2 k) (fun _ _ => Finset.mem_univ _) (fun p _ => ?_) (fun i hi => ?_)
    (fun _ _ => rfl) (fun i hi => ?_)
  · refine Finset.mem_filter.mpr ⟨Finset.mem_univ _, ?_⟩
    funext a
    exact Fin.ext (by fin_cases a; exact hd _)
  all_goals
    have e : (i 2 : Fin n2) = k := Fin.ext ((hd i).symm.trans (congrArg Fin.val (congrFun (Finset.mem_filter.mp hi).2 0)))
    have e3 : ix3 (i 0 : Fin n0) (i 1 : Fin n1) k = i := by rw [← e]; exact (eq_ix3 i).symm
  · exact e3
  · exact congrArg v e3.symm

/-- The latent and the context rows are all the rows. -/
theorem latRow_eq (r : Fin 9216) (h : r.val < 8192) : latRow ⟨r.val / 2048, by omega⟩ ⟨r.val % 2048, by omega⟩ = r :=
  Fin.ext (by show r.val / 2048 * 2048 + r.val % 2048 = r.val; omega)
theorem ctxRow_eq (r : Fin 9216) (h : ¬ r.val < 8192) : ctxRow ⟨(r.val - 8192) / 256, by omega⟩ ⟨(r.val - 8192) % 256, by omega⟩ = r :=
  Fin.ext (by show 8192 + ((r.val - 8192) / 256 * 256 + (r.val - 8192) % 256) = r.val; omega)

end Cert.Norm38

end
-- ==== Proof.Norm38Ref.lean ====
module

public import proofs.«01_k».proof.Defs
public import proofs.«01_k».proof.Proof.Gen.Reference38Ideal.Run
public import proofs.«01_k».proof.Proof.Gen.Reference38Ideal.Read
public import proofs.«01_k».proof.Proof.Rows
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

/-! Program 38, the reference: its four results row by row. -/

namespace Cert.Norm38

open Cert.Reference38Ideal.Read

variable (x0 : (⟨2, ![9216, 1024]⟩ : Shape).Idx → EReal) (x1 x2 : (⟨3, ![5, 1, 1024]⟩ : Shape).Idx → EReal) (x3 : (⟨2, ![1, 1024]⟩ : Shape).Idx → EReal)
  (x4 x5 : (⟨2, ![9216, 1024]⟩ : Shape).Idx → EReal)

theorem v129_at (b : Fin 4) (n : Fin 2048) (k : Fin 1024) : val_main_v129 (F := Ideal) x0 x2 x3 x4 x5 (ix3 b n k) =
    rowDh (fun k => x0 (ix2 (latRow b n) k)) (fun k => x2 (ix3 ⟨b.val, by omega⟩ 0 k)) (fun k => x3 (ix2 0 k)) (fun k => x4 (ix2 (latRow b n) k))
      (x5 (ix2 (latRow b n) k)) k := by
  pointwise [val_main_v129, val_main_v128, val_main_v127, val_main_v126, val_main_v125, val_main_v124, val_main_v123, val_main_v122, val_main_v121, val_main_v120, val_main_v119, val_main_v118, val_main_v117, val_main_v116, val_main_v115, val_main_v112, val_main_v111, val_main_v105, val_main_v104, val_main_v66, val_main_v65, val_main_v62, val_main_v61, val_main_v26, val_main_v27, val_main_v32, val_main_v31, val_main_v30, val_main_v9, val_main_v8, val_main_v12, val_main_v20, val_main_v19, val_main_v18, val_main_v17, val_main_v16, val_main_v15, val_main_v14, val_main_v13, val_main_v23, val_main_v22, val_main_v21, val_main_v1, val_main_v0, val_main_cst_26, val_main_cst_25, val_main_cst_24, val_main_cst, val_main_cst_0, val_main_cst_1, val_main_cst_2, val_main_cst_3, rowDh, rowU, rowQ, rs, ms]
theorem v101_at (b : Fin 4) (n : Fin 2048) (k : Fin 1024) : val_main_v101 (F := Ideal) x0 x3 x4 (ix3 b n k) = rowSc (fun k => x0 (ix2 (latRow b n) k)) (fun k => x3 (ix2 0 k)) (fun k => x4 (ix2 (latRow b n) k)) k := by
  pointwise [val_main_v101, val_main_v28, val_main_v25, val_main_v24, val_main_v62, val_main_v61, val_main_v26, val_main_v27, val_main_v32, val_main_v31, val_main_v30, val_main_v9, val_main_v8, val_main_v12, val_main_v20, val_main_v19, val_main_v18, val_main_v17, val_main_v16, val_main_v15, val_main_v14, val_main_v13, val_main_v1, val_main_v0, val_main_cst_26, val_main_cst_25, val_main_cst_24, val_main_cst, val_main_cst_0, val_main_cst_1, val_main_cst_2, val_main_cst_3, rowSc, rs, ms]
theorem v108_at (b : Fin 4) (n : Fin 2048) (k : Fin 1024) : val_main_v108 (F := Ideal) x0 x2 x4 (ix3 b n k) = rowDg (fun k => x0 (ix2 (latRow b n) k)) (fun k => x2 (ix3 ⟨b.val, by omega⟩ 0 k)) (fun k => x4 (ix2 (latRow b n) k)) k := by
  pointwise [val_main_v108, val_main_v105, val_main_v104, val_main_v25, val_main_v24, val_main_v62, val_main_v61, val_main_v26, val_main_v27, val_main_v32, val_main_v31, val_main_v30, val_main_v9, val_main_v8, val_main_v12, val_main_v20, val_main_v19, val_main_v18, val_main_v17, val_main_v16, val_main_v15, val_main_v14, val_main_v13, val_main_v1, val_main_v0, val_main_cst_26, val_main_cst_25, val_main_cst_24, val_main_cst, val_main_cst_0, val_main_cst_1, val_main_cst_2, val_main_cst_3, rowDg, rs, ms]
theorem v62_at (b : Fin 4) (n : Fin 2048) (k : Fin 1024) : val_main_v62 (F := Ideal) x4 (ix3 b n k) = x4 (ix2 (latRow b n) k) := by
  pointwise [val_main_v62, val_main_v61]

theorem v98_at (b : Fin 4) (n : Fin 256) (k : Fin 1024) : val_main_v98 (F := Ideal) x0 x2 x3 x4 x5 (ix3 b n k) =
    rowDh (fun k => x0 (ix2 (ctxRow b n) k)) (fun k => x2 (ix3 4 0 k)) (fun k => x3 (ix2 0 k)) (fun k => x4 (ix2 (ctxRow b n) k))
      (x5 (ix2 (ctxRow b n) k)) k := by
  pointwise [val_main_v98, val_main_v97, val_main_v96, val_main_v95, val_main_v94, val_main_v93, val_main_v92, val_main_v91, val_main_v90, val_main_v89, val_main_v88, val_main_v87, val_main_v86, val_main_v85, val_main_v84, val_main_v82, val_main_v81, val_main_v76, val_main_v75, val_main_v68, val_main_v67, val_main_v64, val_main_v63, val_main_v50, val_main_v51, val_main_v55, val_main_v54, val_main_v53, val_main_v11, val_main_v10, val_main_v12, val_main_v44, val_main_v43, val_main_v42, val_main_v41, val_main_v40, val_main_v39, val_main_v38, val_main_v37, val_main_v47, val_main_v46, val_main_v45, val_main_v3, val_main_v2, val_main_cst_4, val_main_cst_5, val_main_cst_6, val_main_cst_7, val_main_cst_8, val_main_cst_15, val_main_cst_16, val_main_cst_17, rowDh, rowU, rowQ, rs, ms]
theorem v72_at (b : Fin 4) (n : Fin 256) (k : Fin 1024) : val_main_v72 (F := Ideal) x0 x3 x4 (ix3 b n k) = rowSc (fun k => x0 (ix2 (ctxRow b n) k)) (fun k => x3 (ix2 0 k)) (fun k => x4 (ix2 (ctxRow b n) k)) k := by
  pointwise [val_main_v72, val_main_v52, val_main_v49, val_main_v48, val_main_v64, val_main_v63, val_main_v50, val_main_v51, val_main_v55, val_main_v54, val_main_v53, val_main_v11, val_main_v10, val_main_v12, val_main_v44, val_main_v43, val_main_v42, val_main_v41, val_main_v40, val_main_v39, val_main_v38, val_main_v37, val_main_v3, val_main_v2, val_main_cst_4, val_main_cst_5, val_main_cst_6, val_main_cst_7, val_main_cst_8, val_main_cst_15, val_main_cst_16, val_main_cst_17, rowSc, rs, ms]
theorem v78_at (b : Fin 4) (n : Fin 256) (k : Fin 1024) : val_main_v78 (F := Ideal) x0 x2 x4 (ix3 b n k) = rowDg (fun k => x0 (ix2 (ctxRow b n) k)) (fun k => x2 (ix3 4 0 k)) (fun k => x4 (ix2 (ctxRow b n) k)) k := by
  pointwise [val_main_v78, val_main_v76, val_main_v75, val_main_v49, val_main_v48, val_main_v64, val_main_v63, val_main_v50, val_main_v51, val_main_v55, val_main_v54, val_main_v53, val_main_v11, val_main_v10, val_main_v12, val_main_v44, val_main_v43, val_main_v42, val_main_v41, val_main_v40, val_main_v39, val_main_v38, val_main_v37, val_main_v3, val_main_v2, val_main_cst_4, val_main_cst_5, val_main_cst_6, val_main_cst_7, val_main_cst_8, val_main_cst_15, val_main_cst_16, val_main_cst_17, rowDg, rs, ms]
theorem v64_at (b : Fin 4) (n : Fin 256) (k : Fin 1024) : val_main_v64 (F := Ideal) x4 (ix3 b n k) = x4 (ix2 (ctxRow b n) k) := by
  pointwise [val_main_v64, val_main_v63]

/-- dshift. -/
theorem v135_lat (b : Fin 4) (k : Fin 1024) : val_main_v135 (F := Ideal) x4 (ix3 ⟨b.val, by omega⟩ 0 k) = ∑ n : Fin 2048, x4 (ix2 (latRow b n) k) := by
  pointwise [val_main_v135, val_main_v134, val_main_v107, val_main_v100, val_main_v99, val_main_cst_21, val_main_cst_18, v62_at]
  simp only [Fin.sum_univ_one]
theorem v135_ctx (k : Fin 1024) : val_main_v135 (F := Ideal) x4 (ix3 4 0 k) = ∑ b : Fin 4, ∑ n : Fin 256, x4 (ix2 (ctxRow b n) k) := by
  pointwise [val_main_v135, val_main_v134, val_main_v133, val_main_v71, val_main_v70, val_main_v69, val_main_cst_9, val_main_cst_10, v64_at, sum01]
  simp only [Fin.sum_univ_one]
/-- dscale. -/
theorem v138_lat (b : Fin 4) (k : Fin 1024) : val_main_v138 (F := Ideal) x0 x3 x4 (ix3 ⟨b.val, by omega⟩ 0 k) =
    ∑ n : Fin 2048, rowSc (fun k => x0 (ix2 (latRow b n) k)) (fun k => x3 (ix2 0 k)) (fun k => x4 (ix2 (latRow b n) k)) k := by
  pointwise [val_main_v138, val_main_v137, val_main_v106, val_main_v103, val_main_v102, val_main_cst_20, val_main_cst_19, v101_at]
  simp only [Fin.sum_univ_one]
theorem v138_ctx (k : Fin 1024) : val_main_v138 (F := Ideal) x0 x3 x4 (ix3 4 0 k) =
    ∑ b : Fin 4, ∑ n : Fin 256, rowSc (fun k => x0 (ix2 (ctxRow b n) k)) (fun k => x3 (ix2 0 k)) (fun k => x4 (ix2 (ctxRow b n) k)) k := by
  pointwise [val_main_v138, val_main_v137, val_main_v136, val_main_v77, val_main_v74, val_main_v73, val_main_cst_11, val_main_cst_12, v72_at, sum01]
  simp only [Fin.sum_univ_one]
/-- dg. -/
theorem v139_at (k : Fin 1024) : val_main_v139 (F := Ideal) x0 x2 x4 (ix2 0 k) =
    ∑ b : Fin 4, ∑ n : Fin 256, rowDg (fun k => x0 (ix2 (ctxRow b n) k)) (fun k => x2 (ix3 4 0 k)) (fun k => x4 (ix2 (ctxRow b n) k)) k
    + ∑ b : Fin 4, ∑ n : Fin 2048, rowDg (fun k => x0 (ix2 (latRow b n) k)) (fun k => x2 (ix3 ⟨b.val, by omega⟩ 0 k)) (fun k => x4 (ix2 (latRow b n) k)) k := by
  pointwise [val_main_v139, val_main_v114, val_main_v113, val_main_v110, val_main_v109, val_main_v83, val_main_v80, val_main_v79, val_main_cst_13, val_main_cst_14, val_main_cst_22, val_main_cst_23, v78_at, v108_at, sum01]
  simp only [Fin.sum_univ_one]
/-- dh. -/
theorem v132_at (r : Fin 9216) (k : Fin 1024) : val_main_v132 (F := Ideal) x0 x2 x3 x4 x5 (ix2 r k) =
    rowDh (fun k => x0 (ix2 r k)) (fun k => x2 (ix3 ⟨r.val / 2048, by omega⟩ 0 k)) (fun k => x3 (ix2 0 k)) (fun k => x4 (ix2 r k)) (x5 (ix2 r k)) k := by
  have h : val_main_v132 (F := Ideal) x0 x2 x3 x4 x5 (ix2 r k) =
      if h : r.val < 8192 then val_main_v129 (F := Ideal) x0 x2 x3 x4 x5 (ix3 ⟨r.val / 2048, by omega⟩ ⟨r.val % 2048, by omega⟩ k)
      else val_main_v98 (F := Ideal) x0 x2 x3 x4 x5 (ix3 ⟨(r.val - 8192) / 256, by omega⟩ ⟨(r.val - 8192) % 256, by omega⟩ k) := by
    pointwise [val_main_v132, val_main_v130, val_main_v131]
  by_cases hr : r.val < 8192
  · have e : latRow ⟨r.val / 2048, by omega⟩ ⟨r.val % 2048, by omega⟩ = r := Fin.ext (by show r.val / 2048 * 2048 + r.val % 2048 = r.val; omega)
    rw [h, dif_pos hr, v129_at, e]
  · have e : ctxRow ⟨(r.val - 8192) / 256, by omega⟩ ⟨(r.val - 8192) % 256, by omega⟩ = r :=
      Fin.ext (by show 8192 + ((r.val - 8192) / 256 * 256 + (r.val - 8192) % 256) = r.val; omega)
    have e4 : (4 : Fin 5) = ⟨r.val / 2048, by omega⟩ := Fin.ext (by show 4 = r.val / 2048; omega)
    rw [h, dif_neg hr, v98_at, e, e4]

end Cert.Norm38

end
-- ==== Proof.Norm38.lean ====
module

public import proofs.«01_k».proof.Proof.Norm38Frame
public import proofs.«01_k».proof.Proof.Norm38Ref

@[expose] public section

set_option maxRecDepth 16384

noncomputable section

open Idealize.ShloMosaic Idealize.ShloMosaic.TcCoe Idealize.SL.Sem
open Idealize.ShloMosaic.Pipeline (Dat)

/-! Program 38: one layer's norm backward. The launch leaves what the reference leaves: each row's gradient, each
segment's sums and the sums over all rows. -/

namespace Cert.Norm38

open Cert.Kernel38Ideal Cert.Kernel38Ideal.Gen
open Cert.Reference38Ideal.Read

/-- A block's row of the gradient, -/
theorem dhT_apply (x0 x4 x5 : S512x1024.Idx → EReal) (x2 : S1x1x1024.Idx → EReal) (x3 : S1x1024.Idx → EReal) (a : Fin 512) (k : Fin 1024) :
    (dhT (F := Ideal) x0 x2 x3 x4 x5 : S512x1024.Idx → EReal) (ix2 a k) =
      rowDh (fun k => x0 (ix2 a k)) (fun k => x2 (ix3 0 0 k)) (fun k => x3 (ix2 0 k)) (fun k => x4 (ix2 a k)) (x5 (ix2 a k)) k := by
  unfold dhT
  unfold_payloads
  pointwise [rowDh, rowU, rowQ, rs, ms]
  exact (add_comm _ _).trans ((add_assoc _ _ _).symm.trans (congrArg (· + _) (add_assoc _ _ _).symm))
/-- and the running sums with the block added. -/
theorem shT_apply (x4 : S512x1024.Idx → EReal) (p : S1x1x1024.Idx → EReal) (k : Fin 1024) :
    (shT (F := Ideal) x4 p : S1x1x1024.Idx → EReal) (ix3 0 0 k) = p (ix3 0 0 k) + ∑ a : Fin 512, x4 (ix2 a k) := by
  unfold shT
  unfold_payloads
  pointwise []
theorem scT_apply (x0 x4 : S512x1024.Idx → EReal) (x3 : S1x1024.Idx → EReal) (p : S1x1x1024.Idx → EReal) (k : Fin 1024) :
    (scT (F := Ideal) x0 x3 x4 p : S1x1x1024.Idx → EReal) (ix3 0 0 k) =
      p (ix3 0 0 k) + ∑ a : Fin 512, rowSc (fun k => x0 (ix2 a k)) (fun k => x3 (ix2 0 k)) (fun k => x4 (ix2 a k)) k := by
  unfold scT
  unfold_payloads
  pointwise [rowSc, rs, ms]
theorem dgT_apply (x0 x4 : S512x1024.Idx → EReal) (x2 : S1x1x1024.Idx → EReal) (p : S1x1024.Idx → EReal) (k : Fin 1024) :
    (dgT (F := Ideal) x0 x2 x4 p : S1x1024.Idx → EReal) (ix2 0 k) =
      p (ix2 0 k) + ∑ a : Fin 512, rowDg (fun k => x0 (ix2 a k)) (fun k => x2 (ix3 0 0 k)) (fun k => x4 (ix2 a k)) k := by
  unfold dgT
  unfold_payloads
  pointwise [rowDg, rs, ms]
theorem zero15 (k : Fin 1024) : (k0_pay15 (F := Ideal) : S1x1x1024.Idx → EReal) (ix3 0 0 k) = 0 := by
  unfold_payloads
  pointwise []
theorem zero17 (k : Fin 1024) : (k0_pay17 (F := Ideal) : S1x1x1024.Idx → EReal) (ix3 0 0 k) = 0 := by
  unfold_payloads
  pointwise []
theorem zero1 (k : Fin 1024) : (k0_pay1 (F := Ideal) : S1x1024.Idx → EReal) (ix2 0 k) = 0 := by
  unfold_payloads
  pointwise []

/-! ## Sums over rows -/

/-- A function of the rows, read at any number. -/
def rowF (X : Fin 9216 → EReal) (i : ℕ) : EReal := if h : i < 9216 then X ⟨i, h⟩ else 0

theorem rowF_eq (X : Fin 9216 → EReal) (i : ℕ) (h : i < 9216) : rowF X i = X ⟨i, h⟩ := dif_pos h

theorem lt18 (t : Fin cfg0.N) : t.val < 18 := Nat.lt_of_lt_of_eq t.isLt (by decide +kernel)

/-- The row of the whole array that is row `a` of the block at point `t`. -/
abbrev tileRow (t : Fin cfg0.N) (a : Fin 512) : Fin 9216 := ⟨512 * t.val + a.val, by have := lt18 t; omega⟩

theorem tile_sum (X : Fin 9216 → EReal) (t : Fin cfg0.N) : ∑ a : Fin 512, X (tileRow t a) = ∑ i ∈ Finset.range 512, rowF X (512 * t.val + i) := by
  refine Eq.trans (Finset.sum_congr rfl fun a _ => ?_) (Finset.sum_range fun i => rowF X (512 * t.val + i)).symm
  exact (rowF_eq X _ _).symm

/-- A running sum that starts anew at every fourth point is the sum over the rows since then. -/
theorem seg_sum (X : Fin 9216 → EReal) (A : (n : ℕ) → n < cfg0.N → EReal)
    (first : ∀ t : Fin cfg0.N, t.val % 4 = 0 → A t.val t.isLt = ∑ a : Fin 512, X (tileRow t a))
    (next : ∀ t : Fin cfg0.N, ¬t.val % 4 = 0 → A t.val t.isLt = A (t.val - 1) (pred_lt t) + ∑ a : Fin 512, X (tileRow t a)) :
    ∀ (n : ℕ) (h : n < cfg0.N), A n h = ∑ i ∈ Finset.range (512 * (n % 4 + 1)), rowF X (2048 * (n / 4) + i) := by
  intro n
  induction n with
  | zero =>
    intro h
    exact (first ⟨0, h⟩ rfl).trans (tile_sum X ⟨0, h⟩)
  | succ n ih =>
    intro h
    by_cases h4 : (n + 1) % 4 = 0
    · refine (first ⟨n + 1, h⟩ h4).trans ((tile_sum X ⟨n + 1, h⟩).trans ?_)
      rw [h4]
      refine Finset.sum_congr rfl fun i _ => congrArg (rowF X) ?_
      show 512 * (n + 1) + i = 2048 * ((n + 1) / 4) + i
      omega
    · refine (next ⟨n + 1, h⟩ h4).trans ?_
      have e1 : 512 * ((n + 1) % 4 + 1) = 512 * (n % 4 + 1) + 512 := by omega
      have e2 : (n + 1) / 4 = n / 4 := by omega
      rw [e1, e2, Finset.sum_range_add]
      refine congrArg₂ (fun x y : EReal => x + y) (ih _) ((tile_sum X ⟨n + 1, h⟩).trans ?_)
      refine Finset.sum_congr rfl fun i _ => congrArg (rowF X) ?_
      show 512 * (n + 1) + i = 2048 * (n / 4) + (512 * (n % 4 + 1) + i)
      omega

/-- A running sum over the whole grid is the sum over the rows so far. -/
theorem all_sum (X : Fin 9216 → EReal) (A : (n : ℕ) → n < cfg0.N → EReal)
    (first : ∀ t : Fin cfg0.N, t.val = 0 → A t.val t.isLt = ∑ a : Fin 512, X (tileRow t a))
    (next : ∀ t : Fin cfg0.N, ¬t.val = 0 → A t.val t.isLt = A (t.val - 1) (pred_lt t) + ∑ a : Fin 512, X (tileRow t a)) :
    ∀ (n : ℕ) (h : n < cfg0.N), A n h = ∑ i ∈ Finset.range (512 * (n + 1)), rowF X i := by
  intro n
  induction n with
  | zero =>
    intro h
    refine (first ⟨0, h⟩ rfl).trans ((tile_sum X ⟨0, h⟩).trans ?_)
    exact Finset.sum_congr rfl fun i _ => congrArg (rowF X) (Nat.zero_add i)
  | succ n ih =>
    intro h
    refine (next ⟨n + 1, h⟩ (Nat.succ_ne_zero n)).trans ?_
    rw [show 512 * (n + 1 + 1) = 512 * (n + 1) + 512 by omega, Finset.sum_range_add]
    exact congrArg₂ (fun x y : EReal => x + y) (ih _) (tile_sum X ⟨n + 1, h⟩)

/-- The rows of a latent segment, -/
theorem lat_sum (X : Fin 9216 → EReal) (b : Fin 4) : ∑ i ∈ Finset.range 2048, rowF X (b.val * 2048 + i) = ∑ n : Fin 2048, X (latRow b n) := by
  refine (Finset.sum_range fun i => rowF X (b.val * 2048 + i)).trans (Finset.sum_congr rfl fun n _ => ?_)
  exact rowF_eq X _ _
/-- those of the context, -/
theorem ctx_sum (X : Fin 9216 → EReal) : ∑ i ∈ Finset.range 1024, rowF X (8192 + i) = ∑ b : Fin 4, ∑ n : Fin 256, X (ctxRow b n) := by
  refine (Finset.sum_range_mul_split 4 256 fun i => rowF X (8192 + i)).trans ?_
  refine (Finset.sum_range _).trans (Finset.sum_congr rfl fun b _ => ?_)
  refine (Finset.sum_range _).trans (Finset.sum_congr rfl fun n _ => ?_)
  exact rowF_eq X _ _
/-- and all of them. -/
theorem rows_sum (X : Fin 9216 → EReal) :
    ∑ i ∈ Finset.range 9216, rowF X i = (∑ b : Fin 4, ∑ n : Fin 256, X (ctxRow b n)) + ∑ b : Fin 4, ∑ n : Fin 2048, X (latRow b n) := by
  rw [show 9216 = 8192 + 1024 by rfl, Finset.sum_range_add, ctx_sum X]
  refine (add_comm _ _).trans (congrArg (_ + ·) ?_)
  refine (Finset.sum_range_mul_split 4 2048 fun i => rowF X i).trans ?_
  exact (Finset.sum_range _).trans (Finset.sum_congr rfl fun b _ => lat_sum X b)

/-! ## The blocks -/

variable (m : (ℓ : Loc nD τ sig) → Buf (Elt Ideal) ℓ)

abbrev arg0 (c : Dev nD) : S9216x1024.Idx → EReal := m ((c : Thread nD τ).loc main_arg0)
abbrev arg2 (c : Dev nD) : S5x1x1024.Idx → EReal := m ((c : Thread nD τ).loc main_arg2)
abbrev arg3 (c : Dev nD) : S1x1024.Idx → EReal := m ((c : Thread nD τ).loc main_arg3)
abbrev arg4 (c : Dev nD) : S9216x1024.Idx → EReal := m ((c : Thread nD τ).loc main_arg4)
abbrev arg5 (c : Dev nD) : S9216x1024.Idx → EReal := m ((c : Thread nD τ).loc main_arg5)

theorem idxI : ∀ t : Fin grid0.N, win0_0.index t = ![t.val, 0] ∧ win0_2.index t = ![t.val / 4, 0, 0] ∧ win0_3.index t = ![0, 0]
    ∧ win0_4.index t = ![t.val, 0] ∧ win0_5.index t = ![t.val, 0] := by decide +kernel
theorem idxO : ∀ t : Fin grid0.N, win0_6.index t = ![t.val, 0] ∧ win0_7.index t = ![t.val / 4, 0, 0] ∧ win0_8.index t = ![t.val / 4, 0, 0]
    ∧ win0_9.index t = ![0, 0] := by decide +kernel

abbrev seg (t : Fin cfg0.N) : Fin 5 := ⟨t.val / 4, by have := lt18 t; omega⟩

theorem in0 (c : Dev nD) (t : Fin cfg0.N) (a : Fin 512) (k : Fin 1024) : (iblk m c 0 t : S512x1024.Idx → EReal) (ix2 a k) = arg0 m c (ix2 (tileRow t a) k) := by
  have h := idxI t
  blk_ext [iblk, V, h.1]
theorem in2 (c : Dev nD) (t : Fin cfg0.N) (k : Fin 1024) : (iblk m c 2 t : S1x1x1024.Idx → EReal) (ix3 0 0 k) = arg2 m c (ix3 (seg t) 0 k) := by
  have h := idxI t
  blk_ext [iblk, V, h.2.1]
theorem in3 (c : Dev nD) (t : Fin cfg0.N) (k : Fin 1024) : (iblk m c 3 t : S1x1024.Idx → EReal) (ix2 0 k) = arg3 m c (ix2 0 k) := by
  have h := idxI t
  blk_ext [iblk, V, h.2.2.1]
theorem in4 (c : Dev nD) (t : Fin cfg0.N) (a : Fin 512) (k : Fin 1024) : (iblk m c 4 t : S512x1024.Idx → EReal) (ix2 a k) = arg4 m c (ix2 (tileRow t a) k) := by
  have h := idxI t
  blk_ext [iblk, V, h.2.2.2.1]
theorem in5 (c : Dev nD) (t : Fin cfg0.N) (a : Fin 512) (k : Fin 1024) : (iblk m c 5 t : S512x1024.Idx → EReal) (ix2 a k) = arg5 m c (ix2 (tileRow t a) k) := by
  have h := idxI t
  blk_ext [iblk, V, h.2.2.2.2]

theorem seg_row (t : Fin cfg0.N) (a : Fin 512) : (⟨(512 * t.val + a.val) / 2048, by have := lt18 t; omega⟩ : Fin 5) = seg t :=
  Fin.ext (by show (512 * t.val + a.val) / 2048 = t.val / 4; omega)

/-- What each row adds to the three sums. -/
abbrev SH (c : Dev nD) (k : Fin 1024) (r : Fin 9216) : EReal := arg4 m c (ix2 r k)
abbrev SC (c : Dev nD) (k : Fin 1024) (r : Fin 9216) : EReal :=
  rowSc (fun k => arg0 m c (ix2 r k)) (fun k => arg3 m c (ix2 0 k)) (fun k => arg4 m c (ix2 r k)) k
abbrev DG (c : Dev nD) (k : Fin 1024) (r : Fin 9216) : EReal :=
  rowDg (fun k => arg0 m c (ix2 r k)) (fun k => arg2 m c (ix3 ⟨r.val / 2048, by omega⟩ 0 k)) (fun k => arg4 m c (ix2 r k)) k

theorem DH_tile (c : Dev nD) (t : Fin cfg0.N) (a : Fin 512) (k : Fin 1024) :
    (dhT (F := Ideal) (iblk m c 0 t) (iblk m c 2 t) (iblk m c 3 t) (iblk m c 4 t) (iblk m c 5 t) : S512x1024.Idx → EReal) (ix2 a k) =
      val_main_v132 (F := Ideal) (arg0 m c) (arg2 m c) (arg3 m c) (arg4 m c) (arg5 m c) (ix2 (tileRow t a) k) := by
  refine (dhT_apply _ _ _ _ _ _ _).trans (Eq.trans ?_ (v132_at _ _ _ _ _ _ _).symm)
  simp only [in0, in2, in3, in4, in5, seg_row]
theorem SC_tile (c : Dev nD) (t : Fin cfg0.N) (k : Fin 1024) (a : Fin 512) :
    rowSc (fun k => (iblk m c 0 t : S512x1024.Idx → EReal) (ix2 a k)) (fun k => (iblk m c 3 t : S1x1024.Idx → EReal) (ix2 0 k))
      (fun k => (iblk m c 4 t : S512x1024.Idx → EReal) (ix2 a k)) k = SC m c k (tileRow t a) := by
  simp only [in0, in3, in4]
theorem DG_tile (c : Dev nD) (t : Fin cfg0.N) (k : Fin 1024) (a : Fin 512) :
    rowDg (fun k => (iblk m c 0 t : S512x1024.Idx → EReal) (ix2 a k)) (fun k => (iblk m c 2 t : S1x1x1024.Idx → EReal) (ix3 0 0 k))
      (fun k => (iblk m c 4 t : S512x1024.Idx → EReal) (ix2 a k)) k = DG m c k (tileRow t a) := by
  simp only [in0, in2, in4, DG, seg_row]

theorem shAt_sum (c : Dev nD) (k : Fin 1024) (n : ℕ) (h : n < cfg0.N) :
    (shAt m c n h : S1x1x1024.Idx → EReal) (ix3 0 0 k) = ∑ i ∈ Finset.range (512 * (n % 4 + 1)), rowF (SH m c k) (2048 * (n / 4) + i) := by
  refine seg_sum (SH m c k) (fun n h => (shAt m c n h : S1x1x1024.Idx → EReal) (ix3 0 0 k)) (fun t ht => ?_) (fun t ht => ?_) n h
  · refine (congrFun (shAt_first m c t ht) _).trans ((shT_apply _ _ k).trans ?_)
    rw [zero15, zero_add]
    exact Finset.sum_congr rfl fun a _ => in4 m c t a k
  · refine (congrFun (shAt_next m c t ht) _).trans ((shT_apply _ _ k).trans (congrArg (_ + ·) ?_))
    exact Finset.sum_congr rfl fun a _ => in4 m c t a k
theorem scAt_sum (c : Dev nD) (k : Fin 1024) (n : ℕ) (h : n < cfg0.N) :
    (scAt m c n h : S1x1x1024.Idx → EReal) (ix3 0 0 k) = ∑ i ∈ Finset.range (512 * (n % 4 + 1)), rowF (SC m c k) (2048 * (n / 4) + i) := by
  refine seg_sum (SC m c k) (fun n h => (scAt m c n h : S1x1x1024.Idx → EReal) (ix3 0 0 k)) (fun t ht => ?_) (fun t ht => ?_) n h
  · refine (congrFun (scAt_first m c t ht) _).trans ((scT_apply _ _ _ _ k).trans ?_)
    rw [zero17, zero_add]
    exact Finset.sum_congr rfl fun a _ => SC_tile m c t k a
  · refine (congrFun (scAt_next m c t ht) _).trans ((scT_apply _ _ _ _ k).trans (congrArg (_ + ·) ?_))
    exact Finset.sum_congr rfl fun a _ => SC_tile m c t k a
theorem dgAt_sum (c : Dev nD) (k : Fin 1024) (n : ℕ) (h : n < cfg0.N) :
    (dgAt m c n h : S1x1024.Idx → EReal) (ix2 0 k) = ∑ i ∈ Finset.range (512 * (n + 1)), rowF (DG m c k) i := by
  refine all_sum (DG m c k) (fun n h => (dgAt m c n h : S1x1024.Idx → EReal) (ix2 0 k)) (fun t ht => ?_) (fun t ht => ?_) n h
  · refine (congrFun (dgAt_first m c t ht) _).trans ((dgT_apply _ _ _ _ k).trans ?_)
    rw [zero1, zero_add]
    exact Finset.sum_congr rfl fun a _ => DG_tile m c t k a
  · refine (congrFun (dgAt_next m c t ht) _).trans ((dgT_apply _ _ _ _ k).trans (congrArg (_ + ·) ?_))
    exact Finset.sum_congr rfl fun a _ => DG_tile m c t k a

/-! ## What the launch leaves -/

theorem flush7 : ∀ t : Fin cfg0.N, (cfg0.win 7).flush t = true → t.val % 4 = 3 ∨ t.val = 17 :=
  (by decide +kernel : ∀ t : Fin grid0.N, win0_7.flush t = true → t.val % 4 = 3 ∨ t.val = 17)
theorem flush8 : ∀ t : Fin cfg0.N, (cfg0.win 8).flush t = true → t.val % 4 = 3 ∨ t.val = 17 :=
  (by decide +kernel : ∀ t : Fin grid0.N, win0_8.flush t = true → t.val % 4 = 3 ∨ t.val = 17)
theorem flush9 : ∀ t : Fin cfg0.N, (cfg0.win 9).flush t = true → t.val = 17 :=
  (by decide +kernel : ∀ t : Fin grid0.N, win0_9.flush t = true → t.val = 17)

/-- A segment's whole sum: `L` gives it for a latent segment, `C` for the context. -/
theorem seg_done (X : Fin 9216 → EReal) (G : Fin 5 → EReal) (L : ∀ b : Fin 4, G ⟨b.val, by omega⟩ = ∑ n : Fin 2048, X (latRow b n))
    (C : G 4 = ∑ b : Fin 4, ∑ n : Fin 256, X (ctxRow b n)) (t : Fin cfg0.N) (ht : t.val % 4 = 3 ∨ t.val = 17) :
    ∑ i ∈ Finset.range (512 * (t.val % 4 + 1)), rowF X (2048 * (t.val / 4) + i) = G (seg t) := by
  have h18 := lt18 t
  by_cases h : t.val = 17
  · rw [h]
    exact (ctx_sum X).trans (C.symm.trans (congrArg G (Fin.ext (by show 4 = t.val / 4; omega))))
  · have h3 : t.val % 4 = 3 := ht.resolve_right h
    rw [h3, Nat.mul_comm 2048]
    exact (lat_sum X ⟨t.val / 4, by omega⟩).trans (L ⟨t.val / 4, by omega⟩).symm

theorem arr_dh (c : Dev nD) : (dats m 0 c).arrAt 6 cfg0.N =
    val_main_v132 (F := Ideal) (arg0 m c) (arg2 m c) (arg3 m c) (arg4 m c) (arg5 m c) := by
  refine (dats m 0 c).arrAt_eq_of_covers 6 _ (by decide +kernel) fun t hf y => ?_
  blk_simp
  rw [after_6]
  have h := idxO t
  have e : ((win0_6.blk t).view.emb y : S9216x1024.Idx) = ix2 (tileRow t (y 0)) (y 1) := by
    blk_ext [h.1]
  exact (congrArg _ (eq_ix2 y)).trans ((DH_tile m c t (y 0) (y 1)).trans
    (congrArg (val_main_v132 (F := Ideal) (arg0 m c) (arg2 m c) (arg3 m c) (arg4 m c) (arg5 m c)) e).symm)

theorem arr_sh (c : Dev nD) : (dats m 0 c).arrAt 7 cfg0.N = val_main_v135 (F := Ideal) (arg4 m c) := by
  refine (dats m 0 c).arrAt_eq_of_covers 7 _ (by decide +kernel) fun t hf y => ?_
  blk_simp
  rw [after_7]
  have h := idxO t
  have e : ((win0_7.blk t).view.emb y : S5x1x1024.Idx) = ix3 (seg t) 0 (y 2) := by
    blk_ext [h.2.1]
  have ey : y = ix3 0 0 (y 2) := by
    blk_ext []
  rw [e]
  refine (congrArg _ ey).trans ((shAt_sum m c (y 2) _ _).trans ?_)
  exact seg_done (SH m c (y 2)) (fun b => val_main_v135 (F := Ideal) (arg4 m c) (ix3 b 0 (y 2))) (fun b => v135_lat _ b _) (v135_ctx _ _) t (flush7 t hf)

theorem arr_sc (c : Dev nD) : (dats m 0 c).arrAt 8 cfg0.N = val_main_v138 (F := Ideal) (arg0 m c) (arg3 m c) (arg4 m c) := by
  refine (dats m 0 c).arrAt_eq_of_covers 8 _ (by decide +kernel) fun t hf y => ?_
  blk_simp
  rw [after_8]
  have h := idxO t
  have e : ((win0_8.blk t).view.emb y : S5x1x1024.Idx) = ix3 (seg t) 0 (y 2) := by
    blk_ext [h.2.2.1]
  have ey : y = ix3 0 0 (y 2) := by
    blk_ext []
  rw [e]
  refine (congrArg _ ey).trans ((scAt_sum m c (y 2) _ _).trans ?_)
  exact seg_done (SC m c (y 2)) (fun b => val_main_v138 (F := Ideal) (arg0 m c) (arg3 m c) (arg4 m c) (ix3 b 0 (y 2))) (fun b => v138_lat _ _ _ b _) (v138_ctx _ _ _ _) t
    (flush8 t hf)

theorem arr_dg (c : Dev nD) : (dats m 0 c).arrAt 9 cfg0.N = val_main_v139 (F := Ideal) (arg0 m c) (arg2 m c) (arg4 m c) := by
  refine (dats m 0 c).arrAt_eq_of_covers 9 _ (by decide +kernel) fun t hf y => ?_
  blk_simp
  rw [after_9]
  have h := idxO t
  have e : ((win0_9.blk t).view.emb y : S1x1024.Idx) = ix2 0 (y 1) := by
    blk_ext [h.2.2.2]
  have ey : y = ix2 0 (y 1) := by
    blk_ext []
  refine Eq.trans ?_ ((congrArg (val_main_v139 (F := Ideal) (arg0 m c) (arg2 m c) (arg4 m c)) e).trans (v139_at _ _ _ (y 1))).symm
  refine (congrArg _ ey).trans ((dgAt_sum m c (y 1) _ _).trans ?_)
  rw [flush9 t hf]
  refine (rows_sum (DG m c (y 1))).trans ?_
  refine congrArg₂ (fun x y : EReal => x + y) (Finset.sum_congr rfl fun b _ => Finset.sum_congr rfl fun n _ => ?_)
    (Finset.sum_congr rfl fun b _ => Finset.sum_congr rfl fun n _ => ?_)
  · have e4 : (⟨(ctxRow b n).val / 2048, by have := (ctxRow b n).isLt; omega⟩ : Fin 5) = 4 :=
      Fin.ext (by show (8192 + (b.val * 256 + n.val)) / 2048 = 4; omega)
    simp only [DG, e4]
  · have eb : (⟨(latRow b n).val / 2048, by have := (latRow b n).isLt; omega⟩ : Fin 5) = ⟨b.val, by omega⟩ :=
      Fin.ext (by show (b.val * 2048 + n.val) / 2048 = b.val; omega)
    simp only [DG, eb]

/-- The launch and the reference leave the same four arrays. -/
theorem tie : Cert.algebraic_Kernel38Ideal_Reference38Ideal (hKernel38Ideal := Cert.Kernel38Ideal.Gen.facts)
    (hReference38Ideal := Cert.Reference38Ideal.Gen.facts) := by
  intro m g m' g' _ hagree
  refine ⟨fun c => val_main_v132 (F := Ideal) (arg0 m c) (arg2 m c) (arg3 m c) (arg4 m c) (arg5 m c), fun c => val_main_v135 (F := Ideal) (arg4 m c),
    fun c => val_main_v138 (F := Ideal) (arg0 m c) (arg3 m c) (arg4 m c), fun c => val_main_v139 (F := Ideal) (arg0 m c) (arg2 m c) (arg4 m c), ?_, ?_⟩
  · refine (θ_run _ _ _).mono (fun r h c => ?_) (run_post (F := Ideal) m g)
    have kept : ∀ (w : Fin cfg0.W) (hw : (cfg0.win w).isOut = false), (dats m 0 c).arrAt w cfg0.N = V m c (Pipeline.arrRef spec0 w) := fun w hw =>
      ((dats m 0 c).arrAt_in w hw _).trans (A_eq m c w)
    exact ⟨((h c).1 6).trans (arr_dh m c), ((h c).1 7).trans (arr_sh m c), ((h c).1 8).trans (arr_sc m c), ((h c).1 9).trans (arr_dg m c),
      ((h c).1 0).trans (kept 0 rfl), ((h c).1 1).trans (kept 1 rfl), ((h c).1 2).trans (kept 2 rfl), ((h c).1 3).trans (kept 3 rfl),
      ((h c).1 4).trans (kept 4 rfl), ((h c).1 5).trans (kept 5 rfl)⟩
  · refine (θ_run _ _ _).mono (fun r h c => ?_) (Cert.Reference38Ideal.Value.run (F := Ideal) m' g')
    obtain ⟨h0, h1, h2, h3, hk⟩ := h c
    obtain ⟨a0, a1, a2, a3, a4, a5⟩ := hagree c
    refine ⟨h0.trans ?_, h1.trans ?_, h2.trans ?_, h3.trans ?_, hk⟩
    · rw [val_main_v132_eq, a0, a2, a3, a4, a5]
    · rw [val_main_v135_eq, a4]
    · rw [val_main_v138_eq, a0, a3, a4]
    · rw [val_main_v139_eq, a0, a2, a4]

end Cert.Norm38
-- ==== Proof.Loss39.lean ====
module

public import proofs.«01_k».proof.Defs
public import proofs.«01_k».proof.Proof.Gen.Kernel39Ideal.Frame
public import proofs.«01_k».proof.Proof.Gen.Reference39Ideal.Run
public import proofs.«01_k».proof.Proof.Gen.Reference39Ideal.Read
public import Idealize.ShloMosaic.Lib.Pointwise
public import Idealize.ShloMosaic.Lib.Claim
public import Idealize.ShloMosaic.Lib.WritesUnit
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! Program 39: the loss head of one device's tokens: the device's share of the loss, and the cotangent of the output. -/

namespace Cert.Loss39

open Cert.Kernel39Ideal Cert.Kernel39Ideal.Gen
open Cert.Reference39Ideal.Read

variable (m : (ℓ : Loc nD τ sig) → Buf (Elt Ideal) ℓ)

abbrev argY (c : Dev nD) : S8192x1024.Idx → EReal := m ((c : Thread nD τ).loc main_arg0)
abbrev argT (c : Dev nD) : S8192x1024.Idx → EReal := m ((c : Thread nD τ).loc main_arg1)

theorem idx0 : ∀ t : Fin grid0.N, win0_0.index t = ![t.val, 0] ∧ win0_1.index t = ![t.val, 0] ∧ win0_2.index t = ![0, 0] ∧ win0_3.index t = ![t.val, 0] := by
  decide +kernel

/-- The square of a difference. -/
def sqd (x y : EReal) : EReal := (x - y) * (x - y)

/-- A write of the first row over earlier writes: the first row reads it, the others what was there. -/
theorem row_over (inb) (w : S1x1024.Idx → EReal) (L : List (View.Piece (Elt Ideal) S8x1024 .f32)) (a : Fin 8) (k : Fin 1024) :
    (View.canon ((⟨Rect.unit (s := S8x1024) ![0, 0] ![1, 1024] inb, w⟩ : View.Piece (Elt Ideal) S8x1024 .f32) :: L) (ix2 a k) : EReal) =
      if a.val < 1 then w (ix2 0 k) else View.canon L (ix2 a k) := by
  by_cases h : a.val < 1
  · rw [if_pos h]
    have e : (ix2 a k : S8x1024.Idx) = (Rect.unit (s := S8x1024) ![0, 0] ![1, 1024] inb).emb (ix2 0 k) := by
      blk_ext [h]
    rw [e]
    exact View.canon_cons_emb _ _ _ _
  · rw [if_neg h]
    refine View.canon_cons_of_not_mem _ _ fun hm => h ?_
    have h0 := (Rect.mem_set_unit (s := S8x1024) (off := ![0, 0]) (size := ![1, 1024]) (inb := inb)).mp hm 0
    exact Nat.lt_of_lt_of_eq h0.2 rfl

/-- A write of the whole block is what was written. -/
theorem whole_write (inb) (w : S8x1024.Idx → EReal) :
    View.canon [(⟨Rect.unit (s := S8x1024) ![0, 0] ![8, 1024] inb, w⟩ : View.Piece (Elt Ideal) S8x1024 .f32)] = w := by
  funext y
  have e : y = (Rect.unit (s := S8x1024) ![0, 0] ![8, 1024] inb).emb y := by
    funext a
    match a with
    | ⟨0, _⟩ => exact Fin.ext (by show (y 0).val = 0 + 1 * (y 0).val; omega)
    | ⟨1, _⟩ => exact Fin.ext (by show (y 1).val = 0 + 1 * (y 1).val; omega)
  exact (congrArg _ e).trans (View.canon_cons_emb _ _ _ _)

/-- The sum of squares a block adds to the first row, nothing to the others. -/
abbrev part (c : Dev nD) (t : Fin cfg0.N) (a : Fin 8) (k : Fin 1024) : EReal := if a.val < 1 then ∑ r : Fin 512,
  sqd ((iblk m c 0 t : S512x1024.Idx → EReal) (ix2 r k)) ((iblk m c 1 t : S512x1024.Idx → EReal) (ix2 r k)) else 0

/-- The first point: the first row holds the block's sums of squares, the others zero. -/
theorem accA (c : Dev nD) (t : Fin cfg0.N) (h : t.val % 16 = 0) (a : Fin 8) (k : Fin 1024) :
    ((outsAt0 m c t.val t.isLt).1 : S8x1024.Idx → EReal) (ix2 a k) = part m c t a k := by
  rw [outsAt0_A m c t h]
  frame_out
  unfold_payloads
  refine (row_over _ _ _ a k).trans ?_
  by_cases h : a.val < 1
  · rw [if_pos h]
    rw [View.readCov_eq_canon']
    rw [whole_write]
    pointwise [sqd, part, h]
  · rw [if_neg h, whole_write]
    pointwise [h, part]

theorem accB (c : Dev nD) (t : Fin cfg0.N) (h : ¬t.val % 16 = 0) (a : Fin 8) (k : Fin 1024) :
    ((outsAt0 m c t.val t.isLt).1 : S8x1024.Idx → EReal) (ix2 a k) =
      ((outsAt0 m c (t.val - 1) (Nat.lt_of_le_of_lt (Nat.sub_le _ _) t.isLt)).1 : S8x1024.Idx → EReal) (ix2 a k) + part m c t a k := by
  rw [outsAt0_B m c t h]
  frame_out
  unfold_payloads
  by_cases h : a.val < 1
  · refine (View.read_writes_cons_unit_of_mem _ _ _ _ _ _ (ix2 0 k) rfl ?_).trans ?_
    · refine Fin.forall_fin_two.mpr ⟨?_, ?_⟩
      · show a.val = 0 + 0
        omega
      · show k.val = 0 + k.val
        omega
    · obtain rfl : a = 0 := Fin.ext (by show a.val = 0; omega)
      pointwise [sqd, part]
  · refine (View.read_writes_cons_unit_of_not_mem _ _ _ _ _ _ rfl 0 (Or.inr ?_)).trans ?_
    · show 0 + 1 ≤ a.val
      omega
    · pointwise [h, part]
      exact congrFun ((hs0_2 t).read_unread _) _

/-- What the body leaves of the cotangent. -/
def dfc (x y : EReal) : EReal := (x - y) * Ideal.ofBits .f32 0x3A800000#32
theorem dyA (c : Dev nD) (t : Fin cfg0.N) (a : Fin 512) (k : Fin 1024) :
    ((outsAt0 m c t.val t.isLt).2 : S512x1024.Idx → EReal) (ix2 a k) =
      dfc ((iblk m c 0 t : S512x1024.Idx → EReal) (ix2 a k)) ((iblk m c 1 t : S512x1024.Idx → EReal) (ix2 a k)) := by
  by_cases h : t.val % 16 = 0
  · rw [outsAt0_A m c t h]
    frame_out
    unfold_payloads
    pointwise [dfc]
  · rw [outsAt0_B m c t h]
    frame_out
    unfold_payloads
    pointwise [dfc]

/-! ## The constants -/

theorem c_half : Ideal.ofBits .f32 0x3F000000#32 = (((1 : ℝ) / 2 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_1024 : Ideal.ofBits .f32 0x44800000#32 = ((1024 : ℝ) : EReal) := by
  simp [Ideal.ofBits, Ideal.ieee, -EReal.coe_mul]; norm_num
theorem c_inv : Ideal.ofBits .f32 0x3A800000#32 = (((1 : ℝ) / 1024 : ℝ) : EReal) := by
  simp [Ideal.ofBits, Ideal.ieee, -EReal.coe_mul]; norm_num
theorem div_1024 (x : EReal) : Ideal.div x (Ideal.ofBits .f32 0x44800000#32) = x * (((1 : ℝ) / 1024 : ℝ) : EReal) := by
  rw [c_1024]
  exact Ideal.div_coe (by norm_num) x

/-- A nonnegative number times a sum of extended reals. -/
theorem sum_mul_coe {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert i s hi ih =>
    rw [Finset.sum_insert hi, Finset.sum_insert hi, ← ih]
    exact EReal.right_distrib_of_nonneg_of_ne_top (by exact_mod_cast hr) (EReal.coe_ne_top r) _ _

/-! ## The reference -/

theorem v14_at (y t : S8192x1024.Idx → EReal) (r : Fin 8192) (k : Fin 1024) :
    val_main_v14 (F := Ideal) y t (ix2 r k) = dfc (y (ix2 r k)) (t (ix2 r k)) := by
  pointwise [val_main_v14, val_main_v13, val_main_v12, val_main_v11, val_main_v10, val_main_v9, val_main_v3, val_main_v2, val_main_v0, val_main_cst, val_main_cst_4, val_main_cst_5, val_main_cst_6]
  rw [dfc, div_1024, c_half, c_two, c_inv, mul_comm, mul_comm ((2 : ℝ) : EReal), mul_assoc, ← EReal.coe_mul, ← EReal.coe_mul]
  norm_num
theorem v8_at (y t : S8192x1024.Idx → EReal) (i) : val_main_v8 (F := Ideal) y t i =
    Ideal.div (Ideal.ofBits .f32 0x3F000000#32 * ∑ r : Fin 8192, ∑ k : Fin 1024, sqd (y (ix2 r k)) (t (ix2 r k))) (Ideal.ofBits .f32 0x44800000#32) := by
  pointwise [val_main_v8, val_main_v7, val_main_v6, val_main_v5, val_main_v4, val_main_v1, val_main_v0, val_main_cst_0, val_main_cst_1, val_main_cst_2, val_main_cst_3]
  simp only [div_1024, sqd]
  rw [← sum_mul_coe _ _ _ (by norm_num)]
  exact (mul_assoc _ _ _).symm

/-! ## The sum over the rows -/

/-- A function of the rows, read at any number. -/
def rowF (X : Fin 8192 → EReal) (i : ℕ) : EReal := if h : i < 8192 then X ⟨i, h⟩ else 0
theorem rowF_eq (X : Fin 8192 → EReal) (i : ℕ) (h : i < 8192) : rowF X i = X ⟨i, h⟩ := dif_pos h

theorem lt16 (t : Fin cfg0.N) : t.val < 16 := Nat.lt_of_lt_of_eq t.isLt N_0

/-- The row of the whole array that is row `a` of the block at point `t`. -/
abbrev tileRow (t : Fin cfg0.N) (a : Fin 512) : Fin 8192 := ⟨512 * t.val + a.val, by have := lt16 t; omega⟩

/-- A row's square in column `k`. -/
abbrev SQ (c : Dev nD) (k : Fin 1024) (r : Fin 8192) : EReal := sqd (argY m c (ix2 r k)) (argT m c (ix2 r k))

theorem inY (c : Dev nD) (t : Fin cfg0.N) (a : Fin 512) (k : Fin 1024) : (iblk m c 0 t : S512x1024.Idx → EReal) (ix2 a k) = argY m c (ix2 (tileRow t a) k) := by
  have h := idx0 t
  blk_ext [iblk, V, h.1]
theorem inT (c : Dev nD) (t : Fin cfg0.N) (a : Fin 512) (k : Fin 1024) : (iblk m c 1 t : S512x1024.Idx → EReal) (ix2 a k) = argT m c (ix2 (tileRow t a) k) := by
  have h := idx0 t
  blk_ext [iblk, V, h.2.1]

theorem part_eq (c : Dev nD) (t : Fin cfg0.N) (a : Fin 8) (k : Fin 1024) :
    part m c t a k = if a.val < 1 then ∑ i ∈ Finset.range 512, rowF (SQ m c k) (512 * t.val + i) else 0 := by
  refine if_congr Iff.rfl (Eq.trans (Finset.sum_congr rfl fun r _ => ?_) (Finset.sum_range fun i => rowF (SQ m c k) (512 * t.val + i)).symm) rfl
  rw [inY, inT]
  exact (rowF_eq (SQ m c k) _ _).symm

/-- After point `n` the first row holds the sums over the rows so far. -/
theorem acc_sum (c : Dev nD) (a : Fin 8) (k : Fin 1024) : ∀ (n : ℕ) (h : n < cfg0.N),
    ((outsAt0 m c n h).1 : S8x1024.Idx → EReal) (ix2 a k) = if a.val < 1 then ∑ i ∈ Finset.range (512 * (n + 1)), rowF (SQ m c k) i else 0 := by
  intro n
  induction n with
  | zero =>
    intro h
    refine (accA m c ⟨0, h⟩ rfl a k).trans ((part_eq m c ⟨0, h⟩ a k).trans (if_congr Iff.rfl ?_ rfl))
    exact Finset.sum_congr rfl fun i _ => congrArg (rowF (SQ m c k)) (Nat.zero_add i)
  | succ n ih =>
    intro h
    have h16 : n + 1 < 16 := lt16 ⟨n + 1, h⟩
    refine (accB m c ⟨n + 1, h⟩ (by show ¬(n + 1) % 16 = 0; omega) a k).trans ?_
    rw [part_eq m c ⟨n + 1, h⟩ a k]
    refine (congrArg (fun x : EReal => x + _) (ih (Nat.lt_of_succ_lt h))).trans ?_
    by_cases ha : a.val < 1
    · rw [if_pos ha, if_pos ha, if_pos ha, show 512 * (n + 1 + 1) = 512 * (n + 1) + 512 by omega, Finset.sum_range_add]
    · rw [if_neg ha, if_neg ha, if_neg ha, add_zero]

/-! ## What the launch leaves -/

/-- The sums of squares in the first row. -/
def accArr (c : Dev nD) : S8x1024.Idx → EReal := fun y => if (y 0).val < 1 then ∑ r : Fin 8192, SQ m c (y 1) r else 0

theorem flush2 : ∀ t : Fin cfg0.N, (cfg0.win 2).flush t = true → t.val = 15 :=
  (by decide +kernel : ∀ t : Fin grid0.N, win0_2.flush t = true → t.val = 15)

theorem arr_acc (c : Dev nD) : (dats m 0 c).arrAt 2 cfg0.N = accArr m c := by
  refine (dats m 0 c).arrAt_eq_of_covers 2 _ (by decide +kernel) fun t hf y => ?_
  blk_simp
  rw [after0_2]
  have h := idx0 t
  have e : ((win0_2.blk t).view.emb y : S8x1024.Idx) = ix2 (y 0) (y 1) := by
    blk_ext [h.2.2.1]
  refine (congrArg _ (eq_ix2 y)).trans ((acc_sum m c (y 0) (y 1) t.val t.isLt).trans (Eq.trans ?_ (congrArg (accArr m c) e).symm))
  refine if_congr Iff.rfl ?_ rfl
  rw [flush2 t hf]
  exact (Finset.sum_range _).trans (Finset.sum_congr rfl fun r _ => rowF_eq _ _ _)

theorem arr_dy (c : Dev nD) : (dats m 0 c).arrAt 3 cfg0.N = val_main_v14 (F := Ideal) (argY m c) (argT m c) := by
  refine (dats m 0 c).arrAt_eq_of_covers 3 _ (by decide +kernel) fun t hf y => ?_
  blk_simp
  rw [after0_3]
  have h := idx0 t
  have e : ((win0_3.blk t).view.emb y : S8192x1024.Idx) = ix2 (tileRow t (y 0)) (y 1) := by
    blk_ext [h.2.2.2]
  refine (congrArg _ (eq_ix2 y)).trans ((dyA m c t (y 0) (y 1)).trans (Eq.trans ?_ (congrArg (val_main_v14 (F := Ideal) (argY m c) (argT m c)) e).symm))
  exact (congrArg₂ dfc (inY m c t _ _) (inT m c t _ _)).trans (v14_at _ _ _ _).symm

/-- The loss: half the sum of the squares over the width. -/
theorem tail_loss (c : Dev nD) : Pipeline.afterTail₀ cfgs (dats m) 0 (V0 m) [hostOps1] c main_v3 = val_main_v8 (F := Ideal) (argY m c) (argT m c) := by
  have e := (Pipeline.withArrays_arr (cfgs 0).spec launch0.win.arr_inj c (V0 m c) (fun w => (dats m 0 c).arrAt w (cfgs 0).N) 2).trans (arr_acc m c)
  show StableHlo.after hostOps1 (Pipeline.withArrays (cfgs 0).spec c (V0 m c) fun w => (dats m 0 c).arrAt w (cfgs 0).N) (Proc.devRef .tc main_v3) = _
  generalize (Pipeline.withArrays (cfgs 0).spec c (V0 m c) fun w => (dats m 0 c).arrAt w (cfgs 0).N) = W at e ⊢
  unfold hostOps1
  after_results
  have e' : W (Proc.devRef .tc main_v0_0) = _ := e
  rw [e']
  funext i
  refine Eq.trans ?_ (v8_at _ _ i).symm
  pointwise [accArr]
  simp only [Finset.sum_const_zero, add_zero, Fin.sum_univ_one, Finset.univ_unique, Finset.sum_singleton]
  rw [Finset.sum_comm]

/-- The launch with the host's sum, and the reference, leave the same loss and the same cotangent. -/
theorem tie : Cert.algebraic_Kernel39Ideal_Reference39Ideal (hKernel39Ideal := Cert.Kernel39Ideal.Gen.facts)
    (hReference39Ideal := Cert.Reference39Ideal.Gen.facts) := by
  intro m g m' g' _ hagree
  refine ⟨fun c => val_main_v8 (F := Ideal) (argY m c) (argT m c), fun c => val_main_v14 (F := Ideal) (argY m c) (argT m c), ?_, ?_⟩
  · run_from Cert.Kernel39Ideal.Gen.run_main (F := Ideal) m g
    · exact tail_loss m c
    · exact arr_dy m c
  · refine (θ_run _ _ _).mono (fun r h c => ?_) (Cert.Reference39Ideal.Value.run (F := Ideal) m' g')
    obtain ⟨h0, h1, hk⟩ := h c
    obtain ⟨a0, a1⟩ := hagree c
    refine ⟨h0.trans ?_, h1.trans ?_, hk⟩
    · rw [val_main_v8_eq, a0, a1]
    · rw [val_main_v14_eq, a0, a1]

end Cert.Loss39
-- ==== Proof.SegSum.lean ====
module

public import proofs.«01_k».proof.Defs
public import proofs.«01_k».proof.Proof.Rows
public import proofs.«01_k».proof.Proof.ProdSum

@[expose] public section

noncomputable section

open Idealize.ShloMosaic Idealize.ShloMosaic.TcCoe

/-! A row of the gated branch's gradient, and the sums over the rows of a segment and over all 8192 rows, walked in blocks of 512. -/

namespace Cert.Norm38

/-- The cotangent of the normalised row, before the gain: `e` the gate, `d` the cotangent's row. -/
def rowE (e d : Fin 1024 → EReal) (k : Fin 1024) : EReal := e k * d k
/-- A row of the branch's gradient: `m` the branch's row, `g` the gain, -/
def rowDm (m e g d : Fin 1024 → EReal) (k : Fin 1024) : EReal :=
  rowE e d k * g k * rs m + m k * rowU m (fun k => rowE e d k * g k) + rowU m (fun k => rowE e d k * g k) * m k
/-- its share of the gate's gradient, -/
def rowDe (m g d : Fin 1024 → EReal) (k : Fin 1024) : EReal := d k * (m k * rs m * g k)
/-- and of the gain's. -/
def rowDgm (m e d : Fin 1024 → EReal) (k : Fin 1024) : EReal := m k * rs m * rowE e d k

/-- Row `n` of segment `b`. -/
abbrev segRow (b : Fin 4) (n : Fin 2048) : Fin 8192 := ⟨b.val * 2048 + n.val, by omega⟩

theorem segRow_eq (r : Fin 8192) : segRow ⟨r.val / 2048, by omega⟩ ⟨r.val % 2048, by omega⟩ = r :=
  Fin.ext (by show r.val / 2048 * 2048 + r.val % 2048 = r.val; omega)
theorem segRow_seg (b : Fin 4) (n : Fin 2048) : (⟨(b.val * 2048 + n.val) / 2048, by omega⟩ : Fin 4) = b :=
  Fin.ext (by show (b.val * 2048 + n.val) / 2048 = b.val; omega)

theorem blocks_seg (X : Fin 8192 → EReal) (b : Fin 4) :
    ∑ s : Fin 4, ∑ a : Fin 512, X ⟨512 * (4 * b.val + s.val) + a.val, by omega⟩ = ∑ n : Fin 2048, X (segRow b n) :=
  Cert.Prod.sum_blocks (by norm_num) _ _ fun s a => congrArg X (Fin.ext (by
    show 512 * (4 * b.val + s.val) + a.val = b.val * 2048 + (s.val * 512 + a.val)
    omega))

theorem blocks_all (X : Fin 8192 → EReal) :
    ∑ s : Fin 16, ∑ a : Fin 512, X ⟨512 * s.val + a.val, by omega⟩ = ∑ b : Fin 4, ∑ n : Fin 2048, X (segRow b n) :=
  (Cert.Prod.sum_blocks (K := 8192) (by norm_num) _ X fun s a => congrArg X (Fin.ext (by
    show 512 * s.val + a.val = s.val * 512 + a.val
    omega))).trans (Cert.Prod.sum_blocks (K := 8192) (by norm_num) _ X fun b n => rfl).symm

end Cert.Norm38

end
-- ==== Proof.NormB40.lean ====
module

public import proofs.«01_k».proof.Defs
public import proofs.«01_k».proof.Proof.SegSum
public import proofs.«01_k».proof.Proof.Gen.Kernel40Ideal.Value
public import proofs.«01_k».proof.Proof.Gen.Reference40Ideal.Run
public import proofs.«01_k».proof.Proof.Gen.Reference40Ideal.Read
public import Idealize.ShloMosaic.Lib.Tactic
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

/-! Program 40: the gradients of the modulated norm of the last layer, 8192 rows in blocks of 512. -/

namespace Cert.NormB40

open Cert.Norm38
open Cert.Kernel40Ideal Cert.Kernel40Ideal.Gen
open Cert.Reference40Ideal.Read

theorem hz3 : (![0, 0, 0] : Fin 3 → Nat) = fun _ => 0 := funext fun a => by fin_cases a <;> rfl

/-! ## What one point writes -/

section Point

variable (c : Dev nD) (i : grid0.Coords) (arg1 : Memref sig .tc .vmem S512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1024 .f32) (harg10 : arg10.IsWhole)
  (x0 : Vec Ideal S512x1024 .f32) (x1 : Vec Ideal S1x1x1024 .f32) (x2 : Vec Ideal S1x1x1024 .f32) (x3 : Vec Ideal S1x1024 .f32) (x4 : Vec Ideal S512x1024 .f32) (x5 : Vec Ideal S512x1024 .f32)

theorem out_A_6 (hc0 : cond0_0 i) (hc1 : cond0_1 i) (hc2 : cond0_2 i)  (a : Fin 512) (k : Fin 1024) :
    (out0_A_6 c i arg1 harg1 arg2 harg2 arg3 harg3 arg4 harg4 arg5 harg5 arg6 harg6 arg7 harg7 arg8 harg8 arg9 harg9 arg10 harg10 hc0 hc1 hc2 x0 x1 x2 x3 x4 x5  : S512x1024.Idx → EReal) (ix2 a k) =
      rowDh (fun k => x0 (ix2 a k)) (fun k => x2 (ix3 0 0 k)) (fun k => x3 (ix2 0 k)) (fun k => x4 (ix2 a k)) (x5 (ix2 a k)) k := by
  unfold out0_A_6
  rw [View.read_writes_eq_canon _ _ _ (fun y => cover0_A_6 (y := y) ..)]
  unfold kernelRun0_A
  dsimp only
  sl_unfold_words
  rw [View.canon_unit_zero Cert.Prod.hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) Cert.Prod.hz, View.ld_unit_zero (S := S1x1024) Cert.Prod.hz, View.ld_unit_zero (S := S1x1x1024) hz3]
  unfold_payloads
  pointwise [rowDh, rowU, rowQ, rs, ms]
  exact (add_comm _ _).trans ((add_assoc _ _ _).symm.trans (congrArg (· + _) (add_assoc _ _ _).symm))
theorem out_B_6 (hc0 : ¬cond0_0 i) (hc1 : ¬cond0_1 i) (hc2 : ¬cond0_2 i) (y7 : Vec Ideal S1x1x1024 .f32) (y8 : Vec Ideal S1x1x1024 .f32) (y9 : Vec Ideal S1x1024 .f32) (a : Fin 512) (k : Fin 1024) :
    (out0_B_6 c i arg1 harg1 arg2 harg2 arg3 harg3 arg4 harg4 arg5 harg5 arg6 harg6 arg7 harg7 arg8 harg8 arg9 harg9 arg10 harg10 hc0 hc1 hc2 x0 x1 x2 x3 x4 x5 y7 y8 y9 : S512x1024.Idx → EReal) (ix2 a k) =
      rowDh (fun k => x0 (ix2 a k)) (fun k => x2 (ix3 0 0 k)) (fun k => x3 (ix2 0 k)) (fun k => x4 (ix2 a k)) (x5 (ix2 a k)) k := by
  unfold out0_B_6
  rw [View.read_writes_eq_canon _ _ _ (fun y => cover0_B_6 (y := y) ..)]
  unfold kernelRun0_B
  dsimp only
  sl_unfold_words
  rw [View.canon_unit_zero Cert.Prod.hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) Cert.Prod.hz, View.ld_unit_zero (S := S1x1024) Cert.Prod.hz, View.ld_unit_zero (S := S1x1x1024) hz3]
  unfold_payloads
  pointwise [rowDh, rowU, rowQ, rs, ms]
  exact (add_comm _ _).trans ((add_assoc _ _ _).symm.trans (congrArg (· + _) (add_assoc _ _ _).symm))
theorem out_C_6 (hc0 : cond0_0 i) (hc1 : cond0_1 i) (hc2 : ¬cond0_2 i) (y9 : Vec Ideal S1x1024 .f32) (a : Fin 512) (k : Fin 1024) :
    (out0_C_6 c i arg1 harg1 arg2 harg2 arg3 harg3 arg4 harg4 arg5 harg5 arg6 harg6 arg7 harg7 arg8 harg8 arg9 harg9 arg10 harg10 hc0 hc1 hc2 x0 x1 x2 x3 x4 x5 y9 : S512x1024.Idx → EReal) (ix2 a k) =
      rowDh (fun k => x0 (ix2 a k)) (fun k => x2 (ix3 0 0 k)) (fun k => x3 (ix2 0 k)) (fun k => x4 (ix2 a k)) (x5 (ix2 a k)) k := by
  unfold out0_C_6
  rw [View.read_writes_eq_canon _ _ _ (fun y => cover0_C_6 (y := y) ..)]
  unfold kernelRun0_C
  dsimp only
  sl_unfold_words
  rw [View.canon_unit_zero Cert.Prod.hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) Cert.Prod.hz, View.ld_unit_zero (S := S1x1024) Cert.Prod.hz, View.ld_unit_zero (S := S1x1x1024) hz3]
  unfold_payloads
  pointwise [rowDh, rowU, rowQ, rs, ms]
  exact (add_comm _ _).trans ((add_assoc _ _ _).symm.trans (congrArg (· + _) (add_assoc _ _ _).symm))
theorem out_A_7 (hc0 : cond0_0 i) (hc1 : cond0_1 i) (hc2 : cond0_2 i)  (k : Fin 1024) :
    (out0_A_7 c i arg1 harg1 arg2 harg2 arg3 harg3 arg4 harg4 arg5 harg5 arg6 harg6 arg7 harg7 arg8 harg8 arg9 harg9 arg10 harg10 hc0 hc1 hc2 x0 x1 x2 x3 x4 x5  : S1x1x1024.Idx → EReal) (ix3 0 0 k) =
      0 + ∑ a : Fin 512, x4 (ix2 a k) := by
  unfold out0_A_7
  rw [View.read_writes_eq_canon _ _ _ (fun y => cover0_A_7 (y := y) ..)]
  unfold kernelRun0_A
  dsimp only
  sl_unfold_words
  rw [View.canon_cons_unit_zero (S := S1x1x1024) hz3, View.readCov_unit_zero (S := S1x1x1024) _ hz3]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) Cert.Prod.hz, View.ld_unit_zero (S := S1x1024) Cert.Prod.hz, View.ld_unit_zero (S := S1x1x1024) hz3]
  unfold_payloads
  pointwise []
theorem out_B_7 (hc0 : ¬cond0_0 i) (hc1 : ¬cond0_1 i) (hc2 : ¬cond0_2 i) (y7 : Vec Ideal S1x1x1024 .f32) (y8 : Vec Ideal S1x1x1024 .f32) (y9 : Vec Ideal S1x1024 .f32) (k : Fin 1024) :
    (out0_B_7 c i arg1 harg1 arg2 harg2 arg3 harg3 arg4 harg4 arg5 harg5 arg6 harg6 arg7 harg7 arg8 harg8 arg9 harg9 arg10 harg10 hc0 hc1 hc2 x0 x1 x2 x3 x4 x5 y7 y8 y9 : S1x1x1024.Idx → EReal) (ix3 0 0 k) =
      y7 (ix3 0 0 k) + ∑ a : Fin 512, x4 (ix2 a k) := by
  unfold out0_B_7
  rw [View.read_writes_eq_canon _ _ _ (fun y => cover0_B_7 (y := y) ..)]
  unfold kernelRun0_B
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) Cert.Prod.hz, View.ld_unit_zero (S := S1x1024) Cert.Prod.hz, View.ld_unit_zero (S := S1x1x1024) hz3]
  unfold_payloads
  pointwise []
theorem out_C_7 (hc0 : cond0_0 i) (hc1 : cond0_1 i) (hc2 : ¬cond0_2 i) (y9 : Vec Ideal S1x1024 .f32) (k : Fin 1024) :
    (out0_C_7 c i arg1 harg1 arg2 harg2 arg3 harg3 arg4 harg4 arg5 harg5 arg6 harg6 arg7 harg7 arg8 harg8 arg9 harg9 arg10 harg10 hc0 hc1 hc2 x0 x1 x2 x3 x4 x5 y9 : S1x1x1024.Idx → EReal) (ix3 0 0 k) =
      0 + ∑ a : Fin 512, x4 (ix2 a k) := by
  unfold out0_C_7
  rw [View.read_writes_eq_canon _ _ _ (fun y => cover0_C_7 (y := y) ..)]
  unfold kernelRun0_C
  dsimp only
  sl_unfold_words
  rw [View.canon_cons_unit_zero (S := S1x1x1024) hz3, View.readCov_unit_zero (S := S1x1x1024) _ hz3]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) Cert.Prod.hz, View.ld_unit_zero (S := S1x1024) Cert.Prod.hz, View.ld_unit_zero (S := S1x1x1024) hz3]
  unfold_payloads
  pointwise []
theorem out_A_8 (hc0 : cond0_0 i) (hc1 : cond0_1 i) (hc2 : cond0_2 i)  (k : Fin 1024) :
    (out0_A_8 c i arg1 harg1 arg2 harg2 arg3 harg3 arg4 harg4 arg5 harg5 arg6 harg6 arg7 harg7 arg8 harg8 arg9 harg9 arg10 harg10 hc0 hc1 hc2 x0 x1 x2 x3 x4 x5  : S1x1x1024.Idx → EReal) (ix3 0 0 k) =
      0 + ∑ a : Fin 512, rowSc (fun k => x0 (ix2 a k)) (fun k => x3 (ix2 0 k)) (fun k => x4 (ix2 a k)) k := by
  unfold out0_A_8
  rw [View.read_writes_eq_canon _ _ _ (fun y => cover0_A_8 (y := y) ..)]
  unfold kernelRun0_A
  dsimp only
  sl_unfold_words
  rw [View.canon_cons_unit_zero (S := S1x1x1024) hz3, View.readCov_unit_zero (S := S1x1x1024) _ hz3]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) Cert.Prod.hz, View.ld_unit_zero (S := S1x1024) Cert.Prod.hz, View.ld_unit_zero (S := S1x1x1024) hz3]
  unfold_payloads
  pointwise [rowSc, rs, ms]
theorem out_B_8 (hc0 : ¬cond0_0 i) (hc1 : ¬cond0_1 i) (hc2 : ¬cond0_2 i) (y7 : Vec Ideal S1x1x1024 .f32) (y8 : Vec Ideal S1x1x1024 .f32) (y9 : Vec Ideal S1x1024 .f32) (k : Fin 1024) :
    (out0_B_8 c i arg1 harg1 arg2 harg2 arg3 harg3 arg4 harg4 arg5 harg5 arg6 harg6 arg7 harg7 arg8 harg8 arg9 harg9 arg10 harg10 hc0 hc1 hc2 x0 x1 x2 x3 x4 x5 y7 y8 y9 : S1x1x1024.Idx → EReal) (ix3 0 0 k) =
      y8 (ix3 0 0 k) + ∑ a : Fin 512, rowSc (fun k => x0 (ix2 a k)) (fun k => x3 (ix2 0 k)) (fun k => x4 (ix2 a k)) k := by
  unfold out0_B_8
  rw [View.read_writes_eq_canon _ _ _ (fun y => cover0_B_8 (y := y) ..)]
  unfold kernelRun0_B
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) Cert.Prod.hz, View.ld_unit_zero (S := S1x1024) Cert.Prod.hz, View.ld_unit_zero (S := S1x1x1024) hz3]
  unfold_payloads
  pointwise [rowSc, rs, ms]
theorem out_C_8 (hc0 : cond0_0 i) (hc1 : cond0_1 i) (hc2 : ¬cond0_2 i) (y9 : Vec Ideal S1x1024 .f32) (k : Fin 1024) :
    (out0_C_8 c i arg1 harg1 arg2 harg2 arg3 harg3 arg4 harg4 arg5 harg5 arg6 harg6 arg7 harg7 arg8 harg8 arg9 harg9 arg10 harg10 hc0 hc1 hc2 x0 x1 x2 x3 x4 x5 y9 : S1x1x1024.Idx → EReal) (ix3 0 0 k) =
      0 + ∑ a : Fin 512, rowSc (fun k => x0 (ix2 a k)) (fun k => x3 (ix2 0 k)) (fun k => x4 (ix2 a k)) k := by
  unfold out0_C_8
  rw [View.read_writes_eq_canon _ _ _ (fun y => cover0_C_8 (y := y) ..)]
  unfold kernelRun0_C
  dsimp only
  sl_unfold_words
  rw [View.canon_cons_unit_zero (S := S1x1x1024) hz3, View.readCov_unit_zero (S := S1x1x1024) _ hz3]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) Cert.Prod.hz, View.ld_unit_zero (S := S1x1024) Cert.Prod.hz, View.ld_unit_zero (S := S1x1x1024) hz3]
  unfold_payloads
  pointwise [rowSc, rs, ms]
theorem out_A_9 (hc0 : cond0_0 i) (hc1 : cond0_1 i) (hc2 : cond0_2 i)  (k : Fin 1024) :
    (out0_A_9 c i arg1 harg1 arg2 harg2 arg3 harg3 arg4 harg4 arg5 harg5 arg6 harg6 arg7 harg7 arg8 harg8 arg9 harg9 arg10 harg10 hc0 hc1 hc2 x0 x1 x2 x3 x4 x5  : S1x1024.Idx → EReal) (ix2 0 k) =
      0 + ∑ a : Fin 512, rowDg (fun k => x0 (ix2 a k)) (fun k => x2 (ix3 0 0 k)) (fun k => x4 (ix2 a k)) k := by
  unfold out0_A_9
  rw [View.read_writes_eq_canon _ _ _ (fun y => cover0_A_9 (y := y) ..)]
  unfold kernelRun0_A
  dsimp only
  sl_unfold_words
  rw [View.canon_cons_unit_zero (S := S1x1024) Cert.Prod.hz, View.readCov_unit_zero (S := S1x1024) _ Cert.Prod.hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) Cert.Prod.hz, View.ld_unit_zero (S := S1x1024) Cert.Prod.hz, View.ld_unit_zero (S := S1x1x1024) hz3]
  unfold_payloads
  pointwise [rowDg, rs, ms]
theorem out_B_9 (hc0 : ¬cond0_0 i) (hc1 : ¬cond0_1 i) (hc2 : ¬cond0_2 i) (y7 : Vec Ideal S1x1x1024 .f32) (y8 : Vec Ideal S1x1x1024 .f32) (y9 : Vec Ideal S1x1024 .f32) (k : Fin 1024) :
    (out0_B_9 c i arg1 harg1 arg2 harg2 arg3 harg3 arg4 harg4 arg5 harg5 arg6 harg6 arg7 harg7 arg8 harg8 arg9 harg9 arg10 harg10 hc0 hc1 hc2 x0 x1 x2 x3 x4 x5 y7 y8 y9 : S1x1024.Idx → EReal) (ix2 0 k) =
      y9 (ix2 0 k) + ∑ a : Fin 512, rowDg (fun k => x0 (ix2 a k)) (fun k => x2 (ix3 0 0 k)) (fun k => x4 (ix2 a k)) k := by
  unfold out0_B_9
  rw [View.read_writes_eq_canon _ _ _ (fun y => cover0_B_9 (y := y) ..)]
  unfold kernelRun0_B
  dsimp only
  sl_unfold_words
  rw [View.canon_unit_zero Cert.Prod.hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) Cert.Prod.hz, View.ld_unit_zero (S := S1x1024) Cert.Prod.hz, View.ld_unit_zero (S := S1x1x1024) hz3]
  unfold_payloads
  pointwise [rowDg, rs, ms]
theorem out_C_9 (hc0 : cond0_0 i) (hc1 : cond0_1 i) (hc2 : ¬cond0_2 i) (y9 : Vec Ideal S1x1024 .f32) (k : Fin 1024) :
    (out0_C_9 c i arg1 harg1 arg2 harg2 arg3 harg3 arg4 harg4 arg5 harg5 arg6 harg6 arg7 harg7 arg8 harg8 arg9 harg9 arg10 harg10 hc0 hc1 hc2 x0 x1 x2 x3 x4 x5 y9 : S1x1024.Idx → EReal) (ix2 0 k) =
      y9 (ix2 0 k) + ∑ a : Fin 512, rowDg (fun k => x0 (ix2 a k)) (fun k => x2 (ix3 0 0 k)) (fun k => x4 (ix2 a k)) k := by
  unfold out0_C_9
  rw [View.read_writes_eq_canon _ _ _ (fun y => cover0_C_9 (y := y) ..)]
  unfold kernelRun0_C
  dsimp only
  sl_unfold_words
  rw [View.canon_unit_zero Cert.Prod.hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) Cert.Prod.hz, View.ld_unit_zero (S := S1x1024) Cert.Prod.hz, View.ld_unit_zero (S := S1x1x1024) hz3]
  unfold_payloads
  pointwise [rowDg, rs, ms]

end Point

variable (m : (ℓ : Loc nD τ sig) → Buf (Elt Ideal) ℓ)

abbrev arg0 (c : Dev nD) : S8192x1024.Idx → EReal := m ((c : Thread nD τ).loc main_arg0)
abbrev arg1 (c : Dev nD) : S4x1x1024.Idx → EReal := m ((c : Thread nD τ).loc main_arg1)
abbrev arg2 (c : Dev nD) : S4x1x1024.Idx → EReal := m ((c : Thread nD τ).loc main_arg2)
abbrev arg3 (c : Dev nD) : S1x1024.Idx → EReal := m ((c : Thread nD τ).loc main_arg3)
abbrev arg4 (c : Dev nD) : S8192x1024.Idx → EReal := m ((c : Thread nD τ).loc main_arg4)
abbrev arg5 (c : Dev nD) : S8192x1024.Idx → EReal := m ((c : Thread nD τ).loc main_arg5)

theorem idx : ∀ t : Fin grid0.N, win0_0.index t = ![t.val, 0]
    ∧ win0_1.index t = ![t.val / 4, 0, 0]
    ∧ win0_2.index t = ![t.val / 4, 0, 0]
    ∧ win0_3.index t = ![0, 0]
    ∧ win0_4.index t = ![t.val, 0]
    ∧ win0_5.index t = ![t.val, 0]
    ∧ win0_6.index t = ![t.val, 0]
    ∧ win0_7.index t = ![t.val / 4, 0, 0]
    ∧ win0_8.index t = ![t.val / 4, 0, 0]
    ∧ win0_9.index t = ![0, 0] := by decide +kernel
theorem lt_N (t : Fin cfg0.N) : t.val < 16 := Nat.lt_of_lt_of_eq t.isLt (by decide +kernel)
/-- The row and the segment of a block's row. -/
abbrev tileRow (t : Fin cfg0.N) (a : Fin 512) : Fin 8192 := ⟨512 * t.val + a.val, by have := lt_N t; omega⟩
abbrev seg (t : Fin cfg0.N) : Fin 4 := ⟨t.val / 4, by have := lt_N t; omega⟩
theorem seg_row (t : Fin cfg0.N) (a : Fin 512) : (⟨(512 * t.val + a.val) / 2048, by have := lt_N t; omega⟩ : Fin 4) = seg t :=
  Fin.ext (by show (512 * t.val + a.val) / 2048 = t.val / 4; omega)

theorem in0 (c : Dev nD) (t : Fin cfg0.N) (a : Fin 512) (k : Fin 1024) : (iblk m c 0 t : S512x1024.Idx → EReal) (ix2 a k) = arg0 m c (ix2 (tileRow t a) k) := by
  have h := idx t
  blk_ext [iblk, V, h.1]
theorem in2 (c : Dev nD) (t : Fin cfg0.N) (k : Fin 1024) : (iblk m c 2 t : S1x1x1024.Idx → EReal) (ix3 0 0 k) = arg2 m c (ix3 (seg t) 0 k) := by
  have h := idx t
  blk_ext [iblk, V, h.2.2.1]
theorem in3 (c : Dev nD) (t : Fin cfg0.N) (k : Fin 1024) : (iblk m c 3 t : S1x1024.Idx → EReal) (ix2 0 k) = arg3 m c (ix2 0 k) := by
  have h := idx t
  blk_ext [iblk, V, h.2.2.2.1]
theorem in4 (c : Dev nD) (t : Fin cfg0.N) (a : Fin 512) (k : Fin 1024) : (iblk m c 4 t : S512x1024.Idx → EReal) (ix2 a k) = arg4 m c (ix2 (tileRow t a) k) := by
  have h := idx t
  blk_ext [iblk, V, h.2.2.2.2.1]
theorem in5 (c : Dev nD) (t : Fin cfg0.N) (a : Fin 512) (k : Fin 1024) : (iblk m c 5 t : S512x1024.Idx → EReal) (ix2 a k) = arg5 m c (ix2 (tileRow t a) k) := by
  have h := idx t
  blk_ext [iblk, V, h.2.2.2.2.2.1]

/-! ## The reference -/

section Ref

variable (x0 : S8192x1024.Idx → EReal) (x1 : S4x1x1024.Idx → EReal) (x2 : S4x1x1024.Idx → EReal) (x3 : S1x1024.Idx → EReal) (x4 : S8192x1024.Idx → EReal) (x5 : S8192x1024.Idx → EReal)

theorem v59_at (b : Fin 4) (n : Fin 2048) (k : Fin 1024) : val_main_v59 (F := Ideal) x0 x2 x3 x4 x5 (ix3 b n k) =
    rowDh (fun k => x0 (ix2 (segRow b n) k)) (fun k => x2 (ix3 b 0 k)) (fun k => x3 (ix2 0 k)) (fun k => x4 (ix2 (segRow b n) k)) (x5 (ix2 (segRow b n) k)) k := by
  pointwise [val_main_v59, val_main_v57, val_main_v50, val_main_v29, val_main_v49, val_main_v43, val_main_v36, val_main_v28, val_main_v35, val_main_v23, val_main_v22, val_main_cst_3, val_main_v21, val_main_v2, val_main_v42, val_main_v17, val_main_v3, val_main_v48, val_main_v11, val_main_v10, val_main_v8, val_main_v6, val_main_v5, val_main_v4, val_main_v0, val_main_cst, val_main_v7, val_main_cst_0, val_main_v9, val_main_cst_1, val_main_v56, val_main_v55, val_main_v54, val_main_v53, val_main_v51, val_main_v47, val_main_v46, val_main_v45, val_main_cst_10, val_main_v14, val_main_v13, val_main_cst_2, val_main_v12, val_main_v52, val_main_cst_11, val_main_cst_12, val_main_v58, rowDh, rowU, rowQ, rs, ms]
theorem v60_at (r : Fin 8192) (k : Fin 1024) : val_main_v60 (F := Ideal) x0 x2 x3 x4 x5 (ix2 r k) =
    rowDh (fun k => x0 (ix2 r k)) (fun k => x2 (ix3 ⟨r.val / 2048, by omega⟩ 0 k)) (fun k => x3 (ix2 0 k)) (fun k => x4 (ix2 r k)) (x5 (ix2 r k)) k := by
  have h : val_main_v60 (F := Ideal) x0 x2 x3 x4 x5 (ix2 r k) = val_main_v59 (F := Ideal) x0 x2 x3 x4 x5 (ix3 ⟨r.val / 2048, by omega⟩ ⟨r.val % 2048, by omega⟩ k) := by
    pointwise [val_main_v60]
  rw [h, v59_at, segRow_eq]
theorem v28_at (b : Fin 4) (n : Fin 2048) (k : Fin 1024) : val_main_v28 (F := Ideal) x4 (ix3 b n k) =
    x4 (ix2 (segRow b n) k) := by
  pointwise [val_main_v28]
theorem v61_at (b : Fin 4) (k : Fin 1024) : val_main_v61 (F := Ideal) x4 (ix3 b 0 k) =
    ∑ n : Fin 2048, x4 (ix2 (segRow b n) k) := by
  pointwise [val_main_v61, val_main_v38, val_main_v31, val_main_v30, val_main_cst_4, val_main_cst_7, v28_at]
  simp only [Fin.sum_univ_one]
theorem v32_at (b : Fin 4) (n : Fin 2048) (k : Fin 1024) : val_main_v32 (F := Ideal) x0 x3 x4 (ix3 b n k) =
    rowSc (fun k => x0 (ix2 (segRow b n) k)) (fun k => x3 (ix2 0 k)) (fun k => x4 (ix2 (segRow b n) k)) k := by
  pointwise [val_main_v32, val_main_v19, val_main_v16, val_main_v0, val_main_v15, val_main_v11, val_main_v10, val_main_v8, val_main_v6, val_main_v5, val_main_v4, val_main_cst, val_main_v7, val_main_cst_0, val_main_v9, val_main_cst_1, val_main_v18, val_main_v17, val_main_v3, val_main_v28, rowSc, rs, ms]
theorem v62_at (b : Fin 4) (k : Fin 1024) : val_main_v62 (F := Ideal) x0 x3 x4 (ix3 b 0 k) =
    ∑ n : Fin 2048, rowSc (fun k => x0 (ix2 (segRow b n) k)) (fun k => x3 (ix2 0 k)) (fun k => x4 (ix2 (segRow b n) k)) k := by
  pointwise [val_main_v62, val_main_v37, val_main_v34, val_main_v33, val_main_cst_5, val_main_cst_6, v32_at]
  simp only [Fin.sum_univ_one]
theorem v39_at (b : Fin 4) (n : Fin 2048) (k : Fin 1024) : val_main_v39 (F := Ideal) x0 x2 x4 (ix3 b n k) =
    rowDg (fun k => x0 (ix2 (segRow b n) k)) (fun k => x2 (ix3 b 0 k)) (fun k => x4 (ix2 (segRow b n) k)) k := by
  pointwise [val_main_v39, val_main_v16, val_main_v0, val_main_v15, val_main_v11, val_main_v10, val_main_v8, val_main_v6, val_main_v5, val_main_v4, val_main_cst, val_main_v7, val_main_cst_0, val_main_v9, val_main_cst_1, val_main_v36, val_main_v28, val_main_v35, val_main_v23, val_main_v22, val_main_cst_3, val_main_v21, val_main_v2, rowDg, rs, ms]
theorem v63_at (k : Fin 1024) : val_main_v63 (F := Ideal) x0 x2 x4 (ix2 0 k) =
    ∑ b : Fin 4, ∑ n : Fin 2048, rowDg (fun k => x0 (ix2 (segRow b n) k)) (fun k => x2 (ix3 b 0 k)) (fun k => x4 (ix2 (segRow b n) k)) k := by
  pointwise [val_main_v63, val_main_v44, val_main_v41, val_main_v40, val_main_cst_8, val_main_cst_9, v39_at, sum01]
  simp only [Fin.sum_univ_one]

end Ref

/-! ## What the launch leaves -/

theorem rows_tile (c : Dev nD) (t : Fin cfg0.N) (a : Fin 512) (k : Fin 1024) :
    ((outsAt0 m c t.val t.isLt).1 : S512x1024.Idx → EReal) (ix2 a k) = val_main_v60 (F := Ideal) (arg0 m c) (arg2 m c) (arg3 m c) (arg4 m c) (arg5 m c) (ix2 (tileRow t a) k) := by
  have ht := lt_N t
  refine Eq.trans ?_ (v60_at _ _ _ _ _ _ _).symm
  by_cases h0 : t.val % 4 = 0
  · by_cases h1 : t.val % 16 = 0
    · rw [outsAt0_A m c t h0 h0 h1]
      dsimp only
      rw [out_A_6]
      simp only [in0, in2, in3, in4, in5, seg_row]
    · rw [outsAt0_C m c t h0 h0 h1]
      dsimp only
      rw [out_C_6]
      simp only [in0, in2, in3, in4, in5, seg_row]
  · have h1 : ¬ t.val % 16 = 0 := by omega
    rw [outsAt0_B m c t h0 h0 h1]
    dsimp only
    rw [out_B_6]
    simp only [in0, in2, in3, in4, in5, seg_row]

theorem arr_6 (c : Dev nD) : (dats m 0 c).arrAt 6 cfg0.N = val_main_v60 (F := Ideal) (arg0 m c) (arg2 m c) (arg3 m c) (arg4 m c) (arg5 m c) := by
  refine (dats m 0 c).arrAt_eq_of_covers 6 _ (by decide +kernel) fun t hf y => ?_
  blk_simp
  rw [after0_6]
  have h := idx t
  have e : ((win0_6.blk t).view.emb y : S8192x1024.Idx) = ix2 (tileRow t (y 0)) (y 1) := by
    blk_ext [h.2.2.2.2.2.2.1]
  exact (congrArg _ (eq_ix2 y)).trans ((rows_tile m c t (y 0) (y 1)).trans (congrArg (val_main_v60 (F := Ideal) (arg0 m c) (arg2 m c) (arg3 m c) (arg4 m c) (arg5 m c)) e).symm)

/-- A row's share of result 1. -/
def T7 (c : Dev nD) (k : Fin 1024) (r : Fin 8192) : EReal := arg4 m c (ix2 r k)

theorem first_7 (c : Dev nD) (t : Fin cfg0.N) (h0 : t.val % 4 = 0) (k : Fin 1024) :
    ((outsAt0 m c t.val t.isLt).2.1 : S1x1x1024.Idx → EReal) (ix3 0 0 k) = 0 + ∑ a : Fin 512, T7 m c k (tileRow t a) := by
  by_cases h1 : t.val % 16 = 0
  · rw [outsAt0_A m c t h0 h0 h1]
    dsimp only
    rw [out_A_7]
    simp only [T7, in0, in2, in3, in4, in5, seg_row]
  · rw [outsAt0_C m c t h0 h0 h1]
    dsimp only
    rw [out_C_7]
    simp only [T7, in0, in2, in3, in4, in5, seg_row]
theorem next_7 (c : Dev nD) (t : Fin cfg0.N) (h0 : ¬ t.val % 4 = 0) (k : Fin 1024) :
    ((outsAt0 m c t.val t.isLt).2.1 : S1x1x1024.Idx → EReal) (ix3 0 0 k) =
      ((outsAt0 m c (t.val - 1) (Nat.lt_of_le_of_lt (Nat.sub_le _ _) t.isLt)).2.1 : S1x1x1024.Idx → EReal) (ix3 0 0 k) + ∑ a : Fin 512, T7 m c k (tileRow t a) := by
  have h1 : ¬ t.val % 16 = 0 := by omega
  rw [outsAt0_B m c t h0 h0 h1]
  dsimp only
  rw [out_B_7]
  simp only [T7, in0, in2, in3, in4, in5, seg_row]
theorem sum_7 (c : Dev nD) (t : Fin cfg0.N) (ht : t.val % 4 = 3) (k : Fin 1024) :
    ((outsAt0 m c t.val t.isLt).2.1 : S1x1x1024.Idx → EReal) (ix3 0 0 k) = ∑ n : Fin 2048, T7 m c k (segRow (seg t) n) := by
  have hN := lt_N t
  have ey : ∀ j : S1x1x1024.Idx, j = ix3 0 0 (j 2) := fun j => by blk_ext []
  rw [Pipeline.eq_sum_fin_of_reset_step_apply_of_flush (fun n h => ((outsAt0 m c n h).2.1 : S1x1x1024.Idx → EReal)) 4 (fun _ => 0)
    (fun s j => ∑ a : Fin 512, T7 m c (j 2) (tileRow s a))
    (fun t h j => (congrArg _ (ey j)).trans (first_7 m c t h (j 2)))
    (fun t h j => (congrArg _ (ey j)).trans ((next_7 m c t h (j 2)).trans (congrArg (fun z : EReal => z + _) (congrArg _ (ey j).symm)))) t ht (ix3 0 0 k), zero_add]
  exact blocks_seg (T7 m c k) (seg t)
theorem arr_7 (c : Dev nD) : (dats m 0 c).arrAt 7 cfg0.N = val_main_v61 (F := Ideal) (arg4 m c) := by
  refine (dats m 0 c).arrAt_eq_of_covers 7 _ (by decide +kernel) fun t hf y => ?_
  blk_simp
  rw [after0_7]
  have h := idx t
  have e : ((win0_7.blk t).view.emb y : S4x1x1024.Idx) = ix3 (seg t) 0 (y 2) := by
    blk_ext [h.2.2.2.2.2.2.2.1]
  have ey : y = ix3 0 0 (y 2) := by
    blk_ext []
  refine Eq.trans ?_ ((congrArg (val_main_v61 (F := Ideal) (arg4 m c)) e).trans (v61_at _ (seg t) (y 2))).symm
  refine (congrArg _ ey).trans ((sum_7 m c t ((flush0_7 t).mp hf) (y 2)).trans ?_)
  refine Finset.sum_congr rfl fun n _ => ?_
  simp only [T7, segRow_seg]

/-- A row's share of result 2. -/
def T8 (c : Dev nD) (k : Fin 1024) (r : Fin 8192) : EReal := rowSc (fun k => arg0 m c (ix2 r k)) (fun k => arg3 m c (ix2 0 k)) (fun k => arg4 m c (ix2 r k)) k

theorem first_8 (c : Dev nD) (t : Fin cfg0.N) (h0 : t.val % 4 = 0) (k : Fin 1024) :
    ((outsAt0 m c t.val t.isLt).2.2.1 : S1x1x1024.Idx → EReal) (ix3 0 0 k) = 0 + ∑ a : Fin 512, T8 m c k (tileRow t a) := by
  by_cases h1 : t.val % 16 = 0
  · rw [outsAt0_A m c t h0 h0 h1]
    dsimp only
    rw [out_A_8]
    simp only [T8, in0, in2, in3, in4, in5, seg_row]
  · rw [outsAt0_C m c t h0 h0 h1]
    dsimp only
    rw [out_C_8]
    simp only [T8, in0, in2, in3, in4, in5, seg_row]
theorem next_8 (c : Dev nD) (t : Fin cfg0.N) (h0 : ¬ t.val % 4 = 0) (k : Fin 1024) :
    ((outsAt0 m c t.val t.isLt).2.2.1 : S1x1x1024.Idx → EReal) (ix3 0 0 k) =
      ((outsAt0 m c (t.val - 1) (Nat.lt_of_le_of_lt (Nat.sub_le _ _) t.isLt)).2.2.1 : S1x1x1024.Idx → EReal) (ix3 0 0 k) + ∑ a : Fin 512, T8 m c k (tileRow t a) := by
  have h1 : ¬ t.val % 16 = 0 := by omega
  rw [outsAt0_B m c t h0 h0 h1]
  dsimp only
  rw [out_B_8]
  simp only [T8, in0, in2, in3, in4, in5, seg_row]
theorem sum_8 (c : Dev nD) (t : Fin cfg0.N) (ht : t.val % 4 = 3) (k : Fin 1024) :
    ((outsAt0 m c t.val t.isLt).2.2.1 : S1x1x1024.Idx → EReal) (ix3 0 0 k) = ∑ n : Fin 2048, T8 m c k (segRow (seg t) n) := by
  have hN := lt_N t
  have ey : ∀ j : S1x1x1024.Idx, j = ix3 0 0 (j 2) := fun j => by blk_ext []
  rw [Pipeline.eq_sum_fin_of_reset_step_apply_of_flush (fun n h => ((outsAt0 m c n h).2.2.1 : S1x1x1024.Idx → EReal)) 4 (fun _ => 0)
    (fun s j => ∑ a : Fin 512, T8 m c (j 2) (tileRow s a))
    (fun t h j => (congrArg _ (ey j)).trans (first_8 m c t h (j 2)))
    (fun t h j => (congrArg _ (ey j)).trans ((next_8 m c t h (j 2)).trans (congrArg (fun z : EReal => z + _) (congrArg _ (ey j).symm)))) t ht (ix3 0 0 k), zero_add]
  exact blocks_seg (T8 m c k) (seg t)
theorem arr_8 (c : Dev nD) : (dats m 0 c).arrAt 8 cfg0.N = val_main_v62 (F := Ideal) (arg0 m c) (arg3 m c) (arg4 m c) := by
  refine (dats m 0 c).arrAt_eq_of_covers 8 _ (by decide +kernel) fun t hf y => ?_
  blk_simp
  rw [after0_8]
  have h := idx t
  have e : ((win0_8.blk t).view.emb y : S4x1x1024.Idx) = ix3 (seg t) 0 (y 2) := by
    blk_ext [h.2.2.2.2.2.2.2.2.1]
  have ey : y = ix3 0 0 (y 2) := by
    blk_ext []
  refine Eq.trans ?_ ((congrArg (val_main_v62 (F := Ideal) (arg0 m c) (arg3 m c) (arg4 m c)) e).trans (v62_at _ _ _ (seg t) (y 2))).symm
  refine (congrArg _ ey).trans ((sum_8 m c t ((flush0_8 t).mp hf) (y 2)).trans ?_)
  refine Finset.sum_congr rfl fun n _ => ?_
  simp only [T8, segRow_seg]

/-- A row's share of result 3. -/
def T9 (c : Dev nD) (k : Fin 1024) (r : Fin 8192) : EReal := rowDg (fun k => arg0 m c (ix2 r k)) (fun k => arg2 m c (ix3 ⟨r.val / 2048, by omega⟩ 0 k)) (fun k => arg4 m c (ix2 r k)) k

theorem first_9 (c : Dev nD) (t : Fin cfg0.N) (h1 : t.val % 16 = 0) (k : Fin 1024) :
    ((outsAt0 m c t.val t.isLt).2.2.2 : S1x1024.Idx → EReal) (ix2 0 k) = 0 + ∑ a : Fin 512, T9 m c k (tileRow t a) := by
  have h0 : t.val % 4 = 0 := by omega
  rw [outsAt0_A m c t h0 h0 h1]
  dsimp only
  rw [out_A_9]
  simp only [T9, in0, in2, in3, in4, in5, seg_row]
theorem next_9 (c : Dev nD) (t : Fin cfg0.N) (h1 : ¬ t.val % 16 = 0) (k : Fin 1024) :
    ((outsAt0 m c t.val t.isLt).2.2.2 : S1x1024.Idx → EReal) (ix2 0 k) =
      ((outsAt0 m c (t.val - 1) (Nat.lt_of_le_of_lt (Nat.sub_le _ _) t.isLt)).2.2.2 : S1x1024.Idx → EReal) (ix2 0 k) + ∑ a : Fin 512, T9 m c k (tileRow t a) := by
  by_cases h0 : t.val % 4 = 0
  · rw [outsAt0_C m c t h0 h0 h1]
    dsimp only
    rw [out_C_9]
    simp only [T9, in0, in2, in3, in4, in5, seg_row]
  · rw [outsAt0_B m c t h0 h0 h1]
    dsimp only
    rw [out_B_9]
    simp only [T9, in0, in2, in3, in4, in5, seg_row]
theorem sum_9 (c : Dev nD) (t : Fin cfg0.N) (ht : t.val % 16 = 15) (k : Fin 1024) :
    ((outsAt0 m c t.val t.isLt).2.2.2 : S1x1024.Idx → EReal) (ix2 0 k) = ∑ b : Fin 4, ∑ n : Fin 2048, T9 m c k (segRow b n) := by
  have hN := lt_N t
  have ey : ∀ j : S1x1024.Idx, j = ix2 0 (j 1) := fun j => by blk_ext []
  rw [Pipeline.eq_sum_fin_of_reset_step_apply_of_flush (fun n h => ((outsAt0 m c n h).2.2.2 : S1x1024.Idx → EReal)) 16 (fun _ => 0)
    (fun s j => ∑ a : Fin 512, T9 m c (j 1) (tileRow s a))
    (fun t h j => (congrArg _ (ey j)).trans (first_9 m c t h (j 1)))
    (fun t h j => (congrArg _ (ey j)).trans ((next_9 m c t h (j 1)).trans (congrArg (fun z : EReal => z + _) (congrArg _ (ey j).symm)))) t ht (ix2 0 k), zero_add]
  refine Eq.trans (Finset.sum_congr rfl fun s _ => Finset.sum_congr rfl fun a _ => ?_) (blocks_all (T9 m c k))
  exact congrArg (T9 m c k) (Fin.ext (by show 512 * (16 * (t.val / 16) + s.val) + a.val = 512 * s.val + a.val; omega))
theorem arr_9 (c : Dev nD) : (dats m 0 c).arrAt 9 cfg0.N = val_main_v63 (F := Ideal) (arg0 m c) (arg2 m c) (arg4 m c) := by
  refine (dats m 0 c).arrAt_eq_of_covers 9 _ (by decide +kernel) fun t hf y => ?_
  blk_simp
  rw [after0_9]
  have h := idx t
  have e : ((win0_9.blk t).view.emb y : S1x1024.Idx) = ix2 0 (y 1) := by
    blk_ext [h.2.2.2.2.2.2.2.2.2]
  have ey : y = ix2 0 (y 1) := by
    blk_ext []
  refine Eq.trans ?_ ((congrArg (val_main_v63 (F := Ideal) (arg0 m c) (arg2 m c) (arg4 m c)) e).trans (v63_at _ _ _ (y 1))).symm
  refine (congrArg _ ey).trans ((sum_9 m c t ((flush0_9 t).mp hf) (y 1)).trans ?_)
  refine Finset.sum_congr rfl fun b _ => Finset.sum_congr rfl fun n _ => ?_
  simp only [T9, segRow_seg]

/-- The launch and the reference leave the same arrays. -/
theorem tie : Cert.algebraic_Kernel40Ideal_Reference40Ideal (hKernel40Ideal := Cert.Kernel40Ideal.Gen.facts)
    (hReference40Ideal := Cert.Reference40Ideal.Gen.facts) := by
  intro m g m' g' _ hagree
  refine ⟨fun c => val_main_v60 (F := Ideal) (arg0 m c) (arg2 m c) (arg3 m c) (arg4 m c) (arg5 m c), fun c => val_main_v61 (F := Ideal) (arg4 m c), fun c => val_main_v62 (F := Ideal) (arg0 m c) (arg3 m c) (arg4 m c), fun c => val_main_v63 (F := Ideal) (arg0 m c) (arg2 m c) (arg4 m c), ?_, ?_⟩
  · refine (θ_run _ _ _).mono (fun r h c => ?_) (Cert.Kernel40Ideal.Value.run_blocks (F := Ideal) m g)
    obtain ⟨h0, h1, h2, h3, hk⟩ := h c
    exact ⟨h0.trans (arr_6 m c), h1.trans (arr_7 m c), h2.trans (arr_8 m c), h3.trans (arr_9 m c), hk⟩
  · refine (θ_run _ _ _).mono (fun r h c => ?_) (Cert.Reference40Ideal.Value.run (F := Ideal) m' g')
    obtain ⟨h0, h1, h2, h3, hk⟩ := h c
    obtain ⟨a0, a1, a2, a3, a4, a5⟩ := hagree c
    refine ⟨h0.trans ?_, h1.trans ?_, h2.trans ?_, h3.trans ?_, hk⟩
    · rw [val_main_v60_eq, a0, a2, a3, a4, a5]
    · rw [val_main_v61_eq, a4]
    · rw [val_main_v62_eq, a0, a3, a4]
    · rw [val_main_v63_eq, a0, a2, a4]

end Cert.NormB40

end
-- ==== Proof.Norm41.lean ====
module

public import proofs.«01_k».proof.Defs
public import proofs.«01_k».proof.Proof.Rows
public import proofs.«01_k».proof.Proof.Gen.Kernel41Ideal.Value
public import proofs.«01_k».proof.Proof.Gen.Reference41Ideal.Run
public import proofs.«01_k».proof.Proof.Gen.Reference41Ideal.Read

@[expose] public section

set_option maxRecDepth 16384

noncomputable section

open Idealize.ShloMosaic Idealize.ShloMosaic.TcCoe Idealize.SL.Sem
open Idealize.ShloMosaic.Pipeline (Dat)

/-! Program 41: a modulated norm. -/

namespace Cert.Norm41

open Cert.Norm38
open Cert.Kernel41Ideal Cert.Kernel41Ideal.Gen
open Cert.Reference41Ideal.Read

variable (m : (ℓ : Loc nD τ sig) → Buf (Elt Ideal) ℓ)

abbrev arg0 (c : Dev nD) : S9216x1024.Idx → EReal := m ((c : Thread nD τ).loc main_arg0)
abbrev arg1 (c : Dev nD) : S5x1x1024.Idx → EReal := m ((c : Thread nD τ).loc main_arg1)
abbrev arg2 (c : Dev nD) : S5x1x1024.Idx → EReal := m ((c : Thread nD τ).loc main_arg2)
abbrev arg3 (c : Dev nD) : S1x1024.Idx → EReal := m ((c : Thread nD τ).loc main_arg3)

/-- The reference's latent rows, -/
theorem lat_at (x0 : S9216x1024.Idx → EReal) (x1 : S5x1x1024.Idx → EReal) (x2 : S5x1x1024.Idx → EReal) (x3 : S1x1024.Idx → EReal) (b : Fin 4) (r : Fin 2048) (k : Fin 1024) :
    (val_main_v23 (F := Ideal) x0 x1 x2 x3 : (⟨3, ![4, 2048, 1024]⟩ : Shape).Idx → EReal) (ix3 b r k) = rowN (fun k => x0 (ix2 (latRow b r) k)) (fun k => x1 (ix3 ⟨b.val, by omega⟩ 0 k)) (fun k => x2 (ix3 ⟨b.val, by omega⟩ 0 k)) (fun k => x3 (ix2 0 k)) k := by
  pointwise [val_main_v23, val_main_v21, val_main_v15, val_main_v12, val_main_v1, val_main_v0, val_main_v11, val_main_v10, val_main_v9, val_main_v7, val_main_v5, val_main_v4, val_main_v3, val_main_cst, val_main_v6, val_main_cst_0, val_main_v8, val_main_cst_1, val_main_v14, val_main_v13, val_main_v2, val_main_v20, val_main_v19, val_main_v18, val_main_cst_2, val_main_v17, val_main_v22, val_main_v16, rowN, rs, ms]
/-- its context rows, -/
theorem ctx_at (x0 : S9216x1024.Idx → EReal) (x1 : S5x1x1024.Idx → EReal) (x2 : S5x1x1024.Idx → EReal) (x3 : S1x1024.Idx → EReal) (b : Fin 4) (r : Fin 256) (k : Fin 1024) :
    (val_main_v51 (F := Ideal) x0 x1 x2 x3 : (⟨3, ![4, 256, 1024]⟩ : Shape).Idx → EReal) (ix3 b r k) = rowN (fun k => x0 (ix2 (ctxRow b r) k)) (fun k => x1 (ix3 4 0 k)) (fun k => x2 (ix3 4 0 k)) (fun k => x3 (ix2 0 k)) k := by
  pointwise [val_main_v51, val_main_v48, val_main_v39, val_main_v36, val_main_v25, val_main_v24, val_main_v35, val_main_v34, val_main_v33, val_main_v31, val_main_v29, val_main_v28, val_main_v27, val_main_cst_3, val_main_v30, val_main_cst_4, val_main_v32, val_main_cst_5, val_main_v38, val_main_v37, val_main_v26, val_main_v47, val_main_v46, val_main_v45, val_main_v44, val_main_cst_6, val_main_v43, val_main_v42, val_main_v50, val_main_v49, val_main_v41, val_main_v40, rowN, rs, ms]
/-- and all of them. -/
theorem ref_at (x0 : S9216x1024.Idx → EReal) (x1 : S5x1x1024.Idx → EReal) (x2 : S5x1x1024.Idx → EReal) (x3 : S1x1024.Idx → EReal) (r : Fin 9216) (k : Fin 1024) :
    (val_main_v55 (F := Ideal) x0 x1 x2 x3 : S9216x1024.Idx → EReal) (ix2 r k) = rowN (fun k => x0 (ix2 r k)) (fun k => x1 (ix3 ⟨r.val / 2048, by omega⟩ 0 k)) (fun k => x2 (ix3 ⟨r.val / 2048, by omega⟩ 0 k)) (fun k => x3 (ix2 0 k)) k := by
  have h : (val_main_v55 (F := Ideal) x0 x1 x2 x3 : S9216x1024.Idx → EReal) (ix2 r k) =
      if h : r.val < 8192 then (val_main_v23 (F := Ideal) x0 x1 x2 x3 : (⟨3, ![4, 2048, 1024]⟩ : Shape).Idx → EReal) (ix3 ⟨r.val / 2048, by omega⟩ ⟨r.val % 2048, by omega⟩ k)
      else (val_main_v51 (F := Ideal) x0 x1 x2 x3 : (⟨3, ![4, 256, 1024]⟩ : Shape).Idx → EReal) (ix3 ⟨(r.val - 8192) / 256, by omega⟩ ⟨(r.val - 8192) % 256, by omega⟩ k) := by
    pointwise [val_main_v55, val_main_v54, val_main_v52, val_main_v53]
  by_cases hr : r.val < 8192
  · rw [h, dif_pos hr, lat_at, latRow_eq r hr]
  · have e4 : (4 : Fin 5) = ⟨r.val / 2048, by omega⟩ := Fin.ext (by show 4 = r.val / 2048; omega)
    rw [h, dif_neg hr, ctx_at, ctxRow_eq r hr, e4]

theorem idx : ∀ t : Fin grid0.N, win0_0.index t = ![t.val, 0]
    ∧ win0_1.index t = ![t.val / 4, 0, 0]
    ∧ win0_2.index t = ![t.val / 4, 0, 0]
    ∧ win0_3.index t = ![0, 0]
    ∧ win0_4.index t = ![t.val, 0] := by decide +kernel
theorem lt_N (t : Fin cfg0.N) : t.val < 18 := Nat.lt_of_lt_of_eq t.isLt (by decide +kernel)
/-- The row and the segment of a block's row. -/
abbrev tileRow (t : Fin cfg0.N) (a : Fin 512) : Fin 9216 := ⟨512 * t.val + a.val, by have := lt_N t; omega⟩
abbrev seg (t : Fin cfg0.N) : Fin 5 := ⟨t.val / 4, by have := lt_N t; omega⟩
theorem seg_row (t : Fin cfg0.N) (a : Fin 512) : (⟨(512 * t.val + a.val) / 2048, by have := lt_N t; omega⟩ : Fin 5) = seg t :=
  Fin.ext (by show (512 * t.val + a.val) / 2048 = t.val / 4; omega)

theorem in0 (c : Dev nD) (t : Fin cfg0.N) (a : Fin 512) (k : Fin 1024) : (iblk m c 0 t : S512x1024.Idx → EReal) (ix2 a k) = arg0 m c (ix2 (tileRow t a) k) := by
  have h := idx t
  blk_ext [iblk, V, h.1]
theorem in1 (c : Dev nD) (t : Fin cfg0.N) (k : Fin 1024) : (iblk m c 1 t : S1x1x1024.Idx → EReal) (ix3 0 0 k) = arg1 m c (ix3 (seg t) 0 k) := by
  have h := idx t
  blk_ext [iblk, V, h.2.1]
theorem in2 (c : Dev nD) (t : Fin cfg0.N) (k : Fin 1024) : (iblk m c 2 t : S1x1x1024.Idx → EReal) (ix3 0 0 k) = arg2 m c (ix3 (seg t) 0 k) := by
  have h := idx t
  blk_ext [iblk, V, h.2.2.1]
theorem in3 (c : Dev nD) (t : Fin cfg0.N) (k : Fin 1024) : (iblk m c 3 t : S1x1024.Idx → EReal) (ix2 0 k) = arg3 m c (ix2 0 k) := by
  have h := idx t
  blk_ext [iblk, V, h.2.2.2.1]

/-- What one point writes of one row. -/
theorem out_apply (x0 : S512x1024.Idx → EReal) (x1 : S1x1x1024.Idx → EReal) (x2 : S1x1x1024.Idx → EReal) (x3 : S1x1024.Idx → EReal) (a : Fin 512) (k : Fin 1024) :
    (out0_4 (F := Ideal) x0 x1 x2 x3 : S512x1024.Idx → EReal) (ix2 a k) =
      rowN (fun k => x0 (ix2 a k)) (fun k => x1 (ix3 0 0 k)) (fun k => x2 (ix3 0 0 k)) (fun k => x3 (ix2 0 k)) k := by
  frame_out
  unfold_payloads
  pointwise [rowN, rs, ms]

theorem out_tile (c : Dev nD) (t : Fin cfg0.N) (a : Fin 512) (k : Fin 1024) :
    (out0_4 (F := Ideal) (iblk m c 0 t) (iblk m c 1 t) (iblk m c 2 t) (iblk m c 3 t) : S512x1024.Idx → EReal) (ix2 a k) =
      val_main_v55 (F := Ideal) (arg0 m c) (arg1 m c) (arg2 m c) (arg3 m c) (ix2 (tileRow t a) k) := by
  refine (out_apply _ _ _ _ _ _).trans (Eq.trans ?_ (ref_at _ _ _ _ _ _).symm)
  simp only [in0, in1, in2, in3, seg_row]

/-- What the launch leaves. -/
theorem arr_res (c : Dev nD) : (dats m 0 c).arrAt 4 cfg0.N = val_main_v55 (F := Ideal) (arg0 m c) (arg1 m c) (arg2 m c) (arg3 m c) := by
  refine (dats m 0 c).arrAt_eq_of_covers 4 _ (by decide +kernel) fun t hf y => ?_
  blk_simp
  rw [after0_4]
  have h := idx t
  have e : ((win0_4.blk t).view.emb y : S9216x1024.Idx) = ix2 (tileRow t (y 0)) (y 1) := by
    blk_ext [h.2.2.2.2]
  exact (congrArg _ (eq_ix2 y)).trans ((out_tile m c t (y 0) (y 1)).trans (congrArg (val_main_v55 (F := Ideal) (arg0 m c) (arg1 m c) (arg2 m c) (arg3 m c)) e).symm)

/-- The launch and the reference leave the same array. -/
theorem tie : Cert.algebraic_Kernel41Ideal_Reference41Ideal (hKernel41Ideal := Cert.Kernel41Ideal.Gen.facts)
    (hReference41Ideal := Cert.Reference41Ideal.Gen.facts) := by
  intro m g m' g' _ hagree
  refine ⟨fun c => val_main_v55 (F := Ideal) (arg0 m c) (arg1 m c) (arg2 m c) (arg3 m c), ?_, ?_⟩
  · refine (θ_run _ _ _).mono (fun r h c => ?_) (Cert.Kernel41Ideal.Value.run_blocks (F := Ideal) m g)
    obtain ⟨h0, hk⟩ := h c
    exact ⟨h0.trans (arr_res m c), hk⟩
  · refine (θ_run _ _ _).mono (fun r h c => ?_) (Cert.Reference41Ideal.Value.run (F := Ideal) m' g')
    obtain ⟨h0, hk⟩ := h c
    obtain ⟨a0, a1, a2, a3⟩ := hagree c
    refine ⟨h0.trans ?_, hk⟩
    rw [val_main_v55_eq, a0, a1, a2, a3]

end Cert.Norm41

end
-- ==== Proof.Norm42.lean ====
module

public import proofs.«01_k».proof.Defs
public import proofs.«01_k».proof.Proof.Rows
public import proofs.«01_k».proof.Proof.Gen.Kernel42Ideal.Value
public import proofs.«01_k».proof.Proof.Gen.Reference42Ideal.Run
public import proofs.«01_k».proof.Proof.Gen.Reference42Ideal.Read

@[expose] public section

set_option maxRecDepth 16384

noncomputable section

open Idealize.ShloMosaic Idealize.ShloMosaic.TcCoe Idealize.SL.Sem
open Idealize.ShloMosaic.Pipeline (Dat)

/-! Program 42: a modulated norm of the last layer's MLP. -/

namespace Cert.Norm42

open Cert.Norm38
open Cert.Kernel42Ideal Cert.Kernel42Ideal.Gen
open Cert.Reference42Ideal.Read

variable (m : (ℓ : Loc nD τ sig) → Buf (Elt Ideal) ℓ)

abbrev arg0 (c : Dev nD) : S8192x1024.Idx → EReal := m ((c : Thread nD τ).loc main_arg0)
abbrev arg1 (c : Dev nD) : S4x1x1024.Idx → EReal := m ((c : Thread nD τ).loc main_arg1)
abbrev arg2 (c : Dev nD) : S4x1x1024.Idx → EReal := m ((c : Thread nD τ).loc main_arg2)
abbrev arg3 (c : Dev nD) : S1x1024.Idx → EReal := m ((c : Thread nD τ).loc main_arg3)

/-- A row of the reference. -/
theorem ref_at (x0 : S8192x1024.Idx → EReal) (x1 : S4x1x1024.Idx → EReal) (x2 : S4x1x1024.Idx → EReal) (x3 : S1x1024.Idx → EReal) (r : Fin 8192) (k : Fin 1024) :
    (val_main_v22 (F := Ideal) x0 x1 x2 x3 : S8192x1024.Idx → EReal) (ix2 r k) = rowN (fun k => x0 (ix2 r k)) (fun k => x1 (ix3 ⟨r.val / 2048, by omega⟩ 0 k)) (fun k => x2 (ix3 ⟨r.val / 2048, by omega⟩ 0 k)) (fun k => x3 (ix2 0 k)) k := by
  have e : ∀ h, (⟨r.val / 2048 * 2048 + r.val % 2048, h⟩ : Fin 8192) = r := fun h => Fin.ext (by show r.val / 2048 * 2048 + r.val % 2048 = r.val; omega)
  pointwise [val_main_v22, val_main_v21, val_main_v20, val_main_v18, val_main_v14, val_main_v11, val_main_v0, val_main_v10, val_main_v9, val_main_v8, val_main_v6, val_main_v4, val_main_v3, val_main_v2, val_main_cst, val_main_v5, val_main_cst_0, val_main_v7, val_main_cst_1, val_main_v13, val_main_v12, val_main_v1, val_main_v17, val_main_v16, val_main_v15, val_main_cst_2, val_main_v19, rowN, rs, ms, e]

theorem idx : ∀ t : Fin grid0.N, win0_0.index t = ![t.val, 0]
    ∧ win0_1.index t = ![t.val / 4, 0, 0]
    ∧ win0_2.index t = ![t.val / 4, 0, 0]
    ∧ win0_3.index t = ![0, 0]
    ∧ win0_4.index t = ![t.val, 0] := by decide +kernel
theorem lt_N (t : Fin cfg0.N) : t.val < 16 := Nat.lt_of_lt_of_eq t.isLt (by decide +kernel)
/-- The row and the segment of a block's row. -/
abbrev tileRow (t : Fin cfg0.N) (a : Fin 512) : Fin 8192 := ⟨512 * t.val + a.val, by have := lt_N t; omega⟩
abbrev seg (t : Fin cfg0.N) : Fin 4 := ⟨t.val / 4, by have := lt_N t; omega⟩
theorem seg_row (t : Fin cfg0.N) (a : Fin 512) : (⟨(512 * t.val + a.val) / 2048, by have := lt_N t; omega⟩ : Fin 4) = seg t :=
  Fin.ext (by show (512 * t.val + a.val) / 2048 = t.val / 4; omega)

theorem in0 (c : Dev nD) (t : Fin cfg0.N) (a : Fin 512) (k : Fin 1024) : (iblk m c 0 t : S512x1024.Idx → EReal) (ix2 a k) = arg0 m c (ix2 (tileRow t a) k) := by
  have h := idx t
  blk_ext [iblk, V, h.1]
theorem in1 (c : Dev nD) (t : Fin cfg0.N) (k : Fin 1024) : (iblk m c 1 t : S1x1x1024.Idx → EReal) (ix3 0 0 k) = arg1 m c (ix3 (seg t) 0 k) := by
  have h := idx t
  blk_ext [iblk, V, h.2.1]
theorem in2 (c : Dev nD) (t : Fin cfg0.N) (k : Fin 1024) : (iblk m c 2 t : S1x1x1024.Idx → EReal) (ix3 0 0 k) = arg2 m c (ix3 (seg t) 0 k) := by
  have h := idx t
  blk_ext [iblk, V, h.2.2.1]
theorem in3 (c : Dev nD) (t : Fin cfg0.N) (k : Fin 1024) : (iblk m c 3 t : S1x1024.Idx → EReal) (ix2 0 k) = arg3 m c (ix2 0 k) := by
  have h := idx t
  blk_ext [iblk, V, h.2.2.2.1]

/-- What one point writes of one row. -/
theorem out_apply (x0 : S512x1024.Idx → EReal) (x1 : S1x1x1024.Idx → EReal) (x2 : S1x1x1024.Idx → EReal) (x3 : S1x1024.Idx → EReal) (a : Fin 512) (k : Fin 1024) :
    (out0_4 (F := Ideal) x0 x1 x2 x3 : S512x1024.Idx → EReal) (ix2 a k) =
      rowN (fun k => x0 (ix2 a k)) (fun k => x1 (ix3 0 0 k)) (fun k => x2 (ix3 0 0 k)) (fun k => x3 (ix2 0 k)) k := by
  frame_out
  unfold_payloads
  pointwise [rowN, rs, ms]

theorem out_tile (c : Dev nD) (t : Fin cfg0.N) (a : Fin 512) (k : Fin 1024) :
    (out0_4 (F := Ideal) (iblk m c 0 t) (iblk m c 1 t) (iblk m c 2 t) (iblk m c 3 t) : S512x1024.Idx → EReal) (ix2 a k) =
      val_main_v22 (F := Ideal) (arg0 m c) (arg1 m c) (arg2 m c) (arg3 m c) (ix2 (tileRow t a) k) := by
  refine (out_apply _ _ _ _ _ _).trans (Eq.trans ?_ (ref_at _ _ _ _ _ _).symm)
  simp only [in0, in1, in2, in3, seg_row]

/-- What the launch leaves. -/
theorem arr_res (c : Dev nD) : (dats m 0 c).arrAt 4 cfg0.N = val_main_v22 (F := Ideal) (arg0 m c) (arg1 m c) (arg2 m c) (arg3 m c) := by
  refine (dats m 0 c).arrAt_eq_of_covers 4 _ (by decide +kernel) fun t hf y => ?_
  blk_simp
  rw [after0_4]
  have h := idx t
  have e : ((win0_4.blk t).view.emb y : S8192x1024.Idx) = ix2 (tileRow t (y 0)) (y 1) := by
    blk_ext [h.2.2.2.2]
  exact (congrArg _ (eq_ix2 y)).trans ((out_tile m c t (y 0) (y 1)).trans (congrArg (val_main_v22 (F := Ideal) (arg0 m c) (arg1 m c) (arg2 m c) (arg3 m c)) e).symm)

/-- The launch and the reference leave the same array. -/
theorem tie : Cert.algebraic_Kernel42Ideal_Reference42Ideal (hKernel42Ideal := Cert.Kernel42Ideal.Gen.facts)
    (hReference42Ideal := Cert.Reference42Ideal.Gen.facts) := by
  intro m g m' g' _ hagree
  refine ⟨fun c => val_main_v22 (F := Ideal) (arg0 m c) (arg1 m c) (arg2 m c) (arg3 m c), ?_, ?_⟩
  · refine (θ_run _ _ _).mono (fun r h c => ?_) (Cert.Kernel42Ideal.Value.run_blocks (F := Ideal) m g)
    obtain ⟨h0, hk⟩ := h c
    exact ⟨h0.trans (arr_res m c), hk⟩
  · refine (θ_run _ _ _).mono (fun r h c => ?_) (Cert.Reference42Ideal.Value.run (F := Ideal) m' g')
    obtain ⟨h0, hk⟩ := h c
    obtain ⟨a0, a1, a2, a3⟩ := hagree c
    refine ⟨h0.trans ?_, hk⟩
    rw [val_main_v22_eq, a0, a1, a2, a3]

end Cert.Norm42

end
-- ==== Proof.Gate43.lean ====
module

public import proofs.«01_k».proof.Defs
public import proofs.«01_k».proof.Proof.Rows
public import proofs.«01_k».proof.Proof.Gen.Kernel43Ideal.Value
public import proofs.«01_k».proof.Proof.Gen.Reference43Ideal.Run
public import proofs.«01_k».proof.Proof.Gen.Reference43Ideal.Read

@[expose] public section

set_option maxRecDepth 16384

noncomputable section

open Idealize.ShloMosaic Idealize.ShloMosaic.TcCoe Idealize.SL.Sem
open Idealize.ShloMosaic.Pipeline (Dat)

/-! Program 43: a residual branch: the gated norm added to the stream. -/

namespace Cert.Gate43

open Cert.Norm38
open Cert.Kernel43Ideal Cert.Kernel43Ideal.Gen
open Cert.Reference43Ideal.Read

variable (m : (ℓ : Loc nD τ sig) → Buf (Elt Ideal) ℓ)

abbrev arg0 (c : Dev nD) : S9216x1024.Idx → EReal := m ((c : Thread nD τ).loc main_arg0)
abbrev arg1 (c : Dev nD) : S9216x1024.Idx → EReal := m ((c : Thread nD τ).loc main_arg1)
abbrev arg2 (c : Dev nD) : S5x1x1024.Idx → EReal := m ((c : Thread nD τ).loc main_arg2)
abbrev arg3 (c : Dev nD) : S1x1024.Idx → EReal := m ((c : Thread nD τ).loc main_arg3)

/-- The reference's latent rows, -/
theorem lat_at (x0 : S9216x1024.Idx → EReal) (x1 : S9216x1024.Idx → EReal) (x2 : S5x1x1024.Idx → EReal) (x3 : S1x1024.Idx → EReal) (b : Fin 4) (r : Fin 2048) (k : Fin 1024) :
    (val_main_v21 (F := Ideal) x0 x1 x2 x3 : (⟨3, ![4, 2048, 1024]⟩ : Shape).Idx → EReal) (ix3 b r k) = rowG (fun k => x1 (ix2 (latRow b r) k)) (fun k => x2 (ix3 ⟨b.val, by omega⟩ 0 k)) (fun k => x3 (ix2 0 k)) (x0 (ix2 (latRow b r) k)) k := by
  pointwise [val_main_v21, val_main_v1, val_main_v0, val_main_v20, val_main_v19, val_main_v2, val_main_v18, val_main_v15, val_main_v4, val_main_v3, val_main_v14, val_main_v13, val_main_v12, val_main_v10, val_main_v8, val_main_v7, val_main_v6, val_main_cst, val_main_v9, val_main_cst_0, val_main_v11, val_main_cst_1, val_main_v17, val_main_v16, val_main_v5, rowG, rs, ms]
/-- its context rows, -/
theorem ctx_at (x0 : S9216x1024.Idx → EReal) (x1 : S9216x1024.Idx → EReal) (x2 : S5x1x1024.Idx → EReal) (x3 : S1x1024.Idx → EReal) (b : Fin 4) (r : Fin 256) (k : Fin 1024) :
    (val_main_v45 (F := Ideal) x0 x1 x2 x3 : (⟨3, ![4, 256, 1024]⟩ : Shape).Idx → EReal) (ix3 b r k) = rowG (fun k => x1 (ix2 (ctxRow b r) k)) (fun k => x2 (ix3 4 0 k)) (fun k => x3 (ix2 0 k)) (x0 (ix2 (ctxRow b r) k)) k := by
  pointwise [val_main_v45, val_main_v23, val_main_v22, val_main_v44, val_main_v43, val_main_v42, val_main_v25, val_main_v24, val_main_v41, val_main_v38, val_main_v27, val_main_v26, val_main_v37, val_main_v36, val_main_v35, val_main_v33, val_main_v31, val_main_v30, val_main_v29, val_main_cst_2, val_main_v32, val_main_cst_3, val_main_v34, val_main_cst_4, val_main_v40, val_main_v39, val_main_v28, rowG, rs, ms]
/-- and all of them. -/
theorem ref_at (x0 : S9216x1024.Idx → EReal) (x1 : S9216x1024.Idx → EReal) (x2 : S5x1x1024.Idx → EReal) (x3 : S1x1024.Idx → EReal) (r : Fin 9216) (k : Fin 1024) :
    (val_main_v48 (F := Ideal) x0 x1 x2 x3 : S9216x1024.Idx → EReal) (ix2 r k) = rowG (fun k => x1 (ix2 r k)) (fun k => x2 (ix3 ⟨r.val / 2048, by omega⟩ 0 k)) (fun k => x3 (ix2 0 k)) (x0 (ix2 r k)) k := by
  have h : (val_main_v48 (F := Ideal) x0 x1 x2 x3 : S9216x1024.Idx → EReal) (ix2 r k) =
      if h : r.val < 8192 then (val_main_v21 (F := Ideal) x0 x1 x2 x3 : (⟨3, ![4, 2048, 1024]⟩ : Shape).Idx → EReal) (ix3 ⟨r.val / 2048, by omega⟩ ⟨r.val % 2048, by omega⟩ k)
      else (val_main_v45 (F := Ideal) x0 x1 x2 x3 : (⟨3, ![4, 256, 1024]⟩ : Shape).Idx → EReal) (ix3 ⟨(r.val - 8192) / 256, by omega⟩ ⟨(r.val - 8192) % 256, by omega⟩ k) := by
    pointwise [val_main_v48, val_main_v46, val_main_v47]
  by_cases hr : r.val < 8192
  · rw [h, dif_pos hr, lat_at, latRow_eq r hr]
  · have e4 : (4 : Fin 5) = ⟨r.val / 2048, by omega⟩ := Fin.ext (by show 4 = r.val / 2048; omega)
    rw [h, dif_neg hr, ctx_at, ctxRow_eq r hr, e4]

theorem idx : ∀ t : Fin grid0.N, win0_0.index t = ![t.val, 0]
    ∧ win0_1.index t = ![t.val, 0]
    ∧ win0_2.index t = ![t.val / 4, 0, 0]
    ∧ win0_3.index t = ![0, 0]
    ∧ win0_4.index t = ![t.val, 0] := by decide +kernel
theorem lt_N (t : Fin cfg0.N) : t.val < 18 := Nat.lt_of_lt_of_eq t.isLt (by decide +kernel)
/-- The row and the segment of a block's row. -/
abbrev tileRow (t : Fin cfg0.N) (a : Fin 512) : Fin 9216 := ⟨512 * t.val + a.val, by have := lt_N t; omega⟩
abbrev seg (t : Fin cfg0.N) : Fin 5 := ⟨t.val / 4, by have := lt_N t; omega⟩
theorem seg_row (t : Fin cfg0.N) (a : Fin 512) : (⟨(512 * t.val + a.val) / 2048, by have := lt_N t; omega⟩ : Fin 5) = seg t :=
  Fin.ext (by show (512 * t.val + a.val) / 2048 = t.val / 4; omega)

theorem in0 (c : Dev nD) (t : Fin cfg0.N) (a : Fin 512) (k : Fin 1024) : (iblk m c 0 t : S512x1024.Idx → EReal) (ix2 a k) = arg0 m c (ix2 (tileRow t a) k) := by
  have h := idx t
  blk_ext [iblk, V, h.1]
theorem in1 (c : Dev nD) (t : Fin cfg0.N) (a : Fin 512) (k : Fin 1024) : (iblk m c 1 t : S512x1024.Idx → EReal) (ix2 a k) = arg1 m c (ix2 (tileRow t a) k) := by
  have h := idx t
  blk_ext [iblk, V, h.2.1]
theorem in2 (c : Dev nD) (t : Fin cfg0.N) (k : Fin 1024) : (iblk m c 2 t : S1x1x1024.Idx → EReal) (ix3 0 0 k) = arg2 m c (ix3 (seg t) 0 k) := by
  have h := idx t
  blk_ext [iblk, V, h.2.2.1]
theorem in3 (c : Dev nD) (t : Fin cfg0.N) (k : Fin 1024) : (iblk m c 3 t : S1x1024.Idx → EReal) (ix2 0 k) = arg3 m c (ix2 0 k) := by
  have h := idx t
  blk_ext [iblk, V, h.2.2.2.1]

/-- What one point writes of one row. -/
theorem out_apply (x0 : S512x1024.Idx → EReal) (x1 : S512x1024.Idx → EReal) (x2 : S1x1x1024.Idx → EReal) (x3 : S1x1024.Idx → EReal) (a : Fin 512) (k : Fin 1024) :
    (out0_4 (F := Ideal) x0 x1 x2 x3 : S512x1024.Idx → EReal) (ix2 a k) =
      rowG (fun k => x1 (ix2 a k)) (fun k => x2 (ix3 0 0 k)) (fun k => x3 (ix2 0 k)) (x0 (ix2 a k)) k := by
  frame_out
  unfold_payloads
  pointwise [rowG, rs, ms]

theorem out_tile (c : Dev nD) (t : Fin cfg0.N) (a : Fin 512) (k : Fin 1024) :
    (out0_4 (F := Ideal) (iblk m c 0 t) (iblk m c 1 t) (iblk m c 2 t) (iblk m c 3 t) : S512x1024.Idx → EReal) (ix2 a k) =
      val_main_v48 (F := Ideal) (arg0 m c) (arg1 m c) (arg2 m c) (arg3 m c) (ix2 (tileRow t a) k) := by
  refine (out_apply _ _ _ _ _ _).trans (Eq.trans ?_ (ref_at _ _ _ _ _ _).symm)
  simp only [in0, in1, in2, in3, seg_row]

/-- What the launch leaves. -/
theorem arr_res (c : Dev nD) : (dats m 0 c).arrAt 4 cfg0.N = val_main_v48 (F := Ideal) (arg0 m c) (arg1 m c) (arg2 m c) (arg3 m c) := by
  refine (dats m 0 c).arrAt_eq_of_covers 4 _ (by decide +kernel) fun t hf y => ?_
  blk_simp
  rw [after0_4]
  have h := idx t
  have e : ((win0_4.blk t).view.emb y : S9216x1024.Idx) = ix2 (tileRow t (y 0)) (y 1) := by
    blk_ext [h.2.2.2.2]
  exact (congrArg _ (eq_ix2 y)).trans ((out_tile m c t (y 0) (y 1)).trans (congrArg (val_main_v48 (F := Ideal) (arg0 m c) (arg1 m c) (arg2 m c) (arg3 m c)) e).symm)

/-- The launch and the reference leave the same array. -/
theorem tie : Cert.algebraic_Kernel43Ideal_Reference43Ideal (hKernel43Ideal := Cert.Kernel43Ideal.Gen.facts)
    (hReference43Ideal := Cert.Reference43Ideal.Gen.facts) := by
  intro m g m' g' _ hagree
  refine ⟨fun c => val_main_v48 (F := Ideal) (arg0 m c) (arg1 m c) (arg2 m c) (arg3 m c), ?_, ?_⟩
  · refine (θ_run _ _ _).mono (fun r h c => ?_) (Cert.Kernel43Ideal.Value.run_blocks (F := Ideal) m g)
    obtain ⟨h0, hk⟩ := h c
    exact ⟨h0.trans (arr_res m c), hk⟩
  · refine (θ_run _ _ _).mono (fun r h c => ?_) (Cert.Reference43Ideal.Value.run (F := Ideal) m' g')
    obtain ⟨h0, hk⟩ := h c
    obtain ⟨a0, a1, a2, a3⟩ := hagree c
    refine ⟨h0.trans ?_, hk⟩
    rw [val_main_v48_eq, a0, a1, a2, a3]

end Cert.Gate43

end
-- ==== Proof.Gate44.lean ====
module

public import proofs.«01_k».proof.Defs
public import proofs.«01_k».proof.Proof.Rows
public import proofs.«01_k».proof.Proof.Gen.Kernel44Ideal.Value
public import proofs.«01_k».proof.Proof.Gen.Reference44Ideal.Run
public import proofs.«01_k».proof.Proof.Gen.Reference44Ideal.Read

@[expose] public section

set_option maxRecDepth 16384

noncomputable section

open Idealize.ShloMosaic Idealize.ShloMosaic.TcCoe Idealize.SL.Sem
open Idealize.ShloMosaic.Pipeline (Dat)

/-! Program 44: a residual branch of the last layer. -/

namespace Cert.Gate44

open Cert.Norm38
open Cert.Kernel44Ideal Cert.Kernel44Ideal.Gen
open Cert.Reference44Ideal.Read

variable (m : (ℓ : Loc nD τ sig) → Buf (Elt Ideal) ℓ)

abbrev arg0 (c : Dev nD) : S8192x1024.Idx → EReal := m ((c : Thread nD τ).loc main_arg0)
abbrev arg1 (c : Dev nD) : S8192x1024.Idx → EReal := m ((c : Thread nD τ).loc main_arg1)
abbrev arg2 (c : Dev nD) : S4x1x1024.Idx → EReal := m ((c : Thread nD τ).loc main_arg2)
abbrev arg3 (c : Dev nD) : S1x1024.Idx → EReal := m ((c : Thread nD τ).loc main_arg3)

/-- A row of the reference. -/
theorem ref_at (x0 : S8192x1024.Idx → EReal) (x1 : S8192x1024.Idx → EReal) (x2 : S4x1x1024.Idx → EReal) (x3 : S1x1024.Idx → EReal) (r : Fin 8192) (k : Fin 1024) :
    (val_main_v19 (F := Ideal) x0 x1 x2 x3 : S8192x1024.Idx → EReal) (ix2 r k) = rowG (fun k => x1 (ix2 r k)) (fun k => x2 (ix3 ⟨r.val / 2048, by omega⟩ 0 k)) (fun k => x3 (ix2 0 k)) (x0 (ix2 r k)) k := by
  have e : ∀ h, (⟨r.val / 2048 * 2048 + r.val % 2048, h⟩ : Fin 8192) = r := fun h => Fin.ext (by show r.val / 2048 * 2048 + r.val % 2048 = r.val; omega)
  pointwise [val_main_v19, val_main_v18, val_main_v0, val_main_v17, val_main_v16, val_main_v15, val_main_v12, val_main_v1, val_main_v11, val_main_v10, val_main_v9, val_main_v7, val_main_v5, val_main_v4, val_main_v3, val_main_cst, val_main_v6, val_main_cst_0, val_main_v8, val_main_cst_1, val_main_v14, val_main_v13, val_main_v2, rowG, rs, ms, e]

theorem idx : ∀ t : Fin grid0.N, win0_0.index t = ![t.val, 0]
    ∧ win0_1.index t = ![t.val, 0]
    ∧ win0_2.index t = ![t.val / 4, 0, 0]
    ∧ win0_3.index t = ![0, 0]
    ∧ win0_4.index t = ![t.val, 0] := by decide +kernel
theorem lt_N (t : Fin cfg0.N) : t.val < 16 := Nat.lt_of_lt_of_eq t.isLt (by decide +kernel)
/-- The row and the segment of a block's row. -/
abbrev tileRow (t : Fin cfg0.N) (a : Fin 512) : Fin 8192 := ⟨512 * t.val + a.val, by have := lt_N t; omega⟩
abbrev seg (t : Fin cfg0.N) : Fin 4 := ⟨t.val / 4, by have := lt_N t; omega⟩
theorem seg_row (t : Fin cfg0.N) (a : Fin 512) : (⟨(512 * t.val + a.val) / 2048, by have := lt_N t; omega⟩ : Fin 4) = seg t :=
  Fin.ext (by show (512 * t.val + a.val) / 2048 = t.val / 4; omega)

theorem in0 (c : Dev nD) (t : Fin cfg0.N) (a : Fin 512) (k : Fin 1024) : (iblk m c 0 t : S512x1024.Idx → EReal) (ix2 a k) = arg0 m c (ix2 (tileRow t a) k) := by
  have h := idx t
  blk_ext [iblk, V, h.1]
theorem in1 (c : Dev nD) (t : Fin cfg0.N) (a : Fin 512) (k : Fin 1024) : (iblk m c 1 t : S512x1024.Idx → EReal) (ix2 a k) = arg1 m c (ix2 (tileRow t a) k) := by
  have h := idx t
  blk_ext [iblk, V, h.2.1]
theorem in2 (c : Dev nD) (t : Fin cfg0.N) (k : Fin 1024) : (iblk m c 2 t : S1x1x1024.Idx → EReal) (ix3 0 0 k) = arg2 m c (ix3 (seg t) 0 k) := by
  have h := idx t
  blk_ext [iblk, V, h.2.2.1]
theorem in3 (c : Dev nD) (t : Fin cfg0.N) (k : Fin 1024) : (iblk m c 3 t : S1x1024.Idx → EReal) (ix2 0 k) = arg3 m c (ix2 0 k) := by
  have h := idx t
  blk_ext [iblk, V, h.2.2.2.1]

/-- What one point writes of one row. -/
theorem out_apply (x0 : S512x1024.Idx → EReal) (x1 : S512x1024.Idx → EReal) (x2 : S1x1x1024.Idx → EReal) (x3 : S1x1024.Idx → EReal) (a : Fin 512) (k : Fin 1024) :
    (out0_4 (F := Ideal) x0 x1 x2 x3 : S512x1024.Idx → EReal) (ix2 a k) =
      rowG (fun k => x1 (ix2 a k)) (fun k => x2 (ix3 0 0 k)) (fun k => x3 (ix2 0 k)) (x0 (ix2 a k)) k := by
  frame_out
  unfold_payloads
  pointwise [rowG, rs, ms]

theorem out_tile (c : Dev nD) (t : Fin cfg0.N) (a : Fin 512) (k : Fin 1024) :
    (out0_4 (F := Ideal) (iblk m c 0 t) (iblk m c 1 t) (iblk m c 2 t) (iblk m c 3 t) : S512x1024.Idx → EReal) (ix2 a k) =
      val_main_v19 (F := Ideal) (arg0 m c) (arg1 m c) (arg2 m c) (arg3 m c) (ix2 (tileRow t a) k) := by
  refine (out_apply _ _ _ _ _ _).trans (Eq.trans ?_ (ref_at _ _ _ _ _ _).symm)
  simp only [in0, in1, in2, in3, seg_row]

/-- What the launch leaves. -/
theorem arr_res (c : Dev nD) : (dats m 0 c).arrAt 4 cfg0.N = val_main_v19 (F := Ideal) (arg0 m c) (arg1 m c) (arg2 m c) (arg3 m c) := by
  refine (dats m 0 c).arrAt_eq_of_covers 4 _ (by decide +kernel) fun t hf y => ?_
  blk_simp
  rw [after0_4]
  have h := idx t
  have e : ((win0_4.blk t).view.emb y : S8192x1024.Idx) = ix2 (tileRow t (y 0)) (y 1) := by
    blk_ext [h.2.2.2.2]
  exact (congrArg _ (eq_ix2 y)).trans ((out_tile m c t (y 0) (y 1)).trans (congrArg (val_main_v19 (F := Ideal) (arg0 m c) (arg1 m c) (arg2 m c) (arg3 m c)) e).symm)

/-- The launch and the reference leave the same array. -/
theorem tie : Cert.algebraic_Kernel44Ideal_Reference44Ideal (hKernel44Ideal := Cert.Kernel44Ideal.Gen.facts)
    (hReference44Ideal := Cert.Reference44Ideal.Gen.facts) := by
  intro m g m' g' _ hagree
  refine ⟨fun c => val_main_v19 (F := Ideal) (arg0 m c) (arg1 m c) (arg2 m c) (arg3 m c), ?_, ?_⟩
  · refine (θ_run _ _ _).mono (fun r h c => ?_) (Cert.Kernel44Ideal.Value.run_blocks (F := Ideal) m g)
    obtain ⟨h0, hk⟩ := h c
    exact ⟨h0.trans (arr_res m c), hk⟩
  · refine (θ_run _ _ _).mono (fun r h c => ?_) (Cert.Reference44Ideal.Value.run (F := Ideal) m' g')
    obtain ⟨h0, hk⟩ := h c
    obtain ⟨a0, a1, a2, a3⟩ := hagree c
    refine ⟨h0.trans ?_, hk⟩
    rw [val_main_v19_eq, a0, a1, a2, a3]

end Cert.Gate44

end
-- ==== Proof.ConvRow.lean ====
module

public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

/-! A column of the gated convolution, for sequences of any length. -/

namespace Cert.ConvRow

variable {R : ℕ}

/-- The row before, zero before the first. -/
def prv (z : Fin R → EReal) (r : Fin R) : EReal := if h : r.val = 0 then 0 else z ⟨r.val - 1, by omega⟩
/-- The row after, zero after the last. -/
def nxt (z : Fin R → EReal) (r : Fin R) : EReal := if h : r.val + 1 = R then 0 else z ⟨r.val + 1, by omega⟩
/-- The gated convolution's element: `g` the gate, `z` the column, `w` the taps. -/
def conv (g z : Fin R → EReal) (w : Fin 3 → EReal) (r : Fin R) : EReal := g r * (prv z r * w 0 + z r * w 1 + nxt z r * w 2)

/-- A comparison of a row's number with a constant. -/
theorem cmp_eq (n k : ℕ) (hn : n < 2 ^ 32) (hk : k < 2 ^ 32) :
    IntOp.cmpi CmpIPredicate.eq (BitVec.ofNat 32 n) (BitVec.ofNat 32 k) = if n = k then 1#1 else 0#1 := by
  by_cases h : n = k
  · have hb : (BitVec.ofNat 32 n == BitVec.ofNat 32 k) = true := by rw [h]; exact beq_self_eq_true _
    simp only [IntOp.cmpi, hb, if_pos h]; rfl
  · have hb : (BitVec.ofNat 32 n == BitVec.ofNat 32 k) = false := by
      rw [beq_eq_false_iff_ne]; intro e
      have := congrArg BitVec.toNat e
      rw [BitVec.toNat_ofNat, BitVec.toNat_ofNat, Nat.mod_eq_of_lt hn, Nat.mod_eq_of_lt hk] at this
      exact h this
    simp only [IntOp.cmpi, hb, if_neg h]; rfl

/-- A shift of a scaled operand is the scaled shift. -/
theorem prv_mul (z : Fin R → EReal) (w : EReal) (r : Fin R) : prv (fun r => z r * w) r = prv z r * w := by
  unfold prv; split
  · exact (zero_mul w).symm
  · rfl
theorem nxt_mul (z : Fin R → EReal) (w : EReal) (r : Fin R) : nxt (fun r => z r * w) r = nxt z r * w := by
  unfold nxt; split
  · exact (zero_mul w).symm
  · rfl

/-- What a shift down by one row reads. -/
theorem sel_prv (hR : R < 2 ^ 32) (z : Fin R → EReal) (r : Fin R) (h : (r.val + R - 1) % R < R) :
    Scalar.select (IntOp.cmpi CmpIPredicate.eq (BitVec.ofNat 32 r.val) 0#32) 0 (z ⟨(r.val + R - 1) % R, h⟩) = prv z r := by
  have hc := cmp_eq r.val 0 (by omega) (by decide)
  unfold prv
  by_cases h0 : r.val = 0
  · rw [dif_pos h0]; rw [if_pos h0] at hc; rw [hc]; rfl
  · rw [dif_neg h0]; rw [if_neg h0] at hc; rw [hc]
    have e : (⟨(r.val + R - 1) % R, h⟩ : Fin R) = ⟨r.val - 1, by omega⟩ :=
      Fin.ext (by show (r.val + R - 1) % R = r.val - 1; rw [show r.val + R - 1 = (r.val - 1) + R by omega, Nat.add_mod_right, Nat.mod_eq_of_lt (by omega)])
    rw [e]; rfl

/-- What a shift up by one row reads. -/
theorem sel_nxt (L : ℕ) (hL : L + 1 = R) (hR : R < 2 ^ 32) (z : Fin R → EReal) (r : Fin R) (h : (r.val + R - L) % R < R) :
    Scalar.select (IntOp.cmpi CmpIPredicate.eq (BitVec.ofNat 32 r.val) (BitVec.ofNat 32 L)) 0 (z ⟨(r.val + R - L) % R, h⟩) = nxt z r := by
  have hc := cmp_eq r.val L (by omega) (by omega)
  unfold nxt
  by_cases h0 : r.val = L
  · rw [dif_pos (by omega)]; rw [if_pos h0] at hc; rw [hc]; rfl
  · rw [dif_neg (by omega)]; rw [if_neg h0] at hc; rw [hc]
    have e : (⟨(r.val + R - L) % R, h⟩ : Fin R) = ⟨r.val + 1, by omega⟩ :=
      Fin.ext (by show (r.val + R - L) % R = r.val + 1; rw [show r.val + R - L = r.val + 1 by omega, Nat.mod_eq_of_lt (by omega)])
    rw [e]; rfl

/-- The operand with a zero row before and after it, read at the three shifts. -/
theorem pad_prv (z : Fin R → EReal) (r : Fin R) (f : Fin (R + 2) → EReal)
    (hf : ∀ q, f q = if h : q.val = 0 ∨ q.val = R + 1 then 0 else z ⟨q.val - 1, by omega⟩) : f ⟨r.val, by omega⟩ = prv z r := by
  have hr := r.isLt
  rw [hf]; unfold prv
  by_cases a : r.val = 0
  · rw [dif_pos (Or.inl a), dif_pos a]
  · rw [dif_neg (by dsimp only; omega), dif_neg a]
theorem pad_mid (z : Fin R → EReal) (r : Fin R) (f : Fin (R + 2) → EReal)
    (hf : ∀ q, f q = if h : q.val = 0 ∨ q.val = R + 1 then 0 else z ⟨q.val - 1, by omega⟩) : f ⟨1 + r.val, by omega⟩ = z r := by
  have hr := r.isLt
  rw [hf, dif_neg (by dsimp only; omega)]
  exact congrArg z (Fin.ext (by dsimp only; omega))
theorem pad_nxt (z : Fin R → EReal) (r : Fin R) (f : Fin (R + 2) → EReal)
    (hf : ∀ q, f q = if h : q.val = 0 ∨ q.val = R + 1 then 0 else z ⟨q.val - 1, by omega⟩) : f ⟨2 + r.val, by omega⟩ = nxt z r := by
  have hr := r.isLt
  rw [hf]; unfold nxt
  by_cases a : r.val + 1 = R
  · rw [dif_pos (by dsimp only; omega), dif_pos a]
  · rw [dif_neg (by dsimp only; omega), dif_neg a]
    exact congrArg z (Fin.ext (by dsimp only; omega))

end Cert.ConvRow

end
-- ==== Proof.ConvF45.lean ====
module

public import proofs.«01_k».proof.Defs
public import proofs.«01_k».proof.Proof.ConvRow
public import proofs.«01_k».proof.Proof.Gen.Kernel45Ideal.Value
public import proofs.«01_k».proof.Proof.Gen.Reference45Ideal.Run
public import proofs.«01_k».proof.Proof.Gen.Reference45Ideal.Read

@[expose] public section

set_option maxRecDepth 16384

noncomputable section

open Idealize.ShloMosaic Idealize.ShloMosaic.TcCoe Idealize.SL.Sem
open Idealize.ShloMosaic.Pipeline (Dat)

/-! Program 45: the gated convolution of the latent rows. -/

namespace Cert.ConvF45

open Cert.ConvRow (conv prv nxt)
open Cert.Kernel45Ideal Cert.Kernel45Ideal.Gen
open Cert.Reference45Ideal.Read

variable (m : (ℓ : Loc nD τ sig) → Buf (Elt Ideal) ℓ)

abbrev arg0 (c : Dev nD) : S9216x1792.Idx → EReal := m ((c : Thread nD τ).loc main_arg0)
abbrev arg1 (c : Dev nD) : S3x256.Idx → EReal := m ((c : Thread nD τ).loc main_arg1)

/-- The row of sequence `b`'s row `r`. -/
abbrev row (b : Fin 4) (r : Fin 2048) : Fin 9216 := ⟨b.val * 2048 + r.val, by omega⟩
/-- The gate and the operand of the convolution, by columns. -/
abbrev gate (p : S9216x1792.Idx → EReal) (b : Fin 4) (l : Fin 256) (r : Fin 2048) : EReal := p (ix2 (row b r) ⟨768 + l.val, by omega⟩)
abbrev oper (p : S9216x1792.Idx → EReal) (b : Fin 4) (l : Fin 256) (r : Fin 2048) : EReal :=
  p (ix2 (row b r) ⟨1024 + l.val, by omega⟩) * p (ix2 (row b r) ⟨1280 + l.val, by omega⟩)

/-- The reference's operand, padded. -/
theorem pad_at (p : S9216x1792.Idx → EReal) (b : Fin 4) (l : Fin 256) (q : Fin (2048 + 2)) :
    (val_main_v11 (F := Ideal) p : (⟨3, ![4, 2050, 256]⟩ : Shape).Idx → EReal) (ix3 b q l) =
      if h : q.val = 0 ∨ q.val = 2048 + 1 then 0 else oper p b l ⟨q.val - 1, by omega⟩ := by
  have h0 : ∀ i, (val_main_cst (F := Ideal) : (⟨0, ![]⟩ : Shape).Idx → EReal) i = 0 := fun i => by pointwise [val_main_cst]
  have hq := q.isLt
  pointwise [val_main_v11, val_main_v10, val_main_v9, val_main_v6, val_main_v1, val_main_v0, val_main_v7]
  by_cases a : q.val < 1
  · rw [dif_pos a, dif_pos (by omega)]; exact h0 _
  · rw [dif_neg a]
    by_cases e : q.val - 1 < 2048
    · rw [dif_pos e, dif_neg (by omega)]
    · rw [dif_neg e, dif_pos (by omega)]; exact h0 _

/-- The reference's element. -/
theorem ref_at (p : S9216x1792.Idx → EReal) (w : S3x256.Idx → EReal) (b : Fin 4) (r : Fin 2048) (l : Fin 256) :
    (val_main_v32 (F := Ideal) p w : (⟨3, ![4, 2048, 256]⟩ : Shape).Idx → EReal) (ix3 b r l) = conv (gate p b l) (oper p b l) (fun k => w (ix2 k l)) r := by
  pointwise [val_main_v32, val_main_v5, val_main_v1, val_main_v0, val_main_v31, val_main_v24, val_main_v17, val_main_v12, val_main_v16, val_main_v15, val_main_v14, val_main_v13, val_main_v23, val_main_v18, val_main_v22, val_main_v21, val_main_v20, val_main_v19, val_main_v30, val_main_v25, val_main_v29, val_main_v28, val_main_v27, val_main_v26]
  unfold conv
  exact congrArg (gate p b l r * ·) (congrArg₂ (· + ·) (congrArg₂ (· + ·)
    (congrArg (· * w (ix2 0 l)) (Cert.ConvRow.pad_prv (oper p b l) r (fun q => val_main_v11 (F := Ideal) p (ix3 b q l)) (pad_at p b l)))
    (congrArg (· * w (ix2 1 l)) (Cert.ConvRow.pad_mid (oper p b l) r (fun q => val_main_v11 (F := Ideal) p (ix3 b q l)) (pad_at p b l))))
    (congrArg (· * w (ix2 2 l)) (Cert.ConvRow.pad_nxt (oper p b l) r (fun q => val_main_v11 (F := Ideal) p (ix3 b q l)) (pad_at p b l))))

theorem idx : ∀ t : Fin grid0.N, win0_0.index t = ![t.val, 3] ∧ win0_1.index t = ![t.val, 4] ∧ win0_2.index t = ![t.val, 5]
    ∧ win0_3.index t = ![0, 0] ∧ win0_4.index t = ![t.val, 0] := by decide +kernel
theorem lt_N (t : Fin cfg0.N) : t.val < 4 := Nat.lt_of_lt_of_eq t.isLt (by decide +kernel)
abbrev seq (t : Fin cfg0.N) : Fin 4 := ⟨t.val, lt_N t⟩

theorem in0 (c : Dev nD) (t : Fin cfg0.N) (r : Fin 2048) (l : Fin 256) : (X0_0 m c t : S2048x256.Idx → EReal) (ix2 r l) = gate (arg0 m c) (seq t) l r := by
  have h := idx t
  unfold X0_0 Pipeline.Window.fill
  rw [dif_pos (moved0_0 t _)]
  blk_ext [iblk, V, h.1]
theorem in1 (c : Dev nD) (t : Fin cfg0.N) (r : Fin 2048) (l : Fin 256) : (X0_1 m c t : S2048x256.Idx → EReal) (ix2 r l) = arg0 m c (ix2 (row (seq t) r) ⟨1024 + l.val, by omega⟩) := by
  have h := idx t
  unfold X0_1 Pipeline.Window.fill
  rw [dif_pos (moved0_1 t _)]
  blk_ext [iblk, V, h.2.1]
theorem in2 (c : Dev nD) (t : Fin cfg0.N) (r : Fin 2048) (l : Fin 256) : (X0_2 m c t : S2048x256.Idx → EReal) (ix2 r l) = arg0 m c (ix2 (row (seq t) r) ⟨1280 + l.val, by omega⟩) := by
  have h := idx t
  unfold X0_2 Pipeline.Window.fill
  rw [dif_pos (moved0_2 t _)]
  blk_ext [iblk, V, h.2.2.1]
theorem in3 (c : Dev nD) (t : Fin cfg0.N) (k : Fin 3) (l : Fin 256) : (iblk m c 3 t : S3x256.Idx → EReal) (ix2 k l) = arg1 m c (ix2 k l) := by
  have h := idx t
  blk_ext [iblk, V, h.2.2.2.1]

/-- What one point writes. -/
theorem out_apply (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S3x256 .f32) (harg4 : arg4.IsWhole) (arg5 : Memref sig .tc .vmem S2048x256 .f32) (harg5 : arg5.IsWhole)
    (x0 x1 x2 : S2048x256.Idx → EReal) (x3 : S3x256.Idx → EReal) (r : Fin 2048) (l : Fin 256) :
    (out0_A_4 (F := Ideal) c i arg1 harg1 arg2 harg2 arg3 harg3 arg4 harg4 arg5 harg5 x0 x1 x2 x3 : S2048x256.Idx → EReal) (ix2 r l) =
      conv (fun r => x0 (ix2 r l)) (fun r => x1 (ix2 r l) * x2 (ix2 r l)) (fun k => x3 (ix2 k l)) r := by
  have hz : (![0, 0] : Fin 2 → Nat) = fun _ => 0 := funext fun a => by fin_cases a <;> rfl
  unfold out0_A_4
  rw [View.read_writes_eq_canon _ _ _ (fun y => cover0_A_4 (y := y) ..)]
  unfold kernelRun0_A
  dsimp only
  sl_unfold_words
  rw [View.canon_unit_zero hz]
  simp only [View.readAt_eq_ld, harg1.read_unread, harg2.read_unread, harg3.read_unread, harg4.read_unread, View.ld_unit_zero (S := S2048x256) hz]
  unfold_payloads
  pointwise []
  unfold conv
  exact congrArg (x0 (ix2 r l) * ·) (congrArg₂ (· + ·) (congrArg₂ (· + ·)
    ((Cert.ConvRow.sel_prv (by decide) (fun r => x1 (ix2 r l) * x2 (ix2 r l) * x3 (ix2 0 l)) r (Nat.mod_lt _ (by decide))).trans (Cert.ConvRow.prv_mul _ _ _)) rfl)
    ((Cert.ConvRow.sel_nxt 2047 rfl (by decide) (fun r => x1 (ix2 r l) * x2 (ix2 r l) * x3 (ix2 2 l)) r (Nat.mod_lt _ (by decide))).trans (Cert.ConvRow.nxt_mul _ _ _)))

theorem out_tile (c : Dev nD) (t : Fin cfg0.N) (r : Fin 2048) (l : Fin 256) :
    (outsAt0 m c t : S2048x256.Idx → EReal) (ix2 r l) =
      val_main_v33 (F := Ideal) (arg0 m c) (arg1 m c) (ix2 ⟨2048 * t.val + r.val, by have := lt_N t; omega⟩ l) := by
  have e : (val_main_v33 (F := Ideal) (arg0 m c) (arg1 m c) : S8192x256.Idx → EReal) (ix2 ⟨2048 * t.val + r.val, by have := lt_N t; omega⟩ l) =
      (val_main_v32 (F := Ideal) (arg0 m c) (arg1 m c) : (⟨3, ![4, 2048, 256]⟩ : Shape).Idx → EReal) (ix3 (seq t) r l) := by
    have e0 : ∀ h, (⟨(2048 * t.val + r.val) / 2048, h⟩ : Fin 4) = seq t := fun h => Fin.ext (by show (2048 * t.val + r.val) / 2048 = t.val; omega)
    have e1 : ∀ h, (⟨(2048 * t.val + r.val) % 2048, h⟩ : Fin 2048) = r := fun h => Fin.ext (by show (2048 * t.val + r.val) % 2048 = r.val; omega)
    pointwise [val_main_v33, e0, e1]
    rfl
  refine (out_apply _ _ _ _ _ _ _ _ _ _ _ _ _ _ _ _ _ _).trans (Eq.trans ?_ (e.trans (ref_at _ _ _ _ _)).symm)
  simp only [in0, in1, in2, in3]

/-- What the launch leaves. -/
theorem arr_res (c : Dev nD) : (dats m 0 c).arrAt 4 cfg0.N = val_main_v33 (F := Ideal) (arg0 m c) (arg1 m c) := by
  refine (dats m 0 c).arrAt_eq_of_covers 4 _ (by decide +kernel) fun t hf y => ?_
  blk_simp
  rw [after0_4]
  have h := idx t
  have e : ((win0_4.blk t).view.emb y : S8192x256.Idx) = ix2 ⟨2048 * t.val + (y 0).val, by have := lt_N t; have : (y 0).val < 2048 := (y 0).isLt; omega⟩ (y 1) := by
    blk_ext [h.2.2.2.2]
  exact (congrArg _ (eq_ix2 y)).trans ((out_tile m c t (y 0) (y 1)).trans (congrArg (val_main_v33 (F := Ideal) (arg0 m c) (arg1 m c)) e).symm)

/-- The launch and the reference leave the same array. -/
theorem tie : Cert.algebraic_Kernel45Ideal_Reference45Ideal (hKernel45Ideal := Cert.Kernel45Ideal.Gen.facts)
    (hReference45Ideal := Cert.Reference45Ideal.Gen.facts) := by
  intro m g m' g' _ hagree
  refine ⟨fun c => val_main_v33 (F := Ideal) (arg0 m c) (arg1 m c), ?_, ?_⟩
  · refine (θ_run _ _ _).mono (fun r h c => ?_) (Cert.Kernel45Ideal.Value.run_blocks (F := Ideal) m g)
    obtain ⟨h0, hk⟩ := h c
    exact ⟨h0.trans (arr_res m c), hk⟩
  · refine (θ_run _ _ _).mono (fun r h c => ?_) (Cert.Reference45Ideal.Value.run (F := Ideal) m' g')
    obtain ⟨h0, hk⟩ := h c
    obtain ⟨a0, a1⟩ := hagree c
    refine ⟨h0.trans ?_, hk⟩
    rw [val_main_v33_eq, a0, a1]

end Cert.ConvF45

end
-- ==== Proof.ConvF46.lean ====
module

public import proofs.«01_k».proof.Defs
public import proofs.«01_k».proof.Proof.ConvRow
public import proofs.«01_k».proof.Proof.Gen.Kernel46Ideal.Value
public import proofs.«01_k».proof.Proof.Gen.Reference46Ideal.Run
public import proofs.«01_k».proof.Proof.Gen.Reference46Ideal.Read

@[expose] public section

set_option maxRecDepth 16384

noncomputable section

open Idealize.ShloMosaic Idealize.ShloMosaic.TcCoe Idealize.SL.Sem
open Idealize.ShloMosaic.Pipeline (Dat)

/-! Program 46: the gated convolution of the context rows. -/

namespace Cert.ConvF46

open Cert.ConvRow (conv prv nxt)
open Cert.Kernel46Ideal Cert.Kernel46Ideal.Gen
open Cert.Reference46Ideal.Read

variable (m : (ℓ : Loc nD τ sig) → Buf (Elt Ideal) ℓ)

abbrev arg0 (c : Dev nD) : S9216x1792.Idx → EReal := m ((c : Thread nD τ).loc main_arg0)
abbrev arg1 (c : Dev nD) : S3x256.Idx → EReal := m ((c : Thread nD τ).loc main_arg1)

/-- The row of sequence `b`'s row `r`. -/
abbrev row (b : Fin 4) (r : Fin 256) : Fin 9216 := ⟨8192 + (b.val * 256 + r.val), by omega⟩
/-- The gate and the operand of the convolution, by columns. -/
abbrev gate (p : S9216x1792.Idx → EReal) (b : Fin 4) (l : Fin 256) (r : Fin 256) : EReal := p (ix2 (row b r) ⟨768 + l.val, by omega⟩)
abbrev oper (p : S9216x1792.Idx → EReal) (b : Fin 4) (l : Fin 256) (r : Fin 256) : EReal :=
  p (ix2 (row b r) ⟨1024 + l.val, by omega⟩) * p (ix2 (row b r) ⟨1280 + l.val, by omega⟩)

/-- The reference's operand, padded. -/
theorem pad_at (p : S9216x1792.Idx → EReal) (b : Fin 4) (l : Fin 256) (q : Fin (256 + 2)) :
    (val_main_v11 (F := Ideal) p : (⟨3, ![4, 258, 256]⟩ : Shape).Idx → EReal) (ix3 b q l) =
      if h : q.val = 0 ∨ q.val = 256 + 1 then 0 else oper p b l ⟨q.val - 1, by omega⟩ := by
  have h0 : ∀ i, (val_main_cst (F := Ideal) : (⟨0, ![]⟩ : Shape).Idx → EReal) i = 0 := fun i => by pointwise [val_main_cst]
  have hq := q.isLt
  pointwise [val_main_v11, val_main_v10, val_main_v9, val_main_v6, val_main_v1, val_main_v0, val_main_v7]
  by_cases a : q.val < 1
  · rw [dif_pos a, dif_pos (by omega)]; exact h0 _
  · rw [dif_neg a]
    by_cases e : q.val - 1 < 256
    · rw [dif_pos e, dif_neg (by omega)]
    · rw [dif_neg e, dif_pos (by omega)]; exact h0 _

/-- The reference's element. -/
theorem ref_at (p : S9216x1792.Idx → EReal) (w : S3x256.Idx → EReal) (b : Fin 4) (r : Fin 256) (l : Fin 256) :
    (val_main_v32 (F := Ideal) p w : (⟨3, ![4, 256, 256]⟩ : Shape).Idx → EReal) (ix3 b r l) = conv (gate p b l) (oper p b l) (fun k => w (ix2 k l)) r := by
  pointwise [val_main_v32, val_main_v5, val_main_v1, val_main_v0, val_main_v31, val_main_v24, val_main_v17, val_main_v12, val_main_v16, val_main_v15, val_main_v14, val_main_v13, val_main_v23, val_main_v18, val_main_v22, val_main_v21, val_main_v20, val_main_v19, val_main_v30, val_main_v25, val_main_v29, val_main_v28, val_main_v27, val_main_v26]
  unfold conv
  exact congrArg (gate p b l r * ·) (congrArg₂ (· + ·) (congrArg₂ (· + ·)
    (congrArg (· * w (ix2 0 l)) (Cert.ConvRow.pad_prv (oper p b l) r (fun q => val_main_v11 (F := Ideal) p (ix3 b q l)) (pad_at p b l)))
    (congrArg (· * w (ix2 1 l)) (Cert.ConvRow.pad_mid (oper p b l) r (fun q => val_main_v11 (F := Ideal) p (ix3 b q l)) (pad_at p b l))))
    (congrArg (· * w (ix2 2 l)) (Cert.ConvRow.pad_nxt (oper p b l) r (fun q => val_main_v11 (F := Ideal) p (ix3 b q l)) (pad_at p b l))))

theorem idx : ∀ t : Fin grid0.N, win0_0.index t = ![32 + t.val, 3] ∧ win0_1.index t = ![32 + t.val, 4] ∧ win0_2.index t = ![32 + t.val, 5]
    ∧ win0_3.index t = ![0, 0] ∧ win0_4.index t = ![t.val, 0] := by decide +kernel
theorem lt_N (t : Fin cfg0.N) : t.val < 4 := Nat.lt_of_lt_of_eq t.isLt (by decide +kernel)
abbrev seq (t : Fin cfg0.N) : Fin 4 := ⟨t.val, lt_N t⟩

theorem in0 (c : Dev nD) (t : Fin cfg0.N) (r : Fin 256) (l : Fin 256) : (iblk m c 0 t : S256x256.Idx → EReal) (ix2 r l) = gate (arg0 m c) (seq t) l r := by
  have h := idx t
  blk_ext [iblk, V, h.1]
theorem in1 (c : Dev nD) (t : Fin cfg0.N) (r : Fin 256) (l : Fin 256) : (iblk m c 1 t : S256x256.Idx → EReal) (ix2 r l) = arg0 m c (ix2 (row (seq t) r) ⟨1024 + l.val, by omega⟩) := by
  have h := idx t
  blk_ext [iblk, V, h.2.1]
theorem in2 (c : Dev nD) (t : Fin cfg0.N) (r : Fin 256) (l : Fin 256) : (iblk m c 2 t : S256x256.Idx → EReal) (ix2 r l) = arg0 m c (ix2 (row (seq t) r) ⟨1280 + l.val, by omega⟩) := by
  have h := idx t
  blk_ext [iblk, V, h.2.2.1]
theorem in3 (c : Dev nD) (t : Fin cfg0.N) (k : Fin 3) (l : Fin 256) : (iblk m c 3 t : S3x256.Idx → EReal) (ix2 k l) = arg1 m c (ix2 k l) := by
  have h := idx t
  blk_ext [iblk, V, h.2.2.2.1]

/-- What one point writes. -/
theorem out_apply (x0 x1 x2 : S256x256.Idx → EReal) (x3 : S3x256.Idx → EReal) (r : Fin 256) (l : Fin 256) :
    (out0_4 (F := Ideal) x0 x1 x2 x3 : S256x256.Idx → EReal) (ix2 r l) =
      conv (fun r => x0 (ix2 r l)) (fun r => x1 (ix2 r l) * x2 (ix2 r l)) (fun k => x3 (ix2 k l)) r := by
  frame_out
  unfold_payloads
  pointwise []
  unfold conv
  exact congrArg (x0 (ix2 r l) * ·) (congrArg₂ (· + ·) (congrArg₂ (· + ·)
    ((Cert.ConvRow.sel_prv (by decide) (fun r => x1 (ix2 r l) * x2 (ix2 r l) * x3 (ix2 0 l)) r (Nat.mod_lt _ (by decide))).trans (Cert.ConvRow.prv_mul _ _ _)) rfl)
    ((Cert.ConvRow.sel_nxt 255 rfl (by decide) (fun r => x1 (ix2 r l) * x2 (ix2 r l) * x3 (ix2 2 l)) r (Nat.mod_lt _ (by decide))).trans (Cert.ConvRow.nxt_mul _ _ _)))

theorem out_tile (c : Dev nD) (t : Fin cfg0.N) (r : Fin 256) (l : Fin 256) :
    (out0_4 (F := Ideal) (iblk m c 0 t) (iblk m c 1 t) (iblk m c 2 t) (iblk m c 3 t) : S256x256.Idx → EReal) (ix2 r l) =
      val_main_v33 (F := Ideal) (arg0 m c) (arg1 m c) (ix2 ⟨256 * t.val + r.val, by have := lt_N t; omega⟩ l) := by
  have e : (val_main_v33 (F := Ideal) (arg0 m c) (arg1 m c) : S1024x256.Idx → EReal) (ix2 ⟨256 * t.val + r.val, by have := lt_N t; omega⟩ l) =
      (val_main_v32 (F := Ideal) (arg0 m c) (arg1 m c) : (⟨3, ![4, 256, 256]⟩ : Shape).Idx → EReal) (ix3 (seq t) r l) := by
    have e0 : ∀ h, (⟨(256 * t.val + r.val) / 256, h⟩ : Fin 4) = seq t := fun h => Fin.ext (by show (256 * t.val + r.val) / 256 = t.val; omega)
    have e1 : ∀ h, (⟨(256 * t.val + r.val) % 256, h⟩ : Fin 256) = r := fun h => Fin.ext (by show (256 * t.val + r.val) % 256 = r.val; omega)
    pointwise [val_main_v33, e0, e1]
    rfl
  refine (out_apply _ _ _ _ _ _).trans (Eq.trans ?_ (e.trans (ref_at _ _ _ _ _)).symm)
  simp only [in0, in1, in2, in3]

/-- What the launch leaves. -/
theorem arr_res (c : Dev nD) : (dats m 0 c).arrAt 4 cfg0.N = val_main_v33 (F := Ideal) (arg0 m c) (arg1 m c) := by
  refine (dats m 0 c).arrAt_eq_of_covers 4 _ (by decide +kernel) fun t hf y => ?_
  blk_simp
  rw [after0_4]
  have h := idx t
  have e : ((win0_4.blk t).view.emb y : S1024x256.Idx) = ix2 ⟨256 * t.val + (y 0).val, by have := lt_N t; have : (y 0).val < 256 := (y 0).isLt; omega⟩ (y 1) := by
    blk_ext [h.2.2.2.2]
  exact (congrArg _ (eq_ix2 y)).trans ((out_tile m c t (y 0) (y 1)).trans (congrArg (val_main_v33 (F := Ideal) (arg0 m c) (arg1 m c)) e).symm)

/-- The launch and the reference leave the same array. -/
theorem tie : Cert.algebraic_Kernel46Ideal_Reference46Ideal (hKernel46Ideal := Cert.Kernel46Ideal.Gen.facts)
    (hReference46Ideal := Cert.Reference46Ideal.Gen.facts) := by
  intro m g m' g' _ hagree
  refine ⟨fun c => val_main_v33 (F := Ideal) (arg0 m c) (arg1 m c), ?_, ?_⟩
  · refine (θ_run _ _ _).mono (fun r h c => ?_) (Cert.Kernel46Ideal.Value.run_blocks (F := Ideal) m g)
    obtain ⟨h0, hk⟩ := h c
    exact ⟨h0.trans (arr_res m c), hk⟩
  · refine (θ_run _ _ _).mono (fun r h c => ?_) (Cert.Reference46Ideal.Value.run (F := Ideal) m' g')
    obtain ⟨h0, hk⟩ := h c
    obtain ⟨a0, a1⟩ := hagree c
    refine ⟨h0.trans ?_, hk⟩
    rw [val_main_v33_eq, a0, a1]

end Cert.ConvF46

end
-- ==== Proof.GateB47.lean ====
module

public import proofs.«01_k».proof.Defs
public import proofs.«01_k».proof.Proof.SegSum
public import proofs.«01_k».proof.Proof.Gen.Kernel47Ideal.Value
public import proofs.«01_k».proof.Proof.Gen.Reference47Ideal.Run
public import proofs.«01_k».proof.Proof.Gen.Reference47Ideal.Read
public import Idealize.ShloMosaic.Lib.Tactic
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

/-! Program 47: the gradients of the gated branch of the last layer, 8192 rows in blocks of 512. -/

namespace Cert.GateB47

open Cert.Norm38
open Cert.Kernel47Ideal Cert.Kernel47Ideal.Gen
open Cert.Reference47Ideal.Read

theorem hz3 : (![0, 0, 0] : Fin 3 → Nat) = fun _ => 0 := funext fun a => by fin_cases a <;> rfl

/-! ## What one point writes -/

section Point

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1x1024 .f32) (harg7 : arg7.IsWhole) (arg8 : Memref sig .tc .vmem S1x1024 .f32) (harg8 : arg8.IsWhole)
  (x0 : Vec Ideal S512x1024 .f32) (x1 : Vec Ideal S512x1024 .f32) (x2 : Vec Ideal S1x1x1024 .f32) (x3 : Vec Ideal S1x1024 .f32) (x4 : Vec Ideal S512x1024 .f32)

theorem out_A_5 (hc0 : cond0_0 i) (hc1 : cond0_1 i)  (a : Fin 512) (k : Fin 1024) :
    (out0_A_5 c i arg1 harg1 arg2 harg2 arg3 harg3 arg4 harg4 arg5 harg5 arg6 harg6 arg7 harg7 arg8 harg8 hc0 hc1 x0 x1 x2 x3 x4  : S512x1024.Idx → EReal) (ix2 a k) =
      rowDm (fun k => x1 (ix2 a k)) (fun k => x2 (ix3 0 0 k)) (fun k => x3 (ix2 0 k)) (fun k => x4 (ix2 a k)) k := by
  unfold out0_A_5
  rw [View.read_writes_eq_canon _ _ _ (fun y => cover0_A_5 (y := y) ..)]
  unfold kernelRun0_A
  dsimp only
  sl_unfold_words
  rw [View.canon_unit_zero Cert.Prod.hz]
  simp only [View.readAt_eq_ld, harg1.read_unread, harg2.read_unread, harg3.read_unread, harg4.read_unread, harg5.read_unread, harg6.read_unread, harg7.read_unread, harg8.read_unread, View.ld_unit_zero (S := S512x1024) Cert.Prod.hz, View.ld_unit_zero (S := S1x1024) Cert.Prod.hz, View.ld_unit_zero (S := S1x1x1024) hz3]
  unfold_payloads
  pointwise [rowDm, rowU, rowE, rs, ms]
theorem out_B_5 (hc0 : ¬cond0_0 i) (hc1 : ¬cond0_1 i) (y6 : Vec Ideal S1x1x1024 .f32) (y7 : Vec Ideal S1x1024 .f32) (a : Fin 512) (k : Fin 1024) :
    (out0_B_5 c i arg1 harg1 arg2 harg2 arg3 harg3 arg4 harg4 arg5 harg5 arg6 harg6 arg7 harg7 arg8 harg8 hc0 hc1 x0 x1 x2 x3 x4 y6 y7 : S512x1024.Idx → EReal) (ix2 a k) =
      rowDm (fun k => x1 (ix2 a k)) (fun k => x2 (ix3 0 0 k)) (fun k => x3 (ix2 0 k)) (fun k => x4 (ix2 a k)) k := by
  unfold out0_B_5
  rw [View.read_writes_eq_canon _ _ _ (fun y => cover0_B_5 (y := y) ..)]
  unfold kernelRun0_B
  dsimp only
  sl_unfold_words
  rw [View.canon_unit_zero Cert.Prod.hz]
  simp only [View.readAt_eq_ld, harg1.read_unread, harg2.read_unread, harg3.read_unread, harg4.read_unread, harg5.read_unread, harg6.read_unread, harg7.read_unread, harg8.read_unread, View.ld_unit_zero (S := S512x1024) Cert.Prod.hz, View.ld_unit_zero (S := S1x1024) Cert.Prod.hz, View.ld_unit_zero (S := S1x1x1024) hz3]
  unfold_payloads
  pointwise [rowDm, rowU, rowE, rs, ms]
theorem out_C_5 (hc0 : cond0_0 i) (hc1 : ¬cond0_1 i) (y7 : Vec Ideal S1x1024 .f32) (a : Fin 512) (k : Fin 1024) :
    (out0_C_5 c i arg1 harg1 arg2 harg2 arg3 harg3 arg4 harg4 arg5 harg5 arg6 harg6 arg7 harg7 arg8 harg8 hc0 hc1 x0 x1 x2 x3 x4 y7 : S512x1024.Idx → EReal) (ix2 a k) =
      rowDm (fun k => x1 (ix2 a k)) (fun k => x2 (ix3 0 0 k)) (fun k => x3 (ix2 0 k)) (fun k => x4 (ix2 a k)) k := by
  unfold out0_C_5
  rw [View.read_writes_eq_canon _ _ _ (fun y => cover0_C_5 (y := y) ..)]
  unfold kernelRun0_C
  dsimp only
  sl_unfold_words
  rw [View.canon_unit_zero Cert.Prod.hz]
  simp only [View.readAt_eq_ld, harg1.read_unread, harg2.read_unread, harg3.read_unread, harg4.read_unread, harg5.read_unread, harg6.read_unread, harg7.read_unread, harg8.read_unread, View.ld_unit_zero (S := S512x1024) Cert.Prod.hz, View.ld_unit_zero (S := S1x1024) Cert.Prod.hz, View.ld_unit_zero (S := S1x1x1024) hz3]
  unfold_payloads
  pointwise [rowDm, rowU, rowE, rs, ms]
theorem out_A_6 (hc0 : cond0_0 i) (hc1 : cond0_1 i)  (k : Fin 1024) :
    (out0_A_6 c i arg1 harg1 arg2 harg2 arg3 harg3 arg4 harg4 arg5 harg5 arg6 harg6 arg7 harg7 arg8 harg8 hc0 hc1 x0 x1 x2 x3 x4  : S1x1x1024.Idx → EReal) (ix3 0 0 k) =
      0 + ∑ a : Fin 512, rowDe (fun k => x1 (ix2 a k)) (fun k => x3 (ix2 0 k)) (fun k => x4 (ix2 a k)) k := by
  unfold out0_A_6
  rw [View.read_writes_eq_canon _ _ _ (fun y => cover0_A_6 (y := y) ..)]
  unfold kernelRun0_A
  dsimp only
  sl_unfold_words
  rw [View.canon_cons_unit_zero (S := S1x1x1024) hz3, View.readCov_unit_zero (S := S1x1x1024) _ hz3]
  simp only [View.readAt_eq_ld, harg1.read_unread, harg2.read_unread, harg3.read_unread, harg4.read_unread, harg5.read_unread, harg6.read_unread, harg7.read_unread, harg8.read_unread, View.ld_unit_zero (S := S512x1024) Cert.Prod.hz, View.ld_unit_zero (S := S1x1024) Cert.Prod.hz, View.ld_unit_zero (S := S1x1x1024) hz3]
  unfold_payloads
  pointwise [rowDe, rs, ms]
theorem out_B_6 (hc0 : ¬cond0_0 i) (hc1 : ¬cond0_1 i) (y6 : Vec Ideal S1x1x1024 .f32) (y7 : Vec Ideal S1x1024 .f32) (k : Fin 1024) :
    (out0_B_6 c i arg1 harg1 arg2 harg2 arg3 harg3 arg4 harg4 arg5 harg5 arg6 harg6 arg7 harg7 arg8 harg8 hc0 hc1 x0 x1 x2 x3 x4 y6 y7 : S1x1x1024.Idx → EReal) (ix3 0 0 k) =
      y6 (ix3 0 0 k) + ∑ a : Fin 512, rowDe (fun k => x1 (ix2 a k)) (fun k => x3 (ix2 0 k)) (fun k => x4 (ix2 a k)) k := by
  unfold out0_B_6
  rw [View.read_writes_eq_canon _ _ _ (fun y => cover0_B_6 (y := y) ..)]
  unfold kernelRun0_B
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, View.ld_unit_zero (S := S512x1024) Cert.Prod.hz, View.ld_unit_zero (S := S1x1024) Cert.Prod.hz, View.ld_unit_zero (S := S1x1x1024) hz3]
  unfold_payloads
  pointwise [rowDe, rs, ms]
theorem out_C_6 (hc0 : cond0_0 i) (hc1 : ¬cond0_1 i) (y7 : Vec Ideal S1x1024 .f32) (k : Fin 1024) :
    (out0_C_6 c i arg1 harg1 arg2 harg2 arg3 harg3 arg4 harg4 arg5 harg5 arg6 harg6 arg7 harg7 arg8 harg8 hc0 hc1 x0 x1 x2 x3 x4 y7 : S1x1x1024.Idx → EReal) (ix3 0 0 k) =
      0 + ∑ a : Fin 512, rowDe (fun k => x1 (ix2 a k)) (fun k => x3 (ix2 0 k)) (fun k => x4 (ix2 a k)) k := by
  unfold out0_C_6
  rw [View.read_writes_eq_canon _ _ _ (fun y => cover0_C_6 (y := y) ..)]
  unfold kernelRun0_C
  dsimp only
  sl_unfold_words
  rw [View.canon_cons_unit_zero (S := S1x1x1024) hz3, View.readCov_unit_zero (S := S1x1x1024) _ hz3]
  simp only [View.readAt_eq_ld, harg1.read_unread, harg2.read_unread, harg3.read_unread, harg4.read_unread, harg5.read_unread, harg6.read_unread, harg7.read_unread, harg8.read_unread, View.ld_unit_zero (S := S512x1024) Cert.Prod.hz, View.ld_unit_zero (S := S1x1024) Cert.Prod.hz, View.ld_unit_zero (S := S1x1x1024) hz3]
  unfold_payloads
  pointwise [rowDe, rs, ms]
theorem out_A_7 (hc0 : cond0_0 i) (hc1 : cond0_1 i)  (k : Fin 1024) :
    (out0_A_7 c i arg1 harg1 arg2 harg2 arg3 harg3 arg4 harg4 arg5 harg5 arg6 harg6 arg7 harg7 arg8 harg8 hc0 hc1 x0 x1 x2 x3 x4  : S1x1024.Idx → EReal) (ix2 0 k) =
      0 + ∑ a : Fin 512, rowDgm (fun k => x1 (ix2 a k)) (fun k => x2 (ix3 0 0 k)) (fun k => x4 (ix2 a k)) k := by
  unfold out0_A_7
  rw [View.read_writes_eq_canon _ _ _ (fun y => cover0_A_7 (y := y) ..)]
  unfold kernelRun0_A
  dsimp only
  sl_unfold_words
  rw [View.canon_cons_unit_zero (S := S1x1024) Cert.Prod.hz, View.readCov_unit_zero (S := S1x1024) _ Cert.Prod.hz]
  simp only [View.readAt_eq_ld, harg1.read_unread, harg2.read_unread, harg3.read_unread, harg4.read_unread, harg5.read_unread, harg6.read_unread, harg7.read_unread, harg8.read_unread, View.ld_unit_zero (S := S512x1024) Cert.Prod.hz, View.ld_unit_zero (S := S1x1024) Cert.Prod.hz, View.ld_unit_zero (S := S1x1x1024) hz3]
  unfold_payloads
  pointwise [rowDgm, rowE, rs, ms]
theorem out_B_7 (hc0 : ¬cond0_0 i) (hc1 : ¬cond0_1 i) (y6 : Vec Ideal S1x1x1024 .f32) (y7 : Vec Ideal S1x1024 .f32) (k : Fin 1024) :
    (out0_B_7 c i arg1 harg1 arg2 harg2 arg3 harg3 arg4 harg4 arg5 harg5 arg6 harg6 arg7 harg7 arg8 harg8 hc0 hc1 x0 x1 x2 x3 x4 y6 y7 : S1x1024.Idx → EReal) (ix2 0 k) =
      y7 (ix2 0 k) + ∑ a : Fin 512, rowDgm (fun k => x1 (ix2 a k)) (fun k => x2 (ix3 0 0 k)) (fun k => x4 (ix2 a k)) k := by
  unfold out0_B_7
  rw [View.read_writes_eq_canon _ _ _ (fun y => cover0_B_7 (y := y) ..)]
  unfold kernelRun0_B
  dsimp only
  sl_unfold_words
  rw [View.canon_unit_zero Cert.Prod.hz]
  simp only [View.readAt_eq_ld, harg1.read_unread, harg2.read_unread, harg3.read_unread, harg4.read_unread, harg5.read_unread, harg6.read_unread, harg7.read_unread, harg8.read_unread, View.ld_unit_zero (S := S512x1024) Cert.Prod.hz, View.ld_unit_zero (S := S1x1024) Cert.Prod.hz, View.ld_unit_zero (S := S1x1x1024) hz3]
  unfold_payloads
  pointwise [rowDgm, rowE, rs, ms]
theorem out_C_7 (hc0 : cond0_0 i) (hc1 : ¬cond0_1 i) (y7 : Vec Ideal S1x1024 .f32) (k : Fin 1024) :
    (out0_C_7 c i arg1 harg1 arg2 harg2 arg3 harg3 arg4 harg4 arg5 harg5 arg6 harg6 arg7 harg7 arg8 harg8 hc0 hc1 x0 x1 x2 x3 x4 y7 : S1x1024.Idx → EReal) (ix2 0 k) =
      y7 (ix2 0 k) + ∑ a : Fin 512, rowDgm (fun k => x1 (ix2 a k)) (fun k => x2 (ix3 0 0 k)) (fun k => x4 (ix2 a k)) k := by
  unfold out0_C_7
  rw [View.read_writes_eq_canon _ _ _ (fun y => cover0_C_7 (y := y) ..)]
  unfold kernelRun0_C
  dsimp only
  sl_unfold_words
  rw [View.canon_unit_zero Cert.Prod.hz]
  simp only [View.readAt_eq_ld, harg1.read_unread, harg2.read_unread, harg3.read_unread, harg4.read_unread, harg5.read_unread, harg6.read_unread, harg7.read_unread, harg8.read_unread, View.ld_unit_zero (S := S512x1024) Cert.Prod.hz, View.ld_unit_zero (S := S1x1024) Cert.Prod.hz, View.ld_unit_zero (S := S1x1x1024) hz3]
  unfold_payloads
  pointwise [rowDgm, rowE, rs, ms]

end Point

variable (m : (ℓ : Loc nD τ sig) → Buf (Elt Ideal) ℓ)

abbrev arg0 (c : Dev nD) : S8192x1024.Idx → EReal := m ((c : Thread nD τ).loc main_arg0)
abbrev arg1 (c : Dev nD) : S8192x1024.Idx → EReal := m ((c : Thread nD τ).loc main_arg1)
abbrev arg2 (c : Dev nD) : S4x1x1024.Idx → EReal := m ((c : Thread nD τ).loc main_arg2)
abbrev arg3 (c : Dev nD) : S1x1024.Idx → EReal := m ((c : Thread nD τ).loc main_arg3)
abbrev arg4 (c : Dev nD) : S8192x1024.Idx → EReal := m ((c : Thread nD τ).loc main_arg4)

theorem idx : ∀ t : Fin grid0.N, win0_0.index t = ![t.val, 0]
    ∧ win0_1.index t = ![t.val, 0]
    ∧ win0_2.index t = ![t.val / 4, 0, 0]
    ∧ win0_3.index t = ![0, 0]
    ∧ win0_4.index t = ![t.val, 0]
    ∧ win0_5.index t = ![t.val, 0]
    ∧ win0_6.index t = ![t.val / 4, 0, 0]
    ∧ win0_7.index t = ![0, 0] := by decide +kernel
theorem lt_N (t : Fin cfg0.N) : t.val < 16 := Nat.lt_of_lt_of_eq t.isLt (by decide +kernel)
/-- The row and the segment of a block's row. -/
abbrev tileRow (t : Fin cfg0.N) (a : Fin 512) : Fin 8192 := ⟨512 * t.val + a.val, by have := lt_N t; omega⟩
abbrev seg (t : Fin cfg0.N) : Fin 4 := ⟨t.val / 4, by have := lt_N t; omega⟩
theorem seg_row (t : Fin cfg0.N) (a : Fin 512) : (⟨(512 * t.val + a.val) / 2048, by have := lt_N t; omega⟩ : Fin 4) = seg t :=
  Fin.ext (by show (512 * t.val + a.val) / 2048 = t.val / 4; omega)

theorem in1 (c : Dev nD) (t : Fin cfg0.N) (a : Fin 512) (k : Fin 1024) : (iblk m c 1 t : S512x1024.Idx → EReal) (ix2 a k) = arg1 m c (ix2 (tileRow t a) k) := by
  have h := idx t
  blk_ext [iblk, V, h.2.1]
theorem in2 (c : Dev nD) (t : Fin cfg0.N) (k : Fin 1024) : (iblk m c 2 t : S1x1x1024.Idx → EReal) (ix3 0 0 k) = arg2 m c (ix3 (seg t) 0 k) := by
  have h := idx t
  blk_ext [iblk, V, h.2.2.1]
theorem in3 (c : Dev nD) (t : Fin cfg0.N) (k : Fin 1024) : (iblk m c 3 t : S1x1024.Idx → EReal) (ix2 0 k) = arg3 m c (ix2 0 k) := by
  have h := idx t
  blk_ext [iblk, V, h.2.2.2.1]
theorem in4 (c : Dev nD) (t : Fin cfg0.N) (a : Fin 512) (k : Fin 1024) : (iblk m c 4 t : S512x1024.Idx → EReal) (ix2 a k) = arg4 m c (ix2 (tileRow t a) k) := by
  have h := idx t
  blk_ext [iblk, V, h.2.2.2.2.1]

/-! ## The reference -/

section Ref

variable (x0 : S8192x1024.Idx → EReal) (x1 : S8192x1024.Idx → EReal) (x2 : S4x1x1024.Idx → EReal) (x3 : S1x1024.Idx → EReal) (x4 : S8192x1024.Idx → EReal)

theorem v47_at (b : Fin 4) (n : Fin 2048) (k : Fin 1024) : val_main_v47 (F := Ideal) x1 x2 x3 x4 (ix3 b n k) =
    rowDm (fun k => x1 (ix2 (segRow b n) k)) (fun k => x2 (ix3 b 0 k)) (fun k => x3 (ix2 0 k)) (fun k => x4 (ix2 (segRow b n) k)) k := by
  pointwise [val_main_v47, val_main_v45, val_main_v38, val_main_v32, val_main_v24, val_main_v23, val_main_v3, val_main_v1, val_main_v22, val_main_v31, val_main_v17, val_main_v2, val_main_v37, val_main_v11, val_main_v10, val_main_v8, val_main_v6, val_main_v5, val_main_v4, val_main_v0, val_main_cst, val_main_v7, val_main_cst_0, val_main_v9, val_main_cst_1, val_main_v44, val_main_v43, val_main_v42, val_main_v41, val_main_v39, val_main_v36, val_main_v35, val_main_v34, val_main_cst_6, val_main_v14, val_main_v13, val_main_cst_2, val_main_v12, val_main_v40, val_main_cst_7, val_main_cst_8, val_main_v46, rowDm, rowU, rowE, rs, ms]
theorem v50_at (r : Fin 8192) (k : Fin 1024) : val_main_v50 (F := Ideal) x1 x2 x3 x4 (ix2 r k) =
    rowDm (fun k => x1 (ix2 r k)) (fun k => x2 (ix3 ⟨r.val / 2048, by omega⟩ 0 k)) (fun k => x3 (ix2 0 k)) (fun k => x4 (ix2 r k)) k := by
  have h : val_main_v50 (F := Ideal) x1 x2 x3 x4 (ix2 r k) = val_main_v47 (F := Ideal) x1 x2 x3 x4 (ix3 ⟨r.val / 2048, by omega⟩ ⟨r.val % 2048, by omega⟩ k) := by
    pointwise [val_main_v50, val_main_v49]
  rw [h, v47_at, segRow_eq]
theorem v25_at (b : Fin 4) (n : Fin 2048) (k : Fin 1024) : val_main_v25 (F := Ideal) x1 x3 x4 (ix3 b n k) =
    rowDe (fun k => x1 (ix2 (segRow b n) k)) (fun k => x3 (ix2 0 k)) (fun k => x4 (ix2 (segRow b n) k)) k := by
  pointwise [val_main_v25, val_main_v22, val_main_v19, val_main_v16, val_main_v0, val_main_v15, val_main_v11, val_main_v10, val_main_v8, val_main_v6, val_main_v5, val_main_v4, val_main_cst, val_main_v7, val_main_cst_0, val_main_v9, val_main_cst_1, val_main_v18, val_main_v17, val_main_v2, rowDe, rs, ms]
theorem v51_at (b : Fin 4) (k : Fin 1024) : val_main_v51 (F := Ideal) x1 x3 x4 (ix3 b 0 k) =
    ∑ n : Fin 2048, rowDe (fun k => x1 (ix2 (segRow b n) k)) (fun k => x3 (ix2 0 k)) (fun k => x4 (ix2 (segRow b n) k)) k := by
  pointwise [val_main_v51, val_main_v48, val_main_v27, val_main_v26, val_main_cst_3, val_main_cst_9, v25_at]
  simp only [Fin.sum_univ_one]
theorem v28_at (b : Fin 4) (n : Fin 2048) (k : Fin 1024) : val_main_v28 (F := Ideal) x1 x2 x4 (ix3 b n k) =
    rowDgm (fun k => x1 (ix2 (segRow b n) k)) (fun k => x2 (ix3 b 0 k)) (fun k => x4 (ix2 (segRow b n) k)) k := by
  pointwise [val_main_v28, val_main_v16, val_main_v0, val_main_v15, val_main_v11, val_main_v10, val_main_v8, val_main_v6, val_main_v5, val_main_v4, val_main_cst, val_main_v7, val_main_cst_0, val_main_v9, val_main_cst_1, val_main_v24, val_main_v23, val_main_v3, val_main_v1, val_main_v22, rowDgm, rowE, rs, ms]
theorem v52_at (k : Fin 1024) : val_main_v52 (F := Ideal) x1 x2 x4 (ix2 0 k) =
    ∑ b : Fin 4, ∑ n : Fin 2048, rowDgm (fun k => x1 (ix2 (segRow b n) k)) (fun k => x2 (ix3 b 0 k)) (fun k => x4 (ix2 (segRow b n) k)) k := by
  pointwise [val_main_v52, val_main_v33, val_main_v30, val_main_v29, val_main_cst_4, val_main_cst_5, v28_at, sum01]
  simp only [Fin.sum_univ_one]

end Ref

/-! ## What the launch leaves -/

theorem rows_tile (c : Dev nD) (t : Fin cfg0.N) (a : Fin 512) (k : Fin 1024) :
    ((outsAt0 m c t.val t.isLt).1 : S512x1024.Idx → EReal) (ix2 a k) = val_main_v50 (F := Ideal) (arg1 m c) (arg2 m c) (arg3 m c) (arg4 m c) (ix2 (tileRow t a) k) := by
  have ht := lt_N t
  refine Eq.trans ?_ (v50_at _ _ _ _ _ _).symm
  by_cases h0 : t.val % 4 = 0
  · by_cases h1 : t.val % 16 = 0
    · rw [outsAt0_A m c t h0 h1]
      dsimp only
      rw [out_A_5]
      simp only [in1, in2, in3, in4, seg_row]
    · rw [outsAt0_C m c t h0 h1]
      dsimp only
      rw [out_C_5]
      simp only [in1, in2, in3, in4, seg_row]
  · have h1 : ¬ t.val % 16 = 0 := by omega
    rw [outsAt0_B m c t h0 h1]
    dsimp only
    rw [out_B_5]
    simp only [in1, in2, in3, in4, seg_row]

theorem arr_5 (c : Dev nD) : (dats m 0 c).arrAt 5 cfg0.N = val_main_v50 (F := Ideal) (arg1 m c) (arg2 m c) (arg3 m c) (arg4 m c) := by
  refine (dats m 0 c).arrAt_eq_of_covers 5 _ (by decide +kernel) fun t hf y => ?_
  blk_simp
  rw [after0_5]
  have h := idx t
  have e : ((win0_5.blk t).view.emb y : S8192x1024.Idx) = ix2 (tileRow t (y 0)) (y 1) := by
    blk_ext [h.2.2.2.2.2.1]
  exact (congrArg _ (eq_ix2 y)).trans ((rows_tile m c t (y 0) (y 1)).trans (congrArg (val_main_v50 (F := Ideal) (arg1 m c) (arg2 m c) (arg3 m c) (arg4 m c)) e).symm)

/-- A row's share of result 1. -/
def T6 (c : Dev nD) (k : Fin 1024) (r : Fin 8192) : EReal := rowDe (fun k => arg1 m c (ix2 r k)) (fun k => arg3 m c (ix2 0 k)) (fun k => arg4 m c (ix2 r k)) k

theorem first_6 (c : Dev nD) (t : Fin cfg0.N) (h0 : t.val % 4 = 0) (k : Fin 1024) :
    ((outsAt0 m c t.val t.isLt).2.1 : S1x1x1024.Idx → EReal) (ix3 0 0 k) = 0 + ∑ a : Fin 512, T6 m c k (tileRow t a) := by
  by_cases h1 : t.val % 16 = 0
  · rw [outsAt0_A m c t h0 h1]
    dsimp only
    rw [out_A_6]
    simp only [T6, in1, in2, in3, in4, seg_row]
  · rw [outsAt0_C m c t h0 h1]
    dsimp only
    rw [out_C_6]
    simp only [T6, in1, in2, in3, in4, seg_row]
theorem next_6 (c : Dev nD) (t : Fin cfg0.N) (h0 : ¬ t.val % 4 = 0) (k : Fin 1024) :
    ((outsAt0 m c t.val t.isLt).2.1 : S1x1x1024.Idx → EReal) (ix3 0 0 k) =
      ((outsAt0 m c (t.val - 1) (Nat.lt_of_le_of_lt (Nat.sub_le _ _) t.isLt)).2.1 : S1x1x1024.Idx → EReal) (ix3 0 0 k) + ∑ a : Fin 512, T6 m c k (tileRow t a) := by
  have h1 : ¬ t.val % 16 = 0 := by omega
  rw [outsAt0_B m c t h0 h1]
  dsimp only
  rw [out_B_6]
  simp only [T6, in1, in2, in3, in4, seg_row]
theorem sum_6 (c : Dev nD) (t : Fin cfg0.N) (ht : t.val % 4 = 3) (k : Fin 1024) :
    ((outsAt0 m c t.val t.isLt).2.1 : S1x1x1024.Idx → EReal) (ix3 0 0 k) = ∑ n : Fin 2048, T6 m c k (segRow (seg t) n) := by
  have hN := lt_N t
  have ey : ∀ j : S1x1x1024.Idx, j = ix3 0 0 (j 2) := fun j => by blk_ext []
  rw [Pipeline.eq_sum_fin_of_reset_step_apply_of_flush (fun n h => ((outsAt0 m c n h).2.1 : S1x1x1024.Idx → EReal)) 4 (fun _ => 0)
    (fun s j => ∑ a : Fin 512, T6 m c (j 2) (tileRow s a))
    (fun t h j => (congrArg _ (ey j)).trans (first_6 m c t h (j 2)))
    (fun t h j => (congrArg _ (ey j)).trans ((next_6 m c t h (j 2)).trans (congrArg (fun z : EReal => z + _) (congrArg _ (ey j).symm)))) t ht (ix3 0 0 k), zero_add]
  exact blocks_seg (T6 m c k) (seg t)
theorem arr_6 (c : Dev nD) : (dats m 0 c).arrAt 6 cfg0.N = val_main_v51 (F := Ideal) (arg1 m c) (arg3 m c) (arg4 m c) := by
  refine (dats m 0 c).arrAt_eq_of_covers 6 _ (by decide +kernel) fun t hf y => ?_
  blk_simp
  rw [after0_6]
  have h := idx t
  have e : ((win0_6.blk t).view.emb y : S4x1x1024.Idx) = ix3 (seg t) 0 (y 2) := by
    blk_ext [h.2.2.2.2.2.2.1]
  have ey : y = ix3 0 0 (y 2) := by
    blk_ext []
  refine Eq.trans ?_ ((congrArg (val_main_v51 (F := Ideal) (arg1 m c) (arg3 m c) (arg4 m c)) e).trans (v51_at _ _ _ (seg t) (y 2))).symm
  refine (congrArg _ ey).trans ((sum_6 m c t ((flush0_6 t).mp hf) (y 2)).trans ?_)
  refine Finset.sum_congr rfl fun n _ => ?_
  simp only [T6, segRow_seg]

/-- A row's share of result 2. -/
def T7 (c : Dev nD) (k : Fin 1024) (r : Fin 8192) : EReal := rowDgm (fun k => arg1 m c (ix2 r k)) (fun k => arg2 m c (ix3 ⟨r.val / 2048, by omega⟩ 0 k)) (fun k => arg4 m c (ix2 r k)) k

theorem first_7 (c : Dev nD) (t : Fin cfg0.N) (h1 : t.val % 16 = 0) (k : Fin 1024) :
    ((outsAt0 m c t.val t.isLt).2.2 : S1x1024.Idx → EReal) (ix2 0 k) = 0 + ∑ a : Fin 512, T7 m c k (tileRow t a) := by
  have h0 : t.val % 4 = 0 := by omega
  rw [outsAt0_A m c t h0 h1]
  dsimp only
  rw [out_A_7]
  simp only [T7, in1, in2, in3, in4, seg_row]
theorem next_7 (c : Dev nD) (t : Fin cfg0.N) (h1 : ¬ t.val % 16 = 0) (k : Fin 1024) :
    ((outsAt0 m c t.val t.isLt).2.2 : S1x1024.Idx → EReal) (ix2 0 k) =
      ((outsAt0 m c (t.val - 1) (Nat.lt_of_le_of_lt (Nat.sub_le _ _) t.isLt)).2.2 : S1x1024.Idx → EReal) (ix2 0 k) + ∑ a : Fin 512, T7 m c k (tileRow t a) := by
  by_cases h0 : t.val % 4 = 0
  · rw [outsAt0_C m c t h0 h1]
    dsimp only
    rw [out_C_7]
    simp only [T7, in1, in2, in3, in4, seg_row]
  · rw [outsAt0_B m c t h0 h1]
    dsimp only
    rw [out_B_7]
    simp only [T7, in1, in2, in3, in4, seg_row]
theorem sum_7 (c : Dev nD) (t : Fin cfg0.N) (ht : t.val % 16 = 15) (k : Fin 1024) :
    ((outsAt0 m c t.val t.isLt).2.2 : S1x1024.Idx → EReal) (ix2 0 k) = ∑ b : Fin 4, ∑ n : Fin 2048, T7 m c k (segRow b n) := by
  have hN := lt_N t
  have ey : ∀ j : S1x1024.Idx, j = ix2 0 (j 1) := fun j => by blk_ext []
  rw [Pipeline.eq_sum_fin_of_reset_step_apply_of_flush (fun n h => ((outsAt0 m c n h).2.2 : S1x1024.Idx → EReal)) 16 (fun _ => 0)
    (fun s j => ∑ a : Fin 512, T7 m c (j 1) (tileRow s a))
    (fun t h j => (congrArg _ (ey j)).trans (first_7 m c t h (j 1)))
    (fun t h j => (congrArg _ (ey j)).trans ((next_7 m c t h (j 1)).trans (congrArg (fun z : EReal => z + _) (congrArg _ (ey j).symm)))) t ht (ix2 0 k), zero_add]
  refine Eq.trans (Finset.sum_congr rfl fun s _ => Finset.sum_congr rfl fun a _ => ?_) (blocks_all (T7 m c k))
  exact congrArg (T7 m c k) (Fin.ext (by show 512 * (16 * (t.val / 16) + s.val) + a.val = 512 * s.val + a.val; omega))
theorem arr_7 (c : Dev nD) : (dats m 0 c).arrAt 7 cfg0.N = val_main_v52 (F := Ideal) (arg1 m c) (arg2 m c) (arg4 m c) := by
  refine (dats m 0 c).arrAt_eq_of_covers 7 _ (by decide +kernel) fun t hf y => ?_
  blk_simp
  rw [after0_7]
  have h := idx t
  have e : ((win0_7.blk t).view.emb y : S1x1024.Idx) = ix2 0 (y 1) := by
    blk_ext [h.2.2.2.2.2.2.2]
  have ey : y = ix2 0 (y 1) := by
    blk_ext []
  refine Eq.trans ?_ ((congrArg (val_main_v52 (F := Ideal) (arg1 m c) (arg2 m c) (arg4 m c)) e).trans (v52_at _ _ _ (y 1))).symm
  refine (congrArg _ ey).trans ((sum_7 m c t ((flush0_7 t).mp hf) (y 1)).trans ?_)
  refine Finset.sum_congr rfl fun b _ => Finset.sum_congr rfl fun n _ => ?_
  simp only [T7, segRow_seg]

/-- The launch and the reference leave the same arrays. -/
theorem tie : Cert.algebraic_Kernel47Ideal_Reference47Ideal (hKernel47Ideal := Cert.Kernel47Ideal.Gen.facts)
    (hReference47Ideal := Cert.Reference47Ideal.Gen.facts) := by
  intro m g m' g' _ hagree
  refine ⟨fun c => val_main_v50 (F := Ideal) (arg1 m c) (arg2 m c) (arg3 m c) (arg4 m c), fun c => val_main_v51 (F := Ideal) (arg1 m c) (arg3 m c) (arg4 m c), fun c => val_main_v52 (F := Ideal) (arg1 m c) (arg2 m c) (arg4 m c), ?_, ?_⟩
  · refine (θ_run _ _ _).mono (fun r h c => ?_) (Cert.Kernel47Ideal.Value.run_blocks (F := Ideal) m g)
    obtain ⟨h0, h1, h2, hk⟩ := h c
    exact ⟨h0.trans (arr_5 m c), h1.trans (arr_6 m c), h2.trans (arr_7 m c), hk⟩
  · refine (θ_run _ _ _).mono (fun r h c => ?_) (Cert.Reference47Ideal.Value.run (F := Ideal) m' g')
    obtain ⟨h0, h1, h2, hk⟩ := h c
    obtain ⟨a0, a1, a2, a3, a4⟩ := hagree c
    refine ⟨h0.trans ?_, h1.trans ?_, h2.trans ?_, hk⟩
    · rw [val_main_v50_eq, a1, a2, a3, a4]
    · rw [val_main_v51_eq, a1, a3, a4]
    · rw [val_main_v52_eq, a1, a2, a4]

end Cert.GateB47

end
-- ==== Proof.Glu49.lean ====
module

public import proofs.«01_k».proof.Defs
public import Idealize.ShloMosaic.Lib.Pointwise
public import Idealize.ShloMosaic.Lib.Claim
public import Idealize.ShloMosaic.Lib.Pipeline.ValueKit
public import proofs.«01_k».proof.Proof.Gen.Kernel49Ideal.Value
public import proofs.«01_k».proof.Proof.Gen.Reference49Ideal.Run
public import proofs.«01_k».proof.Proof.Gen.Reference49Ideal.Read

@[expose] public section

set_option maxRecDepth 16384

noncomputable section

open Idealize.ShloMosaic Idealize.ShloMosaic.TcCoe Idealize.SL.Sem
open Idealize.ShloMosaic.Pipeline (Dat)

/-! Program 49: the gate after S5. -/

namespace Cert.Glu49

open Cert.Kernel49Ideal Cert.Kernel49Ideal.Gen
open Cert.Reference49Ideal.Read

variable (m : (ℓ : Loc nD τ sig) → Buf (Elt Ideal) ℓ)

abbrev arg0 (c : Dev nD) : S9216x256.Idx → EReal := m ((c : Thread nD τ).loc main_arg0)
abbrev arg1 (c : Dev nD) : S9216x256.Idx → EReal := m ((c : Thread nD τ).loc main_arg1)
abbrev arg2 (c : Dev nD) : S9216x256.Idx → EReal := m ((c : Thread nD τ).loc main_arg2)
abbrev arg3 (c : Dev nD) : S1x256.Idx → EReal := m ((c : Thread nD τ).loc main_arg3)
abbrev arg4 (c : Dev nD) : S256x256.Idx → EReal := m ((c : Thread nD τ).loc main_arg4)
abbrev arg5 (c : Dev nD) : S1x256.Idx → EReal := m ((c : Thread nD τ).loc main_arg5)

/-- The tanh form of gelu. -/
def gelu (y : EReal) : EReal :=
  Ideal.ofBits .f32 0x3F000000#32 * y * (Ideal.ofBits .f32 0x3F800000#32
    + Ideal.tanh (Ideal.ofBits .f32 0x3F4C422A#32 * (y + Ideal.ofBits .f32 0x3D372713#32 * (y * y * y))))
/-- A row before the gate: `a` and `b` the two directions' outputs, `u` the input and `d` its weight, -/
def rowY (a b u d : Fin 256 → EReal) (k : Fin 256) : EReal := gelu (a k + b k + d k * u k)
/-- and after it. -/
def rowO (y : Fin 256 → EReal) (w : Fin 256 → Fin 256 → EReal) (b : Fin 256 → EReal) (k : Fin 256) : EReal :=
  y k * Ideal.div (Ideal.ofBits .f32 0x3F800000#32) (Ideal.ofBits .f32 0x3F800000#32 + Ideal.exp (-(∑ x, y x * w x k + b k)))

/-- The reference's gelu, -/
theorem gelu_at (x0 x1 x2 : S9216x256.Idx → EReal) (x3 : S1x256.Idx → EReal) (r : Fin 9216) (k : Fin 256) :
    (val_main_v18 (F := Ideal) x0 x1 x2 x3 : S9216x256.Idx → EReal) (ix2 r k) =
      rowY (fun k => x0 (ix2 r k)) (fun k => x1 (ix2 r k)) (fun k => x2 (ix2 r k)) (fun k => x3 (ix2 0 k)) k := by
  pointwise [val_main_v18, val_main_v5, val_main_v0, val_main_v4, val_main_v3, val_main_v2, val_main_v1, val_main_v17, val_main_v16, val_main_cst_2, val_main_v15, val_main_v14, val_main_cst_1, val_main_v13, val_main_v12, val_main_v11, val_main_cst_0, val_main_v10, val_main_v9, val_main_v8, val_main_cst, val_main_v7, val_main_v6, rowY, gelu]
  exact (mul_left_comm _ _ _).trans (mul_assoc _ _ _).symm
/-- and its element. -/
theorem ref_at (x0 x1 x2 : S9216x256.Idx → EReal) (x3 : S1x256.Idx → EReal) (x4 : S256x256.Idx → EReal) (x5 : S1x256.Idx → EReal) (r : Fin 9216) (k : Fin 256) :
    (val_main_v30 (F := Ideal) x0 x1 x2 x3 x4 x5 : S9216x256.Idx → EReal) (ix2 r k) =
      rowO (rowY (fun k => x0 (ix2 r k)) (fun k => x1 (ix2 r k)) (fun k => x2 (ix2 r k)) (fun k => x3 (ix2 0 k))) (fun j k => x4 (ix2 j k)) (fun k => x5 (ix2 0 k)) k := by
  pointwise [val_main_v30, val_main_v29, val_main_v28, val_main_cst_4, val_main_v27, val_main_v26, val_main_cst_3, val_main_v25, val_main_v24, val_main_v23, val_main_v19, val_main_v22, val_main_v21, val_main_v20, gelu_at, rowO]

theorem idx : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0] := by decide +kernel
theorem lt_N (t : Fin cfg0.N) : t.val < 18 := Nat.lt_of_lt_of_eq t.isLt (by decide +kernel)
abbrev tileRow (t : Fin cfg0.N) (a : Fin 512) : Fin 9216 := ⟨512 * t.val + a.val, by have := lt_N t; omega⟩

theorem in0 (c : Dev nD) (t : Fin cfg0.N) (a : Fin 512) (k : Fin 256) : (iblk m c 0 t : S512x256.Idx → EReal) (ix2 a k) = arg0 m c (ix2 (tileRow t a) k) := by
  have h := idx t
  blk_ext [iblk, V, h.1]
theorem in1 (c : Dev nD) (t : Fin cfg0.N) (a : Fin 512) (k : Fin 256) : (iblk m c 1 t : S512x256.Idx → EReal) (ix2 a k) = arg1 m c (ix2 (tileRow t a) k) := by
  have h := idx t
  blk_ext [iblk, V, h.2.1]
theorem in2 (c : Dev nD) (t : Fin cfg0.N) (a : Fin 512) (k : Fin 256) : (iblk m c 2 t : S512x256.Idx → EReal) (ix2 a k) = arg2 m c (ix2 (tileRow t a) k) := by
  have h := idx t
  blk_ext [iblk, V, h.2.2.1]
theorem in3 (c : Dev nD) (t : Fin cfg0.N) (k : Fin 256) : (iblk m c 3 t : S1x256.Idx → EReal) (ix2 0 k) = arg3 m c (ix2 0 k) := by
  have h := idx t
  blk_ext [iblk, V, h.2.2.2.1]
theorem in4 (c : Dev nD) (t : Fin cfg0.N) (j k : Fin 256) : (iblk m c 4 t : S256x256.Idx → EReal) (ix2 j k) = arg4 m c (ix2 j k) := by
  have h := idx t
  blk_ext [iblk, V, h.2.2.2.2.1]
theorem in5 (c : Dev nD) (t : Fin cfg0.N) (k : Fin 256) : (iblk m c 5 t : S1x256.Idx → EReal) (ix2 0 k) = arg5 m c (ix2 0 k) := by
  have h := idx t
  blk_ext [iblk, V, h.2.2.2.2.2.1]

/-- What one point writes. -/
theorem out_apply (x0 x1 x2 : S512x256.Idx → EReal) (x3 : S1x256.Idx → EReal) (x4 : S256x256.Idx → EReal) (x5 : S1x256.Idx → EReal) (a : Fin 512) (k : Fin 256) :
    (out0_6 (F := Ideal) x0 x1 x2 x3 x4 x5 : S512x256.Idx → EReal) (ix2 a k) =
      rowO (rowY (fun k => x0 (ix2 a k)) (fun k => x1 (ix2 a k)) (fun k => x2 (ix2 a k)) (fun k => x3 (ix2 0 k))) (fun j k => x4 (ix2 j k)) (fun k => x5 (ix2 0 k)) k := by
  frame_out
  unfold_payloads
  pointwise [rowO, rowY, gelu]
  simp only [zero_sub]

theorem out_tile (c : Dev nD) (t : Fin cfg0.N) (a : Fin 512) (k : Fin 256) :
    (out0_6 (F := Ideal) (iblk m c 0 t) (iblk m c 1 t) (iblk m c 2 t) (iblk m c 3 t) (iblk m c 4 t) (iblk m c 5 t) : S512x256.Idx → EReal) (ix2 a k) =
      val_main_v30 (F := Ideal) (arg0 m c) (arg1 m c) (arg2 m c) (arg3 m c) (arg4 m c) (arg5 m c) (ix2 (tileRow t a) k) := by
  refine (out_apply _ _ _ _ _ _ _ _).trans (Eq.trans ?_ (ref_at _ _ _ _ _ _ _ _).symm)
  simp only [in0, in1, in2, in3, in4, in5]

/-- What the launch leaves. -/
theorem arr_res (c : Dev nD) : (dats m 0 c).arrAt 6 cfg0.N = val_main_v30 (F := Ideal) (arg0 m c) (arg1 m c) (arg2 m c) (arg3 m c) (arg4 m c) (arg5 m c) := by
  refine (dats m 0 c).arrAt_eq_of_covers 6 _ (by decide +kernel) fun t hf y => ?_
  blk_simp
  rw [after0_6]
  have h := idx t
  have e : ((win0_6.blk t).view.emb y : S9216x256.Idx) = ix2 (tileRow t (y 0)) (y 1) := by
    blk_ext [h.2.2.2.2.2.2]
  exact (congrArg _ (eq_ix2 y)).trans ((out_tile m c t (y 0) (y 1)).trans (congrArg (val_main_v30 (F := Ideal) (arg0 m c) (arg1 m c) (arg2 m c) (arg3 m c) (arg4 m c) (arg5 m c)) e).symm)

/-- The launch and the reference leave the same array. -/
theorem tie : Cert.algebraic_Kernel49Ideal_Reference49Ideal (hKernel49Ideal := Cert.Kernel49Ideal.Gen.facts)
    (hReference49Ideal := Cert.Reference49Ideal.Gen.facts) := by
  intro m g m' g' _ hagree
  refine ⟨fun c => val_main_v30 (F := Ideal) (arg0 m c) (arg1 m c) (arg2 m c) (arg3 m c) (arg4 m c) (arg5 m c), ?_, ?_⟩
  · refine (θ_run _ _ _).mono (fun r h c => ?_) (Cert.Kernel49Ideal.Value.run_blocks (F := Ideal) m g)
    obtain ⟨h0, hk⟩ := h c
    exact ⟨h0.trans (arr_res m c), hk⟩
  · refine (θ_run _ _ _).mono (fun r h c => ?_) (Cert.Reference49Ideal.Value.run (F := Ideal) m' g')
    obtain ⟨h0, hk⟩ := h c
    obtain ⟨a0, a1, a2, a3, a4, a5⟩ := hagree c
    refine ⟨h0.trans ?_, hk⟩
    rw [val_main_v30_eq, a0, a1, a2, a3, a4, a5]

end Cert.Glu49

end
-- ==== Proof.RopeT50.lean ====
module

public import proofs.«01_k».proof.Defs
public import proofs.«01_k».proof.Proof.Gen.Reference50Ideal.Run
public import proofs.«01_k».proof.Proof.Gen.Reference50Ideal.Read
public import Idealize.ShloMosaic.Lib.Pointwise

@[expose] public section

set_option maxRecDepth 16384

noncomputable section

open Idealize.ShloMosaic Idealize.ShloMosaic.TcCoe Idealize.SL.Sem

/-! Program 50: the rotary embedding, the reference. -/

namespace Cert.Rope50

open Cert.Reference50Ideal.Read Cert.Reference50Ideal

/-- The angles' cosines and sines, by token and pair. -/
abbrev ct : S2048x32.Idx → EReal := val_main_v35 (F := Ideal)
abbrev st : S2048x32.Idx → EReal := val_main_v36 (F := Ideal)

/-- The pair of column `j`. -/
def pr (j : ℕ) : Fin 32 := ⟨j % 64 / 32 * 16 + j % 16, by omega⟩

/-- A pair's columns turned by its angle: column `j` of row `t`, read from column `o + j` of `x`. -/
def rot (x : S9216x1792.Idx → EReal) (R : Fin 8192) (o j : ℕ) (h : o + j < 1000) : EReal :=
  if j % 32 < 16 then
    x (ix2 ⟨R.val, by omega⟩ ⟨o + j, by omega⟩) * ct (ix2 ⟨R.val % 2048, by omega⟩ (pr j)) - x (ix2 ⟨R.val, by omega⟩ ⟨o + j + 16, by omega⟩) * st (ix2 ⟨R.val % 2048, by omega⟩ (pr j))
  else
    x (ix2 ⟨R.val, by omega⟩ ⟨o + j - 16, by omega⟩) * st (ix2 ⟨R.val % 2048, by omega⟩ (pr j)) + x (ix2 ⟨R.val, by omega⟩ ⟨o + j, by omega⟩) * ct (ix2 ⟨R.val % 2048, by omega⟩ (pr j))

variable (x : S9216x1792.Idx → EReal)

theorem q0a (b : Fin 4) (r : Fin 2048) (h : Fin 8) (d : Fin 16) :
    (val_main_v51 (F := Ideal) x : S4x2048x8x16.Idx → EReal) (ix4 b r h d)
      = x (ix2 ⟨b.val * 2048 + r.val, by omega⟩ ⟨0 + (h.val * 64 + (0 + d.val)), by omega⟩) * ct (ix2 r ⟨0 + d.val, by omega⟩) - x (ix2 ⟨b.val * 2048 + r.val, by omega⟩ ⟨0 + (h.val * 64 + (0 + 16 + d.val)), by omega⟩) * st (ix2 r ⟨0 + d.val, by omega⟩) := by
  pointwise [val_main_v51, val_main_v47, val_main_v50, val_main_v45, val_main_v46, val_main_v48, val_main_v49, val_main_v40, val_main_v41, val_main_v42, val_main_v43, val_main_v44, val_main_v37, val_main_v38, val_main_v39, val_main_v0, val_main_v1]

theorem q0b (b : Fin 4) (r : Fin 2048) (h : Fin 8) (d : Fin 16) :
    (val_main_v58 (F := Ideal) x : S4x2048x8x16.Idx → EReal) (ix4 b r h d)
      = x (ix2 ⟨b.val * 2048 + r.val, by omega⟩ ⟨0 + (h.val * 64 + (0 + d.val)), by omega⟩) * st (ix2 r ⟨0 + d.val, by omega⟩) + x (ix2 ⟨b.val * 2048 + r.val, by omega⟩ ⟨0 + (h.val * 64 + (0 + 16 + d.val)), by omega⟩) * ct (ix2 r ⟨0 + d.val, by omega⟩) := by
  pointwise [val_main_v58, val_main_v54, val_main_v57, val_main_v52, val_main_v53, val_main_v55, val_main_v56, val_main_v40, val_main_v41, val_main_v42, val_main_v43, val_main_v44, val_main_v37, val_main_v38, val_main_v39, val_main_v0, val_main_v1]

theorem q1a (b : Fin 4) (r : Fin 2048) (h : Fin 8) (d : Fin 16) :
    (val_main_v71 (F := Ideal) x : S4x2048x8x16.Idx → EReal) (ix4 b r h d)
      = x (ix2 ⟨b.val * 2048 + r.val, by omega⟩ ⟨0 + (h.val * 64 + (32 + d.val)), by omega⟩) * ct (ix2 r ⟨16 + d.val, by omega⟩) - x (ix2 ⟨b.val * 2048 + r.val, by omega⟩ ⟨0 + (h.val * 64 + (32 + (16 + d.val))), by omega⟩) * st (ix2 r ⟨16 + d.val, by omega⟩) := by
  pointwise [val_main_v71, val_main_v67, val_main_v70, val_main_v65, val_main_v66, val_main_v68, val_main_v69, val_main_v60, val_main_v61, val_main_v62, val_main_v63, val_main_v64, val_main_v37, val_main_v38, val_main_v39, val_main_v0, val_main_v1]

theorem q1b (b : Fin 4) (r : Fin 2048) (h : Fin 8) (d : Fin 16) :
    (val_main_v78 (F := Ideal) x : S4x2048x8x16.Idx → EReal) (ix4 b r h d)
      = x (ix2 ⟨b.val * 2048 + r.val, by omega⟩ ⟨0 + (h.val * 64 + (32 + d.val)), by omega⟩) * st (ix2 r ⟨16 + d.val, by omega⟩) + x (ix2 ⟨b.val * 2048 + r.val, by omega⟩ ⟨0 + (h.val * 64 + (32 + (16 + d.val))), by omega⟩) * ct (ix2 r ⟨16 + d.val, by omega⟩) := by
  pointwise [val_main_v78, val_main_v74, val_main_v77, val_main_v72, val_main_v73, val_main_v75, val_main_v76, val_main_v60, val_main_v61, val_main_v62, val_main_v63, val_main_v64, val_main_v37, val_main_v38, val_main_v39, val_main_v0, val_main_v1]

theorem k0a (b : Fin 4) (r : Fin 2048) (h : Fin 2) (d : Fin 16) :
    (val_main_v95 (F := Ideal) x : S4x2048x2x16.Idx → EReal) (ix4 b r h d)
      = x (ix2 ⟨b.val * 2048 + r.val, by omega⟩ ⟨512 + (h.val * 64 + (0 + d.val)), by omega⟩) * ct (ix2 r ⟨0 + d.val, by omega⟩) - x (ix2 ⟨b.val * 2048 + r.val, by omega⟩ ⟨512 + (h.val * 64 + (0 + 16 + d.val)), by omega⟩) * st (ix2 r ⟨0 + d.val, by omega⟩) := by
  pointwise [val_main_v95, val_main_v91, val_main_v94, val_main_v89, val_main_v90, val_main_v92, val_main_v93, val_main_v84, val_main_v85, val_main_v86, val_main_v87, val_main_v88, val_main_v81, val_main_v82, val_main_v83, val_main_v0, val_main_v2]

theorem k0b (b : Fin 4) (r : Fin 2048) (h : Fin 2) (d : Fin 16) :
    (val_main_v102 (F := Ideal) x : S4x2048x2x16.Idx → EReal) (ix4 b r h d)
      = x (ix2 ⟨b.val * 2048 + r.val, by omega⟩ ⟨512 + (h.val * 64 + (0 + d.val)), by omega⟩) * st (ix2 r ⟨0 + d.val, by omega⟩) + x (ix2 ⟨b.val * 2048 + r.val, by omega⟩ ⟨512 + (h.val * 64 + (0 + 16 + d.val)), by omega⟩) * ct (ix2 r ⟨0 + d.val, by omega⟩) := by
  pointwise [val_main_v102, val_main_v98, val_main_v101, val_main_v96, val_main_v97, val_main_v99, val_main_v100, val_main_v84, val_main_v85, val_main_v86, val_main_v87, val_main_v88, val_main_v81, val_main_v82, val_main_v83, val_main_v0, val_main_v2]

theorem k1a (b : Fin 4) (r : Fin 2048) (h : Fin 2) (d : Fin 16) :
    (val_main_v115 (F := Ideal) x : S4x2048x2x16.Idx → EReal) (ix4 b r h d)
      = x (ix2 ⟨b.val * 2048 + r.val, by omega⟩ ⟨512 + (h.val * 64 + (32 + d.val)), by omega⟩) * ct (ix2 r ⟨16 + d.val, by omega⟩) - x (ix2 ⟨b.val * 2048 + r.val, by omega⟩ ⟨512 + (h.val * 64 + (32 + (16 + d.val))), by omega⟩) * st (ix2 r ⟨16 + d.val, by omega⟩) := by
  pointwise [val_main_v115, val_main_v111, val_main_v114, val_main_v109, val_main_v110, val_main_v112, val_main_v113, val_main_v104, val_main_v105, val_main_v106, val_main_v107, val_main_v108, val_main_v81, val_main_v82, val_main_v83, val_main_v0, val_main_v2]

theorem k1b (b : Fin 4) (r : Fin 2048) (h : Fin 2) (d : Fin 16) :
    (val_main_v122 (F := Ideal) x : S4x2048x2x16.Idx → EReal) (ix4 b r h d)
      = x (ix2 ⟨b.val * 2048 + r.val, by omega⟩ ⟨512 + (h.val * 64 + (32 + d.val)), by omega⟩) * st (ix2 r ⟨16 + d.val, by omega⟩) + x (ix2 ⟨b.val * 2048 + r.val, by omega⟩ ⟨512 + (h.val * 64 + (32 + (16 + d.val))), by omega⟩) * ct (ix2 r ⟨16 + d.val, by omega⟩) := by
  pointwise [val_main_v122, val_main_v118, val_main_v121, val_main_v116, val_main_v117, val_main_v119, val_main_v120, val_main_v104, val_main_v105, val_main_v106, val_main_v107, val_main_v108, val_main_v81, val_main_v82, val_main_v83, val_main_v0, val_main_v2]

theorem xe {R R' : Fin 9216} {j j' : Fin 1792} (h : R.val = R'.val) (k : j.val = j'.val) : x (ix2 R j) = x (ix2 R' j') := by
  rw [Fin.ext h, Fin.ext k]

theorem ce (A : S2048x32.Idx → EReal) {R R' : Fin 2048} {j j' : Fin 32} (h : R.val = R'.val) (k : j.val = j'.val) : A (ix2 R j) = A (ix2 R' j') := by
  rw [Fin.ext h, Fin.ext k]

theorem q_heads (b : Fin 4) (r : Fin 2048) (h : Fin 8) (d : Fin 64) :
    (val_main_v80 (F := Ideal) x : S4x2048x8x64.Idx → EReal) (ix4 b r h d) = rot x ⟨b.val * 2048 + r.val, by omega⟩ 0 (h.val * 64 + d.val) (by omega) := by
  pointwise [val_main_v80, val_main_v59, val_main_v79]
  have hd := d.isLt
  unfold rot
  by_cases a : d.val < 32
  · rw [dif_pos a]
    by_cases e : d.val < 16
    on_goal 1 => rw [dif_pos e]; refine (q0a x b r h _).trans (Eq.trans ?_ (if_pos (by omega)).symm)
    on_goal 2 => rw [dif_neg e]; refine (q0b x b r h _).trans (Eq.trans ?_ (if_neg (by omega)).symm)
    all_goals congr 1 <;> congr 1 <;> first | (refine xe x ?_ ?_ <;> dsimp only <;> omega) | (refine ce _ ?_ ?_ <;> dsimp only [pr] <;> omega)
  · rw [dif_neg a]
    by_cases e : d.val - 32 < 16
    on_goal 1 => rw [dif_pos e]; refine (q1a x b r h _).trans (Eq.trans ?_ (if_pos (by omega)).symm)
    on_goal 2 => rw [dif_neg e]; refine (q1b x b r h _).trans (Eq.trans ?_ (if_neg (by omega)).symm)
    all_goals congr 1 <;> congr 1 <;> first | (refine xe x ?_ ?_ <;> dsimp only <;> omega) | (refine ce _ ?_ ?_ <;> dsimp only [pr] <;> omega)

theorem ref_q (R : Fin 8192) (j : Fin 512) :
    (val_main_v127 (F := Ideal) x : S8192x512.Idx → EReal) (ix2 R j) = rot x R 0 j.val (by omega) := by
  have e : (val_main_v127 (F := Ideal) x : S8192x512.Idx → EReal) (ix2 R j)
      = (val_main_v80 (F := Ideal) x : S4x2048x8x64.Idx → EReal) (ix4 ⟨R.val / 2048, by omega⟩ ⟨R.val % 2048, by omega⟩ ⟨j.val / 64, by omega⟩ ⟨j.val % 64, by omega⟩) := by
    pointwise [val_main_v127, val_main_v125]
  rw [e, q_heads]
  congr 1
  · exact Fin.ext (by dsimp only; omega)
  · dsimp only; omega

theorem k_heads (b : Fin 4) (r : Fin 2048) (h : Fin 2) (d : Fin 64) :
    (val_main_v124 (F := Ideal) x : S4x2048x2x64.Idx → EReal) (ix4 b r h d) = rot x ⟨b.val * 2048 + r.val, by omega⟩ 512 (h.val * 64 + d.val) (by omega) := by
  pointwise [val_main_v124, val_main_v103, val_main_v123]
  have hd := d.isLt
  unfold rot
  by_cases a : d.val < 32
  · rw [dif_pos a]
    by_cases e : d.val < 16
    on_goal 1 => rw [dif_pos e]; refine (k0a x b r h _).trans (Eq.trans ?_ (if_pos (by omega)).symm)
    on_goal 2 => rw [dif_neg e]; refine (k0b x b r h _).trans (Eq.trans ?_ (if_neg (by omega)).symm)
    all_goals congr 1 <;> congr 1 <;> first | (refine xe x ?_ ?_ <;> dsimp only <;> omega) | (refine ce _ ?_ ?_ <;> dsimp only [pr] <;> omega)
  · rw [dif_neg a]
    by_cases e : d.val - 32 < 16
    on_goal 1 => rw [dif_pos e]; refine (k1a x b r h _).trans (Eq.trans ?_ (if_pos (by omega)).symm)
    on_goal 2 => rw [dif_neg e]; refine (k1b x b r h _).trans (Eq.trans ?_ (if_neg (by omega)).symm)
    all_goals congr 1 <;> congr 1 <;> first | (refine xe x ?_ ?_ <;> dsimp only <;> omega) | (refine ce _ ?_ ?_ <;> dsimp only [pr] <;> omega)

theorem ref_k (R : Fin 8192) (j : Fin 128) :
    (val_main_v128 (F := Ideal) x : S8192x128.Idx → EReal) (ix2 R j) = rot x R 512 j.val (by omega) := by
  have e : (val_main_v128 (F := Ideal) x : S8192x128.Idx → EReal) (ix2 R j)
      = (val_main_v124 (F := Ideal) x : S4x2048x2x64.Idx → EReal) (ix4 ⟨R.val / 2048, by omega⟩ ⟨R.val % 2048, by omega⟩ ⟨j.val / 64, by omega⟩ ⟨j.val % 64, by omega⟩) := by
    pointwise [val_main_v128, val_main_v126]
  rw [e, k_heads]
  congr 1
  · exact Fin.ext (by dsimp only; omega)
  · dsimp only; omega

end Cert.Rope50

end
-- ==== Proof.Rope50.lean ====
module

public import proofs.«01_k».proof.Defs
public import proofs.«01_k».proof.Proof.Gen.Kernel50Ideal.Value
public import proofs.«01_k».proof.Proof.RopeT50
public import Idealize.ShloMosaic.Lib.Pointwise
public import Idealize.ShloMosaic.Lib.Claim
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.ShloMosaic.Pipeline (Dat)

/-! Program 50: the rotary embedding of the queries and keys. -/

namespace Cert.Rope50

open Cert.Kernel50Ideal Cert.Kernel50Ideal.Gen
open Cert.Reference50Ideal.Read

variable (m : (ℓ : Loc nD τ sig) → Buf (Elt Ideal) ℓ)

abbrev arg0 (c : Dev nD) : S9216x1792.Idx → EReal := m ((c : Thread nD τ).loc main_arg0)

/-- A table with two copies of 64 columns. -/
theorem two (A : S2048x64.Idx → EReal) (r : Fin 2048) (l : Fin 128) :
    (shapeCast S2048x128 (broadcastInDim S1x2048x2x64 ![0, 1, 2, 3] bcast_S1x2048x1x64_S1x2048x2x64_0_1_2_3
      (shapeCast S1x2048x1x64 A shapeCasts_S2048x64_S1x2048x1x64)) shapeCasts_S1x2048x2x64_S2048x128 : S2048x128.Idx → EReal) (ix2 r l)
      = A (ix2 r ⟨l.val % 64, by omega⟩) := by
  pointwise

/-- A table of four pieces of 16 columns. -/
theorem four (A B C D : S2048x16.Idx → EReal) (r : Fin 2048) (l : Fin 64) :
    (concatenate S2048x64 1 [⟨S2048x16, A⟩, ⟨S2048x16, B⟩, ⟨S2048x16, C⟩, ⟨S2048x16, D⟩] concatenates_S2048x16_S2048x16_S2048x16_S2048x16_S2048x64_d1 : S2048x64.Idx → EReal) (ix2 r l)
      = if l.val < 16 then A (ix2 r ⟨l.val % 16, by omega⟩) else if l.val < 32 then B (ix2 r ⟨l.val % 16, by omega⟩) else if l.val < 48 then C (ix2 r ⟨l.val % 16, by omega⟩) else D (ix2 r ⟨l.val % 16, by omega⟩) := by
  pointwise
  have hl := l.isLt
  have e : ∀ (X : S2048x16.Idx → EReal) (a b : Fin 16), a.val = b.val → X (ix2 r a) = X (ix2 r b) := fun X a b h => by rw [Fin.ext h]
  by_cases h1 : l.val < 16
  · rw [dif_pos h1, if_pos h1]; exact e _ _ _ (by dsimp only; omega)
  rw [dif_neg h1, if_neg h1]
  by_cases h2 : l.val < 32
  · rw [dif_pos (by omega), if_pos h2]; exact e _ _ _ (by dsimp only; omega)
  rw [dif_neg (by omega), if_neg h2]
  by_cases h3 : l.val < 48
  · rw [dif_pos (by omega), if_pos h3]; exact e _ _ _ (by dsimp only; omega)
  rw [dif_neg (by omega), if_neg h3]; exact e _ _ _ (by dsimp only; omega)

theorem Vc (c : Dev nD) (r : Fin 2048) (l : Fin 128) : (V m c main_v43 : S2048x128.Idx → EReal) (ix2 r l) = ct (ix2 r (pr l.val)) := by
  show StableHlo.after (List.flatten [hostOps0]) (fun b => m (c, b)) (Proc.devRef .tc main_v43) _ = _
  simp only [hostOps0, List.flatten_cons, List.flatten_nil, List.append_nil, List.cons_append, List.nil_append]
  after_results_simp
  dsimp only [Matrix.cons_val]
  repeat (first
    | (simp -zeta -beta -eta -iota -proj -zetaUnused -letToHave only [↓ StableHlo.readResult, ↓ StableHlo.readPieces, -eq_self])
    | rw [StableHlo.nullary_result] | rw [StableHlo.unary_result] | rw [StableHlo.binary_result] | rw [StableHlo.reshape_result])
  generalize hX : (Host.cos (F := Ideal) _ : S2048x32.Idx → EReal) = X
  have hx : X = ct := by rw [← hX]; rfl
  subst hx
  refine (two _ r l).trans ((four _ _ _ _ r _).trans ?_)
  have hl := l.isLt
  dsimp only
  split_ifs <;> pointwise <;> exact congrArg _ (congrArg (ix2 r) (Fin.ext (by dsimp only [pr]; omega)))

theorem Vs (c : Dev nD) (r : Fin 2048) (l : Fin 128) : (V m c main_v46 : S2048x128.Idx → EReal) (ix2 r l) =
    if l.val % 32 < 16 then - st (ix2 r (pr l.val)) else st (ix2 r (pr l.val)) := by
  show StableHlo.after (List.flatten [hostOps0]) (fun b => m (c, b)) (Proc.devRef .tc main_v46) _ = _
  simp only [hostOps0, List.flatten_cons, List.flatten_nil, List.append_nil, List.cons_append, List.nil_append]
  after_results_simp
  dsimp only [Matrix.cons_val]
  repeat (first
    | (simp -zeta -beta -eta -iota -proj -zetaUnused -letToHave only [↓ StableHlo.readResult, ↓ StableHlo.readPieces, -eq_self])
    | rw [StableHlo.nullary_result] | rw [StableHlo.unary_result] | rw [StableHlo.binary_result] | rw [StableHlo.reshape_result])
  generalize hX : (Host.sin (F := Ideal) _ : S2048x32.Idx → EReal) = X
  have hx : X = st := by rw [← hX]; rfl
  subst hx
  refine (two _ r l).trans ((four _ _ _ _ r _).trans ?_)
  have hl := l.isLt
  dsimp only
  split_ifs <;> first | (exfalso; omega) | skip
  all_goals pointwise
  all_goals first
    | exact congrArg st (congrArg (ix2 r) (Fin.ext (by dsimp only [pr]; omega)))
    | exact congrArg (fun z => - st (ix2 r z)) (Fin.ext (by dsimp only [pr]; omega))

/-- The body's test of a column's half. -/
theorem half (l : Fin 128) : IntOp.cmpi CmpIPredicate.eq (BitVec.ofNat 32 l.val &&& 16#32) 0#32 = if l.val % 32 < 16 then 1#1 else 0#1 := by
  revert l; decide

/-- A column of the other half of the same pair. -/
def prt (l : Fin 128) : Fin 128 := if h : l.val % 32 < 16 then ⟨l.val + 16, by omega⟩ else ⟨l.val - 16, by omega⟩

theorem sel (l : Fin 128) (a b : EReal) :
    Scalar.select (IntOp.cmpi CmpIPredicate.eq (IntOp.andi (BitVec.ofNat 32 l.val) 16#32) 0#32) a b = if l.val % 32 < 16 then a else b := by
  have h : IntOp.cmpi CmpIPredicate.eq (IntOp.andi (BitVec.ofNat 32 l.val) 16#32) 0#32 = if l.val % 32 < 16 then 1#1 else 0#1 := half l
  rw [h]
  split_ifs <;> rfl

/-- A tile's columns turned: the body's operation on 128 columns. -/
def turn (c s t : S512x128.Idx → EReal) (k : Fin 512) (l : Fin 128) : EReal := t (ix2 k l) * c (ix2 k l) + t (ix2 k (prt l)) * s (ix2 k l)

theorem turn_eq (c s t : S512x128.Idx → EReal) (k : Fin 512) (l : Fin 128) (h₁ h₂) :
    t (ix2 k l) * c (ix2 k l) + Scalar.select (IntOp.cmpi CmpIPredicate.eq (IntOp.andi (BitVec.ofNat 32 l.val) 16#32) 0#32)
      (t (ix2 k ⟨(l.val + 128 - 112) % 128, h₁⟩)) (t (ix2 k ⟨(l.val + 128 - 16) % 128, h₂⟩)) * s (ix2 k l) = turn c s t k l := by
  rw [sel]
  unfold turn prt
  have hl := l.isLt
  split_ifs <;> exact congrArg (t (ix2 k l) * c (ix2 k l) + · * s (ix2 k l)) (congrArg t (congrArg (ix2 k) (Fin.ext (by dsimp only; omega))))

section
variable (c s t : S512x128.Idx → EReal) (k : Fin 512) (l : Fin 128)

theorem pay3 : (k0_pay3 (F := Ideal) c s t : S512x128.Idx → EReal) (ix2 k l) = turn c s t k l := by
  unfold_payloads
  pointwise
  exact turn_eq c s t k l _ _

theorem pay4 : (k0_pay4 (F := Ideal) c s t : S512x128.Idx → EReal) (ix2 k l) = turn c s t k l := by
  unfold_payloads
  pointwise
  exact turn_eq c s t k l _ _

theorem pay6 : (k0_pay6 (F := Ideal) (k0_pay2 s) t (k0_pay5 c t) (iota .tc S512x128 32 [1] iota_S512x128_d1_w32) : S512x128.Idx → EReal) (ix2 k l) = turn c s t k l := by
  unfold_payloads
  pointwise
  exact turn_eq c s t k l _ _

theorem pay7 : (k0_pay7 (F := Ideal) (k0_pay1 c) (k0_pay2 s) t : S512x128.Idx → EReal) (ix2 k l) = turn c s t k l := by
  unfold_payloads
  pointwise
  exact turn_eq c s t k l _ _

theorem pay8 : (k0_pay8 (F := Ideal) (k0_pay1 c) (k0_pay2 s) t : S512x128.Idx → EReal) (ix2 k l) = turn c s t k l := by
  unfold_payloads
  pointwise
  exact turn_eq c s t k l _ _
end

/-- A store of 128 columns, read back at an index. -/
theorem canon_col {e : EltTy} {o : ℕ} (inb : ∀ a, (![0, o] : Fin 2 → ℕ) a + S512x128.size a ≤ S512x512.size a)
    (w : (Rect.unit (s := S512x512) ![0, o] S512x128.size inb).shape.Idx → Elt Ideal e) (L : List (View.Piece (Elt Ideal) S512x512 e))
    (k : Fin 512) (j : Fin 512) :
    View.canon (Val := Elt Ideal) ((⟨Rect.unit (s := S512x512) ![0, o] S512x128.size inb, w⟩ : View.Piece (Elt Ideal) S512x512 e) :: L) (ix2 k j)
      = if h : o ≤ j.val ∧ j.val < o + 128 then w (ix2 k (⟨j.val - o, by omega⟩ : Fin 128)) else View.canon (Val := Elt Ideal) L (ix2 k j) := by
  by_cases h : o ≤ j.val ∧ j.val < o + 128
  · rw [dif_pos h]
    have he : (Rect.unit (s := S512x512) ![0, o] S512x128.size inb).emb (ix2 k (⟨j.val - o, by omega⟩ : Fin 128)) = ix2 k j := by
      funext x; apply Fin.ext
      match x with
      | ⟨0, _⟩ => show 0 + 1 * k.val = k.val; omega
      | ⟨1, _⟩ => show o + 1 * (j.val - o) = j.val; omega
    rw [← he]
    exact View.canon_cons_emb (Val := Elt Ideal) (Rect.unit (s := S512x512) ![0, o] S512x128.size inb) w L (ix2 k (⟨j.val - o, by omega⟩ : Fin 128))
  · rw [dif_neg h]
    refine View.canon_cons_of_not_mem _ L ?_
    intro hm
    obtain ⟨i, hi, he⟩ := (LoadRect.mem_set _).mp hm (1 : Fin 2)
    have hi1 : i < 128 := hi
    have he' : j.val = o + 1 * i := he
    omega

/-- A column of the other half of the same pair, of a whole row. -/
def pcol (j : Fin 512) : Fin 512 := if h : j.val % 32 < 16 then ⟨j.val + 16, by omega⟩ else ⟨j.val - 16, by omega⟩

/-- The turned tile of columns `o` and on, at column `j`. -/
theorem turn_col {o : ℕ} (ho : o % 128 = 0) (c s : S512x128.Idx → EReal) (X : S512x512.Idx → EReal)
    (inb : ∀ a, (![0, o] : Fin 2 → ℕ) a + S512x128.size a ≤ S512x512.size a) (k : Fin 512) (j : Fin 512) (h : o ≤ j.val ∧ j.val < o + 128) :
    turn c s (View.ld (Val := Elt Ideal) (e' := .f32) X (Rect.unit (s := S512x512) ![0, o] S512x128.size inb)) k (⟨j.val - o, by omega⟩ : Fin 128)
      = X (ix2 k j) * c (ix2 k (⟨j.val % 128, by omega⟩ : Fin 128)) + X (ix2 k (pcol j)) * s (ix2 k (⟨j.val % 128, by omega⟩ : Fin 128)) := by
  have ld : ∀ l : Fin 128, ∀ j' : Fin 512, j'.val = o + l.val →
      View.ld (Val := Elt Ideal) (e' := .f32) X (Rect.unit (s := S512x512) ![0, o] S512x128.size inb) (ix2 k l) = X (ix2 k j') := fun l j' e => by
    refine congrArg X ?_
    funext x; apply Fin.ext
    match x with
    | ⟨0, _⟩ => show 0 + 1 * k.val = k.val; omega
    | ⟨1, _⟩ => show o + 1 * l.val = j'.val; omega
  have el : (⟨j.val - o, by omega⟩ : Fin 128) = ⟨j.val % 128, by omega⟩ := Fin.ext (by dsimp only; omega)
  unfold turn
  rw [ld _ j (by dsimp only; omega), ld _ (pcol j) (by unfold pcol prt; dsimp only; split_ifs <;> dsimp only <;> omega), el]

theorem hz : (![0, 0] : Fin 2 → Nat) = fun _ => 0 := funext fun a => by fin_cases a <;> rfl

variable (c : Dev nD) (i : grid0.Coords) (arg1 : Memref sig .tc .vmem S512x512 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x512 .bf16) (harg5 : arg5.IsWhole) (arg6 : Memref sig .tc .vmem S512x128 .bf16) (harg6 : arg6.IsWhole)
  (x0 : S512x512.Idx → EReal) (x1 x2 x3 : S512x128.Idx → EReal)

theorem out4 (k : Fin 512) (j : Fin 512) :
    (out0_A_4 (F := Ideal) c i arg1 harg1 arg2 harg2 arg3 harg3 arg4 harg4 arg5 harg5 arg6 harg6 x0 x1 x2 x3 : S512x512.Idx → EReal) (ix2 k j)
      = x0 (ix2 k j) * x2 (ix2 k (⟨j.val % 128, by omega⟩ : Fin 128)) + x0 (ix2 k (pcol j)) * x3 (ix2 k (⟨j.val % 128, by omega⟩ : Fin 128)) := by
  unfold out0_A_4
  rw [View.read_writes_eq_canon _ _ _ (fun y => cover0_A_4 (y := y) ..)]
  unfold kernelRun0_A
  dsimp only
  sl_unfold_words
  simp only [View.readAt_eq_ld, harg1.read_unread, harg2.read_unread, harg3.read_unread, harg4.read_unread, View.ld_unit_zero (S := S512x128) hz]
  rw [canon_col, canon_col, canon_col, canon_col]
  have hj := j.isLt
  split_ifs with a3 a2 a1 a0
  · exact (pay7 _ _ _ _ _).trans (turn_col (by omega) x2 x3 x0 _ k j a3)
  · exact (pay6 _ _ _ _ _).trans (turn_col (by omega) x2 x3 x0 _ k j a2)
  · exact (pay4 _ _ _ _ _).trans (turn_col (by omega) x2 x3 x0 _ k j a1)
  · exact (pay3 _ _ _ _ _).trans (turn_col (by omega) x2 x3 x0 _ k j a0)
  · omega

theorem out5 (k : Fin 512) (l : Fin 128) :
    (out0_A_5 (F := Ideal) c i arg1 harg1 arg2 harg2 arg3 harg3 arg4 harg4 arg5 harg5 arg6 harg6 x0 x1 x2 x3 : S512x128.Idx → EReal) (ix2 k l)
      = turn x2 x3 x1 k l := by
  unfold out0_A_5
  rw [View.read_writes_eq_canon _ _ _ (fun y => cover0_A_5 (y := y) ..)]
  unfold kernelRun0_A
  dsimp only
  sl_unfold_words
  rw [View.canon_unit_zero hz]
  simp only [View.readAt_eq_ld, harg1.read_unread, harg2.read_unread, harg3.read_unread, harg4.read_unread, View.ld_unit_zero (S := S512x128) hz]
  exact pay8 _ _ _ _ _

theorem idx : ∀ t : Fin grid0.N, win0_0.index t = ![t.val, 0] ∧ win0_1.index t = ![t.val, 4] ∧ win0_2.index t = ![t.val % 4, 0]
    ∧ win0_3.index t = ![t.val % 4, 0] ∧ win0_4.index t = ![t.val, 0] ∧ win0_5.index t = ![t.val, 0] := by decide +kernel
theorem lt_N (t : Fin cfg0.N) : t.val < 16 := Nat.lt_of_lt_of_eq t.isLt (by decide +kernel)
/-- The row of point `t`'s row `k`. -/
abbrev row (t : Fin cfg0.N) (k : Fin 512) : Fin 8192 := ⟨512 * t.val + k.val, by have := lt_N t; omega⟩

theorem in0 (t : Fin cfg0.N) (k : Fin 512) (j : Fin 512) : (X0_0 m c t : S512x512.Idx → EReal) (ix2 k j) = arg0 m c (ix2 ⟨(row t k).val, by omega⟩ ⟨j.val, by omega⟩) := by
  have h := idx t
  unfold X0_0 Pipeline.Window.fill
  rw [dif_pos (moved0_0 t _)]
  blk_ext [iblk, V, h.1]

theorem in1 (t : Fin cfg0.N) (k : Fin 512) (l : Fin 128) : (iblk m c 1 t : S512x128.Idx → EReal) (ix2 k l) = arg0 m c (ix2 ⟨(row t k).val, by omega⟩ ⟨512 + l.val, by omega⟩) := by
  have h := idx t
  blk_ext [iblk, V, h.2.1]

theorem in2 (t : Fin cfg0.N) (k : Fin 512) (l : Fin 128) : (iblk m c 2 t : S512x128.Idx → EReal) (ix2 k l) = ct (ix2 ⟨(row t k).val % 2048, by omega⟩ (pr l.val)) := by
  have h := idx t
  rw [← Vc m c]
  have e : (row t k).val % 2048 = 512 * (t.val % 4) + k.val := by dsimp only; omega
  blk_ext [iblk, h.2.2.1, e]

theorem in3 (t : Fin cfg0.N) (k : Fin 512) (l : Fin 128) : (iblk m c 3 t : S512x128.Idx → EReal) (ix2 k l) =
    if l.val % 32 < 16 then - st (ix2 ⟨(row t k).val % 2048, by omega⟩ (pr l.val)) else st (ix2 ⟨(row t k).val % 2048, by omega⟩ (pr l.val)) := by
  have h := idx t
  rw [← Vs m c]
  have e : (row t k).val % 2048 = 512 * (t.val % 4) + k.val := by dsimp only; omega
  blk_ext [iblk, h.2.2.2.1, e]

/-- What the body computes at a column is the pair turned by its angle. -/
theorem meets (x : S9216x1792.Idx → EReal) (R : Fin 8192) (o j l : ℕ) (h : o + j < 1000) (hl : l = j % 128) (q : Fin 1792)
    (hq : q.val = if j % 32 < 16 then o + j + 16 else o + j - 16) :
    x (ix2 ⟨R.val, by omega⟩ ⟨o + j, by omega⟩) * ct (ix2 ⟨R.val % 2048, by omega⟩ (pr l))
      + x (ix2 ⟨R.val, by omega⟩ q) * (if l % 32 < 16 then - st (ix2 ⟨R.val % 2048, by omega⟩ (pr l)) else st (ix2 ⟨R.val % 2048, by omega⟩ (pr l))) = rot x R o j h := by
  have hp : pr l = pr j := Fin.ext (by dsimp only [pr]; omega)
  unfold rot
  rw [hp]
  by_cases a : j % 32 < 16
  · rw [if_pos a] at hq ⊢
    rw [if_pos (by omega), mul_neg, ← sub_eq_add_neg]
    congr 3; exact congrArg _ (Fin.ext hq)
  · rw [if_neg a] at hq ⊢
    rw [if_neg (by omega), add_comm]
    congr 3; exact congrArg _ (Fin.ext hq)

/-- What the launch leaves in result 0 and in result 1. -/
def res4 (x : S9216x1792.Idx → EReal) : S8192x512.Idx → EReal := fun i =>
  rot x ⟨(i 0).val, (i 0).isLt⟩ 0 (i 1).val (by have : (i 1).val < 512 := (i 1).isLt; omega)
def res5 (x : S9216x1792.Idx → EReal) : S8192x128.Idx → EReal := fun i =>
  rot x ⟨(i 0).val, (i 0).isLt⟩ 512 (i 1).val (by have : (i 1).val < 128 := (i 1).isLt; omega)

theorem after4 (t : Fin cfg0.N) (k j : Fin 512) : (outsAt0 m c t).1 (ix2 k j) = rot (arg0 m c) (row t k) 0 j.val (by omega) := by
  unfold outsAt0
  dsimp only
  rw [out4, in0, in0, in2, in3]
  refine Eq.trans ?_ (meets (arg0 m c) (row t k) 0 j.val (j.val % 128) (by omega) rfl ⟨(pcol j).val, by omega⟩ (by unfold pcol; split_ifs <;> dsimp only <;> omega))
  congr 3; exact congrArg _ (Fin.ext (by dsimp only; omega))

theorem after5 (t : Fin cfg0.N) (k : Fin 512) (l : Fin 128) : (outsAt0 m c t).2 (ix2 k l) = rot (arg0 m c) (row t k) 512 l.val (by omega) := by
  unfold outsAt0
  dsimp only
  rw [out5]
  unfold turn
  rw [in1, in1, in2, in3]
  exact meets (arg0 m c) (row t k) 512 l.val l.val (by omega) (by omega) ⟨512 + (prt l).val, by omega⟩ (by unfold prt; dsimp only; split_ifs <;> dsimp only <;> omega)

theorem arr4 : (dats m 0 c).arrAt 4 cfg0.N = res4 (arg0 m c) := by
  refine (dats m 0 c).arrAt_eq_of_covers 4 _ (by decide +kernel) fun t hf y => ?_
  blk_simp
  rw [after0_4]
  have h := idx t
  have hy0 : (y 0).val < 512 := (y 0).isLt
  have hy1 : (y 1).val < 512 := (y 1).isLt
  have hy : (y : S512x512.Idx) = ix2 ⟨(y 0).val, hy0⟩ ⟨(y 1).val, hy1⟩ := by funext a; match a with | ⟨0, _⟩ => rfl | ⟨1, _⟩ => rfl
  refine (congrArg ((outsAt0 m c t).1) hy).trans ((after4 m c t _ _).trans ?_)
  have e0 : (((win0_4.blk t).view.emb y) 0 : ℕ) = 512 * t.val + (y 0).val := by blk_simp [h.2.2.2.2.1]; omega
  have e1 : (((win0_4.blk t).view.emb y) 1 : ℕ) = (y 1).val := by blk_simp [h.2.2.2.2.1]
  unfold res4
  congr 1
  · exact Fin.ext e0.symm
  · exact e1.symm

theorem arr5 : (dats m 0 c).arrAt 5 cfg0.N = res5 (arg0 m c) := by
  refine (dats m 0 c).arrAt_eq_of_covers 5 _ (by decide +kernel) fun t hf y => ?_
  blk_simp
  rw [after0_5]
  have h := idx t
  have hy0 : (y 0).val < 512 := (y 0).isLt
  have hy1 : (y 1).val < 128 := (y 1).isLt
  have hy : (y : S512x128.Idx) = ix2 ⟨(y 0).val, hy0⟩ ⟨(y 1).val, hy1⟩ := by funext a; match a with | ⟨0, _⟩ => rfl | ⟨1, _⟩ => rfl
  refine (congrArg ((outsAt0 m c t).2) hy).trans ((after5 m c t _ _).trans ?_)
  have e0 : (((win0_5.blk t).view.emb y) 0 : ℕ) = 512 * t.val + (y 0).val := by blk_simp [h.2.2.2.2.2]; omega
  have e1 : (((win0_5.blk t).view.emb y) 1 : ℕ) = (y 1).val := by blk_simp [h.2.2.2.2.2]
  unfold res5
  congr 1
  · exact Fin.ext e0.symm
  · exact e1.symm

/-- The rotary embedding: the launch and the plain reference leave the same arrays. -/
theorem tie : Cert.algebraic_Kernel50Ideal_Reference50Ideal (hKernel50Ideal := Cert.Kernel50Ideal.Gen.facts)
    (hReference50Ideal := Cert.Reference50Ideal.Gen.facts) := by
  intro m g m' g' _ hagree
  refine ⟨fun c => res4 (arg0 m c), fun c => res5 (arg0 m c), ?_, ?_⟩
  · refine (θ_run _ _ _).mono (fun r h c => ?_) (Cert.Kernel50Ideal.Value.run_blocks (F := Ideal) m g)
    obtain ⟨h4, h5, h0⟩ := h c
    exact ⟨h4.trans (arr4 m c), h5.trans (arr5 m c), h0⟩
  · refine (θ_run _ _ _).mono (fun r h c => ?_) (Cert.Reference50Ideal.Value.run (F := Ideal) m' g')
    obtain ⟨h4, h5, h0⟩ := h c
    have a0 := hagree c
    refine ⟨h4.trans ?_, h5.trans ?_, h0⟩
    · rw [Cert.Reference50Ideal.Read.val_main_v127_eq, a0]
      funext i
      exact (congrArg _ (eq_ix2 i)).trans (ref_q _ ⟨(i 0).val, (i 0).isLt⟩ ⟨(i 1).val, (i 1).isLt⟩)
    · rw [Cert.Reference50Ideal.Read.val_main_v128_eq, a0]
      funext i
      exact (congrArg _ (eq_ix2 i)).trans (ref_k _ ⟨(i 0).val, (i 0).isLt⟩ ⟨(i 1).val, (i 1).isLt⟩)

end Cert.Rope50

end
-- ==== Proof.RopeT51.lean ====
module

public import proofs.«01_k».proof.Defs
public import proofs.«01_k».proof.Proof.Gen.Reference51Ideal.Run
public import proofs.«01_k».proof.Proof.Gen.Reference51Ideal.Read
public import Idealize.ShloMosaic.Lib.Pointwise

@[expose] public section

set_option maxRecDepth 16384

noncomputable section

open Idealize.ShloMosaic Idealize.ShloMosaic.TcCoe Idealize.SL.Sem

/-! Program 51: the gradient of the rotary embedding, the reference. -/

namespace Cert.Rope51

open Cert.Reference51Ideal.Read Cert.Reference51Ideal

/-- The angles' cosines and sines, by token and pair. -/
abbrev ct : S2048x32.Idx → EReal := val_main_v29 (F := Ideal)
abbrev st : S2048x32.Idx → EReal := val_main_v30 (F := Ideal)

/-- The pair of column `j`. -/
def pr (j : ℕ) : Fin 32 := ⟨j % 64 / 32 * 16 + j % 16, by omega⟩

/-- The other column of the same pair. -/
def pc {n : ℕ} (hn : n % 32 = 0) (j : Fin n) : Fin n := if h : j.val % 32 < 16 then ⟨j.val + 16, by omega⟩ else ⟨j.val - 16, by omega⟩

/-- A pair's columns turned back by its angle. -/
def back {n : ℕ} (hn : n % 32 = 0) (x : (⟨2, ![8192, n]⟩ : Shape).Idx → EReal) (R : Fin 8192) (j : Fin n) : EReal :=
  if j.val % 32 < 16 then x (ix2 R (pc hn j)) * st (ix2 ⟨R.val % 2048, by omega⟩ (pr j.val)) + x (ix2 R j) * ct (ix2 ⟨R.val % 2048, by omega⟩ (pr j.val))
  else x (ix2 R j) * ct (ix2 ⟨R.val % 2048, by omega⟩ (pr j.val)) + (- x (ix2 R (pc hn j))) * st (ix2 ⟨R.val % 2048, by omega⟩ (pr j.val))

section
variable {n : ℕ} (hn : n % 32 = 0) (x : (⟨2, ![8192, n]⟩ : Shape).Idx → EReal) (R : Fin 8192) {r : Fin 2048} (j : Fin n) {a b : Fin n} {e : Fin 32}

theorem same (hr : r.val = R.val % 2048) (he : e.val = (pr j.val).val) (A : S2048x32.Idx → EReal) :
    A (ix2 r e) = A (ix2 ⟨R.val % 2048, by omega⟩ (pr j.val)) := by
  exact congrArg A (congrArg₂ ix2 (Fin.ext hr) (Fin.ext he))

theorem lo (hr : r.val = R.val % 2048) (he : e.val = (pr j.val).val) (h : j.val % 32 < 16) (ha : a.val = j.val + 16) (hb : b.val = j.val) :
    x (ix2 R a) * st (ix2 r e) + x (ix2 R b) * ct (ix2 r e) = back hn x R j := by
  rw [same R j hr he st, same R j hr he ct]
  unfold back pc
  rw [if_pos h, dif_pos h, Fin.ext hb, show a = ⟨j.val + 16, by omega⟩ from Fin.ext ha]

theorem hi (hr : r.val = R.val % 2048) (he : e.val = (pr j.val).val) (h : ¬ j.val % 32 < 16) (ha : a.val = j.val) (hb : b.val = j.val - 16) :
    x (ix2 R a) * ct (ix2 r e) + -x (ix2 R b) * st (ix2 r e) = back hn x R j := by
  rw [same R j hr he st, same R j hr he ct]
  unfold back pc
  rw [if_neg h, dif_neg h, Fin.ext ha, show b = ⟨j.val - 16, by omega⟩ from Fin.ext hb]

end

theorem q0a (x : S8192x512.Idx → EReal) (b : Fin 4) (r : Fin 2048) (h : Fin 8) (d : Fin 16) (j : Fin 512) (hj : j.val = h.val * 64 + (0 + d.val)) :
    (val_main_v186 (F := Ideal) x : S4x2048x8x16.Idx → EReal) (ix4 b r h d) = back rfl x ⟨b.val * 2048 + r.val, by omega⟩ j := by
  pointwise [val_main_v186, val_main_v179, val_main_v185, val_main_v175, val_main_v178, val_main_v174, val_main_v184, val_main_v157, val_main_v122, val_main_v46, val_main_v39, val_main_v36, val_main_v35, val_main_v32, val_main_v33]
  exact lo rfl x _ j (by dsimp only; omega) (by dsimp only [pr]; omega) (by omega) (by dsimp only; omega) (by dsimp only; omega)

theorem q0b (x : S8192x512.Idx → EReal) (b : Fin 4) (r : Fin 2048) (h : Fin 8) (d : Fin 16) (j : Fin 512) (hj : j.val = h.val * 64 + (16 + d.val)) :
    (val_main_v183 (F := Ideal) x : S4x2048x8x16.Idx → EReal) (ix4 b r h d) = back rfl x ⟨b.val * 2048 + r.val, by omega⟩ j := by
  pointwise [val_main_v183, val_main_v177, val_main_v182, val_main_v175, val_main_v176, val_main_v180, val_main_v181, val_main_v174, val_main_v157, val_main_v122, val_main_v49, val_main_v42, val_main_v36, val_main_v35, val_main_v32, val_main_v33]
  exact hi rfl x _ j (by dsimp only; omega) (by dsimp only [pr]; omega) (by omega) (by dsimp only; omega) (by dsimp only; omega)

theorem q1a (x : S8192x512.Idx → EReal) (b : Fin 4) (r : Fin 2048) (h : Fin 8) (d : Fin 16) (j : Fin 512) (hj : j.val = h.val * 64 + (32 + d.val)) :
    (val_main_v171 (F := Ideal) x : S4x2048x8x16.Idx → EReal) (ix4 b r h d) = back rfl x ⟨b.val * 2048 + r.val, by omega⟩ j := by
  pointwise [val_main_v171, val_main_v164, val_main_v170, val_main_v160, val_main_v163, val_main_v159, val_main_v169, val_main_v158, val_main_v122, val_main_v66, val_main_v59, val_main_v56, val_main_v55, val_main_v32, val_main_v33]
  exact lo rfl x _ j (by dsimp only; omega) (by dsimp only [pr]; omega) (by omega) (by dsimp only; omega) (by dsimp only; omega)

theorem q1b (x : S8192x512.Idx → EReal) (b : Fin 4) (r : Fin 2048) (h : Fin 8) (d : Fin 16) (j : Fin 512) (hj : j.val = h.val * 64 + (48 + d.val)) :
    (val_main_v168 (F := Ideal) x : S4x2048x8x16.Idx → EReal) (ix4 b r h d) = back rfl x ⟨b.val * 2048 + r.val, by omega⟩ j := by
  pointwise [val_main_v168, val_main_v162, val_main_v167, val_main_v160, val_main_v161, val_main_v165, val_main_v166, val_main_v159, val_main_v158, val_main_v122, val_main_v69, val_main_v62, val_main_v56, val_main_v55, val_main_v32, val_main_v33]
  exact hi rfl x _ j (by dsimp only; omega) (by dsimp only [pr]; omega) (by omega) (by dsimp only; omega) (by dsimp only; omega)

theorem k0a (x : S8192x128.Idx → EReal) (b : Fin 4) (r : Fin 2048) (h : Fin 2) (d : Fin 16) (j : Fin 128) (hj : j.val = h.val * 64 + (0 + d.val)) :
    (val_main_v152 (F := Ideal) x : S4x2048x2x16.Idx → EReal) (ix4 b r h d) = back rfl x ⟨b.val * 2048 + r.val, by omega⟩ j := by
  pointwise [val_main_v152, val_main_v145, val_main_v151, val_main_v141, val_main_v144, val_main_v140, val_main_v150, val_main_v123, val_main_v121, val_main_v90, val_main_v83, val_main_v80, val_main_v79, val_main_v76, val_main_v77]
  exact lo rfl x _ j (by dsimp only; omega) (by dsimp only [pr]; omega) (by omega) (by dsimp only; omega) (by dsimp only; omega)

theorem k0b (x : S8192x128.Idx → EReal) (b : Fin 4) (r : Fin 2048) (h : Fin 2) (d : Fin 16) (j : Fin 128) (hj : j.val = h.val * 64 + (16 + d.val)) :
    (val_main_v149 (F := Ideal) x : S4x2048x2x16.Idx → EReal) (ix4 b r h d) = back rfl x ⟨b.val * 2048 + r.val, by omega⟩ j := by
  pointwise [val_main_v149, val_main_v143, val_main_v148, val_main_v141, val_main_v142, val_main_v146, val_main_v147, val_main_v140, val_main_v123, val_main_v121, val_main_v93, val_main_v86, val_main_v80, val_main_v79, val_main_v76, val_main_v77]
  exact hi rfl x _ j (by dsimp only; omega) (by dsimp only [pr]; omega) (by omega) (by dsimp only; omega) (by dsimp only; omega)

theorem k1a (x : S8192x128.Idx → EReal) (b : Fin 4) (r : Fin 2048) (h : Fin 2) (d : Fin 16) (j : Fin 128) (hj : j.val = h.val * 64 + (32 + d.val)) :
    (val_main_v137 (F := Ideal) x : S4x2048x2x16.Idx → EReal) (ix4 b r h d) = back rfl x ⟨b.val * 2048 + r.val, by omega⟩ j := by
  pointwise [val_main_v137, val_main_v130, val_main_v136, val_main_v126, val_main_v129, val_main_v125, val_main_v135, val_main_v124, val_main_v121, val_main_v110, val_main_v103, val_main_v100, val_main_v99, val_main_v76, val_main_v77]
  exact lo rfl x _ j (by dsimp only; omega) (by dsimp only [pr]; omega) (by omega) (by dsimp only; omega) (by dsimp only; omega)

theorem k1b (x : S8192x128.Idx → EReal) (b : Fin 4) (r : Fin 2048) (h : Fin 2) (d : Fin 16) (j : Fin 128) (hj : j.val = h.val * 64 + (48 + d.val)) :
    (val_main_v134 (F := Ideal) x : S4x2048x2x16.Idx → EReal) (ix4 b r h d) = back rfl x ⟨b.val * 2048 + r.val, by omega⟩ j := by
  pointwise [val_main_v134, val_main_v128, val_main_v133, val_main_v126, val_main_v127, val_main_v131, val_main_v132, val_main_v125, val_main_v124, val_main_v121, val_main_v113, val_main_v106, val_main_v100, val_main_v99, val_main_v76, val_main_v77]
  exact hi rfl x _ j (by dsimp only; omega) (by dsimp only [pr]; omega) (by omega) (by dsimp only; omega) (by dsimp only; omega)

theorem q_heads (x : S8192x512.Idx → EReal) (b : Fin 4) (r : Fin 2048) (h : Fin 8) (d : Fin 64) (j : Fin 512) (hj : j.val = h.val * 64 + d.val) :
    (val_main_v189 (F := Ideal) x : S4x2048x8x64.Idx → EReal) (ix4 b r h d) = back rfl x ⟨b.val * 2048 + r.val, by omega⟩ j := by
  have hd := d.isLt
  pointwise [val_main_v189, val_main_v173, val_main_v188, val_main_cst_5, val_main_cst_6, val_main_v172, val_main_v187]
  by_cases a : d.val < 32
  · rw [dif_neg (by omega), dif_pos a, zero_add]
    by_cases e : d.val < 16
    · rw [dif_pos e]; exact q0a x b r h _ j (by dsimp only; omega)
    · rw [dif_neg e]; exact q0b x b r h _ j (by dsimp only; omega)
  · rw [dif_pos (by omega), dif_neg a, add_zero]
    by_cases e : d.val - 32 < 16
    · rw [dif_pos e]; exact q1a x b r h _ j (by dsimp only; omega)
    · rw [dif_neg e]; exact q1b x b r h _ j (by dsimp only; omega)

theorem ref_q (x : S8192x512.Idx → EReal) (R : Fin 8192) (j : Fin 512) :
    (val_main_v190 (F := Ideal) x : S8192x512.Idx → EReal) (ix2 R j) = back rfl x R j := by
  have e : (val_main_v190 (F := Ideal) x : S8192x512.Idx → EReal) (ix2 R j)
      = (val_main_v189 (F := Ideal) x : S4x2048x8x64.Idx → EReal) (ix4 ⟨R.val / 2048, by omega⟩ ⟨R.val % 2048, by omega⟩ ⟨j.val / 64, by omega⟩ ⟨j.val % 64, by omega⟩) := by
    pointwise [val_main_v190]
  refine (e.trans (q_heads x _ _ _ _ j (by dsimp only; omega))).trans ?_
  exact congrArg (back rfl x · j) (Fin.ext (by dsimp only; omega))

theorem k_heads (x : S8192x128.Idx → EReal) (b : Fin 4) (r : Fin 2048) (h : Fin 2) (d : Fin 64) (j : Fin 128) (hj : j.val = h.val * 64 + d.val) :
    (val_main_v155 (F := Ideal) x : S4x2048x2x64.Idx → EReal) (ix4 b r h d) = back rfl x ⟨b.val * 2048 + r.val, by omega⟩ j := by
  have hd := d.isLt
  pointwise [val_main_v155, val_main_v139, val_main_v154, val_main_cst_3, val_main_cst_4, val_main_v138, val_main_v153]
  by_cases a : d.val < 32
  · rw [dif_neg (by omega), dif_pos a, zero_add]
    by_cases e : d.val < 16
    · rw [dif_pos e]; exact k0a x b r h _ j (by dsimp only; omega)
    · rw [dif_neg e]; exact k0b x b r h _ j (by dsimp only; omega)
  · rw [dif_pos (by omega), dif_neg a, add_zero]
    by_cases e : d.val - 32 < 16
    · rw [dif_pos e]; exact k1a x b r h _ j (by dsimp only; omega)
    · rw [dif_neg e]; exact k1b x b r h _ j (by dsimp only; omega)

theorem ref_k (x : S8192x128.Idx → EReal) (R : Fin 8192) (j : Fin 128) :
    (val_main_v156 (F := Ideal) x : S8192x128.Idx → EReal) (ix2 R j) = back rfl x R j := by
  have e : (val_main_v156 (F := Ideal) x : S8192x128.Idx → EReal) (ix2 R j)
      = (val_main_v155 (F := Ideal) x : S4x2048x2x64.Idx → EReal) (ix4 ⟨R.val / 2048, by omega⟩ ⟨R.val % 2048, by omega⟩ ⟨j.val / 64, by omega⟩ ⟨j.val % 64, by omega⟩) := by
    pointwise [val_main_v156]
  refine (e.trans (k_heads x _ _ _ _ j (by dsimp only; omega))).trans ?_
  exact congrArg (back rfl x · j) (Fin.ext (by dsimp only; omega))

end Cert.Rope51

end
-- ==== Proof.Rope51.lean ====
module

public import proofs.«01_k».proof.Defs
public import proofs.«01_k».proof.Proof.Gen.Kernel51Ideal.Value
public import proofs.«01_k».proof.Proof.RopeT51
public import proofs.«01_k».proof.Proof.Rope50
public import Idealize.ShloMosaic.Lib.Pointwise
public import Idealize.ShloMosaic.Lib.Claim
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.ShloMosaic.Pipeline (Dat)

/-! Program 51: the gradient of the rotary embedding. -/

namespace Cert.Rope51

open Cert.Kernel51Ideal Cert.Kernel51Ideal.Gen
open Cert.Reference51Ideal.Read
open Cert.Rope50 (two four sel canon_col hz)

variable (m : (ℓ : Loc nD τ sig) → Buf (Elt Ideal) ℓ)

abbrev arg0 (c : Dev nD) : S8192x512.Idx → EReal := m ((c : Thread nD τ).loc main_arg0)
abbrev arg1 (c : Dev nD) : S8192x128.Idx → EReal := m ((c : Thread nD τ).loc main_arg1)

theorem Vc (c : Dev nD) (r : Fin 2048) (l : Fin 128) : (V m c main_v43 : S2048x128.Idx → EReal) (ix2 r l) = ct (ix2 r (pr l.val)) := by
  show StableHlo.after (List.flatten [hostOps0]) (fun b => m (c, b)) (Proc.devRef .tc main_v43) _ = _
  simp only [hostOps0, List.flatten_cons, List.flatten_nil, List.append_nil, List.cons_append, List.nil_append]
  after_results_simp
  dsimp only [Matrix.cons_val]
  repeat (first
    | (simp -zeta -beta -eta -iota -proj -zetaUnused -letToHave only [↓ StableHlo.readResult, ↓ StableHlo.readPieces, -eq_self])
    | rw [StableHlo.nullary_result] | rw [StableHlo.unary_result] | rw [StableHlo.binary_result] | rw [StableHlo.reshape_result])
  generalize hX : (Host.cos (F := Ideal) _ : S2048x32.Idx → EReal) = X
  have hx : X = ct := by rw [← hX]; rfl
  subst hx
  refine (two _ r l).trans ((four _ _ _ _ r _).trans ?_)
  have hl := l.isLt
  dsimp only
  split_ifs <;> pointwise <;> exact congrArg _ (congrArg (ix2 r) (Fin.ext (by dsimp only [pr]; omega)))

theorem Vs (c : Dev nD) (r : Fin 2048) (l : Fin 128) : (V m c main_v46 : S2048x128.Idx → EReal) (ix2 r l) =
    if l.val % 32 < 16 then - st (ix2 r (pr l.val)) else st (ix2 r (pr l.val)) := by
  show StableHlo.after (List.flatten [hostOps0]) (fun b => m (c, b)) (Proc.devRef .tc main_v46) _ = _
  simp only [hostOps0, List.flatten_cons, List.flatten_nil, List.append_nil, List.cons_append, List.nil_append]
  after_results_simp
  dsimp only [Matrix.cons_val]
  repeat (first
    | (simp -zeta -beta -eta -iota -proj -zetaUnused -letToHave only [↓ StableHlo.readResult, ↓ StableHlo.readPieces, -eq_self])
    | rw [StableHlo.nullary_result] | rw [StableHlo.unary_result] | rw [StableHlo.binary_result] | rw [StableHlo.reshape_result])
  generalize hX : (Host.sin (F := Ideal) _ : S2048x32.Idx → EReal) = X
  have hx : X = st := by rw [← hX]; rfl
  subst hx
  refine (two _ r l).trans ((four _ _ _ _ r _).trans ?_)
  have hl := l.isLt
  dsimp only
  split_ifs <;> first | (exfalso; omega) | skip
  all_goals pointwise
  all_goals first
    | exact congrArg st (congrArg (ix2 r) (Fin.ext (by dsimp only [pr]; omega)))
    | exact congrArg (fun z => - st (ix2 r z)) (Fin.ext (by dsimp only [pr]; omega))

/-- A tile's columns turned back: the body's operation on 128 columns. -/
def turn (c s t : S512x128.Idx → EReal) (k : Fin 512) (l : Fin 128) : EReal :=
  t (ix2 k l) * c (ix2 k l) + t (ix2 k (pc rfl l)) * s (ix2 k (pc rfl l))

theorem turn_eq (c s t : S512x128.Idx → EReal) (k : Fin 512) (l : Fin 128) (h₁ h₂ h₃ h₄) :
    t (ix2 k l) * c (ix2 k l) + Scalar.select (IntOp.cmpi CmpIPredicate.eq (IntOp.andi (BitVec.ofNat 32 l.val) 16#32) 0#32)
      (t (ix2 k ⟨(l.val + 128 - 112) % 128, h₁⟩) * s (ix2 k ⟨(l.val + 128 - 112) % 128, h₃⟩))
      (t (ix2 k ⟨(l.val + 128 - 16) % 128, h₂⟩) * s (ix2 k ⟨(l.val + 128 - 16) % 128, h₄⟩)) = turn c s t k l := by
  rw [sel]
  unfold turn pc
  have hl := l.isLt
  split_ifs <;> exact congrArg (fun z => t (ix2 k l) * c (ix2 k l) + t (ix2 k z) * s (ix2 k z)) (Fin.ext (by dsimp only; omega))

section
variable (c s t : S512x128.Idx → EReal) (k : Fin 512) (l : Fin 128)

theorem pay3 : (k0_pay3 (F := Ideal) c s t : S512x128.Idx → EReal) (ix2 k l) = turn c s t k l := by
  unfold_payloads
  pointwise
  exact turn_eq c s t k l _ _ _ _
theorem pay4 : (k0_pay4 (F := Ideal) c s t : S512x128.Idx → EReal) (ix2 k l) = turn c s t k l := by
  unfold_payloads
  pointwise
  exact turn_eq c s t k l _ _ _ _
theorem pay7 : (k0_pay7 (F := Ideal) (k0_pay5 c t) (k0_pay6 s t) (iota .tc S512x128 32 [1] iota_S512x128_d1_w32) 16#32 : S512x128.Idx → EReal) (ix2 k l) = turn c s t k l := by
  unfold_payloads
  pointwise
  exact turn_eq c s t k l _ _ _ _
theorem pay8 : (k0_pay8 (F := Ideal) (k0_pay1 c) (k0_pay2 s) t : S512x128.Idx → EReal) (ix2 k l) = turn c s t k l := by
  unfold_payloads
  pointwise
  exact turn_eq c s t k l _ _ _ _
theorem pay9 : (k0_pay9 (F := Ideal) (k0_pay1 c) (k0_pay2 s) t : S512x128.Idx → EReal) (ix2 k l) = turn c s t k l := by
  unfold_payloads
  pointwise
  exact turn_eq c s t k l _ _ _ _
end

/-- The turned tile of columns `o` and on, at column `j`. -/
theorem turn_col {o : ℕ} (ho : o % 128 = 0) (c s : S512x128.Idx → EReal) (X : S512x512.Idx → EReal)
    (inb : ∀ a, (![0, o] : Fin 2 → ℕ) a + S512x128.size a ≤ S512x512.size a) (k : Fin 512) (j : Fin 512) (h : o ≤ j.val ∧ j.val < o + 128) (l : Fin 128)
    (hl : l.val = j.val % 128) :
    turn c s (View.ld (Val := Elt Ideal) (e' := .f32) X (Rect.unit (s := S512x512) ![0, o] S512x128.size inb)) k (⟨j.val - o, by omega⟩ : Fin 128)
      = X (ix2 k j) * c (ix2 k l) + X (ix2 k (pc rfl j)) * s (ix2 k (pc rfl l)) := by
  have ld : ∀ l : Fin 128, ∀ j' : Fin 512, j'.val = o + l.val →
      View.ld (Val := Elt Ideal) (e' := .f32) X (Rect.unit (s := S512x512) ![0, o] S512x128.size inb) (ix2 k l) = X (ix2 k j') := fun l j' e => by
    refine congrArg X ?_
    funext x; apply Fin.ext
    match x with
    | ⟨0, _⟩ => show 0 + 1 * k.val = k.val; omega
    | ⟨1, _⟩ => show o + 1 * l.val = j'.val; omega
  have el : (⟨j.val - o, by omega⟩ : Fin 128) = l := Fin.ext (by dsimp only; omega)
  unfold turn
  rw [el, ld _ j (by omega), ld _ (pc rfl j) (by unfold pc; split_ifs <;> first | (exfalso; omega) | (dsimp only; omega))]

section
variable (x0 : S512x512.Idx → EReal) (x1 x2 x3 : S512x128.Idx → EReal)

theorem out4 (k : Fin 512) (j : Fin 512) (l : Fin 128) (hl : l.val = j.val % 128) :
    (out0_4 (F := Ideal) x0 x1 x2 x3 : S512x512.Idx → EReal) (ix2 k j)
      = x0 (ix2 k j) * x2 (ix2 k l) + x0 (ix2 k (pc rfl j)) * x3 (ix2 k (pc rfl l)) := by
  unfold out0_4 k0_pay10 k0_pay11
  simp only [View.ld_unit_zero (S := S512x128) hz]
  rw [canon_col, canon_col, canon_col, canon_col]
  have hj := j.isLt
  split_ifs with a3 a2 a1 a0
  · exact (pay8 _ _ _ _ _).trans (turn_col (by omega) x2 x3 x0 _ k j a3 l hl)
  · exact (pay7 _ _ _ _ _).trans (turn_col (by omega) x2 x3 x0 _ k j a2 l hl)
  · exact (pay4 _ _ _ _ _).trans (turn_col (by omega) x2 x3 x0 _ k j a1 l hl)
  · exact (pay3 _ _ _ _ _).trans (turn_col (by omega) x2 x3 x0 _ k j a0 l hl)
  · omega

theorem out5 (k : Fin 512) (l : Fin 128) : (out0_5 (F := Ideal) x0 x1 x2 x3 : S512x128.Idx → EReal) (ix2 k l) = turn x2 x3 x1 k l := by
  unfold out0_5 k0_pay10 k0_pay11
  rw [View.canon_unit_zero hz]
  simp only [View.ld_unit_zero (S := S512x128) hz]
  exact pay9 _ _ _ _ _
end

theorem idx : ∀ t : Fin grid0.N, win0_0.index t = ![t.val, 0] ∧ win0_1.index t = ![t.val, 0] ∧ win0_2.index t = ![t.val % 4, 0]
    ∧ win0_3.index t = ![t.val % 4, 0] ∧ win0_4.index t = ![t.val, 0] ∧ win0_5.index t = ![t.val, 0] := by decide +kernel
theorem lt_N (t : Fin cfg0.N) : t.val < 16 := Nat.lt_of_lt_of_eq t.isLt (by decide +kernel)
/-- The row of point `t`'s row `k`. -/
abbrev row (t : Fin cfg0.N) (k : Fin 512) : Fin 8192 := ⟨512 * t.val + k.val, by have := lt_N t; omega⟩

variable (c : Dev nD)

theorem in0 (t : Fin cfg0.N) (k : Fin 512) (j : Fin 512) : (iblk m c 0 t : S512x512.Idx → EReal) (ix2 k j) = arg0 m c (ix2 (row t k) j) := by
  have h := idx t
  blk_ext [iblk, V, h.1]

theorem in1 (t : Fin cfg0.N) (k : Fin 512) (l : Fin 128) : (iblk m c 1 t : S512x128.Idx → EReal) (ix2 k l) = arg1 m c (ix2 (row t k) l) := by
  have h := idx t
  blk_ext [iblk, V, h.2.1]

theorem in2 (t : Fin cfg0.N) (k : Fin 512) (l : Fin 128) : (iblk m c 2 t : S512x128.Idx → EReal) (ix2 k l) = ct (ix2 ⟨(row t k).val % 2048, by omega⟩ (pr l.val)) := by
  have h := idx t
  rw [← Vc m c]
  have e : (row t k).val % 2048 = 512 * (t.val % 4) + k.val := by dsimp only; omega
  blk_ext [iblk, h.2.2.1, e]

theorem in3 (t : Fin cfg0.N) (k : Fin 512) (l : Fin 128) : (iblk m c 3 t : S512x128.Idx → EReal) (ix2 k l) =
    if l.val % 32 < 16 then - st (ix2 ⟨(row t k).val % 2048, by omega⟩ (pr l.val)) else st (ix2 ⟨(row t k).val % 2048, by omega⟩ (pr l.val)) := by
  have h := idx t
  rw [← Vs m c]
  have e : (row t k).val % 2048 = 512 * (t.val % 4) + k.val := by dsimp only; omega
  blk_ext [iblk, h.2.2.2.1, e]

/-- What the body computes at a column is the pair turned back by its angle. -/
theorem meets {n : ℕ} (hn : n % 32 = 0) (x : (⟨2, ![8192, n]⟩ : Shape).Idx → EReal) (R : Fin 8192) (j : Fin n) (l : Fin 128) (hl : l.val % 64 = j.val % 64) :
    x (ix2 R j) * ct (ix2 ⟨R.val % 2048, by omega⟩ (pr l.val)) + x (ix2 R (pc hn j)) *
      (if (pc (n := 128) rfl l).val % 32 < 16 then - st (ix2 ⟨R.val % 2048, by omega⟩ (pr (pc (n := 128) rfl l).val)) else st (ix2 ⟨R.val % 2048, by omega⟩ (pr (pc (n := 128) rfl l).val)))
      = back hn x R j := by
  have e1 : pr l.val = pr j.val := Fin.ext (by dsimp only [pr]; omega)
  have e2 : pr (pc (n := 128) rfl l).val = pr j.val := Fin.ext (by unfold pc; split_ifs <;> dsimp only [pr] <;> omega)
  have e3 : (pc (n := 128) rfl l).val % 32 < 16 ↔ ¬ j.val % 32 < 16 := by unfold pc; split_ifs <;> dsimp only <;> omega
  rw [e1, e2]
  unfold back
  by_cases a : j.val % 32 < 16
  · rw [if_pos a, if_neg (fun h => e3.mp h a), add_comm]
  · rw [if_neg a, if_pos (e3.mpr a), mul_neg, neg_mul]

theorem after4 (t : Fin cfg0.N) (k j : Fin 512) : (out0_4 (F := Ideal) (iblk m c 0 t) (iblk m c 1 t) (iblk m c 2 t) (iblk m c 3 t) : S512x512.Idx → EReal) (ix2 k j)
      = val_main_v190 (F := Ideal) (arg0 m c) (ix2 (row t k) j) := by
  refine (out4 _ _ _ _ k j ⟨j.val % 128, by omega⟩ rfl).trans (Eq.trans ?_ (ref_q (arg0 m c) (row t k) j).symm)
  rw [in0, in0, in2, in3]
  exact meets rfl (arg0 m c) (row t k) j _ (by dsimp only; omega)

theorem after5 (t : Fin cfg0.N) (k : Fin 512) (l : Fin 128) : (out0_5 (F := Ideal) (iblk m c 0 t) (iblk m c 1 t) (iblk m c 2 t) (iblk m c 3 t) : S512x128.Idx → EReal) (ix2 k l)
      = val_main_v156 (F := Ideal) (arg1 m c) (ix2 (row t k) l) := by
  refine (out5 _ _ _ _ k l).trans (Eq.trans ?_ (ref_k (arg1 m c) (row t k) l).symm)
  unfold turn
  rw [in1, in1, in2, in3]
  exact meets rfl (arg1 m c) (row t k) l l rfl

/-- What the launch leaves. -/
theorem arr4 : (dats m 0 c).arrAt 4 cfg0.N = val_main_v190 (F := Ideal) (arg0 m c) := by
  refine (dats m 0 c).arrAt_eq_of_covers 4 _ (by decide +kernel) fun t hf y => ?_
  blk_simp
  rw [after0_4]
  have h := idx t
  have e : ((win0_4.blk t).view.emb y : S8192x512.Idx) = ix2 (row t (y 0)) (y 1) := by blk_ext [h.2.2.2.2.1]
  exact (congrArg _ (eq_ix2 y)).trans ((after4 m c t (y 0) (y 1)).trans (congrArg (val_main_v190 (F := Ideal) (arg0 m c)) e).symm)

theorem arr5 : (dats m 0 c).arrAt 5 cfg0.N = val_main_v156 (F := Ideal) (arg1 m c) := by
  refine (dats m 0 c).arrAt_eq_of_covers 5 _ (by decide +kernel) fun t hf y => ?_
  blk_simp
  rw [after0_5]
  have h := idx t
  have e : ((win0_5.blk t).view.emb y : S8192x128.Idx) = ix2 (row t (y 0)) (y 1) := by blk_ext [h.2.2.2.2.2]
  exact (congrArg _ (eq_ix2 y)).trans ((after5 m c t (y 0) (y 1)).trans (congrArg (val_main_v156 (F := Ideal) (arg1 m c)) e).symm)

/-- The gradient of the rotary embedding: the launch and the plain reference leave the same arrays. -/
theorem tie : Cert.algebraic_Kernel51Ideal_Reference51Ideal (hKernel51Ideal := Cert.Kernel51Ideal.Gen.facts)
    (hReference51Ideal := Cert.Reference51Ideal.Gen.facts) := by
  intro m g m' g' _ hagree
  refine ⟨fun c => val_main_v190 (F := Ideal) (arg0 m c), fun c => val_main_v156 (F := Ideal) (arg1 m c), ?_, ?_⟩
  · refine (θ_run _ _ _).mono (fun r h c => ?_) (Cert.Kernel51Ideal.Value.run_blocks (F := Ideal) m g)
    obtain ⟨h4, h5, hk⟩ := h c
    exact ⟨h4.trans (arr4 m c), h5.trans (arr5 m c), hk⟩
  · refine (θ_run _ _ _).mono (fun r h c => ?_) (Cert.Reference51Ideal.Value.run (F := Ideal) m' g')
    obtain ⟨h4, h5, hk⟩ := h c
    obtain ⟨a0, a1⟩ := hagree c
    exact ⟨h4.trans ((val_main_v190_eq _).trans (congrArg (val_main_v190 (F := Ideal)) a0)),
      h5.trans ((val_main_v156_eq _).trans (congrArg (val_main_v156 (F := Ideal)) a1)), hk⟩

end Cert.Rope51

end
-- ==== Proof.ConvO52.lean ====
module

public import proofs.«01_k».proof.Proof.Gen.Kernel52Ideal.Value
public import Idealize.ShloMosaic.Lib.Pointwise
public import Idealize.ShloMosaic.Lib.Pipeline.Value
public import Idealize.ShloMosaic.Lib.Tactic
public import Idealize.ShloMosaic.Lib.WritesUnit

@[expose] public section

set_option maxRecDepth 16384

noncomputable section

open Idealize.ShloMosaic Idealize.ShloMosaic.TcCoe Idealize.SL.Sem
open Idealize.ShloMosaic.Pipeline (Dat)

/-! Program 52: the gradient of the gated convolution, context rows: one point of the grid. -/

namespace Cert.ConvB52

open Cert.Kernel52Ideal Cert.Kernel52Ideal.Gen

theorem hz : (![0, 0] : Fin 2 → Nat) = fun _ => 0 := funext fun a => by fin_cases a <;> rfl

/-- A tile of the launch: 256 rows of 256 lanes. -/
abbrev Tile := Vec Ideal S256x256 .f32

/-- The product of two tiles. -/
def tmul (x y : Tile) : Tile := fun j => x j * y j

/-- The row before, zero before the first. -/
def prv (z : Tile) (r : Fin 256) (l : Fin 256) : EReal :=
  if h : r.val = 0 then 0 else z (ix2 ⟨r.val - 1, by omega⟩ l)

/-- The row after, zero after the last. -/
def nxt (z : Tile) (r : Fin 256) (l : Fin 256) : EReal :=
  if h : r.val = 255 then 0 else z (ix2 ⟨r.val + 1, by omega⟩ l)

/-- What the body's shift down reads, and its product with a tap. -/
theorem sel_prv (x y : Tile) (w : EReal) (r : Fin 256) (l : Fin 256) (h : (r.val + 256 - 1) % 256 < 256) :
    Scalar.select (IntOp.cmpi CmpIPredicate.eq (BitVec.ofNat 32 r.val) 0#32) 0
      (x (ix2 ⟨(r.val + 256 - 1) % 256, h⟩ l) * y (ix2 ⟨(r.val + 256 - 1) % 256, h⟩ l) * w) = prv (tmul x y) r l * w := by
  unfold prv tmul
  by_cases h0 : r.val = 0
  · have hc : IntOp.cmpi CmpIPredicate.eq (BitVec.ofNat 32 r.val) 0#32 = 1#1 := by rw [h0]; decide
    rw [dif_pos h0, hc, zero_mul]; rfl
  · have hc : IntOp.cmpi CmpIPredicate.eq (BitVec.ofNat 32 r.val) 0#32 = 0#1 := by
      have hne : (BitVec.ofNat 32 r.val == 0#32) = false := by
        rw [beq_eq_false_iff_ne]; intro hb
        have := congrArg BitVec.toNat hb
        rw [BitVec.toNat_ofNat, Nat.mod_eq_of_lt (by omega)] at this
        exact h0 this
      simp only [IntOp.cmpi, hne]; rfl
    rw [dif_neg h0, hc]
    have e : (⟨(r.val + 256 - 1) % 256, h⟩ : Fin 256) = ⟨r.val - 1, by omega⟩ := Fin.ext (by dsimp only; omega)
    rw [e]; rfl

/-- What the body's shift up reads, and its product with a tap. -/
theorem sel_nxt (x y : Tile) (w : EReal) (r : Fin 256) (l : Fin 256) (h : (r.val + 256 - 255) % 256 < 256) :
    Scalar.select (IntOp.cmpi CmpIPredicate.eq (BitVec.ofNat 32 r.val) 255#32) 0
      (x (ix2 ⟨(r.val + 256 - 255) % 256, h⟩ l) * y (ix2 ⟨(r.val + 256 - 255) % 256, h⟩ l) * w) = nxt (tmul x y) r l * w := by
  unfold nxt tmul
  by_cases h0 : r.val = 255
  · have hc : IntOp.cmpi CmpIPredicate.eq (BitVec.ofNat 32 r.val) 255#32 = 1#1 := by rw [h0]; decide
    rw [dif_pos h0, hc, zero_mul]; rfl
  · have hc : IntOp.cmpi CmpIPredicate.eq (BitVec.ofNat 32 r.val) 255#32 = 0#1 := by
      have hne : (BitVec.ofNat 32 r.val == 255#32) = false := by
        rw [beq_eq_false_iff_ne]; intro hb
        have := congrArg BitVec.toNat hb
        rw [BitVec.toNat_ofNat, Nat.mod_eq_of_lt (by omega)] at this
        exact h0 this
      simp only [IntOp.cmpi, hne]; rfl
    rw [dif_neg h0, hc]
    have e : (⟨(r.val + 256 - 255) % 256, h⟩ : Fin 256) = ⟨r.val + 1, by omega⟩ := Fin.ext (by dsimp only; omega)
    rw [e]; rfl

/-- The gradient of the gate. -/
def fCb (x1 x2 : Tile) (x3 : Vec Ideal S3x256 .f32) (x4 : Tile) (r : Fin 256) (l : Fin 256) : EReal :=
  x4 (ix2 r l) * (prv (tmul x1 x2) r l * x3 (ix2 0 l) + x1 (ix2 r l) * x2 (ix2 r l) * x3 (ix2 1 l) + nxt (tmul x1 x2) r l * x3 (ix2 2 l))

/-- The gradient of the convolution's operand. -/
def fZ (x0 : Tile) (x3 : Vec Ideal S3x256 .f32) (x4 : Tile) (r : Fin 256) (l : Fin 256) : EReal :=
  nxt (tmul x4 x0) r l * x3 (ix2 0 l) + x4 (ix2 r l) * x0 (ix2 r l) * x3 (ix2 1 l) + prv (tmul x4 x0) r l * x3 (ix2 2 l)

variable (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S3x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S8x256 .f32) (harg9 : arg9.IsWhole)
  (x0 x1 x2 : Tile) (x3 : Vec Ideal S3x256 .f32) (x4 : Tile)

theorem out_A5 (hc0 : cond0_0 i) (r : Fin 256) (l : Fin 256) :
    out0_A_5 c i arg1 harg1 arg2 harg2 arg3 harg3 arg4 harg4 arg5 harg5 arg6 harg6 arg7 harg7 arg8 harg8 arg9 harg9 hc0 x0 x1 x2 x3 x4 (ix2 r l) = fCb x1 x2 x3 x4 r l := by
  unfold out0_A_5
  rw [View.read_writes_eq_canon _ _ _ (fun y => cover0_A_5 (y := y) ..)]
  unfold kernelRun0_A
  dsimp only
  sl_unfold_words
  rw [View.canon_unit_zero hz]
  simp only [View.readAt_eq_ld, harg1.read_unread, harg2.read_unread, harg3.read_unread, harg4.read_unread, harg5.read_unread, View.ld_unit_zero (S := S256x256) hz]
  unfold_payloads
  pointwise [fCb, fZ]
  exact congrArg (x4 (ix2 r l) * ·) (congrArg₂ (· + ·) (congrArg₂ (· + ·) (sel_prv _ _ _ r l _) rfl) (sel_nxt _ _ _ r l _))

theorem out_A6 (hc0 : cond0_0 i) (r : Fin 256) (l : Fin 256) :
    out0_A_6 c i arg1 harg1 arg2 harg2 arg3 harg3 arg4 harg4 arg5 harg5 arg6 harg6 arg7 harg7 arg8 harg8 arg9 harg9 hc0 x0 x1 x2 x3 x4 (ix2 r l) = fZ x0 x3 x4 r l * x2 (ix2 r l) := by
  unfold out0_A_6
  rw [View.read_writes_eq_canon _ _ _ (fun y => cover0_A_6 (y := y) ..)]
  unfold kernelRun0_A
  dsimp only
  sl_unfold_words
  rw [View.canon_unit_zero hz]
  simp only [View.readAt_eq_ld, harg1.read_unread, harg2.read_unread, harg3.read_unread, harg4.read_unread, harg5.read_unread, View.ld_unit_zero (S := S256x256) hz]
  unfold_payloads
  pointwise [fCb, fZ]
  exact congrArg (· * x2 (ix2 r l)) (congrArg₂ (· + ·) (congrArg₂ (· + ·) (sel_nxt _ _ _ r l _) rfl) (sel_prv _ _ _ r l _))

theorem out_A7 (hc0 : cond0_0 i) (r : Fin 256) (l : Fin 256) :
    out0_A_7 c i arg1 harg1 arg2 harg2 arg3 harg3 arg4 harg4 arg5 harg5 arg6 harg6 arg7 harg7 arg8 harg8 arg9 harg9 hc0 x0 x1 x2 x3 x4 (ix2 r l) = fZ x0 x3 x4 r l * x1 (ix2 r l) := by
  unfold out0_A_7
  rw [View.read_writes_eq_canon _ _ _ (fun y => cover0_A_7 (y := y) ..)]
  unfold kernelRun0_A
  dsimp only
  sl_unfold_words
  rw [View.canon_unit_zero hz]
  simp only [View.readAt_eq_ld, harg1.read_unread, harg2.read_unread, harg3.read_unread, harg4.read_unread, harg5.read_unread, View.ld_unit_zero (S := S256x256) hz]
  unfold_payloads
  pointwise [fCb, fZ]
  exact congrArg (· * x1 (ix2 r l)) (congrArg₂ (· + ·) (congrArg₂ (· + ·) (sel_nxt _ _ _ r l _) rfl) (sel_prv _ _ _ r l _))

theorem out_B5 (hc0 : ¬cond0_0 i) (xo : Vec Ideal S8x256 .f32) (r : Fin 256) (l : Fin 256) :
    out0_B_5 c i arg1 harg1 arg2 harg2 arg3 harg3 arg4 harg4 arg5 harg5 arg6 harg6 arg7 harg7 arg8 harg8 arg9 harg9 hc0 x0 x1 x2 x3 x4 xo (ix2 r l) = fCb x1 x2 x3 x4 r l := by
  unfold out0_B_5
  rw [View.read_writes_eq_canon _ _ _ (fun y => cover0_B_5 (y := y) ..)]
  unfold kernelRun0_B
  dsimp only
  sl_unfold_words
  rw [View.canon_unit_zero hz]
  simp only [View.readAt_eq_ld, harg1.read_unread, harg2.read_unread, harg3.read_unread, harg4.read_unread, harg5.read_unread, View.ld_unit_zero (S := S256x256) hz]
  unfold_payloads
  pointwise [fCb, fZ]
  exact congrArg (x4 (ix2 r l) * ·) (congrArg₂ (· + ·) (congrArg₂ (· + ·) (sel_prv _ _ _ r l _) rfl) (sel_nxt _ _ _ r l _))

theorem out_B6 (hc0 : ¬cond0_0 i) (xo : Vec Ideal S8x256 .f32) (r : Fin 256) (l : Fin 256) :
    out0_B_6 c i arg1 harg1 arg2 harg2 arg3 harg3 arg4 harg4 arg5 harg5 arg6 harg6 arg7 harg7 arg8 harg8 arg9 harg9 hc0 x0 x1 x2 x3 x4 xo (ix2 r l) = fZ x0 x3 x4 r l * x2 (ix2 r l) := by
  unfold out0_B_6
  rw [View.read_writes_eq_canon _ _ _ (fun y => cover0_B_6 (y := y) ..)]
  unfold kernelRun0_B
  dsimp only
  sl_unfold_words
  rw [View.canon_unit_zero hz]
  simp only [View.readAt_eq_ld, harg1.read_unread, harg2.read_unread, harg3.read_unread, harg4.read_unread, harg5.read_unread, View.ld_unit_zero (S := S256x256) hz]
  unfold_payloads
  pointwise [fCb, fZ]
  exact congrArg (· * x2 (ix2 r l)) (congrArg₂ (· + ·) (congrArg₂ (· + ·) (sel_nxt _ _ _ r l _) rfl) (sel_prv _ _ _ r l _))

theorem out_B7 (hc0 : ¬cond0_0 i) (xo : Vec Ideal S8x256 .f32) (r : Fin 256) (l : Fin 256) :
    out0_B_7 c i arg1 harg1 arg2 harg2 arg3 harg3 arg4 harg4 arg5 harg5 arg6 harg6 arg7 harg7 arg8 harg8 arg9 harg9 hc0 x0 x1 x2 x3 x4 xo (ix2 r l) = fZ x0 x3 x4 r l * x1 (ix2 r l) := by
  unfold out0_B_7
  rw [View.read_writes_eq_canon _ _ _ (fun y => cover0_B_7 (y := y) ..)]
  unfold kernelRun0_B
  dsimp only
  sl_unfold_words
  rw [View.canon_unit_zero hz]
  simp only [View.readAt_eq_ld, harg1.read_unread, harg2.read_unread, harg3.read_unread, harg4.read_unread, harg5.read_unread, View.ld_unit_zero (S := S256x256) hz]
  unfold_payloads
  pointwise [fCb, fZ]
  exact congrArg (· * x1 (ix2 r l)) (congrArg₂ (· + ·) (congrArg₂ (· + ·) (sel_nxt _ _ _ r l _) rfl) (sel_prv _ _ _ r l _))

end Cert.ConvB52
-- ==== Proof.ConvW52.lean ====
module

public import proofs.«01_k».proof.Proof.ConvO52

@[expose] public section

set_option maxRecDepth 16384

noncomputable section

open Idealize.ShloMosaic Idealize.ShloMosaic.TcCoe Idealize.SL.Sem
open Idealize.ShloMosaic.Pipeline (Dat)

/-! Program 52: the gradient of the gated convolution, context rows: the taps at one point. -/

namespace Cert.ConvB52

open Cert.Kernel52Ideal Cert.Kernel52Ideal.Gen

/-- A row store, read back at an index. -/
theorem canon_row {o : ℕ} (inb : ∀ a, (![o, 0] : Fin 2 → ℕ) a + (![1, 256] : Fin 2 → ℕ) a ≤ S8x256.size a)
    (w : (Rect.unit (s := S8x256) ![o, 0] ![1, 256] inb).shape.Idx → EReal) (L : List (View.Piece (Elt Ideal) S8x256 .f32))
    (k : Fin 8) (l : Fin 256) :
    View.canon (Val := Elt Ideal) ((⟨Rect.unit (s := S8x256) ![o, 0] ![1, 256] inb, w⟩ : View.Piece (Elt Ideal) S8x256 .f32) :: L) (ix2 k l)
      = if k.val = o then w (ix2 (0 : Fin 1) l) else View.canon (Val := Elt Ideal) L (ix2 k l) := by
  by_cases h : k.val = o
  · rw [if_pos h]
    have he : (Rect.unit (s := S8x256) ![o, 0] ![1, 256] inb).emb (ix2 (0 : Fin 1) l) = ix2 k l := by
      funext x; apply Fin.ext
      match x with
      | ⟨0, _⟩ => show o + 1 * 0 = k.val; omega
      | ⟨1, _⟩ => show 0 + 1 * l.val = l.val; omega
    rw [← he]
    exact View.canon_cons_emb (Val := Elt Ideal) (Rect.unit (s := S8x256) ![o, 0] ![1, 256] inb) w L (ix2 (0 : Fin 1) l)
  · rw [if_neg h]
    refine View.canon_cons_of_not_mem _ L ?_
    intro hm
    obtain ⟨i, hi, he⟩ := (LoadRect.mem_set _).mp hm (0 : Fin 2)
    have hi1 : i < 1 := hi
    have he' : k.val = o + 1 * i := he
    omega

/-- A row store over contents, read back at an index. -/
theorem read_row {o : ℕ} (v : View sig .tc .vmem S8x256 .f32) (f : v.ty.Contents (Elt Ideal))
    (inb : ∀ a, (![o, 0] : Fin 2 → ℕ) a + (![1, 256] : Fin 2 → ℕ) a ≤ S8x256.size a)
    (w : (Rect.unit (s := S8x256) ![o, 0] ![1, 256] inb).shape.Idx → EReal) (L : List (View.Piece (Elt Ideal) S8x256 .f32))
    (k : Fin 8) (l : Fin 256) :
    v.read (Elt Ideal) (v.writes (Elt Ideal) f ((⟨Rect.unit (s := S8x256) ![o, 0] ![1, 256] inb, w⟩ : View.Piece (Elt Ideal) S8x256 .f32) :: L)) (ix2 k l)
      = if k.val = o then w (ix2 (0 : Fin 1) l) else v.read (Elt Ideal) (v.writes (Elt Ideal) f L) (ix2 k l) := by
  by_cases h : k.val = o
  · rw [if_pos h]
    refine View.read_writes_cons_unit_of_mem v f inb w L (ix2 k l) (ix2 (0 : Fin 1) l) rfl fun a => ?_
    match a with
    | ⟨0, _⟩ => exact h
    | ⟨1, _⟩ => exact (Nat.zero_add _).symm
  · rw [if_neg h]
    refine View.read_writes_cons_unit_of_not_mem v f inb w L (ix2 k l) rfl (0 : Fin 2) ?_
    show k.val < o ∨ o + 1 ≤ k.val
    omega

/-- A row load of contents. -/
theorem ld_row {o : ℕ} (X : S8x256.Idx → EReal) (inb : ∀ a, (![o, 0] : Fin 2 → ℕ) a + (![1, 256] : Fin 2 → ℕ) a ≤ S8x256.size a)
    (k : Fin 8) (h : k.val = o) (l : Fin 256) :
    View.ld (Val := Elt Ideal) (e' := .f32) X (Rect.unit (s := S8x256) ![o, 0] ![1, 256] inb) (ix2 (0 : Fin 1) l) = X (ix2 k l) := by
  refine congrArg X ?_
  funext x; apply Fin.ext
  match x with
  | ⟨0, _⟩ => show o + 1 * 0 = k.val; omega
  | ⟨1, _⟩ => show 0 + 1 * l.val = l.val; omega

/-- A row load of what stores left. -/
theorem readCov_row {o : ℕ} (v : View sig .tc .vmem S8x256 .f32) (inb : ∀ a, (![o, 0] : Fin 2 → ℕ) a + (![1, 256] : Fin 2 → ℕ) a ≤ S8x256.size a)
    (L : List (View.Piece (Elt Ideal) S8x256 .f32)) (ho : o < 8) (l : Fin 256) :
    v.readCov L (Rect.unit (s := S8x256) ![o, 0] ![1, 256] inb).toLoadRect (ix2 (0 : Fin 1) l) = View.canon (Val := Elt Ideal) L (ix2 ⟨o, ho⟩ l) := by
  rw [View.readCov_eq_canon']
  refine congrArg (View.canon L) ?_
  funext x; apply Fin.ext
  match x with
  | ⟨0, _⟩ => show o + 1 * 0 = o; omega
  | ⟨1, _⟩ => show 0 + 1 * l.val = l.val; omega

theorem pay_next (x0 x1 x2 x4 : Tile) (a : Vec Ideal S1x256 .f32) (l : Fin 256) :
    k0_pay2 (k0_pay6 x1 x2) (k0_pay8 x4 x0) a (ix2 (0 : Fin 1) l) = a (ix2 0 l) + ∑ r : Fin 256, x4 (ix2 r l) * x0 (ix2 r l) * nxt (tmul x1 x2) r l := by
  unfold_payloads
  pointwise []
  exact congrArg (a (ix2 0 l) + ·) (Finset.sum_congr rfl fun r _ =>
    (congrArg (Scalar.select _ 0) (mul_comm _ _)).trans ((sel_nxt x1 x2 _ r l _).trans (mul_comm _ _)))

theorem pay_mid (x0 x1 x2 x4 : Tile) (a : Vec Ideal S1x256 .f32) (l : Fin 256) :
    k0_pay1 (k0_pay4 x1 x2) (k0_pay8 x4 x0) a (ix2 (0 : Fin 1) l) = a (ix2 0 l) + ∑ r : Fin 256, x4 (ix2 r l) * x0 (ix2 r l) * (x1 (ix2 r l) * x2 (ix2 r l)) := by
  unfold_payloads
  pointwise []

theorem pay_prev (x0 x1 x2 x4 : Tile) (a : Vec Ideal S1x256 .f32) (l : Fin 256) :
    k0_pay12 (k0_pay5 x1 x2) x4 x0 a (ix2 (0 : Fin 1) l) = a (ix2 0 l) + ∑ r : Fin 256, x4 (ix2 r l) * x0 (ix2 r l) * prv (tmul x1 x2) r l := by
  unfold_payloads
  pointwise []
  exact congrArg (a (ix2 0 l) + ·) (Finset.sum_congr rfl fun r _ =>
    (congrArg (Scalar.select _ 0) (mul_comm _ _)).trans ((sel_prv x1 x2 _ r l _).trans (mul_comm _ _)))

/-- One tile's part of the taps' gradient, on the launch's eight rows. -/
def fW (x0 x1 x2 x4 : Tile) (k : Fin 8) (l : Fin 256) : EReal :=
  if k.val = 2 then ∑ r : Fin 256, x4 (ix2 r l) * x0 (ix2 r l) * nxt (tmul x1 x2) r l
  else if k.val = 1 then ∑ r : Fin 256, x4 (ix2 r l) * x0 (ix2 r l) * (x1 (ix2 r l) * x2 (ix2 r l))
  else if k.val = 0 then ∑ r : Fin 256, x4 (ix2 r l) * x0 (ix2 r l) * prv (tmul x1 x2) r l
  else 0

theorem pay_zero (k : Fin 8) (l : Fin 256) : (k0_pay3 (F := Ideal)) (ix2 k l) = 0 := by
  unfold_payloads
  pointwise []

variable (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S3x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S8x256 .f32) (harg9 : arg9.IsWhole)
  (x0 x1 x2 : Tile) (x3 : Vec Ideal S3x256 .f32) (x4 : Tile)

theorem out_A8 (hc0 : cond0_0 i) (k : Fin 8) (l : Fin 256) :
    out0_A_8 c i arg1 harg1 arg2 harg2 arg3 harg3 arg4 harg4 arg5 harg5 arg6 harg6 arg7 harg7 arg8 harg8 arg9 harg9 hc0 x0 x1 x2 x3 x4 (ix2 k l) = fW x0 x1 x2 x4 k l := by
  unfold out0_A_8
  rw [View.read_writes_eq_canon _ _ _ (fun y => cover0_A_8 (y := y) ..)]
  unfold kernelRun0_A
  dsimp only
  sl_unfold_words
  simp only [View.readAt_eq_ld, harg1.read_unread, harg2.read_unread, harg3.read_unread, harg4.read_unread, harg5.read_unread, View.ld_unit_zero (S := S256x256) hz]
  rw [canon_row, canon_row, canon_row, pay_next, pay_mid, pay_prev, readCov_row _ _ _ (by omega), readCov_row _ _ _ (by omega), readCov_row _ _ _ (by omega),
    canon_row, canon_row, View.canon_cons_unit_zero (S := S8x256) hz]
  simp only [pay_zero, canon_row, if_neg (show ¬ ((2 : ℕ) = 1) by omega), if_neg (show ¬ ((2 : ℕ) = 0) by omega), if_neg (show ¬ ((1 : ℕ) = 0) by omega), View.canon_cons_unit_zero (S := S8x256) hz, zero_add]
  rfl

theorem out_B8 (hc0 : ¬cond0_0 i) (xo) (k : Fin 8) (l : Fin 256) :
    out0_B_8 c i arg1 harg1 arg2 harg2 arg3 harg3 arg4 harg4 arg5 harg5 arg6 harg6 arg7 harg7 arg8 harg8 arg9 harg9 hc0 x0 x1 x2 x3 x4 xo (ix2 k l) = xo (ix2 k l) + fW x0 x1 x2 x4 k l := by
  unfold out0_B_8
  unfold kernelRun0_B
  dsimp only
  sl_unfold_words
  simp only [View.readAt_eq_ld, harg1.read_unread, harg2.read_unread, harg3.read_unread, harg4.read_unread, harg5.read_unread, harg9.read_unread, View.ld_unit_zero (S := S256x256) hz]
  rw [read_row, read_row, read_row, pay_next, pay_mid, pay_prev]
  unfold fW
  by_cases h2 : k.val = 2
  · rw [if_pos h2, if_pos h2, ld_row _ _ k h2]
  rw [if_neg h2, if_neg h2]
  by_cases h1 : k.val = 1
  · rw [if_pos h1, if_pos h1, ld_row _ _ k h1]
  rw [if_neg h1, if_neg h1]
  by_cases h0 : k.val = 0
  · rw [if_pos h0, if_pos h0, ld_row _ _ k h0]
  rw [if_neg h0, if_neg h0, View.writes_nil, harg9.read_unread, add_zero]

end Cert.ConvB52
-- ==== Proof.ConvA52.lean ====
module

public import proofs.«01_k».proof.Proof.ConvW52
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! Program 52: the gradient of the gated convolution, context rows: the launch. -/

namespace Cert.ConvB52

open Cert.Kernel52Ideal Cert.Kernel52Ideal.Gen

variable (m : (ℓ : Loc nD τ sig) → Buf (Elt Ideal) ℓ)

/-- The three arguments, as arrays. -/
abbrev argP (c : Dev nD) : S9216x1792.Idx → EReal := m ((c : Thread nD τ).loc main_arg0)
abbrev argW (c : Dev nD) : S3x256.Idx → EReal := m ((c : Thread nD τ).loc main_arg1)
abbrev argD (c : Dev nD) : S9216x768.Idx → EReal := m ((c : Thread nD τ).loc main_arg2)

/-- A sequence's tile of the packed projection, from column `o` on. -/
def tileP (p : S9216x1792.Idx → EReal) (o : ℕ) (ho : o + 256 ≤ 1792) (s : Fin 4) : Tile :=
  fun j => p (ix2 ⟨8192 + (256 * s.val + (j 0).val), by have : (j 0).val < 256 := (j 0).isLt; omega⟩ ⟨o + (j 1).val, by have : (j 1).val < 256 := (j 1).isLt; omega⟩)

/-- A sequence's tile of the gradient that comes in. -/
def tileD (d : S9216x768.Idx → EReal) (s : Fin 4) : Tile :=
  fun j => d (ix2 ⟨8192 + (256 * s.val + (j 0).val), by have : (j 0).val < 256 := (j 0).isLt; omega⟩ ⟨512 + (j 1).val, by have : (j 1).val < 256 := (j 1).isLt; omega⟩)

theorem hN : cfg0.N = 4 := N_0

theorem idx0 : ∀ t : Fin grid0.N, win0_0.index t = ![32 + t.val, 3] ∧ win0_1.index t = ![32 + t.val, 4] ∧ win0_2.index t = ![32 + t.val, 5] ∧ win0_3.index t = ![0, 0]
    ∧ win0_4.index t = ![32 + t.val, 2] ∧ win0_5.index t = ![t.val, 0] ∧ win0_6.index t = ![t.val, 0] ∧ win0_7.index t = ![t.val, 0] ∧ win0_8.index t = ![0, 0] := by
  decide +kernel

/-- The point of the grid, as a sequence. -/
abbrev seqOf (t : Fin cfg0.N) : Fin 4 := ⟨t.val, lt_of_lt_of_eq t.isLt hN⟩

theorem in0 (c : Dev nD) (t : Fin cfg0.N) : (iblk m c 0 t : S256x256.Idx → EReal) = tileP (argP m c) 768 (by omega) (seqOf t) := by
  funext j
  unfold tileP argP
  have h := idx0 t
  blk_ext [iblk, V, h.1]

theorem in1 (c : Dev nD) (t : Fin cfg0.N) : (iblk m c 1 t : S256x256.Idx → EReal) = tileP (argP m c) 1024 (by omega) (seqOf t) := by
  funext j
  unfold tileP argP
  have h := idx0 t
  blk_ext [iblk, V, h.2.1]

theorem in2 (c : Dev nD) (t : Fin cfg0.N) : (iblk m c 2 t : S256x256.Idx → EReal) = tileP (argP m c) 1280 (by omega) (seqOf t) := by
  funext j
  unfold tileP argP
  have h := idx0 t
  blk_ext [iblk, V, h.2.2.1]

theorem in3 (c : Dev nD) (t : Fin cfg0.N) : (iblk m c 3 t : S3x256.Idx → EReal) = argW m c := by
  funext j
  have h := idx0 t
  blk_ext [iblk, V, h.2.2.2.1]

theorem in4 (c : Dev nD) (t : Fin cfg0.N) : (iblk m c 4 t : S256x256.Idx → EReal) = tileD (argD m c) (seqOf t) := by
  funext j
  unfold tileD argD
  have h := idx0 t
  blk_ext [iblk, V, h.2.2.2.2.1]

/-- What the launch leaves in result 0, at a sequence, a row and a lane. -/
def g5 (p : S9216x1792.Idx → EReal) (w : S3x256.Idx → EReal) (d : S9216x768.Idx → EReal) (s : Fin 4) (r : Fin 256) (l : Fin 256) : EReal :=
  fCb (tileP p 1024 (by omega) s) (tileP p 1280 (by omega) s) w (tileD d s) r l

theorem after5 (c : Dev nD) (t : Fin cfg0.N) (r : Fin 256) (l : Fin 256) :
    (outsAt0 m c t.val t.isLt).1 (ix2 r l) = g5 (argP m c) (argW m c) (argD m c) (seqOf t) r l := by
  unfold g5
  by_cases h0 : t.val % 4 = 0
  · rw [outsAt0_A m c t h0]
    dsimp only
    rw [out_A5, in1, in2, in3, in4]
  · rw [outsAt0_B m c t h0]
    dsimp only
    rw [out_B5, in1, in2, in3, in4]

/-- What the launch leaves in result 0. -/
def res5 (p : S9216x1792.Idx → EReal) (w : S3x256.Idx → EReal) (d : S9216x768.Idx → EReal) : S1024x256.Idx → EReal := fun i =>
  g5 p w d ⟨(i 0).val / 256, by have : (i 0).val < 1024 := (i 0).isLt; omega⟩ ⟨(i 0).val % 256, by omega⟩ ⟨(i 1).val, (i 1).isLt⟩

theorem arr5 (c : Dev nD) : (dats m 0 c).arrAt 5 cfg0.N = res5 (argP m c) (argW m c) (argD m c) := by
  refine (dats m 0 c).arrAt_eq_of_covers 5 _ (by decide +kernel) fun t hf y => ?_
  blk_simp
  rw [after0_5]
  have h := idx0 t
  have hy0 : (y 0).val < 256 := (y 0).isLt
  have hy1 : (y 1).val < 256 := (y 1).isLt
  have hy : (y : S256x256.Idx) = ix2 ⟨(y 0).val, hy0⟩ ⟨(y 1).val, hy1⟩ := by funext a; match a with | ⟨0, _⟩ => rfl | ⟨1, _⟩ => rfl
  refine (congrArg ((outsAt0 m c t.val t.isLt).1) hy).trans ((after5 m c t _ _).trans ?_)
  have e0 : (((win0_5.blk t).view.emb y) 0 : ℕ) = 256 * t.val + (y 0).val := by blk_simp [h.2.2.2.2.2.1]; omega
  have e1 : (((win0_5.blk t).view.emb y) 1 : ℕ) = (y 1).val := by blk_simp [h.2.2.2.2.2.1]
  unfold res5
  congr 1 <;> apply Fin.ext
  · show t.val = _ / 256
    rw [e0]; omega
  · show (y 0).val = _ % 256
    rw [e0]; omega
  · exact e1.symm

/-- What the launch leaves in result 1, at a sequence, a row and a lane. -/
def g6 (p : S9216x1792.Idx → EReal) (w : S3x256.Idx → EReal) (d : S9216x768.Idx → EReal) (s : Fin 4) (r : Fin 256) (l : Fin 256) : EReal :=
  fZ (tileP p 768 (by omega) s) w (tileD d s) r l * (tileP p 1280 (by omega) s) (ix2 r l)

theorem after6 (c : Dev nD) (t : Fin cfg0.N) (r : Fin 256) (l : Fin 256) :
    (outsAt0 m c t.val t.isLt).2.1 (ix2 r l) = g6 (argP m c) (argW m c) (argD m c) (seqOf t) r l := by
  unfold g6
  by_cases h0 : t.val % 4 = 0
  · rw [outsAt0_A m c t h0]
    dsimp only
    rw [out_A6, in0, in2, in3, in4]
  · rw [outsAt0_B m c t h0]
    dsimp only
    rw [out_B6, in0, in2, in3, in4]

/-- What the launch leaves in result 1. -/
def res6 (p : S9216x1792.Idx → EReal) (w : S3x256.Idx → EReal) (d : S9216x768.Idx → EReal) : S1024x256.Idx → EReal := fun i =>
  g6 p w d ⟨(i 0).val / 256, by have : (i 0).val < 1024 := (i 0).isLt; omega⟩ ⟨(i 0).val % 256, by omega⟩ ⟨(i 1).val, (i 1).isLt⟩

theorem arr6 (c : Dev nD) : (dats m 0 c).arrAt 6 cfg0.N = res6 (argP m c) (argW m c) (argD m c) := by
  refine (dats m 0 c).arrAt_eq_of_covers 6 _ (by decide +kernel) fun t hf y => ?_
  blk_simp
  rw [after0_6]
  have h := idx0 t
  have hy0 : (y 0).val < 256 := (y 0).isLt
  have hy1 : (y 1).val < 256 := (y 1).isLt
  have hy : (y : S256x256.Idx) = ix2 ⟨(y 0).val, hy0⟩ ⟨(y 1).val, hy1⟩ := by funext a; match a with | ⟨0, _⟩ => rfl | ⟨1, _⟩ => rfl
  refine (congrArg ((outsAt0 m c t.val t.isLt).2.1) hy).trans ((after6 m c t _ _).trans ?_)
  have e0 : (((win0_6.blk t).view.emb y) 0 : ℕ) = 256 * t.val + (y 0).val := by blk_simp [h.2.2.2.2.2.2.1]; omega
  have e1 : (((win0_6.blk t).view.emb y) 1 : ℕ) = (y 1).val := by blk_simp [h.2.2.2.2.2.2.1]
  unfold res6
  congr 1 <;> apply Fin.ext
  · show t.val = _ / 256
    rw [e0]; omega
  · show (y 0).val = _ % 256
    rw [e0]; omega
  · exact e1.symm

/-- What the launch leaves in result 2, at a sequence, a row and a lane. -/
def g7 (p : S9216x1792.Idx → EReal) (w : S3x256.Idx → EReal) (d : S9216x768.Idx → EReal) (s : Fin 4) (r : Fin 256) (l : Fin 256) : EReal :=
  fZ (tileP p 768 (by omega) s) w (tileD d s) r l * (tileP p 1024 (by omega) s) (ix2 r l)

theorem after7 (c : Dev nD) (t : Fin cfg0.N) (r : Fin 256) (l : Fin 256) :
    (outsAt0 m c t.val t.isLt).2.2.1 (ix2 r l) = g7 (argP m c) (argW m c) (argD m c) (seqOf t) r l := by
  unfold g7
  by_cases h0 : t.val % 4 = 0
  · rw [outsAt0_A m c t h0]
    dsimp only
    rw [out_A7, in0, in1, in3, in4]
  · rw [outsAt0_B m c t h0]
    dsimp only
    rw [out_B7, in0, in1, in3, in4]

/-- What the launch leaves in result 2. -/
def res7 (p : S9216x1792.Idx → EReal) (w : S3x256.Idx → EReal) (d : S9216x768.Idx → EReal) : S1024x256.Idx → EReal := fun i =>
  g7 p w d ⟨(i 0).val / 256, by have : (i 0).val < 1024 := (i 0).isLt; omega⟩ ⟨(i 0).val % 256, by omega⟩ ⟨(i 1).val, (i 1).isLt⟩

theorem arr7 (c : Dev nD) : (dats m 0 c).arrAt 7 cfg0.N = res7 (argP m c) (argW m c) (argD m c) := by
  refine (dats m 0 c).arrAt_eq_of_covers 7 _ (by decide +kernel) fun t hf y => ?_
  blk_simp
  rw [after0_7]
  have h := idx0 t
  have hy0 : (y 0).val < 256 := (y 0).isLt
  have hy1 : (y 1).val < 256 := (y 1).isLt
  have hy : (y : S256x256.Idx) = ix2 ⟨(y 0).val, hy0⟩ ⟨(y 1).val, hy1⟩ := by funext a; match a with | ⟨0, _⟩ => rfl | ⟨1, _⟩ => rfl
  refine (congrArg ((outsAt0 m c t.val t.isLt).2.2.1) hy).trans ((after7 m c t _ _).trans ?_)
  have e0 : (((win0_7.blk t).view.emb y) 0 : ℕ) = 256 * t.val + (y 0).val := by blk_simp [h.2.2.2.2.2.2.2.1]; omega
  have e1 : (((win0_7.blk t).view.emb y) 1 : ℕ) = (y 1).val := by blk_simp [h.2.2.2.2.2.2.2.1]
  unfold res7
  congr 1 <;> apply Fin.ext
  · show t.val = _ / 256
    rw [e0]; omega
  · show (y 0).val = _ % 256
    rw [e0]; omega
  · exact e1.symm

/-- What the launch leaves in result 3, at a row and a lane. -/
def g8 (p : S9216x1792.Idx → EReal) (d : S9216x768.Idx → EReal) (k : Fin 8) (l : Fin 256) : EReal :=
  ∑ s : Fin 4, fW (tileP p 768 (by omega) s) (tileP p 1024 (by omega) s) (tileP p 1280 (by omega) s) (tileD d s) k l

theorem step8_A (c : Dev nD) (t : Fin cfg0.N) (h0 : t.val % 4 = 0) (k : Fin 8) (l : Fin 256) :
    (outsAt0 m c t.val t.isLt).2.2.2 (ix2 k l) = fW (tileP (argP m c) 768 (by omega) (seqOf t)) (tileP (argP m c) 1024 (by omega) (seqOf t)) (tileP (argP m c) 1280 (by omega) (seqOf t)) (tileD (argD m c) (seqOf t)) k l := by
  rw [outsAt0_A m c t h0]
  dsimp only
  rw [out_A8, in0, in1, in2, in4]

theorem step8_B (c : Dev nD) (t : Fin cfg0.N) (h0 : ¬t.val % 4 = 0) (k : Fin 8) (l : Fin 256) :
    (outsAt0 m c t.val t.isLt).2.2.2 (ix2 k l) = (outsAt0 m c (t.val - 1) (Nat.lt_of_le_of_lt (Nat.sub_le _ _) t.isLt)).2.2.2 (ix2 k l)
      + fW (tileP (argP m c) 768 (by omega) (seqOf t)) (tileP (argP m c) 1024 (by omega) (seqOf t)) (tileP (argP m c) 1280 (by omega) (seqOf t)) (tileD (argD m c) (seqOf t)) k l := by
  rw [outsAt0_B m c t h0]
  dsimp only
  rw [out_B8, in0, in1, in2, in4]

theorem acc8 (c : Dev nD) (hn : 3 < cfg0.N) (k : Fin 8) (l : Fin 256) :
    (outsAt0 m c 3 hn).2.2.2 (ix2 k l) = g8 (argP m c) (argD m c) k l := by
  have a0 := step8_A m c ⟨0, by rw [hN]; omega⟩ (by rfl) k l
  have a1 := step8_B m c ⟨1, by rw [hN]; omega⟩ (by dsimp only; omega) k l
  have a2 := step8_B m c ⟨2, by rw [hN]; omega⟩ (by dsimp only; omega) k l
  have a3 := step8_B m c ⟨3, hn⟩ (by dsimp only; omega) k l
  dsimp only [Nat.reduceSub] at a0 a1 a2 a3
  rw [a3, a2, a1, a0]
  unfold g8
  rw [Fin.sum_univ_four]
  rfl

theorem after8 (c : Dev nD) (t : Fin cfg0.N) (h3 : t.val = 3) (k : Fin 8) (l : Fin 256) :
    (outsAt0 m c t.val t.isLt).2.2.2 (ix2 k l) = g8 (argP m c) (argD m c) k l := by
  have key : ∀ (n : ℕ) (hn : n < cfg0.N), n = 3 → (outsAt0 m c n hn).2.2.2 (ix2 k l) = g8 (argP m c) (argD m c) k l := by
    intro n hn e
    subst e
    exact acc8 m c hn k l
  exact key t.val t.isLt h3

/-- What the launch leaves in result 3. -/
def res8 (p : S9216x1792.Idx → EReal) (d : S9216x768.Idx → EReal) : S8x256.Idx → EReal := fun i =>
  g8 p d ⟨(i 0).val, (i 0).isLt⟩ ⟨(i 1).val, (i 1).isLt⟩

theorem arr8 (c : Dev nD) : (dats m 0 c).arrAt 8 cfg0.N = res8 (argP m c) (argD m c) := by
  refine (dats m 0 c).arrAt_eq_of_covers 8 _ (by decide +kernel) fun t hf y => ?_
  blk_simp
  rw [after0_8]
  have h := idx0 t
  have h3 : t.val = 3 := by have := (flush0_8 t).mp hf; have : t.val < 4 := lt_of_lt_of_eq t.isLt hN; omega
  have hy0 : (y 0).val < 8 := (y 0).isLt
  have hy1 : (y 1).val < 256 := (y 1).isLt
  have hy : (y : S8x256.Idx) = ix2 ⟨(y 0).val, hy0⟩ ⟨(y 1).val, hy1⟩ := by funext a; match a with | ⟨0, _⟩ => rfl | ⟨1, _⟩ => rfl
  refine (congrArg ((outsAt0 m c t.val t.isLt).2.2.2) hy).trans ((after8 m c t h3 _ _).trans ?_)
  have e0 : (((win0_8.blk t).view.emb y) 0 : ℕ) = (y 0).val := by blk_simp [h.2.2.2.2.2.2.2.2]
  have e1 : (((win0_8.blk t).view.emb y) 1 : ℕ) = (y 1).val := by blk_simp [h.2.2.2.2.2.2.2.2]
  unfold res8
  congr 1 <;> apply Fin.ext
  · exact e0.symm
  · exact e1.symm

end Cert.ConvB52
-- ==== Proof.ConvB52.lean ====
module

public import proofs.«01_k».proof.Defs
public import proofs.«01_k».proof.Proof.ConvA52
public import proofs.«01_k».proof.Proof.ConvRef
public import proofs.«01_k».proof.Proof.Gen.Reference52Ideal.Run
public import proofs.«01_k».proof.Proof.Gen.Reference52Ideal.Read

@[expose] public section

set_option maxRecDepth 16384

noncomputable section

open Idealize.ShloMosaic Idealize.ShloMosaic.TcCoe Idealize.SL.Sem
open Idealize.ShloMosaic.Pipeline (Dat)

/-! Program 52: the gradient of the gated convolution, context rows. -/

namespace Cert.ConvB52

open Cert.Conv (sum_lead2)
open Cert.Reference52Ideal Cert.Reference52Ideal.Gen Cert.Reference52Ideal.Read

variable (p : S9216x1792.Idx → EReal) (w : S3x256.Idx → EReal) (d : S9216x768.Idx → EReal)

theorem r5 (b : Fin 4) (r : Fin 256) (l : Fin 256) :
    (val_main_v5 (F := Ideal) p : S4x256x256.Idx → EReal) (ix3 b r l) = tileP p 768 (by omega) b (ix2 r l) := by
  unfold tileP
  pointwise [val_main_v5, val_main_v1, val_main_v0]
  congr 2; exact Fin.ext (by simp only [Nat.mul_comm])

theorem r6 (b : Fin 4) (r : Fin 256) (l : Fin 256) :
    (val_main_v6 (F := Ideal) p : S4x256x256.Idx → EReal) (ix3 b r l) = tileP p 1024 (by omega) b (ix2 r l) := by
  unfold tileP
  pointwise [val_main_v6, val_main_v1, val_main_v0]
  congr 2; exact Fin.ext (by simp only [Nat.mul_comm])

theorem r7 (b : Fin 4) (r : Fin 256) (l : Fin 256) :
    (val_main_v7 (F := Ideal) p : S4x256x256.Idx → EReal) (ix3 b r l) = tileP p 1280 (by omega) b (ix2 r l) := by
  unfold tileP
  pointwise [val_main_v7, val_main_v1, val_main_v0]
  congr 2; exact Fin.ext (by simp only [Nat.mul_comm])

theorem r10 (b : Fin 4) (r : Fin 256) (l : Fin 256) :
    (val_main_v10 (F := Ideal) d : S4x256x256.Idx → EReal) (ix3 b r l) = tileD d b (ix2 r l) := by
  unfold tileD
  pointwise [val_main_v10, val_main_v9]
  congr 2; exact Fin.ext (by simp only [Nat.mul_comm])

/-- The product that the convolution reads. -/
theorem r11 (b : Fin 4) (r : Fin 256) (l : Fin 256) :
    (val_main_v11 (F := Ideal) p : S4x256x256.Idx → EReal) (ix3 b r l)
      = tmul (tileP p 1024 (by omega) b) (tileP p 1280 (by omega) b) (ix2 r l) := by
  rw [val_main_v11_apply, r6, r7]; rfl

theorem r13 (b : Fin 4) (r : Fin 258) (l : Fin 256) :
    (val_main_v13 (F := Ideal) p : S4x258x256.Idx → EReal) (ix3 b r l) = if h : r.val = 0 ∨ r.val = 257 then 0 else
      tmul (tileP p 1024 (by omega) b) (tileP p 1280 (by omega) b) (ix2 ⟨r.val - 1, by omega⟩ l) := by
  have h0 : ∀ i, (val_main_cst (F := Ideal) : S_.Idx → EReal) i = 0 := fun i => by pointwise [val_main_cst]
  pointwise [val_main_v13, val_main_v12]
  have hr := r.isLt
  by_cases a : r.val < 1
  · rw [dif_pos a, dif_pos (by omega)]; exact h0 _
  · rw [dif_neg a]
    by_cases e : r.val - 1 < 256
    · rw [dif_pos e, dif_neg (by omega)]; exact r11 p b _ l
    · rw [dif_neg e, dif_pos (by omega)]; exact h0 _

theorem r16 (b : Fin 4) (r : Fin 256) (l : Fin 256) :
    (val_main_v16 (F := Ideal) p : S4x256x256.Idx → EReal) (ix3 b r l)
      = prv (tmul (tileP p 1024 (by omega) b) (tileP p 1280 (by omega) b)) r l := by
  have e : (val_main_v16 (F := Ideal) p : S4x256x256.Idx → EReal) (ix3 b r l)
      = (val_main_v13 (F := Ideal) p : S4x258x256.Idx → EReal) (ix3 b ⟨r.val, by omega⟩ l) := by
    pointwise [val_main_v16]
  rw [e, r13]
  unfold prv
  have hr := r.isLt
  by_cases a : r.val = 0
  · rw [dif_pos (Or.inl a), dif_pos a]
  · rw [dif_neg (by dsimp only; omega), dif_neg a]

theorem r22 (b : Fin 4) (r : Fin 256) (l : Fin 256) :
    (val_main_v22 (F := Ideal) p : S4x256x256.Idx → EReal) (ix3 b r l)
      = tmul (tileP p 1024 (by omega) b) (tileP p 1280 (by omega) b) (ix2 r l) := by
  have e : (val_main_v22 (F := Ideal) p : S4x256x256.Idx → EReal) (ix3 b r l)
      = (val_main_v13 (F := Ideal) p : S4x258x256.Idx → EReal) (ix3 b ⟨1 + r.val, by omega⟩ l) := by
    pointwise [val_main_v22]
  have hr := r.isLt
  rw [e, r13, dif_neg (by dsimp only; omega)]
  congr 2; exact Fin.ext (by dsimp only; omega)

theorem r29 (b : Fin 4) (r : Fin 256) (l : Fin 256) :
    (val_main_v29 (F := Ideal) p : S4x256x256.Idx → EReal) (ix3 b r l)
      = nxt (tmul (tileP p 1024 (by omega) b) (tileP p 1280 (by omega) b)) r l := by
  have e : (val_main_v29 (F := Ideal) p : S4x256x256.Idx → EReal) (ix3 b r l)
      = (val_main_v13 (F := Ideal) p : S4x258x256.Idx → EReal) (ix3 b ⟨2 + r.val, by omega⟩ l) := by
    pointwise [val_main_v29]
  rw [e, r13]
  unfold nxt
  have hr := r.isLt
  by_cases a : r.val = 255
  · rw [dif_pos (by dsimp only; omega), dif_pos a]
  · rw [dif_neg (by dsimp only; omega), dif_neg a]
    congr 2; exact Fin.ext (by dsimp only; omega)

theorem r20 (b : Fin 4) (r : Fin 256) (l : Fin 256) :
    (val_main_v20 (F := Ideal) w : S4x256x256.Idx → EReal) (ix3 b r l) = w (ix2 0 l) := by
  pointwise [val_main_v20, val_main_v19, val_main_v18, val_main_v17]

theorem r26 (b : Fin 4) (r : Fin 256) (l : Fin 256) :
    (val_main_v26 (F := Ideal) w : S4x256x256.Idx → EReal) (ix3 b r l) = w (ix2 1 l) := by
  pointwise [val_main_v26, val_main_v25, val_main_v24, val_main_v23]

theorem r33 (b : Fin 4) (r : Fin 256) (l : Fin 256) :
    (val_main_v33 (F := Ideal) w : S4x256x256.Idx → EReal) (ix3 b r l) = w (ix2 2 l) := by
  pointwise [val_main_v33, val_main_v32, val_main_v31, val_main_v30]

theorem r42 (b : Fin 4) (r : Fin 256) (l : Fin 256) :
    (val_main_v42 (F := Ideal) w : S4x256x256.Idx → EReal) (ix3 b r l) = w (ix2 2 l) := by
  pointwise [val_main_v42, val_main_v32, val_main_v31, val_main_v30]

theorem r51 (b : Fin 4) (r : Fin 256) (l : Fin 256) :
    (val_main_v51 (F := Ideal) w : S4x256x256.Idx → EReal) (ix3 b r l) = w (ix2 1 l) := by
  pointwise [val_main_v51, val_main_v25, val_main_v24, val_main_v23]

theorem r62 (b : Fin 4) (r : Fin 256) (l : Fin 256) :
    (val_main_v62 (F := Ideal) w : S4x256x256.Idx → EReal) (ix3 b r l) = w (ix2 0 l) := by
  pointwise [val_main_v62, val_main_v19, val_main_v18, val_main_v17]

theorem r38 (b : Fin 4) (r : Fin 256) (l : Fin 256) :
    (val_main_v38 (F := Ideal) p w d : S4x256x256.Idx → EReal) (ix3 b r l) = g5 p w d b r l := by
  rw [val_main_v38_apply, val_main_v35_apply, val_main_v28_apply, val_main_v21_apply, val_main_v27_apply, val_main_v34_apply,
    r10, r16, r20, r22, r26, r29, r33]
  rfl

theorem r37 (b : Fin 4) (r : Fin 256) (l : Fin 256) :
    (val_main_v37 (F := Ideal) p d : S4x256x256.Idx → EReal) (ix3 b r l) = tmul (tileD d b) (tileP p 768 (by omega) b) (ix2 r l) := by
  rw [val_main_v37_apply, r5, r10]
  exact mul_comm _ _

theorem r71 (b : Fin 4) (r : Fin 256) (l : Fin 256) :
    (val_main_v71 (F := Ideal) p w d : S4x256x256.Idx → EReal) (ix3 b r l)
      = fZ (tileP p 768 (by omega) b) w (tileD d b) r l := by
  have e : (val_main_v71 (F := Ideal) p w d : S4x256x256.Idx → EReal) (ix3 b r l)
      = (val_main_v69 (F := Ideal) p w d : S4x258x256.Idx → EReal) (ix3 b ⟨1 + r.val, by omega⟩ l) := by
    pointwise [val_main_v71]
  have h0 : ∀ i, (val_main_cst_5 (F := Ideal) : S_.Idx → EReal) i = 0 := fun i => by pointwise [val_main_cst_5]
  have h1 : ∀ i, (val_main_cst_13 (F := Ideal) : S_.Idx → EReal) i = 0 := fun i => by pointwise [val_main_cst_13]
  rw [e]
  pointwise [val_main_v69, val_main_v58, val_main_v57, val_main_v47, val_main_v68]
  have hr := r.isLt
  have e0 : ∀ q : Fin 256, (val_main_v43 (F := Ideal) p w d : S4x256x256.Idx → EReal) (ix3 b q l)
      = tmul (tileD d b) (tileP p 768 (by omega) b) (ix2 q l) * w (ix2 2 l) := fun q => by
    rw [val_main_v43_apply, r37, r42]; rfl
  have e1 : ∀ q : Fin 256, (val_main_v52 (F := Ideal) p w d : S4x256x256.Idx → EReal) (ix3 b q l)
      = tmul (tileD d b) (tileP p 768 (by omega) b) (ix2 q l) * w (ix2 1 l) := fun q => by
    rw [val_main_v52_apply, r37, r51]; rfl
  have e2 : ∀ q : Fin 256, (val_main_v63 (F := Ideal) p w d : S4x256x256.Idx → EReal) (ix3 b q l)
      = tmul (tileD d b) (tileP p 768 (by omega) b) (ix2 q l) * w (ix2 0 l) := fun q => by
    rw [val_main_v63_apply, r37, r62]; rfl
  unfold fZ
  have sw : ∀ {A B C A' B' C' : EReal}, A = A' → B = B' → C = C' → A + B + C = C' + B' + A' := by
    rintro A B C _ _ _ rfl rfl rfl
    rw [add_comm (A + B) C, add_comm A B, add_assoc C B A]
  refine sw ?_ ?_ ?_
  · unfold prv
    by_cases a : r.val = 0
    · rw [dif_neg (by omega), dif_pos a, zero_mul]; exact h0 _
    · rw [dif_pos (by omega), dif_neg a]
      refine (e0 _).trans ?_
      congr 3; exact Fin.ext (by dsimp only; omega)
  · exact e1 r
  · unfold nxt
    by_cases a : r.val = 255
    · rw [dif_neg (by omega), dif_pos a, zero_mul]; exact h1 _
    · rw [dif_pos (by omega), dif_neg a]
      refine (e2 _).trans ?_
      congr 3; exact Fin.ext (by dsimp only; omega)

theorem r74 (b : Fin 4) (r : Fin 256) (l : Fin 256) :
    (val_main_v74 (F := Ideal) p w d : S4x256x256.Idx → EReal) (ix3 b r l) = g6 p w d b r l := by
  rw [val_main_v74_apply, r71, r7]; rfl

theorem r73 (b : Fin 4) (r : Fin 256) (l : Fin 256) :
    (val_main_v73 (F := Ideal) p w d : S4x256x256.Idx → EReal) (ix3 b r l) = g7 p w d b r l := by
  rw [val_main_v73_apply, r71, r6]
  exact mul_comm _ _

theorem refOut0 : (val_main_v75 (F := Ideal) p w d : S1024x256.Idx → EReal) = res5 p w d := by
  funext i
  have h0 : (i 0).val < 1024 := (i 0).isLt
  have h1 : (i 1).val < 256 := (i 1).isLt
  unfold res5
  rw [← r38]
  pointwise [val_main_v75]

theorem refOut1 : (val_main_v76 (F := Ideal) p w d : S1024x256.Idx → EReal) = res6 p w d := by
  funext i
  have h0 : (i 0).val < 1024 := (i 0).isLt
  have h1 : (i 1).val < 256 := (i 1).isLt
  unfold res6
  rw [← r74]
  pointwise [val_main_v76]

theorem refOut2 : (val_main_v77 (F := Ideal) p w d : S1024x256.Idx → EReal) = res7 p w d := by
  funext i
  have h0 : (i 0).val < 1024 := (i 0).isLt
  have h1 : (i 1).val < 256 := (i 1).isLt
  unfold res7
  rw [← r73]
  pointwise [val_main_v77]

theorem r79 (k : Fin 8) (l : Fin 256) :
    (val_main_v79 (F := Ideal) p d : S8x256.Idx → EReal) (ix2 k l) = g8 p d k l := by
  pointwise [val_main_v79, val_main_v78, val_main_v67, val_main_v66, val_main_v56, val_main_v46, val_main_v55, val_main_v65, val_main_v64, val_main_v61, val_main_v60,
    val_main_v45, val_main_v44, val_main_v41, val_main_v40, val_main_v54, val_main_v53, val_main_v50, val_main_v49, sum_lead2]
  have z2 : ∀ i, (val_main_cst_2 (F := Ideal) : S_.Idx → EReal) i = 0 := fun i => by pointwise [val_main_cst_2]
  have z3 : ∀ i, (val_main_cst_3 (F := Ideal) : S_.Idx → EReal) i = 0 := fun i => by pointwise [val_main_cst_3]
  have z4 : ∀ i, (val_main_cst_4 (F := Ideal) : S_.Idx → EReal) i = 0 := fun i => by pointwise [val_main_cst_4]
  have z6 : ∀ i, (val_main_cst_6 (F := Ideal) : S_.Idx → EReal) i = 0 := fun i => by pointwise [val_main_cst_6]
  have z7 : ∀ i, (val_main_cst_7 (F := Ideal) : S_.Idx → EReal) i = 0 := fun i => by pointwise [val_main_cst_7]
  have z8 : ∀ i, (val_main_cst_8 (F := Ideal) : S_.Idx → EReal) i = 0 := fun i => by pointwise [val_main_cst_8]
  have z10 : ∀ i, (val_main_cst_10 (F := Ideal) : S_.Idx → EReal) i = 0 := fun i => by pointwise [val_main_cst_10]
  have z11 : ∀ i, (val_main_cst_11 (F := Ideal) : S_.Idx → EReal) i = 0 := fun i => by pointwise [val_main_cst_11]
  have z12 : ∀ i, (val_main_cst_12 (F := Ideal) : S_.Idx → EReal) i = 0 := fun i => by pointwise [val_main_cst_12]
  have z14 : ∀ i, (val_main_cst_14 (F := Ideal) : S_.Idx → EReal) i = 0 := fun i => by pointwise [val_main_cst_14]
  simp only [z2, z3, z4, z6, z7, z8, z10, z11, z12, z14, zero_add, Finset.univ_unique, Finset.sum_const, Finset.card_singleton, one_smul]
  have w2 : ∑ a : Fin 4, ∑ r : Fin 256, (val_main_v39 (F := Ideal) p d : S4x256x256.Idx → EReal) (ix3 a r l)
      = ∑ a : Fin 4, ∑ r : Fin 256, tileD d a (ix2 r l) * tileP p 768 (by omega) a (ix2 r l)
        * nxt (tmul (tileP p 1024 (by omega) a) (tileP p 1280 (by omega) a)) r l :=
    Finset.sum_congr rfl fun a _ => Finset.sum_congr rfl fun r _ => by
      rw [val_main_v39_apply, r37, r29]; exact mul_comm _ _
  have w1 : ∑ a : Fin 4, ∑ r : Fin 256, (val_main_v48 (F := Ideal) p d : S4x256x256.Idx → EReal) (ix3 a r l)
      = ∑ a : Fin 4, ∑ r : Fin 256, tileD d a (ix2 r l) * tileP p 768 (by omega) a (ix2 r l)
        * (tileP p 1024 (by omega) a (ix2 r l) * tileP p 1280 (by omega) a (ix2 r l)) :=
    Finset.sum_congr rfl fun a _ => Finset.sum_congr rfl fun r _ => by
      rw [val_main_v48_apply, r37, r22]; exact mul_comm _ _
  have w0 : ∑ a : Fin 4, ∑ r : Fin 256, (val_main_v59 (F := Ideal) p d : S4x256x256.Idx → EReal) (ix3 a r l)
      = ∑ a : Fin 4, ∑ r : Fin 256, tileD d a (ix2 r l) * tileP p 768 (by omega) a (ix2 r l)
        * prv (tmul (tileP p 1024 (by omega) a) (tileP p 1280 (by omega) a)) r l :=
    Finset.sum_congr rfl fun a _ => Finset.sum_congr rfl fun r _ => by
      rw [val_main_v59_apply, r37, r16]; exact mul_comm _ _
  unfold g8 fW
  by_cases k2 : k.val = 2
  · simp only [k2, Nat.reduceLT, Nat.reduceLeDiff, Nat.reduceSub, and_self, and_false, ↓reduceDIte, ↓reduceIte, add_zero, zero_add, Nat.reduceEqDiff]
    exact w2
  by_cases k1 : k.val = 1
  · simp only [k1, Nat.reduceLT, Nat.reduceLeDiff, Nat.reduceSub, and_self, and_false, false_and, ↓reduceDIte, ↓reduceIte, add_zero, zero_add, Nat.reduceEqDiff, lt_self_iff_false]
    exact w1
  by_cases k0 : k.val = 0
  · simp only [k0, Nat.reduceLT, Nat.reduceLeDiff, Nat.reduceSub, and_self, and_false, false_and, ↓reduceDIte, ↓reduceIte, add_zero, zero_add, Nat.reduceEqDiff]
    exact w0
  rw [dif_neg (by omega)]
  simp only [if_neg k2, if_neg k1, if_neg k0, Finset.sum_const_zero]

theorem refOut3 : (val_main_v79 (F := Ideal) p d : S8x256.Idx → EReal) = res8 p d := by
  funext i
  have h0 : (i 0).val < 8 := (i 0).isLt
  have h1 : (i 1).val < 256 := (i 1).isLt
  unfold res8
  rw [← r79]
  exact congrArg _ (eq_ix2 i)

/-- The gradient of the gated convolution: the launch and the three lines' gradient leave the same arrays. -/
theorem tie : Cert.algebraic_Kernel52Ideal_Reference52Ideal (hKernel52Ideal := Cert.Kernel52Ideal.Gen.facts)
    (hReference52Ideal := Cert.Reference52Ideal.Gen.facts) := by
  intro m g m' g' _ hagree
  refine ⟨fun c => res5 (argP m c) (argW m c) (argD m c), fun c => res6 (argP m c) (argW m c) (argD m c),
    fun c => res7 (argP m c) (argW m c) (argD m c), fun c => res8 (argP m c) (argD m c), ?_, ?_⟩
  · refine (θ_run _ _ _).mono (fun r h c => ?_) (Cert.Kernel52Ideal.Value.run_blocks (F := Ideal) m g)
    obtain ⟨h5, h6, h7, h8, h0, h1, h2⟩ := h c
    exact ⟨h5.trans (arr5 m c), h6.trans (arr6 m c), h7.trans (arr7 m c), h8.trans (arr8 m c), h0, h1, h2⟩
  · refine (θ_run _ _ _).mono (fun r h c => ?_) (Cert.Reference52Ideal.Value.run (F := Ideal) m' g')
    obtain ⟨h5, h6, h7, h8, h0, h1, h2⟩ := h c
    obtain ⟨a0, a1, a2⟩ := hagree c
    refine ⟨h5.trans ?_, h6.trans ?_, h7.trans ?_, h8.trans ?_, h0, h1, h2⟩
    · rw [Cert.Reference52Ideal.Read.val_main_v75_eq, a0, a1, a2]
      exact refOut0 _ _ _
    · rw [a0, a1, a2]
      exact refOut1 _ _ _
    · rw [a0, a1, a2]
      exact refOut2 _ _ _
    · rw [Cert.Reference52Ideal.Read.val_main_v79_eq, a0, a2]
      exact refOut3 _ _

end Cert.ConvB52
-- ==== Proof.Norm38Ker.lean ====
module

public import proofs.«01_k».proof.Defs
public import proofs.«01_k».proof.Proof.Norm38Frame
public import proofs.«01_k».proof.Proof.Gen.Kernel38.Frame

@[expose] public section

set_option maxRecDepth 16384

noncomputable section

open Idealize.ShloMosaic Idealize.SL.Sem

/-! Program 38 as printed for the device: the same text as the one read at the ideal instance, so its run is the same. -/

namespace Cert.Norm38

/-- The two printings have the same body, -/
theorem defs0_eq : Cert.Kernel38.defs₀ (F := Bits) = Cert.Kernel38Ideal.defs₀ (F := Bits) := by
  refine congrArg Defs.onTc (funext fun l => funext fun a => ?_)
  match l, a with
  | ⟨0, _⟩, (t, s) => rfl
/-- the same calls, -/
theorem defs_eq : Cert.Kernel38.defs (F := Bits) = Cert.Kernel38Ideal.defs (F := Bits) :=
  congrArg (Pipeline.defs Cert.Kernel38Ideal.pcfgs) defs0_eq
/-- and the same run. -/
theorem ker : Cert.quiescent_Kernel38 := by
  intro m ρ _
  rw [defs_eq]
  exact Cert.Norm38.frame (F := Bits) m ρ

end Cert.Norm38

end
-- ==== Proof.lean ====
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.Gen.Kernel27.Frame
public import proofs.«01_k».proof.Proof.Gen.Kernel28.Frame
public import proofs.«01_k».proof.Proof.Gen.Kernel29.Frame
public import proofs.«01_k».proof.Proof.Gen.Kernel30.Frame
public import proofs.«01_k».proof.Proof.Gen.Kernel31.Frame
public import proofs.«01_k».proof.Proof.Gen.Kernel32.Frame
public import proofs.«01_k».proof.Proof.Gen.Kernel33.Frame
public import proofs.«01_k».proof.Proof.Gen.Kernel34.Frame
public import proofs.«01_k».proof.Proof.Gen.Kernel35.Frame
public import proofs.«01_k».proof.Proof.Gen.Kernel36.Frame
public import proofs.«01_k».proof.Proof.Gen.Kernel37.Frame
public import proofs.«01_k».proof.Proof.Gen.Kernel38.Frame
public import proofs.«01_k».proof.Proof.Gen.Kernel39.Frame
public import proofs.«01_k».proof.Proof.Gen.Kernel40.Frame
public import proofs.«01_k».proof.Proof.Gen.Kernel41.Frame
public import proofs.«01_k».proof.Proof.Gen.Kernel42.Frame
public import proofs.«01_k».proof.Proof.Gen.Kernel43.Frame
public import proofs.«01_k».proof.Proof.Gen.Kernel44.Frame
public import proofs.«01_k».proof.Proof.Gen.Kernel45.Frame
public import proofs.«01_k».proof.Proof.Gen.Kernel46.Frame
public import proofs.«01_k».proof.Proof.Gen.Kernel47.Frame
public import proofs.«01_k».proof.Proof.Gen.Kernel49.Frame
public import proofs.«01_k».proof.Proof.Gen.Kernel50.Frame
public import proofs.«01_k».proof.Proof.Gen.Kernel51.Frame
public import proofs.«01_k».proof.Proof.Gen.Kernel52.Frame
public import proofs.«01_k».proof.Proof.ConvTie
public import proofs.«01_k».proof.Proof.Prod2
public import proofs.«01_k».proof.Proof.Prod3
public import proofs.«01_k».proof.Proof.Prod4
public import proofs.«01_k».proof.Proof.Prod5
public import proofs.«01_k».proof.Proof.Prod6
public import proofs.«01_k».proof.Proof.Prod7
public import proofs.«01_k».proof.Proof.Prod8
public import proofs.«01_k».proof.Proof.Prod9
public import proofs.«01_k».proof.Proof.Prod10
public import proofs.«01_k».proof.Proof.Prod11
public import proofs.«01_k».proof.Proof.Prod12
public import proofs.«01_k».proof.Proof.Prod13
public import proofs.«01_k».proof.Proof.Prod14
public import proofs.«01_k».proof.Proof.Prod15
public import proofs.«01_k».proof.Proof.Prod16
public import proofs.«01_k».proof.Proof.Prod17
public import proofs.«01_k».proof.Proof.Prod18
public import proofs.«01_k».proof.Proof.Adam19
public import proofs.«01_k».proof.Proof.Adam20
public import proofs.«01_k».proof.Proof.Adam21
public import proofs.«01_k».proof.Proof.Adam22
public import proofs.«01_k».proof.Proof.Adam23
public import proofs.«01_k».proof.Proof.Adam24
public import proofs.«01_k».proof.Proof.Adam25
public import proofs.«01_k».proof.Proof.Adam26
public import proofs.«01_k».proof.Proof.Adam27
public import proofs.«01_k».proof.Proof.Adam28
public import proofs.«01_k».proof.Proof.Adam29
public import proofs.«01_k».proof.Proof.Adam30
public import proofs.«01_k».proof.Proof.Adam31
public import proofs.«01_k».proof.Proof.Adam32
public import proofs.«01_k».proof.Proof.Adam33
public import proofs.«01_k».proof.Proof.Adam34
public import proofs.«01_k».proof.Proof.Sum35
public import proofs.«01_k».proof.Proof.Sum36
public import proofs.«01_k».proof.Proof.Ada37
public import proofs.«01_k».proof.Proof.Norm38
public import proofs.«01_k».proof.Proof.Loss39
public import proofs.«01_k».proof.Proof.NormB40
public import proofs.«01_k».proof.Proof.Norm41
public import proofs.«01_k».proof.Proof.Norm42
public import proofs.«01_k».proof.Proof.Gate43
public import proofs.«01_k».proof.Proof.Gate44
public import proofs.«01_k».proof.Proof.ConvF45
public import proofs.«01_k».proof.Proof.ConvF46
public import proofs.«01_k».proof.Proof.GateB47
public import proofs.«01_k».proof.Proof.Glu49
public import proofs.«01_k».proof.Proof.Rope50
public import proofs.«01_k».proof.Proof.Rope51
public import proofs.«01_k».proof.Proof.ConvB52
public import proofs.«01_k».proof.Proof.Norm38Ker
public import Idealize.ShloMosaic.Adequacy
public import Idealize.ShloMosaic.Init

@[expose] public section

noncomputable section

namespace Cert.Proof

open Idealize.ShloMosaic Idealize.SL.Sem Cert.Kernel

/-- Each reference runs and leaves its arguments. -/
theorem ref1 : Cert.quiescent_ReferenceIdeal := fun m ρ _ =>
  (θ_run Cert.ReferenceIdeal.defs _ _).mono (fun r h => ⟨fun c => (h c).2.2.2.2, sem_eq_zero_of_no_sems (by decide) r.2⟩) (Cert.ReferenceIdeal.Value.run (F := Ideal) m ρ)
theorem ref2 : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)
theorem ref3 : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)
theorem ref4 : Cert.quiescent_Reference4Ideal := fun m ρ _ =>
  (θ_run Cert.Reference4Ideal.defs _ _).mono (fun r h => ⟨fun c => (h c).2, sem_eq_zero_of_no_sems (by decide) r.2⟩) (Cert.Reference4Ideal.Value.run (F := Ideal) m ρ)
theorem ref5 : Cert.quiescent_Reference5Ideal := fun m ρ _ =>
  (θ_run Cert.Reference5Ideal.defs _ _).mono (fun r h => ⟨fun c => (h c).2.2, sem_eq_zero_of_no_sems (by decide) r.2⟩) (Cert.Reference5Ideal.Value.run (F := Ideal) m ρ)
theorem ref6 : Cert.quiescent_Reference6Ideal := fun m ρ _ =>
  (θ_run Cert.Reference6Ideal.defs _ _).mono (fun r h => ⟨fun c => (h c).2, sem_eq_zero_of_no_sems (by decide) r.2⟩) (Cert.Reference6Ideal.Value.run (F := Ideal) m ρ)
theorem ref7 : Cert.quiescent_Reference7Ideal := fun m ρ _ =>
  (θ_run Cert.Reference7Ideal.defs _ _).mono (fun r h => ⟨fun c => (h c).2, sem_eq_zero_of_no_sems (by decide) r.2⟩) (Cert.Reference7Ideal.Value.run (F := Ideal) m ρ)
theorem ref8 : Cert.quiescent_Reference8Ideal := fun m ρ _ =>
  (θ_run Cert.Reference8Ideal.defs _ _).mono (fun r h => ⟨fun c => (h c).2, sem_eq_zero_of_no_sems (by decide) r.2⟩) (Cert.Reference8Ideal.Value.run (F := Ideal) m ρ)
theorem ref9 : Cert.quiescent_Reference9Ideal := fun m ρ _ =>
  (θ_run Cert.Reference9Ideal.defs _ _).mono (fun r h => ⟨fun c => (h c).2, sem_eq_zero_of_no_sems (by decide) r.2⟩) (Cert.Reference9Ideal.Value.run (F := Ideal) m ρ)
theorem ref10 : Cert.quiescent_Reference10Ideal := fun m ρ _ =>
  (θ_run Cert.Reference10Ideal.defs _ _).mono (fun r h => ⟨fun c => (h c).2, sem_eq_zero_of_no_sems (by decide) r.2⟩) (Cert.Reference10Ideal.Value.run (F := Ideal) m ρ)
theorem ref11 : Cert.quiescent_Reference11Ideal := fun m ρ _ =>
  (θ_run Cert.Reference11Ideal.defs _ _).mono (fun r h => ⟨fun c => (h c).2, sem_eq_zero_of_no_sems (by decide) r.2⟩) (Cert.Reference11Ideal.Value.run (F := Ideal) m ρ)
theorem ref12 : Cert.quiescent_Reference12Ideal := fun m ρ _ =>
  (θ_run Cert.Reference12Ideal.defs _ _).mono (fun r h => ⟨fun c => (h c).2.2, sem_eq_zero_of_no_sems (by decide) r.2⟩) (Cert.Reference12Ideal.Value.run (F := Ideal) m ρ)
theorem ref13 : Cert.quiescent_Reference13Ideal := fun m ρ _ =>
  (θ_run Cert.Reference13Ideal.defs _ _).mono (fun r h => ⟨fun c => (h c).2, sem_eq_zero_of_no_sems (by decide) r.2⟩) (Cert.Reference13Ideal.Value.run (F := Ideal) m ρ)
theorem ref14 : Cert.quiescent_Reference14Ideal := fun m ρ _ =>
  (θ_run Cert.Reference14Ideal.defs _ _).mono (fun r h => ⟨fun c => (h c).2, sem_eq_zero_of_no_sems (by decide) r.2⟩) (Cert.Reference14Ideal.Value.run (F := Ideal) m ρ)
theorem ref15 : Cert.quiescent_Reference15Ideal := fun m ρ _ =>
  (θ_run Cert.Reference15Ideal.defs _ _).mono (fun r h => ⟨fun c => (h c).2, sem_eq_zero_of_no_sems (by decide) r.2⟩) (Cert.Reference15Ideal.Value.run (F := Ideal) m ρ)
theorem ref16 : Cert.quiescent_Reference16Ideal := fun m ρ _ =>
  (θ_run Cert.Reference16Ideal.defs _ _).mono (fun r h => ⟨fun c => (h c).2, sem_eq_zero_of_no_sems (by decide) r.2⟩) (Cert.Reference16Ideal.Value.run (F := Ideal) m ρ)
theorem ref17 : Cert.quiescent_Reference17Ideal := fun m ρ _ =>
  (θ_run Cert.Reference17Ideal.defs _ _).mono (fun r h => ⟨fun c => (h c).2, sem_eq_zero_of_no_sems (by decide) r.2⟩) (Cert.Reference17Ideal.Value.run (F := Ideal) m ρ)
theorem ref18 : Cert.quiescent_Reference18Ideal := fun m ρ _ =>
  (θ_run Cert.Reference18Ideal.defs _ _).mono (fun r h => ⟨fun c => (h c).2, sem_eq_zero_of_no_sems (by decide) r.2⟩) (Cert.Reference18Ideal.Value.run (F := Ideal) m ρ)
theorem ref19 : Cert.quiescent_Reference19Ideal := fun m ρ _ =>
  (θ_run Cert.Reference19Ideal.defs _ _).mono (fun r h => ⟨fun c => (h c).2.2.2, sem_eq_zero_of_no_sems (by decide) r.2⟩) (Cert.Reference19Ideal.Value.run (F := Ideal) m ρ)
theorem ref20 : Cert.quiescent_Reference20Ideal := fun m ρ _ =>
  (θ_run Cert.Reference20Ideal.defs _ _).mono (fun r h => ⟨fun c => (h c).2.2.2, sem_eq_zero_of_no_sems (by decide) r.2⟩) (Cert.Reference20Ideal.Value.run (F := Ideal) m ρ)
theorem ref21 : Cert.quiescent_Reference21Ideal := fun m ρ _ =>
  (θ_run Cert.Reference21Ideal.defs _ _).mono (fun r h => ⟨fun c => (h c).2.2.2, sem_eq_zero_of_no_sems (by decide) r.2⟩) (Cert.Reference21Ideal.Value.run (F := Ideal) m ρ)
theorem ref22 : Cert.quiescent_Reference22Ideal := fun m ρ _ =>
  (θ_run Cert.Reference22Ideal.defs _ _).mono (fun r h => ⟨fun c => (h c).2.2.2, sem_eq_zero_of_no_sems (by decide) r.2⟩) (Cert.Reference22Ideal.Value.run (F := Ideal) m ρ)
theorem ref23 : Cert.quiescent_Reference23Ideal := fun m ρ _ =>
  (θ_run Cert.Reference23Ideal.defs _ _).mono (fun r h => ⟨fun c => (h c).2.2.2, sem_eq_zero_of_no_sems (by decide) r.2⟩) (Cert.Reference23Ideal.Value.run (F := Ideal) m ρ)
theorem ref24 : Cert.quiescent_Reference24Ideal := fun m ρ _ =>
  (θ_run Cert.Reference24Ideal.defs _ _).mono (fun r h => ⟨fun c => (h c).2.2.2, sem_eq_zero_of_no_sems (by decide) r.2⟩) (Cert.Reference24Ideal.Value.run (F := Ideal) m ρ)
theorem ref25 : Cert.quiescent_Reference25Ideal := fun m ρ _ =>
  (θ_run Cert.Reference25Ideal.defs _ _).mono (fun r h => ⟨fun c => (h c).2.2.2, sem_eq_zero_of_no_sems (by decide) r.2⟩) (Cert.Reference25Ideal.Value.run (F := Ideal) m ρ)
theorem ref26 : Cert.quiescent_Reference26Ideal := fun m ρ _ =>
  (θ_run Cert.Reference26Ideal.defs _ _).mono (fun r h => ⟨fun c => (h c).2.2.2, sem_eq_zero_of_no_sems (by decide) r.2⟩) (Cert.Reference26Ideal.Value.run (F := Ideal) m ρ)
theorem ref27 : Cert.quiescent_Reference27Ideal := fun m ρ _ =>
  (θ_run Cert.Reference27Ideal.defs _ _).mono (fun r h => ⟨fun c => (h c).2.2.2, sem_eq_zero_of_no_sems (by decide) r.2⟩) (Cert.Reference27Ideal.Value.run (F := Ideal) m ρ)
theorem ref28 : Cert.quiescent_Reference28Ideal := fun m ρ _ =>
  (θ_run Cert.Reference28Ideal.defs _ _).mono (fun r h => ⟨fun c => (h c).2.2.2, sem_eq_zero_of_no_sems (by decide) r.2⟩) (Cert.Reference28Ideal.Value.run (F := Ideal) m ρ)
theorem ref29 : Cert.quiescent_Reference29Ideal := fun m ρ _ =>
  (θ_run Cert.Reference29Ideal.defs _ _).mono (fun r h => ⟨fun c => (h c).2.2.2, sem_eq_zero_of_no_sems (by decide) r.2⟩) (Cert.Reference29Ideal.Value.run (F := Ideal) m ρ)
theorem ref30 : Cert.quiescent_Reference30Ideal := fun m ρ _ =>
  (θ_run Cert.Reference30Ideal.defs _ _).mono (fun r h => ⟨fun c => (h c).2.2.2, sem_eq_zero_of_no_sems (by decide) r.2⟩) (Cert.Reference30Ideal.Value.run (F := Ideal) m ρ)
theorem ref31 : Cert.quiescent_Reference31Ideal := fun m ρ _ =>
  (θ_run Cert.Reference31Ideal.defs _ _).mono (fun r h => ⟨fun c => (h c).2.2.2, sem_eq_zero_of_no_sems (by decide) r.2⟩) (Cert.Reference31Ideal.Value.run (F := Ideal) m ρ)
theorem ref32 : Cert.quiescent_Reference32Ideal := fun m ρ _ =>
  (θ_run Cert.Reference32Ideal.defs _ _).mono (fun r h => ⟨fun c => (h c).2.2.2, sem_eq_zero_of_no_sems (by decide) r.2⟩) (Cert.Reference32Ideal.Value.run (F := Ideal) m ρ)
theorem ref33 : Cert.quiescent_Reference33Ideal := fun m ρ _ =>
  (θ_run Cert.Reference33Ideal.defs _ _).mono (fun r h => ⟨fun c => (h c).2.2.2, sem_eq_zero_of_no_sems (by decide) r.2⟩) (Cert.Reference33Ideal.Value.run (F := Ideal) m ρ)
theorem ref34 : Cert.quiescent_Reference34Ideal := fun m ρ _ =>
  (θ_run Cert.Reference34Ideal.defs _ _).mono (fun r h => ⟨fun c => (h c).2.2.2, sem_eq_zero_of_no_sems (by decide) r.2⟩) (Cert.Reference34Ideal.Value.run (F := Ideal) m ρ)
theorem ref35 : Cert.quiescent_Reference35Ideal := fun m ρ _ =>
  (θ_run Cert.Reference35Ideal.defs _ _).mono (fun r h => ⟨fun c => (h c).2.2.2.2, sem_eq_zero_of_no_sems (by decide) r.2⟩) (Cert.Reference35Ideal.Value.run (F := Ideal) m ρ)
theorem ref36 : Cert.quiescent_Reference36Ideal := fun m ρ _ =>
  (θ_run Cert.Reference36Ideal.defs _ _).mono (fun r h => ⟨fun c => (h c).2.2.2.2.2.2.2.2.2.2.2.2.2.2.2, sem_eq_zero_of_no_sems (by decide) r.2⟩) (Cert.Reference36Ideal.Value.run (F := Ideal) m ρ)
theorem ref37 : Cert.quiescent_Reference37Ideal := fun m ρ _ =>
  (θ_run Cert.Reference37Ideal.defs _ _).mono (fun r h => ⟨fun c => (h c).2, sem_eq_zero_of_no_sems (by decide) r.2⟩) (Cert.Reference37Ideal.Value.run (F := Ideal) m ρ)
theorem ref38 : Cert.quiescent_Reference38Ideal := fun m ρ _ =>
  (θ_run Cert.Reference38Ideal.defs _ _).mono (fun r h => ⟨fun c => (h c).2.2.2.2, sem_eq_zero_of_no_sems (by decide) r.2⟩) (Cert.Reference38Ideal.Value.run (F := Ideal) m ρ)
theorem ref39 : Cert.quiescent_Reference39Ideal := fun m ρ _ =>
  (θ_run Cert.Reference39Ideal.defs _ _).mono (fun r h => ⟨fun c => (h c).2.2, sem_eq_zero_of_no_sems (by decide) r.2⟩) (Cert.Reference39Ideal.Value.run (F := Ideal) m ρ)
theorem ref40 : Cert.quiescent_Reference40Ideal := fun m ρ _ =>
  (θ_run Cert.Reference40Ideal.defs _ _).mono (fun r h => ⟨fun c => (h c).2.2.2.2, sem_eq_zero_of_no_sems (by decide) r.2⟩) (Cert.Reference40Ideal.Value.run (F := Ideal) m ρ)
theorem ref41 : Cert.quiescent_Reference41Ideal := fun m ρ _ =>
  (θ_run Cert.Reference41Ideal.defs _ _).mono (fun r h => ⟨fun c => (h c).2, sem_eq_zero_of_no_sems (by decide) r.2⟩) (Cert.Reference41Ideal.Value.run (F := Ideal) m ρ)
theorem ref42 : Cert.quiescent_Reference42Ideal := fun m ρ _ =>
  (θ_run Cert.Reference42Ideal.defs _ _).mono (fun r h => ⟨fun c => (h c).2, sem_eq_zero_of_no_sems (by decide) r.2⟩) (Cert.Reference42Ideal.Value.run (F := Ideal) m ρ)
theorem ref43 : Cert.quiescent_Reference43Ideal := fun m ρ _ =>
  (θ_run Cert.Reference43Ideal.defs _ _).mono (fun r h => ⟨fun c => (h c).2, sem_eq_zero_of_no_sems (by decide) r.2⟩) (Cert.Reference43Ideal.Value.run (F := Ideal) m ρ)
theorem ref44 : Cert.quiescent_Reference44Ideal := fun m ρ _ =>
  (θ_run Cert.Reference44Ideal.defs _ _).mono (fun r h => ⟨fun c => (h c).2, sem_eq_zero_of_no_sems (by decide) r.2⟩) (Cert.Reference44Ideal.Value.run (F := Ideal) m ρ)
theorem ref45 : Cert.quiescent_Reference45Ideal := fun m ρ _ =>
  (θ_run Cert.Reference45Ideal.defs _ _).mono (fun r h => ⟨fun c => (h c).2, sem_eq_zero_of_no_sems (by decide) r.2⟩) (Cert.Reference45Ideal.Value.run (F := Ideal) m ρ)
theorem ref46 : Cert.quiescent_Reference46Ideal := fun m ρ _ =>
  (θ_run Cert.Reference46Ideal.defs _ _).mono (fun r h => ⟨fun c => (h c).2, sem_eq_zero_of_no_sems (by decide) r.2⟩) (Cert.Reference46Ideal.Value.run (F := Ideal) m ρ)
theorem ref47 : Cert.quiescent_Reference47Ideal := fun m ρ _ =>
  (θ_run Cert.Reference47Ideal.defs _ _).mono (fun r h => ⟨fun c => (h c).2.2.2, sem_eq_zero_of_no_sems (by decide) r.2⟩) (Cert.Reference47Ideal.Value.run (F := Ideal) m ρ)
theorem ref49 : Cert.quiescent_Reference49Ideal := fun m ρ _ =>
  (θ_run Cert.Reference49Ideal.defs _ _).mono (fun r h => ⟨fun c => (h c).2, sem_eq_zero_of_no_sems (by decide) r.2⟩) (Cert.Reference49Ideal.Value.run (F := Ideal) m ρ)
theorem ref50 : Cert.quiescent_Reference50Ideal := fun m ρ _ =>
  (θ_run Cert.Reference50Ideal.defs _ _).mono (fun r h => ⟨fun c => (h c).2.2, sem_eq_zero_of_no_sems (by decide) r.2⟩) (Cert.Reference50Ideal.Value.run (F := Ideal) m ρ)
theorem ref51 : Cert.quiescent_Reference51Ideal := fun m ρ _ =>
  (θ_run Cert.Reference51Ideal.defs _ _).mono (fun r h => ⟨fun c => (h c).2.2, sem_eq_zero_of_no_sems (by decide) r.2⟩) (Cert.Reference51Ideal.Value.run (F := Ideal) m ρ)
theorem ref52 : Cert.quiescent_Reference52Ideal := fun m ρ _ =>
  (θ_run Cert.Reference52Ideal.defs _ _).mono (fun r h => ⟨fun c => (h c).2.2.2.2, sem_eq_zero_of_no_sems (by decide) r.2⟩) (Cert.Reference52Ideal.Value.run (F := Ideal) m ρ)

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Kernel36.Gen.facts, Cert.Kernel36Ideal.Gen.facts, Cert.Reference36Ideal.Gen.facts,
  Cert.Kernel37.Gen.facts, Cert.Kernel37Ideal.Gen.facts, Cert.Reference37Ideal.Gen.facts,
  Cert.Kernel38.Gen.facts, Cert.Kernel38Ideal.Gen.facts, Cert.Reference38Ideal.Gen.facts,
  Cert.Kernel39.Gen.facts, Cert.Kernel39Ideal.Gen.facts, Cert.Reference39Ideal.Gen.facts,
  Cert.Kernel40.Gen.facts, Cert.Kernel40Ideal.Gen.facts, Cert.Reference40Ideal.Gen.facts,
  Cert.Kernel41.Gen.facts, Cert.Kernel41Ideal.Gen.facts, Cert.Reference41Ideal.Gen.facts,
  Cert.Kernel42.Gen.facts, Cert.Kernel42Ideal.Gen.facts, Cert.Reference42Ideal.Gen.facts,
  Cert.Kernel43.Gen.facts, Cert.Kernel43Ideal.Gen.facts, Cert.Reference43Ideal.Gen.facts,
  Cert.Kernel44.Gen.facts, Cert.Kernel44Ideal.Gen.facts, Cert.Reference44Ideal.Gen.facts,
  Cert.Kernel45.Gen.facts, Cert.Kernel45Ideal.Gen.facts, Cert.Reference45Ideal.Gen.facts,
  Cert.Kernel46.Gen.facts, Cert.Kernel46Ideal.Gen.facts, Cert.Reference46Ideal.Gen.facts,
  Cert.Kernel47.Gen.facts, Cert.Kernel47Ideal.Gen.facts, Cert.Reference47Ideal.Gen.facts,
  Cert.Kernel49.Gen.facts, Cert.Kernel49Ideal.Gen.facts, Cert.Reference49Ideal.Gen.facts,
  Cert.Kernel50.Gen.facts, Cert.Kernel50Ideal.Gen.facts, Cert.Reference50Ideal.Gen.facts,
  Cert.Kernel51.Gen.facts, Cert.Kernel51Ideal.Gen.facts, Cert.Reference51Ideal.Gen.facts,
  Cert.Kernel52.Gen.facts, Cert.Kernel52Ideal.Gen.facts, Cert.Reference52Ideal.Gen.facts,
  fun m ρ _ => Cert.Kernel.Gen.frame m ρ, fun m ρ _ => Cert.KernelIdeal.Gen.frame m ρ, ref1,
  fun m ρ _ => Cert.Kernel2.Gen.frame m ρ, fun m ρ _ => Cert.Kernel2Ideal.Gen.frame m ρ, ref2,
  fun m ρ _ => Cert.Kernel3.Gen.frame m ρ, fun m ρ _ => Cert.Kernel3Ideal.Gen.frame m ρ, ref3,
  fun m ρ _ => Cert.Kernel4.Gen.frame m ρ, fun m ρ _ => Cert.Kernel4Ideal.Gen.frame m ρ, ref4,
  fun m ρ _ => Cert.Kernel5.Gen.frame m ρ, fun m ρ _ => Cert.Kernel5Ideal.Gen.frame m ρ, ref5,
  fun m ρ _ => Cert.Kernel6.Gen.frame m ρ, fun m ρ _ => Cert.Kernel6Ideal.Gen.frame m ρ, ref6,
  fun m ρ _ => Cert.Kernel7.Gen.frame m ρ, fun m ρ _ => Cert.Kernel7Ideal.Gen.frame m ρ, ref7,
  fun m ρ _ => Cert.Kernel8.Gen.frame m ρ, fun m ρ _ => Cert.Kernel8Ideal.Gen.frame m ρ, ref8,
  fun m ρ _ => Cert.Kernel9.Gen.frame m ρ, fun m ρ _ => Cert.Kernel9Ideal.Gen.frame m ρ, ref9,
  fun m ρ _ => Cert.Kernel10.Gen.frame m ρ, fun m ρ _ => Cert.Kernel10Ideal.Gen.frame m ρ, ref10,
  fun m ρ _ => Cert.Kernel11.Gen.frame m ρ, fun m ρ _ => Cert.Kernel11Ideal.Gen.frame m ρ, ref11,
  fun m ρ _ => Cert.Kernel12.Gen.frame m ρ, fun m ρ _ => Cert.Kernel12Ideal.Gen.frame m ρ, ref12,
  fun m ρ _ => Cert.Kernel13.Gen.frame m ρ, fun m ρ _ => Cert.Kernel13Ideal.Gen.frame m ρ, ref13,
  fun m ρ _ => Cert.Kernel14.Gen.frame m ρ, fun m ρ _ => Cert.Kernel14Ideal.Gen.frame m ρ, ref14,
  fun m ρ _ => Cert.Kernel15.Gen.frame m ρ, fun m ρ _ => Cert.Kernel15Ideal.Gen.frame m ρ, ref15,
  fun m ρ _ => Cert.Kernel16.Gen.frame m ρ, fun m ρ _ => Cert.Kernel16Ideal.Gen.frame m ρ, ref16,
  fun m ρ _ => Cert.Kernel17.Gen.frame m ρ, fun m ρ _ => Cert.Kernel17Ideal.Gen.frame m ρ, ref17,
  fun m ρ _ => Cert.Kernel18.Gen.frame m ρ, fun m ρ _ => Cert.Kernel18Ideal.Gen.frame m ρ, ref18,
  fun m ρ _ => Cert.Kernel19.Gen.frame m ρ, fun m ρ _ => Cert.Kernel19Ideal.Gen.frame m ρ, ref19,
  fun m ρ _ => Cert.Kernel20.Gen.frame m ρ, fun m ρ _ => Cert.Kernel20Ideal.Gen.frame m ρ, ref20,
  fun m ρ _ => Cert.Kernel21.Gen.frame m ρ, fun m ρ _ => Cert.Kernel21Ideal.Gen.frame m ρ, ref21,
  fun m ρ _ => Cert.Kernel22.Gen.frame m ρ, fun m ρ _ => Cert.Kernel22Ideal.Gen.frame m ρ, ref22,
  fun m ρ _ => Cert.Kernel23.Gen.frame m ρ, fun m ρ _ => Cert.Kernel23Ideal.Gen.frame m ρ, ref23,
  fun m ρ _ => Cert.Kernel24.Gen.frame m ρ, fun m ρ _ => Cert.Kernel24Ideal.Gen.frame m ρ, ref24,
  fun m ρ _ => Cert.Kernel25.Gen.frame m ρ, fun m ρ _ => Cert.Kernel25Ideal.Gen.frame m ρ, ref25,
  fun m ρ _ => Cert.Kernel26.Gen.frame m ρ, fun m ρ _ => Cert.Kernel26Ideal.Gen.frame m ρ, ref26,
  fun m ρ _ => Cert.Kernel27.Gen.frame m ρ, fun m ρ _ => Cert.Kernel27Ideal.Gen.frame m ρ, ref27,
  fun m ρ _ => Cert.Kernel28.Gen.frame m ρ, fun m ρ _ => Cert.Kernel28Ideal.Gen.frame m ρ, ref28,
  fun m ρ _ => Cert.Kernel29.Gen.frame m ρ, fun m ρ _ => Cert.Kernel29Ideal.Gen.frame m ρ, ref29,
  fun m ρ _ => Cert.Kernel30.Gen.frame m ρ, fun m ρ _ => Cert.Kernel30Ideal.Gen.frame m ρ, ref30,
  fun m ρ _ => Cert.Kernel31.Gen.frame m ρ, fun m ρ _ => Cert.Kernel31Ideal.Gen.frame m ρ, ref31,
  fun m ρ _ => Cert.Kernel32.Gen.frame m ρ, fun m ρ _ => Cert.Kernel32Ideal.Gen.frame m ρ, ref32,
  fun m ρ _ => Cert.Kernel33.Gen.frame m ρ, fun m ρ _ => Cert.Kernel33Ideal.Gen.frame m ρ, ref33,
  fun m ρ _ => Cert.Kernel34.Gen.frame m ρ, fun m ρ _ => Cert.Kernel34Ideal.Gen.frame m ρ, ref34,
  fun m ρ _ => Cert.Kernel35.Gen.frame m ρ, fun m ρ _ => Cert.Kernel35Ideal.Gen.frame m ρ, ref35,
  fun m ρ _ => Cert.Kernel36.Gen.frame m ρ, fun m ρ _ => Cert.Kernel36Ideal.Gen.frame m ρ, ref36,
  fun m ρ _ => Cert.Kernel37.Gen.frame m ρ, fun m ρ _ => Cert.Kernel37Ideal.Gen.frame m ρ, ref37,
  Cert.Norm38.ker, fun m ρ _ => Cert.Norm38.frame m ρ, ref38,
  fun m ρ _ => Cert.Kernel39.Gen.frame m ρ, fun m ρ _ => Cert.Kernel39Ideal.Gen.frame m ρ, ref39,
  fun m ρ _ => Cert.Kernel40.Gen.frame m ρ, fun m ρ _ => Cert.Kernel40Ideal.Gen.frame m ρ, ref40,
  fun m ρ _ => Cert.Kernel41.Gen.frame m ρ, fun m ρ _ => Cert.Kernel41Ideal.Gen.frame m ρ, ref41,
  fun m ρ _ => Cert.Kernel42.Gen.frame m ρ, fun m ρ _ => Cert.Kernel42Ideal.Gen.frame m ρ, ref42,
  fun m ρ _ => Cert.Kernel43.Gen.frame m ρ, fun m ρ _ => Cert.Kernel43Ideal.Gen.frame m ρ, ref43,
  fun m ρ _ => Cert.Kernel44.Gen.frame m ρ, fun m ρ _ => Cert.Kernel44Ideal.Gen.frame m ρ, ref44,
  fun m ρ _ => Cert.Kernel45.Gen.frame m ρ, fun m ρ _ => Cert.Kernel45Ideal.Gen.frame m ρ, ref45,
  fun m ρ _ => Cert.Kernel46.Gen.frame m ρ, fun m ρ _ => Cert.Kernel46Ideal.Gen.frame m ρ, ref46,
  fun m ρ _ => Cert.Kernel47.Gen.frame m ρ, fun m ρ _ => Cert.Kernel47Ideal.Gen.frame m ρ, ref47,
  fun m ρ _ => Cert.Kernel49.Gen.frame m ρ, fun m ρ _ => Cert.Kernel49Ideal.Gen.frame m ρ, ref49,
  fun m ρ _ => Cert.Kernel50.Gen.frame m ρ, fun m ρ _ => Cert.Kernel50Ideal.Gen.frame m ρ, ref50,
  fun m ρ _ => Cert.Kernel51.Gen.frame m ρ, fun m ρ _ => Cert.Kernel51Ideal.Gen.frame m ρ, ref51,
  fun m ρ _ => Cert.Kernel52.Gen.frame m ρ, fun m ρ _ => Cert.Kernel52Ideal.Gen.frame m ρ, ref52,
  trivial, Cert.Conv.tie,
  trivial, Cert.Prod2.tie,
  trivial, Cert.Prod3.tie,
  trivial, Cert.Prod4.tie,
  trivial, Cert.Prod5.tie,
  trivial, Cert.Prod6.tie,
  trivial, Cert.Prod7.tie,
  trivial, Cert.Prod8.tie,
  trivial, Cert.Prod9.tie,
  trivial, Cert.Prod10.tie,
  trivial, Cert.Prod11.tie,
  trivial, Cert.Prod12.tie,
  trivial, Cert.Prod13.tie,
  trivial, Cert.Prod14.tie,
  trivial, Cert.Prod15.tie,
  trivial, Cert.Prod16.tie,
  trivial, Cert.Prod17.tie,
  trivial, Cert.Prod18.tie,
  trivial, Cert.Adam19.tie,
  trivial, Cert.Adam20.tie,
  trivial, Cert.Adam21.tie,
  trivial, Cert.Adam22.tie,
  trivial, Cert.Adam23.tie,
  trivial, Cert.Adam24.tie,
  trivial, Cert.Adam25.tie,
  trivial, Cert.Adam26.tie,
  trivial, Cert.Adam27.tie,
  trivial, Cert.Adam28.tie,
  trivial, Cert.Adam29.tie,
  trivial, Cert.Adam30.tie,
  trivial, Cert.Adam31.tie,
  trivial, Cert.Adam32.tie,
  trivial, Cert.Adam33.tie,
  trivial, Cert.Adam34.tie,
  trivial, Cert.Sum35.tie,
  trivial, Cert.Sum36.tie,
  trivial, Cert.Ada37.tie,
  trivial, Cert.Norm38.tie,
  trivial, Cert.Loss39.tie,
  trivial, Cert.NormB40.tie,
  trivial, Cert.Norm41.tie,
  trivial, Cert.Norm42.tie,
  trivial, Cert.Gate43.tie,
  trivial, Cert.Gate44.tie,
  trivial, Cert.ConvF45.tie,
  trivial, Cert.ConvF46.tie,
  trivial, Cert.GateB47.tie,
  trivial, Cert.Glu49.tie,
  trivial, Cert.Rope50.tie,
  trivial, Cert.Rope51.tie,
  trivial, Cert.ConvB52.tie⟩

end Cert.Proof

end
